-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.2 = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_InProjLast (m : (ℓ : Loc Cert.InProjLast.nD Cert.InProjLast.τ Cert.InProjLast.sig) → Buf (Elt Bits) ℓ) : Prop :=
  True

def Pre_InProjLastIdeal (m : (ℓ : Loc Cert.InProjLastIdeal.nD Cert.InProjLastIdeal.τ Cert.InProjLastIdeal.sig) → Buf (Elt Ideal) ℓ) : Prop :=
  True

def Pre_InProjLastRefIdeal (m : (ℓ : Loc Cert.InProjLastRefIdeal.nD Cert.InProjLastRefIdeal.τ Cert.InProjLastRefIdeal.sig) → Buf (Elt Ideal) ℓ) : Prop :=
  True

def Pre_Combine (m : (ℓ : Loc Cert.Combine.nD Cert.Combine.τ Cert.Combine.sig) → Buf (Elt Bits) ℓ) : Prop :=
  True

def Pre_CombineIdeal (m : (ℓ : Loc Cert.CombineIdeal.nD Cert.CombineIdeal.τ Cert.CombineIdeal.sig) → Buf (Elt Ideal) ℓ) : Prop :=
  True

def Pre_CombineRefIdeal (m : (ℓ : Loc Cert.CombineRefIdeal.nD Cert.CombineRefIdeal.τ Cert.CombineRefIdeal.sig) → Buf (Elt Ideal) ℓ) : Prop :=
  True

def Pre_Experts (m : (ℓ : Loc Cert.Experts.nD Cert.Experts.τ Cert.Experts.sig) → Buf (Elt Bits) ℓ) : Prop :=
  True

def Pre_ExpertsIdeal (m : (ℓ : Loc Cert.ExpertsIdeal.nD Cert.ExpertsIdeal.τ Cert.ExpertsIdeal.sig) → Buf (Elt Ideal) ℓ) : Prop :=
  True

def Pre_ExpertsRefIdeal (m : (ℓ : Loc Cert.ExpertsRefIdeal.nD Cert.ExpertsRefIdeal.τ Cert.ExpertsRefIdeal.sig) → Buf (Elt Ideal) ℓ) : Prop :=
  True

def Pre_CombineS [hPre_offsets_nonneg : Cert.Pre_offsets_nonneg.Facts] (m : (ℓ : Loc Cert.CombineS.nD Cert.CombineS.τ Cert.CombineS.sig) → Buf (Elt Bits) ℓ) : Prop :=
  ∀ c : Dev Cert.CombineS.nD,
    (Cert.Pre_offsets_nonneg.fn (F := Bits) (m ((c.tc : Thread Cert.CombineS.nD Cert.CombineS.τ).loc Cert.CombineS.main_arg0)) (m ((c.tc : Thread Cert.CombineS.nD Cert.CombineS.τ).loc Cert.CombineS.main_arg1)) (m ((c.tc : Thread Cert.CombineS.nD Cert.CombineS.τ).loc Cert.CombineS.main_arg2)) (m ((c.tc : Thread Cert.CombineS.nD Cert.CombineS.τ).loc Cert.CombineS.main_arg3)) (m ((c.tc : Thread Cert.CombineS.nD Cert.CombineS.τ).loc Cert.CombineS.main_arg4)) (m ((c.tc : Thread Cert.CombineS.nD Cert.CombineS.τ).loc Cert.CombineS.main_arg5))) = (fun _ => 1#1)

def Pre_CombineSIdeal [hPre_offsets_nonneg : Cert.Pre_offsets_nonneg.Facts] (m : (ℓ : Loc Cert.CombineSIdeal.nD Cert.CombineSIdeal.τ Cert.CombineSIdeal.sig) → Buf (Elt Ideal) ℓ) : Prop :=
  ∀ c : Dev Cert.CombineSIdeal.nD,
    (Cert.Pre_offsets_nonneg.fn (F := Ideal) (m ((c.tc : Thread Cert.CombineSIdeal.nD Cert.CombineSIdeal.τ).loc Cert.CombineSIdeal.main_arg0)) (m ((c.tc : Thread Cert.CombineSIdeal.nD Cert.CombineSIdeal.τ).loc Cert.CombineSIdeal.main_arg1)) (m ((c.tc : Thread Cert.CombineSIdeal.nD Cert.CombineSIdeal.τ).loc Cert.CombineSIdeal.main_arg2)) (m ((c.tc : Thread Cert.CombineSIdeal.nD Cert.CombineSIdeal.τ).loc Cert.CombineSIdeal.main_arg3)) (m ((c.tc : Thread Cert.CombineSIdeal.nD Cert.CombineSIdeal.τ).loc Cert.CombineSIdeal.main_arg4)) (m ((c.tc : Thread Cert.CombineSIdeal.nD Cert.CombineSIdeal.τ).loc Cert.CombineSIdeal.main_arg5))) = (fun _ => 1#1)

def Pre_CombineSIdeal_slots_in_order [hPre_slots_in_order : Cert.Pre_slots_in_order.Facts] (m : (ℓ : Loc Cert.CombineSIdeal.nD Cert.CombineSIdeal.τ Cert.CombineSIdeal.sig) → Buf (Elt Ideal) ℓ) : Prop :=
  ∀ c : Dev Cert.CombineSIdeal.nD,
    (Cert.Pre_slots_in_order.fn (F := Ideal) (m ((c.tc : Thread Cert.CombineSIdeal.nD Cert.CombineSIdeal.τ).loc Cert.CombineSIdeal.main_arg0)) (m ((c.tc : Thread Cert.CombineSIdeal.nD Cert.CombineSIdeal.τ).loc Cert.CombineSIdeal.main_arg1)) (m ((c.tc : Thread Cert.CombineSIdeal.nD Cert.CombineSIdeal.τ).loc Cert.CombineSIdeal.main_arg2)) (m ((c.tc : Thread Cert.CombineSIdeal.nD Cert.CombineSIdeal.τ).loc Cert.CombineSIdeal.main_arg3)) (m ((c.tc : Thread Cert.CombineSIdeal.nD Cert.CombineSIdeal.τ).loc Cert.CombineSIdeal.main_arg4)) (m ((c.tc : Thread Cert.CombineSIdeal.nD Cert.CombineSIdeal.τ).loc Cert.CombineSIdeal.main_arg5))).1 = (fun _ => 1#1)
    ∧ (Cert.Pre_slots_in_order.fn (F := Ideal) (m ((c.tc : Thread Cert.CombineSIdeal.nD Cert.CombineSIdeal.τ).loc Cert.CombineSIdeal.main_arg0)) (m ((c.tc : Thread Cert.CombineSIdeal.nD Cert.CombineSIdeal.τ).loc Cert.CombineSIdeal.main_arg1)) (m ((c.tc : Thread Cert.CombineSIdeal.nD Cert.CombineSIdeal.τ).loc Cert.CombineSIdeal.main_arg2)) (m ((c.tc : Thread Cert.CombineSIdeal.nD Cert.CombineSIdeal.τ).loc Cert.CombineSIdeal.main_arg3)) (m ((c.tc : Thread Cert.CombineSIdeal.nD Cert.CombineSIdeal.τ).loc Cert.CombineSIdeal.main_arg4)) (m ((c.tc : Thread Cert.CombineSIdeal.nD Cert.CombineSIdeal.τ).loc Cert.CombineSIdeal.main_arg5))).2 = (fun _ => 1#1)

def Pre_CombineSRefIdeal (m : (ℓ : Loc Cert.CombineSRefIdeal.nD Cert.CombineSRefIdeal.τ Cert.CombineSRefIdeal.sig) → Buf (Elt Ideal) ℓ) : Prop :=
  True

def Pre_CombineSRefIdeal_slots_in_order [hPre_slots_in_order : Cert.Pre_slots_in_order.Facts] (m : (ℓ : Loc Cert.CombineSRefIdeal.nD Cert.CombineSRefIdeal.τ Cert.CombineSRefIdeal.sig) → Buf (Elt Ideal) ℓ) : Prop :=
  ∀ c : Dev Cert.CombineSRefIdeal.nD,
    (Cert.Pre_slots_in_order.fn (F := Ideal) (m ((c.tc : Thread Cert.CombineSRefIdeal.nD Cert.CombineSRefIdeal.τ).loc Cert.CombineSRefIdeal.main_arg0)) (m ((c.tc : Thread Cert.CombineSRefIdeal.nD Cert.CombineSRefIdeal.τ).loc Cert.CombineSRefIdeal.main_arg1)) (m ((c.tc : Thread Cert.CombineSRefIdeal.nD Cert.CombineSRefIdeal.τ).loc Cert.CombineSRefIdeal.main_arg2)) (m ((c.tc : Thread Cert.CombineSRefIdeal.nD Cert.CombineSRefIdeal.τ).loc Cert.CombineSRefIdeal.main_arg3)) (m ((c.tc : Thread Cert.CombineSRefIdeal.nD Cert.CombineSRefIdeal.τ).loc Cert.CombineSRefIdeal.main_arg4)) (m ((c.tc : Thread Cert.CombineSRefIdeal.nD Cert.CombineSRefIdeal.τ).loc Cert.CombineSRefIdeal.main_arg5))).1 = (fun _ => 1#1)
    ∧ (Cert.Pre_slots_in_order.fn (F := Ideal) (m ((c.tc : Thread Cert.CombineSRefIdeal.nD Cert.CombineSRefIdeal.τ).loc Cert.CombineSRefIdeal.main_arg0)) (m ((c.tc : Thread Cert.CombineSRefIdeal.nD Cert.CombineSRefIdeal.τ).loc Cert.CombineSRefIdeal.main_arg1)) (m ((c.tc : Thread Cert.CombineSRefIdeal.nD Cert.CombineSRefIdeal.τ).loc Cert.CombineSRefIdeal.main_arg2)) (m ((c.tc : Thread Cert.CombineSRefIdeal.nD Cert.CombineSRefIdeal.τ).loc Cert.CombineSRefIdeal.main_arg3)) (m ((c.tc : Thread Cert.CombineSRefIdeal.nD Cert.CombineSRefIdeal.τ).loc Cert.CombineSRefIdeal.main_arg4)) (m ((c.tc : Thread Cert.CombineSRefIdeal.nD Cert.CombineSRefIdeal.τ).loc Cert.CombineSRefIdeal.main_arg5))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3))
      ∧ r.2.sem = fun _ => 0)

def quiescent_InProjLast [hInProjLast : Cert.InProjLast.Facts] : Prop :=
  ∀ (m : (ℓ : Loc Cert.InProjLast.nD Cert.InProjLast.τ Cert.InProjLast.sig) → Buf (Elt Bits) ℓ) (g : Dev Cert.InProjLast.nD → PrngReg), Pre_InProjLast m →
    θ_run (Cert.InProjLast.defs (F := Bits)) (onTc (τ := Cert.InProjLast.τ) (Cert.InProjLast.main (F := Bits))) ⟨m, fun _ => 0, g⟩ (fun r => (∀ c : Dev Cert.InProjLast.nD,
      r.2.mem ((c.tc : Thread Cert.InProjLast.nD Cert.InProjLast.τ).loc Cert.InProjLast.main_arg0) = m ((c.tc : Thread Cert.InProjLast.nD Cert.InProjLast.τ).loc Cert.InProjLast.main_arg0)
      ∧ r.2.mem ((c.tc : Thread Cert.InProjLast.nD Cert.InProjLast.τ).loc Cert.InProjLast.main_arg1) = m ((c.tc : Thread Cert.InProjLast.nD Cert.InProjLast.τ).loc Cert.InProjLast.main_arg1)
      ∧ r.2.mem ((c.tc : Thread Cert.InProjLast.nD Cert.InProjLast.τ).loc Cert.InProjLast.main_arg2) = m ((c.tc : Thread Cert.InProjLast.nD Cert.InProjLast.τ).loc Cert.InProjLast.main_arg2)
      ∧ r.2.mem ((c.tc : Thread Cert.InProjLast.nD Cert.InProjLast.τ).loc Cert.InProjLast.main_arg3) = m ((c.tc : Thread Cert.InProjLast.nD Cert.InProjLast.τ).loc Cert.InProjLast.main_arg3)
      ∧ r.2.mem ((c.tc : Thread Cert.InProjLast.nD Cert.InProjLast.τ).loc Cert.InProjLast.main_arg4) = m ((c.tc : Thread Cert.InProjLast.nD Cert.InProjLast.τ).loc Cert.InProjLast.main_arg4)
      ∧ r.2.mem ((c.tc : Thread Cert.InProjLast.nD Cert.InProjLast.τ).loc Cert.InProjLast.main_arg5) = m ((c.tc : Thread Cert.InProjLast.nD Cert.InProjLast.τ).loc Cert.InProjLast.main_arg5)
      ∧ r.2.mem ((c.tc : Thread Cert.InProjLast.nD Cert.InProjLast.τ).loc Cert.InProjLast.main_arg6) = m ((c.tc : Thread Cert.InProjLast.nD Cert.InProjLast.τ).loc Cert.InProjLast.main_arg6)
      ∧ r.2.mem ((c.tc : Thread Cert.InProjLast.nD Cert.InProjLast.τ).loc Cert.InProjLast.main_arg7) = m ((c.tc : Thread Cert.InProjLast.nD Cert.InProjLast.τ).loc Cert.InProjLast.main_arg7))
      ∧ r.2.sem = fun _ => 0)

def quiescent_InProjLastIdeal [hInProjLastIdeal : Cert.InProjLastIdeal.Facts] : Prop :=
  ∀ (m : (ℓ : Loc Cert.InProjLastIdeal.nD Cert.InProjLastIdeal.τ Cert.InProjLastIdeal.sig) → Buf (Elt Ideal) ℓ) (g : Dev Cert.InProjLastIdeal.nD → PrngReg), Pre_InProjLastIdeal m →
    θ_run (Cert.InProjLastIdeal.defs (F := Ideal)) (onTc (τ := Cert.InProjLastIdeal.τ) (Cert.InProjLastIdeal.main (F := Ideal))) ⟨m, fun _ => 0, g⟩ (fun r => (∀ c : Dev Cert.InProjLastIdeal.nD,
      r.2.mem ((c.tc : Thread Cert.InProjLastIdeal.nD Cert.InProjLastIdeal.τ).loc Cert.InProjLastIdeal.main_arg0) = m ((c.tc : Thread Cert.InProjLastIdeal.nD Cert.InProjLastIdeal.τ).loc Cert.InProjLastIdeal.main_arg0)
      ∧ r.2.mem ((c.tc : Thread Cert.InProjLastIdeal.nD Cert.InProjLastIdeal.τ).loc Cert.InProjLastIdeal.main_arg1) = m ((c.tc : Thread Cert.InProjLastIdeal.nD Cert.InProjLastIdeal.τ).loc Cert.InProjLastIdeal.main_arg1)
      ∧ r.2.mem ((c.tc : Thread Cert.InProjLastIdeal.nD Cert.InProjLastIdeal.τ).loc Cert.InProjLastIdeal.main_arg2) = m ((c.tc : Thread Cert.InProjLastIdeal.nD Cert.InProjLastIdeal.τ).loc Cert.InProjLastIdeal.main_arg2)
      ∧ r.2.mem ((c.tc : Thread Cert.InProjLastIdeal.nD Cert.InProjLastIdeal.τ).loc Cert.InProjLastIdeal.main_arg3) = m ((c.tc : Thread Cert.InProjLastIdeal.nD Cert.InProjLastIdeal.τ).loc Cert.InProjLastIdeal.main_arg3)
      ∧ r.2.mem ((c.tc : Thread Cert.InProjLastIdeal.nD Cert.InProjLastIdeal.τ).loc Cert.InProjLastIdeal.main_arg4) = m ((c.tc : Thread Cert.InProjLastIdeal.nD Cert.InProjLastIdeal.τ).loc Cert.InProjLastIdeal.main_arg4)
      ∧ r.2.mem ((c.tc : Thread Cert.InProjLastIdeal.nD Cert.InProjLastIdeal.τ).loc Cert.InProjLastIdeal.main_arg5) = m ((c.tc : Thread Cert.InProjLastIdeal.nD Cert.InProjLastIdeal.τ).loc Cert.InProjLastIdeal.main_arg5)
      ∧ r.2.mem ((c.tc : Thread Cert.InProjLastIdeal.nD Cert.InProjLastIdeal.τ).loc Cert.InProjLastIdeal.main_arg6) = m ((c.tc : Thread Cert.InProjLastIdeal.nD Cert.InProjLastIdeal.τ).loc Cert.InProjLastIdeal.main_arg6)
      ∧ r.2.mem ((c.tc : Thread Cert.InProjLastIdeal.nD Cert.InProjLastIdeal.τ).loc Cert.InProjLastIdeal.main_arg7) = m ((c.tc : Thread Cert.InProjLastIdeal.nD Cert.InProjLastIdeal.τ).loc Cert.InProjLastIdeal.main_arg7))
      ∧ r.2.sem = fun _ => 0)

def quiescent_InProjLastRefIdeal [hInProjLastRefIdeal : Cert.InProjLastRefIdeal.Facts] : Prop :=
  ∀ (m : (ℓ : Loc Cert.InProjLastRefIdeal.nD Cert.InProjLastRefIdeal.τ Cert.InProjLastRefIdeal.sig) → Buf (Elt Ideal) ℓ) (g : Dev Cert.InProjLastRefIdeal.nD → PrngReg), Pre_InProjLastRefIdeal m →
    θ_run (Cert.InProjLastRefIdeal.defs (F := Ideal)) (onTc (τ := Cert.InProjLastRefIdeal.τ) (Cert.InProjLastRefIdeal.main (F := Ideal))) ⟨m, fun _ => 0, g⟩ (fun r => (∀ c : Dev Cert.InProjLastRefIdeal.nD,
      r.2.mem ((c.tc : Thread Cert.InProjLastRefIdeal.nD Cert.InProjLastRefIdeal.τ).loc Cert.InProjLastRefIdeal.main_arg0) = m ((c.tc : Thread Cert.InProjLastRefIdeal.nD Cert.InProjLastRefIdeal.τ).loc Cert.InProjLastRefIdeal.main_arg0)
      ∧ r.2.mem ((c.tc : Thread Cert.InProjLastRefIdeal.nD Cert.InProjLastRefIdeal.τ).loc Cert.InProjLastRefIdeal.main_arg1) = m ((c.tc : Thread Cert.InProjLastRefIdeal.nD Cert.InProjLastRefIdeal.τ).loc Cert.InProjLastRefIdeal.main_arg1)
      ∧ r.2.mem ((c.tc : Thread Cert.InProjLastRefIdeal.nD Cert.InProjLastRefIdeal.τ).loc Cert.InProjLastRefIdeal.main_arg2) = m ((c.tc : Thread Cert.InProjLastRefIdeal.nD Cert.InProjLastRefIdeal.τ).loc Cert.InProjLastRefIdeal.main_arg2)
      ∧ r.2.mem ((c.tc : Thread Cert.InProjLastRefIdeal.nD Cert.InProjLastRefIdeal.τ).loc Cert.InProjLastRefIdeal.main_arg3) = m ((c.tc : Thread Cert.InProjLastRefIdeal.nD Cert.InProjLastRefIdeal.τ).loc Cert.InProjLastRefIdeal.main_arg3)
      ∧ r.2.mem ((c.tc : Thread Cert.InProjLastRefIdeal.nD Cert.InProjLastRefIdeal.τ).loc Cert.InProjLastRefIdeal.main_arg4) = m ((c.tc : Thread Cert.InProjLastRefIdeal.nD Cert.InProjLastRefIdeal.τ).loc Cert.InProjLastRefIdeal.main_arg4)
      ∧ r.2.mem ((c.tc : Thread Cert.InProjLastRefIdeal.nD Cert.InProjLastRefIdeal.τ).loc Cert.InProjLastRefIdeal.main_arg5) = m ((c.tc : Thread Cert.InProjLastRefIdeal.nD Cert.InProjLastRefIdeal.τ).loc Cert.InProjLastRefIdeal.main_arg5)
      ∧ r.2.mem ((c.tc : Thread Cert.InProjLastRefIdeal.nD Cert.InProjLastRefIdeal.τ).loc Cert.InProjLastRefIdeal.main_arg6) = m ((c.tc : Thread Cert.InProjLastRefIdeal.nD Cert.InProjLastRefIdeal.τ).loc Cert.InProjLastRefIdeal.main_arg6)
      ∧ r.2.mem ((c.tc : Thread Cert.InProjLastRefIdeal.nD Cert.InProjLastRefIdeal.τ).loc Cert.InProjLastRefIdeal.main_arg7) = m ((c.tc : Thread Cert.InProjLastRefIdeal.nD Cert.InProjLastRefIdeal.τ).loc Cert.InProjLastRefIdeal.main_arg7))
      ∧ r.2.sem = fun _ => 0)

def quiescent_Combine [hCombine : Cert.Combine.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1)
      ∧ r.2.mem ((c.tc : Thread Cert.Combine.nD Cert.Combine.τ).loc Cert.Combine.main_arg2) = m ((c.tc : Thread Cert.Combine.nD Cert.Combine.τ).loc Cert.Combine.main_arg2)
      ∧ r.2.mem ((c.tc : Thread Cert.Combine.nD Cert.Combine.τ).loc Cert.Combine.main_arg3) = m ((c.tc : Thread Cert.Combine.nD Cert.Combine.τ).loc Cert.Combine.main_arg3)
      ∧ r.2.mem ((c.tc : Thread Cert.Combine.nD Cert.Combine.τ).loc Cert.Combine.main_arg4) = m ((c.tc : Thread Cert.Combine.nD Cert.Combine.τ).loc Cert.Combine.main_arg4)
      ∧ r.2.mem ((c.tc : Thread Cert.Combine.nD Cert.Combine.τ).loc Cert.Combine.main_arg5) = m ((c.tc : Thread Cert.Combine.nD Cert.Combine.τ).loc Cert.Combine.main_arg5))
      ∧ r.2.sem = fun _ => 0)

def quiescent_CombineIdeal [hCombineIdeal : Cert.CombineIdeal.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
      ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
      ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4)
      ∧ r.2.mem ((c.tc : Thread Cert.CombineIdeal.nD Cert.CombineIdeal.τ).loc Cert.CombineIdeal.main_arg5) = m ((c.tc : Thread Cert.CombineIdeal.nD Cert.CombineIdeal.τ).loc Cert.CombineIdeal.main_arg5))
      ∧ r.2.sem = fun _ => 0)

def quiescent_CombineRefIdeal [hCombineRefIdeal : Cert.CombineRefIdeal.Facts] : Prop :=
  ∀ (m : (ℓ : Loc Cert.CombineRefIdeal.nD Cert.CombineRefIdeal.τ Cert.CombineRefIdeal.sig) → Buf (Elt Ideal) ℓ) (g : Dev Cert.CombineRefIdeal.nD → PrngReg), Pre_CombineRefIdeal m →
    θ_run (Cert.CombineRefIdeal.defs (F := Ideal)) (onTc (τ := Cert.CombineRefIdeal.τ) (Cert.CombineRefIdeal.main (F := Ideal))) ⟨m, fun _ => 0, g⟩ (fun r => (∀ c : Dev Cert.CombineRefIdeal.nD,
      r.2.mem ((c.tc : Thread Cert.CombineRefIdeal.nD Cert.CombineRefIdeal.τ).loc Cert.CombineRefIdeal.main_arg0) = m ((c.tc : Thread Cert.CombineRefIdeal.nD Cert.CombineRefIdeal.τ).loc Cert.CombineRefIdeal.main_arg0)
      ∧ r.2.mem ((c.tc : Thread Cert.CombineRefIdeal.nD Cert.CombineRefIdeal.τ).loc Cert.CombineRefIdeal.main_arg1) = m ((c.tc : Thread Cert.CombineRefIdeal.nD Cert.CombineRefIdeal.τ).loc Cert.CombineRefIdeal.main_arg1)
      ∧ r.2.mem ((c.tc : Thread Cert.CombineRefIdeal.nD Cert.CombineRefIdeal.τ).loc Cert.CombineRefIdeal.main_arg2) = m ((c.tc : Thread Cert.CombineRefIdeal.nD Cert.CombineRefIdeal.τ).loc Cert.CombineRefIdeal.main_arg2)
      ∧ r.2.mem ((c.tc : Thread Cert.CombineRefIdeal.nD Cert.CombineRefIdeal.τ).loc Cert.CombineRefIdeal.main_arg3) = m ((c.tc : Thread Cert.CombineRefIdeal.nD Cert.CombineRefIdeal.τ).loc Cert.CombineRefIdeal.main_arg3)
      ∧ r.2.mem ((c.tc : Thread Cert.CombineRefIdeal.nD Cert.CombineRefIdeal.τ).loc Cert.CombineRefIdeal.main_arg4) = m ((c.tc : Thread Cert.CombineRefIdeal.nD Cert.CombineRefIdeal.τ).loc Cert.CombineRefIdeal.main_arg4)
      ∧ r.2.mem ((c.tc : Thread Cert.CombineRefIdeal.nD Cert.CombineRefIdeal.τ).loc Cert.CombineRefIdeal.main_arg5) = m ((c.tc : Thread Cert.CombineRefIdeal.nD Cert.CombineRefIdeal.τ).loc Cert.CombineRefIdeal.main_arg5))
      ∧ r.2.sem = fun _ => 0)

def quiescent_Experts [hExperts : Cert.Experts.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6))
      ∧ r.2.sem = fun _ => 0)

def quiescent_ExpertsIdeal [hExpertsIdeal : Cert.ExpertsIdeal.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ r.2.sem = fun _ => 0)

def quiescent_ExpertsRefIdeal [hExpertsRefIdeal : Cert.ExpertsRefIdeal.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5)
      ∧ r.2.mem ((c.tc : Thread Cert.ExpertsRefIdeal.nD Cert.ExpertsRefIdeal.τ).loc Cert.ExpertsRefIdeal.main_arg6) = m ((c.tc : Thread Cert.ExpertsRefIdeal.nD Cert.ExpertsRefIdeal.τ).loc Cert.ExpertsRefIdeal.main_arg6))
      ∧ r.2.sem = fun _ => 0)

def quiescent_CombineS [hCombineS : Cert.CombineS.Facts] [hPre_offsets_nonneg : Cert.Pre_offsets_nonneg.Facts] : Prop :=
  ∀ (m : (ℓ : Loc Cert.CombineS.nD Cert.CombineS.τ Cert.CombineS.sig) → Buf (Elt Bits) ℓ) (g : Dev Cert.CombineS.nD → PrngReg), Pre_CombineS m →
    θ_run (Cert.CombineS.defs (F := Bits)) (onTc (τ := Cert.CombineS.τ) (Cert.CombineS.main (F := Bits))) ⟨m, fun _ => 0, g⟩ (fun r => (∀ c : Dev Cert.CombineS.nD,
      r.2.mem ((c.tc : Thread Cert.CombineS.nD Cert.CombineS.τ).loc Cert.CombineS.main_arg0) = m ((c.tc : Thread Cert.CombineS.nD Cert.CombineS.τ).loc Cert.CombineS.main_arg0)
      ∧ r.2.mem ((c.tc : Thread Cert.CombineS.nD Cert.CombineS.τ).loc Cert.CombineS.main_arg1) = m ((c.tc : Thread Cert.CombineS.nD Cert.CombineS.τ).loc Cert.CombineS.main_arg1)
      ∧ r.2.mem ((c.tc : Thread Cert.CombineS.nD Cert.CombineS.τ).loc Cert.CombineS.main_arg2) = m ((c.tc : Thread Cert.CombineS.nD Cert.CombineS.τ).loc Cert.CombineS.main_arg2)
      ∧ r.2.mem ((c.tc : Thread Cert.CombineS.nD Cert.CombineS.τ).loc Cert.CombineS.main_arg3) = m ((c.tc : Thread Cert.CombineS.nD Cert.CombineS.τ).loc Cert.CombineS.main_arg3)
      ∧ r.2.mem ((c.tc : Thread Cert.CombineS.nD Cert.CombineS.τ).loc Cert.CombineS.main_arg4) = m ((c.tc : Thread Cert.CombineS.nD Cert.CombineS.τ).loc Cert.CombineS.main_arg4)
      ∧ r.2.mem ((c.tc : Thread Cert.CombineS.nD Cert.CombineS.τ).loc Cert.CombineS.main_arg5) = m ((c.tc : Thread Cert.CombineS.nD Cert.CombineS.τ).loc Cert.CombineS.main_arg5))
      ∧ r.2.sem = fun _ => 0)

def quiescent_CombineSIdeal [hCombineSIdeal : Cert.CombineSIdeal.Facts] [hPre_offsets_nonneg : Cert.Pre_offsets_nonneg.Facts] : Prop :=
  ∀ (m : (ℓ : Loc Cert.CombineSIdeal.nD Cert.CombineSIdeal.τ Cert.CombineSIdeal.sig) → Buf (Elt Ideal) ℓ) (g : Dev Cert.CombineSIdeal.nD → PrngReg), Pre_CombineSIdeal m →
    θ_run (Cert.CombineSIdeal.defs (F := Ideal)) (onTc (τ := Cert.CombineSIdeal.τ) (Cert.CombineSIdeal.main (F := Ideal))) ⟨m, fun _ => 0, g⟩ (fun r => (∀ c : Dev Cert.CombineSIdeal.nD,
      r.2.mem ((c.tc : Thread Cert.CombineSIdeal.nD Cert.CombineSIdeal.τ).loc Cert.CombineSIdeal.main_arg0) = m ((c.tc : Thread Cert.CombineSIdeal.nD Cert.CombineSIdeal.τ).loc Cert.CombineSIdeal.main_arg0)
      ∧ r.2.mem ((c.tc : Thread Cert.CombineSIdeal.nD Cert.CombineSIdeal.τ).loc Cert.CombineSIdeal.main_arg1) = m ((c.tc : Thread Cert.CombineSIdeal.nD Cert.CombineSIdeal.τ).loc Cert.CombineSIdeal.main_arg1)
      ∧ r.2.mem ((c.tc : Thread Cert.CombineSIdeal.nD Cert.CombineSIdeal.τ).loc Cert.CombineSIdeal.main_arg2) = m ((c.tc : Thread Cert.CombineSIdeal.nD Cert.CombineSIdeal.τ).loc Cert.CombineSIdeal.main_arg2)
      ∧ r.2.mem ((c.tc : Thread Cert.CombineSIdeal.nD Cert.CombineSIdeal.τ).loc Cert.CombineSIdeal.main_arg3) = m ((c.tc : Thread Cert.CombineSIdeal.nD Cert.CombineSIdeal.τ).loc Cert.CombineSIdeal.main_arg3)
      ∧ r.2.mem ((c.tc : Thread Cert.CombineSIdeal.nD Cert.CombineSIdeal.τ).loc Cert.CombineSIdeal.main_arg4) = m ((c.tc : Thread Cert.CombineSIdeal.nD Cert.CombineSIdeal.τ).loc Cert.CombineSIdeal.main_arg4)
      ∧ r.2.mem ((c.tc : Thread Cert.CombineSIdeal.nD Cert.CombineSIdeal.τ).loc Cert.CombineSIdeal.main_arg5) = m ((c.tc : Thread Cert.CombineSIdeal.nD Cert.CombineSIdeal.τ).loc Cert.CombineSIdeal.main_arg5))
      ∧ r.2.sem = fun _ => 0)

def quiescent_CombineSIdeal_pre_slots_in_order [hCombineSIdeal : Cert.CombineSIdeal.Facts] [hPre_slots_in_order : Cert.Pre_slots_in_order.Facts] : Prop :=
  ∀ (m : (ℓ : Loc Cert.CombineSIdeal.nD Cert.CombineSIdeal.τ Cert.CombineSIdeal.sig) → Buf (Elt Ideal) ℓ) (g : Dev Cert.CombineSIdeal.nD → PrngReg), Pre_CombineSIdeal_slots_in_order m →
    θ_run (Cert.CombineSIdeal.defs (F := Ideal)) (onTc (τ := Cert.CombineSIdeal.τ) (Cert.CombineSIdeal.main (F := Ideal))) ⟨m, fun _ => 0, g⟩ (fun r => (∀ c : Dev Cert.CombineSIdeal.nD,
      r.2.mem ((c.tc : Thread Cert.CombineSIdeal.nD Cert.CombineSIdeal.τ).loc Cert.CombineSIdeal.main_arg0) = m ((c.tc : Thread Cert.CombineSIdeal.nD Cert.CombineSIdeal.τ).loc Cert.CombineSIdeal.main_arg0)
      ∧ r.2.mem ((c.tc : Thread Cert.CombineSIdeal.nD Cert.CombineSIdeal.τ).loc Cert.CombineSIdeal.main_arg1) = m ((c.tc : Thread Cert.CombineSIdeal.nD Cert.CombineSIdeal.τ).loc Cert.CombineSIdeal.main_arg1)
      ∧ r.2.mem ((c.tc : Thread Cert.CombineSIdeal.nD Cert.CombineSIdeal.τ).loc Cert.CombineSIdeal.main_arg2) = m ((c.tc : Thread Cert.CombineSIdeal.nD Cert.CombineSIdeal.τ).loc Cert.CombineSIdeal.main_arg2)
      ∧ r.2.mem ((c.tc : Thread Cert.CombineSIdeal.nD Cert.CombineSIdeal.τ).loc Cert.CombineSIdeal.main_arg3) = m ((c.tc : Thread Cert.CombineSIdeal.nD Cert.CombineSIdeal.τ).loc Cert.CombineSIdeal.main_arg3)
      ∧ r.2.mem ((c.tc : Thread Cert.CombineSIdeal.nD Cert.CombineSIdeal.τ).loc Cert.CombineSIdeal.main_arg4) = m ((c.tc : Thread Cert.CombineSIdeal.nD Cert.CombineSIdeal.τ).loc Cert.CombineSIdeal.main_arg4)
      ∧ r.2.mem ((c.tc : Thread Cert.CombineSIdeal.nD Cert.CombineSIdeal.τ).loc Cert.CombineSIdeal.main_arg5) = m ((c.tc : Thread Cert.CombineSIdeal.nD Cert.CombineSIdeal.τ).loc Cert.CombineSIdeal.main_arg5))
      ∧ r.2.sem = fun _ => 0)

def quiescent_CombineSRefIdeal [hCombineSRefIdeal : Cert.CombineSRefIdeal.Facts] : Prop :=
  ∀ (m : (ℓ : Loc Cert.CombineSRefIdeal.nD Cert.CombineSRefIdeal.τ Cert.CombineSRefIdeal.sig) → Buf (Elt Ideal) ℓ) (g : Dev Cert.CombineSRefIdeal.nD → PrngReg), Pre_CombineSRefIdeal m →
    θ_run (Cert.CombineSRefIdeal.defs (F := Ideal)) (onTc (τ := Cert.CombineSRefIdeal.τ) (Cert.CombineSRefIdeal.main (F := Ideal))) ⟨m, fun _ => 0, g⟩ (fun r => (∀ c : Dev Cert.CombineSRefIdeal.nD,
      r.2.mem ((c.tc : Thread Cert.CombineSRefIdeal.nD Cert.CombineSRefIdeal.τ).loc Cert.CombineSRefIdeal.main_arg0) = m ((c.tc : Thread Cert.CombineSRefIdeal.nD Cert.CombineSRefIdeal.τ).loc Cert.CombineSRefIdeal.main_arg0)
      ∧ r.2.mem ((c.tc : Thread Cert.CombineSRefIdeal.nD Cert.CombineSRefIdeal.τ).loc Cert.CombineSRefIdeal.main_arg1) = m ((c.tc : Thread Cert.CombineSRefIdeal.nD Cert.CombineSRefIdeal.τ).loc Cert.CombineSRefIdeal.main_arg1)
      ∧ r.2.mem ((c.tc : Thread Cert.CombineSRefIdeal.nD Cert.CombineSRefIdeal.τ).loc Cert.CombineSRefIdeal.main_arg2) = m ((c.tc : Thread Cert.CombineSRefIdeal.nD Cert.CombineSRefIdeal.τ).loc Cert.CombineSRefIdeal.main_arg2)
      ∧ r.2.mem ((c.tc : Thread Cert.CombineSRefIdeal.nD Cert.CombineSRefIdeal.τ).loc Cert.CombineSRefIdeal.main_arg3) = m ((c.tc : Thread Cert.CombineSRefIdeal.nD Cert.CombineSRefIdeal.τ).loc Cert.CombineSRefIdeal.main_arg3)
      ∧ r.2.mem ((c.tc : Thread Cert.CombineSRefIdeal.nD Cert.CombineSRefIdeal.τ).loc Cert.CombineSRefIdeal.main_arg4) = m ((c.tc : Thread Cert.CombineSRefIdeal.nD Cert.CombineSRefIdeal.τ).loc Cert.CombineSRefIdeal.main_arg4)
      ∧ r.2.mem ((c.tc : Thread Cert.CombineSRefIdeal.nD Cert.CombineSRefIdeal.τ).loc Cert.CombineSRefIdeal.main_arg5) = m ((c.tc : Thread Cert.CombineSRefIdeal.nD Cert.CombineSRefIdeal.τ).loc Cert.CombineSRefIdeal.main_arg5))
      ∧ r.2.sem = fun _ => 0)

def quiescent_CombineSRefIdeal_pre_slots_in_order [hCombineSRefIdeal : Cert.CombineSRefIdeal.Facts] [hPre_slots_in_order : Cert.Pre_slots_in_order.Facts] : Prop :=
  ∀ (m : (ℓ : Loc Cert.CombineSRefIdeal.nD Cert.CombineSRefIdeal.τ Cert.CombineSRefIdeal.sig) → Buf (Elt Ideal) ℓ) (g : Dev Cert.CombineSRefIdeal.nD → PrngReg), Pre_CombineSRefIdeal_slots_in_order m →
    θ_run (Cert.CombineSRefIdeal.defs (F := Ideal)) (onTc (τ := Cert.CombineSRefIdeal.τ) (Cert.CombineSRefIdeal.main (F := Ideal))) ⟨m, fun _ => 0, g⟩ (fun r => (∀ c : Dev Cert.CombineSRefIdeal.nD,
      r.2.mem ((c.tc : Thread Cert.CombineSRefIdeal.nD Cert.CombineSRefIdeal.τ).loc Cert.CombineSRefIdeal.main_arg0) = m ((c.tc : Thread Cert.CombineSRefIdeal.nD Cert.CombineSRefIdeal.τ).loc Cert.CombineSRefIdeal.main_arg0)
      ∧ r.2.mem ((c.tc : Thread Cert.CombineSRefIdeal.nD Cert.CombineSRefIdeal.τ).loc Cert.CombineSRefIdeal.main_arg1) = m ((c.tc : Thread Cert.CombineSRefIdeal.nD Cert.CombineSRefIdeal.τ).loc Cert.CombineSRefIdeal.main_arg1)
      ∧ r.2.mem ((c.tc : Thread Cert.CombineSRefIdeal.nD Cert.CombineSRefIdeal.τ).loc Cert.CombineSRefIdeal.main_arg2) = m ((c.tc : Thread Cert.CombineSRefIdeal.nD Cert.CombineSRefIdeal.τ).loc Cert.CombineSRefIdeal.main_arg2)
      ∧ r.2.mem ((c.tc : Thread Cert.CombineSRefIdeal.nD Cert.CombineSRefIdeal.τ).loc Cert.CombineSRefIdeal.main_arg3) = m ((c.tc : Thread Cert.CombineSRefIdeal.nD Cert.CombineSRefIdeal.τ).loc Cert.CombineSRefIdeal.main_arg3)
      ∧ r.2.mem ((c.tc : Thread Cert.CombineSRefIdeal.nD Cert.CombineSRefIdeal.τ).loc Cert.CombineSRefIdeal.main_arg4) = m ((c.tc : Thread Cert.CombineSRefIdeal.nD Cert.CombineSRefIdeal.τ).loc Cert.CombineSRefIdeal.main_arg4)
      ∧ r.2.mem ((c.tc : Thread Cert.CombineSRefIdeal.nD Cert.CombineSRefIdeal.τ).loc Cert.CombineSRefIdeal.main_arg5) = m ((c.tc : Thread Cert.CombineSRefIdeal.nD Cert.CombineSRefIdeal.τ).loc Cert.CombineSRefIdeal.main_arg5))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_v61) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v58) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)) →
    ∃ (v0 : (c : Dev Cert.InProjIdeal.nD) → Buf (Elt Ideal) ((c.tc : Thread Cert.InProjIdeal.nD Cert.InProjIdeal.τ).loc Cert.InProjIdeal.main_v0_0)) (v1 : (c : Dev Cert.InProjIdeal.nD) → Buf (Elt Ideal) ((c.tc : Thread Cert.InProjIdeal.nD Cert.InProjIdeal.τ).loc Cert.InProjIdeal.main_v0_1)) (v2 : (c : Dev Cert.InProjIdeal.nD) → Buf (Elt Ideal) ((c.tc : Thread Cert.InProjIdeal.nD Cert.InProjIdeal.τ).loc Cert.InProjIdeal.main_v0_2)) (v3 : (c : Dev Cert.InProjIdeal.nD) → Buf (Elt Ideal) ((c.tc : Thread Cert.InProjIdeal.nD Cert.InProjIdeal.τ).loc Cert.InProjIdeal.main_v0_3)) (v4 : (c : Dev Cert.InProjIdeal.nD) → Buf (Elt Ideal) ((c.tc : Thread Cert.InProjIdeal.nD Cert.InProjIdeal.τ).loc Cert.InProjIdeal.main_v0_4)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0_0) = v0 c
          ∧ r.2.mem ((c.tc : Thread Cert.InProjIdeal.nD Cert.InProjIdeal.τ).loc Cert.InProjIdeal.main_v0_1) = v1 c
          ∧ r.2.mem ((c.tc : Thread Cert.InProjIdeal.nD Cert.InProjIdeal.τ).loc Cert.InProjIdeal.main_v0_2) = v2 c
          ∧ r.2.mem ((c.tc : Thread Cert.InProjIdeal.nD Cert.InProjIdeal.τ).loc Cert.InProjIdeal.main_v0_3) = v3 c
          ∧ r.2.mem ((c.tc : Thread Cert.InProjIdeal.nD Cert.InProjIdeal.τ).loc Cert.InProjIdeal.main_v0_4) = v4 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v36) = v0 c
          ∧ r.2.mem ((c.tc : Thread Cert.InProjRefIdeal.nD Cert.InProjRefIdeal.τ).loc Cert.InProjRefIdeal.main_v43) = v1 c
          ∧ r.2.mem ((c.tc : Thread Cert.InProjRefIdeal.nD Cert.InProjRefIdeal.τ).loc Cert.InProjRefIdeal.main_v50) = v2 c
          ∧ r.2.mem ((c.tc : Thread Cert.InProjRefIdeal.nD Cert.InProjRefIdeal.τ).loc Cert.InProjRefIdeal.main_v57) = v3 c
          ∧ r.2.mem ((c.tc : Thread Cert.InProjRefIdeal.nD Cert.InProjRefIdeal.τ).loc Cert.InProjRefIdeal.main_v64) = v4 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3))

def preserves_InProjLast_InProjLastIdeal : Prop :=
  True

def algebraic_InProjLastIdeal_InProjLastRefIdeal [hInProjLastIdeal : Cert.InProjLastIdeal.Facts] [hInProjLastRefIdeal : Cert.InProjLastRefIdeal.Facts] : Prop :=
  ∀ (m : (ℓ : Loc Cert.InProjLastIdeal.nD Cert.InProjLastIdeal.τ Cert.InProjLastIdeal.sig) → Buf (Elt Ideal) ℓ) (g : Dev Cert.InProjLastIdeal.nD → PrngReg)
    (m' : (ℓ : Loc Cert.InProjLastRefIdeal.nD Cert.InProjLastRefIdeal.τ Cert.InProjLastRefIdeal.sig) → Buf (Elt Ideal) ℓ) (g' : Dev Cert.InProjLastRefIdeal.nD → PrngReg), Pre_InProjLastIdeal m →
    (∀ c : Dev Cert.InProjLastIdeal.nD,
      m' ((c.tc : Thread Cert.InProjLastRefIdeal.nD Cert.InProjLastRefIdeal.τ).loc Cert.InProjLastRefIdeal.main_arg0) = m ((c.tc : Thread Cert.InProjLastIdeal.nD Cert.InProjLastIdeal.τ).loc Cert.InProjLastIdeal.main_arg0)
      ∧ m' ((c.tc : Thread Cert.InProjLastRefIdeal.nD Cert.InProjLastRefIdeal.τ).loc Cert.InProjLastRefIdeal.main_arg1) = m ((c.tc : Thread Cert.InProjLastIdeal.nD Cert.InProjLastIdeal.τ).loc Cert.InProjLastIdeal.main_arg1)
      ∧ m' ((c.tc : Thread Cert.InProjLastRefIdeal.nD Cert.InProjLastRefIdeal.τ).loc Cert.InProjLastRefIdeal.main_arg2) = m ((c.tc : Thread Cert.InProjLastIdeal.nD Cert.InProjLastIdeal.τ).loc Cert.InProjLastIdeal.main_arg2)
      ∧ m' ((c.tc : Thread Cert.InProjLastRefIdeal.nD Cert.InProjLastRefIdeal.τ).loc Cert.InProjLastRefIdeal.main_arg3) = m ((c.tc : Thread Cert.InProjLastIdeal.nD Cert.InProjLastIdeal.τ).loc Cert.InProjLastIdeal.main_arg3)
      ∧ m' ((c.tc : Thread Cert.InProjLastRefIdeal.nD Cert.InProjLastRefIdeal.τ).loc Cert.InProjLastRefIdeal.main_arg4) = m ((c.tc : Thread Cert.InProjLastIdeal.nD Cert.InProjLastIdeal.τ).loc Cert.InProjLastIdeal.main_arg4)
      ∧ m' ((c.tc : Thread Cert.InProjLastRefIdeal.nD Cert.InProjLastRefIdeal.τ).loc Cert.InProjLastRefIdeal.main_arg5) = m ((c.tc : Thread Cert.InProjLastIdeal.nD Cert.InProjLastIdeal.τ).loc Cert.InProjLastIdeal.main_arg5)
      ∧ m' ((c.tc : Thread Cert.InProjLastRefIdeal.nD Cert.InProjLastRefIdeal.τ).loc Cert.InProjLastRefIdeal.main_arg6) = m ((c.tc : Thread Cert.InProjLastIdeal.nD Cert.InProjLastIdeal.τ).loc Cert.InProjLastIdeal.main_arg6)
      ∧ m' ((c.tc : Thread Cert.InProjLastRefIdeal.nD Cert.InProjLastRefIdeal.τ).loc Cert.InProjLastRefIdeal.main_arg7) = m ((c.tc : Thread Cert.InProjLastIdeal.nD Cert.InProjLastIdeal.τ).loc Cert.InProjLastIdeal.main_arg7)) →
    ∃ (v0 : (c : Dev Cert.InProjLastIdeal.nD) → Buf (Elt Ideal) ((c.tc : Thread Cert.InProjLastIdeal.nD Cert.InProjLastIdeal.τ).loc Cert.InProjLastIdeal.main_v0_0)) (v1 : (c : Dev Cert.InProjLastIdeal.nD) → Buf (Elt Ideal) ((c.tc : Thread Cert.InProjLastIdeal.nD Cert.InProjLastIdeal.τ).loc Cert.InProjLastIdeal.main_v0_1)) (v2 : (c : Dev Cert.InProjLastIdeal.nD) → Buf (Elt Ideal) ((c.tc : Thread Cert.InProjLastIdeal.nD Cert.InProjLastIdeal.τ).loc Cert.InProjLastIdeal.main_v0_2)) (v3 : (c : Dev Cert.InProjLastIdeal.nD) → Buf (Elt Ideal) ((c.tc : Thread Cert.InProjLastIdeal.nD Cert.InProjLastIdeal.τ).loc Cert.InProjLastIdeal.main_v0_3)) (v4 : (c : Dev Cert.InProjLastIdeal.nD) → Buf (Elt Ideal) ((c.tc : Thread Cert.InProjLastIdeal.nD Cert.InProjLastIdeal.τ).loc Cert.InProjLastIdeal.main_v0_4)),
      θ_run (Cert.InProjLastIdeal.defs (F := Ideal)) (onTc (τ := Cert.InProjLastIdeal.τ) (Cert.InProjLastIdeal.main (F := Ideal))) ⟨m, fun _ => 0, g⟩ (fun r => ∀ c : Dev Cert.InProjLastIdeal.nD,
          r.2.mem ((c.tc : Thread Cert.InProjLastIdeal.nD Cert.InProjLastIdeal.τ).loc Cert.InProjLastIdeal.main_v0_0) = v0 c
          ∧ r.2.mem ((c.tc : Thread Cert.InProjLastIdeal.nD Cert.InProjLastIdeal.τ).loc Cert.InProjLastIdeal.main_v0_1) = v1 c
          ∧ r.2.mem ((c.tc : Thread Cert.InProjLastIdeal.nD Cert.InProjLastIdeal.τ).loc Cert.InProjLastIdeal.main_v0_2) = v2 c
          ∧ r.2.mem ((c.tc : Thread Cert.InProjLastIdeal.nD Cert.InProjLastIdeal.τ).loc Cert.InProjLastIdeal.main_v0_3) = v3 c
          ∧ r.2.mem ((c.tc : Thread Cert.InProjLastIdeal.nD Cert.InProjLastIdeal.τ).loc Cert.InProjLastIdeal.main_v0_4) = v4 c
          ∧ r.2.mem ((c.tc : Thread Cert.InProjLastIdeal.nD Cert.InProjLastIdeal.τ).loc Cert.InProjLastIdeal.main_arg0) = m ((c.tc : Thread Cert.InProjLastIdeal.nD Cert.InProjLastIdeal.τ).loc Cert.InProjLastIdeal.main_arg0)
          ∧ r.2.mem ((c.tc : Thread Cert.InProjLastIdeal.nD Cert.InProjLastIdeal.τ).loc Cert.InProjLastIdeal.main_arg1) = m ((c.tc : Thread Cert.InProjLastIdeal.nD Cert.InProjLastIdeal.τ).loc Cert.InProjLastIdeal.main_arg1)
          ∧ r.2.mem ((c.tc : Thread Cert.InProjLastIdeal.nD Cert.InProjLastIdeal.τ).loc Cert.InProjLastIdeal.main_arg2) = m ((c.tc : Thread Cert.InProjLastIdeal.nD Cert.InProjLastIdeal.τ).loc Cert.InProjLastIdeal.main_arg2)
          ∧ r.2.mem ((c.tc : Thread Cert.InProjLastIdeal.nD Cert.InProjLastIdeal.τ).loc Cert.InProjLastIdeal.main_arg3) = m ((c.tc : Thread Cert.InProjLastIdeal.nD Cert.InProjLastIdeal.τ).loc Cert.InProjLastIdeal.main_arg3)
          ∧ r.2.mem ((c.tc : Thread Cert.InProjLastIdeal.nD Cert.InProjLastIdeal.τ).loc Cert.InProjLastIdeal.main_arg4) = m ((c.tc : Thread Cert.InProjLastIdeal.nD Cert.InProjLastIdeal.τ).loc Cert.InProjLastIdeal.main_arg4)
          ∧ r.2.mem ((c.tc : Thread Cert.InProjLastIdeal.nD Cert.InProjLastIdeal.τ).loc Cert.InProjLastIdeal.main_arg5) = m ((c.tc : Thread Cert.InProjLastIdeal.nD Cert.InProjLastIdeal.τ).loc Cert.InProjLastIdeal.main_arg5)
          ∧ r.2.mem ((c.tc : Thread Cert.InProjLastIdeal.nD Cert.InProjLastIdeal.τ).loc Cert.InProjLastIdeal.main_arg6) = m ((c.tc : Thread Cert.InProjLastIdeal.nD Cert.InProjLastIdeal.τ).loc Cert.InProjLastIdeal.main_arg6)
          ∧ r.2.mem ((c.tc : Thread Cert.InProjLastIdeal.nD Cert.InProjLastIdeal.τ).loc Cert.InProjLastIdeal.main_arg7) = m ((c.tc : Thread Cert.InProjLastIdeal.nD Cert.InProjLastIdeal.τ).loc Cert.InProjLastIdeal.main_arg7))
      ∧ θ_run (Cert.InProjLastRefIdeal.defs (F := Ideal)) (onTc (τ := Cert.InProjLastRefIdeal.τ) (Cert.InProjLastRefIdeal.main (F := Ideal))) ⟨m', fun _ => 0, g'⟩ (fun r => ∀ c : Dev Cert.InProjLastRefIdeal.nD,
          r.2.mem ((c.tc : Thread Cert.InProjLastRefIdeal.nD Cert.InProjLastRefIdeal.τ).loc Cert.InProjLastRefIdeal.main_v36) = v0 c
          ∧ r.2.mem ((c.tc : Thread Cert.InProjLastRefIdeal.nD Cert.InProjLastRefIdeal.τ).loc Cert.InProjLastRefIdeal.main_v43) = v1 c
          ∧ r.2.mem ((c.tc : Thread Cert.InProjLastRefIdeal.nD Cert.InProjLastRefIdeal.τ).loc Cert.InProjLastRefIdeal.main_v50) = v2 c
          ∧ r.2.mem ((c.tc : Thread Cert.InProjLastRefIdeal.nD Cert.InProjLastRefIdeal.τ).loc Cert.InProjLastRefIdeal.main_v57) = v3 c
          ∧ r.2.mem ((c.tc : Thread Cert.InProjLastRefIdeal.nD Cert.InProjLastRefIdeal.τ).loc Cert.InProjLastRefIdeal.main_v64) = v4 c
          ∧ r.2.mem ((c.tc : Thread Cert.InProjLastRefIdeal.nD Cert.InProjLastRefIdeal.τ).loc Cert.InProjLastRefIdeal.main_arg0) = m' ((c.tc : Thread Cert.InProjLastRefIdeal.nD Cert.InProjLastRefIdeal.τ).loc Cert.InProjLastRefIdeal.main_arg0)
          ∧ r.2.mem ((c.tc : Thread Cert.InProjLastRefIdeal.nD Cert.InProjLastRefIdeal.τ).loc Cert.InProjLastRefIdeal.main_arg1) = m' ((c.tc : Thread Cert.InProjLastRefIdeal.nD Cert.InProjLastRefIdeal.τ).loc Cert.InProjLastRefIdeal.main_arg1)
          ∧ r.2.mem ((c.tc : Thread Cert.InProjLastRefIdeal.nD Cert.InProjLastRefIdeal.τ).loc Cert.InProjLastRefIdeal.main_arg2) = m' ((c.tc : Thread Cert.InProjLastRefIdeal.nD Cert.InProjLastRefIdeal.τ).loc Cert.InProjLastRefIdeal.main_arg2)
          ∧ r.2.mem ((c.tc : Thread Cert.InProjLastRefIdeal.nD Cert.InProjLastRefIdeal.τ).loc Cert.InProjLastRefIdeal.main_arg3) = m' ((c.tc : Thread Cert.InProjLastRefIdeal.nD Cert.InProjLastRefIdeal.τ).loc Cert.InProjLastRefIdeal.main_arg3)
          ∧ r.2.mem ((c.tc : Thread Cert.InProjLastRefIdeal.nD Cert.InProjLastRefIdeal.τ).loc Cert.InProjLastRefIdeal.main_arg4) = m' ((c.tc : Thread Cert.InProjLastRefIdeal.nD Cert.InProjLastRefIdeal.τ).loc Cert.InProjLastRefIdeal.main_arg4)
          ∧ r.2.mem ((c.tc : Thread Cert.InProjLastRefIdeal.nD Cert.InProjLastRefIdeal.τ).loc Cert.InProjLastRefIdeal.main_arg5) = m' ((c.tc : Thread Cert.InProjLastRefIdeal.nD Cert.InProjLastRefIdeal.τ).loc Cert.InProjLastRefIdeal.main_arg5)
          ∧ r.2.mem ((c.tc : Thread Cert.InProjLastRefIdeal.nD Cert.InProjLastRefIdeal.τ).loc Cert.InProjLastRefIdeal.main_arg6) = m' ((c.tc : Thread Cert.InProjLastRefIdeal.nD Cert.InProjLastRefIdeal.τ).loc Cert.InProjLastRefIdeal.main_arg6)
          ∧ r.2.mem ((c.tc : Thread Cert.InProjLastRefIdeal.nD Cert.InProjLastRefIdeal.τ).loc Cert.InProjLastRefIdeal.main_arg7) = m' ((c.tc : Thread Cert.InProjLastRefIdeal.nD Cert.InProjLastRefIdeal.τ).loc Cert.InProjLastRefIdeal.main_arg7))

def preserves_Combine_CombineIdeal : Prop :=
  True

def algebraic_CombineIdeal_CombineRefIdeal [hCombineIdeal : Cert.CombineIdeal.Facts] [hCombineRefIdeal : Cert.CombineRefIdeal.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.CombineRefIdeal.nD Cert.CombineRefIdeal.τ Cert.CombineRefIdeal.sig) → Buf (Elt Ideal) ℓ) (g' : Dev Cert.CombineRefIdeal.nD → PrngReg), Pre_CombineIdeal m →
    (∀ c : Dev Cert.CombineIdeal.nD,
      m' ((c.tc : Thread Cert.CombineRefIdeal.nD Cert.CombineRefIdeal.τ).loc Cert.CombineRefIdeal.main_arg0) = m ((c.tc : Thread Cert.CombineIdeal.nD Cert.CombineIdeal.τ).loc Cert.CombineIdeal.main_arg0)
      ∧ m' ((c.tc : Thread Cert.CombineRefIdeal.nD Cert.CombineRefIdeal.τ).loc Cert.CombineRefIdeal.main_arg1) = m ((c.tc : Thread Cert.CombineIdeal.nD Cert.CombineIdeal.τ).loc Cert.CombineIdeal.main_arg1)
      ∧ m' ((c.tc : Thread Cert.CombineRefIdeal.nD Cert.CombineRefIdeal.τ).loc Cert.CombineRefIdeal.main_arg2) = m ((c.tc : Thread Cert.CombineIdeal.nD Cert.CombineIdeal.τ).loc Cert.CombineIdeal.main_arg2)
      ∧ m' ((c.tc : Thread Cert.CombineRefIdeal.nD Cert.CombineRefIdeal.τ).loc Cert.CombineRefIdeal.main_arg3) = m ((c.tc : Thread Cert.CombineIdeal.nD Cert.CombineIdeal.τ).loc Cert.CombineIdeal.main_arg3)
      ∧ m' ((c.tc : Thread Cert.CombineRefIdeal.nD Cert.CombineRefIdeal.τ).loc Cert.CombineRefIdeal.main_arg4) = m ((c.tc : Thread Cert.CombineIdeal.nD Cert.CombineIdeal.τ).loc Cert.CombineIdeal.main_arg4)
      ∧ m' ((c.tc : Thread Cert.CombineRefIdeal.nD Cert.CombineRefIdeal.τ).loc Cert.CombineRefIdeal.main_arg5) = m ((c.tc : Thread Cert.CombineIdeal.nD Cert.CombineIdeal.τ).loc Cert.CombineIdeal.main_arg5)) →
    ∃ (v0 : (c : Dev Cert.CombineIdeal.nD) → Buf (Elt Ideal) ((c.tc : Thread Cert.CombineIdeal.nD Cert.CombineIdeal.τ).loc Cert.CombineIdeal.main_v0)),
      θ_run (Cert.CombineIdeal.defs (F := Ideal)) (onTc (τ := Cert.CombineIdeal.τ) (Cert.CombineIdeal.main (F := Ideal))) ⟨m, fun _ => 0, g⟩ (fun r => ∀ c : Dev Cert.CombineIdeal.nD,
          r.2.mem ((c.tc : Thread Cert.CombineIdeal.nD Cert.CombineIdeal.τ).loc Cert.CombineIdeal.main_v0) = v0 c
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
          ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
          ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
          ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
          ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4)
          ∧ r.2.mem ((c.tc : Thread Cert.CombineIdeal.nD Cert.CombineIdeal.τ).loc Cert.CombineIdeal.main_arg5) = m ((c.tc : Thread Cert.CombineIdeal.nD Cert.CombineIdeal.τ).loc Cert.CombineIdeal.main_arg5))
      ∧ θ_run (Cert.CombineRefIdeal.defs (F := Ideal)) (onTc (τ := Cert.CombineRefIdeal.τ) (Cert.CombineRefIdeal.main (F := Ideal))) ⟨m', fun _ => 0, g'⟩ (fun r => ∀ c : Dev Cert.CombineRefIdeal.nD,
          r.2.mem ((c.tc : Thread Cert.CombineRefIdeal.nD Cert.CombineRefIdeal.τ).loc Cert.CombineRefIdeal.main_v31) = v0 c
          ∧ r.2.mem ((c.tc : Thread Cert.CombineRefIdeal.nD Cert.CombineRefIdeal.τ).loc Cert.CombineRefIdeal.main_arg0) = m' ((c.tc : Thread Cert.CombineRefIdeal.nD Cert.CombineRefIdeal.τ).loc Cert.CombineRefIdeal.main_arg0)
          ∧ r.2.mem ((c.tc : Thread Cert.CombineRefIdeal.nD Cert.CombineRefIdeal.τ).loc Cert.CombineRefIdeal.main_arg1) = m' ((c.tc : Thread Cert.CombineRefIdeal.nD Cert.CombineRefIdeal.τ).loc Cert.CombineRefIdeal.main_arg1)
          ∧ r.2.mem ((c.tc : Thread Cert.CombineRefIdeal.nD Cert.CombineRefIdeal.τ).loc Cert.CombineRefIdeal.main_arg2) = m' ((c.tc : Thread Cert.CombineRefIdeal.nD Cert.CombineRefIdeal.τ).loc Cert.CombineRefIdeal.main_arg2)
          ∧ r.2.mem ((c.tc : Thread Cert.CombineRefIdeal.nD Cert.CombineRefIdeal.τ).loc Cert.CombineRefIdeal.main_arg3) = m' ((c.tc : Thread Cert.CombineRefIdeal.nD Cert.CombineRefIdeal.τ).loc Cert.CombineRefIdeal.main_arg3)
          ∧ r.2.mem ((c.tc : Thread Cert.CombineRefIdeal.nD Cert.CombineRefIdeal.τ).loc Cert.CombineRefIdeal.main_arg4) = m' ((c.tc : Thread Cert.CombineRefIdeal.nD Cert.CombineRefIdeal.τ).loc Cert.CombineRefIdeal.main_arg4)
          ∧ r.2.mem ((c.tc : Thread Cert.CombineRefIdeal.nD Cert.CombineRefIdeal.τ).loc Cert.CombineRefIdeal.main_arg5) = m' ((c.tc : Thread Cert.CombineRefIdeal.nD Cert.CombineRefIdeal.τ).loc Cert.CombineRefIdeal.main_arg5))

def preserves_Experts_ExpertsIdeal : Prop :=
  True

def algebraic_ExpertsIdeal_ExpertsRefIdeal [hExpertsIdeal : Cert.ExpertsIdeal.Facts] [hExpertsRefIdeal : Cert.ExpertsRefIdeal.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)
      ∧ m' ((c.tc : Thread Cert.ExpertsRefIdeal.nD Cert.ExpertsRefIdeal.τ).loc Cert.ExpertsRefIdeal.main_arg4) = m ((c.tc : Thread Cert.ExpertsIdeal.nD Cert.ExpertsIdeal.τ).loc Cert.ExpertsIdeal.main_arg4)
      ∧ m' ((c.tc : Thread Cert.ExpertsRefIdeal.nD Cert.ExpertsRefIdeal.τ).loc Cert.ExpertsRefIdeal.main_arg5) = m ((c.tc : Thread Cert.ExpertsIdeal.nD Cert.ExpertsIdeal.τ).loc Cert.ExpertsIdeal.main_arg5)
      ∧ m' ((c.tc : Thread Cert.ExpertsRefIdeal.nD Cert.ExpertsRefIdeal.τ).loc Cert.ExpertsRefIdeal.main_arg6) = m ((c.tc : Thread Cert.ExpertsIdeal.nD Cert.ExpertsIdeal.τ).loc Cert.ExpertsIdeal.main_arg6)) →
    ∃ (v0 : (c : Dev Cert.ExpertsIdeal.nD) → Buf (Elt Ideal) ((c.tc : Thread Cert.ExpertsIdeal.nD Cert.ExpertsIdeal.τ).loc Cert.ExpertsIdeal.main_v0_0)) (v1 : (c : Dev Cert.ExpertsIdeal.nD) → Buf (Elt Ideal) ((c.tc : Thread Cert.ExpertsIdeal.nD Cert.ExpertsIdeal.τ).loc Cert.ExpertsIdeal.main_v0_1)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v0_0) = v0 c
          ∧ r.2.mem ((c.tc : Thread Cert.ExpertsIdeal.nD Cert.ExpertsIdeal.τ).loc Cert.ExpertsIdeal.main_v0_1) = v1 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          r.2.mem ((c.tc : Thread Cert.ExpertsRefIdeal.nD Cert.ExpertsRefIdeal.τ).loc Cert.ExpertsRefIdeal.main_v17) = v0 c
          ∧ r.2.mem ((c.tc : Thread Cert.ExpertsRefIdeal.nD Cert.ExpertsRefIdeal.τ).loc Cert.ExpertsRefIdeal.main_v29) = v1 c
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3)
          ∧ r.2.mem ((c.tc : Thread Cert.ExpertsRefIdeal.nD Cert.ExpertsRefIdeal.τ).loc Cert.ExpertsRefIdeal.main_arg4) = m' ((c.tc : Thread Cert.ExpertsRefIdeal.nD Cert.ExpertsRefIdeal.τ).loc Cert.ExpertsRefIdeal.main_arg4)
          ∧ r.2.mem ((c.tc : Thread Cert.ExpertsRefIdeal.nD Cert.ExpertsRefIdeal.τ).loc Cert.ExpertsRefIdeal.main_arg5) = m' ((c.tc : Thread Cert.ExpertsRefIdeal.nD Cert.ExpertsRefIdeal.τ).loc Cert.ExpertsRefIdeal.main_arg5)
          ∧ r.2.mem ((c.tc : Thread Cert.ExpertsRefIdeal.nD Cert.ExpertsRefIdeal.τ).loc Cert.ExpertsRefIdeal.main_arg6) = m' ((c.tc : Thread Cert.ExpertsRefIdeal.nD Cert.ExpertsRefIdeal.τ).loc Cert.ExpertsRefIdeal.main_arg6))

def preserves_CombineS_CombineSIdeal : Prop :=
  True

def algebraic_CombineSIdeal_CombineSRefIdeal_pre_slots_in_order [hCombineSIdeal : Cert.CombineSIdeal.Facts] [hCombineSRefIdeal : Cert.CombineSRefIdeal.Facts] [hPre_slots_in_order : Cert.Pre_slots_in_order.Facts] : Prop :=
  ∀ (m : (ℓ : Loc Cert.CombineSIdeal.nD Cert.CombineSIdeal.τ Cert.CombineSIdeal.sig) → Buf (Elt Ideal) ℓ) (g : Dev Cert.CombineSIdeal.nD → PrngReg)
    (m' : (ℓ : Loc Cert.CombineSRefIdeal.nD Cert.CombineSRefIdeal.τ Cert.CombineSRefIdeal.sig) → Buf (Elt Ideal) ℓ) (g' : Dev Cert.CombineSRefIdeal.nD → PrngReg), Pre_CombineSIdeal_slots_in_order m →
    (∀ c : Dev Cert.CombineSIdeal.nD,
      m' ((c.tc : Thread Cert.CombineSRefIdeal.nD Cert.CombineSRefIdeal.τ).loc Cert.CombineSRefIdeal.main_arg0) = m ((c.tc : Thread Cert.CombineSIdeal.nD Cert.CombineSIdeal.τ).loc Cert.CombineSIdeal.main_arg0)
      ∧ m' ((c.tc : Thread Cert.CombineSRefIdeal.nD Cert.CombineSRefIdeal.τ).loc Cert.CombineSRefIdeal.main_arg1) = m ((c.tc : Thread Cert.CombineSIdeal.nD Cert.CombineSIdeal.τ).loc Cert.CombineSIdeal.main_arg1)
      ∧ m' ((c.tc : Thread Cert.CombineSRefIdeal.nD Cert.CombineSRefIdeal.τ).loc Cert.CombineSRefIdeal.main_arg2) = m ((c.tc : Thread Cert.CombineSIdeal.nD Cert.CombineSIdeal.τ).loc Cert.CombineSIdeal.main_arg2)
      ∧ m' ((c.tc : Thread Cert.CombineSRefIdeal.nD Cert.CombineSRefIdeal.τ).loc Cert.CombineSRefIdeal.main_arg3) = m ((c.tc : Thread Cert.CombineSIdeal.nD Cert.CombineSIdeal.τ).loc Cert.CombineSIdeal.main_arg3)
      ∧ m' ((c.tc : Thread Cert.CombineSRefIdeal.nD Cert.CombineSRefIdeal.τ).loc Cert.CombineSRefIdeal.main_arg4) = m ((c.tc : Thread Cert.CombineSIdeal.nD Cert.CombineSIdeal.τ).loc Cert.CombineSIdeal.main_arg4)
      ∧ m' ((c.tc : Thread Cert.CombineSRefIdeal.nD Cert.CombineSRefIdeal.τ).loc Cert.CombineSRefIdeal.main_arg5) = m ((c.tc : Thread Cert.CombineSIdeal.nD Cert.CombineSIdeal.τ).loc Cert.CombineSIdeal.main_arg5)) →
    ∃ (v0 : (c : Dev Cert.CombineSIdeal.nD) → Buf (Elt Ideal) ((c.tc : Thread Cert.CombineSIdeal.nD Cert.CombineSIdeal.τ).loc Cert.CombineSIdeal.main_v0)),
      θ_run (Cert.CombineSIdeal.defs (F := Ideal)) (onTc (τ := Cert.CombineSIdeal.τ) (Cert.CombineSIdeal.main (F := Ideal))) ⟨m, fun _ => 0, g⟩ (fun r => ∀ c : Dev Cert.CombineSIdeal.nD,
          r.2.mem ((c.tc : Thread Cert.CombineSIdeal.nD Cert.CombineSIdeal.τ).loc Cert.CombineSIdeal.main_v0) = v0 c
          ∧ r.2.mem ((c.tc : Thread Cert.CombineSIdeal.nD Cert.CombineSIdeal.τ).loc Cert.CombineSIdeal.main_arg0) = m ((c.tc : Thread Cert.CombineSIdeal.nD Cert.CombineSIdeal.τ).loc Cert.CombineSIdeal.main_arg0)
          ∧ r.2.mem ((c.tc : Thread Cert.CombineSIdeal.nD Cert.CombineSIdeal.τ).loc Cert.CombineSIdeal.main_arg1) = m ((c.tc : Thread Cert.CombineSIdeal.nD Cert.CombineSIdeal.τ).loc Cert.CombineSIdeal.main_arg1)
          ∧ r.2.mem ((c.tc : Thread Cert.CombineSIdeal.nD Cert.CombineSIdeal.τ).loc Cert.CombineSIdeal.main_arg2) = m ((c.tc : Thread Cert.CombineSIdeal.nD Cert.CombineSIdeal.τ).loc Cert.CombineSIdeal.main_arg2)
          ∧ r.2.mem ((c.tc : Thread Cert.CombineSIdeal.nD Cert.CombineSIdeal.τ).loc Cert.CombineSIdeal.main_arg3) = m ((c.tc : Thread Cert.CombineSIdeal.nD Cert.CombineSIdeal.τ).loc Cert.CombineSIdeal.main_arg3)
          ∧ r.2.mem ((c.tc : Thread Cert.CombineSIdeal.nD Cert.CombineSIdeal.τ).loc Cert.CombineSIdeal.main_arg4) = m ((c.tc : Thread Cert.CombineSIdeal.nD Cert.CombineSIdeal.τ).loc Cert.CombineSIdeal.main_arg4)
          ∧ r.2.mem ((c.tc : Thread Cert.CombineSIdeal.nD Cert.CombineSIdeal.τ).loc Cert.CombineSIdeal.main_arg5) = m ((c.tc : Thread Cert.CombineSIdeal.nD Cert.CombineSIdeal.τ).loc Cert.CombineSIdeal.main_arg5))
      ∧ θ_run (Cert.CombineSRefIdeal.defs (F := Ideal)) (onTc (τ := Cert.CombineSRefIdeal.τ) (Cert.CombineSRefIdeal.main (F := Ideal))) ⟨m', fun _ => 0, g'⟩ (fun r => ∀ c : Dev Cert.CombineSRefIdeal.nD,
          r.2.mem ((c.tc : Thread Cert.CombineSRefIdeal.nD Cert.CombineSRefIdeal.τ).loc Cert.CombineSRefIdeal.main_v31) = v0 c
          ∧ r.2.mem ((c.tc : Thread Cert.CombineSRefIdeal.nD Cert.CombineSRefIdeal.τ).loc Cert.CombineSRefIdeal.main_arg0) = m' ((c.tc : Thread Cert.CombineSRefIdeal.nD Cert.CombineSRefIdeal.τ).loc Cert.CombineSRefIdeal.main_arg0)
          ∧ r.2.mem ((c.tc : Thread Cert.CombineSRefIdeal.nD Cert.CombineSRefIdeal.τ).loc Cert.CombineSRefIdeal.main_arg1) = m' ((c.tc : Thread Cert.CombineSRefIdeal.nD Cert.CombineSRefIdeal.τ).loc Cert.CombineSRefIdeal.main_arg1)
          ∧ r.2.mem ((c.tc : Thread Cert.CombineSRefIdeal.nD Cert.CombineSRefIdeal.τ).loc Cert.CombineSRefIdeal.main_arg2) = m' ((c.tc : Thread Cert.CombineSRefIdeal.nD Cert.CombineSRefIdeal.τ).loc Cert.CombineSRefIdeal.main_arg2)
          ∧ r.2.mem ((c.tc : Thread Cert.CombineSRefIdeal.nD Cert.CombineSRefIdeal.τ).loc Cert.CombineSRefIdeal.main_arg3) = m' ((c.tc : Thread Cert.CombineSRefIdeal.nD Cert.CombineSRefIdeal.τ).loc Cert.CombineSRefIdeal.main_arg3)
          ∧ r.2.mem ((c.tc : Thread Cert.CombineSRefIdeal.nD Cert.CombineSRefIdeal.τ).loc Cert.CombineSRefIdeal.main_arg4) = m' ((c.tc : Thread Cert.CombineSRefIdeal.nD Cert.CombineSRefIdeal.τ).loc Cert.CombineSRefIdeal.main_arg4)
          ∧ r.2.mem ((c.tc : Thread Cert.CombineSRefIdeal.nD Cert.CombineSRefIdeal.τ).loc Cert.CombineSRefIdeal.main_arg5) = m' ((c.tc : Thread Cert.CombineSRefIdeal.nD Cert.CombineSRefIdeal.τ).loc Cert.CombineSRefIdeal.main_arg5))

def Claim : Prop :=
  ∃ (hKernel : Cert.Kernel.Facts) (hKernelIdeal : Cert.KernelIdeal.Facts) (hReferenceIdeal : Cert.ReferenceIdeal.Facts) (hMerge : Cert.Merge.Facts) (hMergeIdeal : Cert.MergeIdeal.Facts) (hMergeRefIdeal : Cert.MergeRefIdeal.Facts) (hInProj : Cert.InProj.Facts) (hInProjIdeal : Cert.InProjIdeal.Facts) (hInProjRefIdeal : Cert.InProjRefIdeal.Facts) (hInProjLast : Cert.InProjLast.Facts) (hInProjLastIdeal : Cert.InProjLastIdeal.Facts) (hInProjLastRefIdeal : Cert.InProjLastRefIdeal.Facts) (hCombine : Cert.Combine.Facts) (hCombineIdeal : Cert.CombineIdeal.Facts) (hCombineRefIdeal : Cert.CombineRefIdeal.Facts) (hExperts : Cert.Experts.Facts) (hExpertsIdeal : Cert.ExpertsIdeal.Facts) (hExpertsRefIdeal : Cert.ExpertsRefIdeal.Facts) (hCombineS : Cert.CombineS.Facts) (hCombineSIdeal : Cert.CombineSIdeal.Facts) (hCombineSRefIdeal : Cert.CombineSRefIdeal.Facts) (hPre_finite_scores : Cert.Pre_finite_scores.Facts) (hPre_offsets_nonneg : Cert.Pre_offsets_nonneg.Facts) (hPre_slots_in_order : Cert.Pre_slots_in_order.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Merge (hMerge := hMerge)
    ∧ quiescent_MergeIdeal (hMergeIdeal := hMergeIdeal)
    ∧ quiescent_MergeRefIdeal (hMergeRefIdeal := hMergeRefIdeal)
    ∧ quiescent_InProj (hInProj := hInProj)
    ∧ quiescent_InProjIdeal (hInProjIdeal := hInProjIdeal)
    ∧ quiescent_InProjRefIdeal (hInProjRefIdeal := hInProjRefIdeal)
    ∧ quiescent_InProjLast (hInProjLast := hInProjLast)
    ∧ quiescent_InProjLastIdeal (hInProjLastIdeal := hInProjLastIdeal)
    ∧ quiescent_InProjLastRefIdeal (hInProjLastRefIdeal := hInProjLastRefIdeal)
    ∧ quiescent_Combine (hCombine := hCombine)
    ∧ quiescent_CombineIdeal (hCombineIdeal := hCombineIdeal)
    ∧ quiescent_CombineRefIdeal (hCombineRefIdeal := hCombineRefIdeal)
    ∧ quiescent_Experts (hExperts := hExperts)
    ∧ quiescent_ExpertsIdeal (hExpertsIdeal := hExpertsIdeal)
    ∧ quiescent_ExpertsRefIdeal (hExpertsRefIdeal := hExpertsRefIdeal)
    ∧ quiescent_CombineS (hCombineS := hCombineS) (hPre_offsets_nonneg := hPre_offsets_nonneg)
    ∧ quiescent_CombineSIdeal (hCombineSIdeal := hCombineSIdeal) (hPre_offsets_nonneg := hPre_offsets_nonneg)
    ∧ quiescent_CombineSIdeal_pre_slots_in_order (hCombineSIdeal := hCombineSIdeal) (hPre_slots_in_order := hPre_slots_in_order)
    ∧ quiescent_CombineSRefIdeal (hCombineSRefIdeal := hCombineSRefIdeal)
    ∧ quiescent_CombineSRefIdeal_pre_slots_in_order (hCombineSRefIdeal := hCombineSRefIdeal) (hPre_slots_in_order := hPre_slots_in_order)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Merge_MergeIdeal
    ∧ algebraic_MergeIdeal_MergeRefIdeal (hMergeIdeal := hMergeIdeal) (hMergeRefIdeal := hMergeRefIdeal)
    ∧ preserves_InProj_InProjIdeal
    ∧ algebraic_InProjIdeal_InProjRefIdeal (hInProjIdeal := hInProjIdeal) (hInProjRefIdeal := hInProjRefIdeal)
    ∧ preserves_InProjLast_InProjLastIdeal
    ∧ algebraic_InProjLastIdeal_InProjLastRefIdeal (hInProjLastIdeal := hInProjLastIdeal) (hInProjLastRefIdeal := hInProjLastRefIdeal)
    ∧ preserves_Combine_CombineIdeal
    ∧ algebraic_CombineIdeal_CombineRefIdeal (hCombineIdeal := hCombineIdeal) (hCombineRefIdeal := hCombineRefIdeal)
    ∧ preserves_Experts_ExpertsIdeal
    ∧ algebraic_ExpertsIdeal_ExpertsRefIdeal (hExpertsIdeal := hExpertsIdeal) (hExpertsRefIdeal := hExpertsRefIdeal)
    ∧ preserves_CombineS_CombineSIdeal
    ∧ algebraic_CombineSIdeal_CombineSRefIdeal_pre_slots_in_order (hCombineSIdeal := hCombineSIdeal) (hCombineSRefIdeal := hCombineSRefIdeal) (hPre_slots_in_order := hPre_slots_in_order)
-- ==== Pre_finite_scores.lean ====
abbrev S16x256x2048 : Shape := ⟨3, ![16, 256, 2048]⟩
abbrev S4 : Shape := ⟨1, ![4]⟩
abbrev S16x256x384 : Shape := ⟨3, ![16, 256, 384]⟩
abbrev S_ : Shape := ⟨0, ![]⟩
abbrev S16x256x512 : Shape := ⟨3, ![16, 256, 512]⟩

class Facts : Prop where
  bitsLt_bf16_f32 : FTy.bits .bf16 < FTy.bits .f32
  slices_S16x256x2048_S16x256x384_0_0_768 : S16x256x2048.Slices ![0, 0, 768] S16x256x384
  bcast_S_S16x256x384 : S_.BroadcastsInDim S16x256x384 (![] : Fin 0 → Fin S16x256x384.rank)
  slices_S16x256x2048_S16x256x512_0_0_1280 : S16x256x2048.Slices ![0, 0, 1280] S16x256x512
  bcast_S_S16x256x512 : S_.BroadcastsInDim S16x256x512 (![] : Fin 0 → Fin S16x256x512.rank)
  bcast_S_S4 : S_.BroadcastsInDim S4 (![] : Fin 0 → Fin S4.rank)

variable [Facts]

def fn {F : FTy → Type} [FloatOps F] (main_arg0 : FVec F S16x256x2048 .bf16) (main_arg1 : FVec F S4 .f32) : IVec S16x256x384 1 × IVec S16x256x512 1 × IVec S4 1 :=
  let main_v0 : FVec F S16x256x2048 .f32 := (extf .f32 · bitsLt_bf16_f32) main_arg0
  let main_v1 : FVec F S16x256x384 .f32 := (extractStridedSlice S16x256x384 ![0, 0, 768] · slices_S16x256x2048_S16x256x384_0_0_768) main_v0
  let main_v2 : FVec F S16x256x384 .f32 := Host.absf main_v1
  let main_cst : FVec F S_ .f32 := constant S_ .f32 0x7F800000#32
  let main_v3 : FVec F S16x256x384 .f32 := broadcastInDim S16x256x384 ![] bcast_S_S16x256x384 main_cst
  let main_v4 : IVec S16x256x384 1 := cmpf .olt main_v2 main_v3
  let main_v5 : FVec F S16x256x512 .f32 := (extractStridedSlice S16x256x512 ![0, 0, 1280] · slices_S16x256x2048_S16x256x512_0_0_1280) main_v0
  let main_v6 : FVec F S16x256x512 .f32 := Host.absf main_v5
  let main_cst_0 : FVec F S_ .f32 := constant S_ .f32 0x7F800000#32
  let main_v7 : FVec F S16x256x512 .f32 := broadcastInDim S16x256x512 ![] bcast_S_S16x256x512 main_cst_0
  let main_v8 : IVec S16x256x512 1 := cmpf .olt main_v6 main_v7
  let main_v9 : FVec F S4 .f32 := Host.absf main_arg1
  let main_cst_1 : FVec F S_ .f32 := constant S_ .f32 0x7F800000#32
  let main_v10 : FVec F S4 .f32 := broadcastInDim S4 ![] bcast_S_S4 main_cst_1
  let main_v11 : IVec S4 1 := cmpf .olt main_v9 main_v10
  (main_v4, main_v8, main_v11)
-- ==== Pre_offsets_nonneg.lean ====
abbrev S1040 : Shape := ⟨1, ![1040]⟩
abbrev S8x2048x16 : Shape := ⟨3, ![8, 2048, 16]⟩
abbrev S16x8x256x1024 : Shape := ⟨4, ![16, 8, 256, 1024]⟩
abbrev S8x2048x1024 : Shape := ⟨3, ![8, 2048, 1024]⟩
abbrev S8x1x6144 : Shape := ⟨3, ![8, 1, 6144]⟩
abbrev S1x1024 : Shape := ⟨2, ![1, 1024]⟩
abbrev S1024 : Shape := ⟨1, ![1024]⟩
abbrev S8x8x1x16 : Shape := ⟨4, ![8, 8, 1, 16]⟩
abbrev S_ : Shape := ⟨0, ![]⟩

class Facts : Prop where
  slices_S1040_S1024_0 : S1040.Slices ![0] S1024
  shapeCasts_S1024_S8x8x1x16 : S1024.ShapeCasts S8x8x1x16
  bcast_S_S8x8x1x16 : S_.BroadcastsInDim S8x8x1x16 (![] : Fin 0 → Fin S8x8x1x16.rank)

variable [Facts]

def fn {F : FTy → Type} [FloatOps F] (main_arg0 : IVec S1040 32) (main_arg1 : FVec F S8x2048x16 .f32) (main_arg2 : FVec F S16x8x256x1024 .bf16) (main_arg3 : FVec F S8x2048x1024 .f32) (main_arg4 : FVec F S8x1x6144 .f32) (main_arg5 : FVec F S1x1024 .f32) : IVec S8x8x1x16 1 :=
  let main_v0 : IVec S1024 32 := (extractStridedSlice S1024 ![0] · slices_S1040_S1024_0) main_arg0
  let main_v1 : IVec S8x8x1x16 32 := shapeCast S8x8x1x16 main_v0 shapeCasts_S1024_S8x8x1x16
  let main_c : IVec S_ 32 := constantI S_ 32 0#32
  let main_v2 : IVec S8x8x1x16 32 := broadcastInDim S8x8x1x16 ![] bcast_S_S8x8x1x16 main_c
  let main_v3 : IVec S8x8x1x16 1 := cmpi .sge main_v1 main_v2
  main_v3
-- ==== Pre_slots_in_order.lean ====
abbrev S1040 : Shape := ⟨1, ![1040]⟩
abbrev S8x2048x16 : Shape := ⟨3, ![8, 2048, 16]⟩
abbrev S16x8x256x1024 : Shape := ⟨4, ![16, 8, 256, 1024]⟩
abbrev S8x2048x1024 : Shape := ⟨3, ![8, 2048, 1024]⟩
abbrev S8x1x6144 : Shape := ⟨3, ![8, 1, 6144]⟩
abbrev S1x1024 : Shape := ⟨2, ![1, 1024]⟩
abbrev S1024 : Shape := ⟨1, ![1024]⟩
abbrev S8x8x1x16 : Shape := ⟨4, ![8, 8, 1, 16]⟩
abbrev S8x7x1x16 : Shape := ⟨4, ![8, 7, 1, 16]⟩
abbrev S_ : Shape := ⟨0, ![]⟩
abbrev S8x1x1x16 : Shape := ⟨4, ![8, 1, 1, 16]⟩
abbrev S8x8x256x16 : Shape := ⟨4, ![8, 8, 256, 16]⟩

class Facts : Prop where
  slices_S1040_S1024_0 : S1040.Slices ![0] S1024
  shapeCasts_S1024_S8x8x1x16 : S1024.ShapeCasts S8x8x1x16
  slices_S8x8x1x16_S8x7x1x16_0_1_0_0 : S8x8x1x16.Slices ![0, 1, 0, 0] S8x7x1x16
  bcast_S_S8x1x1x16 : S_.BroadcastsInDim S8x1x1x16 (![] : Fin 0 → Fin S8x1x1x16.rank)
  concatenates_S8x7x1x16_S8x1x1x16_S8x8x1x16_d1 : Shape.Concatenates [S8x7x1x16, S8x1x1x16] S8x8x1x16 1
  shapeCasts_S8x2048x16_S8x8x256x16 : S8x2048x16.ShapeCasts S8x8x256x16
  bcast_S_S8x8x1x16 : S_.BroadcastsInDim S8x8x1x16 (![] : Fin 0 → Fin S8x8x1x16.rank)
  bcast_S_S8x8x256x16 : S_.BroadcastsInDim S8x8x256x16 (![] : Fin 0 → Fin S8x8x256x16.rank)
  bcast_S8x8x1x16_S8x8x256x16_0_1_2_3 : S8x8x1x16.BroadcastsInDim S8x8x256x16 (![0, 1, 2, 3] : Fin 4 → Fin S8x8x256x16.rank)

variable [Facts]

def fn {F : FTy → Type} [FloatOps F] (main_arg0 : IVec S1040 32) (main_arg1 : FVec F S8x2048x16 .f32) (main_arg2 : FVec F S16x8x256x1024 .bf16) (main_arg3 : FVec F S8x2048x1024 .f32) (main_arg4 : FVec F S8x1x6144 .f32) (main_arg5 : FVec F S1x1024 .f32) : IVec S8x8x1x16 1 × IVec S8x8x256x16 1 :=
  let main_v0 : IVec S1024 32 := (extractStridedSlice S1024 ![0] · slices_S1040_S1024_0) main_arg0
  let main_v1 : IVec S8x8x1x16 32 := shapeCast S8x8x1x16 main_v0 shapeCasts_S1024_S8x8x1x16
  let main_v2 : IVec S8x7x1x16 32 := (extractStridedSlice S8x7x1x16 ![0, 1, 0, 0] · slices_S8x8x1x16_S8x7x1x16_0_1_0_0) main_v1
  let main_c : IVec S_ 32 := constantI S_ 32 256#32
  let main_v3 : IVec S8x1x1x16 32 := broadcastInDim S8x1x1x16 ![] bcast_S_S8x1x1x16 main_c
  let main_v4 : IVec S8x8x1x16 32 := (fun a b => concatenate S8x8x1x16 1 [⟨S8x7x1x16, a⟩, ⟨S8x1x1x16, b⟩] concatenates_S8x7x1x16_S8x1x1x16_S8x8x1x16_d1) main_v2 main_v3
  let main_v5 : FVec F S8x8x256x16 .f32 := shapeCast S8x8x256x16 main_arg1 shapeCasts_S8x2048x16_S8x8x256x16
  let main_c_0 : IVec S_ 32 := constantI S_ 32 0#32
  let main_v6 : IVec S8x8x1x16 32 := broadcastInDim S8x8x1x16 ![] bcast_S_S8x8x1x16 main_c_0
  let main_v7 : IVec S8x8x1x16 1 := cmpi .sge main_v1 main_v6
  let main_cst : FVec F S_ .f32 := constant S_ .f32 0x00000000#32
  let main_v8 : FVec F S8x8x256x16 .f32 := broadcastInDim S8x8x256x16 ![] bcast_S_S8x8x256x16 main_cst
  let main_v9 : IVec S8x8x256x16 1 := cmpf .olt main_v5 main_v8
  let main_v10 : FVec F S8x8x1x16 .f32 := sitofp .f32 main_v1
  let main_v11 : FVec F S8x8x256x16 .f32 := broadcastInDim S8x8x256x16 ![0, 1, 2, 3] bcast_S8x8x1x16_S8x8x256x16_0_1_2_3 main_v10
  let main_v12 : IVec S8x8x256x16 1 := cmpf .ole main_v11 main_v5
  let main_v13 : FVec F S8x8x1x16 .f32 := sitofp .f32 main_v4
  let main_v14 : FVec F S8x8x256x16 .f32 := broadcastInDim S8x8x256x16 ![0, 1, 2, 3] bcast_S8x8x1x16_S8x8x256x16_0_1_2_3 main_v13
  let main_v15 : IVec S8x8x256x16 1 := cmpf .olt main_v5 main_v14
  let main_v16 : IVec S8x8x256x16 1 := andi main_v12 main_v15
  let main_v17 : IVec S8x8x256x16 1 := ori main_v9 main_v16
  (main_v7, main_v17)
-- ==== Kernel.lean ====
abbrev S16x256x2048 : Shape := ⟨3, ![16, 256, 2048]⟩
abbrev S4 : Shape := ⟨1, ![4]⟩
abbrev S16x256x256 : Shape := ⟨3, ![16, 256, 256]⟩
abbrev S1x256x256 : Shape := ⟨3, ![1, 256, 256]⟩
abbrev S1x256x64 : Shape := ⟨3, ![1, 256, 64]⟩
abbrev S256x64 : Shape := ⟨2, ![256, 64]⟩
abbrev S256x256 : Shape := ⟨2, ![256, 256]⟩
abbrev S1 : Shape := ⟨1, ![1]⟩
abbrev S1024x256 : Shape := ⟨2, ![1024, 256]⟩
abbrev S1024 : Shape := ⟨1, ![1024]⟩
abbrev S1024x1 : Shape := ⟨2, ![1024, 1]⟩

abbrev nBuf : Space → Nat
  | .hbm => 4
  | .vmem => 14
  | .smem => 1
  | _ => 0

abbrev bufTy : (tb : Table) → Fin (tcTables nBuf tb) → BufTy
  | .hbm, ⟨0, _⟩ => ⟨S16x256x2048, .bf16⟩
  | .hbm, ⟨1, _⟩ => ⟨S4, .f32⟩
  | .hbm, ⟨2, _⟩ => ⟨S16x256x256, .bf16⟩
  | .hbm, ⟨3, _⟩ => ⟨S16x256x256, .bf16⟩
  | .local _ .vmem, ⟨0, _⟩ => ⟨S1x256x256, .bf16⟩
  | .local _ .vmem, ⟨1, _⟩ => ⟨S1x256x256, .bf16⟩
  | .local _ .vmem, ⟨2, _⟩ => ⟨S1x256x256, .bf16⟩
  | .local _ .vmem, ⟨3, _⟩ => ⟨S1x256x256, .bf16⟩
  | .local _ .vmem, ⟨4, _⟩ => ⟨S1x256x256, .bf16⟩
  | .local _ .vmem, ⟨5, _⟩ => ⟨S1x256x256, .bf16⟩
  | .local _ .vmem, ⟨6, _⟩ => ⟨S1x256x256, .bf16⟩
  | .local _ .vmem, ⟨7, _⟩ => ⟨S1x256x256, .bf16⟩
  | .local _ .vmem, ⟨8, _⟩ => ⟨S1x256x256, .bf16⟩
  | .local _ .vmem, ⟨9, _⟩ => ⟨S1x256x256, .bf16⟩
  | .local _ .vmem, ⟨10, _⟩ => ⟨S1x256x256, .bf16⟩
  | .local _ .vmem, ⟨11, _⟩ => ⟨S1x256x256, .bf16⟩
  | .local _ .vmem, ⟨12, _⟩ => ⟨S1x256x256, .bf16⟩
  | .local _ .vmem, ⟨13, _⟩ => ⟨S1x256x256, .bf16⟩
  | .local _ .smem, ⟨0, _⟩ => ⟨S4, .f32⟩
  | _, _ => ⟨S16x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let c0_i32 : BitVec 32 := 0#32
  let c3_i32 : BitVec 32 := 3#32
  let c0_i32_0 : BitVec 32 := 0#32
  ![arg0.toNat, c0_i32.toNat, c3_i32.toNat]

def cc0_transform_2 (i : grid0.Coords) : Fin 3 → Nat :=
  let arg0 : BitVec 32 := BitVec.ofNat 32 (i 0).val
  let c0_i32 : BitVec 32 := 0#32
  let c4_i32 : BitVec 32 := 4#32
  let c0_i32_0 : BitVec 32 := 0#32
  ![arg0.toNat, c0_i32.toNat, c4_i32.toNat]

def cc0_transform_3 (i : grid0.Coords) : Fin 3 → Nat :=
  let arg0 : BitVec 32 := BitVec.ofNat 32 (i 0).val
  let c0_i32 : BitVec 32 := 0#32
  let c5_i32 : BitVec 32 := 5#32
  let c0_i32_0 : BitVec 32 := 0#32
  ![arg0.toNat, c0_i32.toNat, c5_i32.toNat]

def cc0_transform_4 (i : grid0.Coords) : Fin 3 → Nat :=
  let arg0 : BitVec 32 := BitVec.ofNat 32 (i 0).val
  let c0_i32 : BitVec 32 := 0#32
  let c6_i32 : BitVec 32 := 6#32
  let c0_i32_0 : BitVec 32 := 0#32
  ![arg0.toNat, c0_i32.toNat, c6_i32.toNat]

def cc0_transform_5 (i : grid0.Coords) : Fin 3 → Nat :=
  let arg0 : BitVec 32 := BitVec.ofNat 32 (i 0).val
  let c0_i32 : BitVec 32 := 0#32
  let c7_i32 : BitVec 32 := 7#32
  let c0_i32_0 : BitVec 32 := 0#32
  ![arg0.toNat, c0_i32.toNat, c7_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S16x256x2048 : Shape := ⟨3, ![16, 256, 2048]⟩
abbrev S4 : Shape := ⟨1, ![4]⟩
abbrev S16x256x768 : Shape := ⟨3, ![16, 256, 768]⟩
abbrev S16x256x256 : Shape := ⟨3, ![16, 256, 256]⟩
abbrev S16x256x128 : Shape := ⟨3, ![16, 256, 128]⟩
abbrev S16x256x4x64 : Shape := ⟨4, ![16, 256, 4, 64]⟩
abbrev S16x256x2x64 : Shape := ⟨4, ![16, 256, 2, 64]⟩
abbrev S16x2x256x64 : Shape := ⟨4, ![16, 2, 256, 64]⟩
abbrev S16x4x256x64 : Shape := ⟨4, ![16, 4, 256, 64]⟩
abbrev S16x256x2x2x64 : Shape := ⟨5, ![16, 256, 2, 2, 64]⟩
abbrev S16x2x2x256x64 : Shape := ⟨5, ![16, 2, 2, 256, 64]⟩
abbrev S16x2x2x256x256 : Shape := ⟨5, ![16, 2, 2, 256, 256]⟩
abbrev S_ : Shape := ⟨0, ![]⟩
abbrev S1x2x2x1x1 : Shape := ⟨5, ![1, 2, 2, 1, 1]⟩
abbrev S16x2x2x256x1 : Shape := ⟨5, ![16, 2, 2, 256, 1]⟩
abbrev S16x2x2x256x257 : Shape := ⟨5, ![16, 2, 2, 256, 257]⟩
abbrev S16x2x2x256 : Shape := ⟨4, ![16, 2, 2, 256]⟩
abbrev S16x256x4x1x64 : Shape := ⟨5, ![16, 256, 4, 1, 64]⟩
abbrev S16x4x1x256x64 : Shape := ⟨5, ![16, 4, 1, 256, 64]⟩
abbrev S16x4x1x256x256 : Shape := ⟨5, ![16, 4, 1, 256, 256]⟩
abbrev S16x4x1x256 : Shape := ⟨4, ![16, 4, 1, 256]⟩
abbrev S16x4x1x256x1 : Shape := ⟨5, ![16, 4, 1, 256, 1]⟩

abbrev nBuf : Space → Nat
  | .hbm => 72
  | .vmem => 0
  | .smem => 0
  | _ => 0

abbrev bufTy : (tb : Table) → Fin (tcTables nBuf tb) → BufTy
  | .hbm, ⟨0, _⟩ => ⟨S16x256x2048, .bf16⟩
  | .hbm, ⟨1, _⟩ => ⟨S4, .f32⟩
  | .hbm, ⟨2, _⟩ => ⟨S16x256x2048, .f32⟩
  | .hbm, ⟨3, _⟩ => ⟨S16x256x768, .f32⟩
  | .hbm, ⟨4, _⟩ => ⟨S16x256x256, .f32⟩
  | .hbm, ⟨5, _⟩ => ⟨S16x256x128, .f32⟩
  | .hbm, ⟨6, _⟩ => ⟨S16x256x128, .f32⟩
  | .hbm, ⟨7, _⟩ => ⟨S16x256x256, .f32⟩
  | .hbm, ⟨8, _⟩ => ⟨S16x256x256, .f32⟩
  | .hbm, ⟨9, _⟩ => ⟨S16x256x256, .f32⟩
  | .hbm, ⟨10, _⟩ => ⟨S16x256x4x64, .f32⟩
  | .hbm, ⟨11, _⟩ => ⟨S16x256x2x64, .f32⟩
  | .hbm, ⟨12, _⟩ => ⟨S16x256x2x64, .f32⟩
  | .hbm, ⟨13, _⟩ => ⟨S16x256x4x64, .f32⟩
  | .hbm, ⟨14, _⟩ => ⟨S16x256x4x64, .f32⟩
  | .hbm, ⟨15, _⟩ => ⟨S16x256x4x64, .f32⟩
  | .hbm, ⟨16, _⟩ => ⟨S16x2x256x64, .f32⟩
  | .hbm, ⟨17, _⟩ => ⟨S16x2x256x64, .f32⟩
  | .hbm, ⟨18, _⟩ => ⟨S16x4x256x64, .f32⟩
  | .hbm, ⟨19, _⟩ => ⟨S16x4x256x64, .f32⟩
  | .hbm, ⟨20, _⟩ => ⟨S16x256x2x2x64, .f32⟩
  | .hbm, ⟨21, _⟩ => ⟨S16x2x2x256x64, .f32⟩
  | .hbm, ⟨22, _⟩ => ⟨S16x2x2x256x256, .f32⟩
  | .hbm, ⟨23, _⟩ => ⟨S_, .f32⟩
  | .hbm, ⟨24, _⟩ => ⟨S16x2x2x256x256, .f32⟩
  | .hbm, ⟨25, _⟩ => ⟨S16x2x2x256x256, .f32⟩
  | .hbm, ⟨26, _⟩ => ⟨S1x2x2x1x1, .f32⟩
  | .hbm, ⟨27, _⟩ => ⟨S16x2x2x256x1, .f32⟩
  | .hbm, ⟨28, _⟩ => ⟨S16x2x2x256x257, .f32⟩
  | .hbm, ⟨29, _⟩ => ⟨S_, .f32⟩
  | .hbm, ⟨30, _⟩ => ⟨S16x2x2x256, .f32⟩
  | .hbm, ⟨31, _⟩ => ⟨S_, .f32⟩
  | .hbm, ⟨32, _⟩ => ⟨S16x2x2x256, .f32⟩
  | .hbm, ⟨33, _⟩ => ⟨S16x2x2x256, .f32⟩
  | .hbm, ⟨34, _⟩ => ⟨S16x2x2x256x1, .f32⟩
  | .hbm, ⟨35, _⟩ => ⟨S16x2x2x256x257, .f32⟩
  | .hbm, ⟨36, _⟩ => ⟨S16x2x2x256x257, .f32⟩
  | .hbm, ⟨37, _⟩ => ⟨S16x2x2x256x257, .f32⟩
  | .hbm, ⟨38, _⟩ => ⟨S_, .f32⟩
  | .hbm, ⟨39, _⟩ => ⟨S16x2x2x256, .f32⟩
  | .hbm, ⟨40, _⟩ => ⟨S16x2x2x256x1, .f32⟩
  | .hbm, ⟨41, _⟩ => ⟨S16x2x2x256x257, .f32⟩
  | .hbm, ⟨42, _⟩ => ⟨S16x2x2x256x257, .f32⟩
  | .hbm, ⟨43, _⟩ => ⟨S16x2x2x256x256, .f32⟩
  | .hbm, ⟨44, _⟩ => ⟨S16x2x2x256x64, .f32⟩
  | .hbm, ⟨45, _⟩ => ⟨S16x256x2x2x64, .f32⟩
  | .hbm, ⟨46, _⟩ => ⟨S16x256x256, .f32⟩
  | .hbm, ⟨47, _⟩ => ⟨S16x256x4x1x64, .f32⟩
  | .hbm, ⟨48, _⟩ => ⟨S16x4x1x256x64, .f32⟩
  | .hbm, ⟨49, _⟩ => ⟨S16x4x1x256x256, .f32⟩
  | .hbm, ⟨50, _⟩ => ⟨S_, .f32⟩
  | .hbm, ⟨51, _⟩ => ⟨S16x4x1x256x256, .f32⟩
  | .hbm, ⟨52, _⟩ => ⟨S16x4x1x256x256, .f32⟩
  | .hbm, ⟨53, _⟩ => ⟨S_, .f32⟩
  | .hbm, ⟨54, _⟩ => ⟨S16x4x1x256, .f32⟩
  | .hbm, ⟨55, _⟩ => ⟨S_, .f32⟩
  | .hbm, ⟨56, _⟩ => ⟨S16x4x1x256, .f32⟩
  | .hbm, ⟨57, _⟩ => ⟨S16x4x1x256, .f32⟩
  | .hbm, ⟨58, _⟩ => ⟨S16x4x1x256x1, .f32⟩
  | .hbm, ⟨59, _⟩ => ⟨S16x4x1x256x256, .f32⟩
  | .hbm, ⟨60, _⟩ => ⟨S16x4x1x256x256, .f32⟩
  | .hbm, ⟨61, _⟩ => ⟨S16x4x1x256x256, .f32⟩
  | .hbm, ⟨62, _⟩ => ⟨S_, .f32⟩
  | .hbm, ⟨63, _⟩ => ⟨S16x4x1x256, .f32⟩
  | .hbm, ⟨64, _⟩ => ⟨S16x4x1x256x1, .f32⟩
  | .hbm, ⟨65, _⟩ => ⟨S16x4x1x256x256, .f32⟩
  | .hbm, ⟨66, _⟩ => ⟨S16x4x1x256x256, .f32⟩
  | .hbm, ⟨67, _⟩ => ⟨S16x4x1x256x64, .f32⟩
  | .hbm, ⟨68, _⟩ => ⟨S16x256x4x1x64, .f32⟩
  | .hbm, ⟨69, _⟩ => ⟨S16x256x256, .f32⟩
  | .hbm, ⟨70, _⟩ => ⟨S16x256x256, .bf16⟩
  | .hbm, ⟨71, _⟩ => ⟨S16x256x256, .bf16⟩
  | _, _ => ⟨S16x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_cst : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_cst_0 : Ref sig .tc := ⟨.hbm, 29, rfl⟩
abbrev main_v26 : Ref sig .tc := ⟨.hbm, 30, rfl⟩
abbrev main_cst_1 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_cst_2 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_cst_3 : Ref sig .tc := ⟨.hbm, 50, rfl⟩
abbrev main_v44 : Ref sig .tc := ⟨.hbm, 51, rfl⟩
abbrev main_v45 : Ref sig .tc := ⟨.hbm, 52, rfl⟩
abbrev main_cst_4 : Ref sig .tc := ⟨.hbm, 53, rfl⟩
abbrev main_v46 : Ref sig .tc := ⟨.hbm, 54, rfl⟩
abbrev main_cst_5 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_cst_6 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩

abbrev nD : Nat := 1
abbrev τ : Topo := Topo.v7x

variable {F : FTy → Type} [FloatOps F]
-- ==== Merge.lean ====
abbrev S8x2048x1024 : Shape := ⟨3, ![8, 2048, 1024]⟩
abbrev S1x1024 : Shape := ⟨2, ![1, 1024]⟩
abbrev S8x1x6144 : Shape := ⟨3, ![8, 1, 6144]⟩
abbrev S8x2048x256 : Shape := ⟨3, ![8, 2048, 256]⟩
abbrev S2x1024x6144 : Shape := ⟨3, ![2, 1024, 6144]⟩
abbrev S2x4x256x1024 : Shape := ⟨4, ![2, 4, 256, 1024]⟩
abbrev S2x1024x1024 : Shape := ⟨3, ![2, 1024, 1024]⟩
abbrev S1x512x1024 : Shape := ⟨3, ![1, 512, 1024]⟩
abbrev S1x1x1024 : Shape := ⟨3, ![1, 1, 1024]⟩
abbrev S1x512x256 : Shape := ⟨3, ![1, 512, 256]⟩
abbrev S1x1024x2048 : Shape := ⟨3, ![1, 1024, 2048]⟩
abbrev S1x4x256x1024 : Shape := ⟨4, ![1, 4, 256, 1024]⟩
abbrev S1x1024x1024 : Shape := ⟨3, ![1, 1024, 1024]⟩
abbrev S512x1024 : Shape := ⟨2, ![512, 1024]⟩
abbrev S512 : Shape := ⟨1, ![512]⟩
abbrev S512x1 : Shape := ⟨2, ![512, 1]⟩
abbrev S1024x1024 : Shape := ⟨2, ![1024, 1024]⟩
abbrev S512x256 : Shape := ⟨2, ![512, 256]⟩
abbrev S1x1x256x1024 : Shape := ⟨4, ![1, 1, 256, 1024]⟩
abbrev S256x1024 : Shape := ⟨2, ![256, 1024]⟩

abbrev nBuf : Space → Nat
  | .hbm => 11
  | .vmem => 23
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S8x1x6144, .f32⟩
  | .hbm, ⟨3, _⟩ => ⟨S8x2048x256, .bf16⟩
  | .hbm, ⟨4, _⟩ => ⟨S8x2048x256, .bf16⟩
  | .hbm, ⟨5, _⟩ => ⟨S8x2048x256, .bf16⟩
  | .hbm, ⟨6, _⟩ => ⟨S8x2048x256, .bf16⟩
  | .hbm, ⟨7, _⟩ => ⟨S2x1024x6144, .bf16⟩
  | .hbm, ⟨8, _⟩ => ⟨S2x4x256x1024, .bf16⟩
  | .hbm, ⟨9, _⟩ => ⟨S2x1024x1024, .bf16⟩
  | .hbm, ⟨10, _⟩ => ⟨S8x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x512x256, .bf16⟩
  | .local _ .vmem, ⟨10, _⟩ => ⟨S1x512x256, .bf16⟩
  | .local _ .vmem, ⟨11, _⟩ => ⟨S1x512x256, .bf16⟩
  | .local _ .vmem, ⟨12, _⟩ => ⟨S1x512x256, .bf16⟩
  | .local _ .vmem, ⟨13, _⟩ => ⟨S1x512x256, .bf16⟩
  | .local _ .vmem, ⟨14, _⟩ => ⟨S1x512x256, .bf16⟩
  | .local _ .vmem, ⟨15, _⟩ => ⟨S1x512x256, .bf16⟩
  | .local _ .vmem, ⟨16, _⟩ => ⟨S1x512x256, .bf16⟩
  | .local _ .vmem, ⟨17, _⟩ => ⟨S1x1024x2048, .bf16⟩
  | .local _ .vmem, ⟨18, _⟩ => ⟨S1x1024x2048, .bf16⟩
  | .local _ .vmem, ⟨19, _⟩ => ⟨S1x4x256x1024, .bf16⟩
  | .local _ .vmem, ⟨20, _⟩ => ⟨S1x1024x1024, .bf16⟩
  | .local _ .vmem, ⟨21, _⟩ => ⟨S1x512x1024, .f32⟩
  | .local _ .vmem, ⟨22, _⟩ => ⟨S1x512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c1_i32 : BitVec 32 := 1#32
  let c0_i32_1 : BitVec 32 := 0#32
  ![c0_i32.toNat, c0_i32_0.toNat, c1_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c2_i32 : BitVec 32 := 2#32
  let c0_i32_1 : BitVec 32 := 0#32
  ![c0_i32.toNat, c0_i32_0.toNat, c2_i32.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S1x1024x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x4x256x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== MergeRefIdeal.lean ====
abbrev S8x2048x1024 : Shape := ⟨3, ![8, 2048, 1024]⟩
abbrev S1x1024 : Shape := ⟨2, ![1, 1024]⟩
abbrev S8x1x6144 : Shape := ⟨3, ![8, 1, 6144]⟩
abbrev S8x2048x256 : Shape := ⟨3, ![8, 2048, 256]⟩
abbrev S2x1024x6144 : Shape := ⟨3, ![2, 1024, 6144]⟩
abbrev S2x4x256x1024 : Shape := ⟨4, ![2, 4, 256, 1024]⟩
abbrev S2x1024x1024 : Shape := ⟨3, ![2, 1024, 1024]⟩
abbrev S8x1x1024 : Shape := ⟨3, ![8, 1, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1x1024x6144 : Shape := ⟨3, ![1, 1024, 6144]⟩
abbrev S1024x6144 : Shape := ⟨2, ![1024, 6144]⟩
abbrev S1024x4096 : Shape := ⟨2, ![1024, 4096]⟩
abbrev S8x2048x4096 : Shape := ⟨3, ![8, 2048, 4096]⟩
abbrev S8x2048x1x256 : Shape := ⟨4, ![8, 2048, 1, 256]⟩
abbrev S8x2048x4x256 : Shape := ⟨4, ![8, 2048, 4, 256]⟩
abbrev S1x4x256x1024 : Shape := ⟨4, ![1, 4, 256, 1024]⟩
abbrev S4x256x1024 : Shape := ⟨3, ![4, 256, 1024]⟩
abbrev S4x1024x8x2048 : Shape := ⟨4, ![4, 1024, 8, 2048]⟩
abbrev S8x2048x4x1024 : Shape := ⟨4, ![8, 2048, 4, 1024]⟩
abbrev S1x1024x1024 : Shape := ⟨3, ![1, 1024, 1024]⟩
abbrev S1024x1024 : Shape := ⟨2, ![1024, 1024]⟩

abbrev nBuf : Space → Nat
  | .hbm => 75
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1x1024, .f32⟩
  | .hbm, ⟨2, _⟩ => ⟨S8x1x6144, .f32⟩
  | .hbm, ⟨3, _⟩ => ⟨S8x2048x256, .bf16⟩
  | .hbm, ⟨4, _⟩ => ⟨S8x2048x256, .bf16⟩
  | .hbm, ⟨5, _⟩ => ⟨S8x2048x256, .bf16⟩
  | .hbm, ⟨6, _⟩ => ⟨S8x2048x256, .bf16⟩
  | .hbm, ⟨7, _⟩ => ⟨S2x1024x6144, .bf16⟩
  | .hbm, ⟨8, _⟩ => ⟨S2x4x256x1024, .bf16⟩
  | .hbm, ⟨9, _⟩ => ⟨S2x1024x1024, .bf16⟩
  | .hbm, ⟨10, _⟩ => ⟨S8x1x1024, .f32⟩
  | .hbm, ⟨11, _⟩ => ⟨S8x1x1024, .f32⟩
  | .hbm, ⟨12, _⟩ => ⟨S8x1x1024, .f32⟩
  | .hbm, ⟨13, _⟩ => ⟨S8x1x1024, .f32⟩
  | .hbm, ⟨14, _⟩ => ⟨S8x1x1024, .f32⟩
  | .hbm, ⟨15, _⟩ => ⟨S8x1x1024, .f32⟩
  | .hbm, ⟨16, _⟩ => ⟨S8x2048x1024, .f32⟩
  | .hbm, ⟨17, _⟩ => ⟨S_, .f32⟩
  | .hbm, ⟨18, _⟩ => ⟨S8x2048, .f32⟩
  | .hbm, ⟨19, _⟩ => ⟨S8x2048x1, .f32⟩
  | .hbm, ⟨20, _⟩ => ⟨S_, .f32⟩
  | .hbm, ⟨21, _⟩ => ⟨S8x2048x1, .f32⟩
  | .hbm, ⟨22, _⟩ => ⟨S8x2048x1, .f32⟩
  | .hbm, ⟨23, _⟩ => ⟨S_, .f32⟩
  | .hbm, ⟨24, _⟩ => ⟨S8x2048x1, .f32⟩
  | .hbm, ⟨25, _⟩ => ⟨S8x2048x1, .f32⟩
  | .hbm, ⟨26, _⟩ => ⟨S8x2048x1, .f32⟩
  | .hbm, ⟨27, _⟩ => ⟨S8x2048x1024, .f32⟩
  | .hbm, ⟨28, _⟩ => ⟨S8x2048x1024, .f32⟩
  | .hbm, ⟨29, _⟩ => ⟨S1x1x1024, .f32⟩
  | .hbm, ⟨30, _⟩ => ⟨S8x2048x1024, .f32⟩
  | .hbm, ⟨31, _⟩ => ⟨S8x2048x1024, .f32⟩
  | .hbm, ⟨32, _⟩ => ⟨S_, .f32⟩
  | .hbm, ⟨33, _⟩ => ⟨S8x1x1024, .f32⟩
  | .hbm, ⟨34, _⟩ => ⟨S8x1x1024, .f32⟩
  | .hbm, ⟨35, _⟩ => ⟨S8x2048x1024, .f32⟩
  | .hbm, ⟨36, _⟩ => ⟨S8x2048x1024, .f32⟩
  | .hbm, ⟨37, _⟩ => ⟨S8x2048x1024, .f32⟩
  | .hbm, ⟨38, _⟩ => ⟨S8x2048x1024, .f32⟩
  | .hbm, ⟨39, _⟩ => ⟨S1x1024x6144, .bf16⟩
  | .hbm, ⟨40, _⟩ => ⟨S1024x6144, .bf16⟩
  | .hbm, ⟨41, _⟩ => ⟨S1024x6144, .f32⟩
  | .hbm, ⟨42, _⟩ => ⟨S1024x4096, .f32⟩
  | .hbm, ⟨43, _⟩ => ⟨S8x2048x4096, .f32⟩
  | .hbm, ⟨44, _⟩ => ⟨S8x2048x256, .f32⟩
  | .hbm, ⟨45, _⟩ => ⟨S8x2048x256, .f32⟩
  | .hbm, ⟨46, _⟩ => ⟨S8x2048x256, .f32⟩
  | .hbm, ⟨47, _⟩ => ⟨S8x2048x256, .f32⟩
  | .hbm, ⟨48, _⟩ => ⟨S8x2048x1x256, .f32⟩
  | .hbm, ⟨49, _⟩ => ⟨S8x2048x1x256, .f32⟩
  | .hbm, ⟨50, _⟩ => ⟨S8x2048x1x256, .f32⟩
  | .hbm, ⟨51, _⟩ => ⟨S8x2048x1x256, .f32⟩
  | .hbm, ⟨52, _⟩ => ⟨S8x2048x4x256, .f32⟩
  | .hbm, ⟨53, _⟩ => ⟨S1x4x256x1024, .bf16⟩
  | .hbm, ⟨54, _⟩ => ⟨S4x256x1024, .bf16⟩
  | .hbm, ⟨55, _⟩ => ⟨S4x256x1024, .f32⟩
  | .hbm, ⟨56, _⟩ => ⟨S4x1024x8x2048, .f32⟩
  | .hbm, ⟨57, _⟩ => ⟨S8x2048x4x1024, .f32⟩
  | .hbm, ⟨58, _⟩ => ⟨S8x2048x4x1024, .f32⟩
  | .hbm, ⟨59, _⟩ => ⟨S8x2048x4x1024, .f32⟩
  | .hbm, ⟨60, _⟩ => ⟨S8x2048x4x1024, .f32⟩
  | .hbm, ⟨61, _⟩ => ⟨S_, .f32⟩
  | .hbm, ⟨62, _⟩ => ⟨S8x2048x4x1024, .f32⟩
  | .hbm, ⟨63, _⟩ => ⟨S8x2048x4x1024, .f32⟩
  | .hbm, ⟨64, _⟩ => ⟨S_, .f32⟩
  | .hbm, ⟨65, _⟩ => ⟨S8x2048x4x1024, .f32⟩
  | .hbm, ⟨66, _⟩ => ⟨S8x2048x4x1024, .f32⟩
  | .hbm, ⟨67, _⟩ => ⟨S8x2048x1024, .f32⟩
  | .hbm, ⟨68, _⟩ => ⟨S1x1024x1024, .bf16⟩
  | .hbm, ⟨69, _⟩ => ⟨S1024x1024, .bf16⟩
  | .hbm, ⟨70, _⟩ => ⟨S1024x1024, .f32⟩
  | .hbm, ⟨71, _⟩ => ⟨S8x2048x1024, .f32⟩
  | .hbm, ⟨72, _⟩ => ⟨S8x2048x1024, .f32⟩
  | .hbm, ⟨73, _⟩ => ⟨S8x2048x1024, .f32⟩
  | .hbm, ⟨74, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_2 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_3 : Ref sig .tc := ⟨.hbm, 61, rfl⟩
abbrev main_v47 : Ref sig .tc := ⟨.hbm, 62, rfl⟩
abbrev main_v48 : Ref sig .tc := ⟨.hbm, 63, rfl⟩
abbrev main_cst_4 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩

abbrev nD : Nat := 1
abbrev τ : Topo := Topo.v7x

variable {F : FTy → Type} [FloatOps F]
-- ==== InProj.lean ====
abbrev S16x256x1024 : Shape := ⟨3, ![16, 256, 1024]⟩
abbrev S1x1024 : Shape := ⟨2, ![1, 1024]⟩
abbrev S1x1x6144 : Shape := ⟨3, ![1, 1, 6144]⟩
abbrev S2x1024x6144 : Shape := ⟨3, ![2, 1024, 6144]⟩
abbrev S16x256x2048 : Shape := ⟨3, ![16, 256, 2048]⟩
abbrev S16x2x2x64x256 : Shape := ⟨5, ![16, 2, 2, 64, 256]⟩
abbrev S16x2x4x64x256 : Shape := ⟨5, ![16, 2, 4, 64, 256]⟩
abbrev S1x256x1024 : Shape := ⟨3, ![1, 256, 1024]⟩
abbrev S1x1x1024 : Shape := ⟨3, ![1, 1, 1024]⟩
abbrev S1x1024x2048 : Shape := ⟨3, ![1, 1024, 2048]⟩
abbrev S1x256x2048 : Shape := ⟨3, ![1, 256, 2048]⟩
abbrev S1x2x2x64x256 : Shape := ⟨5, ![1, 2, 2, 64, 256]⟩
abbrev S1x2x4x64x256 : Shape := ⟨5, ![1, 2, 4, 64, 256]⟩
abbrev S256x1024 : Shape := ⟨2, ![256, 1024]⟩
abbrev S256 : Shape := ⟨1, ![256]⟩
abbrev S256x1 : Shape := ⟨2, ![256, 1]⟩
abbrev S1024x2048 : Shape := ⟨2, ![1024, 2048]⟩
abbrev S256x2048 : Shape := ⟨2, ![256, 2048]⟩
abbrev S256x64 : Shape := ⟨2, ![256, 64]⟩
abbrev S64x256 : Shape := ⟨2, ![64, 256]⟩
abbrev S1x1x1x64x256 : Shape := ⟨5, ![1, 1, 1, 64, 256]⟩
abbrev S2x64x256 : Shape := ⟨3, ![2, 64, 256]⟩
abbrev S1x1x2x64x256 : Shape := ⟨5, ![1, 1, 2, 64, 256]⟩
abbrev S4x64x256 : Shape := ⟨3, ![4, 64, 256]⟩
abbrev S1x1x4x64x256 : Shape := ⟨5, ![1, 1, 4, 64, 256]⟩

abbrev nBuf : Space → Nat
  | .hbm => 9
  | .vmem => 16
  | .smem => 0
  | _ => 0

abbrev bufTy : (tb : Table) → Fin (tcTables nBuf tb) → BufTy
  | .hbm, ⟨0, _⟩ => ⟨S16x256x1024, .f32⟩
  | .hbm, ⟨1, _⟩ => ⟨S1x1024, .f32⟩
  | .hbm, ⟨2, _⟩ => ⟨S1x1x6144, .f32⟩
  | .hbm, ⟨3, _⟩ => ⟨S2x1024x6144, .bf16⟩
  | .hbm, ⟨4, _⟩ => ⟨S16x256x2048, .bf16⟩
  | .hbm, ⟨5, _⟩ => ⟨S16x2x2x64x256, .f32⟩
  | .hbm, ⟨6, _⟩ => ⟨S16x2x2x64x256, .f32⟩
  | .hbm, ⟨7, _⟩ => ⟨S16x2x4x64x256, .f32⟩
  | .hbm, ⟨8, _⟩ => ⟨S16x2x4x64x256, .f32⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1024x2048, .bf16⟩
  | .local _ .vmem, ⟨6, _⟩ => ⟨S1x256x2048, .bf16⟩
  | .local _ .vmem, ⟨7, _⟩ => ⟨S1x256x2048, .bf16⟩
  | .local _ .vmem, ⟨8, _⟩ => ⟨S1x2x2x64x256, .f32⟩
  | .local _ .vmem, ⟨9, _⟩ => ⟨S1x2x2x64x256, .f32⟩
  | .local _ .vmem, ⟨10, _⟩ => ⟨S1x2x2x64x256, .f32⟩
  | .local _ .vmem, ⟨11, _⟩ => ⟨S1x2x2x64x256, .f32⟩
  | .local _ .vmem, ⟨12, _⟩ => ⟨S1x2x4x64x256, .f32⟩
  | .local _ .vmem, ⟨13, _⟩ => ⟨S1x2x4x64x256, .f32⟩
  | .local _ .vmem, ⟨14, _⟩ => ⟨S1x2x4x64x256, .f32⟩
  | .local _ .vmem, ⟨15, _⟩ => ⟨S1x2x4x64x256, .f32⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![16, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c1_i32 : BitVec 32 := 1#32
  let c0_i32_1 : BitVec 32 := 0#32
  ![c0_i32.toNat, c0_i32_0.toNat, c1_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat, arg1.toNat]

def cc0_transform_7 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat, arg1.toNat]

def cc0_transform_8 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat, arg1.toNat]

def cc0_transform_9 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat, arg1.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2x2x64x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2x2x64x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2x4x64x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2x4x64x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== InProjRefIdeal.lean ====
abbrev S16x256x1024 : Shape := ⟨3, ![16, 256, 1024]⟩
abbrev S1x1024 : Shape := ⟨2, ![1, 1024]⟩
abbrev S1x1x6144 : Shape := ⟨3, ![1, 1, 6144]⟩
abbrev S2x1024x6144 : Shape := ⟨3, ![2, 1024, 6144]⟩
abbrev S1x1x1024 : Shape := ⟨3, ![1, 1, 1024]⟩
abbrev S_ : Shape := ⟨0, ![]⟩
abbrev S16x256 : Shape := ⟨2, ![16, 256]⟩
abbrev S16x256x1 : Shape := ⟨3, ![16, 256, 1]⟩
abbrev S1x1024x6144 : Shape := ⟨3, ![1, 1024, 6144]⟩
abbrev S1024x6144 : Shape := ⟨2, ![1024, 6144]⟩
abbrev S1024x2048 : Shape := ⟨2, ![1024, 2048]⟩
abbrev S16x256x2048 : Shape := ⟨3, ![16, 256, 2048]⟩
abbrev S16x256x128 : Shape := ⟨3, ![16, 256, 128]⟩
abbrev S16x256x256 : Shape := ⟨3, ![16, 256, 256]⟩
abbrev S16x256x2x64 : Shape := ⟨4, ![16, 256, 2, 64]⟩
abbrev S16x2x256x64 : Shape := ⟨4, ![16, 2, 256, 64]⟩
abbrev S16x1x2x256x64 : Shape := ⟨5, ![16, 1, 2, 256, 64]⟩
abbrev S16x2x2x256x64 : Shape := ⟨5, ![16, 2, 2, 256, 64]⟩
abbrev S16x2x2x64x256 : Shape := ⟨5, ![16, 2, 2, 64, 256]⟩
abbrev S16x256x4x64 : Shape := ⟨4, ![16, 256, 4, 64]⟩
abbrev S16x4x256x64 : Shape := ⟨4, ![16, 4, 256, 64]⟩
abbrev S16x1x4x256x64 : Shape := ⟨5, ![16, 1, 4, 256, 64]⟩
abbrev S16x2x4x256x64 : Shape := ⟨5, ![16, 2, 4, 256, 64]⟩
abbrev S16x2x4x64x256 : Shape := ⟨5, ![16, 2, 4, 64, 256]⟩

abbrev nBuf : Space → Nat
  | .hbm => 77
  | .vmem => 0
  | .smem => 0
  | _ => 0

abbrev bufTy : (tb : Table) → Fin (tcTables nBuf tb) → BufTy
  | .hbm, ⟨0, _⟩ => ⟨S16x256x1024, .f32⟩
  | .hbm, ⟨1, _⟩ => ⟨S1x1024, .f32⟩
  | .hbm, ⟨2, _⟩ => ⟨S1x1x6144, .f32⟩
  | .hbm, ⟨3, _⟩ => ⟨S2x1024x6144, .bf16⟩
  | .hbm, ⟨4, _⟩ => ⟨S1x1x1024, .f32⟩
  | .hbm, ⟨5, _⟩ => ⟨S1x1x1024, .f32⟩
  | .hbm, ⟨6, _⟩ => ⟨S1x1x1024, .f32⟩
  | .hbm, ⟨7, _⟩ => ⟨S1x1x1024, .f32⟩
  | .hbm, ⟨8, _⟩ => ⟨S1x1x1024, .f32⟩
  | .hbm, ⟨9, _⟩ => ⟨S1x1x1024, .f32⟩
  | .hbm, ⟨10, _⟩ => ⟨S16x256x1024, .f32⟩
  | .hbm, ⟨11, _⟩ => ⟨S_, .f32⟩
  | .hbm, ⟨12, _⟩ => ⟨S16x256, .f32⟩
  | .hbm, ⟨13, _⟩ => ⟨S16x256x1, .f32⟩
  | .hbm, ⟨14, _⟩ => ⟨S_, .f32⟩
  | .hbm, ⟨15, _⟩ => ⟨S16x256x1, .f32⟩
  | .hbm, ⟨16, _⟩ => ⟨S16x256x1, .f32⟩
  | .hbm, ⟨17, _⟩ => ⟨S_, .f32⟩
  | .hbm, ⟨18, _⟩ => ⟨S16x256x1, .f32⟩
  | .hbm, ⟨19, _⟩ => ⟨S16x256x1, .f32⟩
  | .hbm, ⟨20, _⟩ => ⟨S16x256x1, .f32⟩
  | .hbm, ⟨21, _⟩ => ⟨S16x256x1024, .f32⟩
  | .hbm, ⟨22, _⟩ => ⟨S16x256x1024, .f32⟩
  | .hbm, ⟨23, _⟩ => ⟨S1x1x1024, .f32⟩
  | .hbm, ⟨24, _⟩ => ⟨S16x256x1024, .f32⟩
  | .hbm, ⟨25, _⟩ => ⟨S16x256x1024, .f32⟩
  | .hbm, ⟨26, _⟩ => ⟨S_, .f32⟩
  | .hbm, ⟨27, _⟩ => ⟨S1x1x1024, .f32⟩
  | .hbm, ⟨28, _⟩ => ⟨S1x1x1024, .f32⟩
  | .hbm, ⟨29, _⟩ => ⟨S16x256x1024, .f32⟩
  | .hbm, ⟨30, _⟩ => ⟨S16x256x1024, .f32⟩
  | .hbm, ⟨31, _⟩ => ⟨S16x256x1024, .f32⟩
  | .hbm, ⟨32, _⟩ => ⟨S16x256x1024, .f32⟩
  | .hbm, ⟨33, _⟩ => ⟨S1x1024x6144, .bf16⟩
  | .hbm, ⟨34, _⟩ => ⟨S1024x6144, .bf16⟩
  | .hbm, ⟨35, _⟩ => ⟨S1024x6144, .f32⟩
  | .hbm, ⟨36, _⟩ => ⟨S1024x2048, .f32⟩
  | .hbm, ⟨37, _⟩ => ⟨S16x256x2048, .f32⟩
  | .hbm, ⟨38, _⟩ => ⟨S16x256x1024, .f32⟩
  | .hbm, ⟨39, _⟩ => ⟨S16x256x128, .f32⟩
  | .hbm, ⟨40, _⟩ => ⟨S16x256x128, .f32⟩
  | .hbm, ⟨41, _⟩ => ⟨S16x256x256, .f32⟩
  | .hbm, ⟨42, _⟩ => ⟨S16x256x256, .f32⟩
  | .hbm, ⟨43, _⟩ => ⟨S16x256x256, .f32⟩
  | .hbm, ⟨44, _⟩ => ⟨S16x256x2048, .bf16⟩
  | .hbm, ⟨45, _⟩ => ⟨S16x256x2x64, .f32⟩
  | .hbm, ⟨46, _⟩ => ⟨S16x2x256x64, .f32⟩
  | .hbm, ⟨47, _⟩ => ⟨S_, .f32⟩
  | .hbm, ⟨48, _⟩ => ⟨S16x2x256x64, .f32⟩
  | .hbm, ⟨49, _⟩ => ⟨S16x1x2x256x64, .f32⟩
  | .hbm, ⟨50, _⟩ => ⟨S16x1x2x256x64, .f32⟩
  | .hbm, ⟨51, _⟩ => ⟨S16x2x2x256x64, .f32⟩
  | .hbm, ⟨52, _⟩ => ⟨S16x2x2x64x256, .f32⟩
  | .hbm, ⟨53, _⟩ => ⟨S16x256x2x64, .f32⟩
  | .hbm, ⟨54, _⟩ => ⟨S16x2x256x64, .f32⟩
  | .hbm, ⟨55, _⟩ => ⟨S_, .f32⟩
  | .hbm, ⟨56, _⟩ => ⟨S16x2x256x64, .f32⟩
  | .hbm, ⟨57, _⟩ => ⟨S16x1x2x256x64, .f32⟩
  | .hbm, ⟨58, _⟩ => ⟨S16x1x2x256x64, .f32⟩
  | .hbm, ⟨59, _⟩ => ⟨S16x2x2x256x64, .f32⟩
  | .hbm, ⟨60, _⟩ => ⟨S16x2x2x64x256, .f32⟩
  | .hbm, ⟨61, _⟩ => ⟨S16x256x4x64, .f32⟩
  | .hbm, ⟨62, _⟩ => ⟨S16x4x256x64, .f32⟩
  | .hbm, ⟨63, _⟩ => ⟨S_, .f32⟩
  | .hbm, ⟨64, _⟩ => ⟨S16x4x256x64, .f32⟩
  | .hbm, ⟨65, _⟩ => ⟨S16x1x4x256x64, .f32⟩
  | .hbm, ⟨66, _⟩ => ⟨S16x1x4x256x64, .f32⟩
  | .hbm, ⟨67, _⟩ => ⟨S16x2x4x256x64, .f32⟩
  | .hbm, ⟨68, _⟩ => ⟨S16x2x4x64x256, .f32⟩
  | .hbm, ⟨69, _⟩ => ⟨S16x256x4x64, .f32⟩
  | .hbm, ⟨70, _⟩ => ⟨S16x4x256x64, .f32⟩
  | .hbm, ⟨71, _⟩ => ⟨S_, .f32⟩
  | .hbm, ⟨72, _⟩ => ⟨S16x4x256x64, .f32⟩
  | .hbm, ⟨73, _⟩ => ⟨S16x1x4x256x64, .f32⟩
  | .hbm, ⟨74, _⟩ => ⟨S16x1x4x256x64, .f32⟩
  | .hbm, ⟨75, _⟩ => ⟨S16x2x4x256x64, .f32⟩
  | .hbm, ⟨76, _⟩ => ⟨S16x2x4x64x256, .f32⟩
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_cst_3 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_cst_4 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_cst_5 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_cst_6 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩

abbrev nD : Nat := 1
abbrev τ : Topo := Topo.v7x

variable {F : FTy → Type} [FloatOps F]
-- ==== InProjLast.lean ====
abbrev S16x256x1024 : Shape := ⟨3, ![16, 256, 1024]⟩
abbrev S1x1024 : Shape := ⟨2, ![1, 1024]⟩
abbrev S1x1x6144 : Shape := ⟨3, ![1, 1, 6144]⟩
abbrev S2x1024x6144 : Shape := ⟨3, ![2, 1024, 6144]⟩
abbrev S16x2x2x64x256 : Shape := ⟨5, ![16, 2, 2, 64, 256]⟩
abbrev S16x2x4x64x256 : Shape := ⟨5, ![16, 2, 4, 64, 256]⟩
abbrev S16x256x2048 : Shape := ⟨3, ![16, 256, 2048]⟩
abbrev S1x256x1024 : Shape := ⟨3, ![1, 256, 1024]⟩
abbrev S1x1x1024 : Shape := ⟨3, ![1, 1, 1024]⟩
abbrev S1x1024x2048 : Shape := ⟨3, ![1, 1024, 2048]⟩
abbrev S1x256x2048 : Shape := ⟨3, ![1, 256, 2048]⟩
abbrev S1x1x2x64x256 : Shape := ⟨5, ![1, 1, 2, 64, 256]⟩
abbrev S1x1x4x64x256 : Shape := ⟨5, ![1, 1, 4, 64, 256]⟩
abbrev S256x1024 : Shape := ⟨2, ![256, 1024]⟩
abbrev S256 : Shape := ⟨1, ![256]⟩
abbrev S256x1 : Shape := ⟨2, ![256, 1]⟩
abbrev S1024x2048 : Shape := ⟨2, ![1024, 2048]⟩
abbrev S256x2048 : Shape := ⟨2, ![256, 2048]⟩
abbrev S256x64 : Shape := ⟨2, ![256, 64]⟩
abbrev S64x256 : Shape := ⟨2, ![64, 256]⟩
abbrev S1x1x1x64x256 : Shape := ⟨5, ![1, 1, 1, 64, 256]⟩

abbrev nBuf : Space → Nat
  | .hbm => 13
  | .vmem => 16
  | .smem => 0
  | _ => 0

abbrev bufTy : (tb : Table) → Fin (tcTables nBuf tb) → BufTy
  | .hbm, ⟨0, _⟩ => ⟨S16x256x1024, .f32⟩
  | .hbm, ⟨1, _⟩ => ⟨S1x1024, .f32⟩
  | .hbm, ⟨2, _⟩ => ⟨S1x1x6144, .f32⟩
  | .hbm, ⟨3, _⟩ => ⟨S2x1024x6144, .bf16⟩
  | .hbm, ⟨4, _⟩ => ⟨S16x2x2x64x256, .f32⟩
  | .hbm, ⟨5, _⟩ => ⟨S16x2x2x64x256, .f32⟩
  | .hbm, ⟨6, _⟩ => ⟨S16x2x4x64x256, .f32⟩
  | .hbm, ⟨7, _⟩ => ⟨S16x2x4x64x256, .f32⟩
  | .hbm, ⟨8, _⟩ => ⟨S16x256x2048, .bf16⟩
  | .hbm, ⟨9, _⟩ => ⟨S16x2x2x64x256, .f32⟩
  | .hbm, ⟨10, _⟩ => ⟨S16x2x2x64x256, .f32⟩
  | .hbm, ⟨11, _⟩ => ⟨S16x2x4x64x256, .f32⟩
  | .hbm, ⟨12, _⟩ => ⟨S16x2x4x64x256, .f32⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1024x2048, .bf16⟩
  | .local _ .vmem, ⟨6, _⟩ => ⟨S1x256x2048, .bf16⟩
  | .local _ .vmem, ⟨7, _⟩ => ⟨S1x256x2048, .bf16⟩
  | .local _ .vmem, ⟨8, _⟩ => ⟨S1x1x2x64x256, .f32⟩
  | .local _ .vmem, ⟨9, _⟩ => ⟨S1x1x2x64x256, .f32⟩
  | .local _ .vmem, ⟨10, _⟩ => ⟨S1x1x2x64x256, .f32⟩
  | .local _ .vmem, ⟨11, _⟩ => ⟨S1x1x2x64x256, .f32⟩
  | .local _ .vmem, ⟨12, _⟩ => ⟨S1x1x4x64x256, .f32⟩
  | .local _ .vmem, ⟨13, _⟩ => ⟨S1x1x4x64x256, .f32⟩
  | .local _ .vmem, ⟨14, _⟩ => ⟨S1x1x4x64x256, .f32⟩
  | .local _ .vmem, ⟨15, _⟩ => ⟨S1x1x4x64x256, .f32⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![16, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c1_i32 : BitVec 32 := 1#32
  let c0_i32_1 : BitVec 32 := 0#32
  ![c0_i32.toNat, c0_i32_0.toNat, c1_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 5 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat, arg1.toNat]

def cc0_transform_11 (i : grid0.Coords) : Fin 5 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat, arg1.toNat]

def cc0_transform_12 (i : grid0.Coords) : Fin 5 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat, arg1.toNat]

def cc0_transform_13 (i : grid0.Coords) : Fin 5 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat, arg1.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x2x64x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x2x64x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x4x64x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x4x64x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== InProjLastRefIdeal.lean ====
abbrev S16x256x1024 : Shape := ⟨3, ![16, 256, 1024]⟩
abbrev S1x1024 : Shape := ⟨2, ![1, 1024]⟩
abbrev S1x1x6144 : Shape := ⟨3, ![1, 1, 6144]⟩
abbrev S2x1024x6144 : Shape := ⟨3, ![2, 1024, 6144]⟩
abbrev S16x2x2x64x256 : Shape := ⟨5, ![16, 2, 2, 64, 256]⟩
abbrev S16x2x4x64x256 : Shape := ⟨5, ![16, 2, 4, 64, 256]⟩
abbrev S1x1x1024 : Shape := ⟨3, ![1, 1, 1024]⟩
abbrev S_ : Shape := ⟨0, ![]⟩
abbrev S16x256 : Shape := ⟨2, ![16, 256]⟩
abbrev S16x256x1 : Shape := ⟨3, ![16, 256, 1]⟩
abbrev S1x1024x6144 : Shape := ⟨3, ![1, 1024, 6144]⟩
abbrev S1024x6144 : Shape := ⟨2, ![1024, 6144]⟩
abbrev S1024x2048 : Shape := ⟨2, ![1024, 2048]⟩
abbrev S16x256x2048 : Shape := ⟨3, ![16, 256, 2048]⟩
abbrev S16x256x128 : Shape := ⟨3, ![16, 256, 128]⟩
abbrev S16x256x256 : Shape := ⟨3, ![16, 256, 256]⟩
abbrev S16x256x2x64 : Shape := ⟨4, ![16, 256, 2, 64]⟩
abbrev S16x2x64x256 : Shape := ⟨4, ![16, 2, 64, 256]⟩
abbrev S16x1x2x64x256 : Shape := ⟨5, ![16, 1, 2, 64, 256]⟩
abbrev S16x256x4x64 : Shape := ⟨4, ![16, 256, 4, 64]⟩
abbrev S16x4x64x256 : Shape := ⟨4, ![16, 4, 64, 256]⟩
abbrev S16x1x4x64x256 : Shape := ⟨5, ![16, 1, 4, 64, 256]⟩

abbrev nBuf : Space → Nat
  | .hbm => 77
  | .vmem => 0
  | .smem => 0
  | _ => 0

abbrev bufTy : (tb : Table) → Fin (tcTables nBuf tb) → BufTy
  | .hbm, ⟨0, _⟩ => ⟨S16x256x1024, .f32⟩
  | .hbm, ⟨1, _⟩ => ⟨S1x1024, .f32⟩
  | .hbm, ⟨2, _⟩ => ⟨S1x1x6144, .f32⟩
  | .hbm, ⟨3, _⟩ => ⟨S2x1024x6144, .bf16⟩
  | .hbm, ⟨4, _⟩ => ⟨S16x2x2x64x256, .f32⟩
  | .hbm, ⟨5, _⟩ => ⟨S16x2x2x64x256, .f32⟩
  | .hbm, ⟨6, _⟩ => ⟨S16x2x4x64x256, .f32⟩
  | .hbm, ⟨7, _⟩ => ⟨S16x2x4x64x256, .f32⟩
  | .hbm, ⟨8, _⟩ => ⟨S1x1x1024, .f32⟩
  | .hbm, ⟨9, _⟩ => ⟨S1x1x1024, .f32⟩
  | .hbm, ⟨10, _⟩ => ⟨S1x1x1024, .f32⟩
  | .hbm, ⟨11, _⟩ => ⟨S1x1x1024, .f32⟩
  | .hbm, ⟨12, _⟩ => ⟨S1x1x1024, .f32⟩
  | .hbm, ⟨13, _⟩ => ⟨S1x1x1024, .f32⟩
  | .hbm, ⟨14, _⟩ => ⟨S16x256x1024, .f32⟩
  | .hbm, ⟨15, _⟩ => ⟨S_, .f32⟩
  | .hbm, ⟨16, _⟩ => ⟨S16x256, .f32⟩
  | .hbm, ⟨17, _⟩ => ⟨S16x256x1, .f32⟩
  | .hbm, ⟨18, _⟩ => ⟨S_, .f32⟩
  | .hbm, ⟨19, _⟩ => ⟨S16x256x1, .f32⟩
  | .hbm, ⟨20, _⟩ => ⟨S16x256x1, .f32⟩
  | .hbm, ⟨21, _⟩ => ⟨S_, .f32⟩
  | .hbm, ⟨22, _⟩ => ⟨S16x256x1, .f32⟩
  | .hbm, ⟨23, _⟩ => ⟨S16x256x1, .f32⟩
  | .hbm, ⟨24, _⟩ => ⟨S16x256x1, .f32⟩
  | .hbm, ⟨25, _⟩ => ⟨S16x256x1024, .f32⟩
  | .hbm, ⟨26, _⟩ => ⟨S16x256x1024, .f32⟩
  | .hbm, ⟨27, _⟩ => ⟨S1x1x1024, .f32⟩
  | .hbm, ⟨28, _⟩ => ⟨S16x256x1024, .f32⟩
  | .hbm, ⟨29, _⟩ => ⟨S16x256x1024, .f32⟩
  | .hbm, ⟨30, _⟩ => ⟨S_, .f32⟩
  | .hbm, ⟨31, _⟩ => ⟨S1x1x1024, .f32⟩
  | .hbm, ⟨32, _⟩ => ⟨S1x1x1024, .f32⟩
  | .hbm, ⟨33, _⟩ => ⟨S16x256x1024, .f32⟩
  | .hbm, ⟨34, _⟩ => ⟨S16x256x1024, .f32⟩
  | .hbm, ⟨35, _⟩ => ⟨S16x256x1024, .f32⟩
  | .hbm, ⟨36, _⟩ => ⟨S16x256x1024, .f32⟩
  | .hbm, ⟨37, _⟩ => ⟨S1x1024x6144, .bf16⟩
  | .hbm, ⟨38, _⟩ => ⟨S1024x6144, .bf16⟩
  | .hbm, ⟨39, _⟩ => ⟨S1024x6144, .f32⟩
  | .hbm, ⟨40, _⟩ => ⟨S1024x2048, .f32⟩
  | .hbm, ⟨41, _⟩ => ⟨S16x256x2048, .f32⟩
  | .hbm, ⟨42, _⟩ => ⟨S16x256x1024, .f32⟩
  | .hbm, ⟨43, _⟩ => ⟨S16x256x128, .f32⟩
  | .hbm, ⟨44, _⟩ => ⟨S16x256x128, .f32⟩
  | .hbm, ⟨45, _⟩ => ⟨S16x256x256, .f32⟩
  | .hbm, ⟨46, _⟩ => ⟨S16x256x256, .f32⟩
  | .hbm, ⟨47, _⟩ => ⟨S16x256x256, .f32⟩
  | .hbm, ⟨48, _⟩ => ⟨S16x256x2048, .bf16⟩
  | .hbm, ⟨49, _⟩ => ⟨S16x256x2x64, .f32⟩
  | .hbm, ⟨50, _⟩ => ⟨S16x2x64x256, .f32⟩
  | .hbm, ⟨51, _⟩ => ⟨S16x1x2x64x256, .f32⟩
  | .hbm, ⟨52, _⟩ => ⟨S16x2x64x256, .f32⟩
  | .hbm, ⟨53, _⟩ => ⟨S16x1x2x64x256, .f32⟩
  | .hbm, ⟨54, _⟩ => ⟨S16x1x2x64x256, .f32⟩
  | .hbm, ⟨55, _⟩ => ⟨S16x2x2x64x256, .f32⟩
  | .hbm, ⟨56, _⟩ => ⟨S16x256x2x64, .f32⟩
  | .hbm, ⟨57, _⟩ => ⟨S16x2x64x256, .f32⟩
  | .hbm, ⟨58, _⟩ => ⟨S16x1x2x64x256, .f32⟩
  | .hbm, ⟨59, _⟩ => ⟨S16x2x64x256, .f32⟩
  | .hbm, ⟨60, _⟩ => ⟨S16x1x2x64x256, .f32⟩
  | .hbm, ⟨61, _⟩ => ⟨S16x1x2x64x256, .f32⟩
  | .hbm, ⟨62, _⟩ => ⟨S16x2x2x64x256, .f32⟩
  | .hbm, ⟨63, _⟩ => ⟨S16x256x4x64, .f32⟩
  | .hbm, ⟨64, _⟩ => ⟨S16x4x64x256, .f32⟩
  | .hbm, ⟨65, _⟩ => ⟨S16x1x4x64x256, .f32⟩
  | .hbm, ⟨66, _⟩ => ⟨S16x4x64x256, .f32⟩
  | .hbm, ⟨67, _⟩ => ⟨S16x1x4x64x256, .f32⟩
  | .hbm, ⟨68, _⟩ => ⟨S16x1x4x64x256, .f32⟩
  | .hbm, ⟨69, _⟩ => ⟨S16x2x4x64x256, .f32⟩
  | .hbm, ⟨70, _⟩ => ⟨S16x256x4x64, .f32⟩
  | .hbm, ⟨71, _⟩ => ⟨S16x4x64x256, .f32⟩
  | .hbm, ⟨72, _⟩ => ⟨S16x1x4x64x256, .f32⟩
  | .hbm, ⟨73, _⟩ => ⟨S16x4x64x256, .f32⟩
  | .hbm, ⟨74, _⟩ => ⟨S16x1x4x64x256, .f32⟩
  | .hbm, ⟨75, _⟩ => ⟨S16x1x4x64x256, .f32⟩
  | .hbm, ⟨76, _⟩ => ⟨S16x2x4x64x256, .f32⟩
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩

abbrev nD : Nat := 1
abbrev τ : Topo := Topo.v7x

variable {F : FTy → Type} [FloatOps F]
-- ==== Combine.lean ====
abbrev S272 : Shape := ⟨1, ![272]⟩
abbrev S16x256x16 : Shape := ⟨3, ![16, 256, 16]⟩
abbrev S16x16x32x1024 : Shape := ⟨4, ![16, 16, 32, 1024]⟩
abbrev S16x256x1024 : Shape := ⟨3, ![16, 256, 1024]⟩
abbrev S1x1x6144 : Shape := ⟨3, ![1, 1, 6144]⟩
abbrev S1x1024 : Shape := ⟨2, ![1, 1024]⟩
abbrev S1x256x16 : Shape := ⟨3, ![1, 256, 16]⟩
abbrev S16x1x32x1024 : Shape := ⟨4, ![16, 1, 32, 1024]⟩
abbrev S1x256x1024 : Shape := ⟨3, ![1, 256, 1024]⟩
abbrev S1x1x1024 : Shape := ⟨3, ![1, 1, 1024]⟩
abbrev S256x16 : Shape := ⟨2, ![256, 16]⟩
abbrev S16x512 : Shape := ⟨2, ![16, 512]⟩
abbrev S256x512 : Shape := ⟨2, ![256, 512]⟩
abbrev S1x512 : Shape := ⟨2, ![1, 512]⟩
abbrev S16x32x1024 : Shape := ⟨3, ![16, 32, 1024]⟩
abbrev S512x1024 : Shape := ⟨2, ![512, 1024]⟩
abbrev S256x1024 : Shape := ⟨2, ![256, 1024]⟩
abbrev S256 : Shape := ⟨1, ![256]⟩
abbrev S256x1 : Shape := ⟨2, ![256, 1]⟩

abbrev nBuf : Space → Nat
  | .hbm => 6
  | .vmem => 10
  | .smem => 1
  | _ => 0

abbrev bufTy : (tb : Table) → Fin (tcTables nBuf tb) → BufTy
  | .hbm, ⟨0, _⟩ => ⟨S16x256x16, .f32⟩
  | .hbm, ⟨1, _⟩ => ⟨S16x16x32x1024, .bf16⟩
  | .hbm, ⟨2, _⟩ => ⟨S16x256x1024, .f32⟩
  | .hbm, ⟨3, _⟩ => ⟨S1x1x6144, .f32⟩
  | .hbm, ⟨4, _⟩ => ⟨S1x1024, .f32⟩
  | .hbm, ⟨5, _⟩ => ⟨S16x256x1024, .f32⟩
  | .local _ .vmem, ⟨0, _⟩ => ⟨S1x256x16, .f32⟩
  | .local _ .vmem, ⟨1, _⟩ => ⟨S1x256x16, .f32⟩
  | .local _ .vmem, ⟨2, _⟩ => ⟨S16x1x32x1024, .bf16⟩
  | .local _ .vmem, ⟨3, _⟩ => ⟨S16x1x32x1024, .bf16⟩
  | .local _ .vmem, ⟨4, _⟩ => ⟨S1x256x1024, .f32⟩
  | .local _ .vmem, ⟨5, _⟩ => ⟨S1x256x1024, .f32⟩
  | .local _ .vmem, ⟨6, _⟩ => ⟨S1x1x1024, .f32⟩
  | .local _ .vmem, ⟨7, _⟩ => ⟨S1x1024, .f32⟩
  | .local _ .vmem, ⟨8, _⟩ => ⟨S1x256x1024, .f32⟩
  | .local _ .vmem, ⟨9, _⟩ => ⟨S1x256x1024, .f32⟩
  | .local _ .smem, ⟨0, _⟩ => ⟨S272, .i32⟩
  | _, _ => ⟨S16x256x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0 : Ref sig .tc := ⟨.hbm, 5, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 1], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c5_i32 : BitVec 32 := 5#32
  let c0_i32_1 : BitVec 32 := 0#32
  ![c0_i32.toNat, c0_i32_0.toNat, c5_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x1x32x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== CombineIdeal.lean ====
abbrev S272 : Shape := ⟨1, ![272]⟩
abbrev S16x256x16 : Shape := ⟨3, ![16, 256, 16]⟩
abbrev S16x16x32x1024 : Shape := ⟨4, ![16, 16, 32, 1024]⟩
abbrev S16x256x1024 : Shape := ⟨3, ![16, 256, 1024]⟩
abbrev S1x1x6144 : Shape := ⟨3, ![1, 1, 6144]⟩
abbrev S1x1024 : Shape := ⟨2, ![1, 1024]⟩
abbrev S1x256x16 : Shape := ⟨3, ![1, 256, 16]⟩
abbrev S16x1x32x1024 : Shape := ⟨4, ![16, 1, 32, 1024]⟩
abbrev S1x256x1024 : Shape := ⟨3, ![1, 256, 1024]⟩
abbrev S1x1x1024 : Shape := ⟨3, ![1, 1, 1024]⟩
abbrev S256x16 : Shape := ⟨2, ![256, 16]⟩
abbrev S16x512 : Shape := ⟨2, ![16, 512]⟩
abbrev S256x512 : Shape := ⟨2, ![256, 512]⟩
abbrev S1x512 : Shape := ⟨2, ![1, 512]⟩
abbrev S16x32x1024 : Shape := ⟨3, ![16, 32, 1024]⟩
abbrev S512x1024 : Shape := ⟨2, ![512, 1024]⟩
abbrev S256x1024 : Shape := ⟨2, ![256, 1024]⟩
abbrev S256 : Shape := ⟨1, ![256]⟩
abbrev S256x1 : Shape := ⟨2, ![256, 1]⟩

abbrev nBuf : Space → Nat
  | .hbm => 6
  | .vmem => 10
  | .smem => 1
  | _ => 0

abbrev bufTy : (tb : Table) → Fin (tcTables nBuf tb) → BufTy
  | .hbm, ⟨0, _⟩ => ⟨S16x256x16, .f32⟩
  | .hbm, ⟨1, _⟩ => ⟨S16x16x32x1024, .bf16⟩
  | .hbm, ⟨2, _⟩ => ⟨S16x256x1024, .f32⟩
  | .hbm, ⟨3, _⟩ => ⟨S1x1x6144, .f32⟩
  | .hbm, ⟨4, _⟩ => ⟨S1x1024, .f32⟩
  | .hbm, ⟨5, _⟩ => ⟨S16x256x1024, .f32⟩
  | .local _ .vmem, ⟨0, _⟩ => ⟨S1x256x16, .f32⟩
  | .local _ .vmem, ⟨1, _⟩ => ⟨S1x256x16, .f32⟩
  | .local _ .vmem, ⟨2, _⟩ => ⟨S16x1x32x1024, .bf16⟩
  | .local _ .vmem, ⟨3, _⟩ => ⟨S16x1x32x1024, .bf16⟩
  | .local _ .vmem, ⟨4, _⟩ => ⟨S1x256x1024, .f32⟩
  | .local _ .vmem, ⟨5, _⟩ => ⟨S1x256x1024, .f32⟩
  | .local _ .vmem, ⟨6, _⟩ => ⟨S1x1x1024, .f32⟩
  | .local _ .vmem, ⟨7, _⟩ => ⟨S1x1024, .f32⟩
  | .local _ .vmem, ⟨8, _⟩ => ⟨S1x256x1024, .f32⟩
  | .local _ .vmem, ⟨9, _⟩ => ⟨S1x256x1024, .f32⟩
  | .local _ .smem, ⟨0, _⟩ => ⟨S272, .i32⟩
  | _, _ => ⟨S16x256x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0 : Ref sig .tc := ⟨.hbm, 5, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 1], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c5_i32 : BitVec 32 := 5#32
  let c0_i32_1 : BitVec 32 := 0#32
  ![c0_i32.toNat, c0_i32_0.toNat, c5_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x1x32x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== CombineRefIdeal.lean ====
abbrev S272 : Shape := ⟨1, ![272]⟩
abbrev S16x256x16 : Shape := ⟨3, ![16, 256, 16]⟩
abbrev S16x16x32x1024 : Shape := ⟨4, ![16, 16, 32, 1024]⟩
abbrev S16x256x1024 : Shape := ⟨3, ![16, 256, 1024]⟩
abbrev S1x1x6144 : Shape := ⟨3, ![1, 1, 6144]⟩
abbrev S1x1024 : Shape := ⟨2, ![1, 1024]⟩
abbrev S1x1x1024 : Shape := ⟨3, ![1, 1, 1024]⟩
abbrev S16x256x16x1 : Shape := ⟨4, ![16, 256, 16, 1]⟩
abbrev S32 : Shape := ⟨1, ![32]⟩
abbrev S1x1x1x32 : Shape := ⟨4, ![1, 1, 1, 32]⟩
abbrev S16x256x16x32 : Shape := ⟨4, ![16, 256, 16, 32]⟩
abbrev S_ : Shape := ⟨0, ![]⟩
abbrev S16x256 : Shape := ⟨2, ![16, 256]⟩
abbrev S16x256x1 : Shape := ⟨3, ![16, 256, 1]⟩

abbrev nBuf : Space → Nat
  | .hbm => 41
  | .vmem => 0
  | .smem => 0
  | _ => 0

abbrev bufTy : (tb : Table) → Fin (tcTables nBuf tb) → BufTy
  | .hbm, ⟨0, _⟩ => ⟨S272, .i32⟩
  | .hbm, ⟨1, _⟩ => ⟨S16x256x16, .f32⟩
  | .hbm, ⟨2, _⟩ => ⟨S16x16x32x1024, .bf16⟩
  | .hbm, ⟨3, _⟩ => ⟨S16x256x1024, .f32⟩
  | .hbm, ⟨4, _⟩ => ⟨S1x1x6144, .f32⟩
  | .hbm, ⟨5, _⟩ => ⟨S1x1024, .f32⟩
  | .hbm, ⟨6, _⟩ => ⟨S1x1x1024, .f32⟩
  | .hbm, ⟨7, _⟩ => ⟨S1x1x1024, .f32⟩
  | .hbm, ⟨8, _⟩ => ⟨S1x1x1024, .f32⟩
  | .hbm, ⟨9, _⟩ => ⟨S1x1x1024, .f32⟩
  | .hbm, ⟨10, _⟩ => ⟨S1x1x1024, .f32⟩
  | .hbm, ⟨11, _⟩ => ⟨S1x1x1024, .f32⟩
  | .hbm, ⟨12, _⟩ => ⟨S16x256x16x1, .f32⟩
  | .hbm, ⟨13, _⟩ => ⟨S32, .i32⟩
  | .hbm, ⟨14, _⟩ => ⟨S32, .f32⟩
  | .hbm, ⟨15, _⟩ => ⟨S1x1x1x32, .f32⟩
  | .hbm, ⟨16, _⟩ => ⟨S16x256x16x32, .f32⟩
  | .hbm, ⟨17, _⟩ => ⟨S16x256x16x32, .f32⟩
  | .hbm, ⟨18, _⟩ => ⟨S16x256x16x32, .i1⟩
  | .hbm, ⟨19, _⟩ => ⟨S16x256x16x32, .f32⟩
  | .hbm, ⟨20, _⟩ => ⟨S16x16x32x1024, .f32⟩
  | .hbm, ⟨21, _⟩ => ⟨S16x256x1024, .f32⟩
  | .hbm, ⟨22, _⟩ => ⟨S16x256x1024, .f32⟩
  | .hbm, ⟨23, _⟩ => ⟨S16x256x1024, .f32⟩
  | .hbm, ⟨24, _⟩ => ⟨S16x256x1024, .f32⟩
  | .hbm, ⟨25, _⟩ => ⟨S16x256x1024, .f32⟩
  | .hbm, ⟨26, _⟩ => ⟨S_, .f32⟩
  | .hbm, ⟨27, _⟩ => ⟨S16x256, .f32⟩
  | .hbm, ⟨28, _⟩ => ⟨S16x256x1, .f32⟩
  | .hbm, ⟨29, _⟩ => ⟨S_, .f32⟩
  | .hbm, ⟨30, _⟩ => ⟨S16x256x1, .f32⟩
  | .hbm, ⟨31, _⟩ => ⟨S16x256x1, .f32⟩
  | .hbm, ⟨32, _⟩ => ⟨S_, .f32⟩
  | .hbm, ⟨33, _⟩ => ⟨S16x256x1, .f32⟩
  | .hbm, ⟨34, _⟩ => ⟨S16x256x1, .f32⟩
  | .hbm, ⟨35, _⟩ => ⟨S16x256x1, .f32⟩
  | .hbm, ⟨36, _⟩ => ⟨S16x256x1024, .f32⟩
  | .hbm, ⟨37, _⟩ => ⟨S16x256x1024, .f32⟩
  | .hbm, ⟨38, _⟩ => ⟨S1x1x1024, .f32⟩
  | .hbm, ⟨39, _⟩ => ⟨S16x256x1024, .f32⟩
  | .hbm, ⟨40, _⟩ => ⟨S16x256x1024, .f32⟩
  | _, _ => ⟨S272, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst : Ref sig .tc := ⟨.hbm, 26, rfl⟩
abbrev main_v20 : Ref sig .tc := ⟨.hbm, 27, rfl⟩
abbrev main_v21 : Ref sig .tc := ⟨.hbm, 28, rfl⟩
abbrev main_cst_0 : Ref sig .tc := ⟨.hbm, 29, rfl⟩
abbrev main_v22 : Ref sig .tc := ⟨.hbm, 30, rfl⟩
abbrev main_v23 : Ref sig .tc := ⟨.hbm, 31, rfl⟩
abbrev main_cst_1 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩

abbrev nD : Nat := 1
abbrev τ : Topo := Topo.v7x

variable {F : FTy → Type} [FloatOps F]
-- ==== Experts.lean ====
abbrev S16x512x1024 : Shape := ⟨3, ![16, 512, 1024]⟩
abbrev S16x512x128 : Shape := ⟨3, ![16, 512, 128]⟩
abbrev S16x2048x1024 : Shape := ⟨3, ![16, 2048, 1024]⟩
abbrev S16x2048x128 : Shape := ⟨3, ![16, 2048, 128]⟩
abbrev S2x16x1024x1024 : Shape := ⟨4, ![2, 16, 1024, 1024]⟩
abbrev S1x512x1024 : Shape := ⟨3, ![1, 512, 1024]⟩
abbrev S1x512x128 : Shape := ⟨3, ![1, 512, 128]⟩
abbrev S1x1x1024x1024 : Shape := ⟨4, ![1, 1, 1024, 1024]⟩
abbrev S1024x1024 : Shape := ⟨2, ![1024, 1024]⟩
abbrev S512x1024 : Shape := ⟨2, ![512, 1024]⟩
abbrev S1024x512 : Shape := ⟨2, ![1024, 512]⟩
abbrev S512x512 : Shape := ⟨2, ![512, 512]⟩
abbrev S1x512x1 : Shape := ⟨3, ![1, 512, 1]⟩
abbrev S512x1 : Shape := ⟨2, ![512, 1]⟩

abbrev nBuf : Space → Nat
  | .hbm => 9
  | .vmem => 21
  | .smem => 0
  | _ => 0

abbrev bufTy : (tb : Table) → Fin (tcTables nBuf tb) → BufTy
  | .hbm, ⟨0, _⟩ => ⟨S16x512x1024, .bf16⟩
  | .hbm, ⟨1, _⟩ => ⟨S16x512x128, .f32⟩
  | .hbm, ⟨2, _⟩ => ⟨S16x2048x1024, .bf16⟩
  | .hbm, ⟨3, _⟩ => ⟨S16x2048x128, .f32⟩
  | .hbm, ⟨4, _⟩ => ⟨S2x16x1024x1024, .f32⟩
  | .hbm, ⟨5, _⟩ => ⟨S2x16x1024x1024, .f32⟩
  | .hbm, ⟨6, _⟩ => ⟨S2x16x1024x1024, .f32⟩
  | .hbm, ⟨7, _⟩ => ⟨S16x512x1024, .bf16⟩
  | .hbm, ⟨8, _⟩ => ⟨S16x2048x1024, .bf16⟩
  | .local _ .vmem, ⟨0, _⟩ => ⟨S1x512x1024, .bf16⟩
  | .local _ .vmem, ⟨1, _⟩ => ⟨S1x512x1024, .bf16⟩
  | .local _ .vmem, ⟨2, _⟩ => ⟨S1x512x128, .f32⟩
  | .local _ .vmem, ⟨3, _⟩ => ⟨S1x512x128, .f32⟩
  | .local _ .vmem, ⟨4, _⟩ => ⟨S1x512x1024, .bf16⟩
  | .local _ .vmem, ⟨5, _⟩ => ⟨S1x512x1024, .bf16⟩
  | .local _ .vmem, ⟨6, _⟩ => ⟨S1x512x128, .f32⟩
  | .local _ .vmem, ⟨7, _⟩ => ⟨S1x512x128, .f32⟩
  | .local _ .vmem, ⟨8, _⟩ => ⟨S1x1x1024x1024, .f32⟩
  | .local _ .vmem, ⟨9, _⟩ => ⟨S1x1x1024x1024, .f32⟩
  | .local _ .vmem, ⟨10, _⟩ => ⟨S1x1x1024x1024, .f32⟩
  | .local _ .vmem, ⟨11, _⟩ => ⟨S1x1x1024x1024, .f32⟩
  | .local _ .vmem, ⟨12, _⟩ => ⟨S1x1x1024x1024, .f32⟩
  | .local _ .vmem, ⟨13, _⟩ => ⟨S1x1x1024x1024, .f32⟩
  | .local _ .vmem, ⟨14, _⟩ => ⟨S1x512x1024, .bf16⟩
  | .local _ .vmem, ⟨15, _⟩ => ⟨S1x512x1024, .bf16⟩
  | .local _ .vmem, ⟨16, _⟩ => ⟨S1x512x1024, .bf16⟩
  | .local _ .vmem, ⟨17, _⟩ => ⟨S1x512x1024, .bf16⟩
  | .local _ .vmem, ⟨18, _⟩ => ⟨S1024x1024, .bf16⟩
  | .local _ .vmem, ⟨19, _⟩ => ⟨S1024x1024, .bf16⟩
  | .local _ .vmem, ⟨20, _⟩ => ⟨S1024x1024, .bf16⟩
  | _, _ => ⟨S16x512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![16, 5], ![false, false]⟩

def k0_cond2 (i : grid0.Coords) : BitVec 1 :=
  let arg1 : BitVec 32 := BitVec.ofNat 32 (i 1).val
  let c1_i32 : BitVec 32 := 1#32
  let v3 : BitVec 1 := Scalar.cmpi .slt arg1 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c1_i32_2 : BitVec 32 := 1#32
  let v6 : BitVec 1 := Scalar.cmpi .sge arg1 c1_i32_2
  let v7 : BitVec 32 := Scalar.extui v6
  let c0_i32_3 : BitVec 32 := 0#32
  let v8 : BitVec 1 := Scalar.cmpi .ne v7 c0_i32_3
  v8

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.minsi arg1 c0_i32
  let c0_i32_0 : BitVec 32 := 0#32
  let c0_i32_1 : BitVec 32 := 0#32
  ![arg0.toNat, v0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.minsi arg1 c0_i32
  let c0_i32_0 : BitVec 32 := 0#32
  let c0_i32_1 : BitVec 32 := 0#32
  ![arg0.toNat, v0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.minsi arg1 c0_i32
  let c0_i32_0 : BitVec 32 := 0#32
  let c0_i32_1 : BitVec 32 := 0#32
  ![arg0.toNat, v0.toNat, c0_i32_0.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ExpertsRefIdeal.lean ====
abbrev S16x512x1024 : Shape := ⟨3, ![16, 512, 1024]⟩
abbrev S16x512x128 : Shape := ⟨3, ![16, 512, 128]⟩
abbrev S16x2048x1024 : Shape := ⟨3, ![16, 2048, 1024]⟩
abbrev S16x2048x128 : Shape := ⟨3, ![16, 2048, 128]⟩
abbrev S2x16x1024x1024 : Shape := ⟨4, ![2, 16, 1024, 1024]⟩
abbrev S1x16x1024x1024 : Shape := ⟨4, ![1, 16, 1024, 1024]⟩
abbrev S16x1024x1024 : Shape := ⟨3, ![16, 1024, 1024]⟩
abbrev S16x512x1 : Shape := ⟨3, ![16, 512, 1]⟩
abbrev S16x512 : Shape := ⟨2, ![16, 512]⟩
abbrev S_ : Shape := ⟨0, ![]⟩
abbrev S16x2048x1 : Shape := ⟨3, ![16, 2048, 1]⟩
abbrev S16x2048 : Shape := ⟨2, ![16, 2048]⟩

abbrev nBuf : Space → Nat
  | .hbm => 53
  | .vmem => 0
  | .smem => 0
  | _ => 0

abbrev bufTy : (tb : Table) → Fin (tcTables nBuf tb) → BufTy
  | .hbm, ⟨0, _⟩ => ⟨S16x512x1024, .bf16⟩
  | .hbm, ⟨1, _⟩ => ⟨S16x512x128, .f32⟩
  | .hbm, ⟨2, _⟩ => ⟨S16x2048x1024, .bf16⟩
  | .hbm, ⟨3, _⟩ => ⟨S16x2048x128, .f32⟩
  | .hbm, ⟨4, _⟩ => ⟨S2x16x1024x1024, .f32⟩
  | .hbm, ⟨5, _⟩ => ⟨S2x16x1024x1024, .f32⟩
  | .hbm, ⟨6, _⟩ => ⟨S2x16x1024x1024, .f32⟩
  | .hbm, ⟨7, _⟩ => ⟨S1x16x1024x1024, .f32⟩
  | .hbm, ⟨8, _⟩ => ⟨S16x1024x1024, .f32⟩
  | .hbm, ⟨9, _⟩ => ⟨S1x16x1024x1024, .f32⟩
  | .hbm, ⟨10, _⟩ => ⟨S16x1024x1024, .f32⟩
  | .hbm, ⟨11, _⟩ => ⟨S1x16x1024x1024, .f32⟩
  | .hbm, ⟨12, _⟩ => ⟨S16x1024x1024, .f32⟩
  | .hbm, ⟨13, _⟩ => ⟨S16x512x1, .f32⟩
  | .hbm, ⟨14, _⟩ => ⟨S16x512, .f32⟩
  | .hbm, ⟨15, _⟩ => ⟨S16x512x1024, .f32⟩
  | .hbm, ⟨16, _⟩ => ⟨S16x512x1024, .f32⟩
  | .hbm, ⟨17, _⟩ => ⟨S16x512x1024, .f32⟩
  | .hbm, ⟨18, _⟩ => ⟨S16x512x1024, .f32⟩
  | .hbm, ⟨19, _⟩ => ⟨S16x512x1024, .f32⟩
  | .hbm, ⟨20, _⟩ => ⟨S_, .f32⟩
  | .hbm, ⟨21, _⟩ => ⟨S16x512x1024, .f32⟩
  | .hbm, ⟨22, _⟩ => ⟨S16x512x1024, .f32⟩
  | .hbm, ⟨23, _⟩ => ⟨S_, .f32⟩
  | .hbm, ⟨24, _⟩ => ⟨S16x512x1024, .f32⟩
  | .hbm, ⟨25, _⟩ => ⟨S16x512x1024, .f32⟩
  | .hbm, ⟨26, _⟩ => ⟨S16x512x1024, .f32⟩
  | .hbm, ⟨27, _⟩ => ⟨S16x512x1024, .f32⟩
  | .hbm, ⟨28, _⟩ => ⟨S16x512x1024, .f32⟩
  | .hbm, ⟨29, _⟩ => ⟨S16x512x1, .f32⟩
  | .hbm, ⟨30, _⟩ => ⟨S16x512x1024, .f32⟩
  | .hbm, ⟨31, _⟩ => ⟨S16x512x1024, .f32⟩
  | .hbm, ⟨32, _⟩ => ⟨S16x512x1024, .bf16⟩
  | .hbm, ⟨33, _⟩ => ⟨S16x2048x1, .f32⟩
  | .hbm, ⟨34, _⟩ => ⟨S16x2048, .f32⟩
  | .hbm, ⟨35, _⟩ => ⟨S16x2048x1024, .f32⟩
  | .hbm, ⟨36, _⟩ => ⟨S16x2048x1024, .f32⟩
  | .hbm, ⟨37, _⟩ => ⟨S16x2048x1024, .f32⟩
  | .hbm, ⟨38, _⟩ => ⟨S16x2048x1024, .f32⟩
  | .hbm, ⟨39, _⟩ => ⟨S16x2048x1024, .f32⟩
  | .hbm, ⟨40, _⟩ => ⟨S_, .f32⟩
  | .hbm, ⟨41, _⟩ => ⟨S16x2048x1024, .f32⟩
  | .hbm, ⟨42, _⟩ => ⟨S16x2048x1024, .f32⟩
  | .hbm, ⟨43, _⟩ => ⟨S_, .f32⟩
  | .hbm, ⟨44, _⟩ => ⟨S16x2048x1024, .f32⟩
  | .hbm, ⟨45, _⟩ => ⟨S16x2048x1024, .f32⟩
  | .hbm, ⟨46, _⟩ => ⟨S16x2048x1024, .f32⟩
  | .hbm, ⟨47, _⟩ => ⟨S16x2048x1024, .f32⟩
  | .hbm, ⟨48, _⟩ => ⟨S16x2048x1024, .f32⟩
  | .hbm, ⟨49, _⟩ => ⟨S16x2048x1, .f32⟩
  | .hbm, ⟨50, _⟩ => ⟨S16x2048x1024, .f32⟩
  | .hbm, ⟨51, _⟩ => ⟨S16x2048x1024, .f32⟩
  | .hbm, ⟨52, _⟩ => ⟨S16x2048x1024, .bf16⟩
  | _, _ => ⟨S16x512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_call0_v0 : Ref sig .tc := ⟨.hbm, 18, rfl⟩
abbrev main_call0_v1 : Ref sig .tc := ⟨.hbm, 19, rfl⟩
abbrev main_call0_cst : Ref sig .tc := ⟨.hbm, 20, rfl⟩
abbrev main_call0_v2 : Ref sig .tc := ⟨.hbm, 21, rfl⟩
abbrev main_call0_v3 : Ref sig .tc := ⟨.hbm, 22, rfl⟩
abbrev main_call0_cst_0 : Ref sig .tc := ⟨.hbm, 23, rfl⟩
abbrev main_call0_v4 : Ref sig .tc := ⟨.hbm, 24, rfl⟩
abbrev main_call0_v5 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_call1_v0 : Ref sig .tc := ⟨.hbm, 38, rfl⟩
abbrev main_call1_v1 : Ref sig .tc := ⟨.hbm, 39, rfl⟩
abbrev main_call1_cst : Ref sig .tc := ⟨.hbm, 40, rfl⟩
abbrev main_call1_v2 : Ref sig .tc := ⟨.hbm, 41, rfl⟩
abbrev main_call1_v3 : Ref sig .tc := ⟨.hbm, 42, rfl⟩
abbrev main_call1_cst_0 : Ref sig .tc := ⟨.hbm, 43, rfl⟩
abbrev main_call1_v4 : Ref sig .tc := ⟨.hbm, 44, rfl⟩
abbrev main_call1_v5 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩

abbrev nD : Nat := 1
abbrev τ : Topo := Topo.v7x

variable {F : FTy → Type} [FloatOps F]
-- ==== CombineS.lean ====
abbrev S1040 : Shape := ⟨1, ![1040]⟩
abbrev S8x2048x16 : Shape := ⟨3, ![8, 2048, 16]⟩
abbrev S16x8x256x1024 : Shape := ⟨4, ![16, 8, 256, 1024]⟩
abbrev S8x2048x1024 : Shape := ⟨3, ![8, 2048, 1024]⟩
abbrev S8x1x6144 : Shape := ⟨3, ![8, 1, 6144]⟩
abbrev S1x1024 : Shape := ⟨2, ![1, 1024]⟩
abbrev S1x256x16 : Shape := ⟨3, ![1, 256, 16]⟩
abbrev S16x1x256x1024 : Shape := ⟨4, ![16, 1, 256, 1024]⟩
abbrev S1x256x1024 : Shape := ⟨3, ![1, 256, 1024]⟩
abbrev S1x1x1024 : Shape := ⟨3, ![1, 1, 1024]⟩
abbrev S256x16 : Shape := ⟨2, ![256, 16]⟩
abbrev S1 : Shape := ⟨1, ![1]⟩
abbrev S1x1x64x1024 : Shape := ⟨4, ![1, 1, 64, 1024]⟩
abbrev S64x1024 : Shape := ⟨2, ![64, 1024]⟩
abbrev S16x1024 : Shape := ⟨2, ![16, 1024]⟩
abbrev S256x1024 : Shape := ⟨2, ![256, 1024]⟩
abbrev S1024x1024 : Shape := ⟨2, ![1024, 1024]⟩
abbrev S256 : Shape := ⟨1, ![256]⟩
abbrev S256x1 : Shape := ⟨2, ![256, 1]⟩
abbrev S16x4096 : Shape := ⟨2, ![16, 4096]⟩
abbrev S256x4096 : Shape := ⟨2, ![256, 4096]⟩
abbrev S1x4096 : Shape := ⟨2, ![1, 4096]⟩
abbrev S16x256x1024 : Shape := ⟨3, ![16, 256, 1024]⟩
abbrev S4096x1024 : Shape := ⟨2, ![4096, 1024]⟩

abbrev nBuf : Space → Nat
  | .hbm => 6
  | .vmem => 11
  | .smem => 1
  | _ => 0

abbrev bufTy : (tb : Table) → Fin (tcTables nBuf tb) → BufTy
  | .hbm, ⟨0, _⟩ => ⟨S8x2048x16, .f32⟩
  | .hbm, ⟨1, _⟩ => ⟨S16x8x256x1024, .bf16⟩
  | .hbm, ⟨2, _⟩ => ⟨S8x2048x1024, .f32⟩
  | .hbm, ⟨3, _⟩ => ⟨S8x1x6144, .f32⟩
  | .hbm, ⟨4, _⟩ => ⟨S1x1024, .f32⟩
  | .hbm, ⟨5, _⟩ => ⟨S8x2048x1024, .f32⟩
  | .local _ .vmem, ⟨0, _⟩ => ⟨S1x256x16, .f32⟩
  | .local _ .vmem, ⟨1, _⟩ => ⟨S1x256x16, .f32⟩
  | .local _ .vmem, ⟨2, _⟩ => ⟨S16x1x256x1024, .bf16⟩
  | .local _ .vmem, ⟨3, _⟩ => ⟨S16x1x256x1024, .bf16⟩
  | .local _ .vmem, ⟨4, _⟩ => ⟨S1x256x1024, .f32⟩
  | .local _ .vmem, ⟨5, _⟩ => ⟨S1x256x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1024, .f32⟩
  | .local _ .vmem, ⟨9, _⟩ => ⟨S1x256x1024, .f32⟩
  | .local _ .vmem, ⟨10, _⟩ => ⟨S1x256x1024, .f32⟩
  | .local _ .smem, ⟨0, _⟩ => ⟨S1040, .i32⟩
  | _, _ => ⟨S8x2048x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0 : Ref sig .tc := ⟨.hbm, 5, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 8], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) (c0_i32 : BitVec 32) : Fin 1 → Nat :=
  let arg0 : BitVec 32 := BitVec.ofNat 32 (i 0).val
  let c8_i32 : BitVec 32 := 8#32
  let v2 : BitVec 32 := Scalar.muli arg0 c8_i32
  let arg1 : BitVec 32 := BitVec.ofNat 32 (i 1).val
  let v3 : BitVec 32 := Scalar.addi v2 arg1
  let c16_i32 : BitVec 32 := 16#32
  let v4 : BitVec 32 := Scalar.muli v3 c16_i32
  let v5 : BitVec 32 := Scalar.addi v4 c0_i32
  let v6 : Index := Scalar.indexCast v5
  ![v6.toNat]
def k0_off2 (i : grid0.Coords) (c0_i32_3 : BitVec 32) : Fin 1 → Nat :=
  let arg0 : BitVec 32 := BitVec.ofNat 32 (i 0).val
  let c8_i32 : BitVec 32 := 8#32
  let v2 : BitVec 32 := Scalar.muli arg0 c8_i32
  let arg1 : BitVec 32 := BitVec.ofNat 32 (i 1).val
  let v3 : BitVec 32 := Scalar.addi v2 arg1
  let c16_i32 : BitVec 32 := 16#32
  let v4 : BitVec 32 := Scalar.muli v3 c16_i32
  let c16_i32_2 : BitVec 32 := 16#32
  let v9 : BitVec 32 := Scalar.addi v4 c16_i32_2
  let v10 : BitVec 32 := Scalar.addi v9 c0_i32_3
  let v11 : Index := Scalar.indexCast v10
  ![v11.toNat]
def k0_mult1 (v7 : BitVec 32) : BitVec 32 :=
  let c0_i32_5 : BitVec 32 := 0#32
  let v15 : BitVec 1 := Scalar.cmpi .sgt v7 c0_i32_5
  let v16 : BitVec 32 := Scalar.extui v15
  let c0_i32_6 : BitVec 32 := 0#32
  let v17 : BitVec 1 := Scalar.cmpi .slt v7 c0_i32_6
  let v18 : BitVec 32 := Scalar.extui v17
  let v19 : BitVec 32 := Scalar.subi v16 v18
  let c16_i32_4 : BitVec 32 := 16#32
  let c0_i32_7 : BitVec 32 := 0#32
  let v20 : BitVec 1 := Scalar.cmpi .sgt c16_i32_4 c0_i32_7
  let v21 : BitVec 32 := Scalar.extui v20
  let c0_i32_8 : BitVec 32 := 0#32
  let v22 : BitVec 1 := Scalar.cmpi .slt c16_i32_4 c0_i32_8
  let v23 : BitVec 32 := Scalar.extui v22
  let v24 : BitVec 32 := Scalar.subi v21 v23
  let v25 : BitVec 1 := Scalar.cmpi .ne v19 v24
  let v26 : BitVec 32 := Scalar.remsi v7 c16_i32_4
  let c0_i32_9 : BitVec 32 := 0#32
  let v27 : BitVec 1 := Scalar.cmpi .ne v26 c0_i32_9
  let v28 : BitVec 1 := Scalar.andi v25 v27
  let v14 : BitVec 32 := Scalar.divsi v7 c16_i32_4
  let c1_i32 : BitVec 32 := 1#32
  let v29 : BitVec 32 := Scalar.subi v14 c1_i32
  let v30 : BitVec 32 := Scalar.select v28 v29 v14
  let c16_i32_10 : BitVec 32 := 16#32
  let v31 : BitVec 32 := Scalar.muli v30 c16_i32_10
  let c192_i32 : BitVec 32 := 192#32
  let v32 : BitVec 32 := Scalar.minsi v31 c192_i32
  v32
def k0_cond1 (i : grid0.Coords) (v7 : BitVec 32) (v12 : BitVec 32) (v37 : BitVec 32) (v42 : BitVec 32) (v68 : BitVec 32) (v73 : BitVec 32) (v99 : BitVec 32) (v104 : BitVec 32) (v130 : BitVec 32) (v135 : BitVec 32) (v161 : BitVec 32) (v166 : BitVec 32) (v192 : BitVec 32) (v197 : BitVec 32) (v223 : BitVec 32) (v228 : BitVec 32) (v254 : BitVec 32) (v259 : BitVec 32) (v285 : BitVec 32) (v290 : BitVec 32) (v316 : BitVec 32) (v321 : BitVec 32) (v347 : BitVec 32) (v352 : BitVec 32) (v378 : BitVec 32) (v383 : BitVec 32) (v409 : BitVec 32) (v414 : BitVec 32) (v440 : BitVec 32) (v445 : BitVec 32) (v471 : BitVec 32) (v476 : BitVec 32) : BitVec 1 :=
  let arg1 : BitVec 32 := BitVec.ofNat 32 (i 1).val
  let c7_i32 : BitVec 32 := 7#32
  let v8 : BitVec 1 := Scalar.cmpi .eq arg1 c7_i32
  let c256_i32 : BitVec 32 := 256#32
  let v13 : BitVec 32 := Scalar.select v8 c256_i32 v12
  let c0_i32_5 : BitVec 32 := 0#32
  let v15 : BitVec 1 := Scalar.cmpi .sgt v7 c0_i32_5
  let v16 : BitVec 32 := Scalar.extui v15
  let c0_i32_6 : BitVec 32 := 0#32
  let v17 : BitVec 1 := Scalar.cmpi .slt v7 c0_i32_6
  let v18 : BitVec 32 := Scalar.extui v17
  let v19 : BitVec 32 := Scalar.subi v16 v18
  let c16_i32_4 : BitVec 32 := 16#32
  let c0_i32_7 : BitVec 32 := 0#32
  let v20 : BitVec 1 := Scalar.cmpi .sgt c16_i32_4 c0_i32_7
  let v21 : BitVec 32 := Scalar.extui v20
  let c0_i32_8 : BitVec 32 := 0#32
  let v22 : BitVec 1 := Scalar.cmpi .slt c16_i32_4 c0_i32_8
  let v23 : BitVec 32 := Scalar.extui v22
  let v24 : BitVec 32 := Scalar.subi v21 v23
  let v25 : BitVec 1 := Scalar.cmpi .ne v19 v24
  let v26 : BitVec 32 := Scalar.remsi v7 c16_i32_4
  let c0_i32_9 : BitVec 32 := 0#32
  let v27 : BitVec 1 := Scalar.cmpi .ne v26 c0_i32_9
  let v28 : BitVec 1 := Scalar.andi v25 v27
  let v14 : BitVec 32 := Scalar.divsi v7 c16_i32_4
  let c1_i32 : BitVec 32 := 1#32
  let v29 : BitVec 32 := Scalar.subi v14 c1_i32
  let v30 : BitVec 32 := Scalar.select v28 v29 v14
  let c16_i32_10 : BitVec 32 := 16#32
  let v31 : BitVec 32 := Scalar.muli v30 c16_i32_10
  let c192_i32 : BitVec 32 := 192#32
  let v32 : BitVec 32 := Scalar.minsi v31 c192_i32
  let c64_i32 : BitVec 32 := 64#32
  let v33 : BitVec 32 := Scalar.addi v32 c64_i32
  let v34 : BitVec 1 := Scalar.cmpi .sle v13 v33
  let c7_i32_12 : BitVec 32 := 7#32
  let v38 : BitVec 1 := Scalar.cmpi .eq arg1 c7_i32_12
  let c256_i32_15 : BitVec 32 := 256#32
  let v43 : BitVec 32 := Scalar.select v38 c256_i32_15 v42
  let c0_i32_17 : BitVec 32 := 0#32
  let v45 : BitVec 1 := Scalar.cmpi .sgt v37 c0_i32_17
  let v46 : BitVec 32 := Scalar.extui v45
  let c0_i32_18 : BitVec 32 := 0#32
  let v47 : BitVec 1 := Scalar.cmpi .slt v37 c0_i32_18
  let v48 : BitVec 32 := Scalar.extui v47
  let v49 : BitVec 32 := Scalar.subi v46 v48
  let c16_i32_16 : BitVec 32 := 16#32
  let c0_i32_19 : BitVec 32 := 0#32
  let v50 : BitVec 1 := Scalar.cmpi .sgt c16_i32_16 c0_i32_19
  let v51 : BitVec 32 := Scalar.extui v50
  let c0_i32_20 : BitVec 32 := 0#32
  let v52 : BitVec 1 := Scalar.cmpi .slt c16_i32_16 c0_i32_20
  let v53 : BitVec 32 := Scalar.extui v52
  let v54 : BitVec 32 := Scalar.subi v51 v53
  let v55 : BitVec 1 := Scalar.cmpi .ne v49 v54
  let v56 : BitVec 32 := Scalar.remsi v37 c16_i32_16
  let c0_i32_21 : BitVec 32 := 0#32
  let v57 : BitVec 1 := Scalar.cmpi .ne v56 c0_i32_21
  let v58 : BitVec 1 := Scalar.andi v55 v57
  let v44 : BitVec 32 := Scalar.divsi v37 c16_i32_16
  let c1_i32_22 : BitVec 32 := 1#32
  let v59 : BitVec 32 := Scalar.subi v44 c1_i32_22
  let v60 : BitVec 32 := Scalar.select v58 v59 v44
  let c16_i32_23 : BitVec 32 := 16#32
  let v61 : BitVec 32 := Scalar.muli v60 c16_i32_23
  let c192_i32_24 : BitVec 32 := 192#32
  let v62 : BitVec 32 := Scalar.minsi v61 c192_i32_24
  let c64_i32_25 : BitVec 32 := 64#32
  let v63 : BitVec 32 := Scalar.addi v62 c64_i32_25
  let v64 : BitVec 1 := Scalar.cmpi .sle v43 v63
  let v65 : BitVec 1 := Scalar.andi v34 v64
  let c7_i32_26 : BitVec 32 := 7#32
  let v69 : BitVec 1 := Scalar.cmpi .eq arg1 c7_i32_26
  let c256_i32_29 : BitVec 32 := 256#32
  let v74 : BitVec 32 := Scalar.select v69 c256_i32_29 v73
  let c0_i32_31 : BitVec 32 := 0#32
  let v76 : BitVec 1 := Scalar.cmpi .sgt v68 c0_i32_31
  let v77 : BitVec 32 := Scalar.extui v76
  let c0_i32_32 : BitVec 32 := 0#32
  let v78 : BitVec 1 := Scalar.cmpi .slt v68 c0_i32_32
  let v79 : BitVec 32 := Scalar.extui v78
  let v80 : BitVec 32 := Scalar.subi v77 v79
  let c16_i32_30 : BitVec 32 := 16#32
  let c0_i32_33 : BitVec 32 := 0#32
  let v81 : BitVec 1 := Scalar.cmpi .sgt c16_i32_30 c0_i32_33
  let v82 : BitVec 32 := Scalar.extui v81
  let c0_i32_34 : BitVec 32 := 0#32
  let v83 : BitVec 1 := Scalar.cmpi .slt c16_i32_30 c0_i32_34
  let v84 : BitVec 32 := Scalar.extui v83
  let v85 : BitVec 32 := Scalar.subi v82 v84
  let v86 : BitVec 1 := Scalar.cmpi .ne v80 v85
  let v87 : BitVec 32 := Scalar.remsi v68 c16_i32_30
  let c0_i32_35 : BitVec 32 := 0#32
  let v88 : BitVec 1 := Scalar.cmpi .ne v87 c0_i32_35
  let v89 : BitVec 1 := Scalar.andi v86 v88
  let v75 : BitVec 32 := Scalar.divsi v68 c16_i32_30
  let c1_i32_36 : BitVec 32 := 1#32
  let v90 : BitVec 32 := Scalar.subi v75 c1_i32_36
  let v91 : BitVec 32 := Scalar.select v89 v90 v75
  let c16_i32_37 : BitVec 32 := 16#32
  let v92 : BitVec 32 := Scalar.muli v91 c16_i32_37
  let c192_i32_38 : BitVec 32 := 192#32
  let v93 : BitVec 32 := Scalar.minsi v92 c192_i32_38
  let c64_i32_39 : BitVec 32 := 64#32
  let v94 : BitVec 32 := Scalar.addi v93 c64_i32_39
  let v95 : BitVec 1 := Scalar.cmpi .sle v74 v94
  let v96 : BitVec 1 := Scalar.andi v65 v95
  let c7_i32_40 : BitVec 32 := 7#32
  let v100 : BitVec 1 := Scalar.cmpi .eq arg1 c7_i32_40
  let c256_i32_43 : BitVec 32 := 256#32
  let v105 : BitVec 32 := Scalar.select v100 c256_i32_43 v104
  let c0_i32_45 : BitVec 32 := 0#32
  let v107 : BitVec 1 := Scalar.cmpi .sgt v99 c0_i32_45
  let v108 : BitVec 32 := Scalar.extui v107
  let c0_i32_46 : BitVec 32 := 0#32
  let v109 : BitVec 1 := Scalar.cmpi .slt v99 c0_i32_46
  let v110 : BitVec 32 := Scalar.extui v109
  let v111 : BitVec 32 := Scalar.subi v108 v110
  let c16_i32_44 : BitVec 32 := 16#32
  let c0_i32_47 : BitVec 32 := 0#32
  let v112 : BitVec 1 := Scalar.cmpi .sgt c16_i32_44 c0_i32_47
  let v113 : BitVec 32 := Scalar.extui v112
  let c0_i32_48 : BitVec 32 := 0#32
  let v114 : BitVec 1 := Scalar.cmpi .slt c16_i32_44 c0_i32_48
  let v115 : BitVec 32 := Scalar.extui v114
  let v116 : BitVec 32 := Scalar.subi v113 v115
  let v117 : BitVec 1 := Scalar.cmpi .ne v111 v116
  let v118 : BitVec 32 := Scalar.remsi v99 c16_i32_44
  let c0_i32_49 : BitVec 32 := 0#32
  let v119 : BitVec 1 := Scalar.cmpi .ne v118 c0_i32_49
  let v120 : BitVec 1 := Scalar.andi v117 v119
  let v106 : BitVec 32 := Scalar.divsi v99 c16_i32_44
  let c1_i32_50 : BitVec 32 := 1#32
  let v121 : BitVec 32 := Scalar.subi v106 c1_i32_50
  let v122 : BitVec 32 := Scalar.select v120 v121 v106
  let c16_i32_51 : BitVec 32 := 16#32
  let v123 : BitVec 32 := Scalar.muli v122 c16_i32_51
  let c192_i32_52 : BitVec 32 := 192#32
  let v124 : BitVec 32 := Scalar.minsi v123 c192_i32_52
  let c64_i32_53 : BitVec 32 := 64#32
  let v125 : BitVec 32 := Scalar.addi v124 c64_i32_53
  let v126 : BitVec 1 := Scalar.cmpi .sle v105 v125
  let v127 : BitVec 1 := Scalar.andi v96 v126
  let c7_i32_54 : BitVec 32 := 7#32
  let v131 : BitVec 1 := Scalar.cmpi .eq arg1 c7_i32_54
  let c256_i32_57 : BitVec 32 := 256#32
  let v136 : BitVec 32 := Scalar.select v131 c256_i32_57 v135
  let c0_i32_59 : BitVec 32 := 0#32
  let v138 : BitVec 1 := Scalar.cmpi .sgt v130 c0_i32_59
  let v139 : BitVec 32 := Scalar.extui v138
  let c0_i32_60 : BitVec 32 := 0#32
  let v140 : BitVec 1 := Scalar.cmpi .slt v130 c0_i32_60
  let v141 : BitVec 32 := Scalar.extui v140
  let v142 : BitVec 32 := Scalar.subi v139 v141
  let c16_i32_58 : BitVec 32 := 16#32
  let c0_i32_61 : BitVec 32 := 0#32
  let v143 : BitVec 1 := Scalar.cmpi .sgt c16_i32_58 c0_i32_61
  let v144 : BitVec 32 := Scalar.extui v143
  let c0_i32_62 : BitVec 32 := 0#32
  let v145 : BitVec 1 := Scalar.cmpi .slt c16_i32_58 c0_i32_62
  let v146 : BitVec 32 := Scalar.extui v145
  let v147 : BitVec 32 := Scalar.subi v144 v146
  let v148 : BitVec 1 := Scalar.cmpi .ne v142 v147
  let v149 : BitVec 32 := Scalar.remsi v130 c16_i32_58
  let c0_i32_63 : BitVec 32 := 0#32
  let v150 : BitVec 1 := Scalar.cmpi .ne v149 c0_i32_63
  let v151 : BitVec 1 := Scalar.andi v148 v150
  let v137 : BitVec 32 := Scalar.divsi v130 c16_i32_58
  let c1_i32_64 : BitVec 32 := 1#32
  let v152 : BitVec 32 := Scalar.subi v137 c1_i32_64
  let v153 : BitVec 32 := Scalar.select v151 v152 v137
  let c16_i32_65 : BitVec 32 := 16#32
  let v154 : BitVec 32 := Scalar.muli v153 c16_i32_65
  let c192_i32_66 : BitVec 32 := 192#32
  let v155 : BitVec 32 := Scalar.minsi v154 c192_i32_66
  let c64_i32_67 : BitVec 32 := 64#32
  let v156 : BitVec 32 := Scalar.addi v155 c64_i32_67
  let v157 : BitVec 1 := Scalar.cmpi .sle v136 v156
  let v158 : BitVec 1 := Scalar.andi v127 v157
  let c7_i32_68 : BitVec 32 := 7#32
  let v162 : BitVec 1 := Scalar.cmpi .eq arg1 c7_i32_68
  let c256_i32_71 : BitVec 32 := 256#32
  let v167 : BitVec 32 := Scalar.select v162 c256_i32_71 v166
  let c0_i32_73 : BitVec 32 := 0#32
  let v169 : BitVec 1 := Scalar.cmpi .sgt v161 c0_i32_73
  let v170 : BitVec 32 := Scalar.extui v169
  let c0_i32_74 : BitVec 32 := 0#32
  let v171 : BitVec 1 := Scalar.cmpi .slt v161 c0_i32_74
  let v172 : BitVec 32 := Scalar.extui v171
  let v173 : BitVec 32 := Scalar.subi v170 v172
  let c16_i32_72 : BitVec 32 := 16#32
  let c0_i32_75 : BitVec 32 := 0#32
  let v174 : BitVec 1 := Scalar.cmpi .sgt c16_i32_72 c0_i32_75
  let v175 : BitVec 32 := Scalar.extui v174
  let c0_i32_76 : BitVec 32 := 0#32
  let v176 : BitVec 1 := Scalar.cmpi .slt c16_i32_72 c0_i32_76
  let v177 : BitVec 32 := Scalar.extui v176
  let v178 : BitVec 32 := Scalar.subi v175 v177
  let v179 : BitVec 1 := Scalar.cmpi .ne v173 v178
  let v180 : BitVec 32 := Scalar.remsi v161 c16_i32_72
  let c0_i32_77 : BitVec 32 := 0#32
  let v181 : BitVec 1 := Scalar.cmpi .ne v180 c0_i32_77
  let v182 : BitVec 1 := Scalar.andi v179 v181
  let v168 : BitVec 32 := Scalar.divsi v161 c16_i32_72
  let c1_i32_78 : BitVec 32 := 1#32
  let v183 : BitVec 32 := Scalar.subi v168 c1_i32_78
  let v184 : BitVec 32 := Scalar.select v182 v183 v168
  let c16_i32_79 : BitVec 32 := 16#32
  let v185 : BitVec 32 := Scalar.muli v184 c16_i32_79
  let c192_i32_80 : BitVec 32 := 192#32
  let v186 : BitVec 32 := Scalar.minsi v185 c192_i32_80
  let c64_i32_81 : BitVec 32 := 64#32
  let v187 : BitVec 32 := Scalar.addi v186 c64_i32_81
  let v188 : BitVec 1 := Scalar.cmpi .sle v167 v187
  let v189 : BitVec 1 := Scalar.andi v158 v188
  let c7_i32_82 : BitVec 32 := 7#32
  let v193 : BitVec 1 := Scalar.cmpi .eq arg1 c7_i32_82
  let c256_i32_85 : BitVec 32 := 256#32
  let v198 : BitVec 32 := Scalar.select v193 c256_i32_85 v197
  let c0_i32_87 : BitVec 32 := 0#32
  let v200 : BitVec 1 := Scalar.cmpi .sgt v192 c0_i32_87
  let v201 : BitVec 32 := Scalar.extui v200
  let c0_i32_88 : BitVec 32 := 0#32
  let v202 : BitVec 1 := Scalar.cmpi .slt v192 c0_i32_88
  let v203 : BitVec 32 := Scalar.extui v202
  let v204 : BitVec 32 := Scalar.subi v201 v203
  let c16_i32_86 : BitVec 32 := 16#32
  let c0_i32_89 : BitVec 32 := 0#32
  let v205 : BitVec 1 := Scalar.cmpi .sgt c16_i32_86 c0_i32_89
  let v206 : BitVec 32 := Scalar.extui v205
  let c0_i32_90 : BitVec 32 := 0#32
  let v207 : BitVec 1 := Scalar.cmpi .slt c16_i32_86 c0_i32_90
  let v208 : BitVec 32 := Scalar.extui v207
  let v209 : BitVec 32 := Scalar.subi v206 v208
  let v210 : BitVec 1 := Scalar.cmpi .ne v204 v209
  let v211 : BitVec 32 := Scalar.remsi v192 c16_i32_86
  let c0_i32_91 : BitVec 32 := 0#32
  let v212 : BitVec 1 := Scalar.cmpi .ne v211 c0_i32_91
  let v213 : BitVec 1 := Scalar.andi v210 v212
  let v199 : BitVec 32 := Scalar.divsi v192 c16_i32_86
  let c1_i32_92 : BitVec 32 := 1#32
  let v214 : BitVec 32 := Scalar.subi v199 c1_i32_92
  let v215 : BitVec 32 := Scalar.select v213 v214 v199
  let c16_i32_93 : BitVec 32 := 16#32
  let v216 : BitVec 32 := Scalar.muli v215 c16_i32_93
  let c192_i32_94 : BitVec 32 := 192#32
  let v217 : BitVec 32 := Scalar.minsi v216 c192_i32_94
  let c64_i32_95 : BitVec 32 := 64#32
  let v218 : BitVec 32 := Scalar.addi v217 c64_i32_95
  let v219 : BitVec 1 := Scalar.cmpi .sle v198 v218
  let v220 : BitVec 1 := Scalar.andi v189 v219
  let c7_i32_97 : BitVec 32 := 7#32
  let v224 : BitVec 1 := Scalar.cmpi .eq arg1 c7_i32_97
  let c256_i32_100 : BitVec 32 := 256#32
  let v229 : BitVec 32 := Scalar.select v224 c256_i32_100 v228
  let c0_i32_102 : BitVec 32 := 0#32
  let v231 : BitVec 1 := Scalar.cmpi .sgt v223 c0_i32_102
  let v232 : BitVec 32 := Scalar.extui v231
  let c0_i32_103 : BitVec 32 := 0#32
  let v233 : BitVec 1 := Scalar.cmpi .slt v223 c0_i32_103
  let v234 : BitVec 32 := Scalar.extui v233
  let v235 : BitVec 32 := Scalar.subi v232 v234
  let c16_i32_101 : BitVec 32 := 16#32
  let c0_i32_104 : BitVec 32 := 0#32
  let v236 : BitVec 1 := Scalar.cmpi .sgt c16_i32_101 c0_i32_104
  let v237 : BitVec 32 := Scalar.extui v236
  let c0_i32_105 : BitVec 32 := 0#32
  let v238 : BitVec 1 := Scalar.cmpi .slt c16_i32_101 c0_i32_105
  let v239 : BitVec 32 := Scalar.extui v238
  let v240 : BitVec 32 := Scalar.subi v237 v239
  let v241 : BitVec 1 := Scalar.cmpi .ne v235 v240
  let v242 : BitVec 32 := Scalar.remsi v223 c16_i32_101
  let c0_i32_106 : BitVec 32 := 0#32
  let v243 : BitVec 1 := Scalar.cmpi .ne v242 c0_i32_106
  let v244 : BitVec 1 := Scalar.andi v241 v243
  let v230 : BitVec 32 := Scalar.divsi v223 c16_i32_101
  let c1_i32_107 : BitVec 32 := 1#32
  let v245 : BitVec 32 := Scalar.subi v230 c1_i32_107
  let v246 : BitVec 32 := Scalar.select v244 v245 v230
  let c16_i32_108 : BitVec 32 := 16#32
  let v247 : BitVec 32 := Scalar.muli v246 c16_i32_108
  let c192_i32_109 : BitVec 32 := 192#32
  let v248 : BitVec 32 := Scalar.minsi v247 c192_i32_109
  let c64_i32_110 : BitVec 32 := 64#32
  let v249 : BitVec 32 := Scalar.addi v248 c64_i32_110
  let v250 : BitVec 1 := Scalar.cmpi .sle v229 v249
  let v251 : BitVec 1 := Scalar.andi v220 v250
  let c7_i32_112 : BitVec 32 := 7#32
  let v255 : BitVec 1 := Scalar.cmpi .eq arg1 c7_i32_112
  let c256_i32_115 : BitVec 32 := 256#32
  let v260 : BitVec 32 := Scalar.select v255 c256_i32_115 v259
  let c0_i32_117 : BitVec 32 := 0#32
  let v262 : BitVec 1 := Scalar.cmpi .sgt v254 c0_i32_117
  let v263 : BitVec 32 := Scalar.extui v262
  let c0_i32_118 : BitVec 32 := 0#32
  let v264 : BitVec 1 := Scalar.cmpi .slt v254 c0_i32_118
  let v265 : BitVec 32 := Scalar.extui v264
  let v266 : BitVec 32 := Scalar.subi v263 v265
  let c16_i32_116 : BitVec 32 := 16#32
  let c0_i32_119 : BitVec 32 := 0#32
  let v267 : BitVec 1 := Scalar.cmpi .sgt c16_i32_116 c0_i32_119
  let v268 : BitVec 32 := Scalar.extui v267
  let c0_i32_120 : BitVec 32 := 0#32
  let v269 : BitVec 1 := Scalar.cmpi .slt c16_i32_116 c0_i32_120
  let v270 : BitVec 32 := Scalar.extui v269
  let v271 : BitVec 32 := Scalar.subi v268 v270
  let v272 : BitVec 1 := Scalar.cmpi .ne v266 v271
  let v273 : BitVec 32 := Scalar.remsi v254 c16_i32_116
  let c0_i32_121 : BitVec 32 := 0#32
  let v274 : BitVec 1 := Scalar.cmpi .ne v273 c0_i32_121
  let v275 : BitVec 1 := Scalar.andi v272 v274
  let v261 : BitVec 32 := Scalar.divsi v254 c16_i32_116
  let c1_i32_122 : BitVec 32 := 1#32
  let v276 : BitVec 32 := Scalar.subi v261 c1_i32_122
  let v277 : BitVec 32 := Scalar.select v275 v276 v261
  let c16_i32_123 : BitVec 32 := 16#32
  let v278 : BitVec 32 := Scalar.muli v277 c16_i32_123
  let c192_i32_124 : BitVec 32 := 192#32
  let v279 : BitVec 32 := Scalar.minsi v278 c192_i32_124
  let c64_i32_125 : BitVec 32 := 64#32
  let v280 : BitVec 32 := Scalar.addi v279 c64_i32_125
  let v281 : BitVec 1 := Scalar.cmpi .sle v260 v280
  let v282 : BitVec 1 := Scalar.andi v251 v281
  let c7_i32_126 : BitVec 32 := 7#32
  let v286 : BitVec 1 := Scalar.cmpi .eq arg1 c7_i32_126
  let c256_i32_129 : BitVec 32 := 256#32
  let v291 : BitVec 32 := Scalar.select v286 c256_i32_129 v290
  let c0_i32_131 : BitVec 32 := 0#32
  let v293 : BitVec 1 := Scalar.cmpi .sgt v285 c0_i32_131
  let v294 : BitVec 32 := Scalar.extui v293
  let c0_i32_132 : BitVec 32 := 0#32
  let v295 : BitVec 1 := Scalar.cmpi .slt v285 c0_i32_132
  let v296 : BitVec 32 := Scalar.extui v295
  let v297 : BitVec 32 := Scalar.subi v294 v296
  let c16_i32_130 : BitVec 32 := 16#32
  let c0_i32_133 : BitVec 32 := 0#32
  let v298 : BitVec 1 := Scalar.cmpi .sgt c16_i32_130 c0_i32_133
  let v299 : BitVec 32 := Scalar.extui v298
  let c0_i32_134 : BitVec 32 := 0#32
  let v300 : BitVec 1 := Scalar.cmpi .slt c16_i32_130 c0_i32_134
  let v301 : BitVec 32 := Scalar.extui v300
  let v302 : BitVec 32 := Scalar.subi v299 v301
  let v303 : BitVec 1 := Scalar.cmpi .ne v297 v302
  let v304 : BitVec 32 := Scalar.remsi v285 c16_i32_130
  let c0_i32_135 : BitVec 32 := 0#32
  let v305 : BitVec 1 := Scalar.cmpi .ne v304 c0_i32_135
  let v306 : BitVec 1 := Scalar.andi v303 v305
  let v292 : BitVec 32 := Scalar.divsi v285 c16_i32_130
  let c1_i32_136 : BitVec 32 := 1#32
  let v307 : BitVec 32 := Scalar.subi v292 c1_i32_136
  let v308 : BitVec 32 := Scalar.select v306 v307 v292
  let c16_i32_137 : BitVec 32 := 16#32
  let v309 : BitVec 32 := Scalar.muli v308 c16_i32_137
  let c192_i32_138 : BitVec 32 := 192#32
  let v310 : BitVec 32 := Scalar.minsi v309 c192_i32_138
  let c64_i32_139 : BitVec 32 := 64#32
  let v311 : BitVec 32 := Scalar.addi v310 c64_i32_139
  let v312 : BitVec 1 := Scalar.cmpi .sle v291 v311
  let v313 : BitVec 1 := Scalar.andi v282 v312
  let c7_i32_140 : BitVec 32 := 7#32
  let v317 : BitVec 1 := Scalar.cmpi .eq arg1 c7_i32_140
  let c256_i32_143 : BitVec 32 := 256#32
  let v322 : BitVec 32 := Scalar.select v317 c256_i32_143 v321
  let c0_i32_145 : BitVec 32 := 0#32
  let v324 : BitVec 1 := Scalar.cmpi .sgt v316 c0_i32_145
  let v325 : BitVec 32 := Scalar.extui v324
  let c0_i32_146 : BitVec 32 := 0#32
  let v326 : BitVec 1 := Scalar.cmpi .slt v316 c0_i32_146
  let v327 : BitVec 32 := Scalar.extui v326
  let v328 : BitVec 32 := Scalar.subi v325 v327
  let c16_i32_144 : BitVec 32 := 16#32
  let c0_i32_147 : BitVec 32 := 0#32
  let v329 : BitVec 1 := Scalar.cmpi .sgt c16_i32_144 c0_i32_147
  let v330 : BitVec 32 := Scalar.extui v329
  let c0_i32_148 : BitVec 32 := 0#32
  let v331 : BitVec 1 := Scalar.cmpi .slt c16_i32_144 c0_i32_148
  let v332 : BitVec 32 := Scalar.extui v331
  let v333 : BitVec 32 := Scalar.subi v330 v332
  let v334 : BitVec 1 := Scalar.cmpi .ne v328 v333
  let v335 : BitVec 32 := Scalar.remsi v316 c16_i32_144
  let c0_i32_149 : BitVec 32 := 0#32
  let v336 : BitVec 1 := Scalar.cmpi .ne v335 c0_i32_149
  let v337 : BitVec 1 := Scalar.andi v334 v336
  let v323 : BitVec 32 := Scalar.divsi v316 c16_i32_144
  let c1_i32_150 : BitVec 32 := 1#32
  let v338 : BitVec 32 := Scalar.subi v323 c1_i32_150
  let v339 : BitVec 32 := Scalar.select v337 v338 v323
  let c16_i32_151 : BitVec 32 := 16#32
  let v340 : BitVec 32 := Scalar.muli v339 c16_i32_151
  let c192_i32_152 : BitVec 32 := 192#32
  let v341 : BitVec 32 := Scalar.minsi v340 c192_i32_152
  let c64_i32_153 : BitVec 32 := 64#32
  let v342 : BitVec 32 := Scalar.addi v341 c64_i32_153
  let v343 : BitVec 1 := Scalar.cmpi .sle v322 v342
  let v344 : BitVec 1 := Scalar.andi v313 v343
  let c7_i32_154 : BitVec 32 := 7#32
  let v348 : BitVec 1 := Scalar.cmpi .eq arg1 c7_i32_154
  let c256_i32_157 : BitVec 32 := 256#32
  let v353 : BitVec 32 := Scalar.select v348 c256_i32_157 v352
  let c0_i32_159 : BitVec 32 := 0#32
  let v355 : BitVec 1 := Scalar.cmpi .sgt v347 c0_i32_159
  let v356 : BitVec 32 := Scalar.extui v355
  let c0_i32_160 : BitVec 32 := 0#32
  let v357 : BitVec 1 := Scalar.cmpi .slt v347 c0_i32_160
  let v358 : BitVec 32 := Scalar.extui v357
  let v359 : BitVec 32 := Scalar.subi v356 v358
  let c16_i32_158 : BitVec 32 := 16#32
  let c0_i32_161 : BitVec 32 := 0#32
  let v360 : BitVec 1 := Scalar.cmpi .sgt c16_i32_158 c0_i32_161
  let v361 : BitVec 32 := Scalar.extui v360
  let c0_i32_162 : BitVec 32 := 0#32
  let v362 : BitVec 1 := Scalar.cmpi .slt c16_i32_158 c0_i32_162
  let v363 : BitVec 32 := Scalar.extui v362
  let v364 : BitVec 32 := Scalar.subi v361 v363
  let v365 : BitVec 1 := Scalar.cmpi .ne v359 v364
  let v366 : BitVec 32 := Scalar.remsi v347 c16_i32_158
  let c0_i32_163 : BitVec 32 := 0#32
  let v367 : BitVec 1 := Scalar.cmpi .ne v366 c0_i32_163
  let v368 : BitVec 1 := Scalar.andi v365 v367
  let v354 : BitVec 32 := Scalar.divsi v347 c16_i32_158
  let c1_i32_164 : BitVec 32 := 1#32
  let v369 : BitVec 32 := Scalar.subi v354 c1_i32_164
  let v370 : BitVec 32 := Scalar.select v368 v369 v354
  let c16_i32_165 : BitVec 32 := 16#32
  let v371 : BitVec 32 := Scalar.muli v370 c16_i32_165
  let c192_i32_166 : BitVec 32 := 192#32
  let v372 : BitVec 32 := Scalar.minsi v371 c192_i32_166
  let c64_i32_167 : BitVec 32 := 64#32
  let v373 : BitVec 32 := Scalar.addi v372 c64_i32_167
  let v374 : BitVec 1 := Scalar.cmpi .sle v353 v373
  let v375 : BitVec 1 := Scalar.andi v344 v374
  let c7_i32_168 : BitVec 32 := 7#32
  let v379 : BitVec 1 := Scalar.cmpi .eq arg1 c7_i32_168
  let c256_i32_171 : BitVec 32 := 256#32
  let v384 : BitVec 32 := Scalar.select v379 c256_i32_171 v383
  let c0_i32_173 : BitVec 32 := 0#32
  let v386 : BitVec 1 := Scalar.cmpi .sgt v378 c0_i32_173
  let v387 : BitVec 32 := Scalar.extui v386
  let c0_i32_174 : BitVec 32 := 0#32
  let v388 : BitVec 1 := Scalar.cmpi .slt v378 c0_i32_174
  let v389 : BitVec 32 := Scalar.extui v388
  let v390 : BitVec 32 := Scalar.subi v387 v389
  let c16_i32_172 : BitVec 32 := 16#32
  let c0_i32_175 : BitVec 32 := 0#32
  let v391 : BitVec 1 := Scalar.cmpi .sgt c16_i32_172 c0_i32_175
  let v392 : BitVec 32 := Scalar.extui v391
  let c0_i32_176 : BitVec 32 := 0#32
  let v393 : BitVec 1 := Scalar.cmpi .slt c16_i32_172 c0_i32_176
  let v394 : BitVec 32 := Scalar.extui v393
  let v395 : BitVec 32 := Scalar.subi v392 v394
  let v396 : BitVec 1 := Scalar.cmpi .ne v390 v395
  let v397 : BitVec 32 := Scalar.remsi v378 c16_i32_172
  let c0_i32_177 : BitVec 32 := 0#32
  let v398 : BitVec 1 := Scalar.cmpi .ne v397 c0_i32_177
  let v399 : BitVec 1 := Scalar.andi v396 v398
  let v385 : BitVec 32 := Scalar.divsi v378 c16_i32_172
  let c1_i32_178 : BitVec 32 := 1#32
  let v400 : BitVec 32 := Scalar.subi v385 c1_i32_178
  let v401 : BitVec 32 := Scalar.select v399 v400 v385
  let c16_i32_179 : BitVec 32 := 16#32
  let v402 : BitVec 32 := Scalar.muli v401 c16_i32_179
  let c192_i32_180 : BitVec 32 := 192#32
  let v403 : BitVec 32 := Scalar.minsi v402 c192_i32_180
  let c64_i32_181 : BitVec 32 := 64#32
  let v404 : BitVec 32 := Scalar.addi v403 c64_i32_181
  let v405 : BitVec 1 := Scalar.cmpi .sle v384 v404
  let v406 : BitVec 1 := Scalar.andi v375 v405
  let c7_i32_182 : BitVec 32 := 7#32
  let v410 : BitVec 1 := Scalar.cmpi .eq arg1 c7_i32_182
  let c256_i32_185 : BitVec 32 := 256#32
  let v415 : BitVec 32 := Scalar.select v410 c256_i32_185 v414
  let c0_i32_187 : BitVec 32 := 0#32
  let v417 : BitVec 1 := Scalar.cmpi .sgt v409 c0_i32_187
  let v418 : BitVec 32 := Scalar.extui v417
  let c0_i32_188 : BitVec 32 := 0#32
  let v419 : BitVec 1 := Scalar.cmpi .slt v409 c0_i32_188
  let v420 : BitVec 32 := Scalar.extui v419
  let v421 : BitVec 32 := Scalar.subi v418 v420
  let c16_i32_186 : BitVec 32 := 16#32
  let c0_i32_189 : BitVec 32 := 0#32
  let v422 : BitVec 1 := Scalar.cmpi .sgt c16_i32_186 c0_i32_189
  let v423 : BitVec 32 := Scalar.extui v422
  let c0_i32_190 : BitVec 32 := 0#32
  let v424 : BitVec 1 := Scalar.cmpi .slt c16_i32_186 c0_i32_190
  let v425 : BitVec 32 := Scalar.extui v424
  let v426 : BitVec 32 := Scalar.subi v423 v425
  let v427 : BitVec 1 := Scalar.cmpi .ne v421 v426
  let v428 : BitVec 32 := Scalar.remsi v409 c16_i32_186
  let c0_i32_191 : BitVec 32 := 0#32
  let v429 : BitVec 1 := Scalar.cmpi .ne v428 c0_i32_191
  let v430 : BitVec 1 := Scalar.andi v427 v429
  let v416 : BitVec 32 := Scalar.divsi v409 c16_i32_186
  let c1_i32_192 : BitVec 32 := 1#32
  let v431 : BitVec 32 := Scalar.subi v416 c1_i32_192
  let v432 : BitVec 32 := Scalar.select v430 v431 v416
  let c16_i32_193 : BitVec 32 := 16#32
  let v433 : BitVec 32 := Scalar.muli v432 c16_i32_193
  let c192_i32_194 : BitVec 32 := 192#32
  let v434 : BitVec 32 := Scalar.minsi v433 c192_i32_194
  let c64_i32_195 : BitVec 32 := 64#32
  let v435 : BitVec 32 := Scalar.addi v434 c64_i32_195
  let v436 : BitVec 1 := Scalar.cmpi .sle v415 v435
  let v437 : BitVec 1 := Scalar.andi v406 v436
  let c7_i32_196 : BitVec 32 := 7#32
  let v441 : BitVec 1 := Scalar.cmpi .eq arg1 c7_i32_196
  let c256_i32_199 : BitVec 32 := 256#32
  let v446 : BitVec 32 := Scalar.select v441 c256_i32_199 v445
  let c0_i32_201 : BitVec 32 := 0#32
  let v448 : BitVec 1 := Scalar.cmpi .sgt v440 c0_i32_201
  let v449 : BitVec 32 := Scalar.extui v448
  let c0_i32_202 : BitVec 32 := 0#32
  let v450 : BitVec 1 := Scalar.cmpi .slt v440 c0_i32_202
  let v451 : BitVec 32 := Scalar.extui v450
  let v452 : BitVec 32 := Scalar.subi v449 v451
  let c16_i32_200 : BitVec 32 := 16#32
  let c0_i32_203 : BitVec 32 := 0#32
  let v453 : BitVec 1 := Scalar.cmpi .sgt c16_i32_200 c0_i32_203
  let v454 : BitVec 32 := Scalar.extui v453
  let c0_i32_204 : BitVec 32 := 0#32
  let v455 : BitVec 1 := Scalar.cmpi .slt c16_i32_200 c0_i32_204
  let v456 : BitVec 32 := Scalar.extui v455
  let v457 : BitVec 32 := Scalar.subi v454 v456
  let v458 : BitVec 1 := Scalar.cmpi .ne v452 v457
  let v459 : BitVec 32 := Scalar.remsi v440 c16_i32_200
  let c0_i32_205 : BitVec 32 := 0#32
  let v460 : BitVec 1 := Scalar.cmpi .ne v459 c0_i32_205
  let v461 : BitVec 1 := Scalar.andi v458 v460
  let v447 : BitVec 32 := Scalar.divsi v440 c16_i32_200
  let c1_i32_206 : BitVec 32 := 1#32
  let v462 : BitVec 32 := Scalar.subi v447 c1_i32_206
  let v463 : BitVec 32 := Scalar.select v461 v462 v447
  let c16_i32_207 : BitVec 32 := 16#32
  let v464 : BitVec 32 := Scalar.muli v463 c16_i32_207
  let c192_i32_208 : BitVec 32 := 192#32
  let v465 : BitVec 32 := Scalar.minsi v464 c192_i32_208
  let c64_i32_209 : BitVec 32 := 64#32
  let v466 : BitVec 32 := Scalar.addi v465 c64_i32_209
  let v467 : BitVec 1 := Scalar.cmpi .sle v446 v466
  let v468 : BitVec 1 := Scalar.andi v437 v467
  let c7_i32_210 : BitVec 32 := 7#32
  let v472 : BitVec 1 := Scalar.cmpi .eq arg1 c7_i32_210
  let c256_i32_213 : BitVec 32 := 256#32
  let v477 : BitVec 32 := Scalar.select v472 c256_i32_213 v476
  let c0_i32_215 : BitVec 32 := 0#32
  let v479 : BitVec 1 := Scalar.cmpi .sgt v471 c0_i32_215
  let v480 : BitVec 32 := Scalar.extui v479
  let c0_i32_216 : BitVec 32 := 0#32
  let v481 : BitVec 1 := Scalar.cmpi .slt v471 c0_i32_216
  let v482 : BitVec 32 := Scalar.extui v481
  let v483 : BitVec 32 := Scalar.subi v480 v482
  let c16_i32_214 : BitVec 32 := 16#32
  let c0_i32_217 : BitVec 32 := 0#32
  let v484 : BitVec 1 := Scalar.cmpi .sgt c16_i32_214 c0_i32_217
  let v485 : BitVec 32 := Scalar.extui v484
  let c0_i32_218 : BitVec 32 := 0#32
  let v486 : BitVec 1 := Scalar.cmpi .slt c16_i32_214 c0_i32_218
  let v487 : BitVec 32 := Scalar.extui v486
  let v488 : BitVec 32 := Scalar.subi v485 v487
  let v489 : BitVec 1 := Scalar.cmpi .ne v483 v488
  let v490 : BitVec 32 := Scalar.remsi v471 c16_i32_214
  let c0_i32_219 : BitVec 32 := 0#32
  let v491 : BitVec 1 := Scalar.cmpi .ne v490 c0_i32_219
  let v492 : BitVec 1 := Scalar.andi v489 v491
  let v478 : BitVec 32 := Scalar.divsi v471 c16_i32_214
  let c1_i32_220 : BitVec 32 := 1#32
  let v493 : BitVec 32 := Scalar.subi v478 c1_i32_220
  let v494 : BitVec 32 := Scalar.select v492 v493 v478
  let c16_i32_221 : BitVec 32 := 16#32
  let v495 : BitVec 32 := Scalar.muli v494 c16_i32_221
  let c192_i32_222 : BitVec 32 := 192#32
  let v496 : BitVec 32 := Scalar.minsi v495 c192_i32_222
  let c64_i32_223 : BitVec 32 := 64#32
  let v497 : BitVec 32 := Scalar.addi v496 c64_i32_223
  let v498 : BitVec 1 := Scalar.cmpi .sle v477 v497
  let v499 : BitVec 1 := Scalar.andi v468 v498
  let v500 : BitVec 32 := Scalar.extui v499
  let c0_i32_224 : BitVec 32 := 0#32
  let v501 : BitVec 1 := Scalar.cmpi .ne v500 c0_i32_224
  v501

def k0_off3 (v7 : BitVec 32) : Fin 4 → Nat :=
  let c0_226 : Index := 0#32
  let c0_227 : Index := 0#32
  let c0_i32_5 : BitVec 32 := 0#32
  let v15 : BitVec 1 := Scalar.cmpi .sgt v7 c0_i32_5
  let v16 : BitVec 32 := Scalar.extui v15
  let c0_i32_6 : BitVec 32 := 0#32
  let v17 : BitVec 1 := Scalar.cmpi .slt v7 c0_i32_6
  let v18 : BitVec 32 := Scalar.extui v17
  let v19 : BitVec 32 := Scalar.subi v16 v18
  let c16_i32_4 : BitVec 32 := 16#32
  let c0_i32_7 : BitVec 32 := 0#32
  let v20 : BitVec 1 := Scalar.cmpi .sgt c16_i32_4 c0_i32_7
  let v21 : BitVec 32 := Scalar.extui v20
  let c0_i32_8 : BitVec 32 := 0#32
  let v22 : BitVec 1 := Scalar.cmpi .slt c16_i32_4 c0_i32_8
  let v23 : BitVec 32 := Scalar.extui v22
  let v24 : BitVec 32 := Scalar.subi v21 v23
  let v25 : BitVec 1 := Scalar.cmpi .ne v19 v24
  let v26 : BitVec 32 := Scalar.remsi v7 c16_i32_4
  let c0_i32_9 : BitVec 32 := 0#32
  let v27 : BitVec 1 := Scalar.cmpi .ne v26 c0_i32_9
  let v28 : BitVec 1 := Scalar.andi v25 v27
  let v14 : BitVec 32 := Scalar.divsi v7 c16_i32_4
  let c1_i32 : BitVec 32 := 1#32
  let v29 : BitVec 32 := Scalar.subi v14 c1_i32
  let v30 : BitVec 32 := Scalar.select v28 v29 v14
  let c16_i32_10 : BitVec 32 := 16#32
  let v31 : BitVec 32 := Scalar.muli v30 c16_i32_10
  let c192_i32 : BitVec 32 := 192#32
  let v32 : BitVec 32 := Scalar.minsi v31 c192_i32
  let v505 : BitVec 32 := v32
  let v506 : Index := Scalar.indexCast v505
  let c0_228 : Index := 0#32
  ![0, 0, v506.toNat, 0]
def k0_mult2 (v37 : BitVec 32) : BitVec 32 :=
  let c0_i32_17 : BitVec 32 := 0#32
  let v45 : BitVec 1 := Scalar.cmpi .sgt v37 c0_i32_17
  let v46 : BitVec 32 := Scalar.extui v45
  let c0_i32_18 : BitVec 32 := 0#32
  let v47 : BitVec 1 := Scalar.cmpi .slt v37 c0_i32_18
  let v48 : BitVec 32 := Scalar.extui v47
  let v49 : BitVec 32 := Scalar.subi v46 v48
  let c16_i32_16 : BitVec 32 := 16#32
  let c0_i32_19 : BitVec 32 := 0#32
  let v50 : BitVec 1 := Scalar.cmpi .sgt c16_i32_16 c0_i32_19
  let v51 : BitVec 32 := Scalar.extui v50
  let c0_i32_20 : BitVec 32 := 0#32
  let v52 : BitVec 1 := Scalar.cmpi .slt c16_i32_16 c0_i32_20
  let v53 : BitVec 32 := Scalar.extui v52
  let v54 : BitVec 32 := Scalar.subi v51 v53
  let v55 : BitVec 1 := Scalar.cmpi .ne v49 v54
  let v56 : BitVec 32 := Scalar.remsi v37 c16_i32_16
  let c0_i32_21 : BitVec 32 := 0#32
  let v57 : BitVec 1 := Scalar.cmpi .ne v56 c0_i32_21
  let v58 : BitVec 1 := Scalar.andi v55 v57
  let v44 : BitVec 32 := Scalar.divsi v37 c16_i32_16
  let c1_i32_22 : BitVec 32 := 1#32
  let v59 : BitVec 32 := Scalar.subi v44 c1_i32_22
  let v60 : BitVec 32 := Scalar.select v58 v59 v44
  let c16_i32_23 : BitVec 32 := 16#32
  let v61 : BitVec 32 := Scalar.muli v60 c16_i32_23
  let c192_i32_24 : BitVec 32 := 192#32
  let v62 : BitVec 32 := Scalar.minsi v61 c192_i32_24
  v62
def k0_off4 (v37 : BitVec 32) : Fin 4 → Nat :=
  let c1 : Index := 1#32
  let c0_229 : Index := 0#32
  let c0_i32_17 : BitVec 32 := 0#32
  let v45 : BitVec 1 := Scalar.cmpi .sgt v37 c0_i32_17
  let v46 : BitVec 32 := Scalar.extui v45
  let c0_i32_18 : BitVec 32 := 0#32
  let v47 : BitVec 1 := Scalar.cmpi .slt v37 c0_i32_18
  let v48 : BitVec 32 := Scalar.extui v47
  let v49 : BitVec 32 := Scalar.subi v46 v48
  let c16_i32_16 : BitVec 32 := 16#32
  let c0_i32_19 : BitVec 32 := 0#32
  let v50 : BitVec 1 := Scalar.cmpi .sgt c16_i32_16 c0_i32_19
  let v51 : BitVec 32 := Scalar.extui v50
  let c0_i32_20 : BitVec 32 := 0#32
  let v52 : BitVec 1 := Scalar.cmpi .slt c16_i32_16 c0_i32_20
  let v53 : BitVec 32 := Scalar.extui v52
  let v54 : BitVec 32 := Scalar.subi v51 v53
  let v55 : BitVec 1 := Scalar.cmpi .ne v49 v54
  let v56 : BitVec 32 := Scalar.remsi v37 c16_i32_16
  let c0_i32_21 : BitVec 32 := 0#32
  let v57 : BitVec 1 := Scalar.cmpi .ne v56 c0_i32_21
  let v58 : BitVec 1 := Scalar.andi v55 v57
  let v44 : BitVec 32 := Scalar.divsi v37 c16_i32_16
  let c1_i32_22 : BitVec 32 := 1#32
  let v59 : BitVec 32 := Scalar.subi v44 c1_i32_22
  let v60 : BitVec 32 := Scalar.select v58 v59 v44
  let c16_i32_23 : BitVec 32 := 16#32
  let v61 : BitVec 32 := Scalar.muli v60 c16_i32_23
  let c192_i32_24 : BitVec 32 := 192#32
  let v62 : BitVec 32 := Scalar.minsi v61 c192_i32_24
  let v509 : BitVec 32 := v62
  let v510 : Index := Scalar.indexCast v509
  let c0_230 : Index := 0#32
  ![1, 0, v510.toNat, 0]
def k0_mult3 (v68 : BitVec 32) : BitVec 32 :=
  let c0_i32_31 : BitVec 32 := 0#32
  let v76 : BitVec 1 := Scalar.cmpi .sgt v68 c0_i32_31
  let v77 : BitVec 32 := Scalar.extui v76
  let c0_i32_32 : BitVec 32 := 0#32
  let v78 : BitVec 1 := Scalar.cmpi .slt v68 c0_i32_32
  let v79 : BitVec 32 := Scalar.extui v78
  let v80 : BitVec 32 := Scalar.subi v77 v79
  let c16_i32_30 : BitVec 32 := 16#32
  let c0_i32_33 : BitVec 32 := 0#32
  let v81 : BitVec 1 := Scalar.cmpi .sgt c16_i32_30 c0_i32_33
  let v82 : BitVec 32 := Scalar.extui v81
  let c0_i32_34 : BitVec 32 := 0#32
  let v83 : BitVec 1 := Scalar.cmpi .slt c16_i32_30 c0_i32_34
  let v84 : BitVec 32 := Scalar.extui v83
  let v85 : BitVec 32 := Scalar.subi v82 v84
  let v86 : BitVec 1 := Scalar.cmpi .ne v80 v85
  let v87 : BitVec 32 := Scalar.remsi v68 c16_i32_30
  let c0_i32_35 : BitVec 32 := 0#32
  let v88 : BitVec 1 := Scalar.cmpi .ne v87 c0_i32_35
  let v89 : BitVec 1 := Scalar.andi v86 v88
  let v75 : BitVec 32 := Scalar.divsi v68 c16_i32_30
  let c1_i32_36 : BitVec 32 := 1#32
  let v90 : BitVec 32 := Scalar.subi v75 c1_i32_36
  let v91 : BitVec 32 := Scalar.select v89 v90 v75
  let c16_i32_37 : BitVec 32 := 16#32
  let v92 : BitVec 32 := Scalar.muli v91 c16_i32_37
  let c192_i32_38 : BitVec 32 := 192#32
  let v93 : BitVec 32 := Scalar.minsi v92 c192_i32_38
  v93
def k0_off5 (v68 : BitVec 32) : Fin 4 → Nat :=
  let c2 : Index := 2#32
  let c0_231 : Index := 0#32
  let c0_i32_31 : BitVec 32 := 0#32
  let v76 : BitVec 1 := Scalar.cmpi .sgt v68 c0_i32_31
  let v77 : BitVec 32 := Scalar.extui v76
  let c0_i32_32 : BitVec 32 := 0#32
  let v78 : BitVec 1 := Scalar.cmpi .slt v68 c0_i32_32
  let v79 : BitVec 32 := Scalar.extui v78
  let v80 : BitVec 32 := Scalar.subi v77 v79
  let c16_i32_30 : BitVec 32 := 16#32
  let c0_i32_33 : BitVec 32 := 0#32
  let v81 : BitVec 1 := Scalar.cmpi .sgt c16_i32_30 c0_i32_33
  let v82 : BitVec 32 := Scalar.extui v81
  let c0_i32_34 : BitVec 32 := 0#32
  let v83 : BitVec 1 := Scalar.cmpi .slt c16_i32_30 c0_i32_34
  let v84 : BitVec 32 := Scalar.extui v83
  let v85 : BitVec 32 := Scalar.subi v82 v84
  let v86 : BitVec 1 := Scalar.cmpi .ne v80 v85
  let v87 : BitVec 32 := Scalar.remsi v68 c16_i32_30
  let c0_i32_35 : BitVec 32 := 0#32
  let v88 : BitVec 1 := Scalar.cmpi .ne v87 c0_i32_35
  let v89 : BitVec 1 := Scalar.andi v86 v88
  let v75 : BitVec 32 := Scalar.divsi v68 c16_i32_30
  let c1_i32_36 : BitVec 32 := 1#32
  let v90 : BitVec 32 := Scalar.subi v75 c1_i32_36
  let v91 : BitVec 32 := Scalar.select v89 v90 v75
  let c16_i32_37 : BitVec 32 := 16#32
  let v92 : BitVec 32 := Scalar.muli v91 c16_i32_37
  let c192_i32_38 : BitVec 32 := 192#32
  let v93 : BitVec 32 := Scalar.minsi v92 c192_i32_38
  let v513 : BitVec 32 := v93
  let v514 : Index := Scalar.indexCast v513
  let c0_232 : Index := 0#32
  ![2, 0, v514.toNat, 0]
def k0_mult4 (v99 : BitVec 32) : BitVec 32 :=
  let c0_i32_45 : BitVec 32 := 0#32
  let v107 : BitVec 1 := Scalar.cmpi .sgt v99 c0_i32_45
  let v108 : BitVec 32 := Scalar.extui v107
  let c0_i32_46 : BitVec 32 := 0#32
  let v109 : BitVec 1 := Scalar.cmpi .slt v99 c0_i32_46
  let v110 : BitVec 32 := Scalar.extui v109
  let v111 : BitVec 32 := Scalar.subi v108 v110
  let c16_i32_44 : BitVec 32 := 16#32
  let c0_i32_47 : BitVec 32 := 0#32
  let v112 : BitVec 1 := Scalar.cmpi .sgt c16_i32_44 c0_i32_47
  let v113 : BitVec 32 := Scalar.extui v112
  let c0_i32_48 : BitVec 32 := 0#32
  let v114 : BitVec 1 := Scalar.cmpi .slt c16_i32_44 c0_i32_48
  let v115 : BitVec 32 := Scalar.extui v114
  let v116 : BitVec 32 := Scalar.subi v113 v115
  let v117 : BitVec 1 := Scalar.cmpi .ne v111 v116
  let v118 : BitVec 32 := Scalar.remsi v99 c16_i32_44
  let c0_i32_49 : BitVec 32 := 0#32
  let v119 : BitVec 1 := Scalar.cmpi .ne v118 c0_i32_49
  let v120 : BitVec 1 := Scalar.andi v117 v119
  let v106 : BitVec 32 := Scalar.divsi v99 c16_i32_44
  let c1_i32_50 : BitVec 32 := 1#32
  let v121 : BitVec 32 := Scalar.subi v106 c1_i32_50
  let v122 : BitVec 32 := Scalar.select v120 v121 v106
  let c16_i32_51 : BitVec 32 := 16#32
  let v123 : BitVec 32 := Scalar.muli v122 c16_i32_51
  let c192_i32_52 : BitVec 32 := 192#32
  let v124 : BitVec 32 := Scalar.minsi v123 c192_i32_52
  v124
def k0_off6 (v99 : BitVec 32) : Fin 4 → Nat :=
  let c3 : Index := 3#32
  let c0_233 : Index := 0#32
  let c0_i32_45 : BitVec 32 := 0#32
  let v107 : BitVec 1 := Scalar.cmpi .sgt v99 c0_i32_45
  let v108 : BitVec 32 := Scalar.extui v107
  let c0_i32_46 : BitVec 32 := 0#32
  let v109 : BitVec 1 := Scalar.cmpi .slt v99 c0_i32_46
  let v110 : BitVec 32 := Scalar.extui v109
  let v111 : BitVec 32 := Scalar.subi v108 v110
  let c16_i32_44 : BitVec 32 := 16#32
  let c0_i32_47 : BitVec 32 := 0#32
  let v112 : BitVec 1 := Scalar.cmpi .sgt c16_i32_44 c0_i32_47
  let v113 : BitVec 32 := Scalar.extui v112
  let c0_i32_48 : BitVec 32 := 0#32
  let v114 : BitVec 1 := Scalar.cmpi .slt c16_i32_44 c0_i32_48
  let v115 : BitVec 32 := Scalar.extui v114
  let v116 : BitVec 32 := Scalar.subi v113 v115
  let v117 : BitVec 1 := Scalar.cmpi .ne v111 v116
  let v118 : BitVec 32 := Scalar.remsi v99 c16_i32_44
  let c0_i32_49 : BitVec 32 := 0#32
  let v119 : BitVec 1 := Scalar.cmpi .ne v118 c0_i32_49
  let v120 : BitVec 1 := Scalar.andi v117 v119
  let v106 : BitVec 32 := Scalar.divsi v99 c16_i32_44
  let c1_i32_50 : BitVec 32 := 1#32
  let v121 : BitVec 32 := Scalar.subi v106 c1_i32_50
  let v122 : BitVec 32 := Scalar.select v120 v121 v106
  let c16_i32_51 : BitVec 32 := 16#32
  let v123 : BitVec 32 := Scalar.muli v122 c16_i32_51
  let c192_i32_52 : BitVec 32 := 192#32
  let v124 : BitVec 32 := Scalar.minsi v123 c192_i32_52
  let v517 : BitVec 32 := v124
  let v518 : Index := Scalar.indexCast v517
  let c0_234 : Index := 0#32
  ![3, 0, v518.toNat, 0]
def k0_mult5 (v130 : BitVec 32) : BitVec 32 :=
  let c0_i32_59 : BitVec 32 := 0#32
  let v138 : BitVec 1 := Scalar.cmpi .sgt v130 c0_i32_59
  let v139 : BitVec 32 := Scalar.extui v138
  let c0_i32_60 : BitVec 32 := 0#32
  let v140 : BitVec 1 := Scalar.cmpi .slt v130 c0_i32_60
  let v141 : BitVec 32 := Scalar.extui v140
  let v142 : BitVec 32 := Scalar.subi v139 v141
  let c16_i32_58 : BitVec 32 := 16#32
  let c0_i32_61 : BitVec 32 := 0#32
  let v143 : BitVec 1 := Scalar.cmpi .sgt c16_i32_58 c0_i32_61
  let v144 : BitVec 32 := Scalar.extui v143
  let c0_i32_62 : BitVec 32 := 0#32
  let v145 : BitVec 1 := Scalar.cmpi .slt c16_i32_58 c0_i32_62
  let v146 : BitVec 32 := Scalar.extui v145
  let v147 : BitVec 32 := Scalar.subi v144 v146
  let v148 : BitVec 1 := Scalar.cmpi .ne v142 v147
  let v149 : BitVec 32 := Scalar.remsi v130 c16_i32_58
  let c0_i32_63 : BitVec 32 := 0#32
  let v150 : BitVec 1 := Scalar.cmpi .ne v149 c0_i32_63
  let v151 : BitVec 1 := Scalar.andi v148 v150
  let v137 : BitVec 32 := Scalar.divsi v130 c16_i32_58
  let c1_i32_64 : BitVec 32 := 1#32
  let v152 : BitVec 32 := Scalar.subi v137 c1_i32_64
  let v153 : BitVec 32 := Scalar.select v151 v152 v137
  let c16_i32_65 : BitVec 32 := 16#32
  let v154 : BitVec 32 := Scalar.muli v153 c16_i32_65
  let c192_i32_66 : BitVec 32 := 192#32
  let v155 : BitVec 32 := Scalar.minsi v154 c192_i32_66
  v155
def k0_off7 (v130 : BitVec 32) : Fin 4 → Nat :=
  let c4 : Index := 4#32
  let c0_235 : Index := 0#32
  let c0_i32_59 : BitVec 32 := 0#32
  let v138 : BitVec 1 := Scalar.cmpi .sgt v130 c0_i32_59
  let v139 : BitVec 32 := Scalar.extui v138
  let c0_i32_60 : BitVec 32 := 0#32
  let v140 : BitVec 1 := Scalar.cmpi .slt v130 c0_i32_60
  let v141 : BitVec 32 := Scalar.extui v140
  let v142 : BitVec 32 := Scalar.subi v139 v141
  let c16_i32_58 : BitVec 32 := 16#32
  let c0_i32_61 : BitVec 32 := 0#32
  let v143 : BitVec 1 := Scalar.cmpi .sgt c16_i32_58 c0_i32_61
  let v144 : BitVec 32 := Scalar.extui v143
  let c0_i32_62 : BitVec 32 := 0#32
  let v145 : BitVec 1 := Scalar.cmpi .slt c16_i32_58 c0_i32_62
  let v146 : BitVec 32 := Scalar.extui v145
  let v147 : BitVec 32 := Scalar.subi v144 v146
  let v148 : BitVec 1 := Scalar.cmpi .ne v142 v147
  let v149 : BitVec 32 := Scalar.remsi v130 c16_i32_58
  let c0_i32_63 : BitVec 32 := 0#32
  let v150 : BitVec 1 := Scalar.cmpi .ne v149 c0_i32_63
  let v151 : BitVec 1 := Scalar.andi v148 v150
  let v137 : BitVec 32 := Scalar.divsi v130 c16_i32_58
  let c1_i32_64 : BitVec 32 := 1#32
  let v152 : BitVec 32 := Scalar.subi v137 c1_i32_64
  let v153 : BitVec 32 := Scalar.select v151 v152 v137
  let c16_i32_65 : BitVec 32 := 16#32
  let v154 : BitVec 32 := Scalar.muli v153 c16_i32_65
  let c192_i32_66 : BitVec 32 := 192#32
  let v155 : BitVec 32 := Scalar.minsi v154 c192_i32_66
  let v521 : BitVec 32 := v155
  let v522 : Index := Scalar.indexCast v521
  let c0_236 : Index := 0#32
  ![4, 0, v522.toNat, 0]
def k0_mult6 (v161 : BitVec 32) : BitVec 32 :=
  let c0_i32_73 : BitVec 32 := 0#32
  let v169 : BitVec 1 := Scalar.cmpi .sgt v161 c0_i32_73
  let v170 : BitVec 32 := Scalar.extui v169
  let c0_i32_74 : BitVec 32 := 0#32
  let v171 : BitVec 1 := Scalar.cmpi .slt v161 c0_i32_74
  let v172 : BitVec 32 := Scalar.extui v171
  let v173 : BitVec 32 := Scalar.subi v170 v172
  let c16_i32_72 : BitVec 32 := 16#32
  let c0_i32_75 : BitVec 32 := 0#32
  let v174 : BitVec 1 := Scalar.cmpi .sgt c16_i32_72 c0_i32_75
  let v175 : BitVec 32 := Scalar.extui v174
  let c0_i32_76 : BitVec 32 := 0#32
  let v176 : BitVec 1 := Scalar.cmpi .slt c16_i32_72 c0_i32_76
  let v177 : BitVec 32 := Scalar.extui v176
  let v178 : BitVec 32 := Scalar.subi v175 v177
  let v179 : BitVec 1 := Scalar.cmpi .ne v173 v178
  let v180 : BitVec 32 := Scalar.remsi v161 c16_i32_72
  let c0_i32_77 : BitVec 32 := 0#32
  let v181 : BitVec 1 := Scalar.cmpi .ne v180 c0_i32_77
  let v182 : BitVec 1 := Scalar.andi v179 v181
  let v168 : BitVec 32 := Scalar.divsi v161 c16_i32_72
  let c1_i32_78 : BitVec 32 := 1#32
  let v183 : BitVec 32 := Scalar.subi v168 c1_i32_78
  let v184 : BitVec 32 := Scalar.select v182 v183 v168
  let c16_i32_79 : BitVec 32 := 16#32
  let v185 : BitVec 32 := Scalar.muli v184 c16_i32_79
  let c192_i32_80 : BitVec 32 := 192#32
  let v186 : BitVec 32 := Scalar.minsi v185 c192_i32_80
  v186
def k0_off8 (v161 : BitVec 32) : Fin 4 → Nat :=
  let c5 : Index := 5#32
  let c0_237 : Index := 0#32
  let c0_i32_73 : BitVec 32 := 0#32
  let v169 : BitVec 1 := Scalar.cmpi .sgt v161 c0_i32_73
  let v170 : BitVec 32 := Scalar.extui v169
  let c0_i32_74 : BitVec 32 := 0#32
  let v171 : BitVec 1 := Scalar.cmpi .slt v161 c0_i32_74
  let v172 : BitVec 32 := Scalar.extui v171
  let v173 : BitVec 32 := Scalar.subi v170 v172
  let c16_i32_72 : BitVec 32 := 16#32
  let c0_i32_75 : BitVec 32 := 0#32
  let v174 : BitVec 1 := Scalar.cmpi .sgt c16_i32_72 c0_i32_75
  let v175 : BitVec 32 := Scalar.extui v174
  let c0_i32_76 : BitVec 32 := 0#32
  let v176 : BitVec 1 := Scalar.cmpi .slt c16_i32_72 c0_i32_76
  let v177 : BitVec 32 := Scalar.extui v176
  let v178 : BitVec 32 := Scalar.subi v175 v177
  let v179 : BitVec 1 := Scalar.cmpi .ne v173 v178
  let v180 : BitVec 32 := Scalar.remsi v161 c16_i32_72
  let c0_i32_77 : BitVec 32 := 0#32
  let v181 : BitVec 1 := Scalar.cmpi .ne v180 c0_i32_77
  let v182 : BitVec 1 := Scalar.andi v179 v181
  let v168 : BitVec 32 := Scalar.divsi v161 c16_i32_72
  let c1_i32_78 : BitVec 32 := 1#32
  let v183 : BitVec 32 := Scalar.subi v168 c1_i32_78
  let v184 : BitVec 32 := Scalar.select v182 v183 v168
  let c16_i32_79 : BitVec 32 := 16#32
  let v185 : BitVec 32 := Scalar.muli v184 c16_i32_79
  let c192_i32_80 : BitVec 32 := 192#32
  let v186 : BitVec 32 := Scalar.minsi v185 c192_i32_80
  let v525 : BitVec 32 := v186
  let v526 : Index := Scalar.indexCast v525
  let c0_238 : Index := 0#32
  ![5, 0, v526.toNat, 0]
def k0_mult7 (v192 : BitVec 32) : BitVec 32 :=
  let c0_i32_87 : BitVec 32 := 0#32
  let v200 : BitVec 1 := Scalar.cmpi .sgt v192 c0_i32_87
  let v201 : BitVec 32 := Scalar.extui v200
  let c0_i32_88 : BitVec 32 := 0#32
  let v202 : BitVec 1 := Scalar.cmpi .slt v192 c0_i32_88
  let v203 : BitVec 32 := Scalar.extui v202
  let v204 : BitVec 32 := Scalar.subi v201 v203
  let c16_i32_86 : BitVec 32 := 16#32
  let c0_i32_89 : BitVec 32 := 0#32
  let v205 : BitVec 1 := Scalar.cmpi .sgt c16_i32_86 c0_i32_89
  let v206 : BitVec 32 := Scalar.extui v205
  let c0_i32_90 : BitVec 32 := 0#32
  let v207 : BitVec 1 := Scalar.cmpi .slt c16_i32_86 c0_i32_90
  let v208 : BitVec 32 := Scalar.extui v207
  let v209 : BitVec 32 := Scalar.subi v206 v208
  let v210 : BitVec 1 := Scalar.cmpi .ne v204 v209
  let v211 : BitVec 32 := Scalar.remsi v192 c16_i32_86
  let c0_i32_91 : BitVec 32 := 0#32
  let v212 : BitVec 1 := Scalar.cmpi .ne v211 c0_i32_91
  let v213 : BitVec 1 := Scalar.andi v210 v212
  let v199 : BitVec 32 := Scalar.divsi v192 c16_i32_86
  let c1_i32_92 : BitVec 32 := 1#32
  let v214 : BitVec 32 := Scalar.subi v199 c1_i32_92
  let v215 : BitVec 32 := Scalar.select v213 v214 v199
  let c16_i32_93 : BitVec 32 := 16#32
  let v216 : BitVec 32 := Scalar.muli v215 c16_i32_93
  let c192_i32_94 : BitVec 32 := 192#32
  let v217 : BitVec 32 := Scalar.minsi v216 c192_i32_94
  v217
def k0_off9 (v192 : BitVec 32) : Fin 4 → Nat :=
  let c6 : Index := 6#32
  let c0_239 : Index := 0#32
  let c0_i32_87 : BitVec 32 := 0#32
  let v200 : BitVec 1 := Scalar.cmpi .sgt v192 c0_i32_87
  let v201 : BitVec 32 := Scalar.extui v200
  let c0_i32_88 : BitVec 32 := 0#32
  let v202 : BitVec 1 := Scalar.cmpi .slt v192 c0_i32_88
  let v203 : BitVec 32 := Scalar.extui v202
  let v204 : BitVec 32 := Scalar.subi v201 v203
  let c16_i32_86 : BitVec 32 := 16#32
  let c0_i32_89 : BitVec 32 := 0#32
  let v205 : BitVec 1 := Scalar.cmpi .sgt c16_i32_86 c0_i32_89
  let v206 : BitVec 32 := Scalar.extui v205
  let c0_i32_90 : BitVec 32 := 0#32
  let v207 : BitVec 1 := Scalar.cmpi .slt c16_i32_86 c0_i32_90
  let v208 : BitVec 32 := Scalar.extui v207
  let v209 : BitVec 32 := Scalar.subi v206 v208
  let v210 : BitVec 1 := Scalar.cmpi .ne v204 v209
  let v211 : BitVec 32 := Scalar.remsi v192 c16_i32_86
  let c0_i32_91 : BitVec 32 := 0#32
  let v212 : BitVec 1 := Scalar.cmpi .ne v211 c0_i32_91
  let v213 : BitVec 1 := Scalar.andi v210 v212
  let v199 : BitVec 32 := Scalar.divsi v192 c16_i32_86
  let c1_i32_92 : BitVec 32 := 1#32
  let v214 : BitVec 32 := Scalar.subi v199 c1_i32_92
  let v215 : BitVec 32 := Scalar.select v213 v214 v199
  let c16_i32_93 : BitVec 32 := 16#32
  let v216 : BitVec 32 := Scalar.muli v215 c16_i32_93
  let c192_i32_94 : BitVec 32 := 192#32
  let v217 : BitVec 32 := Scalar.minsi v216 c192_i32_94
  let v529 : BitVec 32 := v217
  let v530 : Index := Scalar.indexCast v529
  let c0_240 : Index := 0#32
  ![6, 0, v530.toNat, 0]
def k0_mult8 (v223 : BitVec 32) : BitVec 32 :=
  let c0_i32_102 : BitVec 32 := 0#32
  let v231 : BitVec 1 := Scalar.cmpi .sgt v223 c0_i32_102
  let v232 : BitVec 32 := Scalar.extui v231
  let c0_i32_103 : BitVec 32 := 0#32
  let v233 : BitVec 1 := Scalar.cmpi .slt v223 c0_i32_103
  let v234 : BitVec 32 := Scalar.extui v233
  let v235 : BitVec 32 := Scalar.subi v232 v234
  let c16_i32_101 : BitVec 32 := 16#32
  let c0_i32_104 : BitVec 32 := 0#32
  let v236 : BitVec 1 := Scalar.cmpi .sgt c16_i32_101 c0_i32_104
  let v237 : BitVec 32 := Scalar.extui v236
  let c0_i32_105 : BitVec 32 := 0#32
  let v238 : BitVec 1 := Scalar.cmpi .slt c16_i32_101 c0_i32_105
  let v239 : BitVec 32 := Scalar.extui v238
  let v240 : BitVec 32 := Scalar.subi v237 v239
  let v241 : BitVec 1 := Scalar.cmpi .ne v235 v240
  let v242 : BitVec 32 := Scalar.remsi v223 c16_i32_101
  let c0_i32_106 : BitVec 32 := 0#32
  let v243 : BitVec 1 := Scalar.cmpi .ne v242 c0_i32_106
  let v244 : BitVec 1 := Scalar.andi v241 v243
  let v230 : BitVec 32 := Scalar.divsi v223 c16_i32_101
  let c1_i32_107 : BitVec 32 := 1#32
  let v245 : BitVec 32 := Scalar.subi v230 c1_i32_107
  let v246 : BitVec 32 := Scalar.select v244 v245 v230
  let c16_i32_108 : BitVec 32 := 16#32
  let v247 : BitVec 32 := Scalar.muli v246 c16_i32_108
  let c192_i32_109 : BitVec 32 := 192#32
  let v248 : BitVec 32 := Scalar.minsi v247 c192_i32_109
  v248
def k0_off10 (v223 : BitVec 32) : Fin 4 → Nat :=
  let c7 : Index := 7#32
  let c0_241 : Index := 0#32
  let c0_i32_102 : BitVec 32 := 0#32
  let v231 : BitVec 1 := Scalar.cmpi .sgt v223 c0_i32_102
  let v232 : BitVec 32 := Scalar.extui v231
  let c0_i32_103 : BitVec 32 := 0#32
  let v233 : BitVec 1 := Scalar.cmpi .slt v223 c0_i32_103
  let v234 : BitVec 32 := Scalar.extui v233
  let v235 : BitVec 32 := Scalar.subi v232 v234
  let c16_i32_101 : BitVec 32 := 16#32
  let c0_i32_104 : BitVec 32 := 0#32
  let v236 : BitVec 1 := Scalar.cmpi .sgt c16_i32_101 c0_i32_104
  let v237 : BitVec 32 := Scalar.extui v236
  let c0_i32_105 : BitVec 32 := 0#32
  let v238 : BitVec 1 := Scalar.cmpi .slt c16_i32_101 c0_i32_105
  let v239 : BitVec 32 := Scalar.extui v238
  let v240 : BitVec 32 := Scalar.subi v237 v239
  let v241 : BitVec 1 := Scalar.cmpi .ne v235 v240
  let v242 : BitVec 32 := Scalar.remsi v223 c16_i32_101
  let c0_i32_106 : BitVec 32 := 0#32
  let v243 : BitVec 1 := Scalar.cmpi .ne v242 c0_i32_106
  let v244 : BitVec 1 := Scalar.andi v241 v243
  let v230 : BitVec 32 := Scalar.divsi v223 c16_i32_101
  let c1_i32_107 : BitVec 32 := 1#32
  let v245 : BitVec 32 := Scalar.subi v230 c1_i32_107
  let v246 : BitVec 32 := Scalar.select v244 v245 v230
  let c16_i32_108 : BitVec 32 := 16#32
  let v247 : BitVec 32 := Scalar.muli v246 c16_i32_108
  let c192_i32_109 : BitVec 32 := 192#32
  let v248 : BitVec 32 := Scalar.minsi v247 c192_i32_109
  let v533 : BitVec 32 := v248
  let v534 : Index := Scalar.indexCast v533
  let c0_242 : Index := 0#32
  ![7, 0, v534.toNat, 0]
def k0_mult9 (v254 : BitVec 32) : BitVec 32 :=
  let c0_i32_117 : BitVec 32 := 0#32
  let v262 : BitVec 1 := Scalar.cmpi .sgt v254 c0_i32_117
  let v263 : BitVec 32 := Scalar.extui v262
  let c0_i32_118 : BitVec 32 := 0#32
  let v264 : BitVec 1 := Scalar.cmpi .slt v254 c0_i32_118
  let v265 : BitVec 32 := Scalar.extui v264
  let v266 : BitVec 32 := Scalar.subi v263 v265
  let c16_i32_116 : BitVec 32 := 16#32
  let c0_i32_119 : BitVec 32 := 0#32
  let v267 : BitVec 1 := Scalar.cmpi .sgt c16_i32_116 c0_i32_119
  let v268 : BitVec 32 := Scalar.extui v267
  let c0_i32_120 : BitVec 32 := 0#32
  let v269 : BitVec 1 := Scalar.cmpi .slt c16_i32_116 c0_i32_120
  let v270 : BitVec 32 := Scalar.extui v269
  let v271 : BitVec 32 := Scalar.subi v268 v270
  let v272 : BitVec 1 := Scalar.cmpi .ne v266 v271
  let v273 : BitVec 32 := Scalar.remsi v254 c16_i32_116
  let c0_i32_121 : BitVec 32 := 0#32
  let v274 : BitVec 1 := Scalar.cmpi .ne v273 c0_i32_121
  let v275 : BitVec 1 := Scalar.andi v272 v274
  let v261 : BitVec 32 := Scalar.divsi v254 c16_i32_116
  let c1_i32_122 : BitVec 32 := 1#32
  let v276 : BitVec 32 := Scalar.subi v261 c1_i32_122
  let v277 : BitVec 32 := Scalar.select v275 v276 v261
  let c16_i32_123 : BitVec 32 := 16#32
  let v278 : BitVec 32 := Scalar.muli v277 c16_i32_123
  let c192_i32_124 : BitVec 32 := 192#32
  let v279 : BitVec 32 := Scalar.minsi v278 c192_i32_124
  v279
def k0_off11 (v254 : BitVec 32) : Fin 4 → Nat :=
  let c8 : Index := 8#32
  let c0_243 : Index := 0#32
  let c0_i32_117 : BitVec 32 := 0#32
  let v262 : BitVec 1 := Scalar.cmpi .sgt v254 c0_i32_117
  let v263 : BitVec 32 := Scalar.extui v262
  let c0_i32_118 : BitVec 32 := 0#32
  let v264 : BitVec 1 := Scalar.cmpi .slt v254 c0_i32_118
  let v265 : BitVec 32 := Scalar.extui v264
  let v266 : BitVec 32 := Scalar.subi v263 v265
  let c16_i32_116 : BitVec 32 := 16#32
  let c0_i32_119 : BitVec 32 := 0#32
  let v267 : BitVec 1 := Scalar.cmpi .sgt c16_i32_116 c0_i32_119
  let v268 : BitVec 32 := Scalar.extui v267
  let c0_i32_120 : BitVec 32 := 0#32
  let v269 : BitVec 1 := Scalar.cmpi .slt c16_i32_116 c0_i32_120
  let v270 : BitVec 32 := Scalar.extui v269
  let v271 : BitVec 32 := Scalar.subi v268 v270
  let v272 : BitVec 1 := Scalar.cmpi .ne v266 v271
  let v273 : BitVec 32 := Scalar.remsi v254 c16_i32_116
  let c0_i32_121 : BitVec 32 := 0#32
  let v274 : BitVec 1 := Scalar.cmpi .ne v273 c0_i32_121
  let v275 : BitVec 1 := Scalar.andi v272 v274
  let v261 : BitVec 32 := Scalar.divsi v254 c16_i32_116
  let c1_i32_122 : BitVec 32 := 1#32
  let v276 : BitVec 32 := Scalar.subi v261 c1_i32_122
  let v277 : BitVec 32 := Scalar.select v275 v276 v261
  let c16_i32_123 : BitVec 32 := 16#32
  let v278 : BitVec 32 := Scalar.muli v277 c16_i32_123
  let c192_i32_124 : BitVec 32 := 192#32
  let v279 : BitVec 32 := Scalar.minsi v278 c192_i32_124
  let v537 : BitVec 32 := v279
  let v538 : Index := Scalar.indexCast v537
  let c0_244 : Index := 0#32
  ![8, 0, v538.toNat, 0]
def k0_mult10 (v285 : BitVec 32) : BitVec 32 :=
  let c0_i32_131 : BitVec 32 := 0#32
  let v293 : BitVec 1 := Scalar.cmpi .sgt v285 c0_i32_131
  let v294 : BitVec 32 := Scalar.extui v293
  let c0_i32_132 : BitVec 32 := 0#32
  let v295 : BitVec 1 := Scalar.cmpi .slt v285 c0_i32_132
  let v296 : BitVec 32 := Scalar.extui v295
  let v297 : BitVec 32 := Scalar.subi v294 v296
  let c16_i32_130 : BitVec 32 := 16#32
  let c0_i32_133 : BitVec 32 := 0#32
  let v298 : BitVec 1 := Scalar.cmpi .sgt c16_i32_130 c0_i32_133
  let v299 : BitVec 32 := Scalar.extui v298
  let c0_i32_134 : BitVec 32 := 0#32
  let v300 : BitVec 1 := Scalar.cmpi .slt c16_i32_130 c0_i32_134
  let v301 : BitVec 32 := Scalar.extui v300
  let v302 : BitVec 32 := Scalar.subi v299 v301
  let v303 : BitVec 1 := Scalar.cmpi .ne v297 v302
  let v304 : BitVec 32 := Scalar.remsi v285 c16_i32_130
  let c0_i32_135 : BitVec 32 := 0#32
  let v305 : BitVec 1 := Scalar.cmpi .ne v304 c0_i32_135
  let v306 : BitVec 1 := Scalar.andi v303 v305
  let v292 : BitVec 32 := Scalar.divsi v285 c16_i32_130
  let c1_i32_136 : BitVec 32 := 1#32
  let v307 : BitVec 32 := Scalar.subi v292 c1_i32_136
  let v308 : BitVec 32 := Scalar.select v306 v307 v292
  let c16_i32_137 : BitVec 32 := 16#32
  let v309 : BitVec 32 := Scalar.muli v308 c16_i32_137
  let c192_i32_138 : BitVec 32 := 192#32
  let v310 : BitVec 32 := Scalar.minsi v309 c192_i32_138
  v310
def k0_off12 (v285 : BitVec 32) : Fin 4 → Nat :=
  let c9 : Index := 9#32
  let c0_245 : Index := 0#32
  let c0_i32_131 : BitVec 32 := 0#32
  let v293 : BitVec 1 := Scalar.cmpi .sgt v285 c0_i32_131
  let v294 : BitVec 32 := Scalar.extui v293
  let c0_i32_132 : BitVec 32 := 0#32
  let v295 : BitVec 1 := Scalar.cmpi .slt v285 c0_i32_132
  let v296 : BitVec 32 := Scalar.extui v295
  let v297 : BitVec 32 := Scalar.subi v294 v296
  let c16_i32_130 : BitVec 32 := 16#32
  let c0_i32_133 : BitVec 32 := 0#32
  let v298 : BitVec 1 := Scalar.cmpi .sgt c16_i32_130 c0_i32_133
  let v299 : BitVec 32 := Scalar.extui v298
  let c0_i32_134 : BitVec 32 := 0#32
  let v300 : BitVec 1 := Scalar.cmpi .slt c16_i32_130 c0_i32_134
  let v301 : BitVec 32 := Scalar.extui v300
  let v302 : BitVec 32 := Scalar.subi v299 v301
  let v303 : BitVec 1 := Scalar.cmpi .ne v297 v302
  let v304 : BitVec 32 := Scalar.remsi v285 c16_i32_130
  let c0_i32_135 : BitVec 32 := 0#32
  let v305 : BitVec 1 := Scalar.cmpi .ne v304 c0_i32_135
  let v306 : BitVec 1 := Scalar.andi v303 v305
  let v292 : BitVec 32 := Scalar.divsi v285 c16_i32_130
  let c1_i32_136 : BitVec 32 := 1#32
  let v307 : BitVec 32 := Scalar.subi v292 c1_i32_136
  let v308 : BitVec 32 := Scalar.select v306 v307 v292
  let c16_i32_137 : BitVec 32 := 16#32
  let v309 : BitVec 32 := Scalar.muli v308 c16_i32_137
  let c192_i32_138 : BitVec 32 := 192#32
  let v310 : BitVec 32 := Scalar.minsi v309 c192_i32_138
  let v541 : BitVec 32 := v310
  let v542 : Index := Scalar.indexCast v541
  let c0_246 : Index := 0#32
  ![9, 0, v542.toNat, 0]
def k0_mult11 (v316 : BitVec 32) : BitVec 32 :=
  let c0_i32_145 : BitVec 32 := 0#32
  let v324 : BitVec 1 := Scalar.cmpi .sgt v316 c0_i32_145
  let v325 : BitVec 32 := Scalar.extui v324
  let c0_i32_146 : BitVec 32 := 0#32
  let v326 : BitVec 1 := Scalar.cmpi .slt v316 c0_i32_146
  let v327 : BitVec 32 := Scalar.extui v326
  let v328 : BitVec 32 := Scalar.subi v325 v327
  let c16_i32_144 : BitVec 32 := 16#32
  let c0_i32_147 : BitVec 32 := 0#32
  let v329 : BitVec 1 := Scalar.cmpi .sgt c16_i32_144 c0_i32_147
  let v330 : BitVec 32 := Scalar.extui v329
  let c0_i32_148 : BitVec 32 := 0#32
  let v331 : BitVec 1 := Scalar.cmpi .slt c16_i32_144 c0_i32_148
  let v332 : BitVec 32 := Scalar.extui v331
  let v333 : BitVec 32 := Scalar.subi v330 v332
  let v334 : BitVec 1 := Scalar.cmpi .ne v328 v333
  let v335 : BitVec 32 := Scalar.remsi v316 c16_i32_144
  let c0_i32_149 : BitVec 32 := 0#32
  let v336 : BitVec 1 := Scalar.cmpi .ne v335 c0_i32_149
  let v337 : BitVec 1 := Scalar.andi v334 v336
  let v323 : BitVec 32 := Scalar.divsi v316 c16_i32_144
  let c1_i32_150 : BitVec 32 := 1#32
  let v338 : BitVec 32 := Scalar.subi v323 c1_i32_150
  let v339 : BitVec 32 := Scalar.select v337 v338 v323
  let c16_i32_151 : BitVec 32 := 16#32
  let v340 : BitVec 32 := Scalar.muli v339 c16_i32_151
  let c192_i32_152 : BitVec 32 := 192#32
  let v341 : BitVec 32 := Scalar.minsi v340 c192_i32_152
  v341
def k0_off13 (v316 : BitVec 32) : Fin 4 → Nat :=
  let c10 : Index := 10#32
  let c0_247 : Index := 0#32
  let c0_i32_145 : BitVec 32 := 0#32
  let v324 : BitVec 1 := Scalar.cmpi .sgt v316 c0_i32_145
  let v325 : BitVec 32 := Scalar.extui v324
  let c0_i32_146 : BitVec 32 := 0#32
  let v326 : BitVec 1 := Scalar.cmpi .slt v316 c0_i32_146
  let v327 : BitVec 32 := Scalar.extui v326
  let v328 : BitVec 32 := Scalar.subi v325 v327
  let c16_i32_144 : BitVec 32 := 16#32
  let c0_i32_147 : BitVec 32 := 0#32
  let v329 : BitVec 1 := Scalar.cmpi .sgt c16_i32_144 c0_i32_147
  let v330 : BitVec 32 := Scalar.extui v329
  let c0_i32_148 : BitVec 32 := 0#32
  let v331 : BitVec 1 := Scalar.cmpi .slt c16_i32_144 c0_i32_148
  let v332 : BitVec 32 := Scalar.extui v331
  let v333 : BitVec 32 := Scalar.subi v330 v332
  let v334 : BitVec 1 := Scalar.cmpi .ne v328 v333
  let v335 : BitVec 32 := Scalar.remsi v316 c16_i32_144
  let c0_i32_149 : BitVec 32 := 0#32
  let v336 : BitVec 1 := Scalar.cmpi .ne v335 c0_i32_149
  let v337 : BitVec 1 := Scalar.andi v334 v336
  let v323 : BitVec 32 := Scalar.divsi v316 c16_i32_144
  let c1_i32_150 : BitVec 32 := 1#32
  let v338 : BitVec 32 := Scalar.subi v323 c1_i32_150
  let v339 : BitVec 32 := Scalar.select v337 v338 v323
  let c16_i32_151 : BitVec 32 := 16#32
  let v340 : BitVec 32 := Scalar.muli v339 c16_i32_151
  let c192_i32_152 : BitVec 32 := 192#32
  let v341 : BitVec 32 := Scalar.minsi v340 c192_i32_152
  let v545 : BitVec 32 := v341
  let v546 : Index := Scalar.indexCast v545
  let c0_248 : Index := 0#32
  ![10, 0, v546.toNat, 0]
def k0_mult12 (v347 : BitVec 32) : BitVec 32 :=
  let c0_i32_159 : BitVec 32 := 0#32
  let v355 : BitVec 1 := Scalar.cmpi .sgt v347 c0_i32_159
  let v356 : BitVec 32 := Scalar.extui v355
  let c0_i32_160 : BitVec 32 := 0#32
  let v357 : BitVec 1 := Scalar.cmpi .slt v347 c0_i32_160
  let v358 : BitVec 32 := Scalar.extui v357
  let v359 : BitVec 32 := Scalar.subi v356 v358
  let c16_i32_158 : BitVec 32 := 16#32
  let c0_i32_161 : BitVec 32 := 0#32
  let v360 : BitVec 1 := Scalar.cmpi .sgt c16_i32_158 c0_i32_161
  let v361 : BitVec 32 := Scalar.extui v360
  let c0_i32_162 : BitVec 32 := 0#32
  let v362 : BitVec 1 := Scalar.cmpi .slt c16_i32_158 c0_i32_162
  let v363 : BitVec 32 := Scalar.extui v362
  let v364 : BitVec 32 := Scalar.subi v361 v363
  let v365 : BitVec 1 := Scalar.cmpi .ne v359 v364
  let v366 : BitVec 32 := Scalar.remsi v347 c16_i32_158
  let c0_i32_163 : BitVec 32 := 0#32
  let v367 : BitVec 1 := Scalar.cmpi .ne v366 c0_i32_163
  let v368 : BitVec 1 := Scalar.andi v365 v367
  let v354 : BitVec 32 := Scalar.divsi v347 c16_i32_158
  let c1_i32_164 : BitVec 32 := 1#32
  let v369 : BitVec 32 := Scalar.subi v354 c1_i32_164
  let v370 : BitVec 32 := Scalar.select v368 v369 v354
  let c16_i32_165 : BitVec 32 := 16#32
  let v371 : BitVec 32 := Scalar.muli v370 c16_i32_165
  let c192_i32_166 : BitVec 32 := 192#32
  let v372 : BitVec 32 := Scalar.minsi v371 c192_i32_166
  v372
def k0_off14 (v347 : BitVec 32) : Fin 4 → Nat :=
  let c11 : Index := 11#32
  let c0_249 : Index := 0#32
  let c0_i32_159 : BitVec 32 := 0#32
  let v355 : BitVec 1 := Scalar.cmpi .sgt v347 c0_i32_159
  let v356 : BitVec 32 := Scalar.extui v355
  let c0_i32_160 : BitVec 32 := 0#32
  let v357 : BitVec 1 := Scalar.cmpi .slt v347 c0_i32_160
  let v358 : BitVec 32 := Scalar.extui v357
  let v359 : BitVec 32 := Scalar.subi v356 v358
  let c16_i32_158 : BitVec 32 := 16#32
  let c0_i32_161 : BitVec 32 := 0#32
  let v360 : BitVec 1 := Scalar.cmpi .sgt c16_i32_158 c0_i32_161
  let v361 : BitVec 32 := Scalar.extui v360
  let c0_i32_162 : BitVec 32 := 0#32
  let v362 : BitVec 1 := Scalar.cmpi .slt c16_i32_158 c0_i32_162
  let v363 : BitVec 32 := Scalar.extui v362
  let v364 : BitVec 32 := Scalar.subi v361 v363
  let v365 : BitVec 1 := Scalar.cmpi .ne v359 v364
  let v366 : BitVec 32 := Scalar.remsi v347 c16_i32_158
  let c0_i32_163 : BitVec 32 := 0#32
  let v367 : BitVec 1 := Scalar.cmpi .ne v366 c0_i32_163
  let v368 : BitVec 1 := Scalar.andi v365 v367
  let v354 : BitVec 32 := Scalar.divsi v347 c16_i32_158
  let c1_i32_164 : BitVec 32 := 1#32
  let v369 : BitVec 32 := Scalar.subi v354 c1_i32_164
  let v370 : BitVec 32 := Scalar.select v368 v369 v354
  let c16_i32_165 : BitVec 32 := 16#32
  let v371 : BitVec 32 := Scalar.muli v370 c16_i32_165
  let c192_i32_166 : BitVec 32 := 192#32
  let v372 : BitVec 32 := Scalar.minsi v371 c192_i32_166
  let v549 : BitVec 32 := v372
  let v550 : Index := Scalar.indexCast v549
  let c0_250 : Index := 0#32
  ![11, 0, v550.toNat, 0]
def k0_mult13 (v378 : BitVec 32) : BitVec 32 :=
  let c0_i32_173 : BitVec 32 := 0#32
  let v386 : BitVec 1 := Scalar.cmpi .sgt v378 c0_i32_173
  let v387 : BitVec 32 := Scalar.extui v386
  let c0_i32_174 : BitVec 32 := 0#32
  let v388 : BitVec 1 := Scalar.cmpi .slt v378 c0_i32_174
  let v389 : BitVec 32 := Scalar.extui v388
  let v390 : BitVec 32 := Scalar.subi v387 v389
  let c16_i32_172 : BitVec 32 := 16#32
  let c0_i32_175 : BitVec 32 := 0#32
  let v391 : BitVec 1 := Scalar.cmpi .sgt c16_i32_172 c0_i32_175
  let v392 : BitVec 32 := Scalar.extui v391
  let c0_i32_176 : BitVec 32 := 0#32
  let v393 : BitVec 1 := Scalar.cmpi .slt c16_i32_172 c0_i32_176
  let v394 : BitVec 32 := Scalar.extui v393
  let v395 : BitVec 32 := Scalar.subi v392 v394
  let v396 : BitVec 1 := Scalar.cmpi .ne v390 v395
  let v397 : BitVec 32 := Scalar.remsi v378 c16_i32_172
  let c0_i32_177 : BitVec 32 := 0#32
  let v398 : BitVec 1 := Scalar.cmpi .ne v397 c0_i32_177
  let v399 : BitVec 1 := Scalar.andi v396 v398
  let v385 : BitVec 32 := Scalar.divsi v378 c16_i32_172
  let c1_i32_178 : BitVec 32 := 1#32
  let v400 : BitVec 32 := Scalar.subi v385 c1_i32_178
  let v401 : BitVec 32 := Scalar.select v399 v400 v385
  let c16_i32_179 : BitVec 32 := 16#32
  let v402 : BitVec 32 := Scalar.muli v401 c16_i32_179
  let c192_i32_180 : BitVec 32 := 192#32
  let v403 : BitVec 32 := Scalar.minsi v402 c192_i32_180
  v403
def k0_off15 (v378 : BitVec 32) : Fin 4 → Nat :=
  let c12 : Index := 12#32
  let c0_251 : Index := 0#32
  let c0_i32_173 : BitVec 32 := 0#32
  let v386 : BitVec 1 := Scalar.cmpi .sgt v378 c0_i32_173
  let v387 : BitVec 32 := Scalar.extui v386
  let c0_i32_174 : BitVec 32 := 0#32
  let v388 : BitVec 1 := Scalar.cmpi .slt v378 c0_i32_174
  let v389 : BitVec 32 := Scalar.extui v388
  let v390 : BitVec 32 := Scalar.subi v387 v389
  let c16_i32_172 : BitVec 32 := 16#32
  let c0_i32_175 : BitVec 32 := 0#32
  let v391 : BitVec 1 := Scalar.cmpi .sgt c16_i32_172 c0_i32_175
  let v392 : BitVec 32 := Scalar.extui v391
  let c0_i32_176 : BitVec 32 := 0#32
  let v393 : BitVec 1 := Scalar.cmpi .slt c16_i32_172 c0_i32_176
  let v394 : BitVec 32 := Scalar.extui v393
  let v395 : BitVec 32 := Scalar.subi v392 v394
  let v396 : BitVec 1 := Scalar.cmpi .ne v390 v395
  let v397 : BitVec 32 := Scalar.remsi v378 c16_i32_172
  let c0_i32_177 : BitVec 32 := 0#32
  let v398 : BitVec 1 := Scalar.cmpi .ne v397 c0_i32_177
  let v399 : BitVec 1 := Scalar.andi v396 v398
  let v385 : BitVec 32 := Scalar.divsi v378 c16_i32_172
  let c1_i32_178 : BitVec 32 := 1#32
  let v400 : BitVec 32 := Scalar.subi v385 c1_i32_178
  let v401 : BitVec 32 := Scalar.select v399 v400 v385
  let c16_i32_179 : BitVec 32 := 16#32
  let v402 : BitVec 32 := Scalar.muli v401 c16_i32_179
  let c192_i32_180 : BitVec 32 := 192#32
  let v403 : BitVec 32 := Scalar.minsi v402 c192_i32_180
  let v553 : BitVec 32 := v403
  let v554 : Index := Scalar.indexCast v553
  let c0_252 : Index := 0#32
  ![12, 0, v554.toNat, 0]
def k0_mult14 (v409 : BitVec 32) : BitVec 32 :=
  let c0_i32_187 : BitVec 32 := 0#32
  let v417 : BitVec 1 := Scalar.cmpi .sgt v409 c0_i32_187
  let v418 : BitVec 32 := Scalar.extui v417
  let c0_i32_188 : BitVec 32 := 0#32
  let v419 : BitVec 1 := Scalar.cmpi .slt v409 c0_i32_188
  let v420 : BitVec 32 := Scalar.extui v419
  let v421 : BitVec 32 := Scalar.subi v418 v420
  let c16_i32_186 : BitVec 32 := 16#32
  let c0_i32_189 : BitVec 32 := 0#32
  let v422 : BitVec 1 := Scalar.cmpi .sgt c16_i32_186 c0_i32_189
  let v423 : BitVec 32 := Scalar.extui v422
  let c0_i32_190 : BitVec 32 := 0#32
  let v424 : BitVec 1 := Scalar.cmpi .slt c16_i32_186 c0_i32_190
  let v425 : BitVec 32 := Scalar.extui v424
  let v426 : BitVec 32 := Scalar.subi v423 v425
  let v427 : BitVec 1 := Scalar.cmpi .ne v421 v426
  let v428 : BitVec 32 := Scalar.remsi v409 c16_i32_186
  let c0_i32_191 : BitVec 32 := 0#32
  let v429 : BitVec 1 := Scalar.cmpi .ne v428 c0_i32_191
  let v430 : BitVec 1 := Scalar.andi v427 v429
  let v416 : BitVec 32 := Scalar.divsi v409 c16_i32_186
  let c1_i32_192 : BitVec 32 := 1#32
  let v431 : BitVec 32 := Scalar.subi v416 c1_i32_192
  let v432 : BitVec 32 := Scalar.select v430 v431 v416
  let c16_i32_193 : BitVec 32 := 16#32
  let v433 : BitVec 32 := Scalar.muli v432 c16_i32_193
  let c192_i32_194 : BitVec 32 := 192#32
  let v434 : BitVec 32 := Scalar.minsi v433 c192_i32_194
  v434
def k0_off16 (v409 : BitVec 32) : Fin 4 → Nat :=
  let c13 : Index := 13#32
  let c0_253 : Index := 0#32
  let c0_i32_187 : BitVec 32 := 0#32
  let v417 : BitVec 1 := Scalar.cmpi .sgt v409 c0_i32_187
  let v418 : BitVec 32 := Scalar.extui v417
  let c0_i32_188 : BitVec 32 := 0#32
  let v419 : BitVec 1 := Scalar.cmpi .slt v409 c0_i32_188
  let v420 : BitVec 32 := Scalar.extui v419
  let v421 : BitVec 32 := Scalar.subi v418 v420
  let c16_i32_186 : BitVec 32 := 16#32
  let c0_i32_189 : BitVec 32 := 0#32
  let v422 : BitVec 1 := Scalar.cmpi .sgt c16_i32_186 c0_i32_189
  let v423 : BitVec 32 := Scalar.extui v422
  let c0_i32_190 : BitVec 32 := 0#32
  let v424 : BitVec 1 := Scalar.cmpi .slt c16_i32_186 c0_i32_190
  let v425 : BitVec 32 := Scalar.extui v424
  let v426 : BitVec 32 := Scalar.subi v423 v425
  let v427 : BitVec 1 := Scalar.cmpi .ne v421 v426
  let v428 : BitVec 32 := Scalar.remsi v409 c16_i32_186
  let c0_i32_191 : BitVec 32 := 0#32
  let v429 : BitVec 1 := Scalar.cmpi .ne v428 c0_i32_191
  let v430 : BitVec 1 := Scalar.andi v427 v429
  let v416 : BitVec 32 := Scalar.divsi v409 c16_i32_186
  let c1_i32_192 : BitVec 32 := 1#32
  let v431 : BitVec 32 := Scalar.subi v416 c1_i32_192
  let v432 : BitVec 32 := Scalar.select v430 v431 v416
  let c16_i32_193 : BitVec 32 := 16#32
  let v433 : BitVec 32 := Scalar.muli v432 c16_i32_193
  let c192_i32_194 : BitVec 32 := 192#32
  let v434 : BitVec 32 := Scalar.minsi v433 c192_i32_194
  let v557 : BitVec 32 := v434
  let v558 : Index := Scalar.indexCast v557
  let c0_254 : Index := 0#32
  ![13, 0, v558.toNat, 0]
def k0_mult15 (v440 : BitVec 32) : BitVec 32 :=
  let c0_i32_201 : BitVec 32 := 0#32
  let v448 : BitVec 1 := Scalar.cmpi .sgt v440 c0_i32_201
  let v449 : BitVec 32 := Scalar.extui v448
  let c0_i32_202 : BitVec 32 := 0#32
  let v450 : BitVec 1 := Scalar.cmpi .slt v440 c0_i32_202
  let v451 : BitVec 32 := Scalar.extui v450
  let v452 : BitVec 32 := Scalar.subi v449 v451
  let c16_i32_200 : BitVec 32 := 16#32
  let c0_i32_203 : BitVec 32 := 0#32
  let v453 : BitVec 1 := Scalar.cmpi .sgt c16_i32_200 c0_i32_203
  let v454 : BitVec 32 := Scalar.extui v453
  let c0_i32_204 : BitVec 32 := 0#32
  let v455 : BitVec 1 := Scalar.cmpi .slt c16_i32_200 c0_i32_204
  let v456 : BitVec 32 := Scalar.extui v455
  let v457 : BitVec 32 := Scalar.subi v454 v456
  let v458 : BitVec 1 := Scalar.cmpi .ne v452 v457
  let v459 : BitVec 32 := Scalar.remsi v440 c16_i32_200
  let c0_i32_205 : BitVec 32 := 0#32
  let v460 : BitVec 1 := Scalar.cmpi .ne v459 c0_i32_205
  let v461 : BitVec 1 := Scalar.andi v458 v460
  let v447 : BitVec 32 := Scalar.divsi v440 c16_i32_200
  let c1_i32_206 : BitVec 32 := 1#32
  let v462 : BitVec 32 := Scalar.subi v447 c1_i32_206
  let v463 : BitVec 32 := Scalar.select v461 v462 v447
  let c16_i32_207 : BitVec 32 := 16#32
  let v464 : BitVec 32 := Scalar.muli v463 c16_i32_207
  let c192_i32_208 : BitVec 32 := 192#32
  let v465 : BitVec 32 := Scalar.minsi v464 c192_i32_208
  v465
def k0_off17 (v440 : BitVec 32) : Fin 4 → Nat :=
  let c14 : Index := 14#32
  let c0_255 : Index := 0#32
  let c0_i32_201 : BitVec 32 := 0#32
  let v448 : BitVec 1 := Scalar.cmpi .sgt v440 c0_i32_201
  let v449 : BitVec 32 := Scalar.extui v448
  let c0_i32_202 : BitVec 32 := 0#32
  let v450 : BitVec 1 := Scalar.cmpi .slt v440 c0_i32_202
  let v451 : BitVec 32 := Scalar.extui v450
  let v452 : BitVec 32 := Scalar.subi v449 v451
  let c16_i32_200 : BitVec 32 := 16#32
  let c0_i32_203 : BitVec 32 := 0#32
  let v453 : BitVec 1 := Scalar.cmpi .sgt c16_i32_200 c0_i32_203
  let v454 : BitVec 32 := Scalar.extui v453
  let c0_i32_204 : BitVec 32 := 0#32
  let v455 : BitVec 1 := Scalar.cmpi .slt c16_i32_200 c0_i32_204
  let v456 : BitVec 32 := Scalar.extui v455
  let v457 : BitVec 32 := Scalar.subi v454 v456
  let v458 : BitVec 1 := Scalar.cmpi .ne v452 v457
  let v459 : BitVec 32 := Scalar.remsi v440 c16_i32_200
  let c0_i32_205 : BitVec 32 := 0#32
  let v460 : BitVec 1 := Scalar.cmpi .ne v459 c0_i32_205
  let v461 : BitVec 1 := Scalar.andi v458 v460
  let v447 : BitVec 32 := Scalar.divsi v440 c16_i32_200
  let c1_i32_206 : BitVec 32 := 1#32
  let v462 : BitVec 32 := Scalar.subi v447 c1_i32_206
  let v463 : BitVec 32 := Scalar.select v461 v462 v447
  let c16_i32_207 : BitVec 32 := 16#32
  let v464 : BitVec 32 := Scalar.muli v463 c16_i32_207
  let c192_i32_208 : BitVec 32 := 192#32
  let v465 : BitVec 32 := Scalar.minsi v464 c192_i32_208
  let v561 : BitVec 32 := v465
  let v562 : Index := Scalar.indexCast v561
  let c0_256 : Index := 0#32
  ![14, 0, v562.toNat, 0]
def k0_mult16 (v471 : BitVec 32) : BitVec 32 :=
  let c0_i32_215 : BitVec 32 := 0#32
  let v479 : BitVec 1 := Scalar.cmpi .sgt v471 c0_i32_215
  let v480 : BitVec 32 := Scalar.extui v479
  let c0_i32_216 : BitVec 32 := 0#32
  let v481 : BitVec 1 := Scalar.cmpi .slt v471 c0_i32_216
  let v482 : BitVec 32 := Scalar.extui v481
  let v483 : BitVec 32 := Scalar.subi v480 v482
  let c16_i32_214 : BitVec 32 := 16#32
  let c0_i32_217 : BitVec 32 := 0#32
  let v484 : BitVec 1 := Scalar.cmpi .sgt c16_i32_214 c0_i32_217
  let v485 : BitVec 32 := Scalar.extui v484
  let c0_i32_218 : BitVec 32 := 0#32
  let v486 : BitVec 1 := Scalar.cmpi .slt c16_i32_214 c0_i32_218
  let v487 : BitVec 32 := Scalar.extui v486
  let v488 : BitVec 32 := Scalar.subi v485 v487
  let v489 : BitVec 1 := Scalar.cmpi .ne v483 v488
  let v490 : BitVec 32 := Scalar.remsi v471 c16_i32_214
  let c0_i32_219 : BitVec 32 := 0#32
  let v491 : BitVec 1 := Scalar.cmpi .ne v490 c0_i32_219
  let v492 : BitVec 1 := Scalar.andi v489 v491
  let v478 : BitVec 32 := Scalar.divsi v471 c16_i32_214
  let c1_i32_220 : BitVec 32 := 1#32
  let v493 : BitVec 32 := Scalar.subi v478 c1_i32_220
  let v494 : BitVec 32 := Scalar.select v492 v493 v478
  let c16_i32_221 : BitVec 32 := 16#32
  let v495 : BitVec 32 := Scalar.muli v494 c16_i32_221
  let c192_i32_222 : BitVec 32 := 192#32
  let v496 : BitVec 32 := Scalar.minsi v495 c192_i32_222
  v496
def k0_off18 (v471 : BitVec 32) : Fin 4 → Nat :=
  let c15 : Index := 15#32
  let c0_257 : Index := 0#32
  let c0_i32_215 : BitVec 32 := 0#32
  let v479 : BitVec 1 := Scalar.cmpi .sgt v471 c0_i32_215
  let v480 : BitVec 32 := Scalar.extui v479
  let c0_i32_216 : BitVec 32 := 0#32
  let v481 : BitVec 1 := Scalar.cmpi .slt v471 c0_i32_216
  let v482 : BitVec 32 := Scalar.extui v481
  let v483 : BitVec 32 := Scalar.subi v480 v482
  let c16_i32_214 : BitVec 32 := 16#32
  let c0_i32_217 : BitVec 32 := 0#32
  let v484 : BitVec 1 := Scalar.cmpi .sgt c16_i32_214 c0_i32_217
  let v485 : BitVec 32 := Scalar.extui v484
  let c0_i32_218 : BitVec 32 := 0#32
  let v486 : BitVec 1 := Scalar.cmpi .slt c16_i32_214 c0_i32_218
  let v487 : BitVec 32 := Scalar.extui v486
  let v488 : BitVec 32 := Scalar.subi v485 v487
  let v489 : BitVec 1 := Scalar.cmpi .ne v483 v488
  let v490 : BitVec 32 := Scalar.remsi v471 c16_i32_214
  let c0_i32_219 : BitVec 32 := 0#32
  let v491 : BitVec 1 := Scalar.cmpi .ne v490 c0_i32_219
  let v492 : BitVec 1 := Scalar.andi v489 v491
  let v478 : BitVec 32 := Scalar.divsi v471 c16_i32_214
  let c1_i32_220 : BitVec 32 := 1#32
  let v493 : BitVec 32 := Scalar.subi v478 c1_i32_220
  let v494 : BitVec 32 := Scalar.select v492 v493 v478
  let c16_i32_221 : BitVec 32 := 16#32
  let v495 : BitVec 32 := Scalar.muli v494 c16_i32_221
  let c192_i32_222 : BitVec 32 := 192#32
  let v496 : BitVec 32 := Scalar.minsi v495 c192_i32_222
  let v565 : BitVec 32 := v496
  let v566 : Index := Scalar.indexCast v565
  let c0_258 : Index := 0#32
  ![15, 0, v566.toNat, 0]

def k0_chk1 (i : grid0.Coords) (v7 : BitVec 32) (v12 : BitVec 32) (v37 : BitVec 32) (v42 : BitVec 32) (v68 : BitVec 32) (v73 : BitVec 32) (v99 : BitVec 32) (v104 : BitVec 32) (v130 : BitVec 32) (v135 : BitVec 32) (v161 : BitVec 32) (v166 : BitVec 32) (v192 : BitVec 32) (v197 : BitVec 32) (v223 : BitVec 32) (v228 : BitVec 32) (v254 : BitVec 32) (v259 : BitVec 32) (v285 : BitVec 32) (v290 : BitVec 32) (v316 : BitVec 32) (v321 : BitVec 32) (v347 : BitVec 32) (v352 : BitVec 32) (v378 : BitVec 32) (v383 : BitVec 32) (v409 : BitVec 32) (v414 : BitVec 32) (v440 : BitVec 32) (v445 : BitVec 32) (v471 : BitVec 32) (v476 : BitVec 32) : Prop :=
  (∀ (k0_h1 : k0_cond1 i v7 v12 v37 v42 v68 v73 v99 v104 v130 v135 v161 v166 v192 v197 v223 v228 v254 v259 v285 v290 v316 v321 v347 v352 v378 v383 v409 v414 v440 v445 v471 v476 = 1#1), 16 ∣ (k0_mult1 v7).toNat) ∧
  (∀ (k0_h1 : k0_cond1 i v7 v12 v37 v42 v68 v73 v99 v104 v130 v135 v161 v166 v192 v197 v223 v228 v254 v259 v285 v290 v316 v321 v347 v352 v378 v383 v409 v414 v440 v445 v471 v476 = 1#1), ∀ a, (k0_off3 v7) a + S1x1x64x1024.size a ≤ S16x1x256x1024.size a) ∧
  (∀ (k0_h1 : k0_cond1 i v7 v12 v37 v42 v68 v73 v99 v104 v130 v135 v161 v166 v192 v197 v223 v228 v254 v259 v285 v290 v316 v321 v347 v352 v378 v383 v409 v414 v440 v445 v471 v476 = 1#1), 16 ∣ (k0_mult2 v37).toNat) ∧
  (∀ (k0_h1 : k0_cond1 i v7 v12 v37 v42 v68 v73 v99 v104 v130 v135 v161 v166 v192 v197 v223 v228 v254 v259 v285 v290 v316 v321 v347 v352 v378 v383 v409 v414 v440 v445 v471 v476 = 1#1), ∀ a, (k0_off4 v37) a + S1x1x64x1024.size a ≤ S16x1x256x1024.size a) ∧
  (∀ (k0_h1 : k0_cond1 i v7 v12 v37 v42 v68 v73 v99 v104 v130 v135 v161 v166 v192 v197 v223 v228 v254 v259 v285 v290 v316 v321 v347 v352 v378 v383 v409 v414 v440 v445 v471 v476 = 1#1), 16 ∣ (k0_mult3 v68).toNat) ∧
  (∀ (k0_h1 : k0_cond1 i v7 v12 v37 v42 v68 v73 v99 v104 v130 v135 v161 v166 v192 v197 v223 v228 v254 v259 v285 v290 v316 v321 v347 v352 v378 v383 v409 v414 v440 v445 v471 v476 = 1#1), ∀ a, (k0_off5 v68) a + S1x1x64x1024.size a ≤ S16x1x256x1024.size a) ∧
  (∀ (k0_h1 : k0_cond1 i v7 v12 v37 v42 v68 v73 v99 v104 v130 v135 v161 v166 v192 v197 v223 v228 v254 v259 v285 v290 v316 v321 v347 v352 v378 v383 v409 v414 v440 v445 v471 v476 = 1#1), 16 ∣ (k0_mult4 v99).toNat) ∧
  (∀ (k0_h1 : k0_cond1 i v7 v12 v37 v42 v68 v73 v99 v104 v130 v135 v161 v166 v192 v197 v223 v228 v254 v259 v285 v290 v316 v321 v347 v352 v378 v383 v409 v414 v440 v445 v471 v476 = 1#1), ∀ a, (k0_off6 v99) a + S1x1x64x1024.size a ≤ S16x1x256x1024.size a) ∧
  (∀ (k0_h1 : k0_cond1 i v7 v12 v37 v42 v68 v73 v99 v104 v130 v135 v161 v166 v192 v197 v223 v228 v254 v259 v285 v290 v316 v321 v347 v352 v378 v383 v409 v414 v440 v445 v471 v476 = 1#1), 16 ∣ (k0_mult5 v130).toNat) ∧
  (∀ (k0_h1 : k0_cond1 i v7 v12 v37 v42 v68 v73 v99 v104 v130 v135 v161 v166 v192 v197 v223 v228 v254 v259 v285 v290 v316 v321 v347 v352 v378 v383 v409 v414 v440 v445 v471 v476 = 1#1), ∀ a, (k0_off7 v130) a + S1x1x64x1024.size a ≤ S16x1x256x1024.size a) ∧
  (∀ (k0_h1 : k0_cond1 i v7 v12 v37 v42 v68 v73 v99 v104 v130 v135 v161 v166 v192 v197 v223 v228 v254 v259 v285 v290 v316 v321 v347 v352 v378 v383 v409 v414 v440 v445 v471 v476 = 1#1), 16 ∣ (k0_mult6 v161).toNat) ∧
  (∀ (k0_h1 : k0_cond1 i v7 v12 v37 v42 v68 v73 v99 v104 v130 v135 v161 v166 v192 v197 v223 v228 v254 v259 v285 v290 v316 v321 v347 v352 v378 v383 v409 v414 v440 v445 v471 v476 = 1#1), ∀ a, (k0_off8 v161) a + S1x1x64x1024.size a ≤ S16x1x256x1024.size a) ∧
  (∀ (k0_h1 : k0_cond1 i v7 v12 v37 v42 v68 v73 v99 v104 v130 v135 v161 v166 v192 v197 v223 v228 v254 v259 v285 v290 v316 v321 v347 v352 v378 v383 v409 v414 v440 v445 v471 v476 = 1#1), 16 ∣ (k0_mult7 v192).toNat) ∧
  (∀ (k0_h1 : k0_cond1 i v7 v12 v37 v42 v68 v73 v99 v104 v130 v135 v161 v166 v192 v197 v223 v228 v254 v259 v285 v290 v316 v321 v347 v352 v378 v383 v409 v414 v440 v445 v471 v476 = 1#1), ∀ a, (k0_off9 v192) a + S1x1x64x1024.size a ≤ S16x1x256x1024.size a) ∧
  (∀ (k0_h1 : k0_cond1 i v7 v12 v37 v42 v68 v73 v99 v104 v130 v135 v161 v166 v192 v197 v223 v228 v254 v259 v285 v290 v316 v321 v347 v352 v378 v383 v409 v414 v440 v445 v471 v476 = 1#1), 16 ∣ (k0_mult8 v223).toNat) ∧
  (∀ (k0_h1 : k0_cond1 i v7 v12 v37 v42 v68 v73 v99 v104 v130 v135 v161 v166 v192 v197 v223 v228 v254 v259 v285 v290 v316 v321 v347 v352 v378 v383 v409 v414 v440 v445 v471 v476 = 1#1), ∀ a, (k0_off10 v223) a + S1x1x64x1024.size a ≤ S16x1x256x1024.size a) ∧
  (∀ (k0_h1 : k0_cond1 i v7 v12 v37 v42 v68 v73 v99 v104 v130 v135 v161 v166 v192 v197 v223 v228 v254 v259 v285 v290 v316 v321 v347 v352 v378 v383 v409 v414 v440 v445 v471 v476 = 1#1), 16 ∣ (k0_mult9 v254).toNat) ∧
  (∀ (k0_h1 : k0_cond1 i v7 v12 v37 v42 v68 v73 v99 v104 v130 v135 v161 v166 v192 v197 v223 v228 v254 v259 v285 v290 v316 v321 v347 v352 v378 v383 v409 v414 v440 v445 v471 v476 = 1#1), ∀ a, (k0_off11 v254) a + S1x1x64x1024.size a ≤ S16x1x256x1024.size a) ∧
  (∀ (k0_h1 : k0_cond1 i v7 v12 v37 v42 v68 v73 v99 v104 v130 v135 v161 v166 v192 v197 v223 v228 v254 v259 v285 v290 v316 v321 v347 v352 v378 v383 v409 v414 v440 v445 v471 v476 = 1#1), 16 ∣ (k0_mult10 v285).toNat) ∧
  (∀ (k0_h1 : k0_cond1 i v7 v12 v37 v42 v68 v73 v99 v104 v130 v135 v161 v166 v192 v197 v223 v228 v254 v259 v285 v290 v316 v321 v347 v352 v378 v383 v409 v414 v440 v445 v471 v476 = 1#1), ∀ a, (k0_off12 v285) a + S1x1x64x1024.size a ≤ S16x1x256x1024.size a) ∧
  (∀ (k0_h1 : k0_cond1 i v7 v12 v37 v42 v68 v73 v99 v104 v130 v135 v161 v166 v192 v197 v223 v228 v254 v259 v285 v290 v316 v321 v347 v352 v378 v383 v409 v414 v440 v445 v471 v476 = 1#1), 16 ∣ (k0_mult11 v316).toNat) ∧
  (∀ (k0_h1 : k0_cond1 i v7 v12 v37 v42 v68 v73 v99 v104 v130 v135 v161 v166 v192 v197 v223 v228 v254 v259 v285 v290 v316 v321 v347 v352 v378 v383 v409 v414 v440 v445 v471 v476 = 1#1), ∀ a, (k0_off13 v316) a + S1x1x64x1024.size a ≤ S16x1x256x1024.size a) ∧
  (∀ (k0_h1 : k0_cond1 i v7 v12 v37 v42 v68 v73 v99 v104 v130 v135 v161 v166 v192 v197 v223 v228 v254 v259 v285 v290 v316 v321 v347 v352 v378 v383 v409 v414 v440 v445 v471 v476 = 1#1), 16 ∣ (k0_mult12 v347).toNat) ∧
  (∀ (k0_h1 : k0_cond1 i v7 v12 v37 v42 v68 v73 v99 v104 v130 v135 v161 v166 v192 v197 v223 v228 v254 v259 v285 v290 v316 v321 v347 v352 v378 v383 v409 v414 v440 v445 v471 v476 = 1#1), ∀ a, (k0_off14 v347) a + S1x1x64x1024.size a ≤ S16x1x256x1024.size a) ∧
  (∀ (k0_h1 : k0_cond1 i v7 v12 v37 v42 v68 v73 v99 v104 v130 v135 v161 v166 v192 v197 v223 v228 v254 v259 v285 v290 v316 v321 v347 v352 v378 v383 v409 v414 v440 v445 v471 v476 = 1#1), 16 ∣ (k0_mult13 v378).toNat) ∧
  (∀ (k0_h1 : k0_cond1 i v7 v12 v37 v42 v68 v73 v99 v104 v130 v135 v161 v166 v192 v197 v223 v228 v254 v259 v285 v290 v316 v321 v347 v352 v378 v383 v409 v414 v440 v445 v471 v476 = 1#1), ∀ a, (k0_off15 v378) a + S1x1x64x1024.size a ≤ S16x1x256x1024.size a) ∧
  (∀ (k0_h1 : k0_cond1 i v7 v12 v37 v42 v68 v73 v99 v104 v130 v135 v161 v166 v192 v197 v223 v228 v254 v259 v285 v290 v316 v321 v347 v352 v378 v383 v409 v414 v440 v445 v471 v476 = 1#1), 16 ∣ (k0_mult14 v409).toNat) ∧
  (∀ (k0_h1 : k0_cond1 i v7 v12 v37 v42 v68 v73 v99 v104 v130 v135 v161 v166 v192 v197 v223 v228 v254 v259 v285 v290 v316 v321 v347 v352 v378 v383 v409 v414 v440 v445 v471 v476 = 1#1), ∀ a, (k0_off16 v409) a + S1x1x64x1024.size a ≤ S16x1x256x1024.size a) ∧
  (∀ (k0_h1 : k0_cond1 i v7 v12 v37 v42 v68 v73 v99 v104 v130 v135 v161 v166 v192 v197 v223 v228 v254 v259 v285 v290 v316 v321 v347 v352 v378 v383 v409 v414 v440 v445 v471 v476 = 1#1), 16 ∣ (k0_mult15 v440).toNat) ∧
  (∀ (k0_h1 : k0_cond1 i v7 v12 v37 v42 v68 v73 v99 v104 v130 v135 v161 v166 v192 v197 v223 v228 v254 v259 v285 v290 v316 v321 v347 v352 v378 v383 v409 v414 v440 v445 v471 v476 = 1#1), ∀ a, (k0_off17 v440) a + S1x1x64x1024.size a ≤ S16x1x256x1024.size a) ∧
  (∀ (k0_h1 : k0_cond1 i v7 v12 v37 v42 v68 v73 v99 v104 v130 v135 v161 v166 v192 v197 v223 v228 v254 v259 v285 v290 v316 v321 v347 v352 v378 v383 v409 v414 v440 v445 v471 v476 = 1#1), 16 ∣ (k0_mult16 v471).toNat) ∧
  (∀ (k0_h1 : k0_cond1 i v7 v12 v37 v42 v68 v73 v99 v104 v130 v135 v161 v166 v192 v197 v223 v228 v254 v259 v285 v290 v316 v321 v347 v352 v378 v383 v409 v414 v440 v445 v471 v476 = 1#1), ∀ a, (k0_off18 v471) a + S1x1x64x1024.size a ≤ S16x1x256x1024.size a)
theorem k0_mult1_dvd : ∀ (i : grid0.Coords) (v7 : BitVec 32) (v12 : BitVec 32) (v37 : BitVec 32) (v42 : BitVec 32) (v68 : BitVec 32) (v73 : BitVec 32) (v99 : BitVec 32) (v104 : BitVec 32) (v130 : BitVec 32) (v135 : BitVec 32) (v161 : BitVec 32) (v166 : BitVec 32) (v192 : BitVec 32) (v197 : BitVec 32) (v223 : BitVec 32) (v228 : BitVec 32) (v254 : BitVec 32) (v259 : BitVec 32) (v285 : BitVec 32) (v290 : BitVec 32) (v316 : BitVec 32) (v321 : BitVec 32) (v347 : BitVec 32) (v352 : BitVec 32) (v378 : BitVec 32) (v383 : BitVec 32) (v409 : BitVec 32) (v414 : BitVec 32) (v440 : BitVec 32) (v445 : BitVec 32) (v471 : BitVec 32) (v476 : BitVec 32) (k0_hw1 : k0_chk1 i v7 v12 v37 v42 v68 v73 v99 v104 v130 v135 v161 v166 v192 v197 v223 v228 v254 v259 v285 v290 v316 v321 v347 v352 v378 v383 v409 v414 v440 v445 v471 v476), ∀ (k0_h1 : k0_cond1 i v7 v12 v37 v42 v68 v73 v99 v104 v130 v135 v161 v166 v192 v197 v223 v228 v254 v259 v285 v290 v316 v321 v347 v352 v378 v383 v409 v414 v440 v445 v471 v476 = 1#1), 16 ∣ (k0_mult1 v7).toNat := fun i v7 v12 v37 v42 v68 v73 v99 v104 v130 v135 v161 v166 v192 v197 v223 v228 v254 v259 v285 v290 v316 v321 v347 v352 v378 v383 v409 v414 v440 v445 v471 v476 k0_hw1 k0_h1 => k0_hw1.1 k0_h1
theorem k0_off3_inb : ∀ (i : grid0.Coords) (v7 : BitVec 32) (v12 : BitVec 32) (v37 : BitVec 32) (v42 : BitVec 32) (v68 : BitVec 32) (v73 : BitVec 32) (v99 : BitVec 32) (v104 : BitVec 32) (v130 : BitVec 32) (v135 : BitVec 32) (v161 : BitVec 32) (v166 : BitVec 32) (v192 : BitVec 32) (v197 : BitVec 32) (v223 : BitVec 32) (v228 : BitVec 32) (v254 : BitVec 32) (v259 : BitVec 32) (v285 : BitVec 32) (v290 : BitVec 32) (v316 : BitVec 32) (v321 : BitVec 32) (v347 : BitVec 32) (v352 : BitVec 32) (v378 : BitVec 32) (v383 : BitVec 32) (v409 : BitVec 32) (v414 : BitVec 32) (v440 : BitVec 32) (v445 : BitVec 32) (v471 : BitVec 32) (v476 : BitVec 32) (k0_hw1 : k0_chk1 i v7 v12 v37 v42 v68 v73 v99 v104 v130 v135 v161 v166 v192 v197 v223 v228 v254 v259 v285 v290 v316 v321 v347 v352 v378 v383 v409 v414 v440 v445 v471 v476), ∀ (k0_h1 : k0_cond1 i v7 v12 v37 v42 v68 v73 v99 v104 v130 v135 v161 v166 v192 v197 v223 v228 v254 v259 v285 v290 v316 v321 v347 v352 v378 v383 v409 v414 v440 v445 v471 v476 = 1#1), ∀ a, (k0_off3 v7) a + S1x1x64x1024.size a ≤ S16x1x256x1024.size a := fun i v7 v12 v37 v42 v68 v73 v99 v104 v130 v135 v161 v166 v192 v197 v223 v228 v254 v259 v285 v290 v316 v321 v347 v352 v378 v383 v409 v414 v440 v445 v471 v476 k0_hw1 k0_h1 => k0_hw1.2.1 k0_h1
theorem k0_mult2_dvd : ∀ (i : grid0.Coords) (v7 : BitVec 32) (v12 : BitVec 32) (v37 : BitVec 32) (v42 : BitVec 32) (v68 : BitVec 32) (v73 : BitVec 32) (v99 : BitVec 32) (v104 : BitVec 32) (v130 : BitVec 32) (v135 : BitVec 32) (v161 : BitVec 32) (v166 : BitVec 32) (v192 : BitVec 32) (v197 : BitVec 32) (v223 : BitVec 32) (v228 : BitVec 32) (v254 : BitVec 32) (v259 : BitVec 32) (v285 : BitVec 32) (v290 : BitVec 32) (v316 : BitVec 32) (v321 : BitVec 32) (v347 : BitVec 32) (v352 : BitVec 32) (v378 : BitVec 32) (v383 : BitVec 32) (v409 : BitVec 32) (v414 : BitVec 32) (v440 : BitVec 32) (v445 : BitVec 32) (v471 : BitVec 32) (v476 : BitVec 32) (k0_hw1 : k0_chk1 i v7 v12 v37 v42 v68 v73 v99 v104 v130 v135 v161 v166 v192 v197 v223 v228 v254 v259 v285 v290 v316 v321 v347 v352 v378 v383 v409 v414 v440 v445 v471 v476), ∀ (k0_h1 : k0_cond1 i v7 v12 v37 v42 v68 v73 v99 v104 v130 v135 v161 v166 v192 v197 v223 v228 v254 v259 v285 v290 v316 v321 v347 v352 v378 v383 v409 v414 v440 v445 v471 v476 = 1#1), 16 ∣ (k0_mult2 v37).toNat := fun i v7 v12 v37 v42 v68 v73 v99 v104 v130 v135 v161 v166 v192 v197 v223 v228 v254 v259 v285 v290 v316 v321 v347 v352 v378 v383 v409 v414 v440 v445 v471 v476 k0_hw1 k0_h1 => k0_hw1.2.2.1 k0_h1
theorem k0_off4_inb : ∀ (i : grid0.Coords) (v7 : BitVec 32) (v12 : BitVec 32) (v37 : BitVec 32) (v42 : BitVec 32) (v68 : BitVec 32) (v73 : BitVec 32) (v99 : BitVec 32) (v104 : BitVec 32) (v130 : BitVec 32) (v135 : BitVec 32) (v161 : BitVec 32) (v166 : BitVec 32) (v192 : BitVec 32) (v197 : BitVec 32) (v223 : BitVec 32) (v228 : BitVec 32) (v254 : BitVec 32) (v259 : BitVec 32) (v285 : BitVec 32) (v290 : BitVec 32) (v316 : BitVec 32) (v321 : BitVec 32) (v347 : BitVec 32) (v352 : BitVec 32) (v378 : BitVec 32) (v383 : BitVec 32) (v409 : BitVec 32) (v414 : BitVec 32) (v440 : BitVec 32) (v445 : BitVec 32) (v471 : BitVec 32) (v476 : BitVec 32) (k0_hw1 : k0_chk1 i v7 v12 v37 v42 v68 v73 v99 v104 v130 v135 v161 v166 v192 v197 v223 v228 v254 v259 v285 v290 v316 v321 v347 v352 v378 v383 v409 v414 v440 v445 v471 v476), ∀ (k0_h1 : k0_cond1 i v7 v12 v37 v42 v68 v73 v99 v104 v130 v135 v161 v166 v192 v197 v223 v228 v254 v259 v285 v290 v316 v321 v347 v352 v378 v383 v409 v414 v440 v445 v471 v476 = 1#1), ∀ a, (k0_off4 v37) a + S1x1x64x1024.size a ≤ S16x1x256x1024.size a := fun i v7 v12 v37 v42 v68 v73 v99 v104 v130 v135 v161 v166 v192 v197 v223 v228 v254 v259 v285 v290 v316 v321 v347 v352 v378 v383 v409 v414 v440 v445 v471 v476 k0_hw1 k0_h1 => k0_hw1.2.2.2.1 k0_h1
theorem k0_mult3_dvd : ∀ (i : grid0.Coords) (v7 : BitVec 32) (v12 : BitVec 32) (v37 : BitVec 32) (v42 : BitVec 32) (v68 : BitVec 32) (v73 : BitVec 32) (v99 : BitVec 32) (v104 : BitVec 32) (v130 : BitVec 32) (v135 : BitVec 32) (v161 : BitVec 32) (v166 : BitVec 32) (v192 : BitVec 32) (v197 : BitVec 32) (v223 : BitVec 32) (v228 : BitVec 32) (v254 : BitVec 32) (v259 : BitVec 32) (v285 : BitVec 32) (v290 : BitVec 32) (v316 : BitVec 32) (v321 : BitVec 32) (v347 : BitVec 32) (v352 : BitVec 32) (v378 : BitVec 32) (v383 : BitVec 32) (v409 : BitVec 32) (v414 : BitVec 32) (v440 : BitVec 32) (v445 : BitVec 32) (v471 : BitVec 32) (v476 : BitVec 32) (k0_hw1 : k0_chk1 i v7 v12 v37 v42 v68 v73 v99 v104 v130 v135 v161 v166 v192 v197 v223 v228 v254 v259 v285 v290 v316 v321 v347 v352 v378 v383 v409 v414 v440 v445 v471 v476), ∀ (k0_h1 : k0_cond1 i v7 v12 v37 v42 v68 v73 v99 v104 v130 v135 v161 v166 v192 v197 v223 v228 v254 v259 v285 v290 v316 v321 v347 v352 v378 v383 v409 v414 v440 v445 v471 v476 = 1#1), 16 ∣ (k0_mult3 v68).toNat := fun i v7 v12 v37 v42 v68 v73 v99 v104 v130 v135 v161 v166 v192 v197 v223 v228 v254 v259 v285 v290 v316 v321 v347 v352 v378 v383 v409 v414 v440 v445 v471 v476 k0_hw1 k0_h1 => k0_hw1.2.2.2.2.1 k0_h1
theorem k0_off5_inb : ∀ (i : grid0.Coords) (v7 : BitVec 32) (v12 : BitVec 32) (v37 : BitVec 32) (v42 : BitVec 32) (v68 : BitVec 32) (v73 : BitVec 32) (v99 : BitVec 32) (v104 : BitVec 32) (v130 : BitVec 32) (v135 : BitVec 32) (v161 : BitVec 32) (v166 : BitVec 32) (v192 : BitVec 32) (v197 : BitVec 32) (v223 : BitVec 32) (v228 : BitVec 32) (v254 : BitVec 32) (v259 : BitVec 32) (v285 : BitVec 32) (v290 : BitVec 32) (v316 : BitVec 32) (v321 : BitVec 32) (v347 : BitVec 32) (v352 : BitVec 32) (v378 : BitVec 32) (v383 : BitVec 32) (v409 : BitVec 32) (v414 : BitVec 32) (v440 : BitVec 32) (v445 : BitVec 32) (v471 : BitVec 32) (v476 : BitVec 32) (k0_hw1 : k0_chk1 i v7 v12 v37 v42 v68 v73 v99 v104 v130 v135 v161 v166 v192 v197 v223 v228 v254 v259 v285 v290 v316 v321 v347 v352 v378 v383 v409 v414 v440 v445 v471 v476), ∀ (k0_h1 : k0_cond1 i v7 v12 v37 v42 v68 v73 v99 v104 v130 v135 v161 v166 v192 v197 v223 v228 v254 v259 v285 v290 v316 v321 v347 v352 v378 v383 v409 v414 v440 v445 v471 v476 = 1#1), ∀ a, (k0_off5 v68) a + S1x1x64x1024.size a ≤ S16x1x256x1024.size a := fun i v7 v12 v37 v42 v68 v73 v99 v104 v130 v135 v161 v166 v192 v197 v223 v228 v254 v259 v285 v290 v316 v321 v347 v352 v378 v383 v409 v414 v440 v445 v471 v476 k0_hw1 k0_h1 => k0_hw1.2.2.2.2.2.1 k0_h1
theorem k0_mult4_dvd : ∀ (i : grid0.Coords) (v7 : BitVec 32) (v12 : BitVec 32) (v37 : BitVec 32) (v42 : BitVec 32) (v68 : BitVec 32) (v73 : BitVec 32) (v99 : BitVec 32) (v104 : BitVec 32) (v130 : BitVec 32) (v135 : BitVec 32) (v161 : BitVec 32) (v166 : BitVec 32) (v192 : BitVec 32) (v197 : BitVec 32) (v223 : BitVec 32) (v228 : BitVec 32) (v254 : BitVec 32) (v259 : BitVec 32) (v285 : BitVec 32) (v290 : BitVec 32) (v316 : BitVec 32) (v321 : BitVec 32) (v347 : BitVec 32) (v352 : BitVec 32) (v378 : BitVec 32) (v383 : BitVec 32) (v409 : BitVec 32) (v414 : BitVec 32) (v440 : BitVec 32) (v445 : BitVec 32) (v471 : BitVec 32) (v476 : BitVec 32) (k0_hw1 : k0_chk1 i v7 v12 v37 v42 v68 v73 v99 v104 v130 v135 v161 v166 v192 v197 v223 v228 v254 v259 v285 v290 v316 v321 v347 v352 v378 v383 v409 v414 v440 v445 v471 v476), ∀ (k0_h1 : k0_cond1 i v7 v12 v37 v42 v68 v73 v99 v104 v130 v135 v161 v166 v192 v197 v223 v228 v254 v259 v285 v290 v316 v321 v347 v352 v378 v383 v409 v414 v440 v445 v471 v476 = 1#1), 16 ∣ (k0_mult4 v99).toNat := fun i v7 v12 v37 v42 v68 v73 v99 v104 v130 v135 v161 v166 v192 v197 v223 v228 v254 v259 v285 v290 v316 v321 v347 v352 v378 v383 v409 v414 v440 v445 v471 v476 k0_hw1 k0_h1 => k0_hw1.2.2.2.2.2.2.1 k0_h1
theorem k0_off6_inb : ∀ (i : grid0.Coords) (v7 : BitVec 32) (v12 : BitVec 32) (v37 : BitVec 32) (v42 : BitVec 32) (v68 : BitVec 32) (v73 : BitVec 32) (v99 : BitVec 32) (v104 : BitVec 32) (v130 : BitVec 32) (v135 : BitVec 32) (v161 : BitVec 32) (v166 : BitVec 32) (v192 : BitVec 32) (v197 : BitVec 32) (v223 : BitVec 32) (v228 : BitVec 32) (v254 : BitVec 32) (v259 : BitVec 32) (v285 : BitVec 32) (v290 : BitVec 32) (v316 : BitVec 32) (v321 : BitVec 32) (v347 : BitVec 32) (v352 : BitVec 32) (v378 : BitVec 32) (v383 : BitVec 32) (v409 : BitVec 32) (v414 : BitVec 32) (v440 : BitVec 32) (v445 : BitVec 32) (v471 : BitVec 32) (v476 : BitVec 32) (k0_hw1 : k0_chk1 i v7 v12 v37 v42 v68 v73 v99 v104 v130 v135 v161 v166 v192 v197 v223 v228 v254 v259 v285 v290 v316 v321 v347 v352 v378 v383 v409 v414 v440 v445 v471 v476), ∀ (k0_h1 : k0_cond1 i v7 v12 v37 v42 v68 v73 v99 v104 v130 v135 v161 v166 v192 v197 v223 v228 v254 v259 v285 v290 v316 v321 v347 v352 v378 v383 v409 v414 v440 v445 v471 v476 = 1#1), ∀ a, (k0_off6 v99) a + S1x1x64x1024.size a ≤ S16x1x256x1024.size a := fun i v7 v12 v37 v42 v68 v73 v99 v104 v130 v135 v161 v166 v192 v197 v223 v228 v254 v259 v285 v290 v316 v321 v347 v352 v378 v383 v409 v414 v440 v445 v471 v476 k0_hw1 k0_h1 => k0_hw1.2.2.2.2.2.2.2.1 k0_h1
theorem k0_mult5_dvd : ∀ (i : grid0.Coords) (v7 : BitVec 32) (v12 : BitVec 32) (v37 : BitVec 32) (v42 : BitVec 32) (v68 : BitVec 32) (v73 : BitVec 32) (v99 : BitVec 32) (v104 : BitVec 32) (v130 : BitVec 32) (v135 : BitVec 32) (v161 : BitVec 32) (v166 : BitVec 32) (v192 : BitVec 32) (v197 : BitVec 32) (v223 : BitVec 32) (v228 : BitVec 32) (v254 : BitVec 32) (v259 : BitVec 32) (v285 : BitVec 32) (v290 : BitVec 32) (v316 : BitVec 32) (v321 : BitVec 32) (v347 : BitVec 32) (v352 : BitVec 32) (v378 : BitVec 32) (v383 : BitVec 32) (v409 : BitVec 32) (v414 : BitVec 32) (v440 : BitVec 32) (v445 : BitVec 32) (v471 : BitVec 32) (v476 : BitVec 32) (k0_hw1 : k0_chk1 i v7 v12 v37 v42 v68 v73 v99 v104 v130 v135 v161 v166 v192 v197 v223 v228 v254 v259 v285 v290 v316 v321 v347 v352 v378 v383 v409 v414 v440 v445 v471 v476), ∀ (k0_h1 : k0_cond1 i v7 v12 v37 v42 v68 v73 v99 v104 v130 v135 v161 v166 v192 v197 v223 v228 v254 v259 v285 v290 v316 v321 v347 v352 v378 v383 v409 v414 v440 v445 v471 v476 = 1#1), 16 ∣ (k0_mult5 v130).toNat := fun i v7 v12 v37 v42 v68 v73 v99 v104 v130 v135 v161 v166 v192 v197 v223 v228 v254 v259 v285 v290 v316 v321 v347 v352 v378 v383 v409 v414 v440 v445 v471 v476 k0_hw1 k0_h1 => k0_hw1.2.2.2.2.2.2.2.2.1 k0_h1
theorem k0_off7_inb : ∀ (i : grid0.Coords) (v7 : BitVec 32) (v12 : BitVec 32) (v37 : BitVec 32) (v42 : BitVec 32) (v68 : BitVec 32) (v73 : BitVec 32) (v99 : BitVec 32) (v104 : BitVec 32) (v130 : BitVec 32) (v135 : BitVec 32) (v161 : BitVec 32) (v166 : BitVec 32) (v192 : BitVec 32) (v197 : BitVec 32) (v223 : BitVec 32) (v228 : BitVec 32) (v254 : BitVec 32) (v259 : BitVec 32) (v285 : BitVec 32) (v290 : BitVec 32) (v316 : BitVec 32) (v321 : BitVec 32) (v347 : BitVec 32) (v352 : BitVec 32) (v378 : BitVec 32) (v383 : BitVec 32) (v409 : BitVec 32) (v414 : BitVec 32) (v440 : BitVec 32) (v445 : BitVec 32) (v471 : BitVec 32) (v476 : BitVec 32) (k0_hw1 : k0_chk1 i v7 v12 v37 v42 v68 v73 v99 v104 v130 v135 v161 v166 v192 v197 v223 v228 v254 v259 v285 v290 v316 v321 v347 v352 v378 v383 v409 v414 v440 v445 v471 v476), ∀ (k0_h1 : k0_cond1 i v7 v12 v37 v42 v68 v73 v99 v104 v130 v135 v161 v166 v192 v197 v223 v228 v254 v259 v285 v290 v316 v321 v347 v352 v378 v383 v409 v414 v440 v445 v471 v476 = 1#1), ∀ a, (k0_off7 v130) a + S1x1x64x1024.size a ≤ S16x1x256x1024.size a := fun i v7 v12 v37 v42 v68 v73 v99 v104 v130 v135 v161 v166 v192 v197 v223 v228 v254 v259 v285 v290 v316 v321 v347 v352 v378 v383 v409 v414 v440 v445 v471 v476 k0_hw1 k0_h1 => k0_hw1.2.2.2.2.2.2.2.2.2.1 k0_h1
theorem k0_mult6_dvd : ∀ (i : grid0.Coords) (v7 : BitVec 32) (v12 : BitVec 32) (v37 : BitVec 32) (v42 : BitVec 32) (v68 : BitVec 32) (v73 : BitVec 32) (v99 : BitVec 32) (v104 : BitVec 32) (v130 : BitVec 32) (v135 : BitVec 32) (v161 : BitVec 32) (v166 : BitVec 32) (v192 : BitVec 32) (v197 : BitVec 32) (v223 : BitVec 32) (v228 : BitVec 32) (v254 : BitVec 32) (v259 : BitVec 32) (v285 : BitVec 32) (v290 : BitVec 32) (v316 : BitVec 32) (v321 : BitVec 32) (v347 : BitVec 32) (v352 : BitVec 32) (v378 : BitVec 32) (v383 : BitVec 32) (v409 : BitVec 32) (v414 : BitVec 32) (v440 : BitVec 32) (v445 : BitVec 32) (v471 : BitVec 32) (v476 : BitVec 32) (k0_hw1 : k0_chk1 i v7 v12 v37 v42 v68 v73 v99 v104 v130 v135 v161 v166 v192 v197 v223 v228 v254 v259 v285 v290 v316 v321 v347 v352 v378 v383 v409 v414 v440 v445 v471 v476), ∀ (k0_h1 : k0_cond1 i v7 v12 v37 v42 v68 v73 v99 v104 v130 v135 v161 v166 v192 v197 v223 v228 v254 v259 v285 v290 v316 v321 v347 v352 v378 v383 v409 v414 v440 v445 v471 v476 = 1#1), 16 ∣ (k0_mult6 v161).toNat := fun i v7 v12 v37 v42 v68 v73 v99 v104 v130 v135 v161 v166 v192 v197 v223 v228 v254 v259 v285 v290 v316 v321 v347 v352 v378 v383 v409 v414 v440 v445 v471 v476 k0_hw1 k0_h1 => k0_hw1.2.2.2.2.2.2.2.2.2.2.1 k0_h1
theorem k0_off8_inb : ∀ (i : grid0.Coords) (v7 : BitVec 32) (v12 : BitVec 32) (v37 : BitVec 32) (v42 : BitVec 32) (v68 : BitVec 32) (v73 : BitVec 32) (v99 : BitVec 32) (v104 : BitVec 32) (v130 : BitVec 32) (v135 : BitVec 32) (v161 : BitVec 32) (v166 : BitVec 32) (v192 : BitVec 32) (v197 : BitVec 32) (v223 : BitVec 32) (v228 : BitVec 32) (v254 : BitVec 32) (v259 : BitVec 32) (v285 : BitVec 32) (v290 : BitVec 32) (v316 : BitVec 32) (v321 : BitVec 32) (v347 : BitVec 32) (v352 : BitVec 32) (v378 : BitVec 32) (v383 : BitVec 32) (v409 : BitVec 32) (v414 : BitVec 32) (v440 : BitVec 32) (v445 : BitVec 32) (v471 : BitVec 32) (v476 : BitVec 32) (k0_hw1 : k0_chk1 i v7 v12 v37 v42 v68 v73 v99 v104 v130 v135 v161 v166 v192 v197 v223 v228 v254 v259 v285 v290 v316 v321 v347 v352 v378 v383 v409 v414 v440 v445 v471 v476), ∀ (k0_h1 : k0_cond1 i v7 v12 v37 v42 v68 v73 v99 v104 v130 v135 v161 v166 v192 v197 v223 v228 v254 v259 v285 v290 v316 v321 v347 v352 v378 v383 v409 v414 v440 v445 v471 v476 = 1#1), ∀ a, (k0_off8 v161) a + S1x1x64x1024.size a ≤ S16x1x256x1024.size a := fun i v7 v12 v37 v42 v68 v73 v99 v104 v130 v135 v161 v166 v192 v197 v223 v228 v254 v259 v285 v290 v316 v321 v347 v352 v378 v383 v409 v414 v440 v445 v471 v476 k0_hw1 k0_h1 => k0_hw1.2.2.2.2.2.2.2.2.2.2.2.1 k0_h1
theorem k0_mult7_dvd : ∀ (i : grid0.Coords) (v7 : BitVec 32) (v12 : BitVec 32) (v37 : BitVec 32) (v42 : BitVec 32) (v68 : BitVec 32) (v73 : BitVec 32) (v99 : BitVec 32) (v104 : BitVec 32) (v130 : BitVec 32) (v135 : BitVec 32) (v161 : BitVec 32) (v166 : BitVec 32) (v192 : BitVec 32) (v197 : BitVec 32) (v223 : BitVec 32) (v228 : BitVec 32) (v254 : BitVec 32) (v259 : BitVec 32) (v285 : BitVec 32) (v290 : BitVec 32) (v316 : BitVec 32) (v321 : BitVec 32) (v347 : BitVec 32) (v352 : BitVec 32) (v378 : BitVec 32) (v383 : BitVec 32) (v409 : BitVec 32) (v414 : BitVec 32) (v440 : BitVec 32) (v445 : BitVec 32) (v471 : BitVec 32) (v476 : BitVec 32) (k0_hw1 : k0_chk1 i v7 v12 v37 v42 v68 v73 v99 v104 v130 v135 v161 v166 v192 v197 v223 v228 v254 v259 v285 v290 v316 v321 v347 v352 v378 v383 v409 v414 v440 v445 v471 v476), ∀ (k0_h1 : k0_cond1 i v7 v12 v37 v42 v68 v73 v99 v104 v130 v135 v161 v166 v192 v197 v223 v228 v254 v259 v285 v290 v316 v321 v347 v352 v378 v383 v409 v414 v440 v445 v471 v476 = 1#1), 16 ∣ (k0_mult7 v192).toNat := fun i v7 v12 v37 v42 v68 v73 v99 v104 v130 v135 v161 v166 v192 v197 v223 v228 v254 v259 v285 v290 v316 v321 v347 v352 v378 v383 v409 v414 v440 v445 v471 v476 k0_hw1 k0_h1 => k0_hw1.2.2.2.2.2.2.2.2.2.2.2.2.1 k0_h1
theorem k0_off9_inb : ∀ (i : grid0.Coords) (v7 : BitVec 32) (v12 : BitVec 32) (v37 : BitVec 32) (v42 : BitVec 32) (v68 : BitVec 32) (v73 : BitVec 32) (v99 : BitVec 32) (v104 : BitVec 32) (v130 : BitVec 32) (v135 : BitVec 32) (v161 : BitVec 32) (v166 : BitVec 32) (v192 : BitVec 32) (v197 : BitVec 32) (v223 : BitVec 32) (v228 : BitVec 32) (v254 : BitVec 32) (v259 : BitVec 32) (v285 : BitVec 32) (v290 : BitVec 32) (v316 : BitVec 32) (v321 : BitVec 32) (v347 : BitVec 32) (v352 : BitVec 32) (v378 : BitVec 32) (v383 : BitVec 32) (v409 : BitVec 32) (v414 : BitVec 32) (v440 : BitVec 32) (v445 : BitVec 32) (v471 : BitVec 32) (v476 : BitVec 32) (k0_hw1 : k0_chk1 i v7 v12 v37 v42 v68 v73 v99 v104 v130 v135 v161 v166 v192 v197 v223 v228 v254 v259 v285 v290 v316 v321 v347 v352 v378 v383 v409 v414 v440 v445 v471 v476), ∀ (k0_h1 : k0_cond1 i v7 v12 v37 v42 v68 v73 v99 v104 v130 v135 v161 v166 v192 v197 v223 v228 v254 v259 v285 v290 v316 v321 v347 v352 v378 v383 v409 v414 v440 v445 v471 v476 = 1#1), ∀ a, (k0_off9 v192) a + S1x1x64x1024.size a ≤ S16x1x256x1024.size a := fun i v7 v12 v37 v42 v68 v73 v99 v104 v130 v135 v161 v166 v192 v197 v223 v228 v254 v259 v285 v290 v316 v321 v347 v352 v378 v383 v409 v414 v440 v445 v471 v476 k0_hw1 k0_h1 => k0_hw1.2.2.2.2.2.2.2.2.2.2.2.2.2.1 k0_h1
theorem k0_mult8_dvd : ∀ (i : grid0.Coords) (v7 : BitVec 32) (v12 : BitVec 32) (v37 : BitVec 32) (v42 : BitVec 32) (v68 : BitVec 32) (v73 : BitVec 32) (v99 : BitVec 32) (v104 : BitVec 32) (v130 : BitVec 32) (v135 : BitVec 32) (v161 : BitVec 32) (v166 : BitVec 32) (v192 : BitVec 32) (v197 : BitVec 32) (v223 : BitVec 32) (v228 : BitVec 32) (v254 : BitVec 32) (v259 : BitVec 32) (v285 : BitVec 32) (v290 : BitVec 32) (v316 : BitVec 32) (v321 : BitVec 32) (v347 : BitVec 32) (v352 : BitVec 32) (v378 : BitVec 32) (v383 : BitVec 32) (v409 : BitVec 32) (v414 : BitVec 32) (v440 : BitVec 32) (v445 : BitVec 32) (v471 : BitVec 32) (v476 : BitVec 32) (k0_hw1 : k0_chk1 i v7 v12 v37 v42 v68 v73 v99 v104 v130 v135 v161 v166 v192 v197 v223 v228 v254 v259 v285 v290 v316 v321 v347 v352 v378 v383 v409 v414 v440 v445 v471 v476), ∀ (k0_h1 : k0_cond1 i v7 v12 v37 v42 v68 v73 v99 v104 v130 v135 v161 v166 v192 v197 v223 v228 v254 v259 v285 v290 v316 v321 v347 v352 v378 v383 v409 v414 v440 v445 v471 v476 = 1#1), 16 ∣ (k0_mult8 v223).toNat := fun i v7 v12 v37 v42 v68 v73 v99 v104 v130 v135 v161 v166 v192 v197 v223 v228 v254 v259 v285 v290 v316 v321 v347 v352 v378 v383 v409 v414 v440 v445 v471 v476 k0_hw1 k0_h1 => k0_hw1.2.2.2.2.2.2.2.2.2.2.2.2.2.2.1 k0_h1
theorem k0_off10_inb : ∀ (i : grid0.Coords) (v7 : BitVec 32) (v12 : BitVec 32) (v37 : BitVec 32) (v42 : BitVec 32) (v68 : BitVec 32) (v73 : BitVec 32) (v99 : BitVec 32) (v104 : BitVec 32) (v130 : BitVec 32) (v135 : BitVec 32) (v161 : BitVec 32) (v166 : BitVec 32) (v192 : BitVec 32) (v197 : BitVec 32) (v223 : BitVec 32) (v228 : BitVec 32) (v254 : BitVec 32) (v259 : BitVec 32) (v285 : BitVec 32) (v290 : BitVec 32) (v316 : BitVec 32) (v321 : BitVec 32) (v347 : BitVec 32) (v352 : BitVec 32) (v378 : BitVec 32) (v383 : BitVec 32) (v409 : BitVec 32) (v414 : BitVec 32) (v440 : BitVec 32) (v445 : BitVec 32) (v471 : BitVec 32) (v476 : BitVec 32) (k0_hw1 : k0_chk1 i v7 v12 v37 v42 v68 v73 v99 v104 v130 v135 v161 v166 v192 v197 v223 v228 v254 v259 v285 v290 v316 v321 v347 v352 v378 v383 v409 v414 v440 v445 v471 v476), ∀ (k0_h1 : k0_cond1 i v7 v12 v37 v42 v68 v73 v99 v104 v130 v135 v161 v166 v192 v197 v223 v228 v254 v259 v285 v290 v316 v321 v347 v352 v378 v383 v409 v414 v440 v445 v471 v476 = 1#1), ∀ a, (k0_off10 v223) a + S1x1x64x1024.size a ≤ S16x1x256x1024.size a := fun i v7 v12 v37 v42 v68 v73 v99 v104 v130 v135 v161 v166 v192 v197 v223 v228 v254 v259 v285 v290 v316 v321 v347 v352 v378 v383 v409 v414 v440 v445 v471 v476 k0_hw1 k0_h1 => k0_hw1.2.2.2.2.2.2.2.2.2.2.2.2.2.2.2.1 k0_h1
theorem k0_mult9_dvd : ∀ (i : grid0.Coords) (v7 : BitVec 32) (v12 : BitVec 32) (v37 : BitVec 32) (v42 : BitVec 32) (v68 : BitVec 32) (v73 : BitVec 32) (v99 : BitVec 32) (v104 : BitVec 32) (v130 : BitVec 32) (v135 : BitVec 32) (v161 : BitVec 32) (v166 : BitVec 32) (v192 : BitVec 32) (v197 : BitVec 32) (v223 : BitVec 32) (v228 : BitVec 32) (v254 : BitVec 32) (v259 : BitVec 32) (v285 : BitVec 32) (v290 : BitVec 32) (v316 : BitVec 32) (v321 : BitVec 32) (v347 : BitVec 32) (v352 : BitVec 32) (v378 : BitVec 32) (v383 : BitVec 32) (v409 : BitVec 32) (v414 : BitVec 32) (v440 : BitVec 32) (v445 : BitVec 32) (v471 : BitVec 32) (v476 : BitVec 32) (k0_hw1 : k0_chk1 i v7 v12 v37 v42 v68 v73 v99 v104 v130 v135 v161 v166 v192 v197 v223 v228 v254 v259 v285 v290 v316 v321 v347 v352 v378 v383 v409 v414 v440 v445 v471 v476), ∀ (k0_h1 : k0_cond1 i v7 v12 v37 v42 v68 v73 v99 v104 v130 v135 v161 v166 v192 v197 v223 v228 v254 v259 v285 v290 v316 v321 v347 v352 v378 v383 v409 v414 v440 v445 v471 v476 = 1#1), 16 ∣ (k0_mult9 v254).toNat := fun i v7 v12 v37 v42 v68 v73 v99 v104 v130 v135 v161 v166 v192 v197 v223 v228 v254 v259 v285 v290 v316 v321 v347 v352 v378 v383 v409 v414 v440 v445 v471 v476 k0_hw1 k0_h1 => k0_hw1.2.2.2.2.2.2.2.2.2.2.2.2.2.2.2.2.1 k0_h1
theorem k0_off11_inb : ∀ (i : grid0.Coords) (v7 : BitVec 32) (v12 : BitVec 32) (v37 : BitVec 32) (v42 : BitVec 32) (v68 : BitVec 32) (v73 : BitVec 32) (v99 : BitVec 32) (v104 : BitVec 32) (v130 : BitVec 32) (v135 : BitVec 32) (v161 : BitVec 32) (v166 : BitVec 32) (v192 : BitVec 32) (v197 : BitVec 32) (v223 : BitVec 32) (v228 : BitVec 32) (v254 : BitVec 32) (v259 : BitVec 32) (v285 : BitVec 32) (v290 : BitVec 32) (v316 : BitVec 32) (v321 : BitVec 32) (v347 : BitVec 32) (v352 : BitVec 32) (v378 : BitVec 32) (v383 : BitVec 32) (v409 : BitVec 32) (v414 : BitVec 32) (v440 : BitVec 32) (v445 : BitVec 32) (v471 : BitVec 32) (v476 : BitVec 32) (k0_hw1 : k0_chk1 i v7 v12 v37 v42 v68 v73 v99 v104 v130 v135 v161 v166 v192 v197 v223 v228 v254 v259 v285 v290 v316 v321 v347 v352 v378 v383 v409 v414 v440 v445 v471 v476), ∀ (k0_h1 : k0_cond1 i v7 v12 v37 v42 v68 v73 v99 v104 v130 v135 v161 v166 v192 v197 v223 v228 v254 v259 v285 v290 v316 v321 v347 v352 v378 v383 v409 v414 v440 v445 v471 v476 = 1#1), ∀ a, (k0_off11 v254) a + S1x1x64x1024.size a ≤ S16x1x256x1024.size a := fun i v7 v12 v37 v42 v68 v73 v99 v104 v130 v135 v161 v166 v192 v197 v223 v228 v254 v259 v285 v290 v316 v321 v347 v352 v378 v383 v409 v414 v440 v445 v471 v476 k0_hw1 k0_h1 => k0_hw1.2.2.2.2.2.2.2.2.2.2.2.2.2.2.2.2.2.1 k0_h1
theorem k0_mult10_dvd : ∀ (i : grid0.Coords) (v7 : BitVec 32) (v12 : BitVec 32) (v37 : BitVec 32) (v42 : BitVec 32) (v68 : BitVec 32) (v73 : BitVec 32) (v99 : BitVec 32) (v104 : BitVec 32) (v130 : BitVec 32) (v135 : BitVec 32) (v161 : BitVec 32) (v166 : BitVec 32) (v192 : BitVec 32) (v197 : BitVec 32) (v223 : BitVec 32) (v228 : BitVec 32) (v254 : BitVec 32) (v259 : BitVec 32) (v285 : BitVec 32) (v290 : BitVec 32) (v316 : BitVec 32) (v321 : BitVec 32) (v347 : BitVec 32) (v352 : BitVec 32) (v378 : BitVec 32) (v383 : BitVec 32) (v409 : BitVec 32) (v414 : BitVec 32) (v440 : BitVec 32) (v445 : BitVec 32) (v471 : BitVec 32) (v476 : BitVec 32) (k0_hw1 : k0_chk1 i v7 v12 v37 v42 v68 v73 v99 v104 v130 v135 v161 v166 v192 v197 v223 v228 v254 v259 v285 v290 v316 v321 v347 v352 v378 v383 v409 v414 v440 v445 v471 v476), ∀ (k0_h1 : k0_cond1 i v7 v12 v37 v42 v68 v73 v99 v104 v130 v135 v161 v166 v192 v197 v223 v228 v254 v259 v285 v290 v316 v321 v347 v352 v378 v383 v409 v414 v440 v445 v471 v476 = 1#1), 16 ∣ (k0_mult10 v285).toNat := fun i v7 v12 v37 v42 v68 v73 v99 v104 v130 v135 v161 v166 v192 v197 v223 v228 v254 v259 v285 v290 v316 v321 v347 v352 v378 v383 v409 v414 v440 v445 v471 v476 k0_hw1 k0_h1 => k0_hw1.2.2.2.2.2.2.2.2.2.2.2.2.2.2.2.2.2.2.1 k0_h1
theorem k0_off12_inb : ∀ (i : grid0.Coords) (v7 : BitVec 32) (v12 : BitVec 32) (v37 : BitVec 32) (v42 : BitVec 32) (v68 : BitVec 32) (v73 : BitVec 32) (v99 : BitVec 32) (v104 : BitVec 32) (v130 : BitVec 32) (v135 : BitVec 32) (v161 : BitVec 32) (v166 : BitVec 32) (v192 : BitVec 32) (v197 : BitVec 32) (v223 : BitVec 32) (v228 : BitVec 32) (v254 : BitVec 32) (v259 : BitVec 32) (v285 : BitVec 32) (v290 : BitVec 32) (v316 : BitVec 32) (v321 : BitVec 32) (v347 : BitVec 32) (v352 : BitVec 32) (v378 : BitVec 32) (v383 : BitVec 32) (v409 : BitVec 32) (v414 : BitVec 32) (v440 : BitVec 32) (v445 : BitVec 32) (v471 : BitVec 32) (v476 : BitVec 32) (k0_hw1 : k0_chk1 i v7 v12 v37 v42 v68 v73 v99 v104 v130 v135 v161 v166 v192 v197 v223 v228 v254 v259 v285 v290 v316 v321 v347 v352 v378 v383 v409 v414 v440 v445 v471 v476), ∀ (k0_h1 : k0_cond1 i v7 v12 v37 v42 v68 v73 v99 v104 v130 v135 v161 v166 v192 v197 v223 v228 v254 v259 v285 v290 v316 v321 v347 v352 v378 v383 v409 v414 v440 v445 v471 v476 = 1#1), ∀ a, (k0_off12 v285) a + S1x1x64x1024.size a ≤ S16x1x256x1024.size a := fun i v7 v12 v37 v42 v68 v73 v99 v104 v130 v135 v161 v166 v192 v197 v223 v228 v254 v259 v285 v290 v316 v321 v347 v352 v378 v383 v409 v414 v440 v445 v471 v476 k0_hw1 k0_h1 => k0_hw1.2.2.2.2.2.2.2.2.2.2.2.2.2.2.2.2.2.2.2.1 k0_h1
theorem k0_mult11_dvd : ∀ (i : grid0.Coords) (v7 : BitVec 32) (v12 : BitVec 32) (v37 : BitVec 32) (v42 : BitVec 32) (v68 : BitVec 32) (v73 : BitVec 32) (v99 : BitVec 32) (v104 : BitVec 32) (v130 : BitVec 32) (v135 : BitVec 32) (v161 : BitVec 32) (v166 : BitVec 32) (v192 : BitVec 32) (v197 : BitVec 32) (v223 : BitVec 32) (v228 : BitVec 32) (v254 : BitVec 32) (v259 : BitVec 32) (v285 : BitVec 32) (v290 : BitVec 32) (v316 : BitVec 32) (v321 : BitVec 32) (v347 : BitVec 32) (v352 : BitVec 32) (v378 : BitVec 32) (v383 : BitVec 32) (v409 : BitVec 32) (v414 : BitVec 32) (v440 : BitVec 32) (v445 : BitVec 32) (v471 : BitVec 32) (v476 : BitVec 32) (k0_hw1 : k0_chk1 i v7 v12 v37 v42 v68 v73 v99 v104 v130 v135 v161 v166 v192 v197 v223 v228 v254 v259 v285 v290 v316 v321 v347 v352 v378 v383 v409 v414 v440 v445 v471 v476), ∀ (k0_h1 : k0_cond1 i v7 v12 v37 v42 v68 v73 v99 v104 v130 v135 v161 v166 v192 v197 v223 v228 v254 v259 v285 v290 v316 v321 v347 v352 v378 v383 v409 v414 v440 v445 v471 v476 = 1#1), 16 ∣ (k0_mult11 v316).toNat := fun i v7 v12 v37 v42 v68 v73 v99 v104 v130 v135 v161 v166 v192 v197 v223 v228 v254 v259 v285 v290 v316 v321 v347 v352 v378 v383 v409 v414 v440 v445 v471 v476 k0_hw1 k0_h1 => k0_hw1.2.2.2.2.2.2.2.2.2.2.2.2.2.2.2.2.2.2.2.2.1 k0_h1
theorem k0_off13_inb : ∀ (i : grid0.Coords) (v7 : BitVec 32) (v12 : BitVec 32) (v37 : BitVec 32) (v42 : BitVec 32) (v68 : BitVec 32) (v73 : BitVec 32) (v99 : BitVec 32) (v104 : BitVec 32) (v130 : BitVec 32) (v135 : BitVec 32) (v161 : BitVec 32) (v166 : BitVec 32) (v192 : BitVec 32) (v197 : BitVec 32) (v223 : BitVec 32) (v228 : BitVec 32) (v254 : BitVec 32) (v259 : BitVec 32) (v285 : BitVec 32) (v290 : BitVec 32) (v316 : BitVec 32) (v321 : BitVec 32) (v347 : BitVec 32) (v352 : BitVec 32) (v378 : BitVec 32) (v383 : BitVec 32) (v409 : BitVec 32) (v414 : BitVec 32) (v440 : BitVec 32) (v445 : BitVec 32) (v471 : BitVec 32) (v476 : BitVec 32) (k0_hw1 : k0_chk1 i v7 v12 v37 v42 v68 v73 v99 v104 v130 v135 v161 v166 v192 v197 v223 v228 v254 v259 v285 v290 v316 v321 v347 v352 v378 v383 v409 v414 v440 v445 v471 v476), ∀ (k0_h1 : k0_cond1 i v7 v12 v37 v42 v68 v73 v99 v104 v130 v135 v161 v166 v192 v197 v223 v228 v254 v259 v285 v290 v316 v321 v347 v352 v378 v383 v409 v414 v440 v445 v471 v476 = 1#1), ∀ a, (k0_off13 v316) a + S1x1x64x1024.size a ≤ S16x1x256x1024.size a := fun i v7 v12 v37 v42 v68 v73 v99 v104 v130 v135 v161 v166 v192 v197 v223 v228 v254 v259 v285 v290 v316 v321 v347 v352 v378 v383 v409 v414 v440 v445 v471 v476 k0_hw1 k0_h1 => k0_hw1.2.2.2.2.2.2.2.2.2.2.2.2.2.2.2.2.2.2.2.2.2.1 k0_h1
theorem k0_mult12_dvd : ∀ (i : grid0.Coords) (v7 : BitVec 32) (v12 : BitVec 32) (v37 : BitVec 32) (v42 : BitVec 32) (v68 : BitVec 32) (v73 : BitVec 32) (v99 : BitVec 32) (v104 : BitVec 32) (v130 : BitVec 32) (v135 : BitVec 32) (v161 : BitVec 32) (v166 : BitVec 32) (v192 : BitVec 32) (v197 : BitVec 32) (v223 : BitVec 32) (v228 : BitVec 32) (v254 : BitVec 32) (v259 : BitVec 32) (v285 : BitVec 32) (v290 : BitVec 32) (v316 : BitVec 32) (v321 : BitVec 32) (v347 : BitVec 32) (v352 : BitVec 32) (v378 : BitVec 32) (v383 : BitVec 32) (v409 : BitVec 32) (v414 : BitVec 32) (v440 : BitVec 32) (v445 : BitVec 32) (v471 : BitVec 32) (v476 : BitVec 32) (k0_hw1 : k0_chk1 i v7 v12 v37 v42 v68 v73 v99 v104 v130 v135 v161 v166 v192 v197 v223 v228 v254 v259 v285 v290 v316 v321 v347 v352 v378 v383 v409 v414 v440 v445 v471 v476), ∀ (k0_h1 : k0_cond1 i v7 v12 v37 v42 v68 v73 v99 v104 v130 v135 v161 v166 v192 v197 v223 v228 v254 v259 v285 v290 v316 v321 v347 v352 v378 v383 v409 v414 v440 v445 v471 v476 = 1#1), 16 ∣ (k0_mult12 v347).toNat := fun i v7 v12 v37 v42 v68 v73 v99 v104 v130 v135 v161 v166 v192 v197 v223 v228 v254 v259 v285 v290 v316 v321 v347 v352 v378 v383 v409 v414 v440 v445 v471 v476 k0_hw1 k0_h1 => k0_hw1.2.2.2.2.2.2.2.2.2.2.2.2.2.2.2.2.2.2.2.2.2.2.1 k0_h1
theorem k0_off14_inb : ∀ (i : grid0.Coords) (v7 : BitVec 32) (v12 : BitVec 32) (v37 : BitVec 32) (v42 : BitVec 32) (v68 : BitVec 32) (v73 : BitVec 32) (v99 : BitVec 32) (v104 : BitVec 32) (v130 : BitVec 32) (v135 : BitVec 32) (v161 : BitVec 32) (v166 : BitVec 32) (v192 : BitVec 32) (v197 : BitVec 32) (v223 : BitVec 32) (v228 : BitVec 32) (v254 : BitVec 32) (v259 : BitVec 32) (v285 : BitVec 32) (v290 : BitVec 32) (v316 : BitVec 32) (v321 : BitVec 32) (v347 : BitVec 32) (v352 : BitVec 32) (v378 : BitVec 32) (v383 : BitVec 32) (v409 : BitVec 32) (v414 : BitVec 32) (v440 : BitVec 32) (v445 : BitVec 32) (v471 : BitVec 32) (v476 : BitVec 32) (k0_hw1 : k0_chk1 i v7 v12 v37 v42 v68 v73 v99 v104 v130 v135 v161 v166 v192 v197 v223 v228 v254 v259 v285 v290 v316 v321 v347 v352 v378 v383 v409 v414 v440 v445 v471 v476), ∀ (k0_h1 : k0_cond1 i v7 v12 v37 v42 v68 v73 v99 v104 v130 v135 v161 v166 v192 v197 v223 v228 v254 v259 v285 v290 v316 v321 v347 v352 v378 v383 v409 v414 v440 v445 v471 v476 = 1#1), ∀ a, (k0_off14 v347) a + S1x1x64x1024.size a ≤ S16x1x256x1024.size a := fun i v7 v12 v37 v42 v68 v73 v99 v104 v130 v135 v161 v166 v192 v197 v223 v228 v254 v259 v285 v290 v316 v321 v347 v352 v378 v383 v409 v414 v440 v445 v471 v476 k0_hw1 k0_h1 => k0_hw1.2.2.2.2.2.2.2.2.2.2.2.2.2.2.2.2.2.2.2.2.2.2.2.1 k0_h1
theorem k0_mult13_dvd : ∀ (i : grid0.Coords) (v7 : BitVec 32) (v12 : BitVec 32) (v37 : BitVec 32) (v42 : BitVec 32) (v68 : BitVec 32) (v73 : BitVec 32) (v99 : BitVec 32) (v104 : BitVec 32) (v130 : BitVec 32) (v135 : BitVec 32) (v161 : BitVec 32) (v166 : BitVec 32) (v192 : BitVec 32) (v197 : BitVec 32) (v223 : BitVec 32) (v228 : BitVec 32) (v254 : BitVec 32) (v259 : BitVec 32) (v285 : BitVec 32) (v290 : BitVec 32) (v316 : BitVec 32) (v321 : BitVec 32) (v347 : BitVec 32) (v352 : BitVec 32) (v378 : BitVec 32) (v383 : BitVec 32) (v409 : BitVec 32) (v414 : BitVec 32) (v440 : BitVec 32) (v445 : BitVec 32) (v471 : BitVec 32) (v476 : BitVec 32) (k0_hw1 : k0_chk1 i v7 v12 v37 v42 v68 v73 v99 v104 v130 v135 v161 v166 v192 v197 v223 v228 v254 v259 v285 v290 v316 v321 v347 v352 v378 v383 v409 v414 v440 v445 v471 v476), ∀ (k0_h1 : k0_cond1 i v7 v12 v37 v42 v68 v73 v99 v104 v130 v135 v161 v166 v192 v197 v223 v228 v254 v259 v285 v290 v316 v321 v347 v352 v378 v383 v409 v414 v440 v445 v471 v476 = 1#1), 16 ∣ (k0_mult13 v378).toNat := fun i v7 v12 v37 v42 v68 v73 v99 v104 v130 v135 v161 v166 v192 v197 v223 v228 v254 v259 v285 v290 v316 v321 v347 v352 v378 v383 v409 v414 v440 v445 v471 v476 k0_hw1 k0_h1 => k0_hw1.2.2.2.2.2.2.2.2.2.2.2.2.2.2.2.2.2.2.2.2.2.2.2.2.1 k0_h1
theorem k0_off15_inb : ∀ (i : grid0.Coords) (v7 : BitVec 32) (v12 : BitVec 32) (v37 : BitVec 32) (v42 : BitVec 32) (v68 : BitVec 32) (v73 : BitVec 32) (v99 : BitVec 32) (v104 : BitVec 32) (v130 : BitVec 32) (v135 : BitVec 32) (v161 : BitVec 32) (v166 : BitVec 32) (v192 : BitVec 32) (v197 : BitVec 32) (v223 : BitVec 32) (v228 : BitVec 32) (v254 : BitVec 32) (v259 : BitVec 32) (v285 : BitVec 32) (v290 : BitVec 32) (v316 : BitVec 32) (v321 : BitVec 32) (v347 : BitVec 32) (v352 : BitVec 32) (v378 : BitVec 32) (v383 : BitVec 32) (v409 : BitVec 32) (v414 : BitVec 32) (v440 : BitVec 32) (v445 : BitVec 32) (v471 : BitVec 32) (v476 : BitVec 32) (k0_hw1 : k0_chk1 i v7 v12 v37 v42 v68 v73 v99 v104 v130 v135 v161 v166 v192 v197 v223 v228 v254 v259 v285 v290 v316 v321 v347 v352 v378 v383 v409 v414 v440 v445 v471 v476), ∀ (k0_h1 : k0_cond1 i v7 v12 v37 v42 v68 v73 v99 v104 v130 v135 v161 v166 v192 v197 v223 v228 v254 v259 v285 v290 v316 v321 v347 v352 v378 v383 v409 v414 v440 v445 v471 v476 = 1#1), ∀ a, (k0_off15 v378) a + S1x1x64x1024.size a ≤ S16x1x256x1024.size a := fun i v7 v12 v37 v42 v68 v73 v99 v104 v130 v135 v161 v166 v192 v197 v223 v228 v254 v259 v285 v290 v316 v321 v347 v352 v378 v383 v409 v414 v440 v445 v471 v476 k0_hw1 k0_h1 => k0_hw1.2.2.2.2.2.2.2.2.2.2.2.2.2.2.2.2.2.2.2.2.2.2.2.2.2.1 k0_h1
theorem k0_mult14_dvd : ∀ (i : grid0.Coords) (v7 : BitVec 32) (v12 : BitVec 32) (v37 : BitVec 32) (v42 : BitVec 32) (v68 : BitVec 32) (v73 : BitVec 32) (v99 : BitVec 32) (v104 : BitVec 32) (v130 : BitVec 32) (v135 : BitVec 32) (v161 : BitVec 32) (v166 : BitVec 32) (v192 : BitVec 32) (v197 : BitVec 32) (v223 : BitVec 32) (v228 : BitVec 32) (v254 : BitVec 32) (v259 : BitVec 32) (v285 : BitVec 32) (v290 : BitVec 32) (v316 : BitVec 32) (v321 : BitVec 32) (v347 : BitVec 32) (v352 : BitVec 32) (v378 : BitVec 32) (v383 : BitVec 32) (v409 : BitVec 32) (v414 : BitVec 32) (v440 : BitVec 32) (v445 : BitVec 32) (v471 : BitVec 32) (v476 : BitVec 32) (k0_hw1 : k0_chk1 i v7 v12 v37 v42 v68 v73 v99 v104 v130 v135 v161 v166 v192 v197 v223 v228 v254 v259 v285 v290 v316 v321 v347 v352 v378 v383 v409 v414 v440 v445 v471 v476), ∀ (k0_h1 : k0_cond1 i v7 v12 v37 v42 v68 v73 v99 v104 v130 v135 v161 v166 v192 v197 v223 v228 v254 v259 v285 v290 v316 v321 v347 v352 v378 v383 v409 v414 v440 v445 v471 v476 = 1#1), 16 ∣ (k0_mult14 v409).toNat := fun i v7 v12 v37 v42 v68 v73 v99 v104 v130 v135 v161 v166 v192 v197 v223 v228 v254 v259 v285 v290 v316 v321 v347 v352 v378 v383 v409 v414 v440 v445 v471 v476 k0_hw1 k0_h1 => k0_hw1.2.2.2.2.2.2.2.2.2.2.2.2.2.2.2.2.2.2.2.2.2.2.2.2.2.2.1 k0_h1
theorem k0_off16_inb : ∀ (i : grid0.Coords) (v7 : BitVec 32) (v12 : BitVec 32) (v37 : BitVec 32) (v42 : BitVec 32) (v68 : BitVec 32) (v73 : BitVec 32) (v99 : BitVec 32) (v104 : BitVec 32) (v130 : BitVec 32) (v135 : BitVec 32) (v161 : BitVec 32) (v166 : BitVec 32) (v192 : BitVec 32) (v197 : BitVec 32) (v223 : BitVec 32) (v228 : BitVec 32) (v254 : BitVec 32) (v259 : BitVec 32) (v285 : BitVec 32) (v290 : BitVec 32) (v316 : BitVec 32) (v321 : BitVec 32) (v347 : BitVec 32) (v352 : BitVec 32) (v378 : BitVec 32) (v383 : BitVec 32) (v409 : BitVec 32) (v414 : BitVec 32) (v440 : BitVec 32) (v445 : BitVec 32) (v471 : BitVec 32) (v476 : BitVec 32) (k0_hw1 : k0_chk1 i v7 v12 v37 v42 v68 v73 v99 v104 v130 v135 v161 v166 v192 v197 v223 v228 v254 v259 v285 v290 v316 v321 v347 v352 v378 v383 v409 v414 v440 v445 v471 v476), ∀ (k0_h1 : k0_cond1 i v7 v12 v37 v42 v68 v73 v99 v104 v130 v135 v161 v166 v192 v197 v223 v228 v254 v259 v285 v290 v316 v321 v347 v352 v378 v383 v409 v414 v440 v445 v471 v476 = 1#1), ∀ a, (k0_off16 v409) a + S1x1x64x1024.size a ≤ S16x1x256x1024.size a := fun i v7 v12 v37 v42 v68 v73 v99 v104 v130 v135 v161 v166 v192 v197 v223 v228 v254 v259 v285 v290 v316 v321 v347 v352 v378 v383 v409 v414 v440 v445 v471 v476 k0_hw1 k0_h1 => k0_hw1.2.2.2.2.2.2.2.2.2.2.2.2.2.2.2.2.2.2.2.2.2.2.2.2.2.2.2.1 k0_h1
theorem k0_mult15_dvd : ∀ (i : grid0.Coords) (v7 : BitVec 32) (v12 : BitVec 32) (v37 : BitVec 32) (v42 : BitVec 32) (v68 : BitVec 32) (v73 : BitVec 32) (v99 : BitVec 32) (v104 : BitVec 32) (v130 : BitVec 32) (v135 : BitVec 32) (v161 : BitVec 32) (v166 : BitVec 32) (v192 : BitVec 32) (v197 : BitVec 32) (v223 : BitVec 32) (v228 : BitVec 32) (v254 : BitVec 32) (v259 : BitVec 32) (v285 : BitVec 32) (v290 : BitVec 32) (v316 : BitVec 32) (v321 : BitVec 32) (v347 : BitVec 32) (v352 : BitVec 32) (v378 : BitVec 32) (v383 : BitVec 32) (v409 : BitVec 32) (v414 : BitVec 32) (v440 : BitVec 32) (v445 : BitVec 32) (v471 : BitVec 32) (v476 : BitVec 32) (k0_hw1 : k0_chk1 i v7 v12 v37 v42 v68 v73 v99 v104 v130 v135 v161 v166 v192 v197 v223 v228 v254 v259 v285 v290 v316 v321 v347 v352 v378 v383 v409 v414 v440 v445 v471 v476), ∀ (k0_h1 : k0_cond1 i v7 v12 v37 v42 v68 v73 v99 v104 v130 v135 v161 v166 v192 v197 v223 v228 v254 v259 v285 v290 v316 v321 v347 v352 v378 v383 v409 v414 v440 v445 v471 v476 = 1#1), 16 ∣ (k0_mult15 v440).toNat := fun i v7 v12 v37 v42 v68 v73 v99 v104 v130 v135 v161 v166 v192 v197 v223 v228 v254 v259 v285 v290 v316 v321 v347 v352 v378 v383 v409 v414 v440 v445 v471 v476 k0_hw1 k0_h1 => k0_hw1.2.2.2.2.2.2.2.2.2.2.2.2.2.2.2.2.2.2.2.2.2.2.2.2.2.2.2.2.1 k0_h1
theorem k0_off17_inb : ∀ (i : grid0.Coords) (v7 : BitVec 32) (v12 : BitVec 32) (v37 : BitVec 32) (v42 : BitVec 32) (v68 : BitVec 32) (v73 : BitVec 32) (v99 : BitVec 32) (v104 : BitVec 32) (v130 : BitVec 32) (v135 : BitVec 32) (v161 : BitVec 32) (v166 : BitVec 32) (v192 : BitVec 32) (v197 : BitVec 32) (v223 : BitVec 32) (v228 : BitVec 32) (v254 : BitVec 32) (v259 : BitVec 32) (v285 : BitVec 32) (v290 : BitVec 32) (v316 : BitVec 32) (v321 : BitVec 32) (v347 : BitVec 32) (v352 : BitVec 32) (v378 : BitVec 32) (v383 : BitVec 32) (v409 : BitVec 32) (v414 : BitVec 32) (v440 : BitVec 32) (v445 : BitVec 32) (v471 : BitVec 32) (v476 : BitVec 32) (k0_hw1 : k0_chk1 i v7 v12 v37 v42 v68 v73 v99 v104 v130 v135 v161 v166 v192 v197 v223 v228 v254 v259 v285 v290 v316 v321 v347 v352 v378 v383 v409 v414 v440 v445 v471 v476), ∀ (k0_h1 : k0_cond1 i v7 v12 v37 v42 v68 v73 v99 v104 v130 v135 v161 v166 v192 v197 v223 v228 v254 v259 v285 v290 v316 v321 v347 v352 v378 v383 v409 v414 v440 v445 v471 v476 = 1#1), ∀ a, (k0_off17 v440) a + S1x1x64x1024.size a ≤ S16x1x256x1024.size a := fun i v7 v12 v37 v42 v68 v73 v99 v104 v130 v135 v161 v166 v192 v197 v223 v228 v254 v259 v285 v290 v316 v321 v347 v352 v378 v383 v409 v414 v440 v445 v471 v476 k0_hw1 k0_h1 => k0_hw1.2.2.2.2.2.2.2.2.2.2.2.2.2.2.2.2.2.2.2.2.2.2.2.2.2.2.2.2.2.1 k0_h1
theorem k0_mult16_dvd : ∀ (i : grid0.Coords) (v7 : BitVec 32) (v12 : BitVec 32) (v37 : BitVec 32) (v42 : BitVec 32) (v68 : BitVec 32) (v73 : BitVec 32) (v99 : BitVec 32) (v104 : BitVec 32) (v130 : BitVec 32) (v135 : BitVec 32) (v161 : BitVec 32) (v166 : BitVec 32) (v192 : BitVec 32) (v197 : BitVec 32) (v223 : BitVec 32) (v228 : BitVec 32) (v254 : BitVec 32) (v259 : BitVec 32) (v285 : BitVec 32) (v290 : BitVec 32) (v316 : BitVec 32) (v321 : BitVec 32) (v347 : BitVec 32) (v352 : BitVec 32) (v378 : BitVec 32) (v383 : BitVec 32) (v409 : BitVec 32) (v414 : BitVec 32) (v440 : BitVec 32) (v445 : BitVec 32) (v471 : BitVec 32) (v476 : BitVec 32) (k0_hw1 : k0_chk1 i v7 v12 v37 v42 v68 v73 v99 v104 v130 v135 v161 v166 v192 v197 v223 v228 v254 v259 v285 v290 v316 v321 v347 v352 v378 v383 v409 v414 v440 v445 v471 v476), ∀ (k0_h1 : k0_cond1 i v7 v12 v37 v42 v68 v73 v99 v104 v130 v135 v161 v166 v192 v197 v223 v228 v254 v259 v285 v290 v316 v321 v347 v352 v378 v383 v409 v414 v440 v445 v471 v476 = 1#1), 16 ∣ (k0_mult16 v471).toNat := fun i v7 v12 v37 v42 v68 v73 v99 v104 v130 v135 v161 v166 v192 v197 v223 v228 v254 v259 v285 v290 v316 v321 v347 v352 v378 v383 v409 v414 v440 v445 v471 v476 k0_hw1 k0_h1 => k0_hw1.2.2.2.2.2.2.2.2.2.2.2.2.2.2.2.2.2.2.2.2.2.2.2.2.2.2.2.2.2.2.1 k0_h1
theorem k0_off18_inb : ∀ (i : grid0.Coords) (v7 : BitVec 32) (v12 : BitVec 32) (v37 : BitVec 32) (v42 : BitVec 32) (v68 : BitVec 32) (v73 : BitVec 32) (v99 : BitVec 32) (v104 : BitVec 32) (v130 : BitVec 32) (v135 : BitVec 32) (v161 : BitVec 32) (v166 : BitVec 32) (v192 : BitVec 32) (v197 : BitVec 32) (v223 : BitVec 32) (v228 : BitVec 32) (v254 : BitVec 32) (v259 : BitVec 32) (v285 : BitVec 32) (v290 : BitVec 32) (v316 : BitVec 32) (v321 : BitVec 32) (v347 : BitVec 32) (v352 : BitVec 32) (v378 : BitVec 32) (v383 : BitVec 32) (v409 : BitVec 32) (v414 : BitVec 32) (v440 : BitVec 32) (v445 : BitVec 32) (v471 : BitVec 32) (v476 : BitVec 32) (k0_hw1 : k0_chk1 i v7 v12 v37 v42 v68 v73 v99 v104 v130 v135 v161 v166 v192 v197 v223 v228 v254 v259 v285 v290 v316 v321 v347 v352 v378 v383 v409 v414 v440 v445 v471 v476), ∀ (k0_h1 : k0_cond1 i v7 v12 v37 v42 v68 v73 v99 v104 v130 v135 v161 v166 v192 v197 v223 v228 v254 v259 v285 v290 v316 v321 v347 v352 v378 v383 v409 v414 v440 v445 v471 v476 = 1#1), ∀ a, (k0_off18 v471) a + S1x1x64x1024.size a ≤ S16x1x256x1024.size a := fun i v7 v12 v37 v42 v68 v73 v99 v104 v130 v135 v161 v166 v192 v197 v223 v228 v254 v259 v285 v290 v316 v321 v347 v352 v378 v383 v409 v414 v440 v445 v471 v476 k0_hw1 k0_h1 => k0_hw1.2.2.2.2.2.2.2.2.2.2.2.2.2.2.2.2.2.2.2.2.2.2.2.2.2.2.2.2.2.2.2 k0_h1

def k0_cond2 (i : grid0.Coords) (v7 : BitVec 32) (v12 : BitVec 32) (v37 : BitVec 32) (v42 : BitVec 32) (v68 : BitVec 32) (v73 : BitVec 32) (v99 : BitVec 32) (v104 : BitVec 32) (v130 : BitVec 32) (v135 : BitVec 32) (v161 : BitVec 32) (v166 : BitVec 32) (v192 : BitVec 32) (v197 : BitVec 32) (v223 : BitVec 32) (v228 : BitVec 32) (v254 : BitVec 32) (v259 : BitVec 32) (v285 : BitVec 32) (v290 : BitVec 32) (v316 : BitVec 32) (v321 : BitVec 32) (v347 : BitVec 32) (v352 : BitVec 32) (v378 : BitVec 32) (v383 : BitVec 32) (v409 : BitVec 32) (v414 : BitVec 32) (v440 : BitVec 32) (v445 : BitVec 32) (v471 : BitVec 32) (v476 : BitVec 32) : BitVec 1 :=
  let arg1 : BitVec 32 := BitVec.ofNat 32 (i 1).val
  let c7_i32 : BitVec 32 := 7#32
  let v8 : BitVec 1 := Scalar.cmpi .eq arg1 c7_i32
  let c256_i32 : BitVec 32 := 256#32
  let v13 : BitVec 32 := Scalar.select v8 c256_i32 v12
  let c0_i32_5 : BitVec 32 := 0#32
  let v15 : BitVec 1 := Scalar.cmpi .sgt v7 c0_i32_5
  let v16 : BitVec 32 := Scalar.extui v15
  let c0_i32_6 : BitVec 32 := 0#32
  let v17 : BitVec 1 := Scalar.cmpi .slt v7 c0_i32_6
  let v18 : BitVec 32 := Scalar.extui v17
  let v19 : BitVec 32 := Scalar.subi v16 v18
  let c16_i32_4 : BitVec 32 := 16#32
  let c0_i32_7 : BitVec 32 := 0#32
  let v20 : BitVec 1 := Scalar.cmpi .sgt c16_i32_4 c0_i32_7
  let v21 : BitVec 32 := Scalar.extui v20
  let c0_i32_8 : BitVec 32 := 0#32
  let v22 : BitVec 1 := Scalar.cmpi .slt c16_i32_4 c0_i32_8
  let v23 : BitVec 32 := Scalar.extui v22
  let v24 : BitVec 32 := Scalar.subi v21 v23
  let v25 : BitVec 1 := Scalar.cmpi .ne v19 v24
  let v26 : BitVec 32 := Scalar.remsi v7 c16_i32_4
  let c0_i32_9 : BitVec 32 := 0#32
  let v27 : BitVec 1 := Scalar.cmpi .ne v26 c0_i32_9
  let v28 : BitVec 1 := Scalar.andi v25 v27
  let v14 : BitVec 32 := Scalar.divsi v7 c16_i32_4
  let c1_i32 : BitVec 32 := 1#32
  let v29 : BitVec 32 := Scalar.subi v14 c1_i32
  let v30 : BitVec 32 := Scalar.select v28 v29 v14
  let c16_i32_10 : BitVec 32 := 16#32
  let v31 : BitVec 32 := Scalar.muli v30 c16_i32_10
  let c192_i32 : BitVec 32 := 192#32
  let v32 : BitVec 32 := Scalar.minsi v31 c192_i32
  let c64_i32 : BitVec 32 := 64#32
  let v33 : BitVec 32 := Scalar.addi v32 c64_i32
  let v34 : BitVec 1 := Scalar.cmpi .sle v13 v33
  let c7_i32_12 : BitVec 32 := 7#32
  let v38 : BitVec 1 := Scalar.cmpi .eq arg1 c7_i32_12
  let c256_i32_15 : BitVec 32 := 256#32
  let v43 : BitVec 32 := Scalar.select v38 c256_i32_15 v42
  let c0_i32_17 : BitVec 32 := 0#32
  let v45 : BitVec 1 := Scalar.cmpi .sgt v37 c0_i32_17
  let v46 : BitVec 32 := Scalar.extui v45
  let c0_i32_18 : BitVec 32 := 0#32
  let v47 : BitVec 1 := Scalar.cmpi .slt v37 c0_i32_18
  let v48 : BitVec 32 := Scalar.extui v47
  let v49 : BitVec 32 := Scalar.subi v46 v48
  let c16_i32_16 : BitVec 32 := 16#32
  let c0_i32_19 : BitVec 32 := 0#32
  let v50 : BitVec 1 := Scalar.cmpi .sgt c16_i32_16 c0_i32_19
  let v51 : BitVec 32 := Scalar.extui v50
  let c0_i32_20 : BitVec 32 := 0#32
  let v52 : BitVec 1 := Scalar.cmpi .slt c16_i32_16 c0_i32_20
  let v53 : BitVec 32 := Scalar.extui v52
  let v54 : BitVec 32 := Scalar.subi v51 v53
  let v55 : BitVec 1 := Scalar.cmpi .ne v49 v54
  let v56 : BitVec 32 := Scalar.remsi v37 c16_i32_16
  let c0_i32_21 : BitVec 32 := 0#32
  let v57 : BitVec 1 := Scalar.cmpi .ne v56 c0_i32_21
  let v58 : BitVec 1 := Scalar.andi v55 v57
  let v44 : BitVec 32 := Scalar.divsi v37 c16_i32_16
  let c1_i32_22 : BitVec 32 := 1#32
  let v59 : BitVec 32 := Scalar.subi v44 c1_i32_22
  let v60 : BitVec 32 := Scalar.select v58 v59 v44
  let c16_i32_23 : BitVec 32 := 16#32
  let v61 : BitVec 32 := Scalar.muli v60 c16_i32_23
  let c192_i32_24 : BitVec 32 := 192#32
  let v62 : BitVec 32 := Scalar.minsi v61 c192_i32_24
  let c64_i32_25 : BitVec 32 := 64#32
  let v63 : BitVec 32 := Scalar.addi v62 c64_i32_25
  let v64 : BitVec 1 := Scalar.cmpi .sle v43 v63
  let v65 : BitVec 1 := Scalar.andi v34 v64
  let c7_i32_26 : BitVec 32 := 7#32
  let v69 : BitVec 1 := Scalar.cmpi .eq arg1 c7_i32_26
  let c256_i32_29 : BitVec 32 := 256#32
  let v74 : BitVec 32 := Scalar.select v69 c256_i32_29 v73
  let c0_i32_31 : BitVec 32 := 0#32
  let v76 : BitVec 1 := Scalar.cmpi .sgt v68 c0_i32_31
  let v77 : BitVec 32 := Scalar.extui v76
  let c0_i32_32 : BitVec 32 := 0#32
  let v78 : BitVec 1 := Scalar.cmpi .slt v68 c0_i32_32
  let v79 : BitVec 32 := Scalar.extui v78
  let v80 : BitVec 32 := Scalar.subi v77 v79
  let c16_i32_30 : BitVec 32 := 16#32
  let c0_i32_33 : BitVec 32 := 0#32
  let v81 : BitVec 1 := Scalar.cmpi .sgt c16_i32_30 c0_i32_33
  let v82 : BitVec 32 := Scalar.extui v81
  let c0_i32_34 : BitVec 32 := 0#32
  let v83 : BitVec 1 := Scalar.cmpi .slt c16_i32_30 c0_i32_34
  let v84 : BitVec 32 := Scalar.extui v83
  let v85 : BitVec 32 := Scalar.subi v82 v84
  let v86 : BitVec 1 := Scalar.cmpi .ne v80 v85
  let v87 : BitVec 32 := Scalar.remsi v68 c16_i32_30
  let c0_i32_35 : BitVec 32 := 0#32
  let v88 : BitVec 1 := Scalar.cmpi .ne v87 c0_i32_35
  let v89 : BitVec 1 := Scalar.andi v86 v88
  let v75 : BitVec 32 := Scalar.divsi v68 c16_i32_30
  let c1_i32_36 : BitVec 32 := 1#32
  let v90 : BitVec 32 := Scalar.subi v75 c1_i32_36
  let v91 : BitVec 32 := Scalar.select v89 v90 v75
  let c16_i32_37 : BitVec 32 := 16#32
  let v92 : BitVec 32 := Scalar.muli v91 c16_i32_37
  let c192_i32_38 : BitVec 32 := 192#32
  let v93 : BitVec 32 := Scalar.minsi v92 c192_i32_38
  let c64_i32_39 : BitVec 32 := 64#32
  let v94 : BitVec 32 := Scalar.addi v93 c64_i32_39
  let v95 : BitVec 1 := Scalar.cmpi .sle v74 v94
  let v96 : BitVec 1 := Scalar.andi v65 v95
  let c7_i32_40 : BitVec 32 := 7#32
  let v100 : BitVec 1 := Scalar.cmpi .eq arg1 c7_i32_40
  let c256_i32_43 : BitVec 32 := 256#32
  let v105 : BitVec 32 := Scalar.select v100 c256_i32_43 v104
  let c0_i32_45 : BitVec 32 := 0#32
  let v107 : BitVec 1 := Scalar.cmpi .sgt v99 c0_i32_45
  let v108 : BitVec 32 := Scalar.extui v107
  let c0_i32_46 : BitVec 32 := 0#32
  let v109 : BitVec 1 := Scalar.cmpi .slt v99 c0_i32_46
  let v110 : BitVec 32 := Scalar.extui v109
  let v111 : BitVec 32 := Scalar.subi v108 v110
  let c16_i32_44 : BitVec 32 := 16#32
  let c0_i32_47 : BitVec 32 := 0#32
  let v112 : BitVec 1 := Scalar.cmpi .sgt c16_i32_44 c0_i32_47
  let v113 : BitVec 32 := Scalar.extui v112
  let c0_i32_48 : BitVec 32 := 0#32
  let v114 : BitVec 1 := Scalar.cmpi .slt c16_i32_44 c0_i32_48
  let v115 : BitVec 32 := Scalar.extui v114
  let v116 : BitVec 32 := Scalar.subi v113 v115
  let v117 : BitVec 1 := Scalar.cmpi .ne v111 v116
  let v118 : BitVec 32 := Scalar.remsi v99 c16_i32_44
  let c0_i32_49 : BitVec 32 := 0#32
  let v119 : BitVec 1 := Scalar.cmpi .ne v118 c0_i32_49
  let v120 : BitVec 1 := Scalar.andi v117 v119
  let v106 : BitVec 32 := Scalar.divsi v99 c16_i32_44
  let c1_i32_50 : BitVec 32 := 1#32
  let v121 : BitVec 32 := Scalar.subi v106 c1_i32_50
  let v122 : BitVec 32 := Scalar.select v120 v121 v106
  let c16_i32_51 : BitVec 32 := 16#32
  let v123 : BitVec 32 := Scalar.muli v122 c16_i32_51
  let c192_i32_52 : BitVec 32 := 192#32
  let v124 : BitVec 32 := Scalar.minsi v123 c192_i32_52
  let c64_i32_53 : BitVec 32 := 64#32
  let v125 : BitVec 32 := Scalar.addi v124 c64_i32_53
  let v126 : BitVec 1 := Scalar.cmpi .sle v105 v125
  let v127 : BitVec 1 := Scalar.andi v96 v126
  let c7_i32_54 : BitVec 32 := 7#32
  let v131 : BitVec 1 := Scalar.cmpi .eq arg1 c7_i32_54
  let c256_i32_57 : BitVec 32 := 256#32
  let v136 : BitVec 32 := Scalar.select v131 c256_i32_57 v135
  let c0_i32_59 : BitVec 32 := 0#32
  let v138 : BitVec 1 := Scalar.cmpi .sgt v130 c0_i32_59
  let v139 : BitVec 32 := Scalar.extui v138
  let c0_i32_60 : BitVec 32 := 0#32
  let v140 : BitVec 1 := Scalar.cmpi .slt v130 c0_i32_60
  let v141 : BitVec 32 := Scalar.extui v140
  let v142 : BitVec 32 := Scalar.subi v139 v141
  let c16_i32_58 : BitVec 32 := 16#32
  let c0_i32_61 : BitVec 32 := 0#32
  let v143 : BitVec 1 := Scalar.cmpi .sgt c16_i32_58 c0_i32_61
  let v144 : BitVec 32 := Scalar.extui v143
  let c0_i32_62 : BitVec 32 := 0#32
  let v145 : BitVec 1 := Scalar.cmpi .slt c16_i32_58 c0_i32_62
  let v146 : BitVec 32 := Scalar.extui v145
  let v147 : BitVec 32 := Scalar.subi v144 v146
  let v148 : BitVec 1 := Scalar.cmpi .ne v142 v147
  let v149 : BitVec 32 := Scalar.remsi v130 c16_i32_58
  let c0_i32_63 : BitVec 32 := 0#32
  let v150 : BitVec 1 := Scalar.cmpi .ne v149 c0_i32_63
  let v151 : BitVec 1 := Scalar.andi v148 v150
  let v137 : BitVec 32 := Scalar.divsi v130 c16_i32_58
  let c1_i32_64 : BitVec 32 := 1#32
  let v152 : BitVec 32 := Scalar.subi v137 c1_i32_64
  let v153 : BitVec 32 := Scalar.select v151 v152 v137
  let c16_i32_65 : BitVec 32 := 16#32
  let v154 : BitVec 32 := Scalar.muli v153 c16_i32_65
  let c192_i32_66 : BitVec 32 := 192#32
  let v155 : BitVec 32 := Scalar.minsi v154 c192_i32_66
  let c64_i32_67 : BitVec 32 := 64#32
  let v156 : BitVec 32 := Scalar.addi v155 c64_i32_67
  let v157 : BitVec 1 := Scalar.cmpi .sle v136 v156
  let v158 : BitVec 1 := Scalar.andi v127 v157
  let c7_i32_68 : BitVec 32 := 7#32
  let v162 : BitVec 1 := Scalar.cmpi .eq arg1 c7_i32_68
  let c256_i32_71 : BitVec 32 := 256#32
  let v167 : BitVec 32 := Scalar.select v162 c256_i32_71 v166
  let c0_i32_73 : BitVec 32 := 0#32
  let v169 : BitVec 1 := Scalar.cmpi .sgt v161 c0_i32_73
  let v170 : BitVec 32 := Scalar.extui v169
  let c0_i32_74 : BitVec 32 := 0#32
  let v171 : BitVec 1 := Scalar.cmpi .slt v161 c0_i32_74
  let v172 : BitVec 32 := Scalar.extui v171
  let v173 : BitVec 32 := Scalar.subi v170 v172
  let c16_i32_72 : BitVec 32 := 16#32
  let c0_i32_75 : BitVec 32 := 0#32
  let v174 : BitVec 1 := Scalar.cmpi .sgt c16_i32_72 c0_i32_75
  let v175 : BitVec 32 := Scalar.extui v174
  let c0_i32_76 : BitVec 32 := 0#32
  let v176 : BitVec 1 := Scalar.cmpi .slt c16_i32_72 c0_i32_76
  let v177 : BitVec 32 := Scalar.extui v176
  let v178 : BitVec 32 := Scalar.subi v175 v177
  let v179 : BitVec 1 := Scalar.cmpi .ne v173 v178
  let v180 : BitVec 32 := Scalar.remsi v161 c16_i32_72
  let c0_i32_77 : BitVec 32 := 0#32
  let v181 : BitVec 1 := Scalar.cmpi .ne v180 c0_i32_77
  let v182 : BitVec 1 := Scalar.andi v179 v181
  let v168 : BitVec 32 := Scalar.divsi v161 c16_i32_72
  let c1_i32_78 : BitVec 32 := 1#32
  let v183 : BitVec 32 := Scalar.subi v168 c1_i32_78
  let v184 : BitVec 32 := Scalar.select v182 v183 v168
  let c16_i32_79 : BitVec 32 := 16#32
  let v185 : BitVec 32 := Scalar.muli v184 c16_i32_79
  let c192_i32_80 : BitVec 32 := 192#32
  let v186 : BitVec 32 := Scalar.minsi v185 c192_i32_80
  let c64_i32_81 : BitVec 32 := 64#32
  let v187 : BitVec 32 := Scalar.addi v186 c64_i32_81
  let v188 : BitVec 1 := Scalar.cmpi .sle v167 v187
  let v189 : BitVec 1 := Scalar.andi v158 v188
  let c7_i32_82 : BitVec 32 := 7#32
  let v193 : BitVec 1 := Scalar.cmpi .eq arg1 c7_i32_82
  let c256_i32_85 : BitVec 32 := 256#32
  let v198 : BitVec 32 := Scalar.select v193 c256_i32_85 v197
  let c0_i32_87 : BitVec 32 := 0#32
  let v200 : BitVec 1 := Scalar.cmpi .sgt v192 c0_i32_87
  let v201 : BitVec 32 := Scalar.extui v200
  let c0_i32_88 : BitVec 32 := 0#32
  let v202 : BitVec 1 := Scalar.cmpi .slt v192 c0_i32_88
  let v203 : BitVec 32 := Scalar.extui v202
  let v204 : BitVec 32 := Scalar.subi v201 v203
  let c16_i32_86 : BitVec 32 := 16#32
  let c0_i32_89 : BitVec 32 := 0#32
  let v205 : BitVec 1 := Scalar.cmpi .sgt c16_i32_86 c0_i32_89
  let v206 : BitVec 32 := Scalar.extui v205
  let c0_i32_90 : BitVec 32 := 0#32
  let v207 : BitVec 1 := Scalar.cmpi .slt c16_i32_86 c0_i32_90
  let v208 : BitVec 32 := Scalar.extui v207
  let v209 : BitVec 32 := Scalar.subi v206 v208
  let v210 : BitVec 1 := Scalar.cmpi .ne v204 v209
  let v211 : BitVec 32 := Scalar.remsi v192 c16_i32_86
  let c0_i32_91 : BitVec 32 := 0#32
  let v212 : BitVec 1 := Scalar.cmpi .ne v211 c0_i32_91
  let v213 : BitVec 1 := Scalar.andi v210 v212
  let v199 : BitVec 32 := Scalar.divsi v192 c16_i32_86
  let c1_i32_92 : BitVec 32 := 1#32
  let v214 : BitVec 32 := Scalar.subi v199 c1_i32_92
  let v215 : BitVec 32 := Scalar.select v213 v214 v199
  let c16_i32_93 : BitVec 32 := 16#32
  let v216 : BitVec 32 := Scalar.muli v215 c16_i32_93
  let c192_i32_94 : BitVec 32 := 192#32
  let v217 : BitVec 32 := Scalar.minsi v216 c192_i32_94
  let c64_i32_95 : BitVec 32 := 64#32
  let v218 : BitVec 32 := Scalar.addi v217 c64_i32_95
  let v219 : BitVec 1 := Scalar.cmpi .sle v198 v218
  let v220 : BitVec 1 := Scalar.andi v189 v219
  let c7_i32_97 : BitVec 32 := 7#32
  let v224 : BitVec 1 := Scalar.cmpi .eq arg1 c7_i32_97
  let c256_i32_100 : BitVec 32 := 256#32
  let v229 : BitVec 32 := Scalar.select v224 c256_i32_100 v228
  let c0_i32_102 : BitVec 32 := 0#32
  let v231 : BitVec 1 := Scalar.cmpi .sgt v223 c0_i32_102
  let v232 : BitVec 32 := Scalar.extui v231
  let c0_i32_103 : BitVec 32 := 0#32
  let v233 : BitVec 1 := Scalar.cmpi .slt v223 c0_i32_103
  let v234 : BitVec 32 := Scalar.extui v233
  let v235 : BitVec 32 := Scalar.subi v232 v234
  let c16_i32_101 : BitVec 32 := 16#32
  let c0_i32_104 : BitVec 32 := 0#32
  let v236 : BitVec 1 := Scalar.cmpi .sgt c16_i32_101 c0_i32_104
  let v237 : BitVec 32 := Scalar.extui v236
  let c0_i32_105 : BitVec 32 := 0#32
  let v238 : BitVec 1 := Scalar.cmpi .slt c16_i32_101 c0_i32_105
  let v239 : BitVec 32 := Scalar.extui v238
  let v240 : BitVec 32 := Scalar.subi v237 v239
  let v241 : BitVec 1 := Scalar.cmpi .ne v235 v240
  let v242 : BitVec 32 := Scalar.remsi v223 c16_i32_101
  let c0_i32_106 : BitVec 32 := 0#32
  let v243 : BitVec 1 := Scalar.cmpi .ne v242 c0_i32_106
  let v244 : BitVec 1 := Scalar.andi v241 v243
  let v230 : BitVec 32 := Scalar.divsi v223 c16_i32_101
  let c1_i32_107 : BitVec 32 := 1#32
  let v245 : BitVec 32 := Scalar.subi v230 c1_i32_107
  let v246 : BitVec 32 := Scalar.select v244 v245 v230
  let c16_i32_108 : BitVec 32 := 16#32
  let v247 : BitVec 32 := Scalar.muli v246 c16_i32_108
  let c192_i32_109 : BitVec 32 := 192#32
  let v248 : BitVec 32 := Scalar.minsi v247 c192_i32_109
  let c64_i32_110 : BitVec 32 := 64#32
  let v249 : BitVec 32 := Scalar.addi v248 c64_i32_110
  let v250 : BitVec 1 := Scalar.cmpi .sle v229 v249
  let v251 : BitVec 1 := Scalar.andi v220 v250
  let c7_i32_112 : BitVec 32 := 7#32
  let v255 : BitVec 1 := Scalar.cmpi .eq arg1 c7_i32_112
  let c256_i32_115 : BitVec 32 := 256#32
  let v260 : BitVec 32 := Scalar.select v255 c256_i32_115 v259
  let c0_i32_117 : BitVec 32 := 0#32
  let v262 : BitVec 1 := Scalar.cmpi .sgt v254 c0_i32_117
  let v263 : BitVec 32 := Scalar.extui v262
  let c0_i32_118 : BitVec 32 := 0#32
  let v264 : BitVec 1 := Scalar.cmpi .slt v254 c0_i32_118
  let v265 : BitVec 32 := Scalar.extui v264
  let v266 : BitVec 32 := Scalar.subi v263 v265
  let c16_i32_116 : BitVec 32 := 16#32
  let c0_i32_119 : BitVec 32 := 0#32
  let v267 : BitVec 1 := Scalar.cmpi .sgt c16_i32_116 c0_i32_119
  let v268 : BitVec 32 := Scalar.extui v267
  let c0_i32_120 : BitVec 32 := 0#32
  let v269 : BitVec 1 := Scalar.cmpi .slt c16_i32_116 c0_i32_120
  let v270 : BitVec 32 := Scalar.extui v269
  let v271 : BitVec 32 := Scalar.subi v268 v270
  let v272 : BitVec 1 := Scalar.cmpi .ne v266 v271
  let v273 : BitVec 32 := Scalar.remsi v254 c16_i32_116
  let c0_i32_121 : BitVec 32 := 0#32
  let v274 : BitVec 1 := Scalar.cmpi .ne v273 c0_i32_121
  let v275 : BitVec 1 := Scalar.andi v272 v274
  let v261 : BitVec 32 := Scalar.divsi v254 c16_i32_116
  let c1_i32_122 : BitVec 32 := 1#32
  let v276 : BitVec 32 := Scalar.subi v261 c1_i32_122
  let v277 : BitVec 32 := Scalar.select v275 v276 v261
  let c16_i32_123 : BitVec 32 := 16#32
  let v278 : BitVec 32 := Scalar.muli v277 c16_i32_123
  let c192_i32_124 : BitVec 32 := 192#32
  let v279 : BitVec 32 := Scalar.minsi v278 c192_i32_124
  let c64_i32_125 : BitVec 32 := 64#32
  let v280 : BitVec 32 := Scalar.addi v279 c64_i32_125
  let v281 : BitVec 1 := Scalar.cmpi .sle v260 v280
  let v282 : BitVec 1 := Scalar.andi v251 v281
  let c7_i32_126 : BitVec 32 := 7#32
  let v286 : BitVec 1 := Scalar.cmpi .eq arg1 c7_i32_126
  let c256_i32_129 : BitVec 32 := 256#32
  let v291 : BitVec 32 := Scalar.select v286 c256_i32_129 v290
  let c0_i32_131 : BitVec 32 := 0#32
  let v293 : BitVec 1 := Scalar.cmpi .sgt v285 c0_i32_131
  let v294 : BitVec 32 := Scalar.extui v293
  let c0_i32_132 : BitVec 32 := 0#32
  let v295 : BitVec 1 := Scalar.cmpi .slt v285 c0_i32_132
  let v296 : BitVec 32 := Scalar.extui v295
  let v297 : BitVec 32 := Scalar.subi v294 v296
  let c16_i32_130 : BitVec 32 := 16#32
  let c0_i32_133 : BitVec 32 := 0#32
  let v298 : BitVec 1 := Scalar.cmpi .sgt c16_i32_130 c0_i32_133
  let v299 : BitVec 32 := Scalar.extui v298
  let c0_i32_134 : BitVec 32 := 0#32
  let v300 : BitVec 1 := Scalar.cmpi .slt c16_i32_130 c0_i32_134
  let v301 : BitVec 32 := Scalar.extui v300
  let v302 : BitVec 32 := Scalar.subi v299 v301
  let v303 : BitVec 1 := Scalar.cmpi .ne v297 v302
  let v304 : BitVec 32 := Scalar.remsi v285 c16_i32_130
  let c0_i32_135 : BitVec 32 := 0#32
  let v305 : BitVec 1 := Scalar.cmpi .ne v304 c0_i32_135
  let v306 : BitVec 1 := Scalar.andi v303 v305
  let v292 : BitVec 32 := Scalar.divsi v285 c16_i32_130
  let c1_i32_136 : BitVec 32 := 1#32
  let v307 : BitVec 32 := Scalar.subi v292 c1_i32_136
  let v308 : BitVec 32 := Scalar.select v306 v307 v292
  let c16_i32_137 : BitVec 32 := 16#32
  let v309 : BitVec 32 := Scalar.muli v308 c16_i32_137
  let c192_i32_138 : BitVec 32 := 192#32
  let v310 : BitVec 32 := Scalar.minsi v309 c192_i32_138
  let c64_i32_139 : BitVec 32 := 64#32
  let v311 : BitVec 32 := Scalar.addi v310 c64_i32_139
  let v312 : BitVec 1 := Scalar.cmpi .sle v291 v311
  let v313 : BitVec 1 := Scalar.andi v282 v312
  let c7_i32_140 : BitVec 32 := 7#32
  let v317 : BitVec 1 := Scalar.cmpi .eq arg1 c7_i32_140
  let c256_i32_143 : BitVec 32 := 256#32
  let v322 : BitVec 32 := Scalar.select v317 c256_i32_143 v321
  let c0_i32_145 : BitVec 32 := 0#32
  let v324 : BitVec 1 := Scalar.cmpi .sgt v316 c0_i32_145
  let v325 : BitVec 32 := Scalar.extui v324
  let c0_i32_146 : BitVec 32 := 0#32
  let v326 : BitVec 1 := Scalar.cmpi .slt v316 c0_i32_146
  let v327 : BitVec 32 := Scalar.extui v326
  let v328 : BitVec 32 := Scalar.subi v325 v327
  let c16_i32_144 : BitVec 32 := 16#32
  let c0_i32_147 : BitVec 32 := 0#32
  let v329 : BitVec 1 := Scalar.cmpi .sgt c16_i32_144 c0_i32_147
  let v330 : BitVec 32 := Scalar.extui v329
  let c0_i32_148 : BitVec 32 := 0#32
  let v331 : BitVec 1 := Scalar.cmpi .slt c16_i32_144 c0_i32_148
  let v332 : BitVec 32 := Scalar.extui v331
  let v333 : BitVec 32 := Scalar.subi v330 v332
  let v334 : BitVec 1 := Scalar.cmpi .ne v328 v333
  let v335 : BitVec 32 := Scalar.remsi v316 c16_i32_144
  let c0_i32_149 : BitVec 32 := 0#32
  let v336 : BitVec 1 := Scalar.cmpi .ne v335 c0_i32_149
  let v337 : BitVec 1 := Scalar.andi v334 v336
  let v323 : BitVec 32 := Scalar.divsi v316 c16_i32_144
  let c1_i32_150 : BitVec 32 := 1#32
  let v338 : BitVec 32 := Scalar.subi v323 c1_i32_150
  let v339 : BitVec 32 := Scalar.select v337 v338 v323
  let c16_i32_151 : BitVec 32 := 16#32
  let v340 : BitVec 32 := Scalar.muli v339 c16_i32_151
  let c192_i32_152 : BitVec 32 := 192#32
  let v341 : BitVec 32 := Scalar.minsi v340 c192_i32_152
  let c64_i32_153 : BitVec 32 := 64#32
  let v342 : BitVec 32 := Scalar.addi v341 c64_i32_153
  let v343 : BitVec 1 := Scalar.cmpi .sle v322 v342
  let v344 : BitVec 1 := Scalar.andi v313 v343
  let c7_i32_154 : BitVec 32 := 7#32
  let v348 : BitVec 1 := Scalar.cmpi .eq arg1 c7_i32_154
  let c256_i32_157 : BitVec 32 := 256#32
  let v353 : BitVec 32 := Scalar.select v348 c256_i32_157 v352
  let c0_i32_159 : BitVec 32 := 0#32
  let v355 : BitVec 1 := Scalar.cmpi .sgt v347 c0_i32_159
  let v356 : BitVec 32 := Scalar.extui v355
  let c0_i32_160 : BitVec 32 := 0#32
  let v357 : BitVec 1 := Scalar.cmpi .slt v347 c0_i32_160
  let v358 : BitVec 32 := Scalar.extui v357
  let v359 : BitVec 32 := Scalar.subi v356 v358
  let c16_i32_158 : BitVec 32 := 16#32
  let c0_i32_161 : BitVec 32 := 0#32
  let v360 : BitVec 1 := Scalar.cmpi .sgt c16_i32_158 c0_i32_161
  let v361 : BitVec 32 := Scalar.extui v360
  let c0_i32_162 : BitVec 32 := 0#32
  let v362 : BitVec 1 := Scalar.cmpi .slt c16_i32_158 c0_i32_162
  let v363 : BitVec 32 := Scalar.extui v362
  let v364 : BitVec 32 := Scalar.subi v361 v363
  let v365 : BitVec 1 := Scalar.cmpi .ne v359 v364
  let v366 : BitVec 32 := Scalar.remsi v347 c16_i32_158
  let c0_i32_163 : BitVec 32 := 0#32
  let v367 : BitVec 1 := Scalar.cmpi .ne v366 c0_i32_163
  let v368 : BitVec 1 := Scalar.andi v365 v367
  let v354 : BitVec 32 := Scalar.divsi v347 c16_i32_158
  let c1_i32_164 : BitVec 32 := 1#32
  let v369 : BitVec 32 := Scalar.subi v354 c1_i32_164
  let v370 : BitVec 32 := Scalar.select v368 v369 v354
  let c16_i32_165 : BitVec 32 := 16#32
  let v371 : BitVec 32 := Scalar.muli v370 c16_i32_165
  let c192_i32_166 : BitVec 32 := 192#32
  let v372 : BitVec 32 := Scalar.minsi v371 c192_i32_166
  let c64_i32_167 : BitVec 32 := 64#32
  let v373 : BitVec 32 := Scalar.addi v372 c64_i32_167
  let v374 : BitVec 1 := Scalar.cmpi .sle v353 v373
  let v375 : BitVec 1 := Scalar.andi v344 v374
  let c7_i32_168 : BitVec 32 := 7#32
  let v379 : BitVec 1 := Scalar.cmpi .eq arg1 c7_i32_168
  let c256_i32_171 : BitVec 32 := 256#32
  let v384 : BitVec 32 := Scalar.select v379 c256_i32_171 v383
  let c0_i32_173 : BitVec 32 := 0#32
  let v386 : BitVec 1 := Scalar.cmpi .sgt v378 c0_i32_173
  let v387 : BitVec 32 := Scalar.extui v386
  let c0_i32_174 : BitVec 32 := 0#32
  let v388 : BitVec 1 := Scalar.cmpi .slt v378 c0_i32_174
  let v389 : BitVec 32 := Scalar.extui v388
  let v390 : BitVec 32 := Scalar.subi v387 v389
  let c16_i32_172 : BitVec 32 := 16#32
  let c0_i32_175 : BitVec 32 := 0#32
  let v391 : BitVec 1 := Scalar.cmpi .sgt c16_i32_172 c0_i32_175
  let v392 : BitVec 32 := Scalar.extui v391
  let c0_i32_176 : BitVec 32 := 0#32
  let v393 : BitVec 1 := Scalar.cmpi .slt c16_i32_172 c0_i32_176
  let v394 : BitVec 32 := Scalar.extui v393
  let v395 : BitVec 32 := Scalar.subi v392 v394
  let v396 : BitVec 1 := Scalar.cmpi .ne v390 v395
  let v397 : BitVec 32 := Scalar.remsi v378 c16_i32_172
  let c0_i32_177 : BitVec 32 := 0#32
  let v398 : BitVec 1 := Scalar.cmpi .ne v397 c0_i32_177
  let v399 : BitVec 1 := Scalar.andi v396 v398
  let v385 : BitVec 32 := Scalar.divsi v378 c16_i32_172
  let c1_i32_178 : BitVec 32 := 1#32
  let v400 : BitVec 32 := Scalar.subi v385 c1_i32_178
  let v401 : BitVec 32 := Scalar.select v399 v400 v385
  let c16_i32_179 : BitVec 32 := 16#32
  let v402 : BitVec 32 := Scalar.muli v401 c16_i32_179
  let c192_i32_180 : BitVec 32 := 192#32
  let v403 : BitVec 32 := Scalar.minsi v402 c192_i32_180
  let c64_i32_181 : BitVec 32 := 64#32
  let v404 : BitVec 32 := Scalar.addi v403 c64_i32_181
  let v405 : BitVec 1 := Scalar.cmpi .sle v384 v404
  let v406 : BitVec 1 := Scalar.andi v375 v405
  let c7_i32_182 : BitVec 32 := 7#32
  let v410 : BitVec 1 := Scalar.cmpi .eq arg1 c7_i32_182
  let c256_i32_185 : BitVec 32 := 256#32
  let v415 : BitVec 32 := Scalar.select v410 c256_i32_185 v414
  let c0_i32_187 : BitVec 32 := 0#32
  let v417 : BitVec 1 := Scalar.cmpi .sgt v409 c0_i32_187
  let v418 : BitVec 32 := Scalar.extui v417
  let c0_i32_188 : BitVec 32 := 0#32
  let v419 : BitVec 1 := Scalar.cmpi .slt v409 c0_i32_188
  let v420 : BitVec 32 := Scalar.extui v419
  let v421 : BitVec 32 := Scalar.subi v418 v420
  let c16_i32_186 : BitVec 32 := 16#32
  let c0_i32_189 : BitVec 32 := 0#32
  let v422 : BitVec 1 := Scalar.cmpi .sgt c16_i32_186 c0_i32_189
  let v423 : BitVec 32 := Scalar.extui v422
  let c0_i32_190 : BitVec 32 := 0#32
  let v424 : BitVec 1 := Scalar.cmpi .slt c16_i32_186 c0_i32_190
  let v425 : BitVec 32 := Scalar.extui v424
  let v426 : BitVec 32 := Scalar.subi v423 v425
  let v427 : BitVec 1 := Scalar.cmpi .ne v421 v426
  let v428 : BitVec 32 := Scalar.remsi v409 c16_i32_186
  let c0_i32_191 : BitVec 32 := 0#32
  let v429 : BitVec 1 := Scalar.cmpi .ne v428 c0_i32_191
  let v430 : BitVec 1 := Scalar.andi v427 v429
  let v416 : BitVec 32 := Scalar.divsi v409 c16_i32_186
  let c1_i32_192 : BitVec 32 := 1#32
  let v431 : BitVec 32 := Scalar.subi v416 c1_i32_192
  let v432 : BitVec 32 := Scalar.select v430 v431 v416
  let c16_i32_193 : BitVec 32 := 16#32
  let v433 : BitVec 32 := Scalar.muli v432 c16_i32_193
  let c192_i32_194 : BitVec 32 := 192#32
  let v434 : BitVec 32 := Scalar.minsi v433 c192_i32_194
  let c64_i32_195 : BitVec 32 := 64#32
  let v435 : BitVec 32 := Scalar.addi v434 c64_i32_195
  let v436 : BitVec 1 := Scalar.cmpi .sle v415 v435
  let v437 : BitVec 1 := Scalar.andi v406 v436
  let c7_i32_196 : BitVec 32 := 7#32
  let v441 : BitVec 1 := Scalar.cmpi .eq arg1 c7_i32_196
  let c256_i32_199 : BitVec 32 := 256#32
  let v446 : BitVec 32 := Scalar.select v441 c256_i32_199 v445
  let c0_i32_201 : BitVec 32 := 0#32
  let v448 : BitVec 1 := Scalar.cmpi .sgt v440 c0_i32_201
  let v449 : BitVec 32 := Scalar.extui v448
  let c0_i32_202 : BitVec 32 := 0#32
  let v450 : BitVec 1 := Scalar.cmpi .slt v440 c0_i32_202
  let v451 : BitVec 32 := Scalar.extui v450
  let v452 : BitVec 32 := Scalar.subi v449 v451
  let c16_i32_200 : BitVec 32 := 16#32
  let c0_i32_203 : BitVec 32 := 0#32
  let v453 : BitVec 1 := Scalar.cmpi .sgt c16_i32_200 c0_i32_203
  let v454 : BitVec 32 := Scalar.extui v453
  let c0_i32_204 : BitVec 32 := 0#32
  let v455 : BitVec 1 := Scalar.cmpi .slt c16_i32_200 c0_i32_204
  let v456 : BitVec 32 := Scalar.extui v455
  let v457 : BitVec 32 := Scalar.subi v454 v456
  let v458 : BitVec 1 := Scalar.cmpi .ne v452 v457
  let v459 : BitVec 32 := Scalar.remsi v440 c16_i32_200
  let c0_i32_205 : BitVec 32 := 0#32
  let v460 : BitVec 1 := Scalar.cmpi .ne v459 c0_i32_205
  let v461 : BitVec 1 := Scalar.andi v458 v460
  let v447 : BitVec 32 := Scalar.divsi v440 c16_i32_200
  let c1_i32_206 : BitVec 32 := 1#32
  let v462 : BitVec 32 := Scalar.subi v447 c1_i32_206
  let v463 : BitVec 32 := Scalar.select v461 v462 v447
  let c16_i32_207 : BitVec 32 := 16#32
  let v464 : BitVec 32 := Scalar.muli v463 c16_i32_207
  let c192_i32_208 : BitVec 32 := 192#32
  let v465 : BitVec 32 := Scalar.minsi v464 c192_i32_208
  let c64_i32_209 : BitVec 32 := 64#32
  let v466 : BitVec 32 := Scalar.addi v465 c64_i32_209
  let v467 : BitVec 1 := Scalar.cmpi .sle v446 v466
  let v468 : BitVec 1 := Scalar.andi v437 v467
  let c7_i32_210 : BitVec 32 := 7#32
  let v472 : BitVec 1 := Scalar.cmpi .eq arg1 c7_i32_210
  let c256_i32_213 : BitVec 32 := 256#32
  let v477 : BitVec 32 := Scalar.select v472 c256_i32_213 v476
  let c0_i32_215 : BitVec 32 := 0#32
  let v479 : BitVec 1 := Scalar.cmpi .sgt v471 c0_i32_215
  let v480 : BitVec 32 := Scalar.extui v479
  let c0_i32_216 : BitVec 32 := 0#32
  let v481 : BitVec 1 := Scalar.cmpi .slt v471 c0_i32_216
  let v482 : BitVec 32 := Scalar.extui v481
  let v483 : BitVec 32 := Scalar.subi v480 v482
  let c16_i32_214 : BitVec 32 := 16#32
  let c0_i32_217 : BitVec 32 := 0#32
  let v484 : BitVec 1 := Scalar.cmpi .sgt c16_i32_214 c0_i32_217
  let v485 : BitVec 32 := Scalar.extui v484
  let c0_i32_218 : BitVec 32 := 0#32
  let v486 : BitVec 1 := Scalar.cmpi .slt c16_i32_214 c0_i32_218
  let v487 : BitVec 32 := Scalar.extui v486
  let v488 : BitVec 32 := Scalar.subi v485 v487
  let v489 : BitVec 1 := Scalar.cmpi .ne v483 v488
  let v490 : BitVec 32 := Scalar.remsi v471 c16_i32_214
  let c0_i32_219 : BitVec 32 := 0#32
  let v491 : BitVec 1 := Scalar.cmpi .ne v490 c0_i32_219
  let v492 : BitVec 1 := Scalar.andi v489 v491
  let v478 : BitVec 32 := Scalar.divsi v471 c16_i32_214
  let c1_i32_220 : BitVec 32 := 1#32
  let v493 : BitVec 32 := Scalar.subi v478 c1_i32_220
  let v494 : BitVec 32 := Scalar.select v492 v493 v478
  let c16_i32_221 : BitVec 32 := 16#32
  let v495 : BitVec 32 := Scalar.muli v494 c16_i32_221
  let c192_i32_222 : BitVec 32 := 192#32
  let v496 : BitVec 32 := Scalar.minsi v495 c192_i32_222
  let c64_i32_223 : BitVec 32 := 64#32
  let v497 : BitVec 32 := Scalar.addi v496 c64_i32_223
  let v498 : BitVec 1 := Scalar.cmpi .sle v477 v497
  let v499 : BitVec 1 := Scalar.andi v468 v498
  let v_true : BitVec 1 := 1#1
  let v502 : BitVec 1 := Scalar.xori v499 v_true
  let v503 : BitVec 32 := Scalar.extui v502
  let c0_i32_225 : BitVec 32 := 0#32
  let v504 : BitVec 1 := Scalar.cmpi .ne v503 c0_i32_225
  v504

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c5_i32 : BitVec 32 := 5#32
  let c0_i32_0 : BitVec 32 := 0#32
  ![arg0.toNat, c0_i32.toNat, c5_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== CombineSRefIdeal.lean ====
abbrev S1040 : Shape := ⟨1, ![1040]⟩
abbrev S8x2048x16 : Shape := ⟨3, ![8, 2048, 16]⟩
abbrev S16x8x256x1024 : Shape := ⟨4, ![16, 8, 256, 1024]⟩
abbrev S8x2048x1024 : Shape := ⟨3, ![8, 2048, 1024]⟩
abbrev S8x1x6144 : Shape := ⟨3, ![8, 1, 6144]⟩
abbrev S1x1024 : Shape := ⟨2, ![1, 1024]⟩
abbrev S8x1x1024 : Shape := ⟨3, ![8, 1, 1024]⟩
abbrev S8x2048x16x1 : Shape := ⟨4, ![8, 2048, 16, 1]⟩
abbrev S256 : Shape := ⟨1, ![256]⟩
abbrev S1x1x1x256 : Shape := ⟨4, ![1, 1, 1, 256]⟩
abbrev S8x2048x16x256 : Shape := ⟨4, ![8, 2048, 16, 256]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩

abbrev nBuf : Space → Nat
  | .hbm => 41
  | .vmem => 0
  | .smem => 0
  | _ => 0

abbrev bufTy : (tb : Table) → Fin (tcTables nBuf tb) → BufTy
  | .hbm, ⟨0, _⟩ => ⟨S1040, .i32⟩
  | .hbm, ⟨1, _⟩ => ⟨S8x2048x16, .f32⟩
  | .hbm, ⟨2, _⟩ => ⟨S16x8x256x1024, .bf16⟩
  | .hbm, ⟨3, _⟩ => ⟨S8x2048x1024, .f32⟩
  | .hbm, ⟨4, _⟩ => ⟨S8x1x6144, .f32⟩
  | .hbm, ⟨5, _⟩ => ⟨S1x1024, .f32⟩
  | .hbm, ⟨6, _⟩ => ⟨S8x1x1024, .f32⟩
  | .hbm, ⟨7, _⟩ => ⟨S8x1x1024, .f32⟩
  | .hbm, ⟨8, _⟩ => ⟨S8x1x1024, .f32⟩
  | .hbm, ⟨9, _⟩ => ⟨S8x1x1024, .f32⟩
  | .hbm, ⟨10, _⟩ => ⟨S8x1x1024, .f32⟩
  | .hbm, ⟨11, _⟩ => ⟨S8x1x1024, .f32⟩
  | .hbm, ⟨12, _⟩ => ⟨S8x2048x16x1, .f32⟩
  | .hbm, ⟨13, _⟩ => ⟨S256, .i32⟩
  | .hbm, ⟨14, _⟩ => ⟨S256, .f32⟩
  | .hbm, ⟨15, _⟩ => ⟨S1x1x1x256, .f32⟩
  | .hbm, ⟨16, _⟩ => ⟨S8x2048x16x256, .f32⟩
  | .hbm, ⟨17, _⟩ => ⟨S8x2048x16x256, .f32⟩
  | .hbm, ⟨18, _⟩ => ⟨S8x2048x16x256, .i1⟩
  | .hbm, ⟨19, _⟩ => ⟨S8x2048x16x256, .f32⟩
  | .hbm, ⟨20, _⟩ => ⟨S16x8x256x1024, .f32⟩
  | .hbm, ⟨21, _⟩ => ⟨S8x2048x1024, .f32⟩
  | .hbm, ⟨22, _⟩ => ⟨S8x2048x1024, .f32⟩
  | .hbm, ⟨23, _⟩ => ⟨S8x2048x1024, .f32⟩
  | .hbm, ⟨24, _⟩ => ⟨S8x2048x1024, .f32⟩
  | .hbm, ⟨25, _⟩ => ⟨S8x2048x1024, .f32⟩
  | .hbm, ⟨26, _⟩ => ⟨S_, .f32⟩
  | .hbm, ⟨27, _⟩ => ⟨S8x2048, .f32⟩
  | .hbm, ⟨28, _⟩ => ⟨S8x2048x1, .f32⟩
  | .hbm, ⟨29, _⟩ => ⟨S_, .f32⟩
  | .hbm, ⟨30, _⟩ => ⟨S8x2048x1, .f32⟩
  | .hbm, ⟨31, _⟩ => ⟨S8x2048x1, .f32⟩
  | .hbm, ⟨32, _⟩ => ⟨S_, .f32⟩
  | .hbm, ⟨33, _⟩ => ⟨S8x2048x1, .f32⟩
  | .hbm, ⟨34, _⟩ => ⟨S8x2048x1, .f32⟩
  | .hbm, ⟨35, _⟩ => ⟨S8x2048x1, .f32⟩
  | .hbm, ⟨36, _⟩ => ⟨S8x2048x1024, .f32⟩
  | .hbm, ⟨37, _⟩ => ⟨S8x2048x1024, .f32⟩
  | .hbm, ⟨38, _⟩ => ⟨S1x1x1024, .f32⟩
  | .hbm, ⟨39, _⟩ => ⟨S8x2048x1024, .f32⟩
  | .hbm, ⟨40, _⟩ => ⟨S8x2048x1024, .f32⟩
  | _, _ => ⟨S1040, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst : Ref sig .tc := ⟨.hbm, 26, rfl⟩
abbrev main_v20 : Ref sig .tc := ⟨.hbm, 27, rfl⟩
abbrev main_v21 : Ref sig .tc := ⟨.hbm, 28, rfl⟩
abbrev main_cst_0 : Ref sig .tc := ⟨.hbm, 29, rfl⟩
abbrev main_v22 : Ref sig .tc := ⟨.hbm, 30, rfl⟩
abbrev main_v23 : Ref sig .tc := ⟨.hbm, 31, rfl⟩
abbrev main_cst_1 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩

abbrev nD : Nat := 1
abbrev τ : Topo := Topo.v7x

variable {F : FTy → Type} [FloatOps F]
-- ==== Proof.CtxStages.lean ====
/- The context attention's body as a composition of named stages: one block of queries, keys and values of all four
   heads side by side; the queries are stacked once per head with the other heads' lanes cleared. -/
module

public import proofs.«01_k».proof.Proof.Gen.KernelIdeal.Value
public import Idealize.ShloMosaic.Lib.ValueIdx

@[expose] public section

noncomputable section

namespace Cert.Attn

open Cert.KernelIdeal Cert.KernelIdeal.Gen Idealize.ShloMosaic Idealize.ShloMosaic.TcCoe Idealize.ShloMosaic.ValueIdx Idealize.SL.Sem

variable {F : FTy → Type} [FloatOps F]

/-- The mask of the positions whose number, divided by `w` and rounded down, is `h`. -/
def isHead {s : Shape} (x : IVec s 32) (w h : BitVec 32) : IVec s 1 :=
  cmpi .eq
    (select
      (andi
        (cmpi .ne (subi (extui 32 (cmpi .sgt x (broadcast s 0#32)) natLt_1_32) (extui 32 (cmpi .slt x (broadcast s 0#32)) natLt_1_32))
          (broadcast s (Scalar.subi (Scalar.extui (Scalar.cmpi .sgt w 0#32) : BitVec 32) (Scalar.extui (Scalar.cmpi .slt w 0#32)))))
        (cmpi .ne (remsi x (broadcast s w)) (broadcast s 0#32)))
      (subi (divsi x (broadcast s w)) (broadcast s 1#32))
      (divsi x (broadcast s w)))
    (broadcast s h)

/-- The lane numbers of a block. -/
def lanes : IVec S256x256 32 := iota .tc S256x256 32 [1] iota_S256x256_d1_w32

/-- The row numbers of the stacked scores. -/
def rows : IVec S1024x1 32 := iota .tc S1024x1 32 [0] iota_S1024x1_d0_w32

/-- The scaled queries. -/
def scaled (q : FVec F S256x256 .bf16) : FVec F S256x256 .bf16 := mulf q (broadcast S256x256 (Scalar.ofBits .bf16 0x3E00#16))

/-- The scaled queries of head `h`, the other lanes zero. -/
def headOnly (q : FVec F S256x256 .bf16) (h : BitVec 32) : FVec F S256x256 .bf16 :=
  select (isHead lanes 64#32 h) (scaled q) (broadcast S256x256 (Scalar.ofBits .bf16 0x0000#16))

/-- The queries stacked head by head. -/
def stacked (q : FVec F S256x256 .bf16) : FVec F S1024x256 .bf16 :=
  concatenate S1024x256 0 [⟨S256x256, headOnly q 0#32⟩, ⟨S256x256, headOnly q 1#32⟩, ⟨S256x256, headOnly q 2#32⟩, ⟨S256x256, headOnly q 3#32⟩]
    concatenates_S256x256_S256x256_S256x256_S256x256_S1024x256_d0

/-- The scores of all heads. -/
def scores (q k : FVec F S256x256 .bf16) : FVec F S1024x256 .f32 :=
  matmul dot_S1024x256_S256x256_S1024x256_1_1_0_0_n_n none (stacked q) k (constant S1024x256 .f32 0x00000000#32)

/-- The greatest score of each row. -/
def rowMax (s : FVec F S1024x256 .f32) : FVec F S1024x1 .f32 :=
  shapeCast S1024x1 (multiReduction .maximumf [1] S1024 s 0xFF800000#32 reduces_S1024x256_S1024 (.inl rfl) rfl) shapeCasts_S1024_S1024x1

/-- The exponentials of the scores less a row's maximum. -/
def weights (s : FVec F S1024x256 .f32) (m : FVec F S1024x1 .f32) : FVec F S1024x256 .f32 :=
  exp (subf s (broadcastTo S1024x256 m broadcasts_S1024x1_S1024x256))

/-- The sum of each row of exponentials. -/
def rowSum (p : FVec F S1024x256 .f32) : FVec F S1024x1 .f32 :=
  shapeCast S1024x1 (multiReduction .add [1] S1024 p 0x00000000#32 reduces_S1024x256_S1024 (.inl rfl) rfl) shapeCasts_S1024_S1024x1

/-- The values weighted by the exponentials and divided by the normaliser. -/
def mix (p : FVec F S1024x256 .f32) (den : FVec F S1024x1 .f32) (v : FVec F S256x256 .bf16) : FVec F S1024x256 .f32 :=
  divf (matmul dot_S1024x256_S256x256_S1024x256_1_0_0_1_n_n none (truncf .bf16 p bitsLt_bf16_f32) v (constant S1024x256 .f32 0x00000000#32))
    (broadcastTo S1024x256 den broadcasts_S1024x1_S1024x256)

/-- The sink of each stacked row. -/
def sinkColumn (s0 s1 s2 s3 : Elt F .f32) : FVec F S1024x1 .f32 :=
  select (isHead rows 256#32 3#32) (broadcast S1024x1 s3)
    (select (isHead rows 256#32 2#32) (broadcast S1024x1 s2)
      (select (isHead rows 256#32 1#32) (broadcast S1024x1 s1)
        (select (isHead rows 256#32 0#32) (broadcast S1024x1 s0) (broadcast S1024x1 (Scalar.ofBits .f32 0x00000000#32)))))

/-- Each lane's row of the stacked result, taken from its head. -/
def pick (o : FVec F S1024x256 .f32) : FVec F S1x256x256 .bf16 :=
  shapeCast S1x256x256
    (truncf .bf16
      (select (isHead lanes 64#32 3#32) (extractStridedSlice S256x256 ![768, 0] o slices_S1024x256_o768_0_S256x256)
        (select (isHead lanes 64#32 2#32) (extractStridedSlice S256x256 ![512, 0] o slices_S1024x256_o512_0_S256x256)
          (select (isHead lanes 64#32 1#32) (extractStridedSlice S256x256 ![256, 0] o slices_S1024x256_o256_0_S256x256)
            (select (isHead lanes 64#32 0#32) (extractStridedSlice S256x256 ![0, 0] o slices_S1024x256_o0_0_S256x256)
              (broadcast S256x256 (Scalar.ofBits .f32 0x00000000#32)))))) bitsLt_bf16_f32)
    shapeCasts_S256x256_S1x256x256

/-- The attention with sinks, on one block. -/
def attendSink (q k v : FVec F S256x256 .bf16) (sk : FVec F S1024x1 .f32) : FVec F S1024x256 .f32 :=
  mix (weights (scores q k) (maximumf (rowMax (scores q k)) sk))
    (addf (rowSum (weights (scores q k) (maximumf (rowMax (scores q k)) sk))) (exp (subf sk (maximumf (rowMax (scores q k)) sk)))) v

/-- The attention without sinks, on one block. -/
def attendPlain (q k v : FVec F S256x256 .bf16) : FVec F S1024x256 .f32 :=
  mix (weights (scores q k) (rowMax (scores q k))) (rowSum (weights (scores q k) (rowMax (scores q k)))) v

/-- A block with its unit axis dropped. -/
def flat (x : Vec F S1x256x256 .bf16) : FVec F S256x256 .bf16 := shapeCast S256x256 x shapeCasts_S1x256x256_S256x256

/-- Two key (or value) heads laid side by side, each twice. -/
def twice (a b : Vec F S1x256x64 .bf16) : FVec F S256x256 .bf16 :=
  concatenate S256x256 1 [⟨S256x64, shapeCast S256x64 a shapeCasts_S1x256x64_S256x64⟩, ⟨S256x64, shapeCast S256x64 a shapeCasts_S1x256x64_S256x64⟩,
    ⟨S256x64, shapeCast S256x64 b shapeCasts_S1x256x64_S256x64⟩, ⟨S256x64, shapeCast S256x64 b shapeCasts_S1x256x64_S256x64⟩]
    concatenates_S256x64_S256x64_S256x64_S256x64_S256x256_d1

/-- The body's second stored block: the attention without sinks. -/
theorem pay7_eq (x3 x4 x5 : Vec F S1x256x256 .bf16) :
    k0_pay1 (iota Kind.tc S256x256 32 [1] iota_S256x256_d1_w32)
        (k0_pay45 (k0_pay37 x4) (k0_pay38 x5) lanes (k0_pay39 (k0_pay36 x3)) (k0_pay40 (k0_pay36 x3))
          (k0_pay43 lanes (k0_pay39 (k0_pay36 x3)) (64#32) k0_pay41 k0_pay42 1#1) (k0_pay44 lanes (k0_pay39 (k0_pay36 x3))))
        (k0_pay51 lanes (k0_pay45 (k0_pay37 x4) (k0_pay38 x5) lanes (k0_pay39 (k0_pay36 x3)) (k0_pay40 (k0_pay36 x3))
            (k0_pay43 lanes (k0_pay39 (k0_pay36 x3)) (64#32) k0_pay41 k0_pay42 1#1) (k0_pay44 lanes (k0_pay39 (k0_pay36 x3))))
          (k0_pay48 lanes (k0_pay45 (k0_pay37 x4) (k0_pay38 x5) lanes (k0_pay39 (k0_pay36 x3)) (k0_pay40 (k0_pay36 x3))
              (k0_pay43 lanes (k0_pay39 (k0_pay36 x3)) (64#32) k0_pay41 k0_pay42 1#1) (k0_pay44 lanes (k0_pay39 (k0_pay36 x3))))
            k0_pay46 (64#32) (k0_pay47 lanes) 0#32)
          (k0_pay49 lanes) (k0_pay50 lanes) 1#32)
        (64#32) (k0_pay52 lanes) (k0_pay53 lanes) 1#32 0#32
      = pick (attendPlain (flat x3) (flat x4) (flat x5)) := rfl

/-- What a point leaves in the second output: the attention without sinks of its blocks. -/
theorem out7_eq (c : Dev nD) (t : Fin cfg0.N) (x0 : Vec F S4 .f32) (x1 x2 x3 x4 x5 : Vec F S1x256x256 .bf16) :
    out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) x0 x1 x2 x3 x4 x5
      = pick (attendPlain (flat x3) (flat x4) (flat x5)) := by
  unfold out0_A_7
  rw [View.read_writes_eq_canon _ _ _ (cover0_A_7 c _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread]
  rw [View.canon_unit_zero (by decide)]
  simp only [View.ld_unit_zero (S := S1x256x256) (off := ![0, 0, 0]) (by decide)]
  exact pay7_eq x3 x4 x5

/-- The word loaded from place `n` of the sinks is the sink `n`. -/
theorem ld_sink (x0 : Vec F S4 .f32) (n : Fin 4) (off : Fin 1 → ℕ) (h : off 0 = n.val) (inb : ∀ a, off a + S1.size a ≤ S4.size a)
    (i : (Rect.unit (s := S4) off S1.size inb).shape.Idx) : View.ld x0 (Rect.unit (s := S4) off S1.size inb) i = x0 (ix1 n) := by
  rw [View.ld_unit]
  refine congrArg x0 (funext fun a => Fin.ext ?_)
  obtain rfl : a = 0 := Subsingleton.elim _ _
  have hi : (i 0).val < 1 := (i 0).isLt
  show off 0 + (i 0).val = n.val
  omega

/-- What a point leaves in the first output: the attention with sinks of its blocks. -/
theorem out6_eq (c : Dev nD) (t : Fin cfg0.N) (x0 : Vec F S4 .f32) (x1 x2 x3 x4 x5 : Vec F S1x256x256 .bf16) :
    out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) x0 x1 x2 x3 x4 x5
      = pick (attendSink (flat x1) (twice (View.ld x2 (Rect.unit ![0, 0, 0] S1x256x64.size inb_S1x256x256_S1x256x64_0_0_0)) (View.ld x2 (Rect.unit ![0, 0, 64] S1x256x64.size inb_S1x256x256_S1x256x64_0_0_64)))
          (twice (View.ld x2 (Rect.unit ![0, 0, 128] S1x256x64.size inb_S1x256x256_S1x256x64_0_0_128)) (View.ld x2 (Rect.unit ![0, 0, 192] S1x256x64.size inb_S1x256x256_S1x256x64_0_0_192)))
          (sinkColumn (x0 (ix1 0)) (x0 (ix1 1)) (x0 (ix1 2)) (x0 (ix1 3)))) := by
  unfold out0_A_6
  rw [View.read_writes_eq_canon _ _ _ (cover0_A_6 c _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread]
  rw [View.canon_unit_zero (by decide)]
  simp only [View.ld_unit_zero (S := S1x256x256) (off := ![0, 0, 0]) (by decide)]
  simp only [ld_sink x0 0 ![0] rfl, ld_sink x0 1 ![1] rfl, ld_sink x0 2 ![2] rfl, ld_sink x0 3 ![3] rfl]
  rfl

end Cert.Attn

end
-- ==== Proof.SoftmaxAlgebra.lean ====
/- The arithmetic of one softmax row over the extended reals: dividing the weighted sum by the normaliser is the sum
   of the values weighted by the normalised exponentials, when the scores are finite. -/
module

public import Idealize.ShloMosaic.PureOps.Ideal.Laws
public import Idealize.ShloMosaic.Lib.IdealHost

@[expose] public section

noncomputable section

namespace Cert.Attn

open Idealize.ShloMosaic

/-- The extended real is a real number. -/
def IsReal (x : EReal) : Prop := ∃ r : ℝ, x = (r : EReal)

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sum {ι : Type} (s : Finset ι) (f : ι → EReal) (h : ∀ i ∈ s, IsReal (f i)) : IsReal (∑ i ∈ s, f i) := by
  classical
  induction s using Finset.induction_on with
  | empty => exact ⟨0, by simp⟩
  | insert a s ha ih =>
    rw [Finset.sum_insert ha]
    obtain ⟨x, hx⟩ := h a (Finset.mem_insert_self a s)
    obtain ⟨y, hy⟩ := ih fun i hi => h i (Finset.mem_insert_of_mem hi)
    exact ⟨x + y, by rw [hx, hy]; exact (EReal.coe_add x y).symm⟩

/-- A value whose absolute value is below infinity is a real number. -/
theorem isReal_of_abs_lt_top {x : EReal} (h : max x (-x) < ⊤) : IsReal x := by
  rw [max_lt_iff] at h
  refine ⟨x.toReal, (EReal.coe_toReal h.1.ne ?_).symm⟩
  intro hb; rw [hb] at h; simp at h

theorem max_isReal {x y : EReal} (hx : IsReal x) (hy : IsReal y) : IsReal (max x y) := by
  rcases le_total x y with h | h
  · rwa [max_eq_right h]
  · rwa [max_eq_left h]

/-- The maximum of a nonempty finite family of real numbers, folded from minus infinity, is a real number. -/
theorem fold_max_isReal {n : ℕ} (hn : 0 < n) (s : Fin n → EReal) (hs : ∀ j, IsReal (s j)) :
    IsReal ((Finset.univ : Finset (Fin n)).fold max ⊥ s) := by
  have : Nonempty (Fin n) := ⟨⟨0, hn⟩⟩
  obtain ⟨i, -, hi⟩ := Finset.exists_mem_eq_sup (Finset.univ : Finset (Fin n)) Finset.univ_nonempty s
  show IsReal ((Finset.univ : Finset (Fin n)).sup s)
  rw [hi]; exact hs i

/-- The exponential of a difference of real numbers is a positive real number. -/
theorem exp_sub_pos {x y : EReal} (hx : IsReal x) (hy : IsReal y) : ∃ r : ℝ, 0 < r ∧ Ideal.exp (x - y) = (r : EReal) := by
  obtain ⟨a, rfl⟩ := hx; obtain ⟨b, rfl⟩ := hy
  refine ⟨Real.exp (a - b), Real.exp_pos _, ?_⟩
  rw [← EReal.coe_sub]; rfl

/-- Multiplying a finite sum by a nonnegative real number distributes, whatever the terms. -/
theorem sum_mul_coe {ι : Type} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih]
    exact EReal.right_distrib_of_nonneg_of_ne_top (by exact_mod_cast hc) (EReal.coe_ne_top c) _ _

theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A sum of exponentials of real scores plus a nonnegative real is a positive real number. -/
theorem den_pos {n : ℕ} (hn : 0 < n) (s : Fin n → EReal) (M : EReal) (hs : ∀ j, IsReal (s j)) (hM : IsReal M) :
    ∃ d : ℝ, 0 < d ∧ ∑ j : Fin n, Ideal.exp (s j - M) = (d : EReal) := by
  choose r hr using fun j => exp_sub_pos (hs j) hM
  refine ⟨∑ j, r j, Finset.sum_pos (fun j _ => (hr j).1) ⟨⟨0, hn⟩, Finset.mem_univ _⟩, ?_⟩
  rw [Finset.sum_congr rfl fun j _ => (hr j).2]
  exact coe_sum _ _

/-- Division by a nonzero real number is multiplication by its inverse. -/
theorem div_coe (x : EReal) {d : ℝ} (hd : d ≠ 0) : Ideal.div x (d : EReal) = x * ((d⁻¹ : ℝ) : EReal) := by
  unfold Ideal.div
  rw [if_neg (by exact_mod_cast hd), EReal.coe_inv]

/-- **The normalised row.** Weights `e j` summed against the values and divided once by a positive real `d` are the
    values summed against the weights divided by `d` each. -/
theorem div_sum {n : ℕ} (e v : Fin n → EReal) {d : ℝ} (hd : 0 < d) :
    Ideal.div (∑ j, e j * v j) (d : EReal) = ∑ j, Ideal.div (e j) (d : EReal) * v j := by
  rw [div_coe _ hd.ne', sum_mul_coe _ _ _ (inv_nonneg.2 hd.le)]
  refine Finset.sum_congr rfl fun j _ => ?_
  rw [div_coe _ hd.ne', mul_right_comm]

/-- Scaling each left factor by a nonnegative real scales the sum of products. -/
theorem sum_scaled {n : ℕ} (q k : Fin n → EReal) {c : ℝ} (hc : 0 ≤ c) :
    ∑ e, (q e * (c : EReal)) * k e = (∑ e, q e * k e) * (c : EReal) := by
  rw [sum_mul_coe _ _ _ hc]
  exact Finset.sum_congr rfl fun e _ => mul_right_comm _ _ _

/-- The scale of the attention, one eighth, as a bf16 constant. -/
theorem scale_bf16 : Ideal.ofBits .bf16 0x3E00#16 = (((1 : ℝ) / 8 : ℝ) : EReal) := by
  simp [Ideal.ofBits, Ideal.ieee, -EReal.coe_mul]; norm_num

/-- The scale of the attention, one eighth, as an f32 constant. -/
theorem scale_f32 : Ideal.ofBits .f32 0x3E000000#32 = (((1 : ℝ) / 8 : ℝ) : EReal) := by
  simp [Ideal.ofBits, Ideal.ieee, -EReal.coe_mul]; norm_num

/-- The bits of minus infinity. -/
theorem ofBits_neg_inf : Ideal.ofBits .f32 0xFF800000#32 = ⊥ := by simp [Ideal.ofBits, Ideal.ieee]

/-- The bits of plus infinity. -/
theorem ofBits_pos_inf : Ideal.ofBits .f32 0x7F800000#32 = ⊤ := by simp [Ideal.ofBits, Ideal.ieee]

/-- **Softmax attention without a sink.** -/
theorem row_plain {n : ℕ} (hn : 0 < n) (s v : Fin n → EReal) (hs : ∀ j, IsReal (s j)) (M : EReal)
    (hM : M = (Finset.univ : Finset (Fin n)).fold max ⊥ s) :
    Ideal.div (∑ j, Ideal.exp (s j - M) * v j) (∑ j, Ideal.exp (s j - M))
      = ∑ j, Ideal.div (Ideal.exp (s j - M)) (∑ j, Ideal.exp (s j - M)) * v j := by
  obtain ⟨d, hd, h⟩ := den_pos hn s M hs (hM ▸ fold_max_isReal hn s hs)
  rw [h]; exact div_sum _ _ hd

/-- **Softmax attention with a sink**, a score that enters the maximum and the normaliser and carries no value. -/
theorem row_sink {n : ℕ} (hn : 0 < n) (s v : Fin n → EReal) (hs : ∀ j, IsReal (s j)) (σ : EReal) (hσ : IsReal σ) (M : EReal)
    (hM : M = max ((Finset.univ : Finset (Fin n)).fold max ⊥ s) σ) :
    Ideal.div (∑ j, Ideal.exp (s j - M) * v j) ((∑ j, Ideal.exp (s j - M)) + Ideal.exp (σ - M))
      = ∑ j, Ideal.div (Ideal.exp (s j - M)) ((∑ j, Ideal.exp (s j - M)) + Ideal.exp (σ - M)) * v j := by
  have hM' : IsReal M := hM ▸ max_isReal (fold_max_isReal hn s hs) hσ
  obtain ⟨d, hd, h⟩ := den_pos hn s M hs hM'
  obtain ⟨r, hr, h'⟩ := exp_sub_pos hσ hM'
  rw [h, h', ← EReal.coe_add]; exact div_sum _ _ (add_pos hd hr)

end Cert.Attn

end
-- ==== Proof.CtxBlock.lean ====
/- The stages of the context attention at an index, over the ideal floats: each row of the result belongs to one head and
   one query, and is a softmax of that head's scores. -/
module

public import proofs.«01_k».proof.Proof.CtxStages
public import proofs.«01_k».proof.Proof.SoftmaxAlgebra
public import Idealize.ShloMosaic.Lib.Pointwise

@[expose] public section

noncomputable section

namespace Cert.Attn

open Cert.KernelIdeal Cert.KernelIdeal.Gen Idealize.ShloMosaic Idealize.ShloMosaic.TcCoe

/-- Lane `e` of head `h`. -/
def col (h : Fin 4) (e : Fin 64) : Fin 256 := ⟨64 * h.val + e.val, by omega⟩

/-- Row `l` of head `h` among the stacked rows. -/
def stk (h : Fin 4) (l : Fin 256) : Fin 1024 := ⟨256 * h.val + l.val, by omega⟩

/-- The mask of one position. -/
def headBit (n w h : BitVec 32) : BitVec 1 :=
  isHead (s := ⟨0, ![]⟩) (fun _ => n) w h (fun a => a.elim0)

theorem headBit_lane : ∀ (d : Fin 256) (h : Fin 4),
    headBit (BitVec.ofNat 32 d.val) 64#32 (BitVec.ofNat 32 h.val) = if d.val / 64 = h.val then 1#1 else 0#1 := by decide +kernel

theorem headBit_row : ∀ (d : Fin 1024) (h : Fin 4),
    headBit (BitVec.ofNat 32 d.val) 256#32 (BitVec.ofNat 32 h.val) = if d.val / 256 = h.val then 1#1 else 0#1 := by decide +kernel

theorem isHead_lanes (l d : Fin 256) (h : Fin 4) :
    isHead lanes 64#32 (BitVec.ofNat 32 h.val) (ix2 l d) = if d.val / 64 = h.val then 1#1 else 0#1 := by
  rw [← headBit_lane]
  have : (0 * 256 + d.val) = d.val := by omega
  show headBit (BitVec.ofNat 32 (0 * 256 + d.val)) _ _ = _
  rw [this]

theorem isHead_rows (r : Fin 1024) (h : Fin 4) :
    isHead rows 256#32 (BitVec.ofNat 32 h.val) (ix2 r 0) = if r.val / 256 = h.val then 1#1 else 0#1 := by
  rw [← headBit_row]
  have : (0 * 1024 + r.val) = r.val := by omega
  show headBit (BitVec.ofNat 32 (0 * 1024 + r.val)) _ _ = _
  rw [this]

/-- The queries of one head: its own lanes scaled, the others zero. -/
theorem headOnly_apply (q : FVec Ideal S256x256 .bf16) (h : Fin 4) (l d : Fin 256) :
    headOnly q (BitVec.ofNat 32 h.val) (ix2 l d) = if d.val / 64 = h.val then q (ix2 l d) * (((1 : ℝ) / 8 : ℝ) : EReal) else 0 := by
  show Scalar.select (isHead lanes 64#32 (BitVec.ofNat 32 h.val) (ix2 l d)) (q (ix2 l d) * Ideal.ofBits .bf16 0x3E00#16) (Ideal.ofBits .bf16 0x0000#16) = _
  rw [isHead_lanes, scale_bf16]
  have h0 : Ideal.ofBits .bf16 0x0000#16 = 0 := by simp [Ideal.ofBits, Ideal.ieee]
  rw [h0]
  unfold Scalar.select
  split_ifs <;> simp_all

/-- A row of the stacked queries. -/
theorem stacked_apply (q : FVec Ideal S256x256 .bf16) (h : Fin 4) (l d : Fin 256) :
    stacked q (ix2 (stk h l) d) = if d.val / 64 = h.val then q (ix2 l d) * (((1 : ℝ) / 8 : ℝ) : EReal) else 0 := by
  rw [← headOnly_apply]
  unfold stacked
  have hl := l.isLt
  fin_cases h
  · exact concatenate_apply_piece (t := S1024x256) 0
      [⟨S256x256, headOnly q 0#32⟩, ⟨S256x256, headOnly q 1#32⟩, ⟨S256x256, headOnly q 2#32⟩, ⟨S256x256, headOnly q 3#32⟩]
      concatenates_S256x256_S256x256_S256x256_S256x256_S1024x256_d0 _ 0 (by simp) S256x256 (headOnly q 0#32) rfl rfl 0 rfl (ix2 l d)
      (fun b hb => by fin_cases b; exact absurd rfl hb; rfl) (by simp [stk])
  · exact concatenate_apply_piece (t := S1024x256) 0
      [⟨S256x256, headOnly q 0#32⟩, ⟨S256x256, headOnly q 1#32⟩, ⟨S256x256, headOnly q 2#32⟩, ⟨S256x256, headOnly q 3#32⟩]
      concatenates_S256x256_S256x256_S256x256_S256x256_S1024x256_d0 _ 1 (by simp) S256x256 (headOnly q 1#32) rfl rfl 256 rfl (ix2 l d)
      (fun b hb => by fin_cases b; exact absurd rfl hb; rfl) (by simp [stk])
  · exact concatenate_apply_piece (t := S1024x256) 0
      [⟨S256x256, headOnly q 0#32⟩, ⟨S256x256, headOnly q 1#32⟩, ⟨S256x256, headOnly q 2#32⟩, ⟨S256x256, headOnly q 3#32⟩]
      concatenates_S256x256_S256x256_S256x256_S256x256_S1024x256_d0 _ 2 (by simp) S256x256 (headOnly q 2#32) rfl rfl 512 rfl (ix2 l d)
      (fun b hb => by fin_cases b; exact absurd rfl hb; rfl) (by simp [stk])
  · exact concatenate_apply_piece (t := S1024x256) 0
      [⟨S256x256, headOnly q 0#32⟩, ⟨S256x256, headOnly q 1#32⟩, ⟨S256x256, headOnly q 2#32⟩, ⟨S256x256, headOnly q 3#32⟩]
      concatenates_S256x256_S256x256_S256x256_S256x256_S1024x256_d0 _ 3 (by simp) S256x256 (headOnly q 3#32) rfl rfl 768 rfl (ix2 l d)
      (fun b hb => by fin_cases b; exact absurd rfl hb; rfl) (by simp [stk])

/-- A sum over all lanes of products that vanish off head `h` is the sum over the head's own lanes. -/
theorem sum_head (h : Fin 4) (f : Fin 256 → EReal) (hf : ∀ d : Fin 256, d.val / 64 ≠ h.val → f d = 0) :
    ∑ d : Fin 256, f d = ∑ e : Fin 64, f (col h e) := by
  have hinj : Function.Injective (col h) := fun a b hab => by
    have := congrArg Fin.val hab; simp only [col] at this; exact Fin.ext (by omega)
  have hm : ∑ e : Fin 64, f (col h e) = ∑ d ∈ Finset.univ.map ⟨col h, hinj⟩, f d := (Finset.sum_map Finset.univ ⟨col h, hinj⟩ f).symm
  rw [hm]
  refine (Finset.sum_subset (Finset.subset_univ _) fun d _ hd => hf d fun hdiv => hd ?_).symm
  rw [Finset.mem_map]
  exact ⟨⟨d.val % 64, Nat.mod_lt _ (by omega)⟩, Finset.mem_univ _, Fin.ext (by simp only [Function.Embedding.coeFn_mk, col]; omega)⟩

/-- The score of head `h` for query `l` and key `j`: the scalar product over the head's lanes, scaled. -/
def score (q k : FVec Ideal S256x256 .bf16) (h : Fin 4) (l j : Fin 256) : EReal :=
  (∑ e : Fin 64, q (ix2 l (col h e)) * k (ix2 j (col h e))) * (((1 : ℝ) / 8 : ℝ) : EReal)

theorem scores_apply (q k : FVec Ideal S256x256 .bf16) (h : Fin 4) (l j : Fin 256) :
    scores q k (ix2 (stk h l) j) = score q k h l j := by
  have e : scores q k (ix2 (stk h l) j) = ∑ d : Fin 256, stacked q (ix2 (stk h l) d) * k (ix2 j d) := by
    unfold scores
    simp only [pointwise]
    rw [zero_add]
  rw [e, sum_head h]
  · unfold score
    rw [← sum_scaled _ _ (by norm_num)]
    refine Finset.sum_congr rfl fun e _ => ?_
    rw [stacked_apply, if_pos (by have := e.isLt; simp only [col]; omega)]
  · intro d hd
    rw [stacked_apply, if_neg hd, zero_mul]

/-- The greatest score of a row. -/
theorem rowMax_apply (s : FVec Ideal S1024x256 .f32) (r : Fin 1024) :
    rowMax s (ix2 r 0) = (Finset.univ : Finset (Fin 256)).fold max ⊥ fun j => s (ix2 r j) := by
  unfold rowMax
  simp only [pointwise]
  rw [ofBits_neg_inf]

/-- The sum of a row. -/
theorem rowSum_apply (p : FVec Ideal S1024x256 .f32) (r : Fin 1024) :
    rowSum p (ix2 r 0) = ∑ j : Fin 256, p (ix2 r j) := by
  unfold rowSum
  simp only [pointwise]

theorem weights_apply (s : FVec Ideal S1024x256 .f32) (m : FVec Ideal S1024x1 .f32) (r : Fin 1024) (j : Fin 256) :
    weights s m (ix2 r j) = Ideal.exp (s (ix2 r j) - m (ix2 r 0)) := by
  unfold weights
  simp only [pointwise]
  rfl

theorem mix_apply (p : FVec Ideal S1024x256 .f32) (den : FVec Ideal S1024x1 .f32) (v : FVec Ideal S256x256 .bf16) (r : Fin 1024) (d : Fin 256) :
    mix p den v (ix2 r d) = Ideal.div (∑ j : Fin 256, p (ix2 r j) * v (ix2 j d)) (den (ix2 r 0)) := by
  unfold mix
  simp only [pointwise]
  rw [zero_add]
  rfl

theorem sinkColumn_apply (s : Fin 4 → EReal) (h : Fin 4) (l : Fin 256) :
    sinkColumn (F := Ideal) (s 0) (s 1) (s 2) (s 3) (ix2 (stk h l) 0) = s h := by
  have e (g : Fin 4) := isHead_rows (stk h l) g
  have hd : (stk h l).val / 256 = h.val := by have := l.isLt; simp only [stk]; omega
  simp only [hd] at e
  show Scalar.select (isHead rows 256#32 3#32 (ix2 (stk h l) 0)) (s 3) (Scalar.select (isHead rows 256#32 2#32 (ix2 (stk h l) 0)) (s 2)
    (Scalar.select (isHead rows 256#32 1#32 (ix2 (stk h l) 0)) (s 1) (Scalar.select (isHead rows 256#32 0#32 (ix2 (stk h l) 0)) (s 0) _))) = _
  have e0 := e 0; have e1 := e 1; have e2 := e 2; have e3 := e 3
  simp only [show BitVec.ofNat 32 (0 : Fin 4).val = 0#32 from rfl, show BitVec.ofNat 32 (1 : Fin 4).val = 1#32 from rfl,
    show BitVec.ofNat 32 (2 : Fin 4).val = 2#32 from rfl, show BitVec.ofNat 32 (3 : Fin 4).val = 3#32 from rfl] at e0 e1 e2 e3
  rw [e0, e1, e2, e3]
  fin_cases h <;> rfl

theorem pick_apply (o : FVec Ideal S1024x256 .f32) (l : Fin 256) (h : Fin 4) (e : Fin 64) :
    pick o (ix3 0 l (col h e)) = o (ix2 (stk h l) (col h e)) := by
  have e' (g : Fin 4) := isHead_lanes l (col h e) g
  have hd : (col h e).val / 64 = h.val := by have := e.isLt; simp only [col]; omega
  simp only [hd] at e'
  have e0 := e' 0; have e1 := e' 1; have e2 := e' 2; have e3 := e' 3
  simp only [show BitVec.ofNat 32 (0 : Fin 4).val = 0#32 from rfl, show BitVec.ofNat 32 (1 : Fin 4).val = 1#32 from rfl,
    show BitVec.ofNat 32 (2 : Fin 4).val = 2#32 from rfl, show BitVec.ofNat 32 (3 : Fin 4).val = 3#32 from rfl] at e0 e1 e2 e3
  unfold pick
  simp only [pointwise]
  rw [e0, e1, e2, e3]
  fin_cases h
  · exact congrArg o (congrArg₂ ix2 (Fin.ext (by simp [stk])) (Fin.ext (by simp)))
  · exact congrArg o (congrArg₂ ix2 (Fin.ext (by simp [stk])) (Fin.ext (by simp)))
  · exact congrArg o (congrArg₂ ix2 (Fin.ext (by simp [stk])) (Fin.ext (by simp)))
  · exact congrArg o (congrArg₂ ix2 (Fin.ext (by simp [stk])) (Fin.ext (by simp)))

theorem flat_apply (x : Vec Ideal S1x256x256 .bf16) (l d : Fin 256) : flat x (ix2 l d) = x (ix3 0 l d) := by
  unfold flat
  simp only [pointwise]

/-- The lane of a key head that head `h` reads: two heads share one. -/
def kvLane (h : Fin 4) (e : Fin 64) : Fin 256 := ⟨64 * (h.val / 2) + e.val, by omega⟩

/-- The lane of a value head that head `h` reads, past the two key heads. -/
def valLane (h : Fin 4) (e : Fin 64) : Fin 256 := ⟨128 + 64 * (h.val / 2) + e.val, by omega⟩

theorem twice_apply (a b : Vec Ideal S1x256x64 .bf16) (j : Fin 256) (h : Fin 4) (e : Fin 64) :
    twice a b (ix2 j (col h e)) = if h.val / 2 = 0 then a (ix3 0 j e) else b (ix3 0 j e) := by
  have hs (c : Vec Ideal S1x256x64 .bf16) : shapeCast S256x64 c shapeCasts_S1x256x64_S256x64 (ix2 j e) = c (ix3 0 j e) := by
    simp only [pointwise]
  unfold twice
  fin_cases h
  · exact (concatenate_apply_piece (t := S256x256) 1
      [⟨S256x64, shapeCast S256x64 a shapeCasts_S1x256x64_S256x64⟩, ⟨S256x64, shapeCast S256x64 a shapeCasts_S1x256x64_S256x64⟩,
        ⟨S256x64, shapeCast S256x64 b shapeCasts_S1x256x64_S256x64⟩, ⟨S256x64, shapeCast S256x64 b shapeCasts_S1x256x64_S256x64⟩]
      concatenates_S256x64_S256x64_S256x64_S256x64_S256x256_d1 _ 0 (by simp) S256x64 _ rfl rfl 0 rfl (ix2 j e)
      (fun b hb => by fin_cases b; rfl; exact absurd rfl hb) (by simp [col])).trans (hs a)
  · exact (concatenate_apply_piece (t := S256x256) 1
      [⟨S256x64, shapeCast S256x64 a shapeCasts_S1x256x64_S256x64⟩, ⟨S256x64, shapeCast S256x64 a shapeCasts_S1x256x64_S256x64⟩,
        ⟨S256x64, shapeCast S256x64 b shapeCasts_S1x256x64_S256x64⟩, ⟨S256x64, shapeCast S256x64 b shapeCasts_S1x256x64_S256x64⟩]
      concatenates_S256x64_S256x64_S256x64_S256x64_S256x256_d1 _ 1 (by simp) S256x64 _ rfl rfl 64 rfl (ix2 j e)
      (fun b hb => by fin_cases b; rfl; exact absurd rfl hb) (by simp [col])).trans (hs a)
  · exact (concatenate_apply_piece (t := S256x256) 1
      [⟨S256x64, shapeCast S256x64 a shapeCasts_S1x256x64_S256x64⟩, ⟨S256x64, shapeCast S256x64 a shapeCasts_S1x256x64_S256x64⟩,
        ⟨S256x64, shapeCast S256x64 b shapeCasts_S1x256x64_S256x64⟩, ⟨S256x64, shapeCast S256x64 b shapeCasts_S1x256x64_S256x64⟩]
      concatenates_S256x64_S256x64_S256x64_S256x64_S256x256_d1 _ 2 (by simp) S256x64 _ rfl rfl 128 rfl (ix2 j e)
      (fun b hb => by fin_cases b; rfl; exact absurd rfl hb) (by simp [col])).trans (hs b)
  · exact (concatenate_apply_piece (t := S256x256) 1
      [⟨S256x64, shapeCast S256x64 a shapeCasts_S1x256x64_S256x64⟩, ⟨S256x64, shapeCast S256x64 a shapeCasts_S1x256x64_S256x64⟩,
        ⟨S256x64, shapeCast S256x64 b shapeCasts_S1x256x64_S256x64⟩, ⟨S256x64, shapeCast S256x64 b shapeCasts_S1x256x64_S256x64⟩]
      concatenates_S256x64_S256x64_S256x64_S256x64_S256x256_d1 _ 3 (by simp) S256x64 _ rfl rfl 192 rfl (ix2 j e)
      (fun b hb => by fin_cases b; rfl; exact absurd rfl hb) (by simp [col])).trans (hs b)

/-- A slab of 64 lanes of a block. -/
theorem ld_slab (x : Vec Ideal S1x256x256 .bf16) (n : ℕ) (inb : ∀ a, (![0, 0, n] : Fin 3 → ℕ) a + S1x256x64.size a ≤ S1x256x256.size a)
    (j : Fin 256) (e : Fin 64) (hn : n + e.val < 256) :
    View.ld x (Rect.unit (s := S1x256x256) ![0, 0, n] S1x256x64.size inb) (ix3 0 j e) = x (ix3 0 j ⟨n + e.val, hn⟩) := by
  rw [View.ld_unit]
  refine congrArg x (funext fun a => Fin.ext ?_)
  fin_cases a
  · rfl
  · show 0 + j.val = j.val; omega
  · rfl

/-- A row of attention without a sink: scores `s`, values `v`. -/
def plainRow (s v : Fin 256 → EReal) : EReal :=
  Ideal.div (∑ j, Ideal.exp (s j - (Finset.univ : Finset (Fin 256)).fold max ⊥ s) * v j)
    (∑ j, Ideal.exp (s j - (Finset.univ : Finset (Fin 256)).fold max ⊥ s))

/-- A row of attention with sink `σ`: scores `s`, values `v`. -/
def sinkRow (s v : Fin 256 → EReal) (σ : EReal) : EReal :=
  Ideal.div (∑ j, Ideal.exp (s j - max ((Finset.univ : Finset (Fin 256)).fold max ⊥ s) σ) * v j)
    ((∑ j, Ideal.exp (s j - max ((Finset.univ : Finset (Fin 256)).fold max ⊥ s) σ))
      + Ideal.exp (σ - max ((Finset.univ : Finset (Fin 256)).fold max ⊥ s) σ))

theorem attendPlain_apply (q k v : FVec Ideal S256x256 .bf16) (h : Fin 4) (l d : Fin 256) :
    attendPlain q k v (ix2 (stk h l) d) = plainRow (score q k h l) (fun j => v (ix2 j d)) := by
  have hs : (fun j => scores q k (ix2 (stk h l) j)) = score q k h l := funext fun j => scores_apply q k h l j
  unfold attendPlain plainRow
  rw [mix_apply, rowSum_apply]
  simp only [weights_apply, rowMax_apply, scores_apply]
  try rfl

theorem attendSink_apply (q k v : FVec Ideal S256x256 .bf16) (sk : FVec Ideal S1024x1 .f32) (h : Fin 4) (l d : Fin 256) :
    attendSink q k v sk (ix2 (stk h l) d) = sinkRow (score q k h l) (fun j => v (ix2 j d)) (sk (ix2 (stk h l) 0)) := by
  have hm : maximumf (rowMax (scores q k)) sk (ix2 (stk h l) 0)
      = max ((Finset.univ : Finset (Fin 256)).fold max ⊥ (score q k h l)) (sk (ix2 (stk h l) 0)) := by
    show max (rowMax (scores q k) (ix2 (stk h l) 0)) _ = _
    rw [rowMax_apply]
    simp only [scores_apply]
    try rfl
  unfold attendSink sinkRow
  rw [mix_apply]
  have hd (w : FVec Ideal S1024x256 .f32) (M : FVec Ideal S1024x1 .f32) (i : S1024x1.Idx) :
      addf (rowSum w) (exp (subf sk M)) i = rowSum w i + Ideal.exp (sk i - M i) := rfl
  rw [hd, rowSum_apply]
  simp only [weights_apply, hm, scores_apply]

/-- A point's first output block at row `l`, lane `e` of head `h`. -/
theorem sinkBlock_apply (x0 : Vec Ideal S4 .f32) (x1 x2 : Vec Ideal S1x256x256 .bf16) (l : Fin 256) (h : Fin 4) (e : Fin 64) :
    pick (attendSink (flat x1) (twice (View.ld x2 (Rect.unit ![0, 0, 0] S1x256x64.size inb_S1x256x256_S1x256x64_0_0_0)) (View.ld x2 (Rect.unit ![0, 0, 64] S1x256x64.size inb_S1x256x256_S1x256x64_0_0_64)))
          (twice (View.ld x2 (Rect.unit ![0, 0, 128] S1x256x64.size inb_S1x256x256_S1x256x64_0_0_128)) (View.ld x2 (Rect.unit ![0, 0, 192] S1x256x64.size inb_S1x256x256_S1x256x64_0_0_192)))
          (sinkColumn (x0 (ix1 0)) (x0 (ix1 1)) (x0 (ix1 2)) (x0 (ix1 3)))) (ix3 0 l (col h e))
      = sinkRow (fun j => (∑ i : Fin 64, x1 (ix3 0 l (col h i)) * x2 (ix3 0 j (kvLane h i))) * (((1 : ℝ) / 8 : ℝ) : EReal))
          (fun j => x2 (ix3 0 j (valLane h e))) (x0 (ix1 h)) := by
  rw [pick_apply, attendSink_apply, sinkColumn_apply (fun g => x0 (ix1 g))]
  have hk (j : Fin 256) (i : Fin 64) : twice (View.ld x2 (Rect.unit ![0, 0, 0] S1x256x64.size inb_S1x256x256_S1x256x64_0_0_0)) (View.ld x2 (Rect.unit ![0, 0, 64] S1x256x64.size inb_S1x256x256_S1x256x64_0_0_64)) (ix2 j (col h i))
      = x2 (ix3 0 j (kvLane h i)) := by
    rw [twice_apply, ld_slab _ _ _ _ _ (by omega), ld_slab _ _ _ _ _ (by omega)]
    split_ifs with h2
    · exact congrArg (fun c => x2 (ix3 0 j c)) (Fin.ext (by simp only [kvLane]; omega))
    · exact congrArg (fun c => x2 (ix3 0 j c)) (Fin.ext (by simp only [kvLane]; omega))
  have hv (j : Fin 256) (i : Fin 64) : twice (View.ld x2 (Rect.unit ![0, 0, 128] S1x256x64.size inb_S1x256x256_S1x256x64_0_0_128)) (View.ld x2 (Rect.unit ![0, 0, 192] S1x256x64.size inb_S1x256x256_S1x256x64_0_0_192)) (ix2 j (col h i))
      = x2 (ix3 0 j (valLane h i)) := by
    rw [twice_apply, ld_slab _ _ _ _ _ (by omega), ld_slab _ _ _ _ _ (by omega)]
    split_ifs with h2
    · exact congrArg (fun c => x2 (ix3 0 j c)) (Fin.ext (by simp only [valLane]; omega))
    · exact congrArg (fun c => x2 (ix3 0 j c)) (Fin.ext (by simp only [valLane]; omega))
  have hs : score (flat x1) (twice (View.ld x2 (Rect.unit ![0, 0, 0] S1x256x64.size inb_S1x256x256_S1x256x64_0_0_0)) (View.ld x2 (Rect.unit ![0, 0, 64] S1x256x64.size inb_S1x256x256_S1x256x64_0_0_64))) h l
      = fun j => (∑ i : Fin 64, x1 (ix3 0 l (col h i)) * x2 (ix3 0 j (kvLane h i))) * (((1 : ℝ) / 8 : ℝ) : EReal) := by
    funext j
    unfold score
    simp only [flat_apply, hk]
  rw [hs]
  simp only [hv]

/-- A point's second output block at row `l`, lane `e` of head `h`. -/
theorem plainBlock_apply (x3 x4 x5 : Vec Ideal S1x256x256 .bf16) (l : Fin 256) (h : Fin 4) (e : Fin 64) :
    pick (attendPlain (flat x3) (flat x4) (flat x5)) (ix3 0 l (col h e))
      = plainRow (fun j => (∑ i : Fin 64, x3 (ix3 0 l (col h i)) * x4 (ix3 0 j (col h i))) * (((1 : ℝ) / 8 : ℝ) : EReal))
          (fun j => x5 (ix3 0 j (col h e))) := by
  rw [pick_apply, attendPlain_apply]
  have hs : score (flat x3) (flat x4) h l
      = fun j => (∑ i : Fin 64, x3 (ix3 0 l (col h i)) * x4 (ix3 0 j (col h i))) * (((1 : ℝ) / 8 : ℝ) : EReal) := by
    funext j
    unfold score
    simp only [flat_apply]
  rw [hs]
  simp only [flat_apply]

end Cert.Attn

end
-- ==== Proof.CtxArray.lean ====
/- The two arrays the context attention's launch leaves: every point writes its block, so an element is a row of softmax
   attention over its own batch entry. -/
module

public import proofs.«01_k».proof.Proof.CtxBlock
public import Idealize.ShloMosaic.Lib.Pipeline.ValueKit

@[expose] public section

noncomputable section

namespace Cert.Attn

open Cert.KernelIdeal Cert.KernelIdeal.Gen Idealize.ShloMosaic Idealize.ShloMosaic.TcCoe
open Idealize.ShloMosaic.Pipeline (Dat)

/-- The projections of the layer: one row of lanes per token. -/
abbrev Proj := FVec Ideal S16x256x2048 .bf16

/-- Row `l` of entry `b`, at lane `c` of the 256 that begin at `n`. -/
def lane (z : Proj) (n : ℕ) (hn : n ≤ 1792) (b : Fin 16) (l c : Fin 256) : EReal := z (ix3 b l ⟨n + c.val, by omega⟩)

/-- The head of a lane. -/
def headOf (d : Fin 256) : Fin 4 := ⟨d.val / 64, by omega⟩

/-- A lane's place within its head. -/
def inHead (d : Fin 256) : Fin 64 := ⟨d.val % 64, by omega⟩

theorem col_headOf (d : Fin 256) : col (headOf d) (inHead d) = d := Fin.ext (by simp only [col, headOf, inHead]; omega)

/-- A score of the attention with sinks. -/
def cScore (z : Proj) (b : Fin 16) (h : Fin 4) (l j : Fin 256) : EReal :=
  (∑ i : Fin 64, lane z 768 (by omega) b l (col h i) * lane z 1024 (by omega) b j (kvLane h i)) * (((1 : ℝ) / 8 : ℝ) : EReal)

/-- A score of the attention without sinks. -/
def dScore (z : Proj) (b : Fin 16) (h : Fin 4) (l j : Fin 256) : EReal :=
  (∑ i : Fin 64, lane z 1280 (by omega) b l (col h i) * lane z 1536 (by omega) b j (col h i)) * (((1 : ℝ) / 8 : ℝ) : EReal)

/-- The attention with sinks. -/
def cOut (z : Proj) (s : FVec Ideal S4 .f32) : FVec Ideal S16x256x256 .bf16 := fun i =>
  sinkRow (cScore z (i 0) (headOf (i 2)) (i 1)) (fun j => lane z 1024 (by omega) (i 0) j (valLane (headOf (i 2)) (inHead (i 2)))) (s (ix1 (headOf (i 2))))

/-- The attention without sinks. -/
def dOut (z : Proj) : FVec Ideal S16x256x256 .bf16 := fun i =>
  plainRow (dScore z (i 0) (headOf (i 2)) (i 1)) (fun j => lane z 1792 (by omega) (i 0) j (i 2))

variable (m : (ℓ : Loc nD τ sig) → Buf (Elt Ideal) ℓ)

theorem index6 : ∀ t : Fin cfg0.N, win0_6.index t = ![t.val, 0, 0] := (by decide +kernel : ∀ t : Fin grid0.N, _)
theorem index7 : ∀ t : Fin cfg0.N, win0_7.index t = ![t.val, 0, 0] := (by decide +kernel : ∀ t : Fin grid0.N, _)
theorem index0 : ∀ t : Fin cfg0.N, win0_0.index t = ![0] := (by decide +kernel : ∀ t : Fin grid0.N, _)
theorem index1 : ∀ t : Fin cfg0.N, win0_1.index t = ![t.val, 0, 3] := (by decide +kernel : ∀ t : Fin grid0.N, _)
theorem index2 : ∀ t : Fin cfg0.N, win0_2.index t = ![t.val, 0, 4] := (by decide +kernel : ∀ t : Fin grid0.N, _)
theorem index3 : ∀ t : Fin cfg0.N, win0_3.index t = ![t.val, 0, 5] := (by decide +kernel : ∀ t : Fin grid0.N, _)
theorem index4 : ∀ t : Fin cfg0.N, win0_4.index t = ![t.val, 0, 6] := (by decide +kernel : ∀ t : Fin grid0.N, _)
theorem index5 : ∀ t : Fin cfg0.N, win0_5.index t = ![t.val, 0, 7] := (by decide +kernel : ∀ t : Fin grid0.N, _)

theorem iblk1_apply (c : Dev nD) (t : Fin cfg0.N) (l d : Fin 256) :
    iblk m c 1 t (ix3 0 l d) = lane (m ((c : Thread nD τ).loc main_arg0)) 768 (by omega) t l d := by
  unfold lane
  blk_ext! [iblk, V, index1 t]

theorem iblk2_apply (c : Dev nD) (t : Fin cfg0.N) (l d : Fin 256) :
    iblk m c 2 t (ix3 0 l d) = lane (m ((c : Thread nD τ).loc main_arg0)) 1024 (by omega) t l d := by
  unfold lane
  blk_ext! [iblk, V, index2 t]

theorem iblk3_apply (c : Dev nD) (t : Fin cfg0.N) (l d : Fin 256) :
    iblk m c 3 t (ix3 0 l d) = lane (m ((c : Thread nD τ).loc main_arg0)) 1280 (by omega) t l d := by
  unfold lane
  blk_ext! [iblk, V, index3 t]

theorem iblk4_apply (c : Dev nD) (t : Fin cfg0.N) (l d : Fin 256) :
    iblk m c 4 t (ix3 0 l d) = lane (m ((c : Thread nD τ).loc main_arg0)) 1536 (by omega) t l d := by
  unfold lane
  blk_ext! [iblk, V, index4 t]

theorem iblk5_apply (c : Dev nD) (t : Fin cfg0.N) (l d : Fin 256) :
    iblk m c 5 t (ix3 0 l d) = lane (m ((c : Thread nD τ).loc main_arg0)) 1792 (by omega) t l d := by
  unfold lane
  blk_ext! [iblk, V, index5 t]

theorem iblk0_apply (c : Dev nD) (t : Fin cfg0.N) (h : Fin 4) :
    iblk m c 0 t (ix1 h) = m ((c : Thread nD τ).loc main_arg1) (ix1 h) := by
  blk_ext! [iblk, V, index0 t]

theorem headOf_col (h : Fin 4) (e : Fin 64) : headOf (col h e) = h := Fin.ext (by simp only [col, headOf]; omega)

theorem inHead_col (h : Fin 4) (e : Fin 64) : inHead (col h e) = e := Fin.ext (by simp only [col, inHead]; omega)

theorem cOut_apply (z : Proj) (s : FVec Ideal S4 .f32) (b : Fin 16) (l : Fin 256) (h : Fin 4) (e : Fin 64) :
    cOut z s (ix3 b l (col h e)) = sinkRow (cScore z b h l) (fun j => lane z 1024 (by omega) b j (valLane h e)) (s (ix1 h)) := by
  show sinkRow (cScore z b (headOf (col h e)) l) (fun j => lane z 1024 (by omega) b j (valLane (headOf (col h e)) (inHead (col h e))))
    (s (ix1 (headOf (col h e)))) = _
  rw [headOf_col, inHead_col]

theorem dOut_apply (z : Proj) (b : Fin 16) (l : Fin 256) (h : Fin 4) (e : Fin 64) :
    dOut z (ix3 b l (col h e)) = plainRow (dScore z b h l) (fun j => lane z 1792 (by omega) b j (col h e)) := by
  show plainRow (dScore z b (headOf (col h e)) l) _ = _
  rw [headOf_col]; rfl

/-- What the launch leaves in its first result: the attention with sinks. -/
theorem array6 (c : Dev nD) :
    (dats m 0 c).arrAt 6 cfg0.N = cOut (m ((c : Thread nD τ).loc main_arg0)) (m ((c : Thread nD τ).loc main_arg1)) := by
  refine (dats m 0 c).arrAt_eq_of_covers 6 _ (by decide +kernel) fun t hf y => ?_
  blk_simp
  rw [after0_6]
  unfold outsAt0
  rw [out6_eq]
  obtain ⟨y0, l, d, rfl⟩ : ∃ (a : Fin 1) (b d : Fin 256), y = ix3 a b d := ⟨y 0, y 1, y 2, by funext a; fin_cases a <;> rfl⟩
  obtain rfl : y0 = 0 := Subsingleton.elim _ _
  have he : ((cfg0.win 6).blk t).view.emb (ix3 0 l d) = ix3 (n0 := 16) t l d := by blk_ext [index6 t]
  refine Eq.trans ?_ (congrArg (cOut _ _) he).symm
  obtain ⟨h, e, rfl⟩ : ∃ h e, d = col h e := ⟨headOf d, inHead d, (col_headOf d).symm⟩
  refine (sinkBlock_apply (iblk m c 0 t) (iblk m c 1 t) (iblk m c 2 t) l h e).trans ?_
  simp only [iblk0_apply, iblk1_apply, iblk2_apply]
  exact (cOut_apply _ _ t l h e).symm

/-- What the launch leaves in its second result: the attention without sinks. -/
theorem array7 (c : Dev nD) : (dats m 0 c).arrAt 7 cfg0.N = dOut (m ((c : Thread nD τ).loc main_arg0)) := by
  refine (dats m 0 c).arrAt_eq_of_covers 7 _ (by decide +kernel) fun t hf y => ?_
  blk_simp
  rw [after0_7]
  unfold outsAt0
  rw [out7_eq]
  obtain ⟨y0, l, d, rfl⟩ : ∃ (a : Fin 1) (b d : Fin 256), y = ix3 a b d := ⟨y 0, y 1, y 2, by funext a; fin_cases a <;> rfl⟩
  obtain rfl : y0 = 0 := Subsingleton.elim _ _
  have he : ((cfg0.win 7).blk t).view.emb (ix3 0 l d) = ix3 (n0 := 16) t l d := by blk_ext [index7 t]
  refine Eq.trans ?_ (congrArg (dOut _) he).symm
  obtain ⟨h, e, rfl⟩ : ∃ h e, d = col h e := ⟨headOf d, inHead d, (col_headOf d).symm⟩
  refine (plainBlock_apply (iblk m c 3 t) (iblk m c 4 t) (iblk m c 5 t) l h e).trans ?_
  simp only [iblk3_apply, iblk4_apply, iblk5_apply]
  exact (dOut_apply _ t l h e).symm

end Cert.Attn

end
-- ==== Proof.CtxRef.lean ====
/- What the reference of the context attention holds, element by element. -/
module

public import proofs.«01_k».proof.Proof.CtxArray
public import proofs.«01_k».proof.Proof.Gen.ReferenceIdeal.Read

@[expose] public section

noncomputable section

namespace Cert.Attn

open Cert.ReferenceIdeal.Read Idealize.ShloMosaic Idealize.ShloMosaic.TcCoe

/-- The query head `r` of group `g`. -/
def headGR (g r : Fin 2) : Fin 4 := ⟨2 * g.val + r.val, by omega⟩

abbrev Sink := FVec Ideal Cert.ReferenceIdeal.S4 .f32

theorem ref_q (z : Proj) (b : Fin 16) (g r : Fin 2) (l : Fin 256) (e : Fin 64) :
    val_main_v19 (F := Ideal) z (ix5 b g r l e) = lane z 768 (by omega) b l (col (headGR g r) e) := by
  pointwise [val_main_v19, val_main_v18, val_main_v8, val_main_v2, val_main_v0, lane, col, headGR]
  exact congrArg (fun c => z (ix3 b l c)) (Fin.ext (by dsimp only; omega))

theorem ref_k (z : Proj) (b : Fin 16) (g r : Fin 2) (j : Fin 256) (e : Fin 64) :
    val_main_v14 (F := Ideal) z (ix4 b g j e) = lane z 1024 (by omega) b j (kvLane (headGR g r) e) := by
  pointwise [val_main_v14, val_main_v9, val_main_v3, val_main_v0, lane, kvLane, headGR]
  exact congrArg (fun c => z (ix3 b j c)) (Fin.ext (by dsimp only; omega))

theorem ref_v (z : Proj) (b : Fin 16) (g r : Fin 2) (j : Fin 256) (e : Fin 64) :
    val_main_v15 (F := Ideal) z (ix4 b g j e) = lane z 1024 (by omega) b j (valLane (headGR g r) e) := by
  pointwise [val_main_v15, val_main_v10, val_main_v4, val_main_v0, lane, valLane, headGR]
  exact congrArg (fun c => z (ix3 b j c)) (Fin.ext (by dsimp only; omega))

theorem ref_score (z : Proj) (b : Fin 16) (g r : Fin 2) (l j : Fin 256) :
    val_main_v22 (F := Ideal) z (ix5 b g r l j) = cScore z b (headGR g r) l j := by
  pointwise [val_main_v22, val_main_v20, val_main_v21, val_main_cst, cScore]
  rw [scale_f32]
  simp only [ref_q, ref_k z b g r]

theorem ref_scoreSink (z : Proj) (s : Sink) (b : Fin 16) (g r : Fin 2) (l : Fin 256) (j : Fin 257) :
    val_main_v25 (F := Ideal) z s (ix5 b g r l j) = if h : j.val < 256 then cScore z b (headGR g r) l ⟨j.val, h⟩ else s (ix1 (headGR g r)) := by
  pointwise [val_main_v25, val_main_v24, val_main_v23]
  split_ifs with h
  · exact ref_score z b g r l ⟨j.val, h⟩
  · exact congrArg (fun c => s (ix1 c)) (Fin.ext (by simp only [headGR]; omega))

theorem ref_scoreSink_cast (z : Proj) (s : Sink) (b : Fin 16) (g r : Fin 2) (l j : Fin 256) (hj : j.val < 257) :
    val_main_v25 (F := Ideal) z s (ix5 b g r l ⟨j.val, hj⟩) = cScore z b (headGR g r) l j :=
  (ref_scoreSink z s b g r l _).trans (dif_pos j.isLt)

theorem ref_scoreSink_last (z : Proj) (s : Sink) (b : Fin 16) (g r : Fin 2) (l : Fin 256) (h : 256 < 257) :
    val_main_v25 (F := Ideal) z s (ix5 b g r l ⟨256, h⟩) = s (ix1 (headGR g r)) :=
  (ref_scoreSink z s b g r l _).trans (dif_neg (by simp))

/-- A maximum folded over one more place than `n`. -/
theorem fold_max_last {N n : ℕ} (hN : N = n + 1) (f : Fin N → EReal) :
    (Finset.univ : Finset (Fin N)).fold max ⊥ f
      = max ((Finset.univ : Finset (Fin n)).fold max ⊥ fun j => f ⟨j.val, by omega⟩) (f ⟨n, by omega⟩) := by
  subst hN
  show (Finset.univ : Finset (Fin (n + 1))).sup f = max ((Finset.univ : Finset (Fin n)).sup fun j => f (Fin.castSucc j)) (f (Fin.last n))
  rw [Fin.univ_castSuccEmb, Finset.sup_cons, Finset.sup_map, max_comm]
  rfl

/-- A sum over one more place than `n`. -/
theorem sum_last {N n : ℕ} (hN : N = n + 1) (f : Fin N → EReal) :
    ∑ j, f j = (∑ j : Fin n, f ⟨j.val, by omega⟩) + f ⟨n, by omega⟩ := by
  subst hN
  exact Fin.sum_univ_castSucc f

/-- The maximum of a row of the attention with sinks. -/
def cMax (z : Proj) (s : Sink) (b : Fin 16) (h : Fin 4) (l : Fin 256) : EReal :=
  max ((Finset.univ : Finset (Fin 256)).fold max ⊥ (cScore z b h l)) (s (ix1 h))

/-- The normaliser of a row of the attention with sinks. -/
def cDen (z : Proj) (s : Sink) (b : Fin 16) (h : Fin 4) (l : Fin 256) : EReal :=
  (∑ j, Ideal.exp (cScore z b h l j - cMax z s b h l)) + Ideal.exp (s (ix1 h) - cMax z s b h l)

theorem ref_rowMax (z : Proj) (s : Sink) (b : Fin 16) (g r : Fin 2) (l : Fin 256) :
    val_main_v26 (F := Ideal) z s (ix4 b g r l) = cMax z s b (headGR g r) l := by
  pointwise [val_main_v26, val_main_cst_0]
  rw [ofBits_neg_inf, fold_max_last (show 257 = 256 + 1 by norm_num)]
  unfold cMax
  simp only [ref_scoreSink_cast, ref_scoreSink_last]

theorem ref_max (z : Proj) (s : Sink) (b : Fin 16) (g r : Fin 2) (l : Fin 256) :
    val_main_v28 (F := Ideal) z s (ix4 b g r l) = cMax z s b (headGR g r) l := by
  have h : val_main_v27 (F := Ideal) (ix4 b g r l) = ⊥ := by
    pointwise [val_main_v27, val_main_cst_1]
    exact ofBits_neg_inf
  rw [val_main_v28_apply, Ideal.maximumf_def, h, max_eq_right bot_le, ref_rowMax]

theorem ref_exp (z : Proj) (s : Sink) (b : Fin 16) (g r : Fin 2) (l : Fin 256) (j : Fin 257) :
    val_main_v32 (F := Ideal) z s (ix5 b g r l j) = Ideal.exp (val_main_v25 (F := Ideal) z s (ix5 b g r l j) - cMax z s b (headGR g r) l) := by
  pointwise [val_main_v32, val_main_v31, val_main_v30, val_main_v29]
  rw [ref_max]

theorem ref_den (z : Proj) (s : Sink) (b : Fin 16) (g r : Fin 2) (l : Fin 256) :
    val_main_v33 (F := Ideal) z s (ix4 b g r l) = cDen z s b (headGR g r) l := by
  pointwise [val_main_v33, val_main_cst_2]
  rw [sum_last (show 257 = 256 + 1 by norm_num)]
  simp only [ref_exp, ref_scoreSink_cast, ref_scoreSink_last]
  simp [Ideal.ofBits, Ideal.ieee, cDen]

/-- The first result: the values summed against the normalised exponentials. -/
theorem ref_out (z : Proj) (s : Sink) (b : Fin 16) (l : Fin 256) (h : Fin 4) (e : Fin 64) :
    val_main_v60 (F := Ideal) z s (ix3 b l (col h e))
      = ∑ j : Fin 256, Ideal.div (Ideal.exp (cScore z b h l j - cMax z s b h l)) (cDen z s b h l) * lane z 1024 (by omega) b j (valLane h e) := by
  obtain ⟨g, r, rfl⟩ : ∃ g r, h = headGR g r := ⟨⟨h.val / 2, by omega⟩, ⟨h.val % 2, by omega⟩, Fin.ext (by simp only [headGR]; omega)⟩
  have e1 : val_main_v60 (F := Ideal) z s (ix3 b l (col (headGR g r) e)) = val_main_v38 (F := Ideal) z s (ix5 b g r l e) := by
    pointwise [val_main_v60, val_main_v40, val_main_v39]
    refine congrArg (val_main_v38 (F := Ideal) z s) ?_
    funext a
    fin_cases a <;> (refine Fin.ext ?_; simp [ix5, col, headGR]; try omega)
  rw [e1]
  have e2 (j : Fin 256) : val_main_v37 (F := Ideal) z s (ix5 b g r l j)
      = Ideal.div (Ideal.exp (cScore z b (headGR g r) l j - cMax z s b (headGR g r) l)) (cDen z s b (headGR g r) l) := by
    pointwise [val_main_v37, val_main_v36, val_main_v35, val_main_v34]
    rw [ref_exp, ref_den, ref_scoreSink_cast]
  pointwise [val_main_v38]
  simp only [e2, ref_v z b g r]

theorem ref_dscore (z : Proj) (b : Fin 16) (h : Fin 4) (l j : Fin 256) :
    val_main_v45 (F := Ideal) z (ix5 b h 0 l j) = dScore z b h l j := by
  pointwise [val_main_v45, val_main_v44, val_main_v43, val_main_v42, val_main_v41, val_main_v11, val_main_v5, val_main_v16, val_main_v12, val_main_v6, val_main_v0, dScore, val_main_cst_3]
  rw [scale_f32]
  refine congrArg (· * _) (Finset.sum_congr rfl fun e _ => ?_)
  unfold lane col
  refine congrArg₂ (· * ·) (congrArg (fun c => z (ix3 b l c)) (Fin.ext ?_)) (congrArg (fun c => z (ix3 b j c)) (Fin.ext ?_)) <;> (dsimp only; omega)

/-- The maximum of a row of the attention without sinks. -/
def dMax (z : Proj) (b : Fin 16) (h : Fin 4) (l : Fin 256) : EReal := (Finset.univ : Finset (Fin 256)).fold max ⊥ (dScore z b h l)

theorem ref_drowMax (z : Proj) (b : Fin 16) (h : Fin 4) (l : Fin 256) :
    val_main_v46 (F := Ideal) z (ix4 b h 0 l) = dMax z b h l := by
  pointwise [val_main_v46, val_main_cst_4]
  rw [ofBits_neg_inf]
  unfold dMax
  simp only [ref_dscore]

theorem ref_dmax (z : Proj) (b : Fin 16) (h : Fin 4) (l : Fin 256) :
    val_main_v48 (F := Ideal) z (ix4 b h 0 l) = dMax z b h l := by
  have h0 : val_main_v47 (F := Ideal) (ix4 b h 0 l) = ⊥ := by
    pointwise [val_main_v47, val_main_cst_5]
    exact ofBits_neg_inf
  rw [val_main_v48_apply, Ideal.maximumf_def, h0, max_eq_right bot_le, ref_drowMax]

theorem ref_dexp (z : Proj) (b : Fin 16) (h : Fin 4) (l j : Fin 256) :
    val_main_v52 (F := Ideal) z (ix5 b h 0 l j) = Ideal.exp (dScore z b h l j - dMax z b h l) := by
  pointwise [val_main_v52, val_main_v51, val_main_v50, val_main_v49]
  rw [ref_dmax, ref_dscore]

theorem ref_dden (z : Proj) (b : Fin 16) (h : Fin 4) (l : Fin 256) :
    val_main_v53 (F := Ideal) z (ix4 b h 0 l) = ∑ j, Ideal.exp (dScore z b h l j - dMax z b h l) := by
  pointwise [val_main_v53, val_main_cst_6]
  simp only [ref_dexp]

theorem ref_dv (z : Proj) (b : Fin 16) (h : Fin 4) (j : Fin 256) (e : Fin 64) :
    val_main_v17 (F := Ideal) z (ix4 b h j e) = lane z 1792 (by omega) b j (col h e) := by
  pointwise [val_main_v17, val_main_v13, val_main_v7, val_main_v0, lane, col]
  exact congrArg (fun c => z (ix3 b j c)) (Fin.ext (by dsimp only; omega))

/-- The second result: the values summed against the normalised exponentials. -/
theorem ref_dout (z : Proj) (b : Fin 16) (l : Fin 256) (h : Fin 4) (e : Fin 64) :
    val_main_v61 (F := Ideal) z (ix3 b l (col h e))
      = ∑ j : Fin 256, Ideal.div (Ideal.exp (dScore z b h l j - dMax z b h l)) (∑ j, Ideal.exp (dScore z b h l j - dMax z b h l))
          * lane z 1792 (by omega) b j (col h e) := by
  have e1 : val_main_v61 (F := Ideal) z (ix3 b l (col h e)) = val_main_v57 (F := Ideal) z (ix5 b h 0 l e) := by
    pointwise [val_main_v61, val_main_v59, val_main_v58]
    refine congrArg (val_main_v57 (F := Ideal) z) ?_
    funext a
    fin_cases a <;> (refine Fin.ext ?_; simp [ix5, col]; try omega)
  rw [e1]
  have e2 (j : Fin 256) : val_main_v56 (F := Ideal) z (ix5 b h 0 l j)
      = Ideal.div (Ideal.exp (dScore z b h l j - dMax z b h l)) (∑ j, Ideal.exp (dScore z b h l j - dMax z b h l)) := by
    pointwise [val_main_v56, val_main_v55, val_main_v54]
    rw [ref_dexp, ref_dden]
  pointwise [val_main_v57]
  simp only [e2, ref_dv]

end Cert.Attn

end
-- ==== Proof.CtxEq.lean ====
/- The equation of the context attention: where the queries, the keys and the sinks are real numbers, the kernel's rows,
   divided once by the normaliser, are the reference's rows, whose every weight is divided. -/
module

public import proofs.«01_k».proof.Proof.CtxRef
public import proofs.«01_k».proof.Defs

@[expose] public section

noncomputable section

namespace Cert.Attn

open Cert.ReferenceIdeal.Read Idealize.ShloMosaic Idealize.ShloMosaic.TcCoe

theorem cScore_real (z : Proj) (hz : ∀ (b : Fin 16) (l : Fin 256) (c : Fin 384), IsReal (z (ix3 b l ⟨768 + c.val, by omega⟩)))
    (b : Fin 16) (h : Fin 4) (l j : Fin 256) : IsReal (cScore z b h l j) := by
  refine IsReal.mul (IsReal.sum _ _ fun e _ => IsReal.mul ?_ ?_) ⟨_, rfl⟩
  · exact hz b l ⟨(col h e).val, by have := (col h e).isLt; omega⟩
  · have := hz b j ⟨256 + (kvLane h e).val, by simp only [kvLane]; omega⟩
    unfold lane
    convert this using 3
    exact Fin.ext (by dsimp only; omega)

theorem dScore_real (z : Proj) (hz : ∀ (b : Fin 16) (l : Fin 256) (c : Fin 512), IsReal (z (ix3 b l ⟨1280 + c.val, by omega⟩)))
    (b : Fin 16) (h : Fin 4) (l j : Fin 256) : IsReal (dScore z b h l j) := by
  refine IsReal.mul (IsReal.sum _ _ fun e _ => IsReal.mul ?_ ?_) ⟨_, rfl⟩
  · exact hz b l ⟨(col h e).val, by have := (col h e).isLt; omega⟩
  · have := hz b j ⟨256 + (col h e).val, by have := (col h e).isLt; omega⟩
    unfold lane
    convert this using 3
    exact Fin.ext (by dsimp only; omega)

theorem idx_cases (i : Cert.KernelIdeal.S16x256x256.Idx) : ∃ (b : Fin 16) (l : Fin 256) (h : Fin 4) (e : Fin 64), i = ix3 b l (col h e) := by
  obtain ⟨b, l, d, rfl⟩ : ∃ (b : Fin 16) (l d : Fin 256), i = ix3 b l d := ⟨i 0, i 1, i 2, by funext a; fin_cases a <;> rfl⟩
  exact ⟨b, l, headOf d, inHead d, by rw [col_headOf]⟩

/-- The first results agree. -/
theorem cOut_eq (z : Proj) (s : Sink) (hz : ∀ (b : Fin 16) (l : Fin 256) (c : Fin 384), IsReal (z (ix3 b l ⟨768 + c.val, by omega⟩)))
    (hs : ∀ h : Fin 4, IsReal (s (ix1 h))) : val_main_v60 (F := Ideal) z s = cOut z s := by
  funext i
  obtain ⟨b, l, h, e, rfl⟩ := idx_cases i
  rw [ref_out, cOut_apply]
  exact (row_sink (by norm_num) _ _ (cScore_real z hz b h l) _ (hs h) _ rfl).symm

/-- The second results agree. -/
theorem dOut_eq (z : Proj) (hz : ∀ (b : Fin 16) (l : Fin 256) (c : Fin 512), IsReal (z (ix3 b l ⟨1280 + c.val, by omega⟩))) :
    val_main_v61 (F := Ideal) z = dOut z := by
  funext i
  obtain ⟨b, l, h, e, rfl⟩ := idx_cases i
  rw [ref_dout, dOut_apply]
  exact (row_plain (by norm_num) _ _ (dScore_real z hz b h l) _ rfl).symm

/-- The comparison of the precondition, on one value. -/
theorem isReal_of_cmp {x : EReal} (h : Ideal.cmp .olt (max x (-x)) (Ideal.ofBits .f32 0x7F800000#32) = 1#1) : IsReal x := by
  rw [ofBits_pos_inf] at h
  refine isReal_of_abs_lt_top ?_
  by_contra hn
  simp [Ideal.cmp, hn] at h

section Pre
variable [Cert.Pre_finite_scores.Facts]

theorem pre_c {z : Proj} {s : Sink} (h : (Cert.Pre_finite_scores.fn (F := Ideal) z s).1 = fun _ => 1#1) (b : Fin 16) (l : Fin 256) (c : Fin 384) :
    IsReal (z (ix3 b l ⟨768 + c.val, by omega⟩)) := by
  have h1 := congrFun h (ix3 b l c)
  refine isReal_of_cmp (Eq.trans ?_ h1)
  pointwise [Cert.Pre_finite_scores.fn]
  rfl

theorem pre_d {z : Proj} {s : Sink} (h : (Cert.Pre_finite_scores.fn (F := Ideal) z s).2.1 = fun _ => 1#1) (b : Fin 16) (l : Fin 256) (c : Fin 512) :
    IsReal (z (ix3 b l ⟨1280 + c.val, by omega⟩)) := by
  have h1 := congrFun h (ix3 b l c)
  refine isReal_of_cmp (Eq.trans ?_ h1)
  pointwise [Cert.Pre_finite_scores.fn]
  rfl

theorem pre_s {z : Proj} {s : Sink} (h : (Cert.Pre_finite_scores.fn (F := Ideal) z s).2.2 = fun _ => 1#1) (g : Fin 4) : IsReal (s (ix1 g)) := by
  have h1 := congrFun h (ix1 g)
  refine isReal_of_cmp (Eq.trans ?_ h1)
  pointwise [Cert.Pre_finite_scores.fn]
  rfl

end Pre

end Cert.Attn

end
-- ==== Proof.CtxClaim.lean ====
/- The context attention's claims: the kernel and its reference end with equal results, and the reference's frame. -/
module

public import proofs.«01_k».proof.Proof.CtxEq
public import Idealize.ShloMosaic.Adequacy
public import Idealize.ShloMosaic.Init

@[expose] public section

noncomputable section

namespace Cert.Attn

open Idealize.ShloMosaic Idealize.ShloMosaic.TcCoe Idealize.SL.Sem

theorem preFacts : Cert.Pre_finite_scores.Facts where
  bitsLt_bf16_f32 := by decide
  slices_S16x256x2048_S16x256x384_0_0_768 := by decide +kernel
  bcast_S_S16x256x384 := by decide +kernel
  slices_S16x256x2048_S16x256x512_0_0_1280 := by decide +kernel
  bcast_S_S16x256x512 := by decide +kernel
  bcast_S_S4 := by decide +kernel

/-- The reference runs, leaves its arguments alone and ends with every counter at zero. -/
theorem reference_frame : Cert.quiescent_ReferenceIdeal (hReferenceIdeal := Cert.ReferenceIdeal.Gen.facts) := fun m ρ _ =>
  (θ_run _ _ _).mono (fun r h => ⟨fun c => ⟨(h c).2.2.1, (h c).2.2.2⟩, Idealize.ShloMosaic.sem_eq_zero_of_no_sems (by decide) r.2⟩)
    (Cert.ReferenceIdeal.Value.run m ρ)

/-- The kernel and the reference, from equal arguments with real scores, end with equal results. -/
theorem equal_results : Cert.algebraic_KernelIdeal_ReferenceIdeal_pre_finite_scores (hKernelIdeal := Cert.KernelIdeal.Gen.facts)
    (hReferenceIdeal := Cert.ReferenceIdeal.Gen.facts) (hPre_finite_scores := preFacts) := by
  intro m ρ m' ρ' hpre hagree
  have := preFacts
  refine ⟨fun c => cOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    fun c => dOut (m ((c.tc : Thread Cert.KernelIdeal.nD Cert.KernelIdeal.τ).loc Cert.KernelIdeal.main_arg0)), ?_, ?_⟩
  · refine (θ_run _ _ _).mono (fun r h c => ?_) (Cert.KernelIdeal.Value.run_blocks m ρ)
    exact ⟨(h c).1.trans (array6 m c), (h c).2.1.trans (array7 m c), (h c).2.2.1, (h c).2.2.2⟩
  · refine (θ_run _ _ _).mono (fun r h c => ?_) (Cert.ReferenceIdeal.Value.run m' ρ')
    refine ⟨(h c).1.trans ?_, (h c).2.1.trans ?_, (h c).2.2.1, (h c).2.2.2⟩
    · rw [Cert.ReferenceIdeal.Read.val_main_v60_eq, (hagree c).1, (hagree c).2]
      exact cOut_eq _ _ (pre_c (hpre c).1) (pre_s (hpre c).2.2)
    · rw [Cert.ReferenceIdeal.Read.val_main_v61_eq, (hagree c).1]
      exact dOut_eq _ (pre_d (hpre c).2.1)

end Cert.Attn

end
-- ==== Proof.MergeRow.lean ====
/- The merge on one token: the normalised and modulated row, the gated branches and the output projection, and what the
   kernel's stages hold at an index. -/
module

public import proofs.«01_k».proof.Proof.Gen.MergeIdeal.Value
public import Idealize.ShloMosaic.Lib.Pointwise
public import Idealize.ShloMosaic.Lib.Pipeline.ValueKit

@[expose] public section

noncomputable section

namespace Cert.Mix

open Cert.MergeIdeal Cert.MergeIdeal.Gen Idealize.ShloMosaic Idealize.ShloMosaic.TcCoe

/-- A token's row, divided by its root mean square, scaled by the norm's weights and modulated. -/
def hrow (x g sc sh : Fin 1024 → EReal) (d : Fin 1024) : EReal :=
  x d * Ideal.rsqrt (Ideal.div (∑ k, x k * x k) (Ideal.ofBits .f32 0x44800000#32) + Ideal.ofBits .f32 0x358637BD#32) * g d
    * (Ideal.ofBits .f32 0x3F800000#32 + sc d) + sh d

/-- The branches' projections, each gated, summed. -/
def merged (h : Fin 1024 → EReal) (wg : Fin 4 → Fin 1024 → Fin 1024 → EReal) (br : Fin 4 → Fin 256 → EReal)
    (wb : Fin 4 → Fin 256 → Fin 1024 → EReal) (d : Fin 1024) : EReal :=
  ∑ n : Fin 4, Ideal.logistic (∑ k, h k * wg n k d) * ∑ c, br n c * wb n c d

/-- The row after the residual. -/
def outRow (x g1 mg : Fin 1024 → EReal) (wo : Fin 1024 → Fin 1024 → EReal) (d : Fin 1024) : EReal :=
  x d + g1 d * ∑ k, mg k * wo k d

theorem pay3_apply (v0 : Vec Ideal S1x512x1024 .f32) (v2 : Vec Ideal S1x1024 .f32) (v3 v5 : Vec Ideal S1x1x1024 .f32) (r : Fin 512) (d : Fin 1024) :
    k0_pay3 v0 v2 v3 v5 (ix2 r d)
      = hrow (fun k => v0 (ix3 0 r k)) (fun k => v2 (ix2 0 k)) (fun k => v3 (ix3 0 0 k)) (fun k => v5 (ix3 0 0 k)) d := by
  pointwise [k0_pay3, k0_pay2, hrow]

theorem pay5_apply (v0 : Vec Ideal S1x512x1024 .f32) (v2 : Vec Ideal S1x1024 .f32) (v3 v5 : Vec Ideal S1x1x1024 .f32) (w : Vec Ideal S1x1024x1024 .bf16) (r : Fin 512) (d : Fin 1024) :
    k0_pay5 v0 v2 v3 v5 w (ix2 r d) = Ideal.logistic (∑ k : Fin 1024, k0_pay3 v0 v2 v3 v5 (ix2 r k) * w (ix3 0 k d)) := by
  pointwise [k0_pay5]

theorem pay7_apply (h : FVec Ideal S512x1024 .bf16) (z g : FVec Ideal S512x1024 .f32) (b0 : FVec Ideal S512x256 .bf16)
    (wb0 : Vec Ideal S1x1x256x1024 .bf16) (w1 : Vec Ideal S1x1024x1024 .bf16) (b1 : Vec Ideal S1x512x256 .bf16) (wb1 : Vec Ideal S1x1x256x1024 .bf16)
    (w2 : Vec Ideal S1x1024x1024 .bf16) (b2 : Vec Ideal S1x512x256 .bf16) (wb2 : Vec Ideal S1x1x256x1024 .bf16) (r : Fin 512) (d : Fin 1024) :
    k0_pay7 h z g b0 wb0 w1 b1 wb1 w2 b2 wb2 (ix2 r d)
      = z (ix2 r d) + g (ix2 r d) * (∑ c : Fin 256, b0 (ix2 r c) * wb0 (ix4 0 0 c d))
        + Ideal.logistic (∑ k : Fin 1024, h (ix2 r k) * w1 (ix3 0 k d)) * (∑ c : Fin 256, b1 (ix3 0 r c) * wb1 (ix4 0 0 c d))
        + Ideal.logistic (∑ k : Fin 1024, h (ix2 r k) * w2 (ix3 0 k d)) * (∑ c : Fin 256, b2 (ix3 0 r c) * wb2 (ix4 0 0 c d)) := by
  pointwise [k0_pay7]

theorem pay1_apply (x : FVec Ideal S512x1024 .f32) (h : FVec Ideal S512x1024 .bf16) (mg : FVec Ideal S512x1024 .f32) (w3 : FVec Ideal S1024x1024 .bf16)
    (b3 : Vec Ideal S1x512x256 .bf16) (wb3 : Vec Ideal S1x1x256x1024 .bf16) (g1 : Vec Ideal S1x1x1024 .f32) (wo : Vec Ideal S1x1024x1024 .bf16) (r : Fin 512) (d : Fin 1024) :
    k0_pay1 x h mg w3 (constant S512x1024 .f32 0x00000000#32) b3 wb3 g1 wo (ix3 0 r d)
      = outRow (fun k => x (ix2 r k)) (fun k => g1 (ix3 0 0 k))
          (fun k => mg (ix2 r k) + Ideal.logistic (∑ i : Fin 1024, h (ix2 r i) * w3 (ix2 i k)) * (∑ c : Fin 256, b3 (ix3 0 r c) * wb3 (ix4 0 0 c k)))
          (fun k j => wo (ix3 0 k j)) d := by
  pointwise [k0_pay1, outRow]

end Cert.Mix

end
-- ==== Proof.MergeArray.lean ====
/- The array the merge's launch leaves: every point writes its 512 tokens, each the merged row of its own token. -/
module

public import proofs.«01_k».proof.Proof.MergeRow

@[expose] public section

noncomputable section

namespace Cert.Mix

open Cert.MergeIdeal Cert.MergeIdeal.Gen Idealize.ShloMosaic Idealize.ShloMosaic.TcCoe
open Idealize.ShloMosaic.Pipeline (Dat)

/-- The modulation of entry `b`, the `n`-th of its six rows of 1024. -/
def modRow (md : FVec Ideal S8x1x6144 .f32) (n : Fin 6) (b : Fin 8) (d : Fin 1024) : EReal := md (ix3 b 0 ⟨1024 * n.val + d.val, by omega⟩)

/-- The merge of the four branches into the residual stream. -/
def mergeOut (x : FVec Ideal S8x2048x1024 .f32) (g : FVec Ideal S1x1024 .f32) (md : FVec Ideal S8x1x6144 .f32)
    (br : Fin 4 → FVec Ideal S8x2048x256 .bf16) (w : FVec Ideal S2x1024x6144 .bf16) (wb : FVec Ideal S2x4x256x1024 .bf16)
    (wo : FVec Ideal S2x1024x1024 .bf16) (b : Fin 8) (l : Fin 2048) (d : Fin 1024) : EReal :=
  outRow (fun k => x (ix3 b l k)) (modRow md 2 b)
    (merged (hrow (fun k => x (ix3 b l k)) (fun k => g (ix2 0 k)) (modRow md 1 b) (modRow md 0 b))
      (fun n k j => w (ix3 0 k ⟨2048 + 1024 * n.val + j.val, by omega⟩)) (fun n c => br n (ix3 b l c)) (fun n c j => wb (ix4 0 n c j)))
    (fun k j => wo (ix3 0 k j)) d

theorem merged_four (h : Fin 1024 → EReal) (wg : Fin 4 → Fin 1024 → Fin 1024 → EReal) (br : Fin 4 → Fin 256 → EReal)
    (wb : Fin 4 → Fin 256 → Fin 1024 → EReal) (d : Fin 1024) :
    merged h wg br wb d = 0 + Ideal.logistic (∑ k, h k * wg 0 k d) * (∑ c, br 0 c * wb 0 c d)
      + Ideal.logistic (∑ k, h k * wg 1 k d) * (∑ c, br 1 c * wb 1 c d)
      + Ideal.logistic (∑ k, h k * wg 2 k d) * (∑ c, br 2 c * wb 2 c d)
      + Ideal.logistic (∑ k, h k * wg 3 k d) * (∑ c, br 3 c * wb 3 c d) := by
  unfold merged
  rw [Fin.sum_univ_four, zero_add]

theorem pay2_apply (x : Vec Ideal S1x512x1024 .f32) (r : Fin 512) (k : Fin 1024) : k0_pay2 x (ix2 r k) = x (ix3 0 r k) := by pointwise [k0_pay2]
theorem pay4_apply (r : Fin 512) (k : Fin 1024) : k0_pay4 (F := Ideal) (ix2 r k) = 0 := by pointwise [k0_pay4]
theorem pay6_apply (x : Vec Ideal S1x512x256 .bf16) (r : Fin 512) (k : Fin 256) : k0_pay6 x (ix2 r k) = x (ix3 0 r k) := by pointwise [k0_pay6]
theorem pay8_apply (x : Vec Ideal S1x1024x1024 .bf16) (r k : Fin 1024) : k0_pay8 x (ix2 r k) = x (ix3 0 r k) := by pointwise [k0_pay8]

/-- A half of the gate's columns. -/
theorem ld_gate (x : Vec Ideal S1x1024x2048 .bf16) (n : ℕ) (inb : ∀ a, (![0, 0, n] : Fin 3 → ℕ) a + S1x1024x1024.size a ≤ S1x1024x2048.size a)
    (k d : Fin 1024) (hn : n + d.val < 2048) :
    View.ld x (Rect.unit (s := S1x1024x2048) ![0, 0, n] S1x1024x1024.size inb) (ix3 0 k d) = x (ix3 0 k ⟨n + d.val, hn⟩) := by
  rw [View.ld_unit]
  refine congrArg x (funext fun a => Fin.ext ?_)
  fin_cases a
  · rfl
  · show 0 + k.val = k.val; omega
  · rfl

/-- One branch's projection weights. -/
theorem ld_branch (x : Vec Ideal S1x4x256x1024 .bf16) (n : Fin 4) (off : Fin 4 → ℕ) (hoff : off = ![0, n.val, 0, 0])
    (inb : ∀ a, off a + S1x1x256x1024.size a ≤ S1x4x256x1024.size a) (c : Fin 256) (d : Fin 1024) :
    View.ld x (Rect.unit (s := S1x4x256x1024) off S1x1x256x1024.size inb) (ix4 0 0 c d) = x (ix4 0 n c d) := by
  subst hoff
  rw [View.ld_unit]
  refine congrArg x (funext fun a => Fin.ext ?_)
  fin_cases a
  · rfl
  · rfl
  · show 0 + c.val = c.val; omega
  · show 0 + d.val = d.val; omega

theorem ld_branch_all (x : Vec Ideal S1x4x256x1024 .bf16) (n : Fin 4) (off : Fin 4 → ℕ) (hoff : off = ![0, n.val, 0, 0])
    (inb : ∀ a, off a + S1x1x256x1024.size a ≤ S1x4x256x1024.size a) :
    View.ld x (Rect.unit (s := S1x4x256x1024) off S1x1x256x1024.size inb) = (fun i => x (ix4 0 n (i 2) (i 3)) : Vec Ideal S1x1x256x1024 .bf16) := by
  funext i
  obtain ⟨a, b, k, d, rfl⟩ : ∃ (a b : Fin 1) (k : Fin 256) (d : Fin 1024), i = ix4 a b k d := ⟨i 0, i 1, i 2, i 3, by funext a; fin_cases a <;> rfl⟩
  obtain rfl : a = 0 := Subsingleton.elim _ _
  obtain rfl : b = 0 := Subsingleton.elim _ _
  exact ld_branch x n off hoff inb k d

theorem ld3 (x : Vec Ideal S1x1024x2048 .bf16) :
    View.ld x r0_3 = (fun i => x (ix3 0 (i 1) ⟨0 + (i 2).val, by have : (i 2).val < 1024 := (i 2).isLt; omega⟩) : Vec Ideal S1x1024x1024 .bf16) := by
  funext i
  obtain ⟨a, k, d, rfl⟩ : ∃ (a : Fin 1) (b d : Fin 1024), i = ix3 a b d := ⟨i 0, i 1, i 2, by funext a; fin_cases a <;> rfl⟩
  obtain rfl : a = 0 := Subsingleton.elim _ _
  exact ld_gate x 0 _ k d (by omega)
theorem ld6 (x : Vec Ideal S1x1024x2048 .bf16) :
    View.ld x r0_6 = (fun i => x (ix3 0 (i 1) ⟨1024 + (i 2).val, by have : (i 2).val < 1024 := (i 2).isLt; omega⟩) : Vec Ideal S1x1024x1024 .bf16) := by
  funext i
  obtain ⟨a, k, d, rfl⟩ : ∃ (a : Fin 1) (b d : Fin 1024), i = ix3 a b d := ⟨i 0, i 1, i 2, by funext a; fin_cases a <;> rfl⟩
  obtain rfl : a = 0 := Subsingleton.elim _ _
  exact ld_gate x 1024 _ k d (by omega)
theorem ld5 (x : Vec Ideal S1x4x256x1024 .bf16) :
    View.ld x r0_5 = (fun i => x (ix4 0 0 (i 2) (i 3)) : Vec Ideal S1x1x256x1024 .bf16) := ld_branch_all x 0 _ rfl _
theorem ld7 (x : Vec Ideal S1x4x256x1024 .bf16) :
    View.ld x r0_7 = (fun i => x (ix4 0 1 (i 2) (i 3)) : Vec Ideal S1x1x256x1024 .bf16) := ld_branch_all x 1 _ rfl _
theorem ld8 (x : Vec Ideal S1x4x256x1024 .bf16) :
    View.ld x r0_8 = (fun i => x (ix4 0 2 (i 2) (i 3)) : Vec Ideal S1x1x256x1024 .bf16) := ld_branch_all x 2 _ rfl _
theorem ld9 (x : Vec Ideal S1x4x256x1024 .bf16) :
    View.ld x r0_9 = (fun i => x (ix4 0 3 (i 2) (i 3)) : Vec Ideal S1x1x256x1024 .bf16) := ld_branch_all x 3 _ rfl _

/-- A point's output block at token `r`, lane `d`. -/
theorem block_apply (x0 : Vec Ideal S1x512x1024 .f32) (x1 : Vec Ideal S1x1024 .f32) (x2 x3 x4 : Vec Ideal S1x1x1024 .f32)
    (x5 x6 x7 x8 : Vec Ideal S1x512x256 .bf16) (x9 x10 : Vec Ideal S1x1024x2048 .bf16) (x11 : Vec Ideal S1x4x256x1024 .bf16)
    (x12 : Vec Ideal S1x1024x1024 .bf16) (r : Fin 512) (d : Fin 1024) :
    out0_13 x0 x1 x2 x3 x4 x5 x6 x7 x8 x9 x10 x11 x12 (ix3 0 r d)
      = outRow (fun k => x0 (ix3 0 r k)) (fun k => x4 (ix3 0 0 k))
          (merged (hrow (fun k => x0 (ix3 0 r k)) (fun k => x1 (ix2 0 k)) (fun k => x2 (ix3 0 0 k)) (fun k => x3 (ix3 0 0 k)))
            (fun n k j => if n.val < 2 then x9 (ix3 0 k ⟨1024 * (n.val % 2) + j.val, by omega⟩) else x10 (ix3 0 k ⟨1024 * (n.val % 2) + j.val, by omega⟩))
            (fun n c => (![x5, x6, x7, x8] : Fin 4 → Vec Ideal S1x512x256 .bf16) n (ix3 0 r c)) (fun n c j => x11 (ix4 0 n c j)))
          (fun k j => x12 (ix3 0 k j)) d := by
  unfold out0_13 k0_pay9
  rw [View.canon_unit_zero (by decide)]
  simp only [ld3, ld5, ld6, ld7, ld8, ld9]
  simp only [r0_0, r0_1, r0_2, r0_4, r0_10, View.ld_unit_zero (S := S1x512x1024) (off := ![0, 0, 0]) (by decide), View.ld_unit_zero (S := S1x1024) (off := ![0, 0]) (by decide),
    View.ld_unit_zero (S := S1x1x1024) (off := ![0, 0, 0]) (by decide), View.ld_unit_zero (S := S1x512x256) (off := ![0, 0, 0]) (by decide),
    View.ld_unit_zero (S := S1x1024x1024) (off := ![0, 0, 0]) (by decide)]
  rw [pay1_apply]
  refine congrArg₂ (fun f g => outRow f _ g _ d) (funext fun k => pay2_apply x0 r k) (funext fun k => ?_)
  rw [merged_four, pay7_apply, pay4_apply, pay5_apply]
  simp only [pay3_apply, pay6_apply, pay8_apply]
  rfl

variable (m : (ℓ : Loc nD τ sig) → Buf (Elt Ideal) ℓ)

theorem index0 : ∀ t : Fin cfg0.N, win0_0.index t = ![t.val / 4, t.val % 4, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val / 4, 0, 1] := (by decide +kernel : ∀ t : Fin grid0.N, _)
theorem index3 : ∀ t : Fin cfg0.N, win0_3.index t = ![t.val / 4, 0, 0] := (by decide +kernel : ∀ t : Fin grid0.N, _)
theorem index4 : ∀ t : Fin cfg0.N, win0_4.index t = ![t.val / 4, 0, 2] := (by decide +kernel : ∀ t : Fin grid0.N, _)
theorem index5 : ∀ t : Fin cfg0.N, win0_5.index t = ![t.val / 4, t.val % 4, 0] := (by decide +kernel : ∀ t : Fin grid0.N, _)
theorem index6 : ∀ t : Fin cfg0.N, win0_6.index t = ![t.val / 4, t.val % 4, 0] := (by decide +kernel : ∀ t : Fin grid0.N, _)
theorem index7 : ∀ t : Fin cfg0.N, win0_7.index t = ![t.val / 4, t.val % 4, 0] := (by decide +kernel : ∀ t : Fin grid0.N, _)
theorem index8 : ∀ t : Fin cfg0.N, win0_8.index t = ![t.val / 4, t.val % 4, 0] := (by decide +kernel : ∀ t : Fin grid0.N, _)
theorem index9 : ∀ t : Fin cfg0.N, win0_9.index t = ![0, 0, 1] := (by decide +kernel : ∀ t : Fin grid0.N, _)
theorem index10 : ∀ t : Fin cfg0.N, win0_10.index t = ![0, 0, 2] := (by decide +kernel : ∀ t : Fin grid0.N, _)
theorem index11 : ∀ t : Fin cfg0.N, win0_11.index t = ![0, 0, 0, 0] := (by decide +kernel : ∀ t : Fin grid0.N, _)
theorem index12 : ∀ t : Fin cfg0.N, win0_12.index t = ![0, 0, 0] := (by decide +kernel : ∀ t : Fin grid0.N, _)
theorem index13 : ∀ t : Fin cfg0.N, win0_13.index t = ![t.val / 4, t.val % 4, 0] := (by decide +kernel : ∀ t : Fin grid0.N, _)

theorem point_lt (t : Fin cfg0.N) : t.val < 32 := t.isLt

/-- The entry a point works on. -/
def entryOf (t : Fin cfg0.N) : Fin 8 := ⟨t.val / 4, by have := point_lt t; omega⟩

/-- The token at place `r` of a point's block. -/
def tokenOf (t : Fin cfg0.N) (r : Fin 512) : Fin 2048 := ⟨t.val % 4 * 512 + r.val, by omega⟩

section Blocks
variable (c : Dev nD) (t : Fin cfg0.N)

theorem iblk0_apply (r : Fin 512) (k : Fin 1024) : iblk m c 0 t (ix3 0 r k) = m ((c : Thread nD τ).loc main_arg0) (ix3 (entryOf t) (tokenOf t r) k) := by
  unfold entryOf tokenOf; blk_ext! [iblk, V, index0 t]
theorem iblk1_apply (k : Fin 1024) : iblk m c 1 t (ix2 0 k) = m ((c : Thread nD τ).loc main_arg1) (ix2 0 k) := by
  blk_ext! [iblk, V, index1 t]
theorem iblk2_apply (k : Fin 1024) : iblk m c 2 t (ix3 0 0 k) = modRow (m ((c : Thread nD τ).loc main_arg2)) 1 (entryOf t) k := by
  unfold entryOf modRow; blk_ext! [iblk, V, index2 t]
theorem iblk3_apply (k : Fin 1024) : iblk m c 3 t (ix3 0 0 k) = modRow (m ((c : Thread nD τ).loc main_arg2)) 0 (entryOf t) k := by
  unfold entryOf modRow; blk_ext! [iblk, V, index3 t]
theorem iblk4_apply (k : Fin 1024) : iblk m c 4 t (ix3 0 0 k) = modRow (m ((c : Thread nD τ).loc main_arg2)) 2 (entryOf t) k := by
  unfold entryOf modRow; blk_ext! [iblk, V, index4 t]
theorem iblk5_apply (r : Fin 512) (k : Fin 256) : iblk m c 5 t (ix3 0 r k) = m ((c : Thread nD τ).loc main_arg3) (ix3 (entryOf t) (tokenOf t r) k) := by
  unfold entryOf tokenOf; blk_ext! [iblk, V, index5 t]
theorem iblk6_apply (r : Fin 512) (k : Fin 256) : iblk m c 6 t (ix3 0 r k) = m ((c : Thread nD τ).loc main_arg4) (ix3 (entryOf t) (tokenOf t r) k) := by
  unfold entryOf tokenOf; blk_ext! [iblk, V, index6 t]
theorem iblk7_apply (r : Fin 512) (k : Fin 256) : iblk m c 7 t (ix3 0 r k) = m ((c : Thread nD τ).loc main_arg5) (ix3 (entryOf t) (tokenOf t r) k) := by
  unfold entryOf tokenOf; blk_ext! [iblk, V, index7 t]
theorem iblk8_apply (r : Fin 512) (k : Fin 256) : iblk m c 8 t (ix3 0 r k) = m ((c : Thread nD τ).loc main_arg6) (ix3 (entryOf t) (tokenOf t r) k) := by
  unfold entryOf tokenOf; blk_ext! [iblk, V, index8 t]
theorem iblk9_apply (k : Fin 1024) (d : Fin 2048) : iblk m c 9 t (ix3 0 k d) = m ((c : Thread nD τ).loc main_arg7) (ix3 0 k ⟨2048 + d.val, by omega⟩) := by
  blk_ext! [iblk, V, index9 t]
theorem iblk10_apply (k : Fin 1024) (d : Fin 2048) : iblk m c 10 t (ix3 0 k d) = m ((c : Thread nD τ).loc main_arg7) (ix3 0 k ⟨4096 + d.val, by omega⟩) := by
  blk_ext! [iblk, V, index10 t]
theorem iblk11_apply (n : Fin 4) (k : Fin 256) (d : Fin 1024) : iblk m c 11 t (ix4 0 n k d) = m ((c : Thread nD τ).loc main_arg8) (ix4 0 n k d) := by
  blk_ext! [iblk, V, index11 t]
theorem iblk12_apply (k d : Fin 1024) : iblk m c 12 t (ix3 0 k d) = m ((c : Thread nD τ).loc main_arg9) (ix3 0 k d) := by
  blk_ext! [iblk, V, index12 t]

end Blocks

/-- The array the launch leaves. -/
theorem array13 (c : Dev nD) :
    (dats m 0 c).arrAt 13 cfg0.N = (fun i : S8x2048x1024.Idx => mergeOut (m ((c : Thread nD τ).loc main_arg0)) (m ((c : Thread nD τ).loc main_arg1)) (m ((c : Thread nD τ).loc main_arg2))
      ![m ((c : Thread nD τ).loc main_arg3), m ((c : Thread nD τ).loc main_arg4), m ((c : Thread nD τ).loc main_arg5), m ((c : Thread nD τ).loc main_arg6)]
      (m ((c : Thread nD τ).loc main_arg7)) (m ((c : Thread nD τ).loc main_arg8)) (m ((c : Thread nD τ).loc main_arg9)) (i 0) (i 1) (i 2)) := by
  refine (dats m 0 c).arrAt_eq_of_covers 13 _ (by decide +kernel) fun t hf y => ?_
  blk_simp
  rw [after0_13]
  obtain ⟨y0, r, d, rfl⟩ : ∃ (a : Fin 1) (b : Fin 512) (d : Fin 1024), y = ix3 a b d := ⟨y 0, y 1, y 2, by funext a; fin_cases a <;> rfl⟩
  obtain rfl : y0 = 0 := Subsingleton.elim _ _
  have he : ((cfg0.win 13).blk t).view.emb (ix3 0 r d) = ix3 (entryOf t) (tokenOf t r) d := by unfold entryOf tokenOf; blk_ext [index13 t]
  refine Eq.trans ?_ (congrArg (fun i : S8x2048x1024.Idx => mergeOut (m ((c : Thread nD τ).loc main_arg0)) (m ((c : Thread nD τ).loc main_arg1)) (m ((c : Thread nD τ).loc main_arg2))
      ![m ((c : Thread nD τ).loc main_arg3), m ((c : Thread nD τ).loc main_arg4), m ((c : Thread nD τ).loc main_arg5), m ((c : Thread nD τ).loc main_arg6)]
      (m ((c : Thread nD τ).loc main_arg7)) (m ((c : Thread nD τ).loc main_arg8)) (m ((c : Thread nD τ).loc main_arg9)) (i 0) (i 1) (i 2)) he).symm
  rw [block_apply]
  unfold mergeOut
  simp only [iblk0_apply, iblk1_apply, iblk2_apply, iblk3_apply, iblk4_apply, iblk12_apply, iblk11_apply, iblk9_apply, iblk10_apply]
  congr 1
  refine congrArg₂ (fun wg br => merged _ wg br _) (funext fun n => funext fun k => funext fun j => ?_) (funext fun n => funext fun k => ?_)
  · fin_cases n <;> refine congrArg (fun e => m ((c : Thread nD τ).loc main_arg7) (ix3 0 k e)) (Fin.ext ?_) <;> simp <;> omega
  · fin_cases n
    · exact iblk5_apply m c t r k
    · exact iblk6_apply m c t r k
    · exact iblk7_apply m c t r k
    · exact iblk8_apply m c t r k

end Cert.Mix

end
-- ==== Proof.MergeRef.lean ====
/- What the reference of the merge holds, element by element. -/
module

public import proofs.«01_k».proof.Proof.MergeArray
public import proofs.«01_k».proof.Proof.Gen.MergeRefIdeal.Read

@[expose] public section

noncomputable section

namespace Cert.Mix

open Cert.MergeRefIdeal Cert.MergeRefIdeal.Read Idealize.ShloMosaic Idealize.ShloMosaic.TcCoe

variable (x : FVec Ideal S8x2048x1024 .f32) (g : FVec Ideal S1x1024 .f32) (md : FVec Ideal S8x1x6144 .f32)
  (ba bb bc bd : FVec Ideal S8x2048x256 .bf16) (w : FVec Ideal S2x1024x6144 .bf16) (wb : FVec Ideal S2x4x256x1024 .bf16)
  (wo : FVec Ideal S2x1024x1024 .bf16)

/-- The modulated row of token `l` of entry `b`. -/
def rowOf (b : Fin 8) (l : Fin 2048) : Fin 1024 → EReal :=
  hrow (fun k => x (ix3 b l k)) (fun k => g (ix2 0 k)) (modRow md 1 b) (modRow md 0 b)

theorem ref_row (b : Fin 8) (l : Fin 2048) (d : Fin 1024) : val_main_v24 (F := Ideal) x g md (ix3 b l d) = rowOf x g md b l d := by
  pointwise [val_main_v24, val_main_v23, val_main_v22, val_main_v21, val_main_v20, val_main_v19, val_main_cst_2, val_main_v18, val_main_v17, val_main_v16,
    val_main_v15, val_main_v14, val_main_v13, val_main_v12, val_main_v11, val_main_cst_1, val_main_v10, val_main_v9, val_main_cst_0, val_main_v8, val_main_v7,
    val_main_cst, val_main_v6, val_main_v1, val_main_v0, rowOf, hrow, modRow]

theorem ref_gate (b : Fin 8) (l : Fin 2048) (n : Fin 4) (d : Fin 1024) :
    val_main_v44 (F := Ideal) x g md w (ix4 b l n d) = ∑ k, rowOf x g md b l k * w (ix3 0 k ⟨2048 + 1024 * n.val + d.val, by omega⟩) := by
  pointwise [val_main_v44, val_main_v29, val_main_v28, val_main_v27, val_main_v26, val_main_v25]
  simp only [ref_row]
  exact Finset.sum_congr rfl fun k _ => congrArg (fun e => rowOf x g md b l k * w (ix3 0 k e)) (Fin.ext (by dsimp only; omega))

theorem ref_stack (b : Fin 8) (l : Fin 2048) (n : Fin 4) (k : Fin 256) :
    val_main_v38 (F := Ideal) ba bb bc bd (ix4 b l n k) = (![ba, bb, bc, bd] : Fin 4 → FVec Ideal S8x2048x256 .bf16) n (ix3 b l k) := by
  pointwise [val_main_v38, val_main_v37, val_main_v36, val_main_v35, val_main_v34, val_main_v33, val_main_v32, val_main_v31, val_main_v30]
  fin_cases n <;> rfl

theorem ref_proj (b : Fin 8) (l : Fin 2048) (n : Fin 4) (d : Fin 1024) :
    val_main_v43 (F := Ideal) ba bb bc bd wb (ix4 b l n d)
      = ∑ k, (![ba, bb, bc, bd] : Fin 4 → FVec Ideal S8x2048x256 .bf16) n (ix3 b l k) * wb (ix4 0 n k d) := by
  pointwise [val_main_v43, val_main_v42, val_main_v41, val_main_v40, val_main_v39]
  simp only [ref_stack]
  exact Finset.sum_congr rfl fun k _ => mul_comm _ _

theorem ref_sigmoid (b : Fin 8) (l : Fin 2048) (n : Fin 4) (d : Fin 1024) :
    val_main_v50 (F := Ideal) x g md w (ix4 b l n d) = Ideal.logistic (val_main_v44 (F := Ideal) x g md w (ix4 b l n d)) := by
  pointwise [val_main_v50, val_main_v49, val_main_cst_4, val_main_v48, val_main_v47, val_main_cst_3, val_main_v46, val_main_v45]
  rfl

theorem ref_merged (b : Fin 8) (l : Fin 2048) (d : Fin 1024) :
    val_main_v51 (F := Ideal) x g md ba bb bc bd w wb (ix3 b l d)
      = merged (rowOf x g md b l) (fun n k j => w (ix3 0 k ⟨2048 + 1024 * n.val + j.val, by omega⟩))
          (fun n c => (![ba, bb, bc, bd] : Fin 4 → FVec Ideal S8x2048x256 .bf16) n (ix3 b l c)) (fun n c j => wb (ix4 0 n c j)) d := by
  pointwise [val_main_v51, merged]
  simp only [ref_sigmoid, ref_gate, ref_proj]

theorem ref_out (b : Fin 8) (l : Fin 2048) (d : Fin 1024) :
    val_main_v58 (F := Ideal) x g md ba bb bc bd w wb wo (ix3 b l d) = mergeOut x g md ![ba, bb, bc, bd] w wb wo b l d := by
  pointwise [val_main_v58, val_main_v57, val_main_v56, val_main_v2, val_main_v55, val_main_v54, val_main_v53, val_main_v52, mergeOut, outRow, modRow]
  simp only [ref_merged]
  rfl

end Cert.Mix

end
-- ==== Proof.MergeClaim.lean ====
/- The merge's claims: the kernel and its reference end with equal results, and the reference's frame. -/
module

public import proofs.«01_k».proof.Proof.MergeRef
public import Idealize.ShloMosaic.Adequacy
public import Idealize.ShloMosaic.Init
public import proofs.«01_k».proof.Defs

@[expose] public section

noncomputable section

namespace Cert.Mix

open Idealize.ShloMosaic Idealize.ShloMosaic.TcCoe Idealize.SL.Sem

/-- The reference's result, from any memory. -/
theorem ref_result (x : FVec Ideal Cert.MergeIdeal.S8x2048x1024 .f32) (g : FVec Ideal Cert.MergeIdeal.S1x1024 .f32) (md : FVec Ideal Cert.MergeIdeal.S8x1x6144 .f32)
    (ba bb bc bd : FVec Ideal Cert.MergeIdeal.S8x2048x256 .bf16) (w : FVec Ideal Cert.MergeIdeal.S2x1024x6144 .bf16) (wb : FVec Ideal Cert.MergeIdeal.S2x4x256x1024 .bf16)
    (wo : FVec Ideal Cert.MergeIdeal.S2x1024x1024 .bf16) :
    Cert.MergeRefIdeal.Read.val_main_v58 (F := Ideal) x g md ba bb bc bd w wb wo
      = fun i : Cert.MergeIdeal.S8x2048x1024.Idx => mergeOut x g md ![ba, bb, bc, bd] w wb wo (i 0) (i 1) (i 2) := by
  funext i
  obtain ⟨b, l, d, rfl⟩ : ∃ (b : Fin 8) (l : Fin 2048) (d : Fin 1024), i = ix3 b l d := ⟨i 0, i 1, i 2, by funext a; fin_cases a <;> rfl⟩
  exact ref_out x g md ba bb bc bd w wb wo b l d

/-- The reference runs, leaves its arguments alone and ends with every counter at zero. -/
theorem reference_frame : Cert.quiescent_MergeRefIdeal (hMergeRefIdeal := Cert.MergeRefIdeal.Gen.facts) := fun m ρ _ =>
  (θ_run _ _ _).mono (fun r h => ⟨fun c => (h c).2, Idealize.ShloMosaic.sem_eq_zero_of_no_sems (by decide) r.2⟩)
    (Cert.MergeRefIdeal.Value.run m ρ)

/-- The kernel and the reference, from equal arguments, end with equal results. -/
theorem equal_results : Cert.algebraic_MergeIdeal_MergeRefIdeal (hMergeIdeal := Cert.MergeIdeal.Gen.facts)
    (hMergeRefIdeal := Cert.MergeRefIdeal.Gen.facts) := by
  intro m ρ m' ρ' hpre hagree
  refine ⟨fun c => (Cert.MergeIdeal.Gen.dats m 0 c).arrAt 13 Cert.MergeIdeal.cfg0.N, ?_, ?_⟩
  · refine (θ_run _ _ _).mono (fun r h c => ?_) (Cert.MergeIdeal.Value.run_blocks m ρ)
    exact h c
  · refine (θ_run _ _ _).mono (fun r h c => ?_) (Cert.MergeRefIdeal.Value.run m' ρ')
    refine ⟨(h c).1.trans ?_, (h c).2⟩
    obtain ⟨h0, h1, h2, h3, h4, h5, h6, h7, h8, h9⟩ := hagree c
    rw [Cert.MergeRefIdeal.Read.val_main_v58_eq, h0, h1, h2, h3, h4, h5, h6, h7, h8, h9, ref_result]
    exact (array13 m c).symm

end Cert.Mix

end
-- ==== Proof.ProjBlock.lean ====
/- The input projection at one point: the projected block, and the new keys and values cut out of it. -/
module

public import proofs.«01_k».proof.Proof.MergeRow
public import proofs.«01_k».proof.Proof.Gen.InProjIdeal.Value

@[expose] public section

noncomputable section

namespace Cert.Proj

open Cert.InProjIdeal Cert.InProjIdeal.Gen Idealize.ShloMosaic Idealize.ShloMosaic.TcCoe
open Cert.Mix (hrow)

/-- The projected block at a token and a lane. -/
theorem pay7_apply (v0 : Vec Ideal S1x256x1024 .f32) (v2 : Vec Ideal S1x1024 .f32) (v3 v5 : Vec Ideal S1x1x1024 .f32) (w : Vec Ideal S1x1024x2048 .bf16)
    (r : Fin 256) (j : Fin 2048) :
    k0_pay7 v0 v2 v3 v5 w (ix2 r j)
      = ∑ k, hrow (fun k => v0 (ix3 0 r k)) (fun k => v2 (ix2 0 k)) (fun k => v3 (ix3 0 0 k)) (fun k => v5 (ix3 0 0 k)) k * w (ix3 0 k j) := by
  pointwise [k0_pay7, hrow]

theorem pay6_apply (z : FVec Ideal S256x2048 .f32) (r : Fin 256) (j : Fin 2048) : k0_pay6 z (ix3 0 r j) = z (ix2 r j) := by pointwise [k0_pay6]

/-- The shape of a result with `H` heads of keys or values, over both layers. -/
abbrev heads (H : ℕ) : Shape := ⟨5, ![1, 2, H, 64, 256]⟩

/-- `H` heads of keys or values, cut out of the projection's lanes from `c0`, in the first layer; the second layer zero. -/
def newHeads (H : ℕ) (z : FVec Ideal S256x2048 .f32) (c0 : ℕ) (h0 : c0 + 64 * H ≤ 2048) : (heads H).Idx → EReal := fun i =>
  if (i 1).val = 0 then z (ix2 (i 4) ⟨c0 + 64 * (i 2).val + (i 3).val, by
    have h2 : (i 2).val < H := (i 2).isLt
    have h3 : (i 3).val < 64 := (i 3).isLt
    omega⟩) else 0

/-- One head of the first layer, stored at its place. -/
theorem head_piece (H : ℕ) (z : FVec Ideal S256x2048 .f32) (c0 : ℕ) (h0 : c0 + 64 * H ≤ 2048) (n : Fin H) (off : Fin 5 → ℕ)
    (hoff : off = ![0, 0, n.val, 0, 0]) (P : Vec Ideal S1x1x1x64x256 .f32)
    (hP : ∀ (e : Fin 64) (l : Fin 256), P (ix5 0 0 0 e l) = z (ix2 l ⟨c0 + 64 * n.val + e.val, by omega⟩))
    (inb : ∀ a, off a + (![1, 1, 1, 64, 256] : Fin 5 → ℕ) a ≤ (heads H).size a) (x : S1x1x1x64x256.Idx) :
    P x = newHeads H z c0 h0 ((Rect.unit (s := heads H) off ![1, 1, 1, 64, 256] inb).emb x) := by
  subst hoff
  obtain ⟨a, b, d, e, l, rfl⟩ : ∃ (a b d : Fin 1) (e : Fin 64) (l : Fin 256), x = ix5 a b d e l :=
    ⟨x 0, x 1, x 2, x 3, x 4, by funext a; fin_cases a <;> rfl⟩
  obtain rfl : a = 0 := Subsingleton.elim _ _
  obtain rfl : b = 0 := Subsingleton.elim _ _
  obtain rfl : d = 0 := Subsingleton.elim _ _
  have he : (Rect.unit (s := heads H) ![0, 0, n.val, 0, 0] ![1, 1, 1, 64, 256] inb).emb (ix5 (0 : Fin 1) (0 : Fin 1) (0 : Fin 1) e l)
      = (ix5 (0 : Fin 1) (0 : Fin 2) n e l : (heads H).Idx) := by
    funext a
    refine Fin.ext ?_
    rw [Rect.emb_apply]
    fin_cases a
    · rfl
    · rfl
    · show n.val + 1 * 0 = n.val; omega
    · show 0 + 1 * e.val = e.val; omega
    · show 0 + 1 * l.val = l.val; omega
  rw [he, hP]
  rfl

/-- The second layer, stored as zeros. -/
theorem zero_piece (H : ℕ) (z : FVec Ideal S256x2048 .f32) (c0 : ℕ) (h0 : c0 + 64 * H ≤ 2048) (P : (⟨5, ![1, 1, H, 64, 256]⟩ : Shape).Idx → EReal)
    (hP : ∀ x, P x = 0) (inb : ∀ a, (![0, 1, 0, 0, 0] : Fin 5 → ℕ) a + (![1, 1, H, 64, 256] : Fin 5 → ℕ) a ≤ (heads H).size a)
    (x : (⟨5, ![1, 1, H, 64, 256]⟩ : Shape).Idx) :
    P x = newHeads H z c0 h0 ((Rect.unit (s := heads H) ![0, 1, 0, 0, 0] ![1, 1, H, 64, 256] inb).emb x) := by
  rw [hP]
  unfold newHeads
  rw [if_neg]
  rw [Rect.emb_apply]
  show ¬ 1 + 1 * (x 1).val = 0
  omega

theorem pay10_apply (x : S1x1x2x64x256.Idx) : k0_pay10 (F := Ideal) x = 0 := by
  obtain ⟨a, b, d, e, l, rfl⟩ : ∃ (a b : Fin 1) (d : Fin 2) (e : Fin 64) (l : Fin 256), x = ix5 a b d e l :=
    ⟨x 0, x 1, x 2, x 3, x 4, by funext a; fin_cases a <;> rfl⟩
  pointwise [k0_pay10]
theorem pay19_apply (x : S1x1x4x64x256.Idx) : k0_pay19 (F := Ideal) x = 0 := by
  obtain ⟨a, b, d, e, l, rfl⟩ : ∃ (a b : Fin 1) (d : Fin 4) (e : Fin 64) (l : Fin 256), x = ix5 a b d e l :=
    ⟨x 0, x 1, x 2, x 3, x 4, by funext a; fin_cases a <;> rfl⟩
  pointwise [k0_pay19]

section Heads
variable (z : FVec Ideal S256x2048 .f32) (e : Fin 64) (l : Fin 256)

theorem pay9_apply : k0_pay9 z (ix5 0 0 0 e l) = z (ix2 l ⟨1088 + e.val, by omega⟩) := by pointwise [k0_pay9]
theorem pay11_apply : k0_pay11 z (ix5 0 0 0 e l) = z (ix2 l ⟨1152 + e.val, by omega⟩) := by pointwise [k0_pay11]
theorem pay12_apply : k0_pay12 z (ix5 0 0 0 e l) = z (ix2 l ⟨1216 + e.val, by omega⟩) := by pointwise [k0_pay12]
theorem pay16_apply : k0_pay16 z (ix5 0 0 0 e l) = z (ix2 l ⟨1600 + e.val, by omega⟩) := by pointwise [k0_pay16]
theorem pay17_apply : k0_pay17 z (ix5 0 0 0 e l) = z (ix2 l ⟨1664 + e.val, by omega⟩) := by pointwise [k0_pay17]
theorem pay18_apply : k0_pay18 z (ix5 0 0 0 e l) = z (ix2 l ⟨1728 + e.val, by omega⟩) := by pointwise [k0_pay18]
theorem pay2_apply : k0_pay2 z (ix5 0 0 0 e l) = z (ix2 l ⟨1856 + e.val, by omega⟩) := by pointwise [k0_pay2]
theorem pay3_apply : k0_pay3 z (ix5 0 0 0 e l) = z (ix2 l ⟨1920 + e.val, by omega⟩) := by pointwise [k0_pay3]
theorem pay4_apply : k0_pay4 z (ix5 0 0 0 e l) = z (ix2 l ⟨1984 + e.val, by omega⟩) := by pointwise [k0_pay4]
theorem pay15_apply : k0_pay15 (k0_pay14 z) (ix5 0 0 0 e l) = z (ix2 l ⟨1536 + e.val, by omega⟩) := by pointwise [k0_pay15, k0_pay14]
theorem pay1_apply : k0_pay1 (k0_pay20 z) (ix5 0 0 0 e l) = z (ix2 l ⟨1792 + e.val, by omega⟩) := by pointwise [k0_pay1, k0_pay20]
theorem pay8_apply (v0 : Vec Ideal S1x256x1024 .f32) (v2 : Vec Ideal S1x1024 .f32) (v3 v5 : Vec Ideal S1x1x1024 .f32) (w : Vec Ideal S1x1024x2048 .bf16) :
    k0_pay8 v0 v2 v3 v5 w (ix5 0 0 0 e l) = k0_pay7 v0 v2 v3 v5 w (ix2 l ⟨1024 + e.val, by omega⟩) := by pointwise [k0_pay8]
end Heads

section
variable (c : Dev nD) (t : Fin cfg0.N) (x0 : Vec Ideal S1x256x1024 .f32) (x1 : Vec Ideal S1x1024 .f32) (x2 x3 : Vec Ideal S1x1x1024 .f32) (x4 : Vec Ideal S1x1024x2048 .bf16)

theorem out5_eq :
    out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) x0 x1 x2 x3 x4
      = k0_pay6 (k0_pay7 x0 x1 x2 x3 x4) := by
  unfold out0_A_5
  rw [View.read_writes_junk_eq_canon]
  unfold kernelRun0_A
  dsimp only
  sl_unfold_words
  simp only [View.readAt_eq_ld, (hs0_0 t).read_unread, (hs0_1 t).read_unread, (hs0_2 t).read_unread, (hs0_3 t).read_unread, (hs0_4 t).read_unread]
  rw [View.canon_unit_zero (by decide)]
  simp only [View.ld_unit_zero (S := S1x256x1024) (off := ![0, 0, 0]) (by decide), View.ld_unit_zero (S := S1x1024) (off := ![0, 0]) (by decide),
    View.ld_unit_zero (S := S1x1x1024) (off := ![0, 0, 0]) (by decide), View.ld_unit_zero (S := S1x1024x2048) (off := ![0, 0, 0]) (by decide)]

/-- What a point leaves in output 6. -/
theorem out6_eq :
    out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) x0 x1 x2 x3 x4
      = newHeads 2 (k0_pay7 x0 x1 x2 x3 x4) 1024 (by omega) := by
  unfold out0_A_6
  rw [View.read_writes_junk_eq_canon]
  funext y
  refine View.canon_apply_of_pieces _ _ ?_ y (cover0_A_6 c _ _ _ _ _ _ _ _ _ _ _ _ _ _ _ _ _ _ _ _ _ _ _ _ _ _ y)
  unfold kernelRun0_A
  dsimp only
  sl_unfold_words
  simp only [View.readAt_eq_ld, (hs0_0 t).read_unread, (hs0_1 t).read_unread, (hs0_2 t).read_unread, (hs0_3 t).read_unread, (hs0_4 t).read_unread]
  simp only [View.ld_unit_zero (S := S1x256x1024) (off := ![0, 0, 0]) (by decide), View.ld_unit_zero (S := S1x1024) (off := ![0, 0]) (by decide),
    View.ld_unit_zero (S := S1x1x1024) (off := ![0, 0, 0]) (by decide), View.ld_unit_zero (S := S1x1024x2048) (off := ![0, 0, 0]) (by decide)]
  refine List.forall_mem_cons.mpr ⟨zero_piece 2 (k0_pay7 x0 x1 x2 x3 x4) 1024 (by omega) _ pay10_apply inb_S1x2x2x64x256_S1x1x2x64x256_0_1_0_0_0, List.forall_mem_cons.mpr ⟨?_, List.forall_mem_cons.mpr ⟨?_, fun p hp => absurd hp List.not_mem_nil⟩⟩⟩
  · exact head_piece 2 (k0_pay7 x0 x1 x2 x3 x4) 1024 (by omega) 1 ![0, 0, 1, 0, 0] rfl _ (fun e l => (pay9_apply _ e l)) inb_S1x2x2x64x256_S1x1x1x64x256_0_0_1_0_0
  · exact head_piece 2 (k0_pay7 x0 x1 x2 x3 x4) 1024 (by omega) 0 ![0, 0, 0, 0, 0] rfl _ (fun e l => (pay8_apply e l _ _ _ _ _)) inb_S1x2x2x64x256_S1x1x1x64x256_0_0_0_0_0

/-- What a point leaves in output 7. -/
theorem out7_eq :
    out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) x0 x1 x2 x3 x4
      = newHeads 2 (k0_pay7 x0 x1 x2 x3 x4) 1152 (by omega) := by
  unfold out0_A_7
  rw [View.read_writes_junk_eq_canon]
  funext y
  refine View.canon_apply_of_pieces _ _ ?_ y (cover0_A_7 c _ _ _ _ _ _ _ _ _ _ _ _ _ _ _ _ _ _ _ _ _ _ _ _ _ _ y)
  unfold kernelRun0_A
  dsimp only
  sl_unfold_words
  simp only [View.readAt_eq_ld, (hs0_0 t).read_unread, (hs0_1 t).read_unread, (hs0_2 t).read_unread, (hs0_3 t).read_unread, (hs0_4 t).read_unread]
  simp only [View.ld_unit_zero (S := S1x256x1024) (off := ![0, 0, 0]) (by decide), View.ld_unit_zero (S := S1x1024) (off := ![0, 0]) (by decide),
    View.ld_unit_zero (S := S1x1x1024) (off := ![0, 0, 0]) (by decide), View.ld_unit_zero (S := S1x1024x2048) (off := ![0, 0, 0]) (by decide)]
  refine List.forall_mem_cons.mpr ⟨zero_piece 2 (k0_pay7 x0 x1 x2 x3 x4) 1152 (by omega) _ pay10_apply inb_S1x2x2x64x256_S1x1x2x64x256_0_1_0_0_0, List.forall_mem_cons.mpr ⟨?_, List.forall_mem_cons.mpr ⟨?_, fun p hp => absurd hp List.not_mem_nil⟩⟩⟩
  · exact head_piece 2 (k0_pay7 x0 x1 x2 x3 x4) 1152 (by omega) 1 ![0, 0, 1, 0, 0] rfl _ (fun e l => (pay12_apply _ e l)) inb_S1x2x2x64x256_S1x1x1x64x256_0_0_1_0_0
  · exact head_piece 2 (k0_pay7 x0 x1 x2 x3 x4) 1152 (by omega) 0 ![0, 0, 0, 0, 0] rfl _ (fun e l => (pay11_apply _ e l)) inb_S1x2x2x64x256_S1x1x1x64x256_0_0_0_0_0

/-- What a point leaves in output 8. -/
theorem out8_eq :
    out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) x0 x1 x2 x3 x4
      = newHeads 4 (k0_pay7 x0 x1 x2 x3 x4) 1536 (by omega) := by
  unfold out0_A_8
  rw [View.read_writes_junk_eq_canon]
  funext y
  refine View.canon_apply_of_pieces _ _ ?_ y (cover0_A_8 c _ _ _ _ _ _ _ _ _ _ _ _ _ _ _ _ _ _ _ _ _ _ _ _ _ _ y)
  unfold kernelRun0_A
  dsimp only
  sl_unfold_words
  simp only [View.readAt_eq_ld, (hs0_0 t).read_unread, (hs0_1 t).read_unread, (hs0_2 t).read_unread, (hs0_3 t).read_unread, (hs0_4 t).read_unread]
  simp only [View.ld_unit_zero (S := S1x256x1024) (off := ![0, 0, 0]) (by decide), View.ld_unit_zero (S := S1x1024) (off := ![0, 0]) (by decide),
    View.ld_unit_zero (S := S1x1x1024) (off := ![0, 0, 0]) (by decide), View.ld_unit_zero (S := S1x1024x2048) (off := ![0, 0, 0]) (by decide)]
  refine List.forall_mem_cons.mpr ⟨zero_piece 4 (k0_pay7 x0 x1 x2 x3 x4) 1536 (by omega) _ pay19_apply inb_S1x2x4x64x256_S1x1x4x64x256_0_1_0_0_0, List.forall_mem_cons.mpr ⟨?_, List.forall_mem_cons.mpr ⟨?_, List.forall_mem_cons.mpr ⟨?_, List.forall_mem_cons.mpr ⟨?_, fun p hp => absurd hp List.not_mem_nil⟩⟩⟩⟩⟩
  · exact head_piece 4 (k0_pay7 x0 x1 x2 x3 x4) 1536 (by omega) 3 ![0, 0, 3, 0, 0] rfl _ (fun e l => (pay18_apply _ e l)) inb_S1x2x4x64x256_S1x1x1x64x256_0_0_3_0_0
  · exact head_piece 4 (k0_pay7 x0 x1 x2 x3 x4) 1536 (by omega) 2 ![0, 0, 2, 0, 0] rfl _ (fun e l => (pay17_apply _ e l)) inb_S1x2x4x64x256_S1x1x1x64x256_0_0_2_0_0
  · exact head_piece 4 (k0_pay7 x0 x1 x2 x3 x4) 1536 (by omega) 1 ![0, 0, 1, 0, 0] rfl _ (fun e l => (pay16_apply _ e l)) inb_S1x2x4x64x256_S1x1x1x64x256_0_0_1_0_0
  · exact head_piece 4 (k0_pay7 x0 x1 x2 x3 x4) 1536 (by omega) 0 ![0, 0, 0, 0, 0] rfl _ (fun e l => (pay15_apply _ e l)) inb_S1x2x4x64x256_S1x1x1x64x256_0_0_0_0_0

/-- What a point leaves in output 9. -/
theorem out9_eq :
    out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) x0 x1 x2 x3 x4
      = newHeads 4 (k0_pay7 x0 x1 x2 x3 x4) 1792 (by omega) := by
  unfold out0_A_9
  rw [View.read_writes_junk_eq_canon]
  funext y
  refine View.canon_apply_of_pieces _ _ ?_ y (cover0_A_9 c _ _ _ _ _ _ _ _ _ _ _ _ _ _ _ _ _ _ _ _ _ _ _ _ _ _ y)
  unfold kernelRun0_A
  dsimp only
  sl_unfold_words
  simp only [View.readAt_eq_ld, (hs0_0 t).read_unread, (hs0_1 t).read_unread, (hs0_2 t).read_unread, (hs0_3 t).read_unread, (hs0_4 t).read_unread]
  simp only [View.ld_unit_zero (S := S1x256x1024) (off := ![0, 0, 0]) (by decide), View.ld_unit_zero (S := S1x1024) (off := ![0, 0]) (by decide),
    View.ld_unit_zero (S := S1x1x1024) (off := ![0, 0, 0]) (by decide), View.ld_unit_zero (S := S1x1024x2048) (off := ![0, 0, 0]) (by decide)]
  refine List.forall_mem_cons.mpr ⟨zero_piece 4 (k0_pay7 x0 x1 x2 x3 x4) 1792 (by omega) _ pay19_apply inb_S1x2x4x64x256_S1x1x4x64x256_0_1_0_0_0, List.forall_mem_cons.mpr ⟨?_, List.forall_mem_cons.mpr ⟨?_, List.forall_mem_cons.mpr ⟨?_, List.forall_mem_cons.mpr ⟨?_, fun p hp => absurd hp List.not_mem_nil⟩⟩⟩⟩⟩
  · exact head_piece 4 (k0_pay7 x0 x1 x2 x3 x4) 1792 (by omega) 3 ![0, 0, 3, 0, 0] rfl _ (fun e l => (pay4_apply _ e l)) inb_S1x2x4x64x256_S1x1x1x64x256_0_0_3_0_0
  · exact head_piece 4 (k0_pay7 x0 x1 x2 x3 x4) 1792 (by omega) 2 ![0, 0, 2, 0, 0] rfl _ (fun e l => (pay3_apply _ e l)) inb_S1x2x4x64x256_S1x1x1x64x256_0_0_2_0_0
  · exact head_piece 4 (k0_pay7 x0 x1 x2 x3 x4) 1792 (by omega) 1 ![0, 0, 1, 0, 0] rfl _ (fun e l => (pay2_apply _ e l)) inb_S1x2x4x64x256_S1x1x1x64x256_0_0_1_0_0
  · exact head_piece 4 (k0_pay7 x0 x1 x2 x3 x4) 1792 (by omega) 0 ![0, 0, 0, 0, 0] rfl _ (fun e l => (pay1_apply _ e l)) inb_S1x2x4x64x256_S1x1x1x64x256_0_0_0_0_0

end

end Cert.Proj

end
-- ==== Proof.ProjArray.lean ====
/- The arrays the input projection's launch leaves: the projection, and the new keys and values of both layers. -/
module

public import proofs.«01_k».proof.Proof.ProjBlock

@[expose] public section

noncomputable section

namespace Cert.Proj

open Cert.InProjIdeal Cert.InProjIdeal.Gen Idealize.ShloMosaic Idealize.ShloMosaic.TcCoe
open Idealize.ShloMosaic.Pipeline (Dat)
open Cert.Mix (hrow)

/-- The modulation's `n`-th row of 1024, the same for every entry. -/
def modRow (md : FVec Ideal S1x1x6144 .f32) (n : Fin 6) (d : Fin 1024) : EReal := md (ix3 0 0 ⟨1024 * n.val + d.val, by omega⟩)

/-- The projection of token `l` of entry `b` onto lane `j`. -/
def projected (x : FVec Ideal S16x256x1024 .f32) (g : FVec Ideal S1x1024 .f32) (md : FVec Ideal S1x1x6144 .f32) (w : FVec Ideal S2x1024x6144 .bf16)
    (b : Fin 16) (l : Fin 256) (j : Fin 2048) : EReal :=
  ∑ k, hrow (fun k => x (ix3 b l k)) (fun k => g (ix2 0 k)) (modRow md 1) (modRow md 0) k * w (ix3 0 k ⟨j.val, by omega⟩)

/-- All lanes of the projection. -/
def projOut (x : FVec Ideal S16x256x1024 .f32) (g : FVec Ideal S1x1024 .f32) (md : FVec Ideal S1x1x6144 .f32) (w : FVec Ideal S2x1024x6144 .bf16) :
    S16x256x2048.Idx → EReal := fun i => projected x g md w (i 0) (i 1) (i 2)

/-- The new keys or values: `H` heads of the lanes from `c0`, each transposed, for the first layer; zero for the second. -/
def headsOut (H c0 : ℕ) (h0 : c0 + 64 * H ≤ 2048) (x : FVec Ideal S16x256x1024 .f32) (g : FVec Ideal S1x1024 .f32) (md : FVec Ideal S1x1x6144 .f32)
    (w : FVec Ideal S2x1024x6144 .bf16) : (⟨5, ![16, 2, H, 64, 256]⟩ : Shape).Idx → EReal := fun i =>
  if (i 1).val = 0 then projected x g md w (i 0) (i 4) ⟨c0 + 64 * (i 2).val + (i 3).val, by
    have h2 : (i 2).val < H := (i 2).isLt
    have h3 : (i 3).val < 64 := (i 3).isLt
    omega⟩ else 0

variable (m : (ℓ : Loc nD τ sig) → Buf (Elt Ideal) ℓ)

theorem index0 : ∀ t : Fin cfg0.N, win0_0.index t = ![t.val, 0, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0, 1] := (by decide +kernel : ∀ t : Fin grid0.N, _)
theorem index3 : ∀ t : Fin cfg0.N, win0_3.index t = ![0, 0, 0] := (by decide +kernel : ∀ t : Fin grid0.N, _)
theorem index4 : ∀ t : Fin cfg0.N, win0_4.index t = ![0, 0, 0] := (by decide +kernel : ∀ t : Fin grid0.N, _)
theorem index5 : ∀ t : Fin cfg0.N, win0_5.index t = ![t.val, 0, 0] := (by decide +kernel : ∀ t : Fin grid0.N, _)
theorem index6 : ∀ t : Fin cfg0.N, win0_6.index t = ![t.val, 0, 0, 0, 0] := (by decide +kernel : ∀ t : Fin grid0.N, _)
theorem index7 : ∀ t : Fin cfg0.N, win0_7.index t = ![t.val, 0, 0, 0, 0] := (by decide +kernel : ∀ t : Fin grid0.N, _)
theorem index8 : ∀ t : Fin cfg0.N, win0_8.index t = ![t.val, 0, 0, 0, 0] := (by decide +kernel : ∀ t : Fin grid0.N, _)
theorem index9 : ∀ t : Fin cfg0.N, win0_9.index t = ![t.val, 0, 0, 0, 0] := (by decide +kernel : ∀ t : Fin grid0.N, _)

section Blocks
variable (c : Dev nD) (t : Fin cfg0.N)

theorem iblk0_apply (r : Fin 256) (k : Fin 1024) : iblk m c 0 t (ix3 0 r k) = m ((c : Thread nD τ).loc main_arg0) (ix3 (n0 := 16) t r k) := by
  blk_ext! [iblk, V, index0 t]
theorem iblk1_apply (k : Fin 1024) : iblk m c 1 t (ix2 0 k) = m ((c : Thread nD τ).loc main_arg1) (ix2 0 k) := by
  blk_ext! [iblk, V, index1 t]
theorem iblk2_apply (k : Fin 1024) : iblk m c 2 t (ix3 0 0 k) = modRow (m ((c : Thread nD τ).loc main_arg2)) 1 k := by
  unfold modRow; blk_ext! [iblk, V, index2 t]
theorem iblk3_apply (k : Fin 1024) : iblk m c 3 t (ix3 0 0 k) = modRow (m ((c : Thread nD τ).loc main_arg2)) 0 k := by
  unfold modRow; blk_ext! [iblk, V, index3 t]
theorem iblk4_apply (k : Fin 1024) (j : Fin 2048) : iblk m c 4 t (ix3 0 k j) = m ((c : Thread nD τ).loc main_arg3) (ix3 0 k ⟨j.val, by omega⟩) := by
  blk_ext! [iblk, V, index4 t]

/-- The projected block of a point. -/
theorem block_apply (r : Fin 256) (j : Fin 2048) :
    k0_pay7 (iblk m c 0 t) (iblk m c 1 t) (iblk m c 2 t) (iblk m c 3 t) (iblk m c 4 t) (ix2 r j)
      = projected (m ((c : Thread nD τ).loc main_arg0)) (m ((c : Thread nD τ).loc main_arg1)) (m ((c : Thread nD τ).loc main_arg2)) (m ((c : Thread nD τ).loc main_arg3)) t r j := by
  refine (pay7_apply (iblk m c 0 t) (iblk m c 1 t) (iblk m c 2 t) (iblk m c 3 t) (iblk m c 4 t) r j).trans ?_
  simp only [iblk0_apply, iblk1_apply, iblk2_apply, iblk3_apply, iblk4_apply]
  rfl

end Blocks

/-- The projection the launch leaves. -/
theorem array5 (c : Dev nD) :
    (dats m 0 c).arrAt 5 cfg0.N = projOut (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  unfold outsAt0
  rw [out5_eq]
  obtain ⟨y0, r, j, rfl⟩ : ∃ (a : Fin 1) (b : Fin 256) (d : Fin 2048), y = ix3 a b d := ⟨y 0, y 1, y 2, by funext a; fin_cases a <;> rfl⟩
  obtain rfl : y0 = 0 := Subsingleton.elim _ _
  have he : ((cfg0.win 5).blk t).view.emb (ix3 0 r j) = ix3 (n0 := 16) t r j := by blk_ext [index5 t]
  refine Eq.trans ?_ (congrArg (projOut _ _ _ _) he).symm
  exact (pay6_apply _ r j).trans (block_apply m c t r j)

/-- The new keys of the windowed branch. -/
theorem array6 (c : Dev nD) :
    (dats m 0 c).arrAt 6 cfg0.N = headsOut 2 1024 (by omega) (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp
  rw [after0_6]
  unfold outsAt0
  rw [out6_eq]
  obtain ⟨y0, a, h, e, l, rfl⟩ : ∃ (y0 : Fin 1) (a : Fin 2) (h : Fin 2) (e : Fin 64) (l : Fin 256), y = ix5 y0 a h e l :=
    ⟨y 0, y 1, y 2, y 3, y 4, by funext a; fin_cases a <;> rfl⟩
  obtain rfl : y0 = 0 := Subsingleton.elim _ _
  have he : ((cfg0.win 6).blk t).view.emb (ix5 0 a h e l) = ix5 (n0 := 16) t a h e l := by blk_ext [index6 t]
  refine Eq.trans ?_ (congrArg (headsOut 2 1024 (by omega) _ _ _ _) he).symm
  by_cases ha : a.val = 0
  · exact (if_pos ha).trans ((block_apply m c t l _).trans (if_pos ha).symm)
  · exact (if_neg ha).trans (if_neg ha).symm

/-- The new values of the windowed branch. -/
theorem array7 (c : Dev nD) :
    (dats m 0 c).arrAt 7 cfg0.N = headsOut 2 1152 (by omega) (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t hf y => ?_
  blk_simp
  rw [after0_7]
  unfold outsAt0
  rw [out7_eq]
  obtain ⟨y0, a, h, e, l, rfl⟩ : ∃ (y0 : Fin 1) (a : Fin 2) (h : Fin 2) (e : Fin 64) (l : Fin 256), y = ix5 y0 a h e l :=
    ⟨y 0, y 1, y 2, y 3, y 4, by funext a; fin_cases a <;> rfl⟩
  obtain rfl : y0 = 0 := Subsingleton.elim _ _
  have he : ((cfg0.win 7).blk t).view.emb (ix5 0 a h e l) = ix5 (n0 := 16) t a h e l := by blk_ext [index7 t]
  refine Eq.trans ?_ (congrArg (headsOut 2 1152 (by omega) _ _ _ _) he).symm
  by_cases ha : a.val = 0
  · exact (if_pos ha).trans ((block_apply m c t l _).trans (if_pos ha).symm)
  · exact (if_neg ha).trans (if_neg ha).symm

/-- The new keys of the neighbourhood branch. -/
theorem array8 (c : Dev nD) :
    (dats m 0 c).arrAt 8 cfg0.N = headsOut 4 1536 (by omega) (m ((c : Thread nD τ).loc main_arg0)) (m ((c : Thread nD τ).loc main_arg1)) (m ((c : Thread nD τ).loc main_arg2)) (m ((c : Thread nD τ).loc main_arg3)) := by
  refine (dats m 0 c).arrAt_eq_of_covers 8 _ (by decide +kernel) fun t hf y => ?_
  blk_simp
  rw [after0_8]
  unfold outsAt0
  rw [out8_eq]
  obtain ⟨y0, a, h, e, l, rfl⟩ : ∃ (y0 : Fin 1) (a : Fin 2) (h : Fin 4) (e : Fin 64) (l : Fin 256), y = ix5 y0 a h e l :=
    ⟨y 0, y 1, y 2, y 3, y 4, by funext a; fin_cases a <;> rfl⟩
  obtain rfl : y0 = 0 := Subsingleton.elim _ _
  have he : ((cfg0.win 8).blk t).view.emb (ix5 0 a h e l) = ix5 (n0 := 16) t a h e l := by blk_ext [index8 t]
  refine Eq.trans ?_ (congrArg (headsOut 4 1536 (by omega) _ _ _ _) he).symm
  by_cases ha : a.val = 0
  · exact (if_pos ha).trans ((block_apply m c t l _).trans (if_pos ha).symm)
  · exact (if_neg ha).trans (if_neg ha).symm

/-- The new values of the neighbourhood branch. -/
theorem array9 (c : Dev nD) :
    (dats m 0 c).arrAt 9 cfg0.N = headsOut 4 1792 (by omega) (m ((c : Thread nD τ).loc main_arg0)) (m ((c : Thread nD τ).loc main_arg1)) (m ((c : Thread nD τ).loc main_arg2)) (m ((c : Thread nD τ).loc main_arg3)) := by
  refine (dats m 0 c).arrAt_eq_of_covers 9 _ (by decide +kernel) fun t hf y => ?_
  blk_simp
  rw [after0_9]
  unfold outsAt0
  rw [out9_eq]
  obtain ⟨y0, a, h, e, l, rfl⟩ : ∃ (y0 : Fin 1) (a : Fin 2) (h : Fin 4) (e : Fin 64) (l : Fin 256), y = ix5 y0 a h e l :=
    ⟨y 0, y 1, y 2, y 3, y 4, by funext a; fin_cases a <;> rfl⟩
  obtain rfl : y0 = 0 := Subsingleton.elim _ _
  have he : ((cfg0.win 9).blk t).view.emb (ix5 0 a h e l) = ix5 (n0 := 16) t a h e l := by blk_ext [index9 t]
  refine Eq.trans ?_ (congrArg (headsOut 4 1792 (by omega) _ _ _ _) he).symm
  by_cases ha : a.val = 0
  · exact (if_pos ha).trans ((block_apply m c t l _).trans (if_pos ha).symm)
  · exact (if_neg ha).trans (if_neg ha).symm

end Cert.Proj

end
-- ==== Proof.ProjRef.lean ====
/- What the reference of the input projection holds, element by element. -/
module

public import proofs.«01_k».proof.Proof.ProjArray
public import proofs.«01_k».proof.Proof.Gen.InProjRefIdeal.Read

@[expose] public section

noncomputable section

namespace Cert.Proj

open Cert.InProjRefIdeal Cert.InProjRefIdeal.Read Idealize.ShloMosaic Idealize.ShloMosaic.TcCoe
open Cert.Mix (hrow)

variable (x : FVec Ideal S16x256x1024 .f32) (g : FVec Ideal S1x1024 .f32) (md : FVec Ideal S1x1x6144 .f32) (w : FVec Ideal S2x1024x6144 .bf16)

theorem ref_row (b : Fin 16) (l : Fin 256) (d : Fin 1024) :
    val_main_v24 (F := Ideal) x g md (ix3 b l d) = hrow (fun k => x (ix3 b l k)) (fun k => g (ix2 0 k)) (modRow md 1) (modRow md 0) d := by
  pointwise [val_main_v24, val_main_v23, val_main_v22, val_main_v21, val_main_v20, val_main_v19, val_main_cst_2, val_main_v18, val_main_v17, val_main_v16,
    val_main_v15, val_main_v14, val_main_v13, val_main_v12, val_main_v11, val_main_cst_1, val_main_v10, val_main_v9, val_main_cst_0, val_main_v8, val_main_v7,
    val_main_cst, val_main_v6, val_main_v1, val_main_v0, hrow, modRow]

theorem ref_proj (b : Fin 16) (l : Fin 256) (j : Fin 2048) : val_main_v29 (F := Ideal) x g md w (ix3 b l j) = projected x g md w b l j := by
  pointwise [val_main_v29, val_main_v28, val_main_v27, val_main_v26, val_main_v25, projected]
  simp only [ref_row]

theorem ref_out : val_main_v36 (F := Ideal) x g md w = projOut x g md w := by
  funext i
  obtain ⟨b, l, j, rfl⟩ : ∃ (b : Fin 16) (l : Fin 256) (j : Fin 2048), i = ix3 b l j := ⟨i 0, i 1, i 2, by funext a; fin_cases a <;> rfl⟩
  exact ref_proj x g md w b l j

theorem ref_heads43 : val_main_v43 (F := Ideal) x g md w = headsOut 2 1024 (by omega) x g md w := by
  funext i
  obtain ⟨b, a, h, e, l, rfl⟩ : ∃ (b : Fin 16) (a : Fin 2) (h : Fin 2) (e : Fin 64) (l : Fin 256), i = ix5 b a h e l :=
    ⟨i 0, i 1, i 2, i 3, i 4, by funext a; fin_cases a <;> rfl⟩
  show _ = if a.val = 0 then projected x g md w b l ⟨1024 + 64 * h.val + e.val, by omega⟩ else 0
  pointwise [val_main_v43, val_main_v42, val_main_v41, val_main_v40, val_main_v39, val_main_v38, val_main_v37, val_main_cst_3, val_main_v31]
  simp only [ref_proj]
  by_cases ha : a.val = 0
  · rw [dif_pos (by omega), if_pos ha]
    exact congrArg (projected x g md w b l) (Fin.ext (by dsimp only; omega))
  · rw [dif_neg (by omega), if_neg ha]

theorem ref_heads50 : val_main_v50 (F := Ideal) x g md w = headsOut 2 1152 (by omega) x g md w := by
  funext i
  obtain ⟨b, a, h, e, l, rfl⟩ : ∃ (b : Fin 16) (a : Fin 2) (h : Fin 2) (e : Fin 64) (l : Fin 256), i = ix5 b a h e l :=
    ⟨i 0, i 1, i 2, i 3, i 4, by funext a; fin_cases a <;> rfl⟩
  show _ = if a.val = 0 then projected x g md w b l ⟨1152 + 64 * h.val + e.val, by omega⟩ else 0
  pointwise [val_main_v50, val_main_v49, val_main_v48, val_main_v47, val_main_v46, val_main_v45, val_main_v44, val_main_cst_4, val_main_v32]
  simp only [ref_proj]
  by_cases ha : a.val = 0
  · rw [dif_pos (by omega), if_pos ha]
    exact congrArg (projected x g md w b l) (Fin.ext (by dsimp only; omega))
  · rw [dif_neg (by omega), if_neg ha]

theorem ref_heads57 : val_main_v57 (F := Ideal) x g md w = headsOut 4 1536 (by omega) x g md w := by
  funext i
  obtain ⟨b, a, h, e, l, rfl⟩ : ∃ (b : Fin 16) (a : Fin 2) (h : Fin 4) (e : Fin 64) (l : Fin 256), i = ix5 b a h e l :=
    ⟨i 0, i 1, i 2, i 3, i 4, by funext a; fin_cases a <;> rfl⟩
  show _ = if a.val = 0 then projected x g md w b l ⟨1536 + 64 * h.val + e.val, by omega⟩ else 0
  pointwise [val_main_v57, val_main_v56, val_main_v55, val_main_v54, val_main_v53, val_main_v52, val_main_v51, val_main_cst_5, val_main_v34]
  simp only [ref_proj]
  by_cases ha : a.val = 0
  · rw [dif_pos (by omega), if_pos ha]
    exact congrArg (projected x g md w b l) (Fin.ext (by dsimp only; omega))
  · rw [dif_neg (by omega), if_neg ha]

theorem ref_heads64 : val_main_v64 (F := Ideal) x g md w = headsOut 4 1792 (by omega) x g md w := by
  funext i
  obtain ⟨b, a, h, e, l, rfl⟩ : ∃ (b : Fin 16) (a : Fin 2) (h : Fin 4) (e : Fin 64) (l : Fin 256), i = ix5 b a h e l :=
    ⟨i 0, i 1, i 2, i 3, i 4, by funext a; fin_cases a <;> rfl⟩
  show _ = if a.val = 0 then projected x g md w b l ⟨1792 + 64 * h.val + e.val, by omega⟩ else 0
  pointwise [val_main_v64, val_main_v63, val_main_v62, val_main_v61, val_main_v60, val_main_v59, val_main_v58, val_main_cst_6, val_main_v35]
  simp only [ref_proj]
  by_cases ha : a.val = 0
  · rw [dif_pos (by omega), if_pos ha]
    exact congrArg (projected x g md w b l) (Fin.ext (by dsimp only; omega))
  · rw [dif_neg (by omega), if_neg ha]

end Cert.Proj

end
-- ==== Proof.ProjClaim.lean ====
/- The input projection's claims: the kernel and its reference end with equal results, and the reference's frame. -/
module

public import proofs.«01_k».proof.Proof.ProjRef
public import Idealize.ShloMosaic.Adequacy
public import Idealize.ShloMosaic.Init
public import proofs.«01_k».proof.Defs

@[expose] public section

noncomputable section

namespace Cert.Proj

open Idealize.ShloMosaic Idealize.ShloMosaic.TcCoe Idealize.SL.Sem

/-- The reference runs, leaves its arguments alone and ends with every counter at zero. -/
theorem reference_frame : Cert.quiescent_InProjRefIdeal (hInProjRefIdeal := Cert.InProjRefIdeal.Gen.facts) := fun m ρ _ =>
  (θ_run _ _ _).mono (fun r h => ⟨fun c => (h c).2.2.2.2.2, Idealize.ShloMosaic.sem_eq_zero_of_no_sems (by decide) r.2⟩)
    (Cert.InProjRefIdeal.Value.run m ρ)

/-- The kernel and the reference, from equal arguments, end with equal results. -/
theorem equal_results : Cert.algebraic_InProjIdeal_InProjRefIdeal (hInProjIdeal := Cert.InProjIdeal.Gen.facts)
    (hInProjRefIdeal := Cert.InProjRefIdeal.Gen.facts) := by
  intro m ρ m' ρ' hpre hagree
  refine ⟨fun c => (Cert.InProjIdeal.Gen.dats m 0 c).arrAt 5 Cert.InProjIdeal.cfg0.N, fun c => (Cert.InProjIdeal.Gen.dats m 0 c).arrAt 6 Cert.InProjIdeal.cfg0.N,
    fun c => (Cert.InProjIdeal.Gen.dats m 0 c).arrAt 7 Cert.InProjIdeal.cfg0.N, fun c => (Cert.InProjIdeal.Gen.dats m 0 c).arrAt 8 Cert.InProjIdeal.cfg0.N,
    fun c => (Cert.InProjIdeal.Gen.dats m 0 c).arrAt 9 Cert.InProjIdeal.cfg0.N, ?_, ?_⟩
  · refine (θ_run _ _ _).mono (fun r h c => ?_) (Cert.InProjIdeal.Value.run_blocks m ρ)
    exact h c
  · refine (θ_run _ _ _).mono (fun r h c => ?_) (Cert.InProjRefIdeal.Value.run m' ρ')
    obtain ⟨h0, h1, h2, h3⟩ := hagree c
    refine ⟨(h c).1.trans ?_, (h c).2.1.trans ?_, (h c).2.2.1.trans ?_, (h c).2.2.2.1.trans ?_, (h c).2.2.2.2.1.trans ?_, (h c).2.2.2.2.2⟩
    · rw [Cert.InProjRefIdeal.Read.val_main_v36_eq, h0, h1, h2, h3, ref_out]
      exact (array5 m c).symm
    · rw [Cert.InProjRefIdeal.Read.val_main_v43_eq, h0, h1, h2, h3, ref_heads43]
      exact (array6 m c).symm
    · rw [Cert.InProjRefIdeal.Read.val_main_v50_eq, h0, h1, h2, h3, ref_heads50]
      exact (array7 m c).symm
    · rw [Cert.InProjRefIdeal.Read.val_main_v57_eq, h0, h1, h2, h3, ref_heads57]
      exact (array8 m c).symm
    · rw [Cert.InProjRefIdeal.Read.val_main_v64_eq, h0, h1, h2, h3, ref_heads64]
      exact (array9 m c).symm

end Cert.Proj

end
-- ==== Proof.LastBlock.lean ====
/- The second layer's input projection at one point: the projected block, and the new keys and values cut out of it. -/
module

public import proofs.«01_k».proof.Proof.MergeRow
public import proofs.«01_k».proof.Proof.Gen.InProjLastIdeal.Value

@[expose] public section

noncomputable section

namespace Cert.ProjLast

open Cert.InProjLastIdeal Cert.InProjLastIdeal.Gen Idealize.ShloMosaic Idealize.ShloMosaic.TcCoe
open Cert.Mix (hrow)

/-- The projected block at a token and a lane. -/
theorem pay3_apply (v0 : Vec Ideal S1x256x1024 .f32) (v2 : Vec Ideal S1x1024 .f32) (v3 v5 : Vec Ideal S1x1x1024 .f32) (w : Vec Ideal S1x1024x2048 .bf16)
    (r : Fin 256) (j : Fin 2048) :
    k0_pay3 v0 v2 v3 v5 w (ix2 r j)
      = ∑ k, hrow (fun k => v0 (ix3 0 r k)) (fun k => v2 (ix2 0 k)) (fun k => v3 (ix3 0 0 k)) (fun k => v5 (ix3 0 0 k)) k * w (ix3 0 k j) := by
  pointwise [k0_pay3, hrow]

/-- The rounded projection is the projection. -/
theorem pay2_apply (z : FVec Ideal S256x2048 .f32) (r : Fin 256) (j : Fin 2048) : k0_pay2 z (ix3 0 r j) = z (ix2 r j) := by pointwise [k0_pay2]

/-- The shape of one layer's block with `H` heads of keys or values. -/
abbrev heads (H : ℕ) : Shape := ⟨5, ![1, 1, H, 64, 256]⟩

/-- `H` heads of keys or values, cut out of the projection's lanes from `c0`, each transposed. -/
def newHeads (H : ℕ) (z : FVec Ideal S256x2048 .f32) (c0 : ℕ) (h0 : c0 + 64 * H ≤ 2048) : (heads H).Idx → EReal := fun i =>
  z (ix2 (i 4) ⟨c0 + 64 * (i 2).val + (i 3).val, by
    have h2 : (i 2).val < H := (i 2).isLt
    have h3 : (i 3).val < 64 := (i 3).isLt
    omega⟩)

/-- One head, stored at its place. -/
theorem head_piece (H : ℕ) (z : FVec Ideal S256x2048 .f32) (c0 : ℕ) (h0 : c0 + 64 * H ≤ 2048) (n : Fin H) (off : Fin 5 → ℕ)
    (hoff : off = ![0, 0, n.val, 0, 0]) (P : Vec Ideal S1x1x1x64x256 .f32)
    (hP : ∀ (e : Fin 64) (l : Fin 256), P (ix5 0 0 0 e l) = z (ix2 l ⟨c0 + 64 * n.val + e.val, by omega⟩))
    (inb : ∀ a, off a + (![1, 1, 1, 64, 256] : Fin 5 → ℕ) a ≤ (heads H).size a) (x : S1x1x1x64x256.Idx) :
    P x = newHeads H z c0 h0 ((Rect.unit (s := heads H) off ![1, 1, 1, 64, 256] inb).emb x) := by
  subst hoff
  obtain ⟨a, b, d, e, l, rfl⟩ : ∃ (a b d : Fin 1) (e : Fin 64) (l : Fin 256), x = ix5 a b d e l :=
    ⟨x 0, x 1, x 2, x 3, x 4, by funext a; fin_cases a <;> rfl⟩
  obtain rfl : a = 0 := Subsingleton.elim _ _
  obtain rfl : b = 0 := Subsingleton.elim _ _
  obtain rfl : d = 0 := Subsingleton.elim _ _
  have he : (Rect.unit (s := heads H) ![0, 0, n.val, 0, 0] ![1, 1, 1, 64, 256] inb).emb (ix5 (0 : Fin 1) (0 : Fin 1) (0 : Fin 1) e l)
      = (ix5 (0 : Fin 1) (0 : Fin 1) n e l : (heads H).Idx) := by
    funext a
    refine Fin.ext ?_
    rw [Rect.emb_apply]
    fin_cases a
    · rfl
    · rfl
    · show n.val + 1 * 0 = n.val; omega
    · show 0 + 1 * e.val = e.val; omega
    · show 0 + 1 * l.val = l.val; omega
  rw [he, hP]
  rfl

section Heads
variable (z : FVec Ideal S256x2048 .f32) (e : Fin 64) (l : Fin 256)

theorem pay5_apply : k0_pay5 z (ix5 0 0 0 e l) = z (ix2 l ⟨1088 + e.val, by omega⟩) := by pointwise [k0_pay5]
theorem pay6_apply : k0_pay6 z (ix5 0 0 0 e l) = z (ix2 l ⟨1152 + e.val, by omega⟩) := by pointwise [k0_pay6]
theorem pay7_apply : k0_pay7 z (ix5 0 0 0 e l) = z (ix2 l ⟨1216 + e.val, by omega⟩) := by pointwise [k0_pay7]
theorem pay8_apply : k0_pay8 z (ix5 0 0 0 e l) = z (ix2 l ⟨1536 + e.val, by omega⟩) := by pointwise [k0_pay8]
theorem pay9_apply : k0_pay9 z (ix5 0 0 0 e l) = z (ix2 l ⟨1600 + e.val, by omega⟩) := by pointwise [k0_pay9]
theorem pay12_apply : k0_pay12 z (ix5 0 0 0 e l) = z (ix2 l ⟨1728 + e.val, by omega⟩) := by pointwise [k0_pay12]
theorem pay13_apply : k0_pay13 z (ix5 0 0 0 e l) = z (ix2 l ⟨1792 + e.val, by omega⟩) := by pointwise [k0_pay13]
theorem pay14_apply : k0_pay14 z (ix5 0 0 0 e l) = z (ix2 l ⟨1856 + e.val, by omega⟩) := by pointwise [k0_pay14]
theorem pay15_apply : k0_pay15 z (ix5 0 0 0 e l) = z (ix2 l ⟨1920 + e.val, by omega⟩) := by pointwise [k0_pay15]
theorem pay11_apply : k0_pay11 (k0_pay10 z) (ix5 0 0 0 e l) = z (ix2 l ⟨1664 + e.val, by omega⟩) := by pointwise [k0_pay11, k0_pay10]
theorem pay1_apply : k0_pay1 (k0_pay16 z) (ix5 0 0 0 e l) = z (ix2 l ⟨1984 + e.val, by omega⟩) := by pointwise [k0_pay1, k0_pay16]
theorem pay4_apply (v0 : Vec Ideal S1x256x1024 .f32) (v2 : Vec Ideal S1x1024 .f32) (v3 v5 : Vec Ideal S1x1x1024 .f32) (w : Vec Ideal S1x1024x2048 .bf16) :
    k0_pay4 v0 v2 v3 v5 w (ix5 0 0 0 e l) = k0_pay3 v0 v2 v3 v5 w (ix2 l ⟨1024 + e.val, by omega⟩) := by pointwise [k0_pay4]
end Heads

section
variable (c : Dev nD) (t : Fin cfg0.N) (x0 : Vec Ideal S1x256x1024 .f32) (x1 : Vec Ideal S1x1024 .f32) (x2 x3 : Vec Ideal S1x1x1024 .f32) (x4 : Vec Ideal S1x1024x2048 .bf16)

/-- What a point leaves in output 5: the projected block. -/
theorem out5_eq :
    out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) x0 x1 x2 x3 x4
      = k0_pay2 (k0_pay3 x0 x1 x2 x3 x4) := by
  unfold out0_A_5
  rw [View.read_writes_junk_eq_canon]
  unfold kernelRun0_A
  dsimp only
  sl_unfold_words
  simp only [View.readAt_eq_ld, (hs0_0 t).read_unread, (hs0_1 t).read_unread, (hs0_2 t).read_unread, (hs0_3 t).read_unread, (hs0_4 t).read_unread]
  rw [View.canon_unit_zero (by decide)]
  simp only [View.ld_unit_zero (S := S1x256x1024) (off := ![0, 0, 0]) (by decide), View.ld_unit_zero (S := S1x1024) (off := ![0, 0]) (by decide),
    View.ld_unit_zero (S := S1x1x1024) (off := ![0, 0, 0]) (by decide), View.ld_unit_zero (S := S1x1024x2048) (off := ![0, 0, 0]) (by decide)]

/-- What a point leaves in output 6. -/
theorem out6_eq :
    out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) x0 x1 x2 x3 x4
      = newHeads 2 (k0_pay3 x0 x1 x2 x3 x4) 1024 (by omega) := by
  unfold out0_A_6
  rw [View.read_writes_junk_eq_canon]
  funext y
  refine View.canon_apply_of_pieces _ _ ?_ y (cover0_A_6 c _ _ _ _ _ _ _ _ _ _ _ _ _ _ _ _ _ _ _ _ _ _ _ _ _ _ y)
  unfold kernelRun0_A
  dsimp only
  sl_unfold_words
  simp only [View.readAt_eq_ld, (hs0_0 t).read_unread, (hs0_1 t).read_unread, (hs0_2 t).read_unread, (hs0_3 t).read_unread, (hs0_4 t).read_unread]
  simp only [View.ld_unit_zero (S := S1x256x1024) (off := ![0, 0, 0]) (by decide), View.ld_unit_zero (S := S1x1024) (off := ![0, 0]) (by decide),
    View.ld_unit_zero (S := S1x1x1024) (off := ![0, 0, 0]) (by decide), View.ld_unit_zero (S := S1x1024x2048) (off := ![0, 0, 0]) (by decide)]
  refine List.forall_mem_cons.mpr ⟨?_, List.forall_mem_cons.mpr ⟨?_, fun p hp => absurd hp List.not_mem_nil⟩⟩
  · exact head_piece 2 (k0_pay3 x0 x1 x2 x3 x4) 1024 (by omega) 1 ![0, 0, 1, 0, 0] rfl _ (fun e l => (pay5_apply _ e l)) inb_S1x1x2x64x256_S1x1x1x64x256_0_0_1_0_0
  · exact head_piece 2 (k0_pay3 x0 x1 x2 x3 x4) 1024 (by omega) 0 ![0, 0, 0, 0, 0] rfl _ (fun e l => (pay4_apply e l _ _ _ _ _)) inb_S1x1x2x64x256_S1x1x1x64x256_0_0_0_0_0

/-- What a point leaves in output 7. -/
theorem out7_eq :
    out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) x0 x1 x2 x3 x4
      = newHeads 2 (k0_pay3 x0 x1 x2 x3 x4) 1152 (by omega) := by
  unfold out0_A_7
  rw [View.read_writes_junk_eq_canon]
  funext y
  refine View.canon_apply_of_pieces _ _ ?_ y (cover0_A_7 c _ _ _ _ _ _ _ _ _ _ _ _ _ _ _ _ _ _ _ _ _ _ _ _ _ _ y)
  unfold kernelRun0_A
  dsimp only
  sl_unfold_words
  simp only [View.readAt_eq_ld, (hs0_0 t).read_unread, (hs0_1 t).read_unread, (hs0_2 t).read_unread, (hs0_3 t).read_unread, (hs0_4 t).read_unread]
  simp only [View.ld_unit_zero (S := S1x256x1024) (off := ![0, 0, 0]) (by decide), View.ld_unit_zero (S := S1x1024) (off := ![0, 0]) (by decide),
    View.ld_unit_zero (S := S1x1x1024) (off := ![0, 0, 0]) (by decide), View.ld_unit_zero (S := S1x1024x2048) (off := ![0, 0, 0]) (by decide)]
  refine List.forall_mem_cons.mpr ⟨?_, List.forall_mem_cons.mpr ⟨?_, fun p hp => absurd hp List.not_mem_nil⟩⟩
  · exact head_piece 2 (k0_pay3 x0 x1 x2 x3 x4) 1152 (by omega) 1 ![0, 0, 1, 0, 0] rfl _ (fun e l => (pay7_apply _ e l)) inb_S1x1x2x64x256_S1x1x1x64x256_0_0_1_0_0
  · exact head_piece 2 (k0_pay3 x0 x1 x2 x3 x4) 1152 (by omega) 0 ![0, 0, 0, 0, 0] rfl _ (fun e l => (pay6_apply _ e l)) inb_S1x1x2x64x256_S1x1x1x64x256_0_0_0_0_0

/-- What a point leaves in output 8. -/
theorem out8_eq :
    out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) x0 x1 x2 x3 x4
      = newHeads 4 (k0_pay3 x0 x1 x2 x3 x4) 1536 (by omega) := by
  unfold out0_A_8
  rw [View.read_writes_junk_eq_canon]
  funext y
  refine View.canon_apply_of_pieces _ _ ?_ y (cover0_A_8 c _ _ _ _ _ _ _ _ _ _ _ _ _ _ _ _ _ _ _ _ _ _ _ _ _ _ y)
  unfold kernelRun0_A
  dsimp only
  sl_unfold_words
  simp only [View.readAt_eq_ld, (hs0_0 t).read_unread, (hs0_1 t).read_unread, (hs0_2 t).read_unread, (hs0_3 t).read_unread, (hs0_4 t).read_unread]
  simp only [View.ld_unit_zero (S := S1x256x1024) (off := ![0, 0, 0]) (by decide), View.ld_unit_zero (S := S1x1024) (off := ![0, 0]) (by decide),
    View.ld_unit_zero (S := S1x1x1024) (off := ![0, 0, 0]) (by decide), View.ld_unit_zero (S := S1x1024x2048) (off := ![0, 0, 0]) (by decide)]
  refine List.forall_mem_cons.mpr ⟨?_, List.forall_mem_cons.mpr ⟨?_, List.forall_mem_cons.mpr ⟨?_, List.forall_mem_cons.mpr ⟨?_, fun p hp => absurd hp List.not_mem_nil⟩⟩⟩⟩
  · exact head_piece 4 (k0_pay3 x0 x1 x2 x3 x4) 1536 (by omega) 3 ![0, 0, 3, 0, 0] rfl _ (fun e l => (pay12_apply _ e l)) inb_S1x1x4x64x256_S1x1x1x64x256_0_0_3_0_0
  · exact head_piece 4 (k0_pay3 x0 x1 x2 x3 x4) 1536 (by omega) 2 ![0, 0, 2, 0, 0] rfl _ (fun e l => (pay11_apply _ e l)) inb_S1x1x4x64x256_S1x1x1x64x256_0_0_2_0_0
  · exact head_piece 4 (k0_pay3 x0 x1 x2 x3 x4) 1536 (by omega) 1 ![0, 0, 1, 0, 0] rfl _ (fun e l => (pay9_apply _ e l)) inb_S1x1x4x64x256_S1x1x1x64x256_0_0_1_0_0
  · exact head_piece 4 (k0_pay3 x0 x1 x2 x3 x4) 1536 (by omega) 0 ![0, 0, 0, 0, 0] rfl _ (fun e l => (pay8_apply _ e l)) inb_S1x1x4x64x256_S1x1x1x64x256_0_0_0_0_0

/-- What a point leaves in output 9. -/
theorem out9_eq :
    out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) x0 x1 x2 x3 x4
      = newHeads 4 (k0_pay3 x0 x1 x2 x3 x4) 1792 (by omega) := by
  unfold out0_A_9
  rw [View.read_writes_junk_eq_canon]
  funext y
  refine View.canon_apply_of_pieces _ _ ?_ y (cover0_A_9 c _ _ _ _ _ _ _ _ _ _ _ _ _ _ _ _ _ _ _ _ _ _ _ _ _ _ y)
  unfold kernelRun0_A
  dsimp only
  sl_unfold_words
  simp only [View.readAt_eq_ld, (hs0_0 t).read_unread, (hs0_1 t).read_unread, (hs0_2 t).read_unread, (hs0_3 t).read_unread, (hs0_4 t).read_unread]
  simp only [View.ld_unit_zero (S := S1x256x1024) (off := ![0, 0, 0]) (by decide), View.ld_unit_zero (S := S1x1024) (off := ![0, 0]) (by decide),
    View.ld_unit_zero (S := S1x1x1024) (off := ![0, 0, 0]) (by decide), View.ld_unit_zero (S := S1x1024x2048) (off := ![0, 0, 0]) (by decide)]
  refine List.forall_mem_cons.mpr ⟨?_, List.forall_mem_cons.mpr ⟨?_, List.forall_mem_cons.mpr ⟨?_, List.forall_mem_cons.mpr ⟨?_, fun p hp => absurd hp List.not_mem_nil⟩⟩⟩⟩
  · exact head_piece 4 (k0_pay3 x0 x1 x2 x3 x4) 1792 (by omega) 3 ![0, 0, 3, 0, 0] rfl _ (fun e l => (pay1_apply _ e l)) inb_S1x1x4x64x256_S1x1x1x64x256_0_0_3_0_0
  · exact head_piece 4 (k0_pay3 x0 x1 x2 x3 x4) 1792 (by omega) 2 ![0, 0, 2, 0, 0] rfl _ (fun e l => (pay15_apply _ e l)) inb_S1x1x4x64x256_S1x1x1x64x256_0_0_2_0_0
  · exact head_piece 4 (k0_pay3 x0 x1 x2 x3 x4) 1792 (by omega) 1 ![0, 0, 1, 0, 0] rfl _ (fun e l => (pay14_apply _ e l)) inb_S1x1x4x64x256_S1x1x1x64x256_0_0_1_0_0
  · exact head_piece 4 (k0_pay3 x0 x1 x2 x3 x4) 1792 (by omega) 0 ![0, 0, 0, 0, 0] rfl _ (fun e l => (pay13_apply _ e l)) inb_S1x1x4x64x256_S1x1x1x64x256_0_0_0_0_0

end

end Cert.ProjLast

end
-- ==== Proof.LastArray.lean ====
/- The arrays the second layer's input projection leaves: the projection, and the keys and values of both layers, the first's as given. -/
module

public import proofs.«01_k».proof.Proof.LastBlock

@[expose] public section

noncomputable section

namespace Cert.ProjLast

open Cert.InProjLastIdeal Cert.InProjLastIdeal.Gen Idealize.ShloMosaic Idealize.ShloMosaic.TcCoe
open Idealize.ShloMosaic.Pipeline (Dat)
open Cert.Mix (hrow)

/-- The modulation's `n`-th row of 1024, the same for every entry. -/
def modRow (md : FVec Ideal S1x1x6144 .f32) (n : Fin 6) (d : Fin 1024) : EReal := md (ix3 0 0 ⟨1024 * n.val + d.val, by omega⟩)

/-- The projection of token `l` of entry `b` onto lane `j`. -/
def projected (x : FVec Ideal S16x256x1024 .f32) (g : FVec Ideal S1x1024 .f32) (md : FVec Ideal S1x1x6144 .f32) (w : FVec Ideal S2x1024x6144 .bf16)
    (b : Fin 16) (l : Fin 256) (j : Fin 2048) : EReal :=
  ∑ k, hrow (fun k => x (ix3 b l k)) (fun k => g (ix2 0 k)) (modRow md 1) (modRow md 0) k * w (ix3 1 k ⟨j.val, by omega⟩)

/-- All lanes of the projection. -/
def projOut (x : FVec Ideal S16x256x1024 .f32) (g : FVec Ideal S1x1024 .f32) (md : FVec Ideal S1x1x6144 .f32) (w : FVec Ideal S2x1024x6144 .bf16) :
    S16x256x2048.Idx → EReal := fun i => projected x g md w (i 0) (i 1) (i 2)

/-- The keys or values of both layers: the first layer's as given, the second layer's the `H` heads of the lanes from `c0`, each transposed. -/
def headsOut (H c0 : ℕ) (h0 : c0 + 64 * H ≤ 2048) (x : FVec Ideal S16x256x1024 .f32) (g : FVec Ideal S1x1024 .f32) (md : FVec Ideal S1x1x6144 .f32)
    (w : FVec Ideal S2x1024x6144 .bf16) (prev : (⟨5, ![16, 2, H, 64, 256]⟩ : Shape).Idx → EReal) : (⟨5, ![16, 2, H, 64, 256]⟩ : Shape).Idx → EReal := fun i =>
  if (i 1).val = 0 then prev i else projected x g md w (i 0) (i 4) ⟨c0 + 64 * (i 2).val + (i 3).val, by
    have h2 : (i 2).val < H := (i 2).isLt
    have h3 : (i 3).val < 64 := (i 3).isLt
    omega⟩

variable (m : (ℓ : Loc nD τ sig) → Buf (Elt Ideal) ℓ)

theorem index0 : ∀ t : Fin cfg0.N, win0_0.index t = ![t.val, 0, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0, 1] := (by decide +kernel : ∀ t : Fin grid0.N, _)
theorem index3 : ∀ t : Fin cfg0.N, win0_3.index t = ![0, 0, 0] := (by decide +kernel : ∀ t : Fin grid0.N, _)
theorem index4 : ∀ t : Fin cfg0.N, win0_4.index t = ![1, 0, 0] := (by decide +kernel : ∀ t : Fin grid0.N, _)
theorem index5 : ∀ t : Fin cfg0.N, win0_5.index t = ![t.val, 0, 0] := (by decide +kernel : ∀ t : Fin grid0.N, _)
theorem index6 : ∀ t : Fin cfg0.N, win0_6.index t = ![t.val, 1, 0, 0, 0] := (by decide +kernel : ∀ t : Fin grid0.N, _)
theorem index7 : ∀ t : Fin cfg0.N, win0_7.index t = ![t.val, 1, 0, 0, 0] := (by decide +kernel : ∀ t : Fin grid0.N, _)
theorem index8 : ∀ t : Fin cfg0.N, win0_8.index t = ![t.val, 1, 0, 0, 0] := (by decide +kernel : ∀ t : Fin grid0.N, _)
theorem index9 : ∀ t : Fin cfg0.N, win0_9.index t = ![t.val, 1, 0, 0, 0] := (by decide +kernel : ∀ t : Fin grid0.N, _)

section Blocks
variable (c : Dev nD) (t : Fin cfg0.N)

theorem iblk0_apply (r : Fin 256) (k : Fin 1024) : iblk m c 0 t (ix3 0 r k) = m ((c : Thread nD τ).loc main_arg0) (ix3 (n0 := 16) t r k) := by
  blk_ext! [iblk, V, index0 t]
theorem iblk1_apply (k : Fin 1024) : iblk m c 1 t (ix2 0 k) = m ((c : Thread nD τ).loc main_arg1) (ix2 0 k) := by
  blk_ext! [iblk, V, index1 t]
theorem iblk2_apply (k : Fin 1024) : iblk m c 2 t (ix3 0 0 k) = modRow (m ((c : Thread nD τ).loc main_arg2)) 1 k := by
  unfold modRow; blk_ext! [iblk, V, index2 t]
theorem iblk3_apply (k : Fin 1024) : iblk m c 3 t (ix3 0 0 k) = modRow (m ((c : Thread nD τ).loc main_arg2)) 0 k := by
  unfold modRow; blk_ext! [iblk, V, index3 t]
theorem iblk4_apply (k : Fin 1024) (j : Fin 2048) : iblk m c 4 t (ix3 0 k j) = m ((c : Thread nD τ).loc main_arg3) (ix3 1 k ⟨j.val, by omega⟩) := by
  blk_ext! [iblk, V, index4 t]

/-- The projected block of a point. -/
theorem block_apply (r : Fin 256) (j : Fin 2048) :
    k0_pay3 (iblk m c 0 t) (iblk m c 1 t) (iblk m c 2 t) (iblk m c 3 t) (iblk m c 4 t) (ix2 r j)
      = projected (m ((c : Thread nD τ).loc main_arg0)) (m ((c : Thread nD τ).loc main_arg1)) (m ((c : Thread nD τ).loc main_arg2)) (m ((c : Thread nD τ).loc main_arg3)) t r j := by
  refine (pay3_apply (iblk m c 0 t) (iblk m c 1 t) (iblk m c 2 t) (iblk m c 3 t) (iblk m c 4 t) r j).trans ?_
  simp only [iblk0_apply, iblk1_apply, iblk2_apply, iblk3_apply, iblk4_apply]
  rfl

end Blocks

/-- The projection the launch leaves. -/
theorem array5 (c : Dev nD) :
    (dats m 0 c).arrAt 5 cfg0.N = projOut (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  unfold outsAt0
  rw [out5_eq]
  obtain ⟨y0, r, j, rfl⟩ : ∃ (a : Fin 1) (b : Fin 256) (d : Fin 2048), y = ix3 a b d := ⟨y 0, y 1, y 2, by funext a; fin_cases a <;> rfl⟩
  obtain rfl : y0 = 0 := Subsingleton.elim _ _
  have he : ((cfg0.win 5).blk t).view.emb (ix3 0 r j) = ix3 (n0 := 16) t r j := by blk_ext [index5 t]
  refine Eq.trans ?_ (congrArg (projOut _ _ _ _) he).symm
  exact (pay2_apply _ r j).trans (block_apply m c t r j)

/-- The launch finds result 1 holding the given keys of the windowed branch. -/
theorem entered6 (c : Dev nD) : V m c main_v0_1 = m ((c : Thread nD τ).loc main_arg4) := by
  dsimp only [V, hostOps0]
  after_results_simp <;> rfl

/-- What a point writes back to output 6. -/
theorem written6 (c : Dev nD) (t : Fin cfg0.N) (h : Fin 2) (e : Fin 64) (l : Fin 256) :
    (dats m 0 c).flushed 6 t (ix5 0 0 h e l)
      = k0_pay3 (iblk m c 0 t) (iblk m c 1 t) (iblk m c 2 t) (iblk m c 3 t) (iblk m c 4 t) (ix2 l ⟨1024 + 64 * h.val + e.val, by omega⟩) := by
  rw [Cert.InProjLastIdeal.Value.flushed6]
  unfold outsAt0
  rw [out6_eq]
  rfl

/-- The second layer's keys of the windowed branch. -/
theorem second6 (c : Dev nD) (t : Fin cfg0.N) (h : Fin 2) (e : Fin 64) (l : Fin 256) :
    (dats m 0 c).arrAt 6 cfg0.N (ix5 (n0 := 16) t 1 h e l)
      = projected (m ((c : Thread nD τ).loc main_arg0)) (m ((c : Thread nD τ).loc main_arg1)) (m ((c : Thread nD τ).loc main_arg2)) (m ((c : Thread nD τ).loc main_arg3)) t l ⟨1024 + 64 * h.val + e.val, by omega⟩ := by
  have he : ((cfg0.win 6).blk t).view.emb (ix5 0 0 h e l) = ix5 (n0 := 16) t 1 h e l := by blk_ext [index6 t]
  have hb := congrFun (Cert.InProjLastIdeal.Value.blocks6 m c t (flush0_6 t)) (ix5 0 0 h e l)
  exact (congrArg ((dats m 0 c).arrAt 6 cfg0.N) he).symm.trans (hb.trans ((written6 m c t h e l).trans (block_apply m c t l _)))

/-- No point writes the first layer's keys of the windowed branch. -/
theorem first6 (t : Fin cfg0.N) (i : (⟨5, ![16, 2, 2, 64, 256]⟩ : Shape).Idx) (hi : (i 1).val = 0) : i ∉ ((cfg0.win 6).blk t).view.set := by
  intro hmem
  obtain ⟨y, hy⟩ := View.exists_emb_of_mem_set _ hmem
  have h1 := congrArg (fun z => (z 1).val) hy
  revert h1
  blk_simp [index6 t]
  omega

/-- The keys of the windowed branch, of both layers. -/
theorem array6 (c : Dev nD) :
    (dats m 0 c).arrAt 6 cfg0.N = headsOut 2 1024 (by omega) (m ((c : Thread nD τ).loc main_arg0)) (m ((c : Thread nD τ).loc main_arg1)) (m ((c : Thread nD τ).loc main_arg2)) (m ((c : Thread nD τ).loc main_arg3)) (m ((c : Thread nD τ).loc main_arg4)) := by
  funext i
  obtain ⟨b, a, h, e, l, rfl⟩ : ∃ (b : Fin 16) (a : Fin 2) (h : Fin 2) (e : Fin 64) (l : Fin 256), i = ix5 b a h e l :=
    ⟨i 0, i 1, i 2, i 3, i 4, by funext a; fin_cases a <;> rfl⟩
  by_cases ha : a.val = 0
  · exact (Cert.InProjLastIdeal.Value.entry6 m c _ fun t _ => first6 t _ ha).trans ((congrFun (entered6 m c) _).trans (if_pos ha).symm)
  · obtain rfl : a = 1 := Fin.ext (by omega)
    exact (second6 m c b h e l).trans (if_neg ha).symm

/-- The launch finds result 2 holding the given values of the windowed branch. -/
theorem entered7 (c : Dev nD) : V m c main_v0_2 = m ((c : Thread nD τ).loc main_arg5) := by
  dsimp only [V, hostOps0]
  after_results_simp <;> rfl

/-- What a point writes back to output 7. -/
theorem written7 (c : Dev nD) (t : Fin cfg0.N) (h : Fin 2) (e : Fin 64) (l : Fin 256) :
    (dats m 0 c).flushed 7 t (ix5 0 0 h e l)
      = k0_pay3 (iblk m c 0 t) (iblk m c 1 t) (iblk m c 2 t) (iblk m c 3 t) (iblk m c 4 t) (ix2 l ⟨1152 + 64 * h.val + e.val, by omega⟩) := by
  rw [Cert.InProjLastIdeal.Value.flushed7]
  unfold outsAt0
  rw [out7_eq]
  rfl

/-- The second layer's values of the windowed branch. -/
theorem second7 (c : Dev nD) (t : Fin cfg0.N) (h : Fin 2) (e : Fin 64) (l : Fin 256) :
    (dats m 0 c).arrAt 7 cfg0.N (ix5 (n0 := 16) t 1 h e l)
      = projected (m ((c : Thread nD τ).loc main_arg0)) (m ((c : Thread nD τ).loc main_arg1)) (m ((c : Thread nD τ).loc main_arg2)) (m ((c : Thread nD τ).loc main_arg3)) t l ⟨1152 + 64 * h.val + e.val, by omega⟩ := by
  have he : ((cfg0.win 7).blk t).view.emb (ix5 0 0 h e l) = ix5 (n0 := 16) t 1 h e l := by blk_ext [index7 t]
  have hb := congrFun (Cert.InProjLastIdeal.Value.blocks7 m c t (flush0_7 t)) (ix5 0 0 h e l)
  exact (congrArg ((dats m 0 c).arrAt 7 cfg0.N) he).symm.trans (hb.trans ((written7 m c t h e l).trans (block_apply m c t l _)))

/-- No point writes the first layer's values of the windowed branch. -/
theorem first7 (t : Fin cfg0.N) (i : (⟨5, ![16, 2, 2, 64, 256]⟩ : Shape).Idx) (hi : (i 1).val = 0) : i ∉ ((cfg0.win 7).blk t).view.set := by
  intro hmem
  obtain ⟨y, hy⟩ := View.exists_emb_of_mem_set _ hmem
  have h1 := congrArg (fun z => (z 1).val) hy
  revert h1
  blk_simp [index7 t]
  omega

/-- The values of the windowed branch, of both layers. -/
theorem array7 (c : Dev nD) :
    (dats m 0 c).arrAt 7 cfg0.N = headsOut 2 1152 (by omega) (m ((c : Thread nD τ).loc main_arg0)) (m ((c : Thread nD τ).loc main_arg1)) (m ((c : Thread nD τ).loc main_arg2)) (m ((c : Thread nD τ).loc main_arg3)) (m ((c : Thread nD τ).loc main_arg5)) := by
  funext i
  obtain ⟨b, a, h, e, l, rfl⟩ : ∃ (b : Fin 16) (a : Fin 2) (h : Fin 2) (e : Fin 64) (l : Fin 256), i = ix5 b a h e l :=
    ⟨i 0, i 1, i 2, i 3, i 4, by funext a; fin_cases a <;> rfl⟩
  by_cases ha : a.val = 0
  · exact (Cert.InProjLastIdeal.Value.entry7 m c _ fun t _ => first7 t _ ha).trans ((congrFun (entered7 m c) _).trans (if_pos ha).symm)
  · obtain rfl : a = 1 := Fin.ext (by omega)
    exact (second7 m c b h e l).trans (if_neg ha).symm

/-- The launch finds result 3 holding the given keys of the neighbourhood branch. -/
theorem entered8 (c : Dev nD) : V m c main_v0_3 = m ((c : Thread nD τ).loc main_arg6) := by
  dsimp only [V, hostOps0]
  after_results_simp <;> rfl

/-- What a point writes back to output 8. -/
theorem written8 (c : Dev nD) (t : Fin cfg0.N) (h : Fin 4) (e : Fin 64) (l : Fin 256) :
    (dats m 0 c).flushed 8 t (ix5 0 0 h e l)
      = k0_pay3 (iblk m c 0 t) (iblk m c 1 t) (iblk m c 2 t) (iblk m c 3 t) (iblk m c 4 t) (ix2 l ⟨1536 + 64 * h.val + e.val, by omega⟩) := by
  rw [Cert.InProjLastIdeal.Value.flushed8]
  unfold outsAt0
  rw [out8_eq]
  rfl

/-- The second layer's keys of the neighbourhood branch. -/
theorem second8 (c : Dev nD) (t : Fin cfg0.N) (h : Fin 4) (e : Fin 64) (l : Fin 256) :
    (dats m 0 c).arrAt 8 cfg0.N (ix5 (n0 := 16) t 1 h e l)
      = projected (m ((c : Thread nD τ).loc main_arg0)) (m ((c : Thread nD τ).loc main_arg1)) (m ((c : Thread nD τ).loc main_arg2)) (m ((c : Thread nD τ).loc main_arg3)) t l ⟨1536 + 64 * h.val + e.val, by omega⟩ := by
  have he : ((cfg0.win 8).blk t).view.emb (ix5 0 0 h e l) = ix5 (n0 := 16) t 1 h e l := by blk_ext [index8 t]
  have hb := congrFun (Cert.InProjLastIdeal.Value.blocks8 m c t (flush0_8 t)) (ix5 0 0 h e l)
  exact (congrArg ((dats m 0 c).arrAt 8 cfg0.N) he).symm.trans (hb.trans ((written8 m c t h e l).trans (block_apply m c t l _)))

/-- No point writes the first layer's keys of the neighbourhood branch. -/
theorem first8 (t : Fin cfg0.N) (i : (⟨5, ![16, 2, 4, 64, 256]⟩ : Shape).Idx) (hi : (i 1).val = 0) : i ∉ ((cfg0.win 8).blk t).view.set := by
  intro hmem
  obtain ⟨y, hy⟩ := View.exists_emb_of_mem_set _ hmem
  have h1 := congrArg (fun z => (z 1).val) hy
  revert h1
  blk_simp [index8 t]
  omega

/-- The keys of the neighbourhood branch, of both layers. -/
theorem array8 (c : Dev nD) :
    (dats m 0 c).arrAt 8 cfg0.N = headsOut 4 1536 (by omega) (m ((c : Thread nD τ).loc main_arg0)) (m ((c : Thread nD τ).loc main_arg1)) (m ((c : Thread nD τ).loc main_arg2)) (m ((c : Thread nD τ).loc main_arg3)) (m ((c : Thread nD τ).loc main_arg6)) := by
  funext i
  obtain ⟨b, a, h, e, l, rfl⟩ : ∃ (b : Fin 16) (a : Fin 2) (h : Fin 4) (e : Fin 64) (l : Fin 256), i = ix5 b a h e l :=
    ⟨i 0, i 1, i 2, i 3, i 4, by funext a; fin_cases a <;> rfl⟩
  by_cases ha : a.val = 0
  · exact (Cert.InProjLastIdeal.Value.entry8 m c _ fun t _ => first8 t _ ha).trans ((congrFun (entered8 m c) _).trans (if_pos ha).symm)
  · obtain rfl : a = 1 := Fin.ext (by omega)
    exact (second8 m c b h e l).trans (if_neg ha).symm

/-- The launch finds result 4 holding the given values of the neighbourhood branch. -/
theorem entered9 (c : Dev nD) : V m c main_v0_4 = m ((c : Thread nD τ).loc main_arg7) := by
  dsimp only [V, hostOps0]
  after_results_simp <;> rfl

/-- What a point writes back to output 9. -/
theorem written9 (c : Dev nD) (t : Fin cfg0.N) (h : Fin 4) (e : Fin 64) (l : Fin 256) :
    (dats m 0 c).flushed 9 t (ix5 0 0 h e l)
      = k0_pay3 (iblk m c 0 t) (iblk m c 1 t) (iblk m c 2 t) (iblk m c 3 t) (iblk m c 4 t) (ix2 l ⟨1792 + 64 * h.val + e.val, by omega⟩) := by
  rw [Cert.InProjLastIdeal.Value.flushed9]
  unfold outsAt0
  rw [out9_eq]
  rfl

/-- The second layer's values of the neighbourhood branch. -/
theorem second9 (c : Dev nD) (t : Fin cfg0.N) (h : Fin 4) (e : Fin 64) (l : Fin 256) :
    (dats m 0 c).arrAt 9 cfg0.N (ix5 (n0 := 16) t 1 h e l)
      = projected (m ((c : Thread nD τ).loc main_arg0)) (m ((c : Thread nD τ).loc main_arg1)) (m ((c : Thread nD τ).loc main_arg2)) (m ((c : Thread nD τ).loc main_arg3)) t l ⟨1792 + 64 * h.val + e.val, by omega⟩ := by
  have he : ((cfg0.win 9).blk t).view.emb (ix5 0 0 h e l) = ix5 (n0 := 16) t 1 h e l := by blk_ext [index9 t]
  have hb := congrFun (Cert.InProjLastIdeal.Value.blocks9 m c t (flush0_9 t)) (ix5 0 0 h e l)
  exact (congrArg ((dats m 0 c).arrAt 9 cfg0.N) he).symm.trans (hb.trans ((written9 m c t h e l).trans (block_apply m c t l _)))

/-- No point writes the first layer's values of the neighbourhood branch. -/
theorem first9 (t : Fin cfg0.N) (i : (⟨5, ![16, 2, 4, 64, 256]⟩ : Shape).Idx) (hi : (i 1).val = 0) : i ∉ ((cfg0.win 9).blk t).view.set := by
  intro hmem
  obtain ⟨y, hy⟩ := View.exists_emb_of_mem_set _ hmem
  have h1 := congrArg (fun z => (z 1).val) hy
  revert h1
  blk_simp [index9 t]
  omega

/-- The values of the neighbourhood branch, of both layers. -/
theorem array9 (c : Dev nD) :
    (dats m 0 c).arrAt 9 cfg0.N = headsOut 4 1792 (by omega) (m ((c : Thread nD τ).loc main_arg0)) (m ((c : Thread nD τ).loc main_arg1)) (m ((c : Thread nD τ).loc main_arg2)) (m ((c : Thread nD τ).loc main_arg3)) (m ((c : Thread nD τ).loc main_arg7)) := by
  funext i
  obtain ⟨b, a, h, e, l, rfl⟩ : ∃ (b : Fin 16) (a : Fin 2) (h : Fin 4) (e : Fin 64) (l : Fin 256), i = ix5 b a h e l :=
    ⟨i 0, i 1, i 2, i 3, i 4, by funext a; fin_cases a <;> rfl⟩
  by_cases ha : a.val = 0
  · exact (Cert.InProjLastIdeal.Value.entry9 m c _ fun t _ => first9 t _ ha).trans ((congrFun (entered9 m c) _).trans (if_pos ha).symm)
  · obtain rfl : a = 1 := Fin.ext (by omega)
    exact (second9 m c b h e l).trans (if_neg ha).symm

end Cert.ProjLast

end
-- ==== Proof.LastRef.lean ====
/- What the reference of the second layer's input projection holds, element by element. -/
module

public import proofs.«01_k».proof.Proof.LastArray
public import proofs.«01_k».proof.Proof.Gen.InProjLastRefIdeal.Read

@[expose] public section

noncomputable section

namespace Cert.ProjLast

open Cert.InProjLastRefIdeal Cert.InProjLastRefIdeal.Read Idealize.ShloMosaic Idealize.ShloMosaic.TcCoe
open Cert.Mix (hrow)

variable (x : FVec Ideal S16x256x1024 .f32) (g : FVec Ideal S1x1024 .f32) (md : FVec Ideal S1x1x6144 .f32) (w : FVec Ideal S2x1024x6144 .bf16)

theorem ref_row (b : Fin 16) (l : Fin 256) (d : Fin 1024) :
    val_main_v24 (F := Ideal) x g md (ix3 b l d) = hrow (fun k => x (ix3 b l k)) (fun k => g (ix2 0 k)) (modRow md 1) (modRow md 0) d := by
  pointwise [val_main_v24, val_main_v23, val_main_v22, val_main_v21, val_main_v20, val_main_v19, val_main_cst_2, val_main_v18, val_main_v17, val_main_v16,
    val_main_v15, val_main_v14, val_main_v13, val_main_v12, val_main_v11, val_main_cst_1, val_main_v10, val_main_v9, val_main_cst_0, val_main_v8, val_main_v7,
    val_main_cst, val_main_v6, val_main_v1, val_main_v0, hrow, modRow]

theorem ref_proj (b : Fin 16) (l : Fin 256) (j : Fin 2048) : val_main_v29 (F := Ideal) x g md w (ix3 b l j) = projected x g md w b l j := by
  pointwise [val_main_v29, val_main_v28, val_main_v27, val_main_v26, val_main_v25, projected]
  simp only [ref_row]

theorem ref_out : val_main_v36 (F := Ideal) x g md w = projOut x g md w := by
  funext i
  obtain ⟨b, l, j, rfl⟩ : ∃ (b : Fin 16) (l : Fin 256) (j : Fin 2048), i = ix3 b l j := ⟨i 0, i 1, i 2, by funext a; fin_cases a <;> rfl⟩
  exact ref_proj x g md w b l j

theorem ref_heads43 (p : FVec Ideal S16x2x2x64x256 .f32) : val_main_v43 (F := Ideal) x g md w p = headsOut 2 1024 (by omega) x g md w p := by
  funext i
  obtain ⟨b, a, h, e, l, rfl⟩ : ∃ (b : Fin 16) (a : Fin 2) (h : Fin 2) (e : Fin 64) (l : Fin 256), i = ix5 b a h e l :=
    ⟨i 0, i 1, i 2, i 3, i 4, by funext a; fin_cases a <;> rfl⟩
  show _ = if a.val = 0 then p (ix5 b a h e l) else projected x g md w b l ⟨1024 + 64 * h.val + e.val, by omega⟩
  pointwise [val_main_v43, val_main_v42, val_main_v41, val_main_v40, val_main_v39, val_main_v38, val_main_v37, val_main_v31]
  simp only [ref_proj]
  by_cases ha : a.val = 0
  · rw [dif_pos (by omega), if_pos ha]
    exact congrArg (fun q => p (ix5 b q h e l)) (Fin.ext ha.symm)
  · rw [dif_neg (by omega), if_neg ha]
    exact congrArg (projected x g md w b l) (Fin.ext (by dsimp only; omega))

theorem ref_heads50 (p : FVec Ideal S16x2x2x64x256 .f32) : val_main_v50 (F := Ideal) x g md w p = headsOut 2 1152 (by omega) x g md w p := by
  funext i
  obtain ⟨b, a, h, e, l, rfl⟩ : ∃ (b : Fin 16) (a : Fin 2) (h : Fin 2) (e : Fin 64) (l : Fin 256), i = ix5 b a h e l :=
    ⟨i 0, i 1, i 2, i 3, i 4, by funext a; fin_cases a <;> rfl⟩
  show _ = if a.val = 0 then p (ix5 b a h e l) else projected x g md w b l ⟨1152 + 64 * h.val + e.val, by omega⟩
  pointwise [val_main_v50, val_main_v49, val_main_v48, val_main_v47, val_main_v46, val_main_v45, val_main_v44, val_main_v32]
  simp only [ref_proj]
  by_cases ha : a.val = 0
  · rw [dif_pos (by omega), if_pos ha]
    exact congrArg (fun q => p (ix5 b q h e l)) (Fin.ext ha.symm)
  · rw [dif_neg (by omega), if_neg ha]
    exact congrArg (projected x g md w b l) (Fin.ext (by dsimp only; omega))

theorem ref_heads57 (p : FVec Ideal S16x2x4x64x256 .f32) : val_main_v57 (F := Ideal) x g md w p = headsOut 4 1536 (by omega) x g md w p := by
  funext i
  obtain ⟨b, a, h, e, l, rfl⟩ : ∃ (b : Fin 16) (a : Fin 2) (h : Fin 4) (e : Fin 64) (l : Fin 256), i = ix5 b a h e l :=
    ⟨i 0, i 1, i 2, i 3, i 4, by funext a; fin_cases a <;> rfl⟩
  show _ = if a.val = 0 then p (ix5 b a h e l) else projected x g md w b l ⟨1536 + 64 * h.val + e.val, by omega⟩
  pointwise [val_main_v57, val_main_v56, val_main_v55, val_main_v54, val_main_v53, val_main_v52, val_main_v51, val_main_v34]
  simp only [ref_proj]
  by_cases ha : a.val = 0
  · rw [dif_pos (by omega), if_pos ha]
    exact congrArg (fun q => p (ix5 b q h e l)) (Fin.ext ha.symm)
  · rw [dif_neg (by omega), if_neg ha]
    exact congrArg (projected x g md w b l) (Fin.ext (by dsimp only; omega))

theorem ref_heads64 (p : FVec Ideal S16x2x4x64x256 .f32) : val_main_v64 (F := Ideal) x g md w p = headsOut 4 1792 (by omega) x g md w p := by
  funext i
  obtain ⟨b, a, h, e, l, rfl⟩ : ∃ (b : Fin 16) (a : Fin 2) (h : Fin 4) (e : Fin 64) (l : Fin 256), i = ix5 b a h e l :=
    ⟨i 0, i 1, i 2, i 3, i 4, by funext a; fin_cases a <;> rfl⟩
  show _ = if a.val = 0 then p (ix5 b a h e l) else projected x g md w b l ⟨1792 + 64 * h.val + e.val, by omega⟩
  pointwise [val_main_v64, val_main_v63, val_main_v62, val_main_v61, val_main_v60, val_main_v59, val_main_v58, val_main_v35]
  simp only [ref_proj]
  by_cases ha : a.val = 0
  · rw [dif_pos (by omega), if_pos ha]
    exact congrArg (fun q => p (ix5 b q h e l)) (Fin.ext ha.symm)
  · rw [dif_neg (by omega), if_neg ha]
    exact congrArg (projected x g md w b l) (Fin.ext (by dsimp only; omega))

end Cert.ProjLast

end
-- ==== Proof.LastClaim.lean ====
/- The claims of the second layer's input projection: the kernel and its reference end with equal results, and the reference's frame. -/
module

public import proofs.«01_k».proof.Proof.LastRef
public import Idealize.ShloMosaic.Adequacy
public import Idealize.ShloMosaic.Init
public import proofs.«01_k».proof.Defs

@[expose] public section

noncomputable section

namespace Cert.ProjLast

open Idealize.ShloMosaic Idealize.ShloMosaic.TcCoe Idealize.SL.Sem

/-- The reference runs, leaves its arguments alone and ends with every counter at zero. -/
theorem reference_frame : Cert.quiescent_InProjLastRefIdeal (hInProjLastRefIdeal := Cert.InProjLastRefIdeal.Gen.facts) := fun m ρ _ =>
  (θ_run _ _ _).mono (fun r h => ⟨fun c => (h c).2.2.2.2.2, Idealize.ShloMosaic.sem_eq_zero_of_no_sems (by decide) r.2⟩)
    (Cert.InProjLastRefIdeal.Value.run m ρ)

/-- The kernel and the reference, from equal arguments, end with equal results. -/
theorem equal_results : Cert.algebraic_InProjLastIdeal_InProjLastRefIdeal (hInProjLastIdeal := Cert.InProjLastIdeal.Gen.facts)
    (hInProjLastRefIdeal := Cert.InProjLastRefIdeal.Gen.facts) := by
  intro m ρ m' ρ' hpre hagree
  refine ⟨fun c => (Cert.InProjLastIdeal.Gen.dats m 0 c).arrAt 5 Cert.InProjLastIdeal.cfg0.N, fun c => (Cert.InProjLastIdeal.Gen.dats m 0 c).arrAt 6 Cert.InProjLastIdeal.cfg0.N,
    fun c => (Cert.InProjLastIdeal.Gen.dats m 0 c).arrAt 7 Cert.InProjLastIdeal.cfg0.N, fun c => (Cert.InProjLastIdeal.Gen.dats m 0 c).arrAt 8 Cert.InProjLastIdeal.cfg0.N,
    fun c => (Cert.InProjLastIdeal.Gen.dats m 0 c).arrAt 9 Cert.InProjLastIdeal.cfg0.N, ?_, ?_⟩
  · refine (θ_run _ _ _).mono (fun r h c => ?_) (Cert.InProjLastIdeal.Value.run_blocks m ρ)
    exact h c
  · refine (θ_run _ _ _).mono (fun r h c => ?_) (Cert.InProjLastRefIdeal.Value.run m' ρ')
    obtain ⟨h0, h1, h2, h3, h4, h5, h6, h7⟩ := hagree c
    refine ⟨(h c).1.trans ?_, (h c).2.1.trans ?_, (h c).2.2.1.trans ?_, (h c).2.2.2.1.trans ?_, (h c).2.2.2.2.1.trans ?_, (h c).2.2.2.2.2⟩
    · rw [Cert.InProjLastRefIdeal.Read.val_main_v36_eq, h0, h1, h2, h3, ref_out]
      exact (array5 m c).symm
    · rw [Cert.InProjLastRefIdeal.Read.val_main_v43_eq, h0, h1, h2, h3, h4, ref_heads43]
      exact (array6 m c).symm
    · rw [Cert.InProjLastRefIdeal.Read.val_main_v50_eq, h0, h1, h2, h3, h5, ref_heads50]
      exact (array7 m c).symm
    · rw [Cert.InProjLastRefIdeal.Read.val_main_v57_eq, h0, h1, h2, h3, h6, ref_heads57]
      exact (array8 m c).symm
    · rw [Cert.InProjLastRefIdeal.Read.val_main_v64_eq, h0, h1, h2, h3, h7, ref_heads64]
      exact (array9 m c).symm

end Cert.ProjLast

end
-- ==== Proof.JoinBlock.lean ====
/- The combination on one token: the experts' rows picked by the token's slots, the residual and the last norm, and what the
   kernel's stages hold at an index. -/
module

public import proofs.«01_k».proof.Proof.Gen.CombineIdeal.Frame
public import Idealize.ShloMosaic.Lib.Pointwise
public import Idealize.ShloMosaic.Lib.Pipeline.ValueKit

@[expose] public section

noncomputable section

namespace Cert.Join

open Cert.CombineIdeal Cert.CombineIdeal.Gen Idealize.ShloMosaic Idealize.ShloMosaic.TcCoe

/-- Row `c` of an expert's capacity, as the number a slot is compared with. -/
def slotNo (c : ℕ) : EReal := FloatOps.sitofp (F := Ideal) .f32 (BitVec.ofNat 32 c)

/-- One where a token's slot is row `c`, else zero. -/
def hit (s : EReal) (c : ℕ) : EReal := if s = slotNo c then 1 else 0

/-- The sum of the experts' rows that hold the token. -/
def scattered (s : Fin 16 → EReal) (y : Fin 16 → Fin 32 → Fin 1024 → EReal) (d : Fin 1024) : EReal :=
  ∑ c : Fin 32, ∑ e : Fin 16, hit (s e) c.val * y e c d

/-- A row divided by its root mean square and scaled by the norm's weights. -/
def normed (v g : Fin 1024 → EReal) (d : Fin 1024) : EReal :=
  v d * Ideal.rsqrt (Ideal.div (∑ k, v k * v k) (Ideal.ofBits .f32 0x44800000#32) + Ideal.ofBits .f32 0x358637BD#32) * g d

/-- The lane's quotient by 32, as the kernel computes it. -/
theorem quotient : ∀ j : Fin 512,
    Scalar.select
      (IntOp.andi
        (IntOp.cmpi CmpIPredicate.ne
          (IntOp.subi (BitVec.setWidth 32 (IntOp.cmpi CmpIPredicate.sgt (BitVec.ofNat 32 j.val) 0#32))
            (BitVec.setWidth 32 (IntOp.cmpi CmpIPredicate.slt (BitVec.ofNat 32 j.val) 0#32)))
          (Scalar.subi (Scalar.extui (Scalar.cmpi CmpIPredicate.sgt 32#32 0#32)) (Scalar.extui (Scalar.cmpi CmpIPredicate.slt 32#32 0#32))))
        (IntOp.cmpi CmpIPredicate.ne (IntOp.remsi ArithUnit.vector (BitVec.ofNat 32 j.val) 32#32) 0#32))
      (IntOp.subi (IntOp.divsi ArithUnit.vector (BitVec.ofNat 32 j.val) 32#32) 1#32)
      (IntOp.divsi ArithUnit.vector (BitVec.ofNat 32 j.val) 32#32) = BitVec.ofNat 32 (j.val / 32) := by decide +kernel

/-- The capacity, as the kernel computes it. -/
theorem capacity : Scalar.select (Scalar.cmpi CmpIPredicate.eq 32#32 0#32) 1#32 32#32 = (32#32 : BitVec 32) := by decide

/-- The lane's remainder by 32, as the kernel computes it. -/
theorem remainder : ∀ j : Fin 512,
    Scalar.select
      (IntOp.andi
        (IntOp.xori (IntOp.cmpi CmpIPredicate.slt (IntOp.remsi ArithUnit.vector (BitVec.ofNat 32 j.val) 32#32) 0#32) (Scalar.cmpi CmpIPredicate.slt 32#32 0#32))
        (IntOp.cmpi CmpIPredicate.ne (IntOp.remsi ArithUnit.vector (BitVec.ofNat 32 j.val) 32#32) 0#32))
      (IntOp.addi (IntOp.remsi ArithUnit.vector (BitVec.ofNat 32 j.val) 32#32) 32#32)
      (IntOp.remsi ArithUnit.vector (BitVec.ofNat 32 j.val) 32#32)
        = BitVec.ofNat 32 (j.val % 32) := by decide +kernel

/-- Two quotients are the same word where they are the same number. -/
theorem same_word : ∀ (a x : Fin 16), IntOp.cmpi CmpIPredicate.eq (BitVec.ofNat 32 a.val) (BitVec.ofNat 32 x.val) = if x = a then 1#1 else 0#1 := by
  decide +kernel

/-- Each lane takes the slot of its expert: the lane's quotient by the capacity. -/
theorem pay2_apply (v0 : Vec Ideal S1x256x16 .f32) (r : Fin 256) (j : Fin 512) :
    k0_pay2 v0 (ix2 r j) = v0 (ix3 0 r ⟨j.val / 32, by omega⟩) := by
  pointwise [k0_pay2]
  simp only [quotient j]
  have hw (x : Fin 16) : IntOp.cmpi CmpIPredicate.eq (BitVec.ofNat 32 (j.val / 32)) (BitVec.ofNat 32 x.val)
      = if x = (⟨j.val / 32, by omega⟩ : Fin 16) then 1#1 else 0#1 := same_word ⟨j.val / 32, by omega⟩ x
  simp only [hw]
  rw [Finset.sum_eq_single (⟨j.val / 32, by omega⟩ : Fin 16)]
  · rw [if_pos rfl]; rfl
  · intro x _ hx
    rw [if_neg hx]; rfl
  · intro h; exact absurd (Finset.mem_univ _) h

/-- The lanes' sum is the sum over the experts and their rows. -/
theorem lanes (s : Fin 16 → EReal) (y : Fin 16 → Fin 32 → Fin 1024 → EReal) (d : Fin 1024) :
    (∑ j : Fin 512, (if s ⟨j.val / 32, by omega⟩ = slotNo (j.val % 32) then 1 else 0) * y ⟨j.val / 32, by omega⟩ ⟨j.val % 32, by omega⟩ d)
      = scattered s y d := by
  unfold scattered
  rw [Finset.sum_comm, ← Fintype.sum_prod_type' (fun (e : Fin 16) (c : Fin 32) => hit (s e) c.val * y e c d)]
  exact (Equiv.sum_comp (finProdFinEquiv (m := 16) (n := 32)).symm fun p : Fin 16 × Fin 32 => hit (s p.1) p.2.val * y p.1 p.2 d)

/-- The row the kernel stores. -/
theorem stored (v0 : Vec Ideal S1x256x16 .f32) (y : Vec Ideal S16x1x32x1024 .bf16) (x : Vec Ideal S1x256x1024 .f32) (g2 : Vec Ideal S1x1x1024 .f32)
    (g : Vec Ideal S1x1024 .f32) (r : Fin 256) (d : Fin 1024) :
    k0_pay1 (k0_pay5 (k0_pay2 v0) 32#32 k0_pay3 k0_pay4 y x g2) g (ix3 0 r d)
      = normed (fun k => x (ix3 0 r k) + g2 (ix3 0 0 k) * scattered (fun e => v0 (ix3 0 r e)) (fun e c k => y (ix4 e 0 c k)) k) (fun k => g (ix2 0 k)) d := by
  simp only [← lanes]
  unfold normed slotNo
  pointwise [k0_pay1, k0_pay5, k0_pay3, k0_pay4]
  simp only [capacity, remainder, pay2_apply]

end Cert.Join

end
-- ==== Proof.JoinArray.lean ====
/- The array the combination's launch leaves. -/
module

public import proofs.«01_k».proof.Proof.JoinBlock
public import Idealize.ShloMosaic.Lib.Pipeline.Covers

@[expose] public section

noncomputable section

namespace Cert.Join

open Cert.CombineIdeal Cert.CombineIdeal.Gen Idealize.ShloMosaic Idealize.ShloMosaic.TcCoe Idealize.SL.Sem

/-- The last residual and norm, of every token. -/
def joined (s : FVec Ideal S16x256x16 .f32) (y : FVec Ideal S16x16x32x1024 .bf16) (x : FVec Ideal S16x256x1024 .f32) (md : FVec Ideal S1x1x6144 .f32)
    (g : FVec Ideal S1x1024 .f32) : S16x256x1024.Idx → EReal := fun i =>
  normed (fun k => x (ix3 (i 0) (i 1) k) + md (ix3 0 0 ⟨5120 + k.val, by omega⟩) * scattered (fun e => s (ix3 (i 0) (i 1) e)) (fun e c k => y (ix4 e (i 0) c k)) k)
    (fun k => g (ix2 0 k)) (i 2)

variable (m : (ℓ : Loc nD τ sig) → Buf (Elt Ideal) ℓ)

/-- No window's place depends on the prefetched offsets. -/
theorem ok : Ok m := trivial

section
variable (c : Dev nD) (t : Fin (cfgM m (ok m)).N) (x0 : Vec Ideal S1x256x16 .f32) (x1 : Vec Ideal S16x1x32x1024 .bf16) (x2 : Vec Ideal S1x256x1024 .f32)
  (x3 : Vec Ideal S1x1x1024 .f32) (x4 : Vec Ideal S1x1024 .f32) (xt : TbBuf0 (F := Ideal) c tbM0_0)

/-- What a point leaves in the output's block. -/
theorem out5_eq :
    out0_A_5 c (grid0.coords t) (ms0_0 m (ok m) t) (hs0_0 m (ok m) t) (ms0_1 m (ok m) t) (hs0_1 m (ok m) t) (ms0_2 m (ok m) t) (hs0_2 m (ok m) t)
        (ms0_3 m (ok m) t) (hs0_3 m (ok m) t) (ms0_4 m (ok m) t) (hs0_4 m (ok m) t) (ms0_5 m (ok m) t) (hs0_5 m (ok m) t) x0 x1 x2 x3 x4 xt
      = k0_pay1 (k0_pay5 (k0_pay2 x0) 32#32 k0_pay3 k0_pay4 x1 x2 x3) x4 := by
  unfold out0_A_5
  rw [View.read_writes_junk_eq_canon]
  unfold kernelRun0_A
  dsimp only
  sl_unfold_words
  simp only [View.readAt_eq_ld, (hs0_0 m (ok m) t).read_unread, (hs0_1 m (ok m) t).read_unread, (hs0_2 m (ok m) t).read_unread, (hs0_3 m (ok m) t).read_unread,
    (hs0_4 m (ok m) t).read_unread]
  rw [View.canon_unit_zero (by decide)]
  simp only [View.ld_unit_zero (S := S1x256x1024) (off := ![0, 0, 0]) (by decide), View.ld_unit_zero (S := S1x1024) (off := ![0, 0]) (by decide),
    View.ld_unit_zero (S := S1x1x1024) (off := ![0, 0, 0]) (by decide), View.ld_unit_zero (S := S1x256x16) (off := ![0, 0, 0]) (by decide),
    View.ld_unit_zero (S := S16x1x32x1024) (off := ![0, 0, 0, 0]) (by decide)]

end

theorem index0 (t : Fin (cfgM m (ok m)).N) : (pcfg0.win (adm m (ok m)) 0).index t = ![t.val, 0, 0] :=
  (by decide +kernel : ∀ t : Fin grid0.N, cc0_transform_0 (grid0.coords t) = ![t.val, 0, 0]) t
theorem index1 (t : Fin (cfgM m (ok m)).N) : (pcfg0.win (adm m (ok m)) 1).index t = ![0, t.val, 0, 0] :=
  (by decide +kernel : ∀ t : Fin grid0.N, cc0_transform_1 (grid0.coords t) = ![0, t.val, 0, 0]) t
theorem index2 (t : Fin (cfgM m (ok m)).N) : (pcfg0.win (adm m (ok m)) 2).index t = ![t.val, 0, 0] :=
  (by decide +kernel : ∀ t : Fin grid0.N, cc0_transform_2 (grid0.coords t) = ![t.val, 0, 0]) t
theorem index3 (t : Fin (cfgM m (ok m)).N) : (pcfg0.win (adm m (ok m)) 3).index t = ![0, 0, 5] :=
  (by decide +kernel : ∀ t : Fin grid0.N, cc0_transform_3 (grid0.coords t) = ![0, 0, 5]) t
theorem index4 (t : Fin (cfgM m (ok m)).N) : (pcfg0.win (adm m (ok m)) 4).index t = ![0, 0] :=
  (by decide +kernel : ∀ t : Fin grid0.N, cc0_transform_4 (grid0.coords t) = ![0, 0]) t
theorem index5 (t : Fin (cfgM m (ok m)).N) : (pcfg0.win (adm m (ok m)) 5).index t = ![t.val, 0, 0] :=
  (by decide +kernel : ∀ t : Fin grid0.N, cc0_transform_5 (grid0.coords t) = ![t.val, 0, 0]) t

section Blocks
variable (c : Dev nD) (t : Fin (cfgM m (ok m)).N)

theorem iblk0_apply (r : Fin 256) (e : Fin 16) : iblk m (ok m) c 0 t (ix3 0 r e) = m ((c : Thread nD τ).loc main_arg1) (ix3 (n0 := 16) t r e) := by
  blk_ext! [iblk, V] <;> erw [index0 m t] <;> simp [Fin.ext_iff] <;> omega

theorem iblk1_apply (e : Fin 16) (r : Fin 32) (k : Fin 1024) :
    iblk m (ok m) c 1 t (ix4 e 0 r k) = m ((c : Thread nD τ).loc main_arg2) (ix4 (n1 := 16) e t r k) := by
  blk_ext! [iblk, V] <;> erw [index1 m t] <;> simp [Fin.ext_iff] <;> omega
theorem iblk2_apply (r : Fin 256) (k : Fin 1024) : iblk m (ok m) c 2 t (ix3 0 r k) = m ((c : Thread nD τ).loc main_arg3) (ix3 (n0 := 16) t r k) := by
  blk_ext! [iblk, V] <;> erw [index2 m t] <;> simp [Fin.ext_iff] <;> omega
theorem iblk3_apply (k : Fin 1024) : iblk m (ok m) c 3 t (ix3 0 0 k) = m ((c : Thread nD τ).loc main_arg4) (ix3 0 0 ⟨5120 + k.val, by omega⟩) := by
  blk_ext! [iblk, V] <;> erw [index3 m t] <;> simp [Fin.ext_iff] <;> omega
theorem iblk4_apply (k : Fin 1024) : iblk m (ok m) c 4 t (ix2 0 k) = m ((c : Thread nD τ).loc main_arg5) (ix2 0 k) := by
  blk_ext! [iblk, V] <;> erw [index4 m t] <;> simp [Fin.ext_iff] <;> omega

/-- The row a point stores. -/
theorem block_apply (r : Fin 256) (d : Fin 1024) :
    k0_pay1 (k0_pay5 (k0_pay2 (iblk m (ok m) c 0 t)) 32#32 k0_pay3 k0_pay4 (iblk m (ok m) c 1 t) (iblk m (ok m) c 2 t) (iblk m (ok m) c 3 t))
        (iblk m (ok m) c 4 t) (ix3 0 r d)
      = joined (m ((c : Thread nD τ).loc main_arg1)) (m ((c : Thread nD τ).loc main_arg2)) (m ((c : Thread nD τ).loc main_arg3))
          (m ((c : Thread nD τ).loc main_arg4)) (m ((c : Thread nD τ).loc main_arg5)) (ix3 (n0 := 16) t r d) := by
  refine (stored (iblk m (ok m) c 0 t) (iblk m (ok m) c 1 t) (iblk m (ok m) c 2 t) (iblk m (ok m) c 3 t) (iblk m (ok m) c 4 t) r d).trans ?_
  simp only [iblk0_apply, iblk1_apply, iblk2_apply, iblk3_apply, iblk4_apply]
  rfl

end Blocks

/-- What a point writes back. -/
theorem written5 (c : Dev nD) (t : Fin (cfgM m (ok m)).N) (r : Fin 256) (d : Fin 1024) :
    outsAt0 m (ok m) c t (ix3 0 r d) = joined (m ((c : Thread nD τ).loc main_arg1)) (m ((c : Thread nD τ).loc main_arg2)) (m ((c : Thread nD τ).loc main_arg3))
      (m ((c : Thread nD τ).loc main_arg4)) (m ((c : Thread nD τ).loc main_arg5)) (ix3 (n0 := 16) t r d) := by
  unfold outsAt0
  refine (congrFun (out5_eq m c t (iblk m (ok m) c 0 t) (iblk m (ok m) c 1 t) (iblk m (ok m) c 2 t) (iblk m (ok m) c 3 t) (iblk m (ok m) c 4 t) _)
    (ix3 0 r d)).trans ?_
  exact block_apply m c t r d

/-- Every block of the array is some point's. -/
theorem every_block (β : (a : Fin 3) → Fin ((![16, 256, 1024] a + ![1, 256, 1024] a - 1) / ![1, 256, 1024] a)) :
    ∃ t : Fin (cfgM m (ok m)).N, ∀ a : Fin 3, (pcfg0.win (adm m (ok m)) 5).index t a = (β a).val := by
  have h0 : (β 0).val < 16 := (β 0).isLt
  have h1 : (β 1).val = 0 := Nat.lt_one_iff.1 (β 1).isLt
  have h2 : (β 2).val = 0 := Nat.lt_one_iff.1 (β 2).isLt
  refine ⟨⟨(β 0).val, h0⟩, fun a => (congrFun (index5 m _) a).trans ?_⟩
  fin_cases a
  · rfl
  · exact h1.symm
  · exact h2.symm

/-- The blocks written back fill the array. -/
theorem covers5 : ((cfgM m (ok m)).win 5).Covers :=
  Pipeline.Window.covers_of_index_surj (w := (cfgM m (ok m)).win 5) rfl
    (show ∀ a : Fin 3, 0 < (![1, 256, 1024] : Fin 3 → Nat) a by decide) (every_block m)

/-- The same, by the place in the array. -/
theorem block5 (c : Dev nD) (t : Fin (cfgM m (ok m)).N) (y : S1x256x1024.Idx) :
    outsAt0 m (ok m) c t y = joined (m ((c : Thread nD τ).loc main_arg1)) (m ((c : Thread nD τ).loc main_arg2)) (m ((c : Thread nD τ).loc main_arg3))
      (m ((c : Thread nD τ).loc main_arg4)) (m ((c : Thread nD τ).loc main_arg5)) ((((cfgM m (ok m)).win 5).blk t).view.emb y) := by
  obtain ⟨y0, r, d, rfl⟩ : ∃ (a : Fin 1) (b : Fin 256) (d : Fin 1024), y = ix3 a b d := ⟨y 0, y 1, y 2, by funext a; fin_cases a <;> rfl⟩
  obtain rfl : y0 = 0 := Subsingleton.elim _ _
  have he : (((cfgM m (ok m)).win 5).blk t).view.emb (ix3 0 r d) = ix3 (n0 := 16) t r d := by blk_ext [V] <;> erw [index5 m t] <;> simp
  exact (written5 m c t r d).trans (congrArg (joined _ _ _ _ _) he).symm

/-- The array the launch leaves. -/
theorem array5 (c : Dev nD) :
    (dats m (ok m) 0 c).arrAt 5 (cfgM m (ok m)).N = joined (m ((c : Thread nD τ).loc main_arg1)) (m ((c : Thread nD τ).loc main_arg2))
      (m ((c : Thread nD τ).loc main_arg3)) (m ((c : Thread nD τ).loc main_arg4)) (m ((c : Thread nD τ).loc main_arg5)) := by
  refine (dats m (ok m) 0 c).arrAt_eq_of_covers 5 _ (covers5 m) fun t hf y => ?_
  blk_simp
  rw [after0_5]
  exact block5 m c t y

end Cert.Join

end
-- ==== Proof.JoinRef.lean ====
/- What the reference of the combination holds, element by element. -/
module

public import proofs.«01_k».proof.Proof.JoinArray
public import proofs.«01_k».proof.Proof.Gen.CombineRefIdeal.Read

@[expose] public section

noncomputable section

namespace Cert.Join

open Cert.CombineRefIdeal Cert.CombineRefIdeal.Read Idealize.ShloMosaic Idealize.ShloMosaic.TcCoe

variable (s : FVec Ideal S16x256x16 .f32) (y : FVec Ideal S16x16x32x1024 .bf16) (x : FVec Ideal S16x256x1024 .f32) (md : FVec Ideal S1x1x6144 .f32)
  (g : FVec Ideal S1x1024 .f32)

/-- A truth value read as a number. -/
theorem number (p : Prop) [Decidable p] : FloatOps.uitofp (F := Ideal) .f32 (BitVec.ofBool (decide p)) = if p then (1 : EReal) else 0 := by
  by_cases h : p
  · simp only [h, decide_true, if_true]; show (((1 : ℕ) : ℝ) : EReal) = 1; simp
  · simp only [h, decide_false, if_false]; show (((0 : ℕ) : ℝ) : EReal) = 0; simp

theorem ref_scattered (b : Fin 16) (l : Fin 256) (d : Fin 1024) :
    val_main_v15 (F := Ideal) s y (ix3 b l d) = scattered (fun e => s (ix3 b l e)) (fun e c k => y (ix4 e b c k)) d := by
  unfold scattered hit slotNo
  pointwise [val_main_v15, val_main_v14, val_main_v13, val_main_v12, val_main_v11, val_main_v10, val_main_v9, val_main_v8, val_main_v7, val_main_v6]
  simp only [number]

theorem ref_joined : val_main_v31 (F := Ideal) s y x md g = joined s y x md g := by
  funext i
  obtain ⟨b, l, d, rfl⟩ : ∃ (b : Fin 16) (l : Fin 256) (d : Fin 1024), i = ix3 b l d := ⟨i 0, i 1, i 2, by funext a; fin_cases a <;> rfl⟩
  unfold joined normed
  pointwise [val_main_v31, val_main_v30, val_main_v29, val_main_v28, val_main_v27, val_main_v26, val_main_v25, val_main_v24, val_main_v23, val_main_v22, val_main_v21,
    val_main_v20, val_main_v19, val_main_v18, val_main_v17, val_main_v16, val_main_v5, val_main_cst, val_main_cst_0, val_main_cst_1]
  simp only [ref_scattered]

end Cert.Join

end
-- ==== Proof.JoinClaim.lean ====
/- The combination's claims: the kernel and its reference end with equal results, and the reference's frame. -/
module

public import proofs.«01_k».proof.Proof.JoinRef
public import Idealize.ShloMosaic.Adequacy
public import Idealize.ShloMosaic.Init
public import proofs.«01_k».proof.Defs

@[expose] public section

noncomputable section

namespace Cert.Join

open Idealize.ShloMosaic Idealize.ShloMosaic.TcCoe Idealize.SL.Sem

/-- The reference runs, leaves its arguments alone and ends with every counter at zero. -/
theorem reference_frame : Cert.quiescent_CombineRefIdeal (hCombineRefIdeal := Cert.CombineRefIdeal.Gen.facts) := fun m ρ _ =>
  (θ_run _ _ _).mono (fun r h => ⟨fun c => (h c).2, Idealize.ShloMosaic.sem_eq_zero_of_no_sems (by decide) r.2⟩)
    (Cert.CombineRefIdeal.Value.run m ρ)

section
open Cert.CombineIdeal Cert.CombineIdeal.Gen

/-- The kernel ends with the array the launch leaves, its arguments as they were. -/
theorem kernel_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v0) = (dats m (ok m) 0 c).arrAt 5 (cfgM m (ok m)).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run _ _ _).mono (fun r h c => ⟨(h.2 c).1 5, h.1 c⟩) (θ_run_and (unchanged m ρ (ok m)) (run_main m ρ (ok m)))
end

/-- The kernel and the reference, from equal arguments, end with equal results. -/
theorem equal_results : Cert.algebraic_CombineIdeal_CombineRefIdeal (hCombineIdeal := Cert.CombineIdeal.Gen.facts)
    (hCombineRefIdeal := Cert.CombineRefIdeal.Gen.facts) := by
  intro m ρ m' ρ' hpre hagree
  refine ⟨fun c => (Cert.CombineIdeal.Gen.dats m (ok m) 0 c).arrAt 5 (Cert.CombineIdeal.Gen.cfgM m (ok m)).N, ?_, ?_⟩
  · refine (θ_run _ _ _).mono (fun r h c => ?_) (kernel_run m ρ)
    exact h c
  · refine (θ_run _ _ _).mono (fun r h c => ?_) (Cert.CombineRefIdeal.Value.run m' ρ')
    obtain ⟨h0, h1, h2, h3, h4, h5⟩ := hagree c
    refine ⟨(h c).1.trans ?_, (h c).2⟩
    rw [Cert.CombineRefIdeal.Read.val_main_v31_eq, h1, h2, h3, h4, h5, ref_joined]
    exact (array5 m c).symm

end Cert.Join

end
-- ==== Proof.FfnBodyIdeal.lean ====
module

public import proofs.«01_k».proof.Proof.Gen.ExpertsIdeal.Frame
public import proofs.«01_k».proof.Proof.Gen.ExpertsIdeal.Skeleton
public import Idealize.ShloMosaic.Lib.Pipeline.TableIdle
public import Idealize.ShloMosaic.Lib.Claim

@[expose] public section

set_option maxRecDepth 16384

noncomputable section

namespace Cert.ExpertsIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ExpertsIdeal Cert.ExpertsIdeal.Gen

variable {F : FTy → Type} [FloatOps F]

local notation "𝕄" => MT nD τ sig Unit (Elt F) ℕ (UR sig nD τ) ℕ

/-- The whole of an output block. -/
abbrev whole : Rect S1x512x1024 := Rect.unit ![0, 0, 0] S1x512x1024.size inb_S1x512x1024_S1x512x1024_0_0_0
/-- Columns 0 to 511 and 512 to 1023 of a square matrix, and its rows likewise. -/
abbrev colsL : Rect S1024x1024 := Rect.unit ![0, 0] S1024x512.size inb_S1024x1024_S1024x512_0_0
abbrev colsR : Rect S1024x1024 := Rect.unit ![0, 512] S1024x512.size inb_S1024x1024_S1024x512_0_512
abbrev rowsT : Rect S1024x1024 := Rect.unit ![0, 0] S512x1024.size inb_S1024x1024_S512x1024_0_0
abbrev rowsB : Rect S1024x1024 := Rect.unit ![512, 0] S512x1024.size inb_S1024x1024_S512x1024_512_0
/-- The gate's one column that is read. -/
abbrev lane : Rect S1x512x128 := Rect.unit ![0, 0, 0] S1x512x1.size inb_S1x512x128_S1x512x1_0_0_0

/-- The block of the sample rows: the gated unit of the tokens `x` under the three rounded weights, scaled by the gate. -/
def blockB (x : Vec F S1x512x1024 .bf16) (g : Vec F S1x512x128 .f32) (s0 s1 s2 : Vec F S1024x1024 .bf16) : Vec F S1x512x1024 .bf16 :=
  View.canon [⟨whole, k0_pay5 (View.ld x whole) (View.ld s0 colsL) (View.ld s1 colsL) (View.ld s2 rowsT) (View.ld s0 colsR) (View.ld s1 colsR)
    (View.ld s2 rowsB) (View.ld g lane)⟩]

/-- A store of a whole output block leaves no element of it unwritten. -/
theorem covers (p : Vec F S1x512x1024 .bf16) (y : S1x512x1024.Idx) :
    ∃ pc ∈ ([⟨whole, p⟩] : List (View.Piece (Elt F) S1x512x1024 .bf16)), y ∈ pc.1.set :=
  View.cover_of_tiled [⟨whole, p⟩] S1x512x1024.size (by rfl) y

/-- The whole of a weight block, and of a square matrix. -/
abbrev wholeW : Rect S1x1x1024x1024 := Rect.unit ![0, 0, 0, 0] S1x1x1024x1024.size inb_S1x1x1024x1024_S1x1x1024x1024_0_0_0_0
abbrev wholeS : Rect S1024x1024 := Rect.unit ![0, 0] S1024x1024.size inb_S1024x1024_S1024x1024_0_0

/-- The three weights of an expert as the first of its points rounds and keeps them. -/
def kept0 (w : Vec F S1x1x1024x1024 .f32) : Vec F S1024x1024 .bf16 := View.canon [⟨wholeS, k0_pay1 (View.ld w wholeW)⟩]
def kept1 (w : Vec F S1x1x1024x1024 .f32) : Vec F S1024x1024 .bf16 := View.canon [⟨wholeS, k0_pay2 (View.ld w wholeW)⟩]
def kept2 (w : Vec F S1x1x1024x1024 .f32) : Vec F S1024x1024 .bf16 := View.canon [⟨wholeS, k0_pay3 (View.ld w wholeW)⟩]

/-- A store of a whole square matrix leaves no element of it unwritten. -/
theorem coversS (p : Vec F S1024x1024 .bf16) (y : S1024x1024.Idx) :
    ∃ pc ∈ ([⟨wholeS, p⟩] : List (View.Piece (Elt F) S1024x1024 .bf16)), y ∈ pc.1.set :=
  View.cover_of_tiled [⟨wholeS, p⟩] S1024x1024.size (by rfl) y

/-- The block of the prompt rows: the same unit of the tokens `x`. -/
def blockA (x : Vec F S1x512x1024 .bf16) (g : Vec F S1x512x128 .f32) (s0 s1 s2 : Vec F S1024x1024 .bf16) : Vec F S1x512x1024 .bf16 :=
  View.canon [⟨whole, k0_pay4 (View.ld x whole) (View.ld s0 colsL) (View.ld s1 colsL) (View.ld s2 rowsT) (View.ld s0 colsR) (View.ld s1 colsR)
    (View.ld s2 rowsB) (View.ld g lane)⟩]

set_option maxHeartbeats 1000000 in
/-- An expert's first point: on whole buffers the body rounds the three weights into the scratch buffers and stores the prompt block
    of them, leaving the sample block's buffer as it was. -/
theorem first_point (c : Dev nD) (E : Set ℕ) (i : grid0.Coords) (arg2 : Memref sig .tc .vmem S1x512x1024 .bf16) (harg2 : arg2.IsWhole) (arg3 : Memref sig .tc .vmem S1x512x128 .f32) (harg3 : arg3.IsWhole) (arg4 : Memref sig .tc .vmem S1x512x1024 .bf16) (harg4 : arg4.IsWhole) (arg5 : Memref sig .tc .vmem S1x512x128 .f32) (harg5 : arg5.IsWhole) (arg6 : Memref sig .tc .vmem S1x1x1024x1024 .f32) (harg6 : arg6.IsWhole) (arg7 : Memref sig .tc .vmem S1x1x1024x1024 .f32) (harg7 : arg7.IsWhole) (arg8 : Memref sig .tc .vmem S1x1x1024x1024 .f32) (harg8 : arg8.IsWhole) (arg9 : Memref sig .tc .vmem S1x512x1024 .bf16) (harg9 : arg9.IsWhole) (arg10 : Memref sig .tc .vmem S1x512x1024 .bf16) (harg10 : arg10.IsWhole) (arg11 : Memref sig .tc .vmem S1024x1024 .bf16) (harg11 : arg11.IsWhole) (arg12 : Memref sig .tc .vmem S1024x1024 .bf16) (harg12 : arg12.IsWhole) (arg13 : Memref sig .tc .vmem S1024x1024 .bf16) (harg13 : arg13.IsWhole)
    (x0 : Vec F S1x512x1024 .bf16) (x1 : Vec F S1x512x128 .f32) (x2 : Vec F S1x512x1024 .bf16) (x3 : Vec F S1x512x128 .f32)
    (x4 x5 x6 : Vec F S1x1x1024x1024 .f32) (y : Vec F S1x512x1024 .bf16)
    (h1 : Scalar.cmpi .ne (Scalar.extui (Scalar.cmpi .eq (BitVec.ofNat 32 (i 1).val) 0#32)) 0#32 = 1#1)
    (h2 : k0_cond2 i = 1#1) (h3 : ¬ k0_cond3 i = 1#1) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ (∃ d, owns (c : Thread nD τ) arg9 fullShare d) ∗ owns (c : Thread nD τ) arg10 fullShare y
        ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare (blockA x0 x1 (kept0 x4) (kept1 x5) (kept2 x6)) ∗ owns (c : Thread nD τ) arg10 fullShare y
        ∗ owns (c : Thread nD τ) arg11 fullShare (kept0 x4) ∗ owns (c : Thread nD τ) arg12 fullShare (kept1 x5) ∗ owns (c : Thread nD τ) arg13 fullShare (kept2 x6)) -∗ K ⟨⟩))
      ⊢ wp frame (wpE (defs₀ (F := F)) Variants.none c none) E (cc0_ec_experts i arg2 harg2 arg3 harg3 arg4 harg4 arg5 harg5 arg6 harg6 arg7 harg7 arg8 harg8 arg9 harg9 arg10 harg10 arg11 harg11 arg12 harg12 arg13 harg13) K := by
  simp only [cc0_ec_experts_eq_skeleton]; unfold cc0_ec_experts_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%d9, %f9, -, H9⟩, ⟨%d10, %f10, -, H10⟩, ⟨%d11, %f11, -, H11⟩, Hk⟩
  subst hf0 hf1 hf2 hf3 hf4 hf5 hf6 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    refine (View.read_writes_eq_canon _ _ _ (covers _)).trans ?_
    have e11 : first_point.sl.v11 c arg6 arg11 f4 = View.ld (kept0 (View.read (Elt F) arg6.view f4)) colsL := by
      unfold first_point.sl.v11 first_point.sl.H9_1
      exact View.readCov_eq_canon_ld _ _ _ (coversS _)
    have e13 : first_point.sl.v13 c arg7 arg12 f5 = View.ld (kept1 (View.read (Elt F) arg7.view f5)) colsL := by
      unfold first_point.sl.v13 first_point.sl.H10_1
      exact View.readCov_eq_canon_ld _ _ _ (coversS _)
    have e19 : first_point.sl.v19 c arg8 arg13 f6 = View.ld (kept2 (View.read (Elt F) arg8.view f6)) rowsT := by
      unfold first_point.sl.v19 first_point.sl.H11_1
      exact View.readCov_eq_canon_ld _ _ _ (coversS _)
    have e21 : first_point.sl.v21 c arg6 arg11 f4 = View.ld (kept0 (View.read (Elt F) arg6.view f4)) colsR := by
      unfold first_point.sl.v21 first_point.sl.H9_1
      exact View.readCov_eq_canon_ld _ _ _ (coversS _)
    have e23 : first_point.sl.v23 c arg7 arg12 f5 = View.ld (kept1 (View.read (Elt F) arg7.view f5)) colsR := by
      unfold first_point.sl.v23 first_point.sl.H10_1
      exact View.readCov_eq_canon_ld _ _ _ (coversS _)
    have e29 : first_point.sl.v29 c arg8 arg13 f6 = View.ld (kept2 (View.read (Elt F) arg8.view f6)) rowsB := by
      unfold first_point.sl.v29 first_point.sl.H11_1
      exact View.readCov_eq_canon_ld _ _ _ (coversS _)
    rw [e11, e13, e19, e21, e23, e29]
    rfl
  isplitl [H8]
  · iexists f8; isplitr; · ipureintro; rfl
    iexact H8
  isplitl [H9]
  · iexists _; isplitr
    swap; · iexact H9
    ipureintro
    refine (View.read_writes_eq_canon _ _ _ (coversS _)).trans ?_
    rfl
  isplitl [H10]
  · iexists _; isplitr
    swap; · iexact H10
    ipureintro
    refine (View.read_writes_eq_canon _ _ _ (coversS _)).trans ?_
    rfl
  iexists _; isplitr
  swap; · iexact H11
  ipureintro
  refine (View.read_writes_eq_canon _ _ _ (coversS _)).trans ?_
  rfl

set_option maxHeartbeats 1000000 in
/-- An expert's other points: on whole buffers the body stores the sample block of the weights that the scratch buffers hold, leaving
    the prompt block's buffer and the scratch buffers as they were. -/
theorem later_point (c : Dev nD) (E : Set ℕ) (i : grid0.Coords) (arg2 : Memref sig .tc .vmem S1x512x1024 .bf16) (harg2 : arg2.IsWhole) (arg3 : Memref sig .tc .vmem S1x512x128 .f32) (harg3 : arg3.IsWhole) (arg4 : Memref sig .tc .vmem S1x512x1024 .bf16) (harg4 : arg4.IsWhole) (arg5 : Memref sig .tc .vmem S1x512x128 .f32) (harg5 : arg5.IsWhole) (arg6 : Memref sig .tc .vmem S1x1x1024x1024 .f32) (harg6 : arg6.IsWhole) (arg7 : Memref sig .tc .vmem S1x1x1024x1024 .f32) (harg7 : arg7.IsWhole) (arg8 : Memref sig .tc .vmem S1x1x1024x1024 .f32) (harg8 : arg8.IsWhole) (arg9 : Memref sig .tc .vmem S1x512x1024 .bf16) (harg9 : arg9.IsWhole) (arg10 : Memref sig .tc .vmem S1x512x1024 .bf16) (harg10 : arg10.IsWhole) (arg11 : Memref sig .tc .vmem S1024x1024 .bf16) (harg11 : arg11.IsWhole) (arg12 : Memref sig .tc .vmem S1024x1024 .bf16) (harg12 : arg12.IsWhole) (arg13 : Memref sig .tc .vmem S1024x1024 .bf16) (harg13 : arg13.IsWhole)
    (x0 : Vec F S1x512x1024 .bf16) (x1 : Vec F S1x512x128 .f32) (x2 : Vec F S1x512x1024 .bf16) (x3 : Vec F S1x512x128 .f32)
    (x4 x5 x6 : Vec F S1x1x1024x1024 .f32) (y : Vec F S1x512x1024 .bf16) (s0 s1 s2 : Vec F S1024x1024 .bf16)
    (h1 : ¬ Scalar.cmpi .ne (Scalar.extui (Scalar.cmpi .eq (BitVec.ofNat 32 (i 1).val) 0#32)) 0#32 = 1#1)
    (h2 : ¬ k0_cond2 i = 1#1) (h3 : k0_cond3 i = 1#1) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare y ∗ (∃ d, owns (c : Thread nD τ) arg10 fullShare d)
        ∗ owns (c : Thread nD τ) arg11 fullShare s0 ∗ owns (c : Thread nD τ) arg12 fullShare s1 ∗ owns (c : Thread nD τ) arg13 fullShare s2
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare y ∗ owns (c : Thread nD τ) arg10 fullShare (blockB x2 x3 s0 s1 s2)
        ∗ owns (c : Thread nD τ) arg11 fullShare s0 ∗ owns (c : Thread nD τ) arg12 fullShare s1 ∗ owns (c : Thread nD τ) arg13 fullShare s2) -∗ K ⟨⟩))
      ⊢ wp frame (wpE (defs₀ (F := F)) Variants.none c none) E (cc0_ec_experts i arg2 harg2 arg3 harg3 arg4 harg4 arg5 harg5 arg6 harg6 arg7 harg7 arg8 harg8 arg9 harg9 arg10 harg10 arg11 harg11 arg12 harg12 arg13 harg13) K := by
  simp only [cc0_ec_experts_eq_skeleton]; unfold cc0_ec_experts_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, ⟨%f11, %hf11, H11⟩, Hk⟩
  subst hf0 hf1 hf2 hf3 hf4 hf5 hf6 hf7 hf9 hf10 hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    refine (View.read_writes_eq_canon _ _ _ (covers _)).trans ?_
    rfl
  isplitl [H9]
  · iexists f9; isplitr; · ipureintro; rfl
    iexact H9
  isplitl [H10]
  · iexists f10; isplitr; · ipureintro; rfl
    iexact H10
  iexists f11; isplitr; · ipureintro; rfl
  iexact H11

variable (m : (ℓ : Loc nD τ sig) → Buf (Elt F) ℓ) (ρ : Dev nD → PrngReg)

/-- The first of the five points of `t`'s expert. -/
def start (t : Fin cfg0.N) : Fin cfg0.N := ⟨t.val - t.val % 5, Nat.lt_of_le_of_lt (Nat.sub_le _ _) t.isLt⟩

/-- At a point that is not its expert's first, the point before has the same first point. -/
theorem start_pred (t : Fin cfg0.N) (h : t.val % 5 ≠ 0) : start ⟨t.val - 1, by omega⟩ = start t := by
  apply Fin.ext; simp only [start]; omega

/-- An expert's first point is its own first point. -/
theorem start_self (t : Fin cfg0.N) (h : t.val % 5 = 0) : start t = t := by
  apply Fin.ext; simp only [start]; omega

/-- What the two outputs' buffers hold: the prompt block of `t`'s expert, computed at its first point, and the sample block of `t`. -/
def promptBlock (c : Dev nD) (t : Fin cfg0.N) : Vec F S1x512x1024 .bf16 :=
  blockA (iblk m c 0 (start t)) (iblk m c 1 (start t)) (kept0 (iblk m c 4 (start t))) (kept1 (iblk m c 5 (start t))) (kept2 (iblk m c 6 (start t)))
def sampleBlock (c : Dev nD) (t : Fin cfg0.N) : Vec F S1x512x1024 .bf16 :=
  blockB (iblk m c 2 t) (iblk m c 3 t) (kept0 (iblk m c 4 (start t))) (kept1 (iblk m c 5 (start t))) (kept2 (iblk m c 6 (start t)))

/-- The scratch buffers hold the rounded weights of the expert whose first point is `s`. -/
def holds (c : Dev nD) (s : Fin cfg0.N) : sProp 𝕄 :=
  iprop(owns (c : Thread nD τ) (Memref.whole cc0_scratch0) fullShare (kept0 (iblk m c 4 s))
    ∗ owns (c : Thread nD τ) (Memref.whole cc0_scratch1) fullShare (kept1 (iblk m c 5 s))
    ∗ owns (c : Thread nD τ) (Memref.whole cc0_scratch2) fullShare (kept2 (iblk m c 6 s))
    ∗ ∃ r, prngReg c r)

/-- Between points: at an expert's first point the scratch buffers hold anything, at its others the expert's rounded weights. -/
def between (c : Dev nD) (t : Fin (cfg0.N + 1)) : sProp 𝕄 :=
  if h : t.val % 5 = 0 then Pipeline.ΦA spec0 c
  else holds m c (start ⟨t.val, lt_of_le_of_ne (Nat.lt_succ_iff.mp t.isLt) fun e => h (by rw [e]; decide)⟩)

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => promptBlock m c t
    | ⟨8, _⟩ => sampleBlock m c t
  Φ t := between m c t
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = promptBlock m c t := by dsimp only [dats]
theorem after0_8 (c : Dev nD) (t : Fin cfg0.N) : (dats m 0 c).after 8 t = sampleBlock m c t := by dsimp only [dats]
theorem inv_eq (c : Dev nD) (t : Fin (cfg0.N + 1)) : (dats m 0 c).Φ t = between m c t := by dsimp only [dats]

/-- Each input's buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## Where each output is stored and written back -/

/-- The prompt block is stored at an expert's first point alone, the sample block at its other points. -/
theorem idle7 : ∀ t : Fin cfg0.N, cfg0.idle 7 (cfg0.grid.coords t) = decide (t.val % 5 ≠ 0) :=
  (by decide +kernel : ∀ t : Fin grid0.N, cfg0.idle 7 (cfg0.grid.coords t) = decide (t.val % 5 ≠ 0))
theorem idle8 : ∀ t : Fin cfg0.N, cfg0.idle 8 (cfg0.grid.coords t) = decide (t.val % 5 = 0) :=
  (by decide +kernel : ∀ t : Fin grid0.N, cfg0.idle 8 (cfg0.grid.coords t) = decide (t.val % 5 = 0))
/-- The sample block is not written back at an expert's first point, and is at its other points. -/
theorem flush8 : ∀ t : Fin cfg0.N, (cfg0.win 8).flush t = decide (t.val % 5 ≠ 0) :=
  (by decide +kernel : ∀ t : Fin grid0.N, win0_8.flush t = decide (t.val % 5 ≠ 0))
/-- The prompt block's buffer holds nothing of the expert's at its first point alone. -/
theorem fresh7 : ∀ t : Fin cfg0.N, cfg0.fresh 7 t.val = decide (t.val % 5 = 0) :=
  (by decide +kernel : ∀ t : Fin grid0.N, cfg0.fresh 7 t.val = decide (t.val % 5 = 0))

/-- After an expert's first point, the prompt block's buffer holds the expert's block. -/
theorem before0_7 (c : Dev nD) (t : Fin cfg0.N) (h : t.val % 5 ≠ 0) (d) : (dats m 0 c).before 7 t d = promptBlock m c t := by
  have hc : ∀ (t : Fin cfg0.N) (_ : t.val ≠ 0), cfg0.idle 7 (cfg0.grid.coords t) = true → cfg0.fresh 7 t.val = false →
      (dats m 0 c).after 7 t = (dats m 0 c).after 7 ⟨t.val - 1, by omega⟩ := fun t _ hi _ => by
    have h5 : t.val % 5 ≠ 0 := by rw [idle7] at hi; exact of_decide_eq_true hi
    rw [after0_7, after0_7]; unfold promptBlock; rw [start_pred t h5]
  rw [(dats m 0 c).before_out_traj 7 rfl (fun _ _ => rfl) hc t.val t rfl d, fresh7, if_neg (by simpa using h), after0_7]
  unfold promptBlock; rw [start_pred t h]

/-! ## The conditions of the body, in the point's number -/

theorem cond1 : ∀ t : Fin cfg0.N,
    Scalar.cmpi .ne (Scalar.extui (Scalar.cmpi .eq (BitVec.ofNat 32 ((grid0.coords t) 1).val) 0#32)) 0#32 = 1#1 ↔ t.val % 5 = 0 :=
  (by decide +kernel : ∀ t : Fin grid0.N,
    Scalar.cmpi .ne (Scalar.extui (Scalar.cmpi .eq (BitVec.ofNat 32 ((grid0.coords t) 1).val) 0#32)) 0#32 = 1#1 ↔ t.val % 5 = 0)
theorem cond2 : ∀ t : Fin cfg0.N, k0_cond2 (grid0.coords t) = 1#1 ↔ t.val % 5 = 0 :=
  (by decide +kernel : ∀ t : Fin grid0.N, k0_cond2 (grid0.coords t) = 1#1 ↔ t.val % 5 = 0)
theorem cond3 : ∀ t : Fin cfg0.N, k0_cond3 (grid0.coords t) = 1#1 ↔ t.val % 5 ≠ 0 :=
  (by decide +kernel : ∀ t : Fin grid0.N, k0_cond3 (grid0.coords t) = 1#1 ↔ t.val % 5 ≠ 0)

/-! ## What the body is called with and returns -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ (dats m 0 c).leavesExact 7 t
    ∗ (dats m 0 c).leavesExact 8 t)

/-- At an expert's first point the prompt block is as stored and the sample block's buffer is handed back. -/
theorem leaves7_first (c : Dev nD) (t : Fin cfg0.N) (h : t.val % 5 = 0) :
    (dats m 0 c).leavesExact 7 t = owns (c : Thread nD τ) (st0_7 t) fullShare (promptBlock m c t) := by
  unfold Dat.leavesExact; rw [idle7, after0_7, decide_eq_false (by omega)]
theorem leaves8_first (c : Dev nD) (t : Fin cfg0.N) (h : t.val % 5 = 0) :
    (dats m 0 c).leavesExact 8 t = iprop(∃ d, owns (c : Thread nD τ) (st0_8 t) fullShare ((dats m 0 c).before 8 t d)) :=
  (dats m 0 c).leavesExact_idle 8 t (by rw [idle8]; exact decide_eq_true h) (by rw [flush8]; exact decide_eq_false (by omega))

/-- At its other points the prompt block's buffer is handed back, and the sample block is as stored. -/
theorem leaves7_later (c : Dev nD) (t : Fin cfg0.N) (h : t.val % 5 ≠ 0) (d) :
    owns (c : Thread nD τ) (st0_7 t) fullShare ((dats m 0 c).before 7 t d) ⊢ ((dats m 0 c).leavesExact 7 t : sProp 𝕄) := by
  unfold Dat.leavesExact; rw [idle7, decide_eq_true h]
  cases hf : (cfg0.win 7).flush t
  · iintro H; iexists d; iexact H
  · dsimp only; rw [after0_7, before0_7 m c t h]
theorem leaves8_later (c : Dev nD) (t : Fin cfg0.N) (h : t.val % 5 ≠ 0) :
    (dats m 0 c).leavesExact 8 t = owns (c : Thread nD τ) (st0_8 t) fullShare (sampleBlock m c t) := by
  unfold Dat.leavesExact; rw [idle8, after0_8, decide_eq_false h]

/-! ## The invariant between points -/

theorem between_first (c : Dev nD) (t : Fin (cfg0.N + 1)) (h : t.val % 5 = 0) : between m c t = Pipeline.ΦA spec0 c := dif_pos h
theorem between_later (c : Dev nD) (t : Fin (cfg0.N + 1)) (s : Fin cfg0.N) (h : t.val % 5 ≠ 0) (hs : s.val = t.val - t.val % 5) :
    between m c t = holds m c s := by
  unfold between; rw [dif_neg h]; congr 1; exact Fin.ext hs.symm

/-- Scratch buffers holding anything are what an expert's first point asks for. -/
theorem forget (c : Dev nD) (s : Fin cfg0.N) : holds m c s ⊢ Pipeline.ΦA spec0 c := by
  unfold holds Pipeline.ΦA
  rw [scopedRest0_eq, owns_whole, owns_whole, owns_whole]
  iintro ⟨H0, H1, H2, Hr⟩
  isplitl [H0 H1 H2]
  · isplitl [H0]; · iexists _; iexact H0
    isplitl [H1]; · iexists _; iexact H1
    iexists _; iexact H2
  iexact Hr

/-- After a point of an expert the buffers hold its weights; after its last point that is forgotten. -/
theorem between_succ (c : Dev nD) (t : Fin cfg0.N) : holds m c (start t) ⊢ between m c t.succ := by
  by_cases h : (t.succ).val % 5 = 0
  · rw [between_first m c _ h]; exact forget m c _
  · rw [between_later m c t.succ (start t) h (by simp only [start, Fin.val_succ] at h ⊢; omega)]

/-- An expert's first point: its weights are rounded and kept, the prompt block stored, the sample block's buffer handed back. -/
theorem sound_first (c : Dev nD) (t : Fin cfg0.N) (h : t.val % 5 = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl, inv_eq, inv_eq,
    between_first m c t.castSucc h, leaves7_first m c t h, leaves8_first m c t h,
    after0_0, after0_1, after0_2, after0_3, after0_4, after0_5, after0_6]
  have hs : start t = t := start_self t h
  unfold Pipeline.ΦA promptBlock
  rw [scopedRest0_eq, hs]
  iintro ⟨⟨⟨⟨%s0, S0⟩, ⟨%s1, S1⟩, ⟨%s2, S2⟩⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (first_point c Set.univ (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) ((dats m 0 c).before 8 t d8) ((cond1 t).mpr h) ((cond2 t).mpr h) (fun e => (cond3 t).mp e h) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexact H8
  isplitl [S0]; · iexists s0; rw [owns_whole]; iexact S0
  isplitl [S1]; · iexists s1; rw [owns_whole]; iexact S1
  isplitl [S2]; · iexists s2; rw [owns_whole]; iexact S2
  iintro ⟨H0, H1, H2, H3, H4, H5, H6, H7, H8, S0, S1, S2⟩
  isplitl [S0 S1 S2 Hr]
  · iapply (between_succ m c t)
    unfold holds; rw [hs]
    isplitl [S0]; · iexact S0
    isplitl [S1]; · iexact S1
    isplitl [S2]; · iexact S2
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexists d8; iexact H8

/-- An expert's other points: the sample block is computed from the weights kept, the prompt block's buffer handed back. -/
theorem sound_later (c : Dev nD) (t : Fin cfg0.N) (h : t.val % 5 ≠ 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl, inv_eq, inv_eq,
    between_later m c t.castSucc (start t) h rfl, leaves8_later m c t h,
    after0_0, after0_1, after0_2, after0_3, after0_4, after0_5, after0_6]
  unfold holds sampleBlock
  iintro ⟨⟨S0, S1, S2, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (later_point c Set.univ (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) ((dats m 0 c).before 7 t d7) (kept0 (iblk m c 4 (start t))) (kept1 (iblk m c 5 (start t))) (kept2 (iblk m c 6 (start t))) (fun e => h ((cond1 t).mp e)) (fun e => h ((cond2 t).mp e)) ((cond3 t).mpr h) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [S0]; · iexact S0
  isplitl [S1]; · iexact S1
  isplitl [S2]; · iexact S2
  iintro ⟨H0, H1, H2, H3, H4, H5, H6, H7, H8, S0, S1, S2⟩
  isplitl [S0 S1 S2 Hr]
  · iapply (between_succ m c t)
    unfold holds
    isplitl [S0]; · iexact S0
    isplitl [S1]; · iexact S1
    isplitl [S2]; · iexact S2
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iapply (leaves7_later m c t h d7); iexact H7
  iexact H8

/-- The body's row at point `t` is the body on that point's buffers. -/
theorem defs₀_row (t : Fin cfg0.N) :
    defs₀ (F := F) .tc cfg0.body (cfg0.bodyArgs t (cfg0.slots t)) = bodyAt0 t := by
  unfold defs₀; rw [Defs.onTc_tc]

theorem sound_body (c : Dev nD) (t : Fin cfg0.N) :
    bodyPre m c t ⊢ wp frame (wpE (defs₀ (F := F)) Variants.none c none) Set.univ (bodyAt0 t) (fun _ => bodyPost m c t) := by
  by_cases h : t.val % 5 = 0
  · exact sound_first m c t h
  · exact sound_later m c t h

/-- Every point's body carries the proof data from one point to the next. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- The launch ends with every array at what the proof data say, every other buffer as it was, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c w => by unfold Dat.share; dsimp only [dats]; split <;> rfl)
    (howed := fun _ _ => rfl) (V := V m) (hmain := hmain m Variants.none) (hA := A_eq m)
    (hin := fun c => by rw [inv_eq, between_first m c _ (by rfl)])
    (hout := fun c => by rw [inv_eq, between_first m c _ (by decide)])

theorem run_main : θ_run defs (onTc (τ := τ) (main (F := F))) (s₀ m ρ) (Pipeline.FramePost cfgs (dats m) 0 (V m)) :=
  (θ_run defs _ _).mono (fun _ h => h.1) (run_main_quiescent m ρ)

/-- The arguments end as they began, and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_main_quiescent m ρ))

end Cert.ExpertsIdeal.Body

end
-- ==== Proof.FfnBlock.lean ====
/- An expert on one token: the gated unit and its output projection, and what the kernel's two blocks hold at an index. -/
module

public import proofs.«01_k».proof.Proof.FfnBodyIdeal
public import Idealize.ShloMosaic.Lib.Pointwise
public import Idealize.ShloMosaic.Lib.Pipeline.ValueKit

@[expose] public section

noncomputable section

namespace Cert.Ffn

open Cert.ExpertsIdeal Cert.ExpertsIdeal.Gen Cert.ExpertsIdeal.Body Idealize.ShloMosaic Idealize.ShloMosaic.TcCoe

/-- The hidden unit `f` of a token: its gate projection, times the logistic of that, times its up projection. -/
def hidden (x : Fin 1024 → EReal) (wg wu : Fin 1024 → Fin 1024 → EReal) (f : Fin 1024) : EReal :=
  (∑ k, x k * wg k f) * Ideal.logistic (∑ k, x k * wg k f) * ∑ k, x k * wu k f

/-- The token's row: its hidden units projected down, scaled by its gate. -/
def expertRow (x : Fin 1024 → EReal) (wg wu wd : Fin 1024 → Fin 1024 → EReal) (g : EReal) (d : Fin 1024) : EReal :=
  (∑ f, hidden x wg wu f * wd f d) * g

/-- A sum over 1024 hidden units is the sum over the first 512 and over the last 512. -/
theorem halves (h : Fin 1024 → EReal) :
    ∑ f, h f = (∑ f : Fin 512, h ⟨f.val, by omega⟩) + ∑ f : Fin 512, h ⟨512 + f.val, by omega⟩ :=
  Fin.sum_univ_add (a := 512) (b := 512) h

/-- The body's value on its loads, for the prompt rows and for the sample rows. -/
theorem pay4_apply (x : Vec Ideal S1x512x1024 .bf16) (a u : Vec Ideal S1024x512 .bf16) (w : Vec Ideal S512x1024 .bf16)
    (a' u' : Vec Ideal S1024x512 .bf16) (w' : Vec Ideal S512x1024 .bf16) (g : Vec Ideal S1x512x1 .f32) (r : Fin 512) (d : Fin 1024) :
    k0_pay4 x a u w a' u' w' g (ix3 0 r d)
      = ((∑ f : Fin 512, (∑ k : Fin 1024, x (ix3 0 r k) * a (ix2 k f)) * Ideal.logistic (∑ k : Fin 1024, x (ix3 0 r k) * a (ix2 k f))
            * (∑ k : Fin 1024, x (ix3 0 r k) * u (ix2 k f)) * w (ix2 f d))
          + ∑ f : Fin 512, (∑ k : Fin 1024, x (ix3 0 r k) * a' (ix2 k f)) * Ideal.logistic (∑ k : Fin 1024, x (ix3 0 r k) * a' (ix2 k f))
            * (∑ k : Fin 1024, x (ix3 0 r k) * u' (ix2 k f)) * w' (ix2 f d)) * g (ix3 0 r 0) := by
  pointwise [k0_pay4]

theorem pay5_apply (x : Vec Ideal S1x512x1024 .bf16) (a u : Vec Ideal S1024x512 .bf16) (w : Vec Ideal S512x1024 .bf16)
    (a' u' : Vec Ideal S1024x512 .bf16) (w' : Vec Ideal S512x1024 .bf16) (g : Vec Ideal S1x512x1 .f32) (r : Fin 512) (d : Fin 1024) :
    k0_pay5 x a u w a' u' w' g (ix3 0 r d) = k0_pay4 x a u w a' u' w' g (ix3 0 r d) := rfl

/-- The rounded weights hold the weights. -/
theorem kept0_apply (w : Vec Ideal S1x1x1024x1024 .f32) (k f : Fin 1024) : kept0 w (ix2 k f) = w (ix4 0 0 k f) := by
  unfold kept0
  rw [View.canon_unit_zero (by decide), View.ld_unit_zero (S := S1x1x1024x1024) (off := ![0, 0, 0, 0]) (by decide)]
  pointwise [k0_pay1]
theorem kept1_apply (w : Vec Ideal S1x1x1024x1024 .f32) (k f : Fin 1024) : kept1 w (ix2 k f) = w (ix4 0 0 k f) := by
  unfold kept1
  rw [View.canon_unit_zero (by decide), View.ld_unit_zero (S := S1x1x1024x1024) (off := ![0, 0, 0, 0]) (by decide)]
  pointwise [k0_pay2]
theorem kept2_apply (w : Vec Ideal S1x1x1024x1024 .f32) (k f : Fin 1024) : kept2 w (ix2 k f) = w (ix4 0 0 k f) := by
  unfold kept2
  rw [View.canon_unit_zero (by decide), View.ld_unit_zero (S := S1x1x1024x1024) (off := ![0, 0, 0, 0]) (by decide)]
  pointwise [k0_pay3]

/-- The halves of a square matrix, and the gate's column. -/
theorem ld_colsL (s : Vec Ideal S1024x1024 .bf16) (k : Fin 1024) (f : Fin 512) : View.ld s colsL (ix2 k f) = s (ix2 k ⟨f.val, by omega⟩) := by
  rw [View.ld_unit]
  refine congrArg s (funext fun a => Fin.ext ?_)
  fin_cases a
  · show 0 + k.val = k.val; omega
  · show 0 + f.val = f.val; omega
theorem ld_colsR (s : Vec Ideal S1024x1024 .bf16) (k : Fin 1024) (f : Fin 512) : View.ld s colsR (ix2 k f) = s (ix2 k ⟨512 + f.val, by omega⟩) := by
  rw [View.ld_unit]
  refine congrArg s (funext fun a => Fin.ext ?_)
  fin_cases a
  · show 0 + k.val = k.val; omega
  · rfl
theorem ld_rowsT (s : Vec Ideal S1024x1024 .bf16) (f : Fin 512) (d : Fin 1024) : View.ld s rowsT (ix2 f d) = s (ix2 ⟨f.val, by omega⟩ d) := by
  rw [View.ld_unit]
  refine congrArg s (funext fun a => Fin.ext ?_)
  fin_cases a
  · show 0 + f.val = f.val; omega
  · show 0 + d.val = d.val; omega
theorem ld_rowsB (s : Vec Ideal S1024x1024 .bf16) (f : Fin 512) (d : Fin 1024) : View.ld s rowsB (ix2 f d) = s (ix2 ⟨512 + f.val, by omega⟩ d) := by
  rw [View.ld_unit]
  refine congrArg s (funext fun a => Fin.ext ?_)
  fin_cases a
  · rfl
  · show 0 + d.val = d.val; omega
theorem ld_lane (g : Vec Ideal S1x512x128 .f32) (r : Fin 512) : View.ld g lane (ix3 0 r 0) = g (ix3 0 r 0) := by
  rw [View.ld_unit]
  refine congrArg g (funext fun a => Fin.ext ?_)
  fin_cases a
  · rfl
  · show 0 + r.val = r.val; omega
  · rfl

theorem colsL_eq (s : Vec Ideal S1024x1024 .bf16) :
    View.ld s colsL = (fun i => s (ix2 (i 0) ⟨(i 1).val, by have : (i 1).val < 512 := (i 1).isLt; omega⟩) : Vec Ideal S1024x512 .bf16) := by
  funext i
  obtain ⟨k, f, rfl⟩ : ∃ (k : Fin 1024) (f : Fin 512), i = ix2 k f := ⟨i 0, i 1, by funext a; fin_cases a <;> rfl⟩
  exact ld_colsL s k f
theorem colsR_eq (s : Vec Ideal S1024x1024 .bf16) :
    View.ld s colsR = (fun i => s (ix2 (i 0) ⟨512 + (i 1).val, by have : (i 1).val < 512 := (i 1).isLt; omega⟩) : Vec Ideal S1024x512 .bf16) := by
  funext i
  obtain ⟨k, f, rfl⟩ : ∃ (k : Fin 1024) (f : Fin 512), i = ix2 k f := ⟨i 0, i 1, by funext a; fin_cases a <;> rfl⟩
  exact ld_colsR s k f
theorem rowsT_eq (s : Vec Ideal S1024x1024 .bf16) :
    View.ld s rowsT = (fun i => s (ix2 ⟨(i 0).val, by have : (i 0).val < 512 := (i 0).isLt; omega⟩ (i 1)) : Vec Ideal S512x1024 .bf16) := by
  funext i
  obtain ⟨f, d, rfl⟩ : ∃ (f : Fin 512) (d : Fin 1024), i = ix2 f d := ⟨i 0, i 1, by funext a; fin_cases a <;> rfl⟩
  exact ld_rowsT s f d
theorem rowsB_eq (s : Vec Ideal S1024x1024 .bf16) :
    View.ld s rowsB = (fun i => s (ix2 ⟨512 + (i 0).val, by have : (i 0).val < 512 := (i 0).isLt; omega⟩ (i 1)) : Vec Ideal S512x1024 .bf16) := by
  funext i
  obtain ⟨f, d, rfl⟩ : ∃ (f : Fin 512) (d : Fin 1024), i = ix2 f d := ⟨i 0, i 1, by funext a; fin_cases a <;> rfl⟩
  exact ld_rowsB s f d
theorem lane_eq (g : Vec Ideal S1x512x128 .f32) : View.ld g lane = (fun i => g (ix3 0 (i 1) 0) : Vec Ideal S1x512x1 .f32) := by
  funext i
  obtain ⟨a, r, b, rfl⟩ : ∃ (a : Fin 1) (r : Fin 512) (b : Fin 1), i = ix3 a r b := ⟨i 0, i 1, i 2, by funext a; fin_cases a <;> rfl⟩
  obtain rfl : a = 0 := Subsingleton.elim _ _
  obtain rfl : b = 0 := Subsingleton.elim _ _
  exact ld_lane g r

/-- The prompt block at a token and a lane. -/
theorem blockA_apply (x : Vec Ideal S1x512x1024 .bf16) (g : Vec Ideal S1x512x128 .f32) (s0 s1 s2 : Vec Ideal S1024x1024 .bf16) (r : Fin 512) (d : Fin 1024) :
    blockA x g s0 s1 s2 (ix3 0 r d)
      = expertRow (fun k => x (ix3 0 r k)) (fun k f => s0 (ix2 k f)) (fun k f => s1 (ix2 k f)) (fun f d => s2 (ix2 f d)) (g (ix3 0 r 0)) d := by
  unfold blockA expertRow
  rw [View.canon_unit_zero (by decide), View.ld_unit_zero (S := S1x512x1024) (off := ![0, 0, 0]) (by decide), colsL_eq, colsL_eq, rowsT_eq, colsR_eq, colsR_eq, rowsB_eq, lane_eq, pay4_apply, halves]
  rfl

/-- The sample block likewise. -/
theorem blockB_apply (x : Vec Ideal S1x512x1024 .bf16) (g : Vec Ideal S1x512x128 .f32) (s0 s1 s2 : Vec Ideal S1024x1024 .bf16) (r : Fin 512) (d : Fin 1024) :
    blockB x g s0 s1 s2 (ix3 0 r d)
      = expertRow (fun k => x (ix3 0 r k)) (fun k f => s0 (ix2 k f)) (fun k f => s1 (ix2 k f)) (fun f d => s2 (ix2 f d)) (g (ix3 0 r 0)) d := by
  unfold blockB expertRow
  rw [View.canon_unit_zero (by decide), View.ld_unit_zero (S := S1x512x1024) (off := ![0, 0, 0]) (by decide), colsL_eq, colsL_eq, rowsT_eq, colsR_eq, colsR_eq, rowsB_eq, lane_eq, pay5_apply, pay4_apply, halves]
  rfl

end Cert.Ffn

end
-- ==== Proof.FfnRef.lean ====
/- What the reference of the experts holds, element by element. -/
module

public import proofs.«01_k».proof.Proof.FfnBlock
public import proofs.«01_k».proof.Proof.Gen.ExpertsRefIdeal.Read

@[expose] public section

noncomputable section

namespace Cert.Ffn

open Cert.ExpertsRefIdeal Cert.ExpertsRefIdeal.Read Idealize.ShloMosaic Idealize.ShloMosaic.TcCoe

/-- The expert `e` of the layer on the row `x`, with the weights of the layer's first application. -/
def expert (wg wu wd : FVec Ideal S2x16x1024x1024 .f32) (e : Fin 16) (x : Fin 1024 → EReal) (g : EReal) : Fin 1024 → EReal :=
  expertRow x (fun k f => wg (ix4 0 e k f)) (fun k f => wu (ix4 0 e k f)) (fun f d => wd (ix4 0 e f d)) g

variable (xa : FVec Ideal S16x512x1024 .bf16) (ga : FVec Ideal S16x512x128 .f32) (xb : FVec Ideal S16x2048x1024 .bf16)
  (gb : FVec Ideal S16x2048x128 .f32) (wg wu wd : FVec Ideal S2x16x1024x1024 .f32)

/-- The weights the reference takes out of its stacks. -/
theorem ref_w1 (e : Fin 16) (k f : Fin 1024) : val_main_v1 (F := Ideal) wg (ix3 e k f) = wg (ix4 0 e k f) := by pointwise [val_main_v1, val_main_v0]
theorem ref_w3 (e : Fin 16) (k f : Fin 1024) : val_main_v3 (F := Ideal) wu (ix3 e k f) = wu (ix4 0 e k f) := by pointwise [val_main_v3, val_main_v2]
theorem ref_w5 (e : Fin 16) (k f : Fin 1024) : val_main_v5 (F := Ideal) wd (ix3 e k f) = wd (ix4 0 e k f) := by pointwise [val_main_v5, val_main_v4]

/-- The prompt rows: the two projections, the gated unit, the scaled result. -/
theorem ref_gate (e : Fin 16) (r : Fin 512) (f : Fin 1024) : val_main_v9 (F := Ideal) xa wg (ix3 e r f) = ∑ k, xa (ix3 e r k) * wg (ix4 0 e k f) := by
  pointwise [val_main_v9, val_main_v8]
  simp only [ref_w1]
theorem ref_up (e : Fin 16) (r : Fin 512) (f : Fin 1024) : val_main_v10 (F := Ideal) xa wu (ix3 e r f) = ∑ k, xa (ix3 e r k) * wu (ix4 0 e k f) := by
  pointwise [val_main_v10, val_main_v8]
  simp only [ref_w3]
theorem ref_sigmoid (e : Fin 16) (r : Fin 512) (f : Fin 1024) :
    val_main_call0_v5 (F := Ideal) xa wg (ix3 e r f) = Ideal.logistic (val_main_v9 (F := Ideal) xa wg (ix3 e r f)) := by
  pointwise [val_main_call0_v5, val_main_call0_v4, val_main_call0_cst_0, val_main_call0_v3, val_main_call0_v2, val_main_call0_cst, val_main_call0_v1, val_main_call0_v0]
  rfl
theorem ref_hidden (e : Fin 16) (r : Fin 512) (f : Fin 1024) :
    val_main_v12 (F := Ideal) xa wg wu (ix3 e r f) = hidden (fun k => xa (ix3 e r k)) (fun k f => wg (ix4 0 e k f)) (fun k f => wu (ix4 0 e k f)) f := by
  pointwise [val_main_v12, val_main_v11, hidden]
  simp only [ref_sigmoid, ref_gate, ref_up]
theorem ref_prompt_row (e : Fin 16) (r : Fin 512) (d : Fin 1024) :
    val_main_v17 (F := Ideal) xa ga wg wu wd (ix3 e r d) = expert wg wu wd e (fun k => xa (ix3 e r k)) (ga (ix3 e r 0)) d := by
  pointwise [val_main_v17, val_main_v16, val_main_v15, val_main_v14, val_main_v13, val_main_v7, val_main_v6, expert, expertRow]
  simp only [ref_hidden, ref_w5]

/-- The sample rows likewise. -/
theorem ref_gate' (e : Fin 16) (r : Fin 2048) (f : Fin 1024) : val_main_v21 (F := Ideal) xb wg (ix3 e r f) = ∑ k, xb (ix3 e r k) * wg (ix4 0 e k f) := by
  pointwise [val_main_v21, val_main_v20]
  simp only [ref_w1]
theorem ref_up' (e : Fin 16) (r : Fin 2048) (f : Fin 1024) : val_main_v22 (F := Ideal) xb wu (ix3 e r f) = ∑ k, xb (ix3 e r k) * wu (ix4 0 e k f) := by
  pointwise [val_main_v22, val_main_v20]
  simp only [ref_w3]
theorem ref_sigmoid' (e : Fin 16) (r : Fin 2048) (f : Fin 1024) :
    val_main_call1_v5 (F := Ideal) xb wg (ix3 e r f) = Ideal.logistic (val_main_v21 (F := Ideal) xb wg (ix3 e r f)) := by
  pointwise [val_main_call1_v5, val_main_call1_v4, val_main_call1_cst_0, val_main_call1_v3, val_main_call1_v2, val_main_call1_cst, val_main_call1_v1, val_main_call1_v0]
  rfl
theorem ref_hidden' (e : Fin 16) (r : Fin 2048) (f : Fin 1024) :
    val_main_v24 (F := Ideal) xb wg wu (ix3 e r f) = hidden (fun k => xb (ix3 e r k)) (fun k f => wg (ix4 0 e k f)) (fun k f => wu (ix4 0 e k f)) f := by
  pointwise [val_main_v24, val_main_v23, hidden]
  simp only [ref_sigmoid', ref_gate', ref_up']
theorem ref_sample_row (e : Fin 16) (r : Fin 2048) (d : Fin 1024) :
    val_main_v29 (F := Ideal) xb gb wg wu wd (ix3 e r d) = expert wg wu wd e (fun k => xb (ix3 e r k)) (gb (ix3 e r 0)) d := by
  pointwise [val_main_v29, val_main_v28, val_main_v27, val_main_v26, val_main_v25, val_main_v19, val_main_v18, expert, expertRow]
  simp only [ref_hidden', ref_w5]

/-- Both results as arrays. -/
theorem ref_prompt : val_main_v17 (F := Ideal) xa ga wg wu wd
    = (fun i : S16x512x1024.Idx => expert wg wu wd (i 0) (fun k => xa (ix3 (i 0) (i 1) k)) (ga (ix3 (i 0) (i 1) 0)) (i 2)) := by
  funext i
  obtain ⟨e, r, d, rfl⟩ : ∃ (a : Fin 16) (b : Fin 512) (d : Fin 1024), i = ix3 a b d := ⟨i 0, i 1, i 2, by funext a; fin_cases a <;> rfl⟩
  exact ref_prompt_row xa ga wg wu wd e r d
theorem ref_sample : val_main_v29 (F := Ideal) xb gb wg wu wd
    = (fun i : S16x2048x1024.Idx => expert wg wu wd (i 0) (fun k => xb (ix3 (i 0) (i 1) k)) (gb (ix3 (i 0) (i 1) 0)) (i 2)) := by
  funext i
  obtain ⟨e, r, d, rfl⟩ : ∃ (a : Fin 16) (b : Fin 2048) (d : Fin 1024), i = ix3 a b d := ⟨i 0, i 1, i 2, by funext a; fin_cases a <;> rfl⟩
  exact ref_sample_row xb gb wg wu wd e r d

end Cert.Ffn

end
-- ==== Proof.FfnArray.lean ====
/- The two arrays the experts' launch leaves: an expert's prompt rows, written back at its last point, and its sample rows, 512 a point. -/
module

public import proofs.«01_k».proof.Proof.FfnRef

@[expose] public section

noncomputable section

namespace Cert.Ffn

open Cert.ExpertsIdeal Cert.ExpertsIdeal.Gen Cert.ExpertsIdeal.Body Idealize.ShloMosaic Idealize.ShloMosaic.TcCoe
open Idealize.ShloMosaic.Pipeline (Dat)

variable (m : (ℓ : Loc nD τ sig) → Buf (Elt Ideal) ℓ)

theorem index0 : ∀ t : Fin cfg0.N, win0_0.index t = ![t.val / 5, 0, 0] := (by decide +kernel : ∀ t : Fin grid0.N, _)
theorem index1 : ∀ t : Fin cfg0.N, win0_1.index t = ![t.val / 5, 0, 0] := (by decide +kernel : ∀ t : Fin grid0.N, _)
theorem index2 : ∀ t : Fin cfg0.N, win0_2.index t = ![t.val / 5, t.val % 5 - 1, 0] := (by decide +kernel : ∀ t : Fin grid0.N, _)
theorem index3 : ∀ t : Fin cfg0.N, win0_3.index t = ![t.val / 5, t.val % 5 - 1, 0] := (by decide +kernel : ∀ t : Fin grid0.N, _)
theorem index4 : ∀ t : Fin cfg0.N, win0_4.index t = ![0, t.val / 5, 0, 0] := (by decide +kernel : ∀ t : Fin grid0.N, _)
theorem index5 : ∀ t : Fin cfg0.N, win0_5.index t = ![0, t.val / 5, 0, 0] := (by decide +kernel : ∀ t : Fin grid0.N, _)
theorem index6 : ∀ t : Fin cfg0.N, win0_6.index t = ![0, t.val / 5, 0, 0] := (by decide +kernel : ∀ t : Fin grid0.N, _)
theorem index7 : ∀ t : Fin cfg0.N, win0_7.index t = ![t.val / 5, 0, 0] := (by decide +kernel : ∀ t : Fin grid0.N, _)
theorem index8 : ∀ t : Fin cfg0.N, win0_8.index t = ![t.val / 5, t.val % 5 - 1, 0] := (by decide +kernel : ∀ t : Fin grid0.N, _)

theorem point_lt (t : Fin cfg0.N) : t.val < 80 := t.isLt

/-- The expert a point works on; its first point works on the same. -/
def expertOf (t : Fin cfg0.N) : Fin 16 := ⟨t.val / 5, by have := point_lt t; omega⟩
theorem expertOf_start (t : Fin cfg0.N) : expertOf (start t) = expertOf t := Fin.ext (by simp only [expertOf, start]; omega)

/-- The sample row at place `r` of a point's block. -/
def rowAt (t : Fin cfg0.N) (r : Fin 512) : Fin 2048 := ⟨(t.val % 5 - 1) * 512 + r.val, by omega⟩

section Blocks
variable (c : Dev nD) (t : Fin cfg0.N)

theorem iblk0_apply (r : Fin 512) (k : Fin 1024) : iblk m c 0 t (ix3 0 r k) = m ((c : Thread nD τ).loc main_arg0) (ix3 (expertOf t) r k) := by
  unfold expertOf; blk_ext! [iblk, V, index0 t]
theorem iblk1_apply (r : Fin 512) : iblk m c 1 t (ix3 0 r 0) = m ((c : Thread nD τ).loc main_arg1) (ix3 (expertOf t) r 0) := by
  unfold expertOf; blk_ext! [iblk, V, index1 t]
theorem iblk2_apply (r : Fin 512) (k : Fin 1024) : iblk m c 2 t (ix3 0 r k) = m ((c : Thread nD τ).loc main_arg2) (ix3 (expertOf t) (rowAt t r) k) := by
  unfold expertOf rowAt; blk_ext! [iblk, V, index2 t]
theorem iblk3_apply (r : Fin 512) : iblk m c 3 t (ix3 0 r 0) = m ((c : Thread nD τ).loc main_arg3) (ix3 (expertOf t) (rowAt t r) 0) := by
  unfold expertOf rowAt; blk_ext! [iblk, V, index3 t]
theorem iblk4_apply (k f : Fin 1024) : iblk m c 4 t (ix4 0 0 k f) = m ((c : Thread nD τ).loc main_arg4) (ix4 0 (expertOf t) k f) := by
  unfold expertOf; blk_ext! [iblk, V, index4 t]
theorem iblk5_apply (k f : Fin 1024) : iblk m c 5 t (ix4 0 0 k f) = m ((c : Thread nD τ).loc main_arg5) (ix4 0 (expertOf t) k f) := by
  unfold expertOf; blk_ext! [iblk, V, index5 t]
theorem iblk6_apply (k f : Fin 1024) : iblk m c 6 t (ix4 0 0 k f) = m ((c : Thread nD τ).loc main_arg6) (ix4 0 (expertOf t) k f) := by
  unfold expertOf; blk_ext! [iblk, V, index6 t]

/-- What a point holds of its expert's prompt rows, and of its own sample rows. -/
theorem promptBlock_apply (r : Fin 512) (d : Fin 1024) :
    promptBlock m c t (ix3 0 r d) = expert (m ((c : Thread nD τ).loc main_arg4)) (m ((c : Thread nD τ).loc main_arg5)) (m ((c : Thread nD τ).loc main_arg6))
      (expertOf t) (fun k => m ((c : Thread nD τ).loc main_arg0) (ix3 (expertOf t) r k)) (m ((c : Thread nD τ).loc main_arg1) (ix3 (expertOf t) r 0)) d := by
  unfold promptBlock expert
  rw [blockA_apply]
  simp only [kept0_apply, kept1_apply, kept2_apply, iblk0_apply, iblk1_apply, iblk4_apply, iblk5_apply, iblk6_apply, expertOf_start]
theorem sampleBlock_apply (r : Fin 512) (d : Fin 1024) :
    sampleBlock m c t (ix3 0 r d) = expert (m ((c : Thread nD τ).loc main_arg4)) (m ((c : Thread nD τ).loc main_arg5)) (m ((c : Thread nD τ).loc main_arg6))
      (expertOf t) (fun k => m ((c : Thread nD τ).loc main_arg2) (ix3 (expertOf t) (rowAt t r) k))
      (m ((c : Thread nD τ).loc main_arg3) (ix3 (expertOf t) (rowAt t r) 0)) d := by
  unfold sampleBlock expert
  rw [blockB_apply]
  simp only [kept0_apply, kept1_apply, kept2_apply, iblk2_apply, iblk3_apply, iblk4_apply, iblk5_apply, iblk6_apply, expertOf_start]

end Blocks

/-- The prompt rows of every expert. -/
theorem array7 (c : Dev nD) :
    (dats m 0 c).arrAt 7 cfg0.N = (fun i : S16x512x1024.Idx => expert (m ((c : Thread nD τ).loc main_arg4)) (m ((c : Thread nD τ).loc main_arg5))
      (m ((c : Thread nD τ).loc main_arg6)) (i 0) (fun k => m ((c : Thread nD τ).loc main_arg0) (ix3 (i 0) (i 1) k))
      (m ((c : Thread nD τ).loc main_arg1) (ix3 (i 0) (i 1) 0)) (i 2)) := by
  refine (dats m 0 c).arrAt_eq_of_covers 7 _ (by decide +kernel) fun t hf y => ?_
  blk_simp
  rw [after0_7]
  obtain ⟨y0, r, d, rfl⟩ : ∃ (a : Fin 1) (b : Fin 512) (d : Fin 1024), y = ix3 a b d := ⟨y 0, y 1, y 2, by funext a; fin_cases a <;> rfl⟩
  obtain rfl : y0 = 0 := Subsingleton.elim _ _
  have he : ((cfg0.win 7).blk t).view.emb (ix3 0 r d) = ix3 (expertOf t) r d := by unfold expertOf; blk_ext [index7 t]
  refine Eq.trans ?_ (congrArg (fun i : S16x512x1024.Idx => expert (m ((c : Thread nD τ).loc main_arg4)) (m ((c : Thread nD τ).loc main_arg5))
      (m ((c : Thread nD τ).loc main_arg6)) (i 0) (fun k => m ((c : Thread nD τ).loc main_arg0) (ix3 (i 0) (i 1) k))
      (m ((c : Thread nD τ).loc main_arg1) (ix3 (i 0) (i 1) 0)) (i 2)) he).symm
  exact promptBlock_apply m c t r d

/-- The sample rows of every expert. -/
theorem array8 (c : Dev nD) :
    (dats m 0 c).arrAt 8 cfg0.N = (fun i : S16x2048x1024.Idx => expert (m ((c : Thread nD τ).loc main_arg4)) (m ((c : Thread nD τ).loc main_arg5))
      (m ((c : Thread nD τ).loc main_arg6)) (i 0) (fun k => m ((c : Thread nD τ).loc main_arg2) (ix3 (i 0) (i 1) k))
      (m ((c : Thread nD τ).loc main_arg3) (ix3 (i 0) (i 1) 0)) (i 2)) := by
  refine (dats m 0 c).arrAt_eq_of_covers 8 _ (by decide +kernel) fun t hf y => ?_
  blk_simp
  rw [after0_8]
  obtain ⟨y0, r, d, rfl⟩ : ∃ (a : Fin 1) (b : Fin 512) (d : Fin 1024), y = ix3 a b d := ⟨y 0, y 1, y 2, by funext a; fin_cases a <;> rfl⟩
  obtain rfl : y0 = 0 := Subsingleton.elim _ _
  have he : ((cfg0.win 8).blk t).view.emb (ix3 0 r d) = ix3 (expertOf t) (rowAt t r) d := by unfold expertOf rowAt; blk_ext [index8 t]
  refine Eq.trans ?_ (congrArg (fun i : S16x2048x1024.Idx => expert (m ((c : Thread nD τ).loc main_arg4)) (m ((c : Thread nD τ).loc main_arg5))
      (m ((c : Thread nD τ).loc main_arg6)) (i 0) (fun k => m ((c : Thread nD τ).loc main_arg2) (ix3 (i 0) (i 1) k))
      (m ((c : Thread nD τ).loc main_arg3) (ix3 (i 0) (i 1) 0)) (i 2)) he).symm
  exact sampleBlock_apply m c t r d

end Cert.Ffn

end
-- ==== Proof.FfnClaim.lean ====
/- The experts' claims: the kernel and its reference end with equal results, and the reference's frame. -/
module

public import proofs.«01_k».proof.Proof.FfnBody
public import proofs.«01_k».proof.Proof.FfnArray
public import Idealize.ShloMosaic.Adequacy
public import Idealize.ShloMosaic.Init
public import proofs.«01_k».proof.Defs

@[expose] public section

noncomputable section

namespace Cert.Ffn

open Idealize.ShloMosaic Idealize.ShloMosaic.TcCoe Idealize.SL.Sem

/-- The reference runs, leaves its arguments alone and ends with every counter at zero. -/
theorem reference_frame : Cert.quiescent_ExpertsRefIdeal (hExpertsRefIdeal := Cert.ExpertsRefIdeal.Gen.facts) := fun m ρ _ =>
  (θ_run _ _ _).mono (fun r h => ⟨fun c => (h c).2.2, Idealize.ShloMosaic.sem_eq_zero_of_no_sems (by decide) r.2⟩)
    (Cert.ExpertsRefIdeal.Value.run m ρ)

section
open Cert.ExpertsIdeal Cert.ExpertsIdeal.Gen Cert.ExpertsIdeal.Body

/-- The kernel ends with the two arrays the launch leaves, its arguments as they were. -/
theorem kernel_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v0_0) = (dats m 0 c).arrAt 7 cfg0.N
      ∧ r.2.mem ((c.tc : Thread nD τ).loc main_v0_1) = (dats m 0 c).arrAt 8 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run _ _ _).mono (fun r h c => ⟨(h.2 c).1 7, (h.2 c).1 8, h.1.1 c⟩) (θ_run_and (Body.frame m ρ) (run_main m ρ))
end

/-- The kernel and the reference, from equal arguments, end with equal results. -/
theorem equal_results : Cert.algebraic_ExpertsIdeal_ExpertsRefIdeal (hExpertsIdeal := Cert.ExpertsIdeal.Gen.facts)
    (hExpertsRefIdeal := Cert.ExpertsRefIdeal.Gen.facts) := by
  intro m ρ m' ρ' hpre hagree
  refine ⟨fun c => (Cert.ExpertsIdeal.Body.dats m 0 c).arrAt 7 Cert.ExpertsIdeal.cfg0.N,
    fun c => (Cert.ExpertsIdeal.Body.dats m 0 c).arrAt 8 Cert.ExpertsIdeal.cfg0.N, ?_, ?_⟩
  · refine (θ_run _ _ _).mono (fun r h c => ?_) (kernel_run m ρ)
    exact h c
  · refine (θ_run _ _ _).mono (fun r h c => ?_) (Cert.ExpertsRefIdeal.Value.run m' ρ')
    obtain ⟨h0, h1, h2, h3, h4, h5, h6⟩ := hagree c
    refine ⟨(h c).1.trans ?_, (h c).2.1.trans ?_, (h c).2.2⟩
    · rw [Cert.ExpertsRefIdeal.Read.val_main_v17_eq, h0, h1, h4, h5, h6, ref_prompt]
      exact (array7 m c).symm
    · rw [Cert.ExpertsRefIdeal.Read.val_main_v29_eq, h2, h3, h4, h5, h6, ref_sample]
      exact (array8 m c).symm

end Cert.Ffn

end
-- ==== Proof.JoinSampleWords.lean ====
/- The words the combination of the sample batch reads from the table of offsets: where an expert's window of rows starts. -/
module

public import proofs.«01_k».proof.Proof.Gen.CombineSIdeal

@[expose] public section

noncomputable section

namespace Cert.JoinSample

open Cert.CombineSIdeal Cert.CombineSIdeal.Gen Idealize.ShloMosaic

/-- On a positive word the correction of the quotient for signs does nothing. -/
theorem sign_same : ∀ b : BitVec 1, Scalar.andi (Scalar.cmpi CmpIPredicate.ne (Scalar.subi (Scalar.extui 1#1) (Scalar.extui 0#1))
    (Scalar.subi (Scalar.extui (Scalar.cmpi CmpIPredicate.sgt 16#32 0#32)) (Scalar.extui (Scalar.cmpi CmpIPredicate.slt 16#32 0#32)))) b = 0#1 := by
  decide
theorem uncorrected (s t w : BitVec 1) (q q' : BitVec 32) (hs : s = 1#1) (ht : t = 0#1) :
    Scalar.select (Scalar.andi (Scalar.cmpi CmpIPredicate.ne (Scalar.subi (Scalar.extui s) (Scalar.extui t))
      (Scalar.subi (Scalar.extui (Scalar.cmpi CmpIPredicate.sgt 16#32 0#32)) (Scalar.extui (Scalar.cmpi CmpIPredicate.slt 16#32 0#32)))) w) q' q = q := by
  subst hs ht
  rw [sign_same, Scalar.select, if_neg (by decide)]

theorem not_slt {v : BitVec 32} (h : v.toNat < 2 ^ 31) : IntOp.cmpi CmpIPredicate.slt v 0#32 = 0#1 := by
  have : v.toInt = v.toNat := by rw [BitVec.toInt_eq_toNat_cond]; split <;> omega
  have hn : ¬ (v.toInt < (0#32 : BitVec 32).toInt) := by rw [this, BitVec.toInt_zero]; omega
  unfold IntOp.cmpi
  exact congrArg BitVec.ofBool (decide_eq_false hn)
theorem sgt_of_pos {v : BitVec 32} (h : v.toNat < 2 ^ 31) (h0 : 0 < v.toNat) : IntOp.cmpi CmpIPredicate.sgt v 0#32 = 1#1 := by
  have : v.toInt = v.toNat := by rw [BitVec.toInt_eq_toNat_cond]; split <;> omega
  have hn : (0#32 : BitVec 32).toInt < v.toInt := by rw [this, BitVec.toInt_zero]; omega
  unfold IntOp.cmpi
  exact congrArg BitVec.ofBool (decide_eq_true hn)

/-- The quotient by 16 of a word that is not negative. -/
theorem div16 {v : BitVec 32} (h : v.toNat < 2 ^ 31) : (IntOp.divsi .scalar v 16#32).toNat = v.toNat / 16 := by
  have hc : ¬ IntOp.SDivCorner v 16#32 := by
    rintro (h1 | ⟨-, h1⟩) <;> exact absurd h1 (by decide)
  have hv : v.msb = false := by rw [BitVec.msb_eq_false_iff_two_mul_lt]; omega
  have h16 : (16#32 : BitVec 32).msb = false := by decide
  unfold IntOp.divsi
  rw [if_neg hc, BitVec.sdiv_eq]
  simp [hv, h16]

/-- An expert's window starts at its offset rounded down to a multiple of 16, at most at row 192. -/
theorem start_nat {v : BitVec 32} (h : v.toNat < 2 ^ 31) : (k0_mult1 v).toNat = min (v.toNat / 16 * 16) 192 := by
  rcases Nat.eq_zero_or_pos v.toNat with h0 | h0
  · obtain rfl : v = 0#32 := BitVec.eq_of_toNat_eq h0
    decide
  · have e : k0_mult1 v = IntOp.minsi (IntOp.muli (IntOp.divsi .scalar v 16#32) 16#32) 192#32 := by
      unfold k0_mult1
      exact congrArg (fun q => IntOp.minsi (IntOp.muli q 16#32) 192#32)
        (uncorrected (Scalar.cmpi .sgt v 0#32) (Scalar.cmpi .slt v 0#32) _ _ _ (sgt_of_pos h h0) (not_slt h))
    have hm : (IntOp.muli (IntOp.divsi .scalar v 16#32) 16#32).toNat = v.toNat / 16 * 16 := by
      unfold IntOp.muli
      rw [BitVec.toNat_mul, div16 h, show (16#32 : BitVec 32).toNat = 16 from rfl]
      omega
    have hi : (IntOp.muli (IntOp.divsi .scalar v 16#32) 16#32).toInt = (v.toNat / 16 * 16 : ℕ) := by
      rw [BitVec.toInt_eq_toNat_cond, hm]; split <;> omega
    rw [e]
    unfold IntOp.minsi BitVec.slt
    rw [hi]
    have h192 : (192#32 : BitVec 32).toInt = 192 := by decide
    rw [h192]
    split
    · rename_i hlt; have := of_decide_eq_true hlt; rw [hm]; omega
    · rename_i hlt; have : ¬ _ := fun x => hlt (decide_eq_true x); rw [show (192#32 : BitVec 32).toNat = 192 from rfl]; omega

theorem start_dvd {v : BitVec 32} (h : v.toNat < 2 ^ 31) : 16 ∣ (k0_mult1 v).toNat := by rw [start_nat h]; omega
theorem start_le {v : BitVec 32} (h : v.toNat < 2 ^ 31) : (k0_mult1 v).toNat ≤ 192 := by rw [start_nat h]; omega

/-- A window of 64 rows of expert `e` that starts at most at row 192 lies inside the block. -/
theorem rows_inside (e : Fin 16) {n : ℕ} (h : n ≤ 192) :
    ∀ a : Fin 4, (![e.val, 0, n, 0] : Fin 4 → ℕ) a + S1x1x64x1024.size a ≤ S16x1x256x1024.size a := by
  intro a
  have := e.isLt
  fin_cases a
  · show e.val + 1 ≤ 16; omega
  · show 0 + 1 ≤ 1; omega
  · show n + 64 ≤ 256; omega
  · show 0 + 1024 ≤ 1024; omega

/-- A decision widened and compared with zero is the decision. -/
theorem widened : ∀ b : BitVec 1, IntOp.cmpi CmpIPredicate.ne (BitVec.setWidth 32 b) 0#32 = b := by decide
theorem both : ∀ a b : BitVec 1, IntOp.andi a b = 1#1 → a = 1#1 ∧ b = 1#1 := by decide
/-- Of a decision and its negation exactly one holds. -/
theorem negated : ∀ b : BitVec 1, IntOp.cmpi CmpIPredicate.ne (BitVec.setWidth 32 b) 0#32 = 1#1 ↔
    ¬ IntOp.cmpi CmpIPredicate.ne (BitVec.setWidth 32 (IntOp.xori b 1#1)) 0#32 = 1#1 := by decide

end Cert.JoinSample

end
-- ==== Proof.JoinSampleBodyIdeal.lean ====
/- The launch of the combination of the sample batch (ideal reading), for every table of offsets that passes the body's check: what each point is
   handed and leaves, and the run. -/
module

public import proofs.«01_k».proof.Proof.Gen.CombineSIdeal.Flash.Runs
public import proofs.«01_k».proof.Proof.Gen.CombineSIdeal.Launch
public import proofs.«01_k».proof.Proof.JoinSampleWords
public import Idealize.ShloMosaic.Lib.Claim

@[expose] public section

set_option maxRecDepth 16384

noncomputable section

namespace Cert.CombineSIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.CombineSIdeal Cert.CombineSIdeal.Gen Cert.JoinSample

local notation "𝕄" => MT nD τ sig Unit (Elt Ideal) ℕ (UR sig nD τ) ℕ

/-! ## The words of the table -/

/-- The table's words. -/
abbrev Table : Type := S1040.Idx → BitVec 32

/-- The first row of expert `k` in the tile of a point, and in the tile after it, as the body loads them. -/
def first (T : Table) (i : grid0.Coords) (k : Fin 16) : BitVec 32 :=
  View.readAt (Elt Ideal) (tbM0_0).view (Rect.unit (s := S1040) (k0_off1 i (BitVec.ofNat 32 k.val)) S1.size (k0_off1_inb i k)).toLoadRect T
    (Shape.Idx.first (numel1_S1.symm ▸ Nat.one_pos))
def next (T : Table) (i : grid0.Coords) (k : Fin 16) : BitVec 32 :=
  View.readAt (Elt Ideal) (tbM0_0).view (Rect.unit (s := S1040) (k0_off2 i (BitVec.ofNat 32 k.val)) S1.size (k0_off2_inb i k)).toLoadRect T
    (Shape.Idx.first (numel1_S1.symm ▸ Nat.one_pos))

/-- What the body assumes of the windows of rows, and whether 64 rows of each expert reach the tile's last. -/
abbrev Checked (T : Table) (i : grid0.Coords) : Prop := k0_chk1 i (first T i 0) (next T i 0) (first T i 1) (next T i 1) (first T i 2) (next T i 2) (first T i 3) (next T i 3) (first T i 4) (next T i 4) (first T i 5) (next T i 5) (first T i 6) (next T i 6) (first T i 7) (next T i 7) (first T i 8) (next T i 8) (first T i 9) (next T i 9) (first T i 10) (next T i 10) (first T i 11) (next T i 11) (first T i 12) (next T i 12) (first T i 13) (next T i 13) (first T i 14) (next T i 14) (first T i 15) (next T i 15)
abbrev Fits (T : Table) (i : grid0.Coords) : Prop := k0_cond1 i (first T i 0) (next T i 0) (first T i 1) (next T i 1) (first T i 2) (next T i 2) (first T i 3) (next T i 3) (first T i 4) (next T i 4) (first T i 5) (next T i 5) (first T i 6) (next T i 6) (first T i 7) (next T i 7) (first T i 8) (next T i 8) (first T i 9) (next T i 9) (first T i 10) (next T i 10) (first T i 11) (next T i 11) (first T i 12) (next T i 12) (first T i 13) (next T i 13) (first T i 14) (next T i 14) (first T i 15) (next T i 15) = 1#1
abbrev Other (T : Table) (i : grid0.Coords) : Prop := k0_cond2 i (first T i 0) (next T i 0) (first T i 1) (next T i 1) (first T i 2) (next T i 2) (first T i 3) (next T i 3) (first T i 4) (next T i 4) (first T i 5) (next T i 5) (first T i 6) (next T i 6) (first T i 7) (next T i 7) (first T i 8) (next T i 8) (first T i 9) (next T i 9) (first T i 10) (next T i 10) (first T i 11) (next T i 11) (first T i 12) (next T i 12) (first T i 13) (next T i 13) (first T i 14) (next T i 14) (first T i 15) (next T i 15) = 1#1

/-- The body takes exactly one of its two branches, whatever the words. -/
theorem one_branch (i : grid0.Coords) (a0 b0 a1 b1 a2 b2 a3 b3 a4 b4 a5 b5 a6 b6 a7 b7 a8 b8 a9 b9 a10 b10 a11 b11 a12 b12 a13 b13 a14 b14 a15 b15 : BitVec 32) :
    k0_cond1 i a0 b0 a1 b1 a2 b2 a3 b3 a4 b4 a5 b5 a6 b6 a7 b7 a8 b8 a9 b9 a10 b10 a11 b11 a12 b12 a13 b13 a14 b14 a15 b15 = 1#1 ↔ ¬ k0_cond2 i a0 b0 a1 b1 a2 b2 a3 b3 a4 b4 a5 b5 a6 b6 a7 b7 a8 b8 a9 b9 a10 b10 a11 b11 a12 b12 a13 b13 a14 b14 a15 b15 = 1#1 := by
  unfold k0_cond1 k0_cond2
  exact negated _
theorem fits_or (T : Table) (i : grid0.Coords) : Fits T i ↔ ¬ Other T i := one_branch i _ _ _ _ _ _ _ _ _ _ _ _ _ _ _ _ _ _ _ _ _ _ _ _ _ _ _ _ _ _ _ _

/-- The check passes where no offset is negative. -/
theorem checked (T : Table) (i : grid0.Coords) (h : ∀ k, (first T i k).toNat < 2 ^ 31) : Checked T i :=
  ⟨fun _ => start_dvd (h 0), fun _ => rows_inside 0 (start_le (h 0)),
    fun _ => start_dvd (h 1), fun _ => rows_inside 1 (start_le (h 1)),
    fun _ => start_dvd (h 2), fun _ => rows_inside 2 (start_le (h 2)),
    fun _ => start_dvd (h 3), fun _ => rows_inside 3 (start_le (h 3)),
    fun _ => start_dvd (h 4), fun _ => rows_inside 4 (start_le (h 4)),
    fun _ => start_dvd (h 5), fun _ => rows_inside 5 (start_le (h 5)),
    fun _ => start_dvd (h 6), fun _ => rows_inside 6 (start_le (h 6)),
    fun _ => start_dvd (h 7), fun _ => rows_inside 7 (start_le (h 7)),
    fun _ => start_dvd (h 8), fun _ => rows_inside 8 (start_le (h 8)),
    fun _ => start_dvd (h 9), fun _ => rows_inside 9 (start_le (h 9)),
    fun _ => start_dvd (h 10), fun _ => rows_inside 10 (start_le (h 10)),
    fun _ => start_dvd (h 11), fun _ => rows_inside 11 (start_le (h 11)),
    fun _ => start_dvd (h 12), fun _ => rows_inside 12 (start_le (h 12)),
    fun _ => start_dvd (h 13), fun _ => rows_inside 13 (start_le (h 13)),
    fun _ => start_dvd (h 14), fun _ => rows_inside 14 (start_le (h 14)),
    fun _ => start_dvd (h 15), fun _ => rows_inside 15 (start_le (h 15))⟩

/-- The words, by their place in the table. -/
theorem first_eq (T : Table) (i : grid0.Coords) (k : Fin 16) (n : S1040.Idx) (hn : (n 0).val = 128 * (i 0).val + 16 * (i 1).val + k.val) :
    first T i k = T n := by
  unfold first
  refine congrArg T (funext fun (a : Fin 1) => ?_)
  obtain rfl : a = 0 := Subsingleton.elim _ _
  apply Fin.ext
  show k0_off1 i (BitVec.ofNat 32 k.val) 0 + 1 * 0 = (n 0).val
  rw [k0_off1_eq, hn]; rfl
theorem next_eq (T : Table) (i : grid0.Coords) (k : Fin 16) (n : S1040.Idx) (hn : (n 0).val = 128 * (i 0).val + 16 * (i 1).val + k.val + 16) :
    next T i k = T n := by
  unfold next
  refine congrArg T (funext fun (a : Fin 1) => ?_)
  obtain rfl : a = 0 := Subsingleton.elim _ _
  apply Fin.ext
  show k0_off2 i (BitVec.ofNat 32 k.val) 0 + 1 * 0 = (n 0).val
  rw [k0_off2_eq, hn]; rfl

/-! ## The pipeline at the table the launch finds -/

variable (m : (ℓ : Loc nD τ sig) → Buf (Elt Ideal) ℓ) (ρ : Dev nD → PrngReg)

/-- A core's buffers as the launch finds them. -/
abbrev V (c : Dev nD) (b : Ref sig .tc) : Buf (Elt Ideal) ((c : Thread nD τ).loc b) := m ((c : Thread nD τ).loc b)

theorem hmain (𝒱₀ : Variants) : Pipeline.HMainP (Ix := Unit) (Name := ℕ) (U := UR sig nD τ) (Lvl := ℕ) pcfgs 0 defs₀ 𝒱₀ m (main (F := Ideal)) (V m) :=
  Pipeline.hmainP_region pcfgs 0 defs₀ 𝒱₀ m main fun c => (main_chain c).trans rfl

/-- The table the launch finds. -/
def tbl : pre0.Contents (Elt Ideal) := fun j => V m (0 : Dev nD) (pre0.ref j)
theorem V_pre (c : Dev nD) (j : Fin 1) : V m c (pre0.ref j) = tbl m j := by
  obtain rfl : c = 0 := Subsingleton.elim _ _; rfl
abbrev adm : (pcfg0 (F := Ideal)).Adm := ⟨tbl m, trivial⟩
abbrev cfgM : Pipeline.Cfg sig Λ₀ := cfg0 (adm m)

/-- Its words. -/
def words : Table := tbl m 0

theorem PhiT0_eq (c : Dev nD) : (Pipeline.ΦT pre0 (tbl m) c : sProp 𝕄) = iprop((tbM0_0).view.loc (c : Thread nD τ) ↦{fullShare.right} words m) := by
  unfold Pipeline.ΦT Pipeline.prefHeld
  rw [show (Finset.univ : Finset (Fin 1)) = {(0 : Fin 1)} from by decide, bigSep_singleton]
  rfl

/-- A window's block at a point, read off its array. -/
def iblk (c : Dev nD) (w : Fin (cfgM m).W) (t : Fin (cfgM m).N) : (((cfgM m).win w).xblock ((cfgM m).grid.coords t)).Idx → Elt Ideal ((cfgM m).win w).elt :=
  (((cfgM m).win w).blk t).view.read (Elt Ideal) (V m c (Pipeline.arrRef spec0 w))

abbrev ms0_0 (t : Fin (cfgM m).N) : Memref sig .tc .vmem S1x256x16 .f32 := spec0_0.stage ((cfgM m).slots t 0)
abbrev hs0_0 (t : Fin (cfgM m).N) : (ms0_0 m t).IsWhole := hstage0_0 (((cfgM m).slots t 0).cast nbuf0_0)
abbrev ms0_1 (t : Fin (cfgM m).N) : Memref sig .tc .vmem S16x1x256x1024 .bf16 := spec0_1.stage ((cfgM m).slots t 1)
abbrev hs0_1 (t : Fin (cfgM m).N) : (ms0_1 m t).IsWhole := hstage0_1 (((cfgM m).slots t 1).cast nbuf0_1)
abbrev ms0_2 (t : Fin (cfgM m).N) : Memref sig .tc .vmem S1x256x1024 .f32 := spec0_2.stage ((cfgM m).slots t 2)
abbrev hs0_2 (t : Fin (cfgM m).N) : (ms0_2 m t).IsWhole := hstage0_2 (((cfgM m).slots t 2).cast nbuf0_2)
abbrev ms0_3 (t : Fin (cfgM m).N) : Memref sig .tc .vmem S1x1x1024 .f32 := spec0_3.stage ((cfgM m).slots t 3)
abbrev hs0_3 (t : Fin (cfgM m).N) : (ms0_3 m t).IsWhole := hstage0_3 (((cfgM m).slots t 3).cast nbuf0_3)
abbrev ms0_4 (t : Fin (cfgM m).N) : Memref sig .tc .vmem S1x1024 .f32 := spec0_4.stage ((cfgM m).slots t 4)
abbrev hs0_4 (t : Fin (cfgM m).N) : (ms0_4 m t).IsWhole := hstage0_4 (((cfgM m).slots t 4).cast nbuf0_4)
abbrev ms0_5 (t : Fin (cfgM m).N) : Memref sig .tc .vmem S1x256x1024 .f32 := spec0_5.stage ((cfgM m).slots t 5)
abbrev hs0_5 (t : Fin (cfgM m).N) : (ms0_5 m t).IsWhole := hstage0_5 (((cfgM m).slots t 5).cast nbuf0_5)

/-- What a point leaves in the output's block: the row sums over 64 rows of each expert where they reach, else over all rows. -/
def outsAt0 (hC : ∀ i, Checked (words m) i) (c : Dev nD) (t : Fin (cfgM m).N) : S1x256x1024.Idx → Elt Ideal .f32 :=
  if h : Fits (words m) (grid0.coords t) then
    out0_A_5 c (grid0.coords t) (ms0_0 m t) (hs0_0 m t) (ms0_1 m t) (hs0_1 m t) (ms0_2 m t) (hs0_2 m t) (ms0_3 m t) (hs0_3 m t) (ms0_4 m t) (hs0_4 m t) (ms0_5 m t) (hs0_5 m t) (words m) (iblk m c 0 t) (iblk m c 1 t) (iblk m c 2 t) (iblk m c 3 t) (iblk m c 4 t) (hC _) h ((fits_or _ _).1 h)
  else
    out0_B_5 c (grid0.coords t) (ms0_0 m t) (hs0_0 m t) (ms0_1 m t) (hs0_1 m t) (ms0_2 m t) (hs0_2 m t) (ms0_3 m t) (hs0_3 m t) (ms0_4 m t) (hs0_4 m t) (ms0_5 m t) (hs0_5 m t) (words m) (iblk m c 0 t) (iblk m c 1 t) (iblk m c 2 t) (iblk m c 3 t) (iblk m c 4 t) (hC _) h (not_not.1 fun hn => h ((fits_or _ _).2 hn))

/-- The proof data: the arrays as found; after a point each input's buffer at its block, the output's at what the point leaves. -/
def dats (hC : ∀ i, Checked (words m) i) (_ : Fin 1) (c : Dev nD) : Dat τ (Elt Ideal) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outsAt0 m hC c t
  Φ _ := iprop(Pipeline.ΦA spec0 c ∗ Pipeline.ΦT pre0 (tbl m) c)
  q _ := fullShare
  owed _ := 0

variable (hC : ∀ i, Checked (words m) i)

theorem A_eq (c : Dev nD) (w : Fin (cfgM m).W) : (dats m hC 0 c).A w = V m c (Pipeline.arrRef spec0 w) := by
  dsimp only [dats]
theorem after0_0 (c : Dev nD) (t : Fin (cfgM m).N) : (dats m hC 0 c).after 0 t = iblk m c 0 t := by dsimp only [dats]; try rfl
theorem after0_1 (c : Dev nD) (t : Fin (cfgM m).N) : (dats m hC 0 c).after 1 t = iblk m c 1 t := by dsimp only [dats]; try rfl
theorem after0_2 (c : Dev nD) (t : Fin (cfgM m).N) : (dats m hC 0 c).after 2 t = iblk m c 2 t := by dsimp only [dats]; try rfl
theorem after0_3 (c : Dev nD) (t : Fin (cfgM m).N) : (dats m hC 0 c).after 3 t = iblk m c 3 t := by dsimp only [dats]; try rfl
theorem after0_4 (c : Dev nD) (t : Fin (cfgM m).N) : (dats m hC 0 c).after 4 t = iblk m c 4 t := by dsimp only [dats]; try rfl
theorem after0_5 (c : Dev nD) (t : Fin (cfgM m).N) : (dats m hC 0 c).after 5 t = outsAt0 m hC c t := by dsimp only [dats]; try rfl

theorem before0_0 (c : Dev nD) (t : Fin (cfgM m).N) (d) : (dats m hC 0 c).before 0 t d = iblk m c 0 t :=
  ((dats m hC 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin (cfgM m).N) (d) : (dats m hC 0 c).before 1 t d = iblk m c 1 t :=
  ((dats m hC 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin (cfgM m).N) (d) : (dats m hC 0 c).before 2 t d = iblk m c 2 t :=
  ((dats m hC 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before0_3 (c : Dev nD) (t : Fin (cfgM m).N) (d) : (dats m hC 0 c).before 3 t d = iblk m c 3 t :=
  ((dats m hC 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)
theorem before0_4 (c : Dev nD) (t : Fin (cfgM m).N) (d) : (dats m hC 0 c).before 4 t d = iblk m c 4 t :=
  ((dats m hC 0 c).before_in_eq_fetched 4 rfl (fun _ => rfl) (fun _ _ _ => rfl)
    (fun t => by rw [after0_4]; unfold Dat.blockOf iblk; rw [A_eq]; try rfl) t d).trans
    (by unfold Dat.fetched Dat.blockOf iblk; rw [A_eq]; try rfl)

/-- No window is idle at any point: the output is stored on both branches. -/
theorem no_idle (i : grid0.Coords) : (cfgM m).idle 5 i = false := by
  have key : ∀ {p q : BitVec 1}, (p = 1#1 ↔ ¬ q = 1#1) → (!(p == 1#1) && !(q == 1#1)) = false := by decide
  exact key (one_branch i _ _ _ _ _ _ _ _ _ _ _ _ _ _ _ _ _ _ _ _ _ _ _ _ _ _ _ _ _ _ _ _)

/-- The body at a point, as the pipeline calls it. -/
abbrev bodyAt0 (t : Fin (cfgM m).N) : Prog (TpuEff nD τ sig (Elt Ideal) Λ₀ .tc) PUnit :=
  cc0_ec_combine (grid0.coords t) (Memref.whole main_arg0) (Memref.isWhole_whole _) (ms0_0 m t) (hs0_0 m t) (ms0_1 m t) (hs0_1 m t) (ms0_2 m t) (hs0_2 m t) (ms0_3 m t) (hs0_3 m t) (ms0_4 m t) (hs0_4 m t) (ms0_5 m t) (hs0_5 m t)

/-- What the body is called with at a point, and what it returns. -/
def bodyPre (c : Dev nD) (t : Fin (cfgM m).N) : sProp 𝕄 :=
  iprop((dats m hC 0 c).Φ t.castSucc ∗ (dats m hC 0 c).owesAt () t.castSucc
    ∗ (∃ d, owns (c : Thread nD τ) (ms0_0 m t) fullShare ((dats m hC 0 c).before 0 t d))
    ∗ (∃ d, owns (c : Thread nD τ) (ms0_1 m t) fullShare ((dats m hC 0 c).before 1 t d))
    ∗ (∃ d, owns (c : Thread nD τ) (ms0_2 m t) fullShare ((dats m hC 0 c).before 2 t d))
    ∗ (∃ d, owns (c : Thread nD τ) (ms0_3 m t) fullShare ((dats m hC 0 c).before 3 t d))
    ∗ (∃ d, owns (c : Thread nD τ) (ms0_4 m t) fullShare ((dats m hC 0 c).before 4 t d))
    ∗ (∃ d, owns (c : Thread nD τ) (ms0_5 m t) fullShare ((dats m hC 0 c).before 5 t d)))
def bodyPost (c : Dev nD) (t : Fin (cfgM m).N) : sProp 𝕄 :=
  iprop((dats m hC 0 c).Φ t.succ ∗ (dats m hC 0 c).owesAt () t.succ
    ∗ owns (c : Thread nD τ) (ms0_0 m t) fullShare ((dats m hC 0 c).after 0 t)
    ∗ owns (c : Thread nD τ) (ms0_1 m t) fullShare ((dats m hC 0 c).after 1 t)
    ∗ owns (c : Thread nD τ) (ms0_2 m t) fullShare ((dats m hC 0 c).after 2 t)
    ∗ owns (c : Thread nD τ) (ms0_3 m t) fullShare ((dats m hC 0 c).after 3 t)
    ∗ owns (c : Thread nD τ) (ms0_4 m t) fullShare ((dats m hC 0 c).after 4 t)
    ∗ owns (c : Thread nD τ) (ms0_5 m t) fullShare ((dats m hC 0 c).after 5 t))

set_option maxHeartbeats 4000000 in
/-- The body at any point, by its branch. -/
theorem sound_body (c : Dev nD) (t : Fin (cfgM m).N) :
    bodyPre m hC c t ⊢ wp frame (wpE (defs₀ (F := Ideal)) Variants.none c none) Set.univ (bodyAt0 m t) (fun _ => bodyPost m hC c t) := by
  unfold bodyPre bodyPost bodyAt0
  simp only [before0_0, before0_1, before0_2, before0_3, before0_4]
  rw [show (dats m hC 0 c).Φ t.succ = (dats m hC 0 c).Φ t.castSucc from rfl,
    show (dats m hC 0 c).owesAt () t.succ = (dats m hC 0 c).owesAt () t.castSucc from rfl,
    after0_0, after0_1, after0_2, after0_3, after0_4, after0_5]
  rw [show (dats m hC 0 c).Φ t.castSucc = iprop(Pipeline.ΦA spec0 c ∗ Pipeline.ΦT pre0 (tbl m) c) from rfl, PhiT0_eq]
  unfold outsAt0
  iintro ⟨⟨HΦ, HT0⟩, Ho, ⟨%d0, H0⟩, ⟨%d1, H1⟩, ⟨%d2, H2⟩, ⟨%d3, H3⟩, ⟨%d4, H4⟩, ⟨%d5, H5⟩⟩
  by_cases h : Fits (words m) (grid0.coords t)
  · rw [dif_pos h]
    unfold out0_A_5
    iapply ((kernelRun0_A c (grid0.coords t) (ms0_0 m t) (hs0_0 m t) (ms0_1 m t) (hs0_1 m t) (ms0_2 m t) (hs0_2 m t) (ms0_3 m t) (hs0_3 m t) (ms0_4 m t) (hs0_4 m t) (ms0_5 m t) (hs0_5 m t) (words m) (iblk m c 0 t) (iblk m c 1 t) (iblk m c 2 t) (iblk m c 3 t) (iblk m c 4 t) (hC _) h ((fits_or _ _).1 h)).2 _)
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [HT0]; · iexact HT0
    isplitl [H5]; · iexists _; iexact H5
    iintro ⟨H0, H1, H2, H3, H4, HT0, ⟨%e5, H5⟩⟩
    isplitl [HΦ HT0]
    · isplitl [HΦ]
      · iexact HΦ
      iexact HT0
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    unfold owns; iexists _; isplitr; swap
    · iexact H5
    · ipureintro; exact View.read_writes_of_cover _ _ _ _ _ (cover0_A_5 c _ _ _ _ _ _ _ _ _ _ _ _ _ _ _ _ _ _ _ _ _ _)
  · rw [dif_neg h]
    unfold out0_B_5
    iapply ((kernelRun0_B c (grid0.coords t) (ms0_0 m t) (hs0_0 m t) (ms0_1 m t) (hs0_1 m t) (ms0_2 m t) (hs0_2 m t) (ms0_3 m t) (hs0_3 m t) (ms0_4 m t) (hs0_4 m t) (ms0_5 m t) (hs0_5 m t) (words m) (iblk m c 0 t) (iblk m c 1 t) (iblk m c 2 t) (iblk m c 3 t) (iblk m c 4 t) (hC _) h (not_not.1 fun hn => h ((fits_or _ _).2 hn))).2 _)
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [HT0]; · iexact HT0
    isplitl [H5]; · iexists _; iexact H5
    iintro ⟨H0, H1, H2, H3, H4, HT0, ⟨%e5, H5⟩⟩
    isplitl [HΦ HT0]
    · isplitl [HΦ]
      · iexact HΦ
      iexact HT0
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    unfold owns; iexists _; isplitr; swap
    · iexact H5
    · ipureintro; exact View.read_writes_of_cover _ _ _ _ _ (cover0_B_5 c _ _ _ _ _ _ _ _ _ _ _ _ _ _ _ _ _ _ _ _ _ _)

theorem defs₀_row (t : Fin (cfgM m).N) : defs₀ (F := Ideal) .tc (cfgM m).body ((cfgM m).bodyArgs t ((cfgM m).slots t)) = bodyAt0 m t := by
  unfold defs₀; rw [Defs.onTc_tc]

theorem body_obligation (c : Dev nD) : BodyObligation (dats m hC 0 c) (defs₀ (F := Ideal)) Variants.none () Set.univ := fun t => by
  rw [bigSep_W0, bigSep_W0, defs₀_row m]
  rewrite [no_idle m]
  exact triple_restated (sound_body m hC c t) rfl .rfl fun _ => .rfl

set_option backward.isDefEq.respectTransparency.types false in
/-- The run: the arrays at what the points wrote back, every counter at zero. -/
theorem run_main_quiescent : θ_run defs (onTc (τ := τ) (main (F := Ideal))) (s₀ m ρ)
    (fun r => (Pipeline.FramePost (Pipeline.pin pcfgs fun _ => adm m) (dats m hC) 0 (V m)) r ∧ r.2.sem = fun _ => 0) :=
  Pipeline.θ_run_frameP (Q' := _) pcfgs (fun _ => adm m) (dats m hC) (0 : Fin 1) launch0 defs₀ Variants.none m ρ main
    (hbody := fun c => (body_obligation m hC c).loose) (hshare := fun c => (dats m hC 0 c).share_full fun _ => rfl)
    (howed := fun _ _ => rfl) (V := V m) (hmain := hmain m Variants.none) (hA := A_eq m hC) (hpf := V_pre m)
    (hΦ := fun _ _ => rfl)

theorem run_main : θ_run defs (onTc (τ := τ) (main (F := Ideal))) (s₀ m ρ) (Pipeline.FramePost (Pipeline.pin pcfgs fun _ => adm m) (dats m hC) 0 (V m)) :=
  (θ_run defs _ _).mono (fun _ h => h.1) (run_main_quiescent m ρ hC)

include hC
/-- The arguments end as they were. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).2 main_arg0 (by decide : main_arg0 ∈ Pipeline.restRefs sig spec0),
      ((h c).1 0).trans (((dats m hC 0 c).arrAt_in 0 rfl _).trans (A_eq m hC c 0)),
      ((h c).1 1).trans (((dats m hC 0 c).arrAt_in 1 rfl _).trans (A_eq m hC c 1)),
      ((h c).1 2).trans (((dats m hC 0 c).arrAt_in 2 rfl _).trans (A_eq m hC c 2)),
      ((h c).1 3).trans (((dats m hC 0 c).arrAt_in 3 rfl _).trans (A_eq m hC c 3)),
      ((h c).1 4).trans (((dats m hC 0 c).arrAt_in 4 rfl _).trans (A_eq m hC c 4))⟩) (run_main m ρ hC)

/-- The same, with every counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ hC) ((θ_run defs _ _).mono (fun _ h => h.2) (run_main_quiescent m ρ hC))

end Cert.CombineSIdeal.Body

end
-- ==== Proof.JoinSampleOut.lean ====
/- What the combination of the sample batch leaves in its output's block, on each of its two branches, as the values it computes. -/
module

public import proofs.«01_k».proof.Proof.JoinSampleBodyIdeal
public import Idealize.ShloMosaic.Lib.Pointwise
public import Idealize.ShloMosaic.Lib.Pipeline.ValueKit
public import Idealize.ShloMosaic.Lib.VecWindow

@[expose] public section

set_option maxRecDepth 16384

noncomputable section

namespace Cert.JoinSample

open Cert.CombineSIdeal Cert.CombineSIdeal.Gen Cert.CombineSIdeal.Body Idealize.ShloMosaic Idealize.ShloMosaic.TcCoe Idealize.ShloMosaic.Tactic

/-- The number of the lanes, as the kernel writes it. -/
def lane : IVec S1x1024 32 := iota .tc S1x1024 32 [1] iota_S1x1024_d1_w32

/-- The row each lane stands for less the last expert's part: the lane's remainder and the starts of the experts' windows. -/
def wanted (s : Fin 16 → BitVec 32) : FVec Ideal S1x1024 .f32 :=
  k0_pay42 (s 13) (s 14) lane
    (k0_pay39 (s 12) lane
      (k0_pay38 (s 10) (s 11) lane
        (k0_pay35 (s 9) lane
          (k0_pay34 (s 7) (s 8) lane
            (k0_pay31 (s 6) lane
              (k0_pay30 (s 4) (s 5) lane
                (k0_pay27 (s 3) lane
                  (k0_pay26 (s 1) (s 2) lane (k0_pay23 (s 0) lane k0_pay22 64#32) 64#32 (k0_pay24 lane) (k0_pay25 lane)) 64#32)
                64#32 (k0_pay28 lane) (k0_pay29 lane)) 64#32)
            64#32 (k0_pay32 lane) (k0_pay33 lane)) 64#32)
        64#32 (k0_pay36 lane) (k0_pay37 lane)) 64#32)
    64#32 (k0_pay40 lane) (k0_pay41 lane)

/-- The 64 rows of expert `e` from row `n` on. -/
def rows (x : Vec Ideal S16x1x256x1024 .bf16) (e : Fin 16) {n : ℕ} (h : n ≤ 192) : Vec Ideal S1x1x64x1024 .bf16 := fun j =>
  x ((Rect.unit (s := S16x1x256x1024) ![e.val, 0, n, 0] S1x1x64x1024.size (rows_inside e h)).toLoadRect.idx j)

theorem rows_apply (x : Vec Ideal S16x1x256x1024 .bf16) (e : Fin 16) {n : ℕ} (h : n ≤ 192) (a : Fin 64) (d : Fin 1024) :
    rows x e h (ix4 0 0 a d) = x (ix4 e 0 ⟨n + a.val, by omega⟩ d) := by
  refine congrArg x (funext fun k => Fin.ext ?_)
  fin_cases k
  · show e.val + 1 * 0 = e.val; omega
  · rfl
  · show n + 1 * a.val = n + a.val; omega
  · show 0 + 1 * d.val = d.val; omega

/-- The combination over windows of 64 rows. -/
def inWindows (s : Fin 16 → BitVec 32) (L : Fin 16 → Vec Ideal S1x1x64x1024 .bf16) (x0 : Vec Ideal S1x256x16 .f32) (x2 : Vec Ideal S1x256x1024 .f32)
    (x3 : Vec Ideal S1x1x1024 .f32) (x4 : Vec Ideal S1x1024 .f32) : FVec Ideal S1x256x1024 .f32 :=
  k0_pay1
    (k0_pay43 (s 15) (k0_pay3 (L 0)) (k0_pay4 (L 1)) (k0_pay5 (L 2)) (k0_pay6 (L 3)) (k0_pay7 (L 4)) (k0_pay8 (L 5)) (k0_pay9 (L 6)) (k0_pay10 (L 7)) (k0_pay11 (L 8)) (k0_pay12 (L 9)) (k0_pay13 (L 10)) (k0_pay14 (L 11)) (k0_pay15 (L 12)) (k0_pay16 (L 13)) (k0_pay17 (L 14)) (k0_pay18 (L 15))
      (k0_pay21 (k0_pay52 x0) (iota .tc S16x1024 32 [1] iota_S16x1024_d1_w32) 64#32 k0_pay19 k0_pay20) lane (wanted s) 64#32)
    (k0_pay44 x2) (k0_pay45 x3) x4

/-- The combination over all 256 rows. -/
def overAll (x0 : Vec Ideal S1x256x16 .f32) (x1 : Vec Ideal S16x1x256x1024 .bf16) (x2 : Vec Ideal S1x256x1024 .f32)
    (x3 : Vec Ideal S1x1x1024 .f32) (x4 : Vec Ideal S1x1024 .f32) : FVec Ideal S1x256x1024 .f32 :=
  k0_pay2 (k0_pay51 (k0_pay46 (k0_pay52 x0)) 256#32 k0_pay47 k0_pay48 k0_pay49 k0_pay50 x1 x2 x3 x4)

section
variable (c : Dev nD) (i : grid0.Coords) (arg3 : Memref sig .tc .vmem S1x256x16 .f32) (harg3 : arg3.IsWhole) (arg4 : Memref sig .tc .vmem S16x1x256x1024 .bf16) (harg4 : arg4.IsWhole) (arg5 : Memref sig .tc .vmem S1x256x1024 .f32) (harg5 : arg5.IsWhole) (arg6 : Memref sig .tc .vmem S1x1x1024 .f32) (harg6 : arg6.IsWhole) (arg7 : Memref sig .tc .vmem S1x1024 .f32) (harg7 : arg7.IsWhole) (arg8 : Memref sig .tc .vmem S1x256x1024 .f32) (harg8 : arg8.IsWhole)
  (T : Body.Table) (x0 : Vec Ideal S1x256x16 .f32) (x1 : Vec Ideal S16x1x256x1024 .bf16) (x2 : Vec Ideal S1x256x1024 .f32)
  (x3 : Vec Ideal S1x1x1024 .f32) (x4 : Vec Ideal S1x1024 .f32)

/-- The branch over all rows stores `overAll`. -/
theorem out_all (hC : Checked T i) (h : ¬ Fits T i) (h' : Other T i) :
    out0_B_5 c i arg3 harg3 arg4 harg4 arg5 harg5 arg6 harg6 arg7 harg7 arg8 harg8 T x0 x1 x2 x3 x4 hC h h' = overAll x0 x1 x2 x3 x4 := by
  have e : (kernelRun0_B c i arg3 harg3 arg4 harg4 arg5 harg5 arg6 harg6 arg7 harg7 arg8 harg8 T x0 x1 x2 x3 x4 hC h h').1
      = [⟨Rect.unit (s := S1x256x1024) ![0, 0, 0] S1x256x1024.size inb_S1x256x1024_S1x256x1024_0_0_0, overAll
          (View.readAt (Elt Ideal) arg3.view (Rect.unit (s := S1x256x16) ![0, 0, 0] S1x256x16.size inb_S1x256x16_S1x256x16_0_0_0).toLoadRect (arg3.view.rep x0))
          (View.readAt (Elt Ideal) arg4.view (Rect.unit (s := S16x1x256x1024) ![0, 0, 0, 0] S16x1x256x1024.size inb_S16x1x256x1024_S16x1x256x1024_0_0_0_0).toLoadRect (arg4.view.rep x1))
          (View.readAt (Elt Ideal) arg5.view (Rect.unit (s := S1x256x1024) ![0, 0, 0] S1x256x1024.size inb_S1x256x1024_S1x256x1024_0_0_0).toLoadRect (arg5.view.rep x2))
          (View.readAt (Elt Ideal) arg6.view (Rect.unit (s := S1x1x1024) ![0, 0, 0] S1x1x1024.size inb_S1x1x1024_S1x1x1024_0_0_0).toLoadRect (arg6.view.rep x3))
          (View.readAt (Elt Ideal) arg7.view (Rect.unit (s := S1x1024) ![0, 0] S1x1024.size inb_S1x1024_S1x1024_0_0).toLoadRect (arg7.view.rep x4))⟩] := rfl
  unfold out0_B_5
  rw [View.read_writes_junk_eq_canon, e, View.canon_unit_zero (by decide)]
  rw [View.readAt_rep_full arg4.view x1 inb_S16x1x256x1024_S16x1x256x1024_0_0_0_0, View.readAt_rep_full arg3.view x0 inb_S1x256x16_S1x256x16_0_0_0, View.readAt_rep_full arg5.view x2 inb_S1x256x1024_S1x256x1024_0_0_0,
    View.readAt_rep_full arg6.view x3 inb_S1x1x1024_S1x1x1024_0_0_0, View.readAt_rep_full arg7.view x4 inb_S1x1024_S1x1024_0_0]

/-- The branch over windows stores `inWindows`, at the windows' starts. -/
theorem out_windows (hC : Checked T i) (h : Fits T i) (h' : ¬ Other T i) (hn : ∀ k, (first T i k).toNat < 2 ^ 31) :
    out0_A_5 c i arg3 harg3 arg4 harg4 arg5 harg5 arg6 harg6 arg7 harg7 arg8 harg8 T x0 x1 x2 x3 x4 hC h h'
      = inWindows (fun k => k0_mult1 (first T i k)) (fun k => rows x1 k (start_le (hn k))) x0 x2 x3 x4 := by
  have e : (kernelRun0_A c i arg3 harg3 arg4 harg4 arg5 harg5 arg6 harg6 arg7 harg7 arg8 harg8 T x0 x1 x2 x3 x4 hC h h').1
      = [⟨Rect.unit (s := S1x256x1024) ![0, 0, 0] S1x256x1024.size inb_S1x256x1024_S1x256x1024_0_0_0, inWindows (fun k => k0_mult1 (first T i k))
          (fun k => View.readAt (Elt Ideal) arg4.view (Rect.unit (s := S16x1x256x1024) ![k.val, 0, (k0_mult1 (first T i k)).toNat, 0] S1x1x64x1024.size
            (rows_inside k (start_le (hn k)))).toLoadRect (arg4.view.rep x1))
          (View.readAt (Elt Ideal) arg3.view (Rect.unit (s := S1x256x16) ![0, 0, 0] S1x256x16.size inb_S1x256x16_S1x256x16_0_0_0).toLoadRect (arg3.view.rep x0))
          (View.readAt (Elt Ideal) arg5.view (Rect.unit (s := S1x256x1024) ![0, 0, 0] S1x256x1024.size inb_S1x256x1024_S1x256x1024_0_0_0).toLoadRect (arg5.view.rep x2))
          (View.readAt (Elt Ideal) arg6.view (Rect.unit (s := S1x1x1024) ![0, 0, 0] S1x1x1024.size inb_S1x1x1024_S1x1x1024_0_0_0).toLoadRect (arg6.view.rep x3))
          (View.readAt (Elt Ideal) arg7.view (Rect.unit (s := S1x1024) ![0, 0] S1x1024.size inb_S1x1024_S1x1024_0_0).toLoadRect (arg7.view.rep x4))⟩] := rfl
  unfold out0_A_5
  rw [View.read_writes_junk_eq_canon, e, View.canon_unit_zero (by decide)]
  rw [View.readAt_rep_full arg3.view x0 inb_S1x256x16_S1x256x16_0_0_0, View.readAt_rep_full arg5.view x2 inb_S1x256x1024_S1x256x1024_0_0_0,
    View.readAt_rep_full arg6.view x3 inb_S1x1x1024_S1x1x1024_0_0_0, View.readAt_rep_full arg7.view x4 inb_S1x1024_S1x1024_0_0]
  exact congrArg (fun L => inWindows (fun k => k0_mult1 (first T i k)) L x0 x2 x3 x4) (funext fun k => View.readAt_rep _ _ _)

end

end Cert.JoinSample

end
-- ==== Proof.JoinSampleBlock.lean ====
/- The combination of the sample batch on one token: the experts' rows picked by the token's slots, the residual and the last norm, and
   the row the branch over all rows stores. -/
module

public import proofs.«01_k».proof.Proof.JoinSampleOut

@[expose] public section

set_option maxRecDepth 16384

noncomputable section

namespace Cert.JoinSample

open Cert.CombineSIdeal Cert.CombineSIdeal.Gen Idealize.ShloMosaic Idealize.ShloMosaic.TcCoe

/-- Row `c` of an expert's capacity, as the number a slot is compared with. -/
def slotNo (c : ℕ) : EReal := FloatOps.sitofp (F := Ideal) .f32 (BitVec.ofNat 32 c)

/-- One where a token's slot is row `c`, else zero. -/
def hit (s : EReal) (c : ℕ) : EReal := if s = slotNo c then 1 else 0

/-- The sum of the experts' rows that hold the token. -/
def scattered (s : Fin 16 → EReal) (y : Fin 16 → Fin 256 → Fin 1024 → EReal) (d : Fin 1024) : EReal :=
  ∑ c : Fin 256, ∑ e : Fin 16, hit (s e) c.val * y e c d

/-- A row divided by its root mean square and scaled by the norm's weights. -/
def normed (v g : Fin 1024 → EReal) (d : Fin 1024) : EReal :=
  v d * Ideal.rsqrt (Ideal.div (∑ k, v k * v k) (Ideal.ofBits .f32 0x44800000#32) + Ideal.ofBits .f32 0x358637BD#32) * g d

/-- A lane's quotient and remainder by 256, the number of rows, as the branch over all rows computes them. -/
theorem quotient256 : ∀ j : Fin 4096,
    Scalar.select
      (IntOp.andi
        (IntOp.cmpi CmpIPredicate.ne
          (IntOp.subi (BitVec.setWidth 32 (IntOp.cmpi CmpIPredicate.sgt (BitVec.ofNat 32 j.val) 0#32))
            (BitVec.setWidth 32 (IntOp.cmpi CmpIPredicate.slt (BitVec.ofNat 32 j.val) 0#32)))
          (Scalar.subi (Scalar.extui (Scalar.cmpi CmpIPredicate.sgt 256#32 0#32)) (Scalar.extui (Scalar.cmpi CmpIPredicate.slt 256#32 0#32))))
        (IntOp.cmpi CmpIPredicate.ne (IntOp.remsi ArithUnit.vector (BitVec.ofNat 32 j.val) 256#32) 0#32))
      (IntOp.subi (IntOp.divsi ArithUnit.vector (BitVec.ofNat 32 j.val) 256#32) 1#32)
      (IntOp.divsi ArithUnit.vector (BitVec.ofNat 32 j.val) 256#32) = BitVec.ofNat 32 (j.val / 256) := by decide +kernel
theorem remainder256 : ∀ j : Fin 4096,
    Scalar.select
      (IntOp.andi
        (IntOp.xori (IntOp.cmpi CmpIPredicate.slt (IntOp.remsi ArithUnit.vector (BitVec.ofNat 32 j.val) 256#32) 0#32) (Scalar.cmpi CmpIPredicate.slt 256#32 0#32))
        (IntOp.cmpi CmpIPredicate.ne (IntOp.remsi ArithUnit.vector (BitVec.ofNat 32 j.val) 256#32) 0#32))
      (IntOp.addi (IntOp.remsi ArithUnit.vector (BitVec.ofNat 32 j.val) 256#32) 256#32)
      (IntOp.remsi ArithUnit.vector (BitVec.ofNat 32 j.val) 256#32)
        = BitVec.ofNat 32 (j.val % 256) := by decide +kernel

/-- A lane's quotient and remainder by 64, the rows of a window, as the branch over windows computes them. -/
theorem quotient64 : ∀ j : Fin 1024,
    Scalar.select
      (IntOp.andi
        (IntOp.cmpi CmpIPredicate.ne
          (IntOp.subi (BitVec.setWidth 32 (IntOp.cmpi CmpIPredicate.sgt (BitVec.ofNat 32 j.val) 0#32))
            (BitVec.setWidth 32 (IntOp.cmpi CmpIPredicate.slt (BitVec.ofNat 32 j.val) 0#32)))
          (Scalar.subi (Scalar.extui (Scalar.cmpi CmpIPredicate.sgt 64#32 0#32)) (Scalar.extui (Scalar.cmpi CmpIPredicate.slt 64#32 0#32))))
        (IntOp.cmpi CmpIPredicate.ne (IntOp.remsi ArithUnit.vector (BitVec.ofNat 32 j.val) 64#32) 0#32))
      (IntOp.subi (IntOp.divsi ArithUnit.vector (BitVec.ofNat 32 j.val) 64#32) 1#32)
      (IntOp.divsi ArithUnit.vector (BitVec.ofNat 32 j.val) 64#32) = BitVec.ofNat 32 (j.val / 64) := by decide +kernel
theorem remainder64 : ∀ j : Fin 1024,
    Scalar.select
      (IntOp.andi
        (IntOp.xori (IntOp.cmpi CmpIPredicate.slt (IntOp.remsi ArithUnit.vector (BitVec.ofNat 32 j.val) 64#32) 0#32) (Scalar.cmpi CmpIPredicate.slt 64#32 0#32))
        (IntOp.cmpi CmpIPredicate.ne (IntOp.remsi ArithUnit.vector (BitVec.ofNat 32 j.val) 64#32) 0#32))
      (IntOp.addi (IntOp.remsi ArithUnit.vector (BitVec.ofNat 32 j.val) 64#32) 64#32)
      (IntOp.remsi ArithUnit.vector (BitVec.ofNat 32 j.val) 64#32)
        = BitVec.ofNat 32 (j.val % 64) := by decide +kernel

/-- The numbers of rows, as the kernel computes them. -/
theorem capacity256 : Scalar.select (Scalar.cmpi CmpIPredicate.eq 256#32 0#32) 1#32 256#32 = (256#32 : BitVec 32) := by decide
theorem capacity64 : Scalar.select (Scalar.cmpi CmpIPredicate.eq 64#32 0#32) 1#32 64#32 = (64#32 : BitVec 32) := by decide

/-- Two quotients are the same word where they are the same number. -/
theorem same_word : ∀ (a x : Fin 16), IntOp.cmpi CmpIPredicate.eq (BitVec.ofNat 32 a.val) (BitVec.ofNat 32 x.val) = if x = a then 1#1 else 0#1 := by
  decide +kernel

/-- Each lane of the branch over all rows takes the slot of its expert. -/
theorem lane_slot256 (v0 : Vec Ideal S1x256x16 .f32) (r : Fin 256) (j : Fin 4096) :
    k0_pay46 (k0_pay52 v0) (ix2 r j) = v0 (ix3 0 r ⟨j.val / 256, by omega⟩) := by
  pointwise [k0_pay46, k0_pay52]
  simp only [quotient256 j]
  have hw (x : Fin 16) : IntOp.cmpi CmpIPredicate.eq (BitVec.ofNat 32 (j.val / 256)) (BitVec.ofNat 32 x.val)
      = if x = (⟨j.val / 256, by omega⟩ : Fin 16) then 1#1 else 0#1 := same_word ⟨j.val / 256, by omega⟩ x
  simp only [hw]
  rw [Finset.sum_eq_single (⟨j.val / 256, by omega⟩ : Fin 16)]
  · rw [if_pos rfl]; rfl
  · intro x _ hx
    rw [if_neg hx]; rfl
  · intro h; exact absurd (Finset.mem_univ _) h

/-- The lanes' sum is the sum over the experts and their rows. -/
theorem lanes256 (s : Fin 16 → EReal) (y : Fin 16 → Fin 256 → Fin 1024 → EReal) (d : Fin 1024) :
    (∑ j : Fin 4096, (if s ⟨j.val / 256, by omega⟩ = slotNo (j.val % 256) then 1 else 0) * y ⟨j.val / 256, by omega⟩ ⟨j.val % 256, by omega⟩ d)
      = scattered s y d := by
  unfold scattered
  rw [Finset.sum_comm, ← Fintype.sum_prod_type' (fun (e : Fin 16) (c : Fin 256) => hit (s e) c.val * y e c d)]
  exact (Equiv.sum_comp (finProdFinEquiv (m := 16) (n := 256)).symm fun p : Fin 16 × Fin 256 => hit (s p.1) p.2.val * y p.1 p.2 d)

/-- The row the branch over all rows stores. -/
theorem stored_all (v0 : Vec Ideal S1x256x16 .f32) (y : Vec Ideal S16x1x256x1024 .bf16) (x : Vec Ideal S1x256x1024 .f32) (g2 : Vec Ideal S1x1x1024 .f32)
    (g : Vec Ideal S1x1024 .f32) (r : Fin 256) (d : Fin 1024) :
    overAll v0 y x g2 g (ix3 0 r d)
      = normed (fun k => x (ix3 0 r k) + g2 (ix3 0 0 k) * scattered (fun e => v0 (ix3 0 r e)) (fun e c k => y (ix4 e 0 c k)) k) (fun k => g (ix2 0 k)) d := by
  simp only [← lanes256]
  unfold normed slotNo overAll
  pointwise [k0_pay2, k0_pay51, k0_pay50, k0_pay49, k0_pay48, k0_pay47]
  simp only [capacity256, remainder256, lane_slot256]

end Cert.JoinSample

end
-- ==== Proof.JoinSampleLanes.lean ====
/- What the lanes of the branch over windows are compared with, and the rows they multiply. -/
module

public import proofs.«01_k».proof.Proof.JoinSampleBlock

@[expose] public section

set_option maxRecDepth 16384

noncomputable section

namespace Cert.JoinSample

open Cert.CombineSIdeal Cert.CombineSIdeal.Gen Idealize.ShloMosaic Idealize.ShloMosaic.TcCoe

/-- The expert of a lane, and the lane's row in the expert's window. -/
def of (j : Fin 1024) : Fin 16 := ⟨j.val / 64, by omega⟩
def at' (j : Fin 1024) : Fin 64 := ⟨j.val % 64, by omega⟩

/-- What expert `e`, whose window starts at `s`, adds to the lanes of expert `q`: the start on its own lanes, else zero. -/
def part (s : BitVec 32) (e q : Fin 16) : EReal := if e = q then ((s.toInt : ℝ) : EReal) else 0

theorem part_eq (s : BitVec 32) (e : Fin 16) (j : Fin 1024) :
    Scalar.select (IntOp.cmpi CmpIPredicate.eq (BitVec.ofNat 32 (j.val / 64)) (BitVec.ofNat 32 e.val)) ((s.toInt : ℝ) : EReal) 0
      = part s e (of j) := by
  rw [show IntOp.cmpi CmpIPredicate.eq (BitVec.ofNat 32 (j.val / 64)) (BitVec.ofNat 32 e.val) = if e = of j then 1#1 else 0#1 from same_word (of j) e]
  unfold part Scalar.select
  split <;> rfl

/-- The experts' starts are added one by one. -/
theorem pay23_apply (s : BitVec 32) (w : FVec Ideal S1x1024 .f32) (j : Fin 1024) :
    k0_pay23 s lane w 64#32 (ix2 0 j) = w (ix2 0 j) + part s (0 : Fin 16) (of j) := by
  pointwise [k0_pay23, lane]
  simp only [quotient64 j]
  exact congrArg (w (ix2 0 j) + ·) (part_eq s 0 j)
theorem pay26_apply (s t : BitVec 32) (w : FVec Ideal S1x1024 .f32) (j : Fin 1024) :
    k0_pay26 s t lane w 64#32 (k0_pay24 lane) (k0_pay25 lane) (ix2 0 j) = w (ix2 0 j) + part s (1 : Fin 16) (of j) + part t (2 : Fin 16) (of j) := by
  pointwise [k0_pay26, k0_pay24, k0_pay25, lane]
  simp only [quotient64 j]
  exact congrArg₂ (w (ix2 0 j) + · + ·) (part_eq s 1 j) (part_eq t 2 j)
theorem pay27_apply (s : BitVec 32) (w : FVec Ideal S1x1024 .f32) (j : Fin 1024) :
    k0_pay27 s lane w 64#32 (ix2 0 j) = w (ix2 0 j) + part s (3 : Fin 16) (of j) := by
  pointwise [k0_pay27, lane]
  simp only [quotient64 j]
  exact congrArg (w (ix2 0 j) + ·) (part_eq s 3 j)
theorem pay30_apply (s t : BitVec 32) (w : FVec Ideal S1x1024 .f32) (j : Fin 1024) :
    k0_pay30 s t lane w 64#32 (k0_pay28 lane) (k0_pay29 lane) (ix2 0 j) = w (ix2 0 j) + part s (4 : Fin 16) (of j) + part t (5 : Fin 16) (of j) := by
  pointwise [k0_pay30, k0_pay28, k0_pay29, lane]
  simp only [quotient64 j]
  exact congrArg₂ (w (ix2 0 j) + · + ·) (part_eq s 4 j) (part_eq t 5 j)
theorem pay31_apply (s : BitVec 32) (w : FVec Ideal S1x1024 .f32) (j : Fin 1024) :
    k0_pay31 s lane w 64#32 (ix2 0 j) = w (ix2 0 j) + part s (6 : Fin 16) (of j) := by
  pointwise [k0_pay31, lane]
  simp only [quotient64 j]
  exact congrArg (w (ix2 0 j) + ·) (part_eq s 6 j)
theorem pay34_apply (s t : BitVec 32) (w : FVec Ideal S1x1024 .f32) (j : Fin 1024) :
    k0_pay34 s t lane w 64#32 (k0_pay32 lane) (k0_pay33 lane) (ix2 0 j) = w (ix2 0 j) + part s (7 : Fin 16) (of j) + part t (8 : Fin 16) (of j) := by
  pointwise [k0_pay34, k0_pay32, k0_pay33, lane]
  simp only [quotient64 j]
  exact congrArg₂ (w (ix2 0 j) + · + ·) (part_eq s 7 j) (part_eq t 8 j)
theorem pay35_apply (s : BitVec 32) (w : FVec Ideal S1x1024 .f32) (j : Fin 1024) :
    k0_pay35 s lane w 64#32 (ix2 0 j) = w (ix2 0 j) + part s (9 : Fin 16) (of j) := by
  pointwise [k0_pay35, lane]
  simp only [quotient64 j]
  exact congrArg (w (ix2 0 j) + ·) (part_eq s 9 j)
theorem pay38_apply (s t : BitVec 32) (w : FVec Ideal S1x1024 .f32) (j : Fin 1024) :
    k0_pay38 s t lane w 64#32 (k0_pay36 lane) (k0_pay37 lane) (ix2 0 j) = w (ix2 0 j) + part s (10 : Fin 16) (of j) + part t (11 : Fin 16) (of j) := by
  pointwise [k0_pay38, k0_pay36, k0_pay37, lane]
  simp only [quotient64 j]
  exact congrArg₂ (w (ix2 0 j) + · + ·) (part_eq s 10 j) (part_eq t 11 j)
theorem pay39_apply (s : BitVec 32) (w : FVec Ideal S1x1024 .f32) (j : Fin 1024) :
    k0_pay39 s lane w 64#32 (ix2 0 j) = w (ix2 0 j) + part s (12 : Fin 16) (of j) := by
  pointwise [k0_pay39, lane]
  simp only [quotient64 j]
  exact congrArg (w (ix2 0 j) + ·) (part_eq s 12 j)
theorem pay42_apply (s t : BitVec 32) (w : FVec Ideal S1x1024 .f32) (j : Fin 1024) :
    k0_pay42 s t lane w 64#32 (k0_pay40 lane) (k0_pay41 lane) (ix2 0 j) = w (ix2 0 j) + part s (13 : Fin 16) (of j) + part t (14 : Fin 16) (of j) := by
  pointwise [k0_pay42, k0_pay40, k0_pay41, lane]
  simp only [quotient64 j]
  exact congrArg₂ (w (ix2 0 j) + · + ·) (part_eq s 13 j) (part_eq t 14 j)

theorem wanted_apply (s : Fin 16 → BitVec 32) (j : Fin 1024) :
    wanted s (ix2 0 j) = k0_pay22 (ix2 0 j) + part (s 0) 0 (of j) + part (s 1) 1 (of j) + part (s 2) 2 (of j) + part (s 3) 3 (of j) + part (s 4) 4 (of j) + part (s 5) 5 (of j) + part (s 6) 6 (of j) + part (s 7) 7 (of j) + part (s 8) 8 (of j) + part (s 9) 9 (of j) + part (s 10) 10 (of j) + part (s 11) 11 (of j) + part (s 12) 12 (of j) + part (s 13) 13 (of j) + part (s 14) 14 (of j) := by
  unfold wanted
  rw [pay42_apply, pay39_apply, pay38_apply, pay35_apply, pay34_apply, pay31_apply, pay30_apply, pay27_apply, pay26_apply, pay23_apply]

theorem remainder_apply (j : Fin 1024) : (k0_pay22 : FVec Ideal S1x1024 .f32) (ix2 0 j) = slotNo (j.val % 64) := by
  unfold slotNo
  pointwise [k0_pay22]
  simp only [capacity64, remainder64]

/-- Each lane of the branch over windows takes the slot of its expert. -/
theorem lane_slot64 (v0 : Vec Ideal S1x256x16 .f32) (r : Fin 256) (j : Fin 1024) :
    k0_pay21 (k0_pay52 v0) (iota .tc S16x1024 32 [1] iota_S16x1024_d1_w32) 64#32 k0_pay19 k0_pay20 (ix2 r j) = v0 (ix3 0 r (of j)) := by
  pointwise [k0_pay21, k0_pay52, k0_pay19, k0_pay20]
  simp only [quotient64 j]
  have hw (x : Fin 16) : IntOp.cmpi CmpIPredicate.eq (BitVec.ofNat 32 (j.val / 64)) (BitVec.ofNat 32 x.val)
      = if x = of j then 1#1 else 0#1 := same_word (of j) x
  simp only [hw]
  rw [Finset.sum_eq_single (of j)]
  · rw [if_pos rfl]; rfl
  · intro x _ hx
    rw [if_neg hx]; rfl
  · intro h; exact absurd (Finset.mem_univ _) h

/-- The sixteen windows, one under the other. -/
theorem stacked (W : Fin 16 → FVec Ideal S64x1024 .bf16) (xs : List ((s : Shape) × (s.Idx → Ideal FTy.bf16)))
    (hx : xs = List.ofFn fun n => (⟨S64x1024, W n⟩ : (s : Shape) × (s.Idx → Ideal FTy.bf16)))
    (j : Fin 1024) (d : Fin 1024) (h : Shape.Concatenates (xs.map (·.1)) S1024x1024 0) :
    concatenate S1024x1024 0 xs h (ix2 j d) = W (of j) (ix2 (at' j) d) := by
  subst hx
  refine concatenate_ofFn_apply (t := S1024x1024) (s₁ := S64x1024) 0 W h rfl 64 rfl (ix2 j d) (of j) rfl (ix2 (at' j) d) rfl fun b hb => ?_
  fin_cases b
  · exact absurd rfl hb
  · rfl

/-- Of the sixteen summands a lane's row is made of only its expert's is not zero. -/
theorem parts (a : EReal) (s : Fin 16 → BitVec 32) (q : Fin 16) :
    a + part (s 0) 0 q + part (s 1) 1 q + part (s 2) 2 q + part (s 3) 3 q + part (s 4) 4 q + part (s 5) 5 q + part (s 6) 6 q + part (s 7) 7 q + part (s 8) 8 q + part (s 9) 9 q + part (s 10) 10 q + part (s 11) 11 q + part (s 12) 12 q + part (s 13) 13 q + part (s 14) 14 q + part (s 15) 15 q = a + ((s q).toInt : ℝ) := by
  unfold part
  fin_cases q <;> simp

/-- The sum over the lanes of the branch over windows. -/
theorem summed (s : Fin 16 → BitVec 32) (L : Fin 16 → Vec Ideal S1x1x64x1024 .bf16) (x0 : Vec Ideal S1x256x16 .f32) (r : Fin 256) (d : Fin 1024) :
    k0_pay43 (s 15) (k0_pay3 (L 0)) (k0_pay4 (L 1)) (k0_pay5 (L 2)) (k0_pay6 (L 3)) (k0_pay7 (L 4)) (k0_pay8 (L 5)) (k0_pay9 (L 6)) (k0_pay10 (L 7)) (k0_pay11 (L 8)) (k0_pay12 (L 9)) (k0_pay13 (L 10)) (k0_pay14 (L 11)) (k0_pay15 (L 12)) (k0_pay16 (L 13)) (k0_pay17 (L 14)) (k0_pay18 (L 15))
      (k0_pay21 (k0_pay52 x0) (iota .tc S16x1024 32 [1] iota_S16x1024_d1_w32) 64#32 k0_pay19 k0_pay20) lane (wanted s) 64#32 (ix2 r d)
      = ∑ j : Fin 1024, (if x0 (ix3 0 r (of j)) = slotNo (j.val % 64) + ((s (of j)).toInt : ℝ) then 1 else 0) * L (of j) (ix4 0 0 (at' j) d) := by
  unfold k0_pay43
  have hW := stacked (fun e => shapeCast S64x1024 (L e) shapeCasts_S1x1x64x1024_S64x1024)
  generalize hG : concatenate S1024x1024 0 _ _ = G
  have hg (j : Fin 1024) : G (ix2 j d) = L (of j) (ix4 0 0 (at' j) d) := by
    rw [← hG]
    refine (hW _ rfl j d _).trans ?_
    pointwise []
  clear hG hW
  pointwise [lane]
  refine Finset.sum_congr rfl fun j _ => ?_
  rw [lane_slot64, quotient64, hg, wanted_apply, remainder_apply]
  have h15 := part_eq (s 15) 15 j
  rw [show (BitVec.ofNat 32 (15 : Fin 16).val : BitVec 32) = 15#32 from rfl] at h15
  rw [h15, parts]

end Cert.JoinSample

end
-- ==== Proof.JoinSampleWindow.lean ====
/- The row the branch over windows stores: where no slot lies outside its expert's window, the sum over the windows is the sum over all
   rows. -/
module

public import proofs.«01_k».proof.Proof.JoinSampleLanes

@[expose] public section

set_option maxRecDepth 16384

noncomputable section

namespace Cert.JoinSample

open Cert.CombineSIdeal Cert.CombineSIdeal.Gen Idealize.ShloMosaic Idealize.ShloMosaic.TcCoe

/-- A word below the sign is the number it stands for. -/
theorem toInt_nat {v : BitVec 32} (h : v.toNat < 2 ^ 31) : v.toInt = v.toNat := by
  rw [BitVec.toInt_eq_toNat_cond]; split <;> omega

/-- A row's number is the real number it stands for. -/
theorem slotNo_eq {c : ℕ} (h : c < 2 ^ 31) : slotNo c = ((c : ℝ) : EReal) := by
  have hn : (BitVec.ofNat 32 c).toNat = c := by rw [BitVec.toNat_ofNat]; omega
  show (((BitVec.ofNat 32 c).toInt : ℝ) : EReal) = _
  rw [toInt_nat (by rw [hn]; exact h), hn]
  norm_cast

/-- The row a lane stands for is its remainder past the window's start. -/
theorem shifted {c : ℕ} (hc : c < 64) {v : BitVec 32} (h : v.toNat ≤ 192) : slotNo c + ((v.toInt : ℝ) : EReal) = slotNo (v.toNat + c) := by
  rw [slotNo_eq (by omega), slotNo_eq (by omega), toInt_nat (by omega)]
  push_cast
  exact add_comm _ _

/-- A slot that is a row of its expert is a row of the expert's window. -/
def Inside (s : Fin 16 → EReal) (n : Fin 16 → ℕ) : Prop := ∀ e, ∀ c : Fin 256, s e = slotNo c.val → n e ≤ c.val ∧ c.val < n e + 64

/-- One expert's rows in its window are all of its rows that hold the token. -/
theorem one_window (s : EReal) (y : Fin 256 → EReal) (n : ℕ) (hn : n ≤ 192) (h : ∀ c : Fin 256, s = slotNo c.val → n ≤ c.val ∧ c.val < n + 64) :
    (∑ c : Fin 64, hit s (n + c.val) * y ⟨n + c.val, by omega⟩) = ∑ c : Fin 256, hit s c.val * y c := by
  refine Fintype.sum_of_injective (fun c : Fin 64 => (⟨n + c.val, by omega⟩ : Fin 256)) (fun a b hab => ?_) _ _ (fun c hc => ?_) (fun c => rfl)
  · have := congrArg Fin.val hab
    exact Fin.ext (by simpa using this)
  · have : ¬ s = slotNo c.val := fun hs => hc ⟨⟨c.val - n, by have := h c hs; omega⟩, Fin.ext (by have := h c hs; show n + (c.val - n) = c.val; omega)⟩
    unfold hit
    rw [if_neg this, zero_mul]

/-- The sum over the lanes of the windows is the sum over the experts and all their rows. -/
theorem windowed (s : Fin 16 → EReal) (x1 : Vec Ideal S16x1x256x1024 .bf16) (w : Fin 16 → BitVec 32) (hw : ∀ e, (w e).toNat ≤ 192)
    (h : Inside s fun e => (w e).toNat) (d : Fin 1024) :
    (∑ j : Fin 1024, (if s (of j) = slotNo (j.val % 64) + ((w (of j)).toInt : ℝ) then 1 else 0) * rows x1 (of j) (hw (of j)) (ix4 0 0 (at' j) d))
      = scattered s (fun e c k => x1 (ix4 e 0 c k)) d := by
  unfold scattered
  rw [Finset.sum_comm]
  have h1 (e : Fin 16) := one_window (s e) (fun c => x1 (ix4 e 0 c d)) (w e).toNat (hw e) (h e)
  rw [← Finset.sum_congr rfl fun e _ => h1 e,
    ← Fintype.sum_prod_type' (fun (e : Fin 16) (c : Fin 64) => hit (s e) ((w e).toNat + c.val) * x1 (ix4 e 0 ⟨(w e).toNat + c.val, by have := hw e; omega⟩ d))]
  refine Eq.trans ?_ (Equiv.sum_comp (finProdFinEquiv (m := 16) (n := 64)).symm fun p : Fin 16 × Fin 64 =>
    hit (s p.1) ((w p.1).toNat + p.2.val) * x1 (ix4 p.1 0 ⟨(w p.1).toNat + p.2.val, by have := hw p.1; omega⟩ d))
  refine Finset.sum_congr rfl fun j _ => ?_
  rw [rows_apply, shifted (Nat.mod_lt _ (by omega)) (hw (of j))]
  rfl

/-- The row the branch over windows stores. -/
theorem stored_windows (w : Fin 16 → BitVec 32) (hw : ∀ e, (w e).toNat ≤ 192) (v0 : Vec Ideal S1x256x16 .f32) (y : Vec Ideal S16x1x256x1024 .bf16)
    (x : Vec Ideal S1x256x1024 .f32) (g2 : Vec Ideal S1x1x1024 .f32) (g : Vec Ideal S1x1024 .f32) (r : Fin 256)
    (h : Inside (fun e => v0 (ix3 0 r e)) fun e => (w e).toNat) (d : Fin 1024) :
    inWindows w (fun e => rows y e (hw e)) v0 x g2 g (ix3 0 r d)
      = normed (fun k => x (ix3 0 r k) + g2 (ix3 0 0 k) * scattered (fun e => v0 (ix3 0 r e)) (fun e c k => y (ix4 e 0 c k)) k) (fun k => g (ix2 0 k)) d := by
  unfold inWindows
  simp only [← windowed (fun e => v0 (ix3 0 r e)) y w hw h, ← summed w (fun e => rows y e (hw e)) v0 r]
  unfold normed
  pointwise [k0_pay1, k0_pay44, k0_pay45]

/-- What the words must say for the branch over windows to miss no row: 64 rows from the expert's start reach the tile's last. -/
def reach (i : grid0.Coords) (a b : BitVec 32) : BitVec 1 :=
  Scalar.cmpi .sle (Scalar.select (Scalar.cmpi .eq (BitVec.ofNat 32 (i 1).val) 7#32) 256#32 b) (Scalar.addi (k0_mult1 a) 64#32)

/-- The row after the last one a tile's tokens have: the next tile's first, 256 for the last tile. -/
def last (i : grid0.Coords) (b : BitVec 32) : BitVec 32 := if (i 1).val = 7 then 256#32 else b

theorem last_eq (i : grid0.Coords) (b : BitVec 32) : Scalar.select (Scalar.cmpi .eq (BitVec.ofNat 32 (i 1).val) 7#32) 256#32 b = last i b := by
  have : ∀ n : Fin 8, Scalar.cmpi .eq (BitVec.ofNat 32 n.val) 7#32 = if n.val = 7 then 1#1 else 0#1 := by decide
  rw [show Scalar.cmpi .eq (BitVec.ofNat 32 (i 1).val) 7#32 = if (i 1).val = 7 then 1#1 else 0#1 from this (i 1)]
  unfold last Scalar.select
  split <;> rfl

open Cert.CombineSIdeal.Body in
/-- The branch over windows is taken only where each expert's window reaches. -/
theorem reaches (T : Body.Table) (i : grid0.Coords) (h : Fits T i) (k : Fin 16) : reach i (first T i k) (next T i k) = 1#1 := by
  have e : Fits T i = (IntOp.cmpi CmpIPredicate.ne (BitVec.setWidth 32
      (IntOp.andi (IntOp.andi (IntOp.andi (IntOp.andi (IntOp.andi (IntOp.andi (IntOp.andi (IntOp.andi (IntOp.andi (IntOp.andi (IntOp.andi (IntOp.andi (IntOp.andi (IntOp.andi (IntOp.andi (reach i (first T i 0) (next T i 0)) (reach i (first T i 1) (next T i 1))) (reach i (first T i 2) (next T i 2))) (reach i (first T i 3) (next T i 3))) (reach i (first T i 4) (next T i 4))) (reach i (first T i 5) (next T i 5))) (reach i (first T i 6) (next T i 6))) (reach i (first T i 7) (next T i 7))) (reach i (first T i 8) (next T i 8))) (reach i (first T i 9) (next T i 9))) (reach i (first T i 10) (next T i 10))) (reach i (first T i 11) (next T i 11))) (reach i (first T i 12) (next T i 12))) (reach i (first T i 13) (next T i 13))) (reach i (first T i 14) (next T i 14))) (reach i (first T i 15) (next T i 15)))) 0#32 = 1#1) := rfl
  rw [e, widened] at h
  obtain ⟨h, h15⟩ := both _ _ h
  obtain ⟨h, h14⟩ := both _ _ h
  obtain ⟨h, h13⟩ := both _ _ h
  obtain ⟨h, h12⟩ := both _ _ h
  obtain ⟨h, h11⟩ := both _ _ h
  obtain ⟨h, h10⟩ := both _ _ h
  obtain ⟨h, h9⟩ := both _ _ h
  obtain ⟨h, h8⟩ := both _ _ h
  obtain ⟨h, h7⟩ := both _ _ h
  obtain ⟨h, h6⟩ := both _ _ h
  obtain ⟨h, h5⟩ := both _ _ h
  obtain ⟨h, h4⟩ := both _ _ h
  obtain ⟨h, h3⟩ := both _ _ h
  obtain ⟨h, h2⟩ := both _ _ h
  obtain ⟨h, h1⟩ := both _ _ h
  fin_cases k
  · exact h
  · exact h1
  · exact h2
  · exact h3
  · exact h4
  · exact h5
  · exact h6
  · exact h7
  · exact h8
  · exact h9
  · exact h10
  · exact h11
  · exact h12
  · exact h13
  · exact h14
  · exact h15

/-- Then the tile's last row is at most 64 past the window's start. -/
theorem reach_le {i : grid0.Coords} {a b : BitVec 32} (h : reach i a b = 1#1) (ha : a.toNat < 2 ^ 31) : (last i b).toInt ≤ (k0_mult1 a).toNat + 64 := by
  unfold reach at h
  rw [last_eq] at h
  have hle := start_le ha
  have hs : (Scalar.addi (k0_mult1 a) 64#32).toNat = (k0_mult1 a).toNat + 64 := by
    show ((k0_mult1 a) + 64#32).toNat = _
    rw [BitVec.toNat_add, show (64#32 : BitVec 32).toNat = 64 from rfl]; omega
  have hd : (last i b).sle (Scalar.addi (k0_mult1 a) 64#32) = true := by
    by_contra hne
    rw [Bool.not_eq_true] at hne
    have : Scalar.cmpi .sle (last i b) (Scalar.addi (k0_mult1 a) 64#32) = BitVec.ofBool ((last i b).sle (Scalar.addi (k0_mult1 a) 64#32)) := rfl
    rw [this, hne] at h
    exact absurd h (by decide)
  have := BitVec.sle_iff_toInt_le.1 hd
  rw [toInt_nat (v := Scalar.addi (k0_mult1 a) 64#32) (by omega), hs] at this
  exact_mod_cast this

end Cert.JoinSample

end
-- ==== Proof.JoinSampleArray.lean ====
/- The array the launch of the combination of the sample batch leaves. -/
module

public import proofs.«01_k».proof.Proof.JoinSampleWindow
public import Idealize.ShloMosaic.Lib.Pipeline.Covers

@[expose] public section

set_option maxRecDepth 16384

noncomputable section

namespace Cert.JoinSample

open Cert.CombineSIdeal Cert.CombineSIdeal.Gen Cert.CombineSIdeal.Body Idealize.ShloMosaic Idealize.ShloMosaic.TcCoe Idealize.SL.Sem

/-- The last residual and norm, of every token. -/
def joined (s : FVec Ideal S8x2048x16 .f32) (y : FVec Ideal S16x8x256x1024 .bf16) (x : FVec Ideal S8x2048x1024 .f32) (md : FVec Ideal S8x1x6144 .f32)
    (g : FVec Ideal S1x1024 .f32) : S8x2048x1024.Idx → EReal := fun i =>
  normed (fun k => x (ix3 (i 0) (i 1) k) + md (ix3 (i 0) 0 ⟨5120 + k.val, by omega⟩) * scattered (fun e => s (ix3 (i 0) (i 1) e)) (fun e c k => y (ix4 e (i 0) c k)) k)
    (fun k => g (ix2 0 k)) (i 2)

variable (m : (ℓ : Loc nD τ sig) → Buf (Elt Ideal) ℓ)

theorem index0 (t : Fin (cfgM m).N) : (pcfg0.win (adm m) 0).index t = ![t.val / 8, t.val % 8, 0] :=
  (by decide +kernel : ∀ t : Fin grid0.N, cc0_transform_0 (grid0.coords t) = ![t.val / 8, t.val % 8, 0]) t
theorem index1 (t : Fin (cfgM m).N) : (pcfg0.win (adm m) 1).index t = ![0, t.val / 8, 0, 0] :=
  (by decide +kernel : ∀ t : Fin grid0.N, cc0_transform_1 (grid0.coords t) = ![0, t.val / 8, 0, 0]) t
theorem index2 (t : Fin (cfgM m).N) : (pcfg0.win (adm m) 2).index t = ![t.val / 8, t.val % 8, 0] :=
  (by decide +kernel : ∀ t : Fin grid0.N, cc0_transform_2 (grid0.coords t) = ![t.val / 8, t.val % 8, 0]) t
theorem index3 (t : Fin (cfgM m).N) : (pcfg0.win (adm m) 3).index t = ![t.val / 8, 0, 5] :=
  (by decide +kernel : ∀ t : Fin grid0.N, cc0_transform_3 (grid0.coords t) = ![t.val / 8, 0, 5]) t
theorem index4 (t : Fin (cfgM m).N) : (pcfg0.win (adm m) 4).index t = ![0, 0] :=
  (by decide +kernel : ∀ t : Fin grid0.N, cc0_transform_4 (grid0.coords t) = ![0, 0]) t
theorem index5 (t : Fin (cfgM m).N) : (pcfg0.win (adm m) 5).index t = ![t.val / 8, t.val % 8, 0] :=
  (by decide +kernel : ∀ t : Fin grid0.N, cc0_transform_5 (grid0.coords t) = ![t.val / 8, t.val % 8, 0]) t

/-- The batch and the tile of a point, and a row of the tile among the batch's. -/
theorem points (t : Fin (cfgM m).N) : t.val < 64 := t.isLt
def batch (t : Fin (cfgM m).N) : Fin 8 := ⟨t.val / 8, by have := points m t; omega⟩
def tileRow (t : Fin (cfgM m).N) (r : Fin 256) : Fin 2048 := ⟨256 * (t.val % 8) + r.val, by omega⟩
theorem coords_eq : ∀ t : Fin grid0.N, (grid0.coords t 0).val = t.val / 8 ∧ (grid0.coords t 1).val = t.val % 8 := by decide +kernel

section Blocks
variable (c : Dev nD) (t : Fin (cfgM m).N)

theorem iblk0_apply (r : Fin 256) (e : Fin 16) : iblk m c 0 t (ix3 0 r e) = m ((c : Thread nD τ).loc main_arg1) (ix3 (batch m t) (tileRow m t r) e) := by
  blk_ext! [iblk, V] <;> erw [index0 m t] <;> simp [Fin.ext_iff, batch, tileRow] <;> omega
theorem iblk1_apply (e : Fin 16) (r : Fin 256) (k : Fin 1024) :
    iblk m c 1 t (ix4 e 0 r k) = m ((c : Thread nD τ).loc main_arg2) (ix4 e (batch m t) r k) := by
  blk_ext! [iblk, V] <;> erw [index1 m t] <;> simp [Fin.ext_iff, batch] <;> omega
theorem iblk2_apply (r : Fin 256) (k : Fin 1024) : iblk m c 2 t (ix3 0 r k) = m ((c : Thread nD τ).loc main_arg3) (ix3 (batch m t) (tileRow m t r) k) := by
  blk_ext! [iblk, V] <;> erw [index2 m t] <;> simp [Fin.ext_iff, batch, tileRow] <;> omega
theorem iblk3_apply (k : Fin 1024) : iblk m c 3 t (ix3 0 0 k) = m ((c : Thread nD τ).loc main_arg4) (ix3 (batch m t) 0 ⟨5120 + k.val, by omega⟩) := by
  blk_ext! [iblk, V] <;> erw [index3 m t] <;> simp [Fin.ext_iff, batch] <;> omega
theorem iblk4_apply (k : Fin 1024) : iblk m c 4 t (ix2 0 k) = m ((c : Thread nD τ).loc main_arg5) (ix2 0 k) := by
  blk_ext! [iblk, V] <;> erw [index4 m t] <;> simp [Fin.ext_iff] <;> omega

/-- The row a point stores, of its blocks. -/
def storedRow (v0 : Vec Ideal S1x256x16 .f32) (y : Vec Ideal S16x1x256x1024 .bf16) (x : Vec Ideal S1x256x1024 .f32) (g2 : Vec Ideal S1x1x1024 .f32)
    (g : Vec Ideal S1x1024 .f32) (r : Fin 256) : Fin 1024 → EReal :=
  normed (fun k => x (ix3 0 r k) + g2 (ix3 0 0 k) * scattered (fun e => v0 (ix3 0 r e)) (fun e c k => y (ix4 e 0 c k)) k) (fun k => g (ix2 0 k))

theorem block_apply (r : Fin 256) (d : Fin 1024) :
    storedRow (iblk m c 0 t) (iblk m c 1 t) (iblk m c 2 t) (iblk m c 3 t) (iblk m c 4 t) r d
      = joined (m ((c : Thread nD τ).loc main_arg1)) (m ((c : Thread nD τ).loc main_arg2)) (m ((c : Thread nD τ).loc main_arg3))
          (m ((c : Thread nD τ).loc main_arg4)) (m ((c : Thread nD τ).loc main_arg5)) (ix3 (batch m t) (tileRow m t r) d) := by
  unfold storedRow
  simp only [iblk0_apply, iblk1_apply, iblk2_apply, iblk3_apply, iblk4_apply]
  rfl

end Blocks

/-- What the launch is proved for: no offset is negative, and where the windows are used no slot is a row outside its expert's. -/
structure Sound : Prop where
  nonneg : ∀ i k, (first (words m) i k).toNat < 2 ^ 31
  inside : ∀ (c : Dev nD) (t : Fin (cfgM m).N), Fits (words m) (grid0.coords t) → ∀ r,
    Inside (fun e => m ((c : Thread nD τ).loc main_arg1) (ix3 (batch m t) (tileRow m t r) e)) fun e => (k0_mult1 (first (words m) (grid0.coords t) e)).toNat

variable (hS : Sound m)

theorem Sound.check {m} (hS : Sound m) (i : grid0.Coords) : Checked (words m) i := checked _ i (hS.nonneg i)

/-- What a point writes back. -/
theorem written5 (c : Dev nD) (t : Fin (cfgM m).N) (r : Fin 256) (d : Fin 1024) :
    outsAt0 m hS.check c t (ix3 0 r d) = joined (m ((c : Thread nD τ).loc main_arg1)) (m ((c : Thread nD τ).loc main_arg2)) (m ((c : Thread nD τ).loc main_arg3))
          (m ((c : Thread nD τ).loc main_arg4)) (m ((c : Thread nD τ).loc main_arg5)) (ix3 (batch m t) (tileRow m t r) d) := by
  unfold outsAt0
  by_cases h : Fits (words m) (grid0.coords t)
  · rw [dif_pos h]
    refine (congrFun (out_windows _ _ _ _ _ _ _ _ _ _ _ _ _ _ (words m) (iblk m c 0 t) (iblk m c 1 t) (iblk m c 2 t) (iblk m c 3 t) (iblk m c 4 t) (hS.check _) h ((fits_or _ _).1 h) (hS.nonneg _)) (ix3 0 r d)).trans ?_
    refine Eq.trans ?_ (block_apply m c t r d)
    refine stored_windows _ (fun e => start_le (hS.nonneg _ e)) (iblk m c 0 t) (iblk m c 1 t) (iblk m c 2 t) (iblk m c 3 t) (iblk m c 4 t) r ?_ d
    have hi := hS.inside c t h r
    simp only [← iblk0_apply] at hi
    exact hi
  · rw [dif_neg h]
    refine (congrFun (out_all _ _ _ _ _ _ _ _ _ _ _ _ _ _ (words m) (iblk m c 0 t) (iblk m c 1 t) (iblk m c 2 t) (iblk m c 3 t) (iblk m c 4 t) (hS.check _) h (not_not.1 fun hn => h ((fits_or _ _).2 hn))) (ix3 0 r d)).trans ?_
    exact (stored_all (iblk m c 0 t) (iblk m c 1 t) (iblk m c 2 t) (iblk m c 3 t) (iblk m c 4 t) r d).trans (block_apply m c t r d)

/-- Every block of the array is some point's. -/
theorem every_block (β : (a : Fin 3) → Fin ((![8, 2048, 1024] a + ![1, 256, 1024] a - 1) / ![1, 256, 1024] a)) :
    ∃ t : Fin (cfgM m).N, ∀ a : Fin 3, (pcfg0.win (adm m) 5).index t a = (β a).val := by
  have h0 : (β 0).val < 8 := (β 0).isLt
  have h1 : (β 1).val < 8 := (β 1).isLt
  have h2 : (β 2).val = 0 := Nat.lt_one_iff.1 (β 2).isLt
  refine ⟨⟨8 * (β 0).val + (β 1).val, show _ < 64 by omega⟩, fun a => (congrFun (index5 m _) a).trans ?_⟩
  fin_cases a
  · show (8 * (β 0).val + (β 1).val) / 8 = (β 0).val; omega
  · show (8 * (β 0).val + (β 1).val) % 8 = (β 1).val; omega
  · exact h2.symm

/-- The blocks written back fill the array. -/
theorem covers5 : ((cfgM m).win 5).Covers :=
  Pipeline.Window.covers_of_index_surj (w := (cfgM m).win 5) rfl
    (show ∀ a : Fin 3, 0 < (![1, 256, 1024] : Fin 3 → Nat) a by decide) (every_block m)

/-- The same, by the place in the array. -/
theorem block5 (c : Dev nD) (t : Fin (cfgM m).N) (y : S1x256x1024.Idx) :
    outsAt0 m hS.check c t y = joined (m ((c : Thread nD τ).loc main_arg1)) (m ((c : Thread nD τ).loc main_arg2)) (m ((c : Thread nD τ).loc main_arg3))
          (m ((c : Thread nD τ).loc main_arg4)) (m ((c : Thread nD τ).loc main_arg5)) ((((cfgM m).win 5).blk t).view.emb y) := by
  obtain ⟨y0, r, d, rfl⟩ : ∃ (a : Fin 1) (b : Fin 256) (d : Fin 1024), y = ix3 a b d := ⟨y 0, y 1, y 2, by funext a; fin_cases a <;> rfl⟩
  obtain rfl : y0 = 0 := Subsingleton.elim _ _
  have he : (((cfgM m).win 5).blk t).view.emb (ix3 0 r d) = ix3 (batch m t) (tileRow m t r) d := by
    blk_ext [V] <;> erw [index5 m t] <;> simp [batch, tileRow] <;> omega
  exact (written5 m hS c t r d).trans (congrArg (joined _ _ _ _ _) he).symm

/-- The array the launch leaves. -/
theorem array5 (c : Dev nD) :
    (dats m hS.check 0 c).arrAt 5 (cfgM m).N = joined (m ((c : Thread nD τ).loc main_arg1)) (m ((c : Thread nD τ).loc main_arg2)) (m ((c : Thread nD τ).loc main_arg3))
          (m ((c : Thread nD τ).loc main_arg4)) (m ((c : Thread nD τ).loc main_arg5)) := by
  refine (dats m hS.check 0 c).arrAt_eq_of_covers 5 _ (covers5 m) fun t hf y => ?_
  blk_simp
  rw [after0_5]
  exact block5 m hS c t y

end Cert.JoinSample

end
-- ==== Proof.JoinSampleRef.lean ====
/- What the reference of the combination of the sample batch holds, element by element. -/
module

public import proofs.«01_k».proof.Proof.JoinSampleArray
public import proofs.«01_k».proof.Proof.Gen.CombineSRefIdeal.Read

@[expose] public section

noncomputable section

namespace Cert.JoinSample

open Cert.CombineSRefIdeal Cert.CombineSRefIdeal.Read Idealize.ShloMosaic Idealize.ShloMosaic.TcCoe

variable (s : FVec Ideal S8x2048x16 .f32) (y : FVec Ideal S16x8x256x1024 .bf16) (x : FVec Ideal S8x2048x1024 .f32) (md : FVec Ideal S8x1x6144 .f32)
  (g : FVec Ideal S1x1024 .f32)

/-- A truth value read as a number. -/
theorem number (p : Prop) [Decidable p] : FloatOps.uitofp (F := Ideal) .f32 (BitVec.ofBool (decide p)) = if p then (1 : EReal) else 0 := by
  by_cases h : p
  · simp only [h, decide_true, if_true]; show (((1 : ℕ) : ℝ) : EReal) = 1; simp
  · simp only [h, decide_false, if_false]; show (((0 : ℕ) : ℝ) : EReal) = 0; simp

theorem ref_scattered (b : Fin 8) (l : Fin 2048) (d : Fin 1024) :
    val_main_v15 (F := Ideal) s y (ix3 b l d) = scattered (fun e => s (ix3 b l e)) (fun e c k => y (ix4 e b c k)) d := by
  unfold scattered hit slotNo
  pointwise [val_main_v15, val_main_v14, val_main_v13, val_main_v12, val_main_v11, val_main_v10, val_main_v9, val_main_v8, val_main_v7, val_main_v6]
  simp only [number]

theorem ref_joined : val_main_v31 (F := Ideal) s y x md g = joined s y x md g := by
  funext i
  obtain ⟨b, l, d, rfl⟩ : ∃ (b : Fin 8) (l : Fin 2048) (d : Fin 1024), i = ix3 b l d := ⟨i 0, i 1, i 2, by funext a; fin_cases a <;> rfl⟩
  unfold joined normed
  pointwise [val_main_v31, val_main_v30, val_main_v29, val_main_v28, val_main_v27, val_main_v26, val_main_v25, val_main_v24, val_main_v23, val_main_v22, val_main_v21,
    val_main_v20, val_main_v19, val_main_v18, val_main_v17, val_main_v16, val_main_v5, val_main_cst, val_main_cst_0, val_main_cst_1]
  simp only [ref_scattered]

end Cert.JoinSample

end
-- ==== Proof.JoinSampleOrder.lean ====
/- What the preconditions on the combination of the sample batch say: no offset is negative, and a slot that is not negative lies between its tile's
first row and the next tile's. From it, every row a tile asks for lies in the window its body reads. -/
module

public import proofs.«01_k».proof.Proof.JoinSampleRef
public import proofs.«01_k».proof.Proof.JoinSampleBody
public import proofs.«01_k».proof.Proof.Gen.Pre_slots_in_order
public import proofs.«01_k».proof.Proof.Gen.Pre_offsets_nonneg
public import proofs.«01_k».proof.Defs

@[expose] public section

noncomputable section

namespace Cert.JoinSample

open Idealize.ShloMosaic Idealize.ShloMosaic.TcCoe Cert.Pre_slots_in_order

/-- Where the table holds the first row of expert `e` in tile `i` of batch `b`. -/
def place (b i : Fin 8) (e : Fin 16) : S1040.Idx := ix1 ⟨b.val * 128 + i.val * 16 + e.val, by omega⟩

/-- Where it holds the first row of the tile after it. -/
def placeAfter (b i : Fin 8) (e : Fin 16) (h : i.val < 7) : S1040.Idx := ix1 ⟨b.val * 128 + (1 + i.val) * 16 + e.val, by omega⟩

/-- The row a tile's rows end before: the next tile's first, 256 for the last tile. -/
def ending (T : IVec S1040 32) (b i : Fin 8) (e : Fin 16) : BitVec 32 := if h : i.val < 7 then T (placeAfter b i e h) else 256#32

/-- A word at least zero is below 2³¹. -/
theorem small {v : BitVec 32} (h : IntOp.cmpi .sge v 0#32 = 1#1) : v.toNat < 2 ^ 31 := by
  have h' : BitVec.ofBool ((0#32 : BitVec 32).sle v) = 1#1 := h
  have hb : (0#32 : BitVec 32).sle v = true := by
    cases hc : (0#32 : BitVec 32).sle v
    · rw [hc] at h'; exact absurd h' (by decide)
    · rfl
  have hi : (0 : ℤ) ≤ v.toInt := by simpa [BitVec.sle] using hb
  rw [BitVec.toInt_eq_toNat_cond] at hi
  split at hi <;> omega

/-- A truth value that is one is true. -/
theorem holds_of {p : Prop} [Decidable p] (h : BitVec.ofBool (decide p) = 1#1) : p := by
  by_contra hn
  rw [decide_eq_false hn] at h
  exact absurd h (by decide)

/-- A disjunction that is one has a side that is one. -/
theorem either : ∀ a b : BitVec 1, IntOp.ori a b = 1#1 → a = 1#1 ∨ b = 1#1 := by decide

section
variable {F : FTy → Type} [FloatOps F] (T : IVec S1040 32) (s : FVec F S8x2048x16 .f32) (y : FVec F S16x8x256x1024 .bf16)
  (x : FVec F S8x2048x1024 .f32) (md : FVec F S8x1x6144 .f32) (g : FVec F S1x1024 .f32)

/-- The precondition of the frames, element by element. -/
theorem nonneg_fact (b i : Fin 8) (e : Fin 16) : Cert.Pre_offsets_nonneg.fn (F := F) T s y x md g (ix4 b i 0 e) = IntOp.cmpi .sge (T (place b i e)) 0#32 := by
  unfold place
  pointwise [Cert.Pre_offsets_nonneg.fn]

/-- No offset is negative. -/
theorem place_nonneg (h : Cert.Pre_offsets_nonneg.fn (F := F) T s y x md g = fun _ => 1#1) (b i : Fin 8) (e : Fin 16) : (T (place b i e)).toNat < 2 ^ 31 :=
  small ((nonneg_fact T s y x md g b i e).symm.trans (congrFun h _))

/-- The first fact of the precondition of the equation, element by element. -/
theorem offset_fact (b i : Fin 8) (e : Fin 16) : (fn (F := F) T s y x md g).1 (ix4 b i 0 e) = IntOp.cmpi .sge (T (place b i e)) 0#32 := by
  unfold place
  pointwise [fn]

/-- It says the same. -/
theorem offset_nonneg (h : (fn (F := F) T s y x md g).1 = fun _ => 1#1) (b i : Fin 8) (e : Fin 16) : (T (place b i e)).toNat < 2 ^ 31 :=
  small ((offset_fact T s y x md g b i e).symm.trans (congrFun h _))
end

section
variable (T : IVec S1040 32) (s : FVec Ideal S8x2048x16 .f32) (y : FVec Ideal S16x8x256x1024 .bf16) (x : FVec Ideal S8x2048x1024 .f32)
  (md : FVec Ideal S8x1x6144 .f32) (g : FVec Ideal S1x1024 .f32)

/-- A row of a tile, among a batch's rows. -/
def rowOf (i : Fin 8) (r : Fin 256) : Fin 2048 := ⟨i.val * 256 + r.val, by omega⟩

/-- The second fact of the precondition of the equation, element by element. -/
theorem slot_fact (b i : Fin 8) (r : Fin 256) (e : Fin 16) : (fn (F := Ideal) T s y x md g).2 (ix4 b i r e)
    = IntOp.ori (BitVec.ofBool (decide (s (ix3 b (rowOf i r) e) < 0)))
        (IntOp.andi (BitVec.ofBool (decide ((((T (place b i e)).toInt : ℝ) : EReal) ≤ s (ix3 b (rowOf i r) e))))
          (BitVec.ofBool (decide (s (ix3 b (rowOf i r) e) < (((ending T b i e).toInt : ℝ) : EReal))))) := by
  unfold rowOf place ending placeAfter
  pointwise [fn]
  rfl

/-- A slot is negative, or lies between its tile's first row and the row its tile's rows end before. -/
theorem slot_within (h : (fn (F := Ideal) T s y x md g).2 = fun _ => 1#1) (b i : Fin 8) (r : Fin 256) (e : Fin 16) :
    s (ix3 b (rowOf i r) e) < 0 ∨ (((T (place b i e)).toInt : ℝ) : EReal) ≤ s (ix3 b (rowOf i r) e)
      ∧ s (ix3 b (rowOf i r) e) < (((ending T b i e).toInt : ℝ) : EReal) := by
  rcases either _ _ ((slot_fact T s y x md g b i r e).symm.trans (congrFun h _)) with h | h
  · exact Or.inl (holds_of h)
  · exact Or.inr ⟨holds_of (both _ _ h).1, holds_of (both _ _ h).2⟩

/-- A slot that is the row `c` has `c` in that range. -/
theorem row_within (h : (fn (F := Ideal) T s y x md g).2 = fun _ => 1#1) (b i : Fin 8) (r : Fin 256) (e : Fin 16) (c : Fin 256)
    (hc : s (ix3 b (rowOf i r) e) = slotNo c.val) : (T (place b i e)).toInt ≤ c.val ∧ (c.val : ℤ) < (ending T b i e).toInt := by
  have h' := slot_within T s y x md g h b i r e
  rw [hc, slotNo_eq (by omega)] at h'
  rcases h' with h' | ⟨h1, h2⟩
  · exact absurd (EReal.coe_lt_coe_iff.mp (by exact_mod_cast h')) (not_lt.mpr (Nat.cast_nonneg (α := ℝ) c.val))
  · exact ⟨by exact_mod_cast EReal.coe_le_coe_iff.mp h1, by exact_mod_cast EReal.coe_lt_coe_iff.mp h2⟩
end

/-- With exact words, the bodies' assumptions hold at every point. -/
theorem bits_checked (m : (ℓ : Loc Cert.CombineS.nD Cert.CombineS.τ Cert.CombineS.sig) → Buf (Elt Bits) ℓ) (h : Cert.Pre_CombineS m)
    (i : Cert.CombineS.grid0.Coords) : Cert.CombineS.Body.Checked (Cert.CombineS.Body.words m) i :=
  Cert.CombineS.Body.checked _ i fun k => by
    rw [Cert.CombineS.Body.first_eq _ i k (place (i 0) (i 1) k) (show (i 0).val * 128 + (i 1).val * 16 + k.val = _ by omega)]
    exact place_nonneg _ _ _ _ _ _ (h 0) (i 0) (i 1) k

/-- So they do over the extended reals. -/
theorem ideal_checked (m : (ℓ : Loc Cert.CombineSIdeal.nD Cert.CombineSIdeal.τ Cert.CombineSIdeal.sig) → Buf (Elt Ideal) ℓ) (h : Cert.Pre_CombineSIdeal m)
    (i : Cert.CombineSIdeal.grid0.Coords) : Cert.CombineSIdeal.Body.Checked (Cert.CombineSIdeal.Body.words m) i :=
  Cert.CombineSIdeal.Body.checked _ i fun k => by
    rw [Cert.CombineSIdeal.Body.first_eq _ i k (place (i 0) (i 1) k) (show (i 0).val * 128 + (i 1).val * 16 + k.val = _ by omega)]
    exact place_nonneg _ _ _ _ _ _ (h 0) (i 0) (i 1) k

open Cert.CombineSIdeal Cert.CombineSIdeal.Gen Cert.CombineSIdeal.Body in
/-- The table's words are nonnegative, and in a tile read through windows every row asked for lies in its window. -/
theorem sound (m : (ℓ : Loc nD τ sig) → Buf (Elt Ideal) ℓ) (h : Cert.Pre_CombineSIdeal_slots_in_order m) : Sound m := by
  have hfirst : ∀ (i : grid0.Coords) (k : Fin 16), first (words m) i k = words m (place (i 0) (i 1) k) := fun i k =>
    first_eq _ i k _ (show (i 0).val * 128 + (i 1).val * 16 + k.val = _ by omega)
  have hlast : ∀ (i : grid0.Coords) (k : Fin 16), last i (next (words m) i k) = ending (words m) (i 0) (i 1) k := by
    intro i k
    have h8 : (i 1).val < 8 := (i 1).isLt
    unfold last ending
    by_cases h7 : (i 1).val < 7
    · rw [dif_pos h7, if_neg (by omega), next_eq _ i k (placeAfter (i 0) (i 1) k h7)
        (show (i 0).val * 128 + (1 + (i 1).val) * 16 + k.val = _ by omega)]
    · rw [dif_neg h7, if_pos (by omega)]
  have hn : ∀ (i : grid0.Coords) (k : Fin 16), (first (words m) i k).toNat < 2 ^ 31 := by
    intro i k
    rw [hfirst]
    exact offset_nonneg _ _ _ _ _ _ (h 0).1 (i 0) (i 1) k
  refine ⟨hn, fun c t hF r e k hk => ?_⟩
  obtain rfl : c = 0 := Subsingleton.elim _ _
  obtain ⟨c0, c1⟩ := coords_eq t
  have hb : batch m t = (grid0.coords t 0) := Fin.ext c0.symm
  have hr : tileRow m t r = rowOf (grid0.coords t 1) r := Fin.ext (show 256 * (t.val % 8) + r.val = (grid0.coords t 1).val * 256 + r.val by omega)
  have hk' : m (((0 : Dev nD) : Thread nD τ).loc main_arg1) (ix3 (batch m t) (tileRow m t r) e) = slotNo k.val := hk
  rw [hb, hr] at hk'
  obtain ⟨lo, hi⟩ := row_within _ _ _ _ _ _ (h 0).2 _ _ r e k hk'
  have hlo : (first (words m) (grid0.coords t) e).toInt ≤ k.val := by rw [hfirst]; exact lo
  have hhi : (k.val : ℤ) < (last (grid0.coords t) (next (words m) (grid0.coords t) e)).toInt := by rw [hlast]; exact hi
  have hle := reach_le (reaches _ _ hF e) (hn _ e)
  have hs := start_nat (hn (grid0.coords t) e)
  rw [toInt_nat (hn _ e)] at hlo
  constructor
  · show (k0_mult1 (first (words m) (grid0.coords t) e)).toNat ≤ k.val
    omega
  · show k.val < (k0_mult1 (first (words m) (grid0.coords t) e)).toNat + 64
    omega

end Cert.JoinSample

end
-- ==== Proof.JoinSampleClaim.lean ====
/- The claims about the combination of the sample batch: the kernel and its reference end with equal results, and the frames. -/
module

public import proofs.«01_k».proof.Proof.JoinSampleOrder
public import Idealize.ShloMosaic.Adequacy
public import Idealize.ShloMosaic.Init
public import proofs.«01_k».proof.Defs

@[expose] public section

noncomputable section

namespace Cert.JoinSample

open Idealize.ShloMosaic Idealize.ShloMosaic.TcCoe Idealize.SL.Sem

/-- The kernel in exact words leaves its arguments alone and ends with every counter at zero. -/
theorem bits_frame : Cert.quiescent_CombineS (hCombineS := Cert.CombineS.Gen.facts) (hPre_offsets_nonneg := Cert.Pre_offsets_nonneg.Gen.facts) :=
  fun m ρ h => Cert.CombineS.Body.frame m ρ (bits_checked m h)

/-- So does the kernel over the extended reals. -/
theorem ideal_frame : Cert.quiescent_CombineSIdeal (hCombineSIdeal := Cert.CombineSIdeal.Gen.facts)
    (hPre_offsets_nonneg := Cert.Pre_offsets_nonneg.Gen.facts) := fun m ρ h => Cert.CombineSIdeal.Body.frame m ρ (ideal_checked m h)

/-- And under the precondition of the equation. -/
theorem ideal_frame_in_order : Cert.quiescent_CombineSIdeal_pre_slots_in_order (hCombineSIdeal := Cert.CombineSIdeal.Gen.facts)
    (hPre_slots_in_order := Cert.Pre_slots_in_order.Gen.facts) := fun m ρ h => Cert.CombineSIdeal.Body.frame m ρ (sound m h).check

/-- The reference runs, leaves its arguments alone and ends with every counter at zero. -/
theorem reference_frame : Cert.quiescent_CombineSRefIdeal (hCombineSRefIdeal := Cert.CombineSRefIdeal.Gen.facts) := fun m ρ _ =>
  (θ_run _ _ _).mono (fun r h => ⟨fun c => (h c).2, Idealize.ShloMosaic.sem_eq_zero_of_no_sems (by decide) r.2⟩)
    (Cert.CombineSRefIdeal.Value.run m ρ)

section
open Cert.CombineSIdeal Cert.CombineSIdeal.Gen Cert.CombineSIdeal.Body

/-- The kernel ends with the array the launch leaves, its arguments as they were. -/
theorem kernel_run (m : (ℓ : Loc nD τ sig) → Buf (Elt Ideal) ℓ) (ρ : Dev nD → PrngReg) (hS : Sound m) :
    θ_run defs (onTc (τ := τ) (main (F := Ideal))) ⟨m, fun _ => 0, ρ⟩ (fun r => ∀ c : Dev nD,
      r.2.mem ((c.tc : Thread nD τ).loc main_v0) = (dats m hS.check 0 c).arrAt 5 (cfgM m).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run _ _ _).mono (fun r h c => ⟨(h.2 c).1 5, h.1 c⟩) (θ_run_and (unchanged m ρ hS.check) (run_main m ρ hS.check))
end

/-- The kernel and the reference, from equal arguments, end with equal results. -/
theorem equal_results : Cert.algebraic_CombineSIdeal_CombineSRefIdeal_pre_slots_in_order (hCombineSIdeal := Cert.CombineSIdeal.Gen.facts)
    (hCombineSRefIdeal := Cert.CombineSRefIdeal.Gen.facts) (hPre_slots_in_order := Cert.Pre_slots_in_order.Gen.facts) := by
  intro m ρ m' ρ' hpre hagree
  have hS := sound m hpre
  refine ⟨fun c => (Cert.CombineSIdeal.Body.dats m hS.check 0 c).arrAt 5 (Cert.CombineSIdeal.Body.cfgM m).N, ?_, ?_⟩
  · refine (θ_run _ _ _).mono (fun r h c => ?_) (kernel_run m ρ hS)
    exact h c
  · refine (θ_run _ _ _).mono (fun r h c => ?_) (Cert.CombineSRefIdeal.Value.run m' ρ')
    obtain ⟨h0, h1, h2, h3, h4, h5⟩ := hagree c
    refine ⟨(h c).1.trans ?_, (h c).2⟩
    rw [Cert.CombineSRefIdeal.Read.val_main_v31_eq, h1, h2, h3, h4, h5, ref_joined]
    exact (array5 m hS c).symm

end Cert.JoinSample

end
-- ==== Proof.lean ====
/- The certificate: every claim about the context attention, the merge, the input projection, the second layer's input projection, the
combination for the prompt and for the sample batch, and the experts. -/
module

public import proofs.«01_k».proof.Defs
public import proofs.«01_k».proof.Proof.Gen.Kernel.Frame
public import proofs.«01_k».proof.Proof.Gen.Merge.Frame
public import proofs.«01_k».proof.Proof.Gen.InProj.Frame
public import proofs.«01_k».proof.Proof.Gen.InProjLast.Frame
public import proofs.«01_k».proof.Proof.Gen.Combine.Frame
public import proofs.«01_k».proof.Proof.CtxClaim
public import proofs.«01_k».proof.Proof.MergeClaim
public import proofs.«01_k».proof.Proof.ProjClaim
public import proofs.«01_k».proof.Proof.LastClaim
public import proofs.«01_k».proof.Proof.JoinClaim
public import proofs.«01_k».proof.Proof.FfnClaim
public import proofs.«01_k».proof.Proof.JoinSampleClaim

@[expose] public section

noncomputable section

namespace Cert.Proof

/-- Every claim of the certificate. -/
theorem claim : Cert.Claim :=
  ⟨Cert.Kernel.Gen.facts, Cert.KernelIdeal.Gen.facts, Cert.ReferenceIdeal.Gen.facts,
    Cert.Merge.Gen.facts, Cert.MergeIdeal.Gen.facts, Cert.MergeRefIdeal.Gen.facts,
    Cert.InProj.Gen.facts, Cert.InProjIdeal.Gen.facts, Cert.InProjRefIdeal.Gen.facts,
    Cert.InProjLast.Gen.facts, Cert.InProjLastIdeal.Gen.facts, Cert.InProjLastRefIdeal.Gen.facts,
    Cert.Combine.Gen.facts, Cert.CombineIdeal.Gen.facts, Cert.CombineRefIdeal.Gen.facts,
    Cert.Experts.Gen.facts, Cert.ExpertsIdeal.Gen.facts, Cert.ExpertsRefIdeal.Gen.facts,
    Cert.CombineS.Gen.facts, Cert.CombineSIdeal.Gen.facts, Cert.CombineSRefIdeal.Gen.facts,
    Cert.Attn.preFacts, Cert.Pre_offsets_nonneg.Gen.facts, Cert.Pre_slots_in_order.Gen.facts,
    fun m ρ _ => Cert.Kernel.Gen.frame m ρ,
    fun m ρ _ => Cert.KernelIdeal.Gen.frame m ρ,
    fun m ρ _ => Cert.KernelIdeal.Gen.frame m ρ,
    Cert.Attn.reference_frame,
    fun m ρ _ => Cert.Attn.reference_frame m ρ trivial,
    fun m ρ _ => Cert.Merge.Gen.frame m ρ,
    fun m ρ _ => Cert.MergeIdeal.Gen.frame m ρ,
    Cert.Mix.reference_frame,
    fun m ρ _ => Cert.InProj.Gen.frame m ρ,
    fun m ρ _ => Cert.InProjIdeal.Gen.frame m ρ,
    Cert.Proj.reference_frame,
    fun m ρ _ => Cert.InProjLast.Gen.frame m ρ,
    fun m ρ _ => Cert.InProjLastIdeal.Gen.frame m ρ,
    Cert.ProjLast.reference_frame,
    fun m ρ _ => Cert.Combine.Gen.frame m ρ trivial,
    fun m ρ _ => Cert.CombineIdeal.Gen.frame m ρ trivial,
    Cert.Join.reference_frame,
    fun m ρ _ => Cert.Experts.Body.frame m ρ,
    fun m ρ _ => Cert.ExpertsIdeal.Body.frame m ρ,
    Cert.Ffn.reference_frame,
    Cert.JoinSample.bits_frame,
    Cert.JoinSample.ideal_frame,
    Cert.JoinSample.ideal_frame_in_order,
    Cert.JoinSample.reference_frame,
    fun m ρ _ => Cert.JoinSample.reference_frame m ρ trivial,
    trivial, Cert.Attn.equal_results,
    trivial, Cert.Mix.equal_results,
    trivial, Cert.Proj.equal_results,
    trivial, Cert.ProjLast.equal_results,
    trivial, Cert.Join.equal_results,
    trivial, Cert.Ffn.equal_results,
    trivial, Cert.JoinSample.equal_results⟩

end Cert.Proof

end
